-- ==== Defs.lean ====
def Pre_FoxKv (m : (ℓ : Loc Cert.FoxKv.nD Cert.FoxKv.τ Cert.FoxKv.sig) → Buf (Elt Bits) ℓ) : Prop :=
  True

def Pre_FoxKvIdeal (m : (ℓ : Loc Cert.FoxKvIdeal.nD Cert.FoxKvIdeal.τ Cert.FoxKvIdeal.sig) → Buf (Elt Ideal) ℓ) : Prop :=
  True

def Pre_FoxKvIdeal_finite [hPre_finite : Cert.Pre_finite.Facts] (m : (ℓ : Loc Cert.FoxKvIdeal.nD Cert.FoxKvIdeal.τ Cert.FoxKvIdeal.sig) → Buf (Elt Ideal) ℓ) : Prop :=
  ∀ c : Dev Cert.FoxKvIdeal.nD,
    (Cert.Pre_finite.fn (F := Ideal) (m ((c.tc : Thread Cert.FoxKvIdeal.nD Cert.FoxKvIdeal.τ).loc Cert.FoxKvIdeal.main_arg0)) (m ((c.tc : Thread Cert.FoxKvIdeal.nD Cert.FoxKvIdeal.τ).loc Cert.FoxKvIdeal.main_arg1)) (m ((c.tc : Thread Cert.FoxKvIdeal.nD Cert.FoxKvIdeal.τ).loc Cert.FoxKvIdeal.main_arg2))) = (fun _ => 1#1)

def Pre_FoxKvRefIdeal (m : (ℓ : Loc Cert.FoxKvRefIdeal.nD Cert.FoxKvRefIdeal.τ Cert.FoxKvRefIdeal.sig) → Buf (Elt Ideal) ℓ) : Prop :=
  True

def Pre_FoxKvRefIdeal_finite [hPre_finite : Cert.Pre_finite.Facts] (m : (ℓ : Loc Cert.FoxKvRefIdeal.nD Cert.FoxKvRefIdeal.τ Cert.FoxKvRefIdeal.sig) → Buf (Elt Ideal) ℓ) : Prop :=
  ∀ c : Dev Cert.FoxKvRefIdeal.nD,
    (Cert.Pre_finite.fn (F := Ideal) (m ((c.tc : Thread Cert.FoxKvRefIdeal.nD Cert.FoxKvRefIdeal.τ).loc Cert.FoxKvRefIdeal.main_arg0)) (m ((c.tc : Thread Cert.FoxKvRefIdeal.nD Cert.FoxKvRefIdeal.τ).loc Cert.FoxKvRefIdeal.main_arg1)) (m ((c.tc : Thread Cert.FoxKvRefIdeal.nD Cert.FoxKvRefIdeal.τ).loc Cert.FoxKvRefIdeal.main_arg2))) = (fun _ => 1#1)

def Pre_MainDw (m : (ℓ : Loc Cert.MainDw.nD Cert.MainDw.τ Cert.MainDw.sig) → Buf (Elt Bits) ℓ) : Prop :=
  True

def Pre_MainDwIdeal (m : (ℓ : Loc Cert.MainDwIdeal.nD Cert.MainDwIdeal.τ Cert.MainDwIdeal.sig) → Buf (Elt Ideal) ℓ) : Prop :=
  True

def Pre_MainDwRefIdeal (m : (ℓ : Loc Cert.MainDwRefIdeal.nD Cert.MainDwRefIdeal.τ Cert.MainDwRefIdeal.sig) → Buf (Elt Ideal) ℓ) : Prop :=
  True

def Pre_MainDx (m : (ℓ : Loc Cert.MainDx.nD Cert.MainDx.τ Cert.MainDx.sig) → Buf (Elt Bits) ℓ) : Prop :=
  True

def Pre_MainDxIdeal (m : (ℓ : Loc Cert.MainDxIdeal.nD Cert.MainDxIdeal.τ Cert.MainDxIdeal.sig) → Buf (Elt Ideal) ℓ) : Prop :=
  True

def Pre_MainDxRefIdeal (m : (ℓ : Loc Cert.MainDxRefIdeal.nD Cert.MainDxRefIdeal.τ Cert.MainDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_BranchDw (m : (ℓ : Loc Cert.BranchDw.nD Cert.BranchDw.τ Cert.BranchDw.sig) → Buf (Elt Bits) ℓ) : Prop :=
  True

def Pre_BranchDwIdeal (m : (ℓ : Loc Cert.BranchDwIdeal.nD Cert.BranchDwIdeal.τ Cert.BranchDwIdeal.sig) → Buf (Elt Ideal) ℓ) : Prop :=
  True

def Pre_BranchDwRefIdeal (m : (ℓ : Loc Cert.BranchDwRefIdeal.nD Cert.BranchDwRefIdeal.τ Cert.BranchDwRefIdeal.sig) → Buf (Elt Ideal) ℓ) : Prop :=
  True

def Pre_BranchDx (m : (ℓ : Loc Cert.BranchDx.nD Cert.BranchDx.τ Cert.BranchDx.sig) → Buf (Elt Bits) ℓ) : Prop :=
  True

def Pre_BranchDxIdeal (m : (ℓ : Loc Cert.BranchDxIdeal.nD Cert.BranchDxIdeal.τ Cert.BranchDxIdeal.sig) → Buf (Elt Ideal) ℓ) : Prop :=
  True

def Pre_BranchDxRefIdeal (m : (ℓ : Loc Cert.BranchDxRefIdeal.nD Cert.BranchDxRefIdeal.τ Cert.BranchDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_MainFwd (m : (ℓ : Loc Cert.MainFwd.nD Cert.MainFwd.τ Cert.MainFwd.sig) → Buf (Elt Bits) ℓ) : Prop :=
  True

def Pre_MainFwdIdeal (m : (ℓ : Loc Cert.MainFwdIdeal.nD Cert.MainFwdIdeal.τ Cert.MainFwdIdeal.sig) → Buf (Elt Ideal) ℓ) : Prop :=
  True

def Pre_MainFwdRefIdeal (m : (ℓ : Loc Cert.MainFwdRefIdeal.nD Cert.MainFwdRefIdeal.τ Cert.MainFwdRefIdeal.sig) → Buf (Elt Ideal) ℓ) : Prop :=
  True

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_UpFwdRefIdeal (m : (ℓ : Loc Cert.UpFwdRefIdeal.nD Cert.UpFwdRefIdeal.τ Cert.UpFwdRefIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdRefIdeal (m : (ℓ : Loc Cert.DownFwdRefIdeal.nD Cert.DownFwdRefIdeal.τ Cert.DownFwdRefIdeal.sig) → Buf (Elt Ideal) ℓ) : Prop :=
  True

def Pre_BranchFwd (m : (ℓ : Loc Cert.BranchFwd.nD Cert.BranchFwd.τ Cert.BranchFwd.sig) → Buf (Elt Bits) ℓ) : Prop :=
  True

def Pre_BranchFwdIdeal (m : (ℓ : Loc Cert.BranchFwdIdeal.nD Cert.BranchFwdIdeal.τ Cert.BranchFwdIdeal.sig) → Buf (Elt Ideal) ℓ) : Prop :=
  True

def Pre_BranchFwdRefIdeal (m : (ℓ : Loc Cert.BranchFwdRefIdeal.nD Cert.BranchFwdRefIdeal.τ Cert.BranchFwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_MainDb (m : (ℓ : Loc Cert.MainDb.nD Cert.MainDb.τ Cert.MainDb.sig) → Buf (Elt Bits) ℓ) : Prop :=
  True

def Pre_MainDbIdeal (m : (ℓ : Loc Cert.MainDbIdeal.nD Cert.MainDbIdeal.τ Cert.MainDbIdeal.sig) → Buf (Elt Ideal) ℓ) : Prop :=
  True

def Pre_MainDbRefIdeal (m : (ℓ : Loc Cert.MainDbRefIdeal.nD Cert.MainDbRefIdeal.τ Cert.MainDbRefIdeal.sig) → Buf (Elt Ideal) ℓ) : Prop :=
  True

def Pre_LnBwd (m : (ℓ : Loc Cert.LnBwd.nD Cert.LnBwd.τ Cert.LnBwd.sig) → Buf (Elt Bits) ℓ) : Prop :=
  True

def Pre_LnBwdIdeal (m : (ℓ : Loc Cert.LnBwdIdeal.nD Cert.LnBwdIdeal.τ Cert.LnBwdIdeal.sig) → Buf (Elt Ideal) ℓ) : Prop :=
  True

def Pre_LnBwdRefIdeal (m : (ℓ : Loc Cert.LnBwdRefIdeal.nD Cert.LnBwdRefIdeal.τ Cert.LnBwdRefIdeal.sig) → Buf (Elt Ideal) ℓ) : Prop :=
  True

def Pre_LnFwd (m : (ℓ : Loc Cert.LnFwd.nD Cert.LnFwd.τ Cert.LnFwd.sig) → Buf (Elt Bits) ℓ) : Prop :=
  True

def Pre_LnFwdIdeal (m : (ℓ : Loc Cert.LnFwdIdeal.nD Cert.LnFwdIdeal.τ Cert.LnFwdIdeal.sig) → Buf (Elt Ideal) ℓ) : Prop :=
  True

def Pre_LnFwdRefIdeal (m : (ℓ : Loc Cert.LnFwdRefIdeal.nD Cert.LnFwdRefIdeal.τ Cert.LnFwdRefIdeal.sig) → Buf (Elt Ideal) ℓ) : Prop :=
  True

def Pre_SguBwd (m : (ℓ : Loc Cert.SguBwd.nD Cert.SguBwd.τ Cert.SguBwd.sig) → Buf (Elt Bits) ℓ) : Prop :=
  True

def Pre_SguBwdIdeal (m : (ℓ : Loc Cert.SguBwdIdeal.nD Cert.SguBwdIdeal.τ Cert.SguBwdIdeal.sig) → Buf (Elt Ideal) ℓ) : Prop :=
  True

def Pre_SguBwdRefIdeal (m : (ℓ : Loc Cert.SguBwdRefIdeal.nD Cert.SguBwdRefIdeal.τ Cert.SguBwdRefIdeal.sig) → Buf (Elt Ideal) ℓ) : Prop :=
  True

def Pre_SguFwd (m : (ℓ : Loc Cert.SguFwd.nD Cert.SguFwd.τ Cert.SguFwd.sig) → Buf (Elt Bits) ℓ) : Prop :=
  True

def Pre_SguFwdIdeal (m : (ℓ : Loc Cert.SguFwdIdeal.nD Cert.SguFwdIdeal.τ Cert.SguFwdIdeal.sig) → Buf (Elt Ideal) ℓ) : Prop :=
  True

def Pre_SguFwdRefIdeal (m : (ℓ : Loc Cert.SguFwdRefIdeal.nD Cert.SguFwdRefIdeal.τ Cert.SguFwdRefIdeal.sig) → Buf (Elt Ideal) ℓ) : Prop :=
  True

def Pre_ActBwd (m : (ℓ : Loc Cert.ActBwd.nD Cert.ActBwd.τ Cert.ActBwd.sig) → Buf (Elt Bits) ℓ) : Prop :=
  True

def Pre_ActBwdIdeal (m : (ℓ : Loc Cert.ActBwdIdeal.nD Cert.ActBwdIdeal.τ Cert.ActBwdIdeal.sig) → Buf (Elt Ideal) ℓ) : Prop :=
  True

def Pre_ActBwdIdeal_finite_values [hPre_finite_values : Cert.Pre_finite_values.Facts] (m : (ℓ : Loc Cert.ActBwdIdeal.nD Cert.ActBwdIdeal.τ Cert.ActBwdIdeal.sig) → Buf (Elt Ideal) ℓ) : Prop :=
  ∀ c : Dev Cert.ActBwdIdeal.nD,
    (Cert.Pre_finite_values.fn (F := Ideal) (m ((c.tc : Thread Cert.ActBwdIdeal.nD Cert.ActBwdIdeal.τ).loc Cert.ActBwdIdeal.main_arg0)) (m ((c.tc : Thread Cert.ActBwdIdeal.nD Cert.ActBwdIdeal.τ).loc Cert.ActBwdIdeal.main_arg1)) (m ((c.tc : Thread Cert.ActBwdIdeal.nD Cert.ActBwdIdeal.τ).loc Cert.ActBwdIdeal.main_arg2)) (m ((c.tc : Thread Cert.ActBwdIdeal.nD Cert.ActBwdIdeal.τ).loc Cert.ActBwdIdeal.main_arg3)) (m ((c.tc : Thread Cert.ActBwdIdeal.nD Cert.ActBwdIdeal.τ).loc Cert.ActBwdIdeal.main_arg4)) (m ((c.tc : Thread Cert.ActBwdIdeal.nD Cert.ActBwdIdeal.τ).loc Cert.ActBwdIdeal.main_arg5)) (m ((c.tc : Thread Cert.ActBwdIdeal.nD Cert.ActBwdIdeal.τ).loc Cert.ActBwdIdeal.main_arg6))) = (fun _ => 1#1)

def Pre_ActBwdRefIdeal (m : (ℓ : Loc Cert.ActBwdRefIdeal.nD Cert.ActBwdRefIdeal.τ Cert.ActBwdRefIdeal.sig) → Buf (Elt Ideal) ℓ) : Prop :=
  True

def Pre_ActBwdRefIdeal_finite_values [hPre_finite_values : Cert.Pre_finite_values.Facts] (m : (ℓ : Loc Cert.ActBwdRefIdeal.nD Cert.ActBwdRefIdeal.τ Cert.ActBwdRefIdeal.sig) → Buf (Elt Ideal) ℓ) : Prop :=
  ∀ c : Dev Cert.ActBwdRefIdeal.nD,
    (Cert.Pre_finite_values.fn (F := Ideal) (m ((c.tc : Thread Cert.ActBwdRefIdeal.nD Cert.ActBwdRefIdeal.τ).loc Cert.ActBwdRefIdeal.main_arg0)) (m ((c.tc : Thread Cert.ActBwdRefIdeal.nD Cert.ActBwdRefIdeal.τ).loc Cert.ActBwdRefIdeal.main_arg1)) (m ((c.tc : Thread Cert.ActBwdRefIdeal.nD Cert.ActBwdRefIdeal.τ).loc Cert.ActBwdRefIdeal.main_arg2)) (m ((c.tc : Thread Cert.ActBwdRefIdeal.nD Cert.ActBwdRefIdeal.τ).loc Cert.ActBwdRefIdeal.main_arg3)) (m ((c.tc : Thread Cert.ActBwdRefIdeal.nD Cert.ActBwdRefIdeal.τ).loc Cert.ActBwdRefIdeal.main_arg4)) (m ((c.tc : Thread Cert.ActBwdRefIdeal.nD Cert.ActBwdRefIdeal.τ).loc Cert.ActBwdRefIdeal.main_arg5)) (m ((c.tc : Thread Cert.ActBwdRefIdeal.nD Cert.ActBwdRefIdeal.τ).loc Cert.ActBwdRefIdeal.main_arg6))) = (fun _ => 1#1)

def Pre_ActFwd (m : (ℓ : Loc Cert.ActFwd.nD Cert.ActFwd.τ Cert.ActFwd.sig) → Buf (Elt Bits) ℓ) : Prop :=
  True

def Pre_ActFwdIdeal (m : (ℓ : Loc Cert.ActFwdIdeal.nD Cert.ActFwdIdeal.τ Cert.ActFwdIdeal.sig) → Buf (Elt Ideal) ℓ) : Prop :=
  True

def Pre_ActFwdRefIdeal (m : (ℓ : Loc Cert.ActFwdRefIdeal.nD Cert.ActFwdRefIdeal.τ Cert.ActFwdRefIdeal.sig) → Buf (Elt Ideal) ℓ) : Prop :=
  True

def Pre_PreBwd (m : (ℓ : Loc Cert.PreBwd.nD Cert.PreBwd.τ Cert.PreBwd.sig) → Buf (Elt Bits) ℓ) : Prop :=
  True

def Pre_PreBwdIdeal (m : (ℓ : Loc Cert.PreBwdIdeal.nD Cert.PreBwdIdeal.τ Cert.PreBwdIdeal.sig) → Buf (Elt Ideal) ℓ) : Prop :=
  True

def Pre_PreBwdIdeal_finite_cotangent [hPre_finite_cotangent : Cert.Pre_finite_cotangent.Facts] (m : (ℓ : Loc Cert.PreBwdIdeal.nD Cert.PreBwdIdeal.τ Cert.PreBwdIdeal.sig) → Buf (Elt Ideal) ℓ) : Prop :=
  ∀ c : Dev Cert.PreBwdIdeal.nD,
    (Cert.Pre_finite_cotangent.fn (F := Ideal) (m ((c.tc : Thread Cert.PreBwdIdeal.nD Cert.PreBwdIdeal.τ).loc Cert.PreBwdIdeal.main_arg0)) (m ((c.tc : Thread Cert.PreBwdIdeal.nD Cert.PreBwdIdeal.τ).loc Cert.PreBwdIdeal.main_arg1)) (m ((c.tc : Thread Cert.PreBwdIdeal.nD Cert.PreBwdIdeal.τ).loc Cert.PreBwdIdeal.main_arg2))) = (fun _ => 1#1)

def Pre_PreBwdRefIdeal (m : (ℓ : Loc Cert.PreBwdRefIdeal.nD Cert.PreBwdRefIdeal.τ Cert.PreBwdRefIdeal.sig) → Buf (Elt Ideal) ℓ) : Prop :=
  True

def Pre_PreBwdRefIdeal_finite_cotangent [hPre_finite_cotangent : Cert.Pre_finite_cotangent.Facts] (m : (ℓ : Loc Cert.PreBwdRefIdeal.nD Cert.PreBwdRefIdeal.τ Cert.PreBwdRefIdeal.sig) → Buf (Elt Ideal) ℓ) : Prop :=
  ∀ c : Dev Cert.PreBwdRefIdeal.nD,
    (Cert.Pre_finite_cotangent.fn (F := Ideal) (m ((c.tc : Thread Cert.PreBwdRefIdeal.nD Cert.PreBwdRefIdeal.τ).loc Cert.PreBwdRefIdeal.main_arg0)) (m ((c.tc : Thread Cert.PreBwdRefIdeal.nD Cert.PreBwdRefIdeal.τ).loc Cert.PreBwdRefIdeal.main_arg1)) (m ((c.tc : Thread Cert.PreBwdRefIdeal.nD Cert.PreBwdRefIdeal.τ).loc Cert.PreBwdRefIdeal.main_arg2))) = (fun _ => 1#1)

def Pre_PreFwd (m : (ℓ : Loc Cert.PreFwd.nD Cert.PreFwd.τ Cert.PreFwd.sig) → Buf (Elt Bits) ℓ) : Prop :=
  True

def Pre_PreFwdIdeal (m : (ℓ : Loc Cert.PreFwdIdeal.nD Cert.PreFwdIdeal.τ Cert.PreFwdIdeal.sig) → Buf (Elt Ideal) ℓ) : Prop :=
  True

def Pre_PreFwdRefIdeal (m : (ℓ : Loc Cert.PreFwdRefIdeal.nD Cert.PreFwdRefIdeal.τ Cert.PreFwdRefIdeal.sig) → Buf (Elt Ideal) ℓ) : Prop :=
  True

def Pre_TailDw (m : (ℓ : Loc Cert.TailDw.nD Cert.TailDw.τ Cert.TailDw.sig) → Buf (Elt Bits) ℓ) : Prop :=
  True

def Pre_TailDwIdeal (m : (ℓ : Loc Cert.TailDwIdeal.nD Cert.TailDwIdeal.τ Cert.TailDwIdeal.sig) → Buf (Elt Ideal) ℓ) : Prop :=
  True

def Pre_TailDwRefIdeal (m : (ℓ : Loc Cert.TailDwRefIdeal.nD Cert.TailDwRefIdeal.τ Cert.TailDwRefIdeal.sig) → Buf (Elt Ideal) ℓ) : Prop :=
  True

def Pre_TailDx (m : (ℓ : Loc Cert.TailDx.nD Cert.TailDx.τ Cert.TailDx.sig) → Buf (Elt Bits) ℓ) : Prop :=
  True

def Pre_TailDxIdeal (m : (ℓ : Loc Cert.TailDxIdeal.nD Cert.TailDxIdeal.τ Cert.TailDxIdeal.sig) → Buf (Elt Ideal) ℓ) : Prop :=
  True

def Pre_TailDxRefIdeal (m : (ℓ : Loc Cert.TailDxRefIdeal.nD Cert.TailDxRefIdeal.τ Cert.TailDxRefIdeal.sig) → Buf (Elt Ideal) ℓ) : Prop :=
  True

def Pre_TailFwd (m : (ℓ : Loc Cert.TailFwd.nD Cert.TailFwd.τ Cert.TailFwd.sig) → Buf (Elt Bits) ℓ) : Prop :=
  True

def Pre_TailFwdIdeal (m : (ℓ : Loc Cert.TailFwdIdeal.nD Cert.TailFwdIdeal.τ Cert.TailFwdIdeal.sig) → Buf (Elt Ideal) ℓ) : Prop :=
  True

def Pre_TailFwdRefIdeal (m : (ℓ : Loc Cert.TailFwdRefIdeal.nD Cert.TailFwdRefIdeal.τ Cert.TailFwdRefIdeal.sig) → Buf (Elt Ideal) ℓ) : Prop :=
  True

def Pre_TailDb (m : (ℓ : Loc Cert.TailDb.nD Cert.TailDb.τ Cert.TailDb.sig) → Buf (Elt Bits) ℓ) : Prop :=
  True

def Pre_TailDbIdeal (m : (ℓ : Loc Cert.TailDbIdeal.nD Cert.TailDbIdeal.τ Cert.TailDbIdeal.sig) → Buf (Elt Ideal) ℓ) : Prop :=
  True

def Pre_TailDbRefIdeal (m : (ℓ : Loc Cert.TailDbRefIdeal.nD Cert.TailDbRefIdeal.τ Cert.TailDbRefIdeal.sig) → Buf (Elt Ideal) ℓ) : Prop :=
  True

def Pre_CumBwd (m : (ℓ : Loc Cert.CumBwd.nD Cert.CumBwd.τ Cert.CumBwd.sig) → Buf (Elt Bits) ℓ) : Prop :=
  True

def Pre_CumBwdIdeal (m : (ℓ : Loc Cert.CumBwdIdeal.nD Cert.CumBwdIdeal.τ Cert.CumBwdIdeal.sig) → Buf (Elt Ideal) ℓ) : Prop :=
  True

def Pre_CumBwdRefIdeal (m : (ℓ : Loc Cert.CumBwdRefIdeal.nD Cert.CumBwdRefIdeal.τ Cert.CumBwdRefIdeal.sig) → Buf (Elt Ideal) ℓ) : Prop :=
  True

def Pre_CumFwd (m : (ℓ : Loc Cert.CumFwd.nD Cert.CumFwd.τ Cert.CumFwd.sig) → Buf (Elt Bits) ℓ) : Prop :=
  True

def Pre_CumFwdIdeal (m : (ℓ : Loc Cert.CumFwdIdeal.nD Cert.CumFwdIdeal.τ Cert.CumFwdIdeal.sig) → Buf (Elt Ideal) ℓ) : Prop :=
  True

def Pre_CumFwdRefIdeal (m : (ℓ : Loc Cert.CumFwdRefIdeal.nD Cert.CumFwdRefIdeal.τ Cert.CumFwdRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_ChipSum (m : (ℓ : Loc Cert.ChipSum.nD Cert.ChipSum.τ Cert.ChipSum.sig) → Buf (Elt Bits) ℓ) : Prop :=
  True

def Pre_ChipSumIdeal (m : (ℓ : Loc Cert.ChipSumIdeal.nD Cert.ChipSumIdeal.τ Cert.ChipSumIdeal.sig) → Buf (Elt Ideal) ℓ) : Prop :=
  True

def Pre_ChipSumRefIdeal (m : (ℓ : Loc Cert.ChipSumRefIdeal.nD Cert.ChipSumRefIdeal.τ Cert.ChipSumRefIdeal.sig) → Buf (Elt Ideal) ℓ) : Prop :=
  True

def Pre_PairSum (m : (ℓ : Loc Cert.PairSum.nD Cert.PairSum.τ Cert.PairSum.sig) → Buf (Elt Bits) ℓ) : Prop :=
  True

def Pre_PairSumIdeal (m : (ℓ : Loc Cert.PairSumIdeal.nD Cert.PairSumIdeal.τ Cert.PairSumIdeal.sig) → Buf (Elt Ideal) ℓ) : Prop :=
  True

def Pre_PairSumRefIdeal (m : (ℓ : Loc Cert.PairSumRefIdeal.nD Cert.PairSumRefIdeal.τ Cert.PairSumRefIdeal.sig) → Buf (Elt Ideal) ℓ) : Prop :=
  True

def quiescent_FoxKv [hFoxKv : Cert.FoxKv.Facts] : Prop :=
  ∀ (m : (ℓ : Loc Cert.FoxKv.nD Cert.FoxKv.τ Cert.FoxKv.sig) → Buf (Elt Bits) ℓ) (g : Dev Cert.FoxKv.nD → PrngReg), Pre_FoxKv m →
    θ_run (Cert.FoxKv.defs (F := Bits)) (onTc (τ := Cert.FoxKv.τ) (Cert.FoxKv.main (F := Bits))) ⟨m, fun _ => 0, g⟩ (fun r => (∀ c : Dev Cert.FoxKv.nD,
      r.2.mem ((c.tc : Thread Cert.FoxKv.nD Cert.FoxKv.τ).loc Cert.FoxKv.main_arg0) = m ((c.tc : Thread Cert.FoxKv.nD Cert.FoxKv.τ).loc Cert.FoxKv.main_arg0)
      ∧ r.2.mem ((c.tc : Thread Cert.FoxKv.nD Cert.FoxKv.τ).loc Cert.FoxKv.main_arg1) = m ((c.tc : Thread Cert.FoxKv.nD Cert.FoxKv.τ).loc Cert.FoxKv.main_arg1)
      ∧ r.2.mem ((c.tc : Thread Cert.FoxKv.nD Cert.FoxKv.τ).loc Cert.FoxKv.main_arg2) = m ((c.tc : Thread Cert.FoxKv.nD Cert.FoxKv.τ).loc Cert.FoxKv.main_arg2))
      ∧ r.2.sem = fun _ => 0)

def quiescent_FoxKvIdeal [hFoxKvIdeal : Cert.FoxKvIdeal.Facts] : Prop :=
  ∀ (m : (ℓ : Loc Cert.FoxKvIdeal.nD Cert.FoxKvIdeal.τ Cert.FoxKvIdeal.sig) → Buf (Elt Ideal) ℓ) (g : Dev Cert.FoxKvIdeal.nD → PrngReg), Pre_FoxKvIdeal m →
    θ_run (Cert.FoxKvIdeal.defs (F := Ideal)) (onTc (τ := Cert.FoxKvIdeal.τ) (Cert.FoxKvIdeal.main (F := Ideal))) ⟨m, fun _ => 0, g⟩ (fun r => (∀ c : Dev Cert.FoxKvIdeal.nD,
      r.2.mem ((c.tc : Thread Cert.FoxKvIdeal.nD Cert.FoxKvIdeal.τ).loc Cert.FoxKvIdeal.main_arg0) = m ((c.tc : Thread Cert.FoxKvIdeal.nD Cert.FoxKvIdeal.τ).loc Cert.FoxKvIdeal.main_arg0)
      ∧ r.2.mem ((c.tc : Thread Cert.FoxKvIdeal.nD Cert.FoxKvIdeal.τ).loc Cert.FoxKvIdeal.main_arg1) = m ((c.tc : Thread Cert.FoxKvIdeal.nD Cert.FoxKvIdeal.τ).loc Cert.FoxKvIdeal.main_arg1)
      ∧ r.2.mem ((c.tc : Thread Cert.FoxKvIdeal.nD Cert.FoxKvIdeal.τ).loc Cert.FoxKvIdeal.main_arg2) = m ((c.tc : Thread Cert.FoxKvIdeal.nD Cert.FoxKvIdeal.τ).loc Cert.FoxKvIdeal.main_arg2))
      ∧ r.2.sem = fun _ => 0)

def quiescent_FoxKvIdeal_pre_finite [hFoxKvIdeal : Cert.FoxKvIdeal.Facts] [hPre_finite : Cert.Pre_finite.Facts] : Prop :=
  ∀ (m : (ℓ : Loc Cert.FoxKvIdeal.nD Cert.FoxKvIdeal.τ Cert.FoxKvIdeal.sig) → Buf (Elt Ideal) ℓ) (g : Dev Cert.FoxKvIdeal.nD → PrngReg), Pre_FoxKvIdeal_finite m →
    θ_run (Cert.FoxKvIdeal.defs (F := Ideal)) (onTc (τ := Cert.FoxKvIdeal.τ) (Cert.FoxKvIdeal.main (F := Ideal))) ⟨m, fun _ => 0, g⟩ (fun r => (∀ c : Dev Cert.FoxKvIdeal.nD,
      r.2.mem ((c.tc : Thread Cert.FoxKvIdeal.nD Cert.FoxKvIdeal.τ).loc Cert.FoxKvIdeal.main_arg0) = m ((c.tc : Thread Cert.FoxKvIdeal.nD Cert.FoxKvIdeal.τ).loc Cert.FoxKvIdeal.main_arg0)
      ∧ r.2.mem ((c.tc : Thread Cert.FoxKvIdeal.nD Cert.FoxKvIdeal.τ).loc Cert.FoxKvIdeal.main_arg1) = m ((c.tc : Thread Cert.FoxKvIdeal.nD Cert.FoxKvIdeal.τ).loc Cert.FoxKvIdeal.main_arg1)
      ∧ r.2.mem ((c.tc : Thread Cert.FoxKvIdeal.nD Cert.FoxKvIdeal.τ).loc Cert.FoxKvIdeal.main_arg2) = m ((c.tc : Thread Cert.FoxKvIdeal.nD Cert.FoxKvIdeal.τ).loc Cert.FoxKvIdeal.main_arg2))
      ∧ r.2.sem = fun _ => 0)

def quiescent_FoxKvRefIdeal [hFoxKvRefIdeal : Cert.FoxKvRefIdeal.Facts] : Prop :=
  ∀ (m : (ℓ : Loc Cert.FoxKvRefIdeal.nD Cert.FoxKvRefIdeal.τ Cert.FoxKvRefIdeal.sig) → Buf (Elt Ideal) ℓ) (g : Dev Cert.FoxKvRefIdeal.nD → PrngReg), Pre_FoxKvRefIdeal m →
    θ_run (Cert.FoxKvRefIdeal.defs (F := Ideal)) (onTc (τ := Cert.FoxKvRefIdeal.τ) (Cert.FoxKvRefIdeal.main (F := Ideal))) ⟨m, fun _ => 0, g⟩ (fun r => (∀ c : Dev Cert.FoxKvRefIdeal.nD,
      r.2.mem ((c.tc : Thread Cert.FoxKvRefIdeal.nD Cert.FoxKvRefIdeal.τ).loc Cert.FoxKvRefIdeal.main_arg0) = m ((c.tc : Thread Cert.FoxKvRefIdeal.nD Cert.FoxKvRefIdeal.τ).loc Cert.FoxKvRefIdeal.main_arg0)
      ∧ r.2.mem ((c.tc : Thread Cert.FoxKvRefIdeal.nD Cert.FoxKvRefIdeal.τ).loc Cert.FoxKvRefIdeal.main_arg1) = m ((c.tc : Thread Cert.FoxKvRefIdeal.nD Cert.FoxKvRefIdeal.τ).loc Cert.FoxKvRefIdeal.main_arg1)
      ∧ r.2.mem ((c.tc : Thread Cert.FoxKvRefIdeal.nD Cert.FoxKvRefIdeal.τ).loc Cert.FoxKvRefIdeal.main_arg2) = m ((c.tc : Thread Cert.FoxKvRefIdeal.nD Cert.FoxKvRefIdeal.τ).loc Cert.FoxKvRefIdeal.main_arg2))
      ∧ r.2.sem = fun _ => 0)

def quiescent_FoxKvRefIdeal_pre_finite [hFoxKvRefIdeal : Cert.FoxKvRefIdeal.Facts] [hPre_finite : Cert.Pre_finite.Facts] : Prop :=
  ∀ (m : (ℓ : Loc Cert.FoxKvRefIdeal.nD Cert.FoxKvRefIdeal.τ Cert.FoxKvRefIdeal.sig) → Buf (Elt Ideal) ℓ) (g : Dev Cert.FoxKvRefIdeal.nD → PrngReg), Pre_FoxKvRefIdeal_finite m →
    θ_run (Cert.FoxKvRefIdeal.defs (F := Ideal)) (onTc (τ := Cert.FoxKvRefIdeal.τ) (Cert.FoxKvRefIdeal.main (F := Ideal))) ⟨m, fun _ => 0, g⟩ (fun r => (∀ c : Dev Cert.FoxKvRefIdeal.nD,
      r.2.mem ((c.tc : Thread Cert.FoxKvRefIdeal.nD Cert.FoxKvRefIdeal.τ).loc Cert.FoxKvRefIdeal.main_arg0) = m ((c.tc : Thread Cert.FoxKvRefIdeal.nD Cert.FoxKvRefIdeal.τ).loc Cert.FoxKvRefIdeal.main_arg0)
      ∧ r.2.mem ((c.tc : Thread Cert.FoxKvRefIdeal.nD Cert.FoxKvRefIdeal.τ).loc Cert.FoxKvRefIdeal.main_arg1) = m ((c.tc : Thread Cert.FoxKvRefIdeal.nD Cert.FoxKvRefIdeal.τ).loc Cert.FoxKvRefIdeal.main_arg1)
      ∧ r.2.mem ((c.tc : Thread Cert.FoxKvRefIdeal.nD Cert.FoxKvRefIdeal.τ).loc Cert.FoxKvRefIdeal.main_arg2) = m ((c.tc : Thread Cert.FoxKvRefIdeal.nD Cert.FoxKvRefIdeal.τ).loc Cert.FoxKvRefIdeal.main_arg2))
      ∧ r.2.sem = fun _ => 0)

def quiescent_MainDw [hMainDw : Cert.MainDw.Facts] : Prop :=
  ∀ (m : (ℓ : Loc Cert.MainDw.nD Cert.MainDw.τ Cert.MainDw.sig) → Buf (Elt Bits) ℓ) (g : Dev Cert.MainDw.nD → PrngReg), Pre_MainDw m →
    θ_run (Cert.MainDw.defs (F := Bits)) (onTc (τ := Cert.MainDw.τ) (Cert.MainDw.main (F := Bits))) ⟨m, fun _ => 0, g⟩ (fun r => (∀ c : Dev Cert.MainDw.nD,
      r.2.mem ((c.tc : Thread Cert.MainDw.nD Cert.MainDw.τ).loc Cert.MainDw.main_arg0) = m ((c.tc : Thread Cert.MainDw.nD Cert.MainDw.τ).loc Cert.MainDw.main_arg0)
      ∧ r.2.mem ((c.tc : Thread Cert.MainDw.nD Cert.MainDw.τ).loc Cert.MainDw.main_arg1) = m ((c.tc : Thread Cert.MainDw.nD Cert.MainDw.τ).loc Cert.MainDw.main_arg1))
      ∧ r.2.sem = fun _ => 0)

def quiescent_MainDwIdeal [hMainDwIdeal : Cert.MainDwIdeal.Facts] : Prop :=
  ∀ (m : (ℓ : Loc Cert.MainDwIdeal.nD Cert.MainDwIdeal.τ Cert.MainDwIdeal.sig) → Buf (Elt Ideal) ℓ) (g : Dev Cert.MainDwIdeal.nD → PrngReg), Pre_MainDwIdeal m →
    θ_run (Cert.MainDwIdeal.defs (F := Ideal)) (onTc (τ := Cert.MainDwIdeal.τ) (Cert.MainDwIdeal.main (F := Ideal))) ⟨m, fun _ => 0, g⟩ (fun r => (∀ c : Dev Cert.MainDwIdeal.nD,
      r.2.mem ((c.tc : Thread Cert.MainDwIdeal.nD Cert.MainDwIdeal.τ).loc Cert.MainDwIdeal.main_arg0) = m ((c.tc : Thread Cert.MainDwIdeal.nD Cert.MainDwIdeal.τ).loc Cert.MainDwIdeal.main_arg0)
      ∧ r.2.mem ((c.tc : Thread Cert.MainDwIdeal.nD Cert.MainDwIdeal.τ).loc Cert.MainDwIdeal.main_arg1) = m ((c.tc : Thread Cert.MainDwIdeal.nD Cert.MainDwIdeal.τ).loc Cert.MainDwIdeal.main_arg1))
      ∧ r.2.sem = fun _ => 0)

def quiescent_MainDwRefIdeal [hMainDwRefIdeal : Cert.MainDwRefIdeal.Facts] : Prop :=
  ∀ (m : (ℓ : Loc Cert.MainDwRefIdeal.nD Cert.MainDwRefIdeal.τ Cert.MainDwRefIdeal.sig) → Buf (Elt Ideal) ℓ) (g : Dev Cert.MainDwRefIdeal.nD → PrngReg), Pre_MainDwRefIdeal m →
    θ_run (Cert.MainDwRefIdeal.defs (F := Ideal)) (onTc (τ := Cert.MainDwRefIdeal.τ) (Cert.MainDwRefIdeal.main (F := Ideal))) ⟨m, fun _ => 0, g⟩ (fun r => (∀ c : Dev Cert.MainDwRefIdeal.nD,
      r.2.mem ((c.tc : Thread Cert.MainDwRefIdeal.nD Cert.MainDwRefIdeal.τ).loc Cert.MainDwRefIdeal.main_arg0) = m ((c.tc : Thread Cert.MainDwRefIdeal.nD Cert.MainDwRefIdeal.τ).loc Cert.MainDwRefIdeal.main_arg0)
      ∧ r.2.mem ((c.tc : Thread Cert.MainDwRefIdeal.nD Cert.MainDwRefIdeal.τ).loc Cert.MainDwRefIdeal.main_arg1) = m ((c.tc : Thread Cert.MainDwRefIdeal.nD Cert.MainDwRefIdeal.τ).loc Cert.MainDwRefIdeal.main_arg1))
      ∧ r.2.sem = fun _ => 0)

def quiescent_MainDx [hMainDx : Cert.MainDx.Facts] : Prop :=
  ∀ (m : (ℓ : Loc Cert.MainDx.nD Cert.MainDx.τ Cert.MainDx.sig) → Buf (Elt Bits) ℓ) (g : Dev Cert.MainDx.nD → PrngReg), Pre_MainDx m →
    θ_run (Cert.MainDx.defs (F := Bits)) (onTc (τ := Cert.MainDx.τ) (Cert.MainDx.main (F := Bits))) ⟨m, fun _ => 0, g⟩ (fun r => (∀ c : Dev Cert.MainDx.nD,
      r.2.mem ((c.tc : Thread Cert.MainDx.nD Cert.MainDx.τ).loc Cert.MainDx.main_arg0) = m ((c.tc : Thread Cert.MainDx.nD Cert.MainDx.τ).loc Cert.MainDx.main_arg0)
      ∧ r.2.mem ((c.tc : Thread Cert.MainDx.nD Cert.MainDx.τ).loc Cert.MainDx.main_arg1) = m ((c.tc : Thread Cert.MainDx.nD Cert.MainDx.τ).loc Cert.MainDx.main_arg1)
      ∧ r.2.mem ((c.tc : Thread Cert.MainDx.nD Cert.MainDx.τ).loc Cert.MainDx.main_arg2) = m ((c.tc : Thread Cert.MainDx.nD Cert.MainDx.τ).loc Cert.MainDx.main_arg2))
      ∧ r.2.sem = fun _ => 0)

def quiescent_MainDxIdeal [hMainDxIdeal : Cert.MainDxIdeal.Facts] : Prop :=
  ∀ (m : (ℓ : Loc Cert.MainDxIdeal.nD Cert.MainDxIdeal.τ Cert.MainDxIdeal.sig) → Buf (Elt Ideal) ℓ) (g : Dev Cert.MainDxIdeal.nD → PrngReg), Pre_MainDxIdeal m →
    θ_run (Cert.MainDxIdeal.defs (F := Ideal)) (onTc (τ := Cert.MainDxIdeal.τ) (Cert.MainDxIdeal.main (F := Ideal))) ⟨m, fun _ => 0, g⟩ (fun r => (∀ c : Dev Cert.MainDxIdeal.nD,
      r.2.mem ((c.tc : Thread Cert.MainDxIdeal.nD Cert.MainDxIdeal.τ).loc Cert.MainDxIdeal.main_arg0) = m ((c.tc : Thread Cert.MainDxIdeal.nD Cert.MainDxIdeal.τ).loc Cert.MainDxIdeal.main_arg0)
      ∧ r.2.mem ((c.tc : Thread Cert.MainDxIdeal.nD Cert.MainDxIdeal.τ).loc Cert.MainDxIdeal.main_arg1) = m ((c.tc : Thread Cert.MainDxIdeal.nD Cert.MainDxIdeal.τ).loc Cert.MainDxIdeal.main_arg1)
      ∧ r.2.mem ((c.tc : Thread Cert.MainDxIdeal.nD Cert.MainDxIdeal.τ).loc Cert.MainDxIdeal.main_arg2) = m ((c.tc : Thread Cert.MainDxIdeal.nD Cert.MainDxIdeal.τ).loc Cert.MainDxIdeal.main_arg2))
      ∧ r.2.sem = fun _ => 0)

def quiescent_MainDxRefIdeal [hMainDxRefIdeal : Cert.MainDxRefIdeal.Facts] : Prop :=
  ∀ (m : (ℓ : Loc Cert.MainDxRefIdeal.nD Cert.MainDxRefIdeal.τ Cert.MainDxRefIdeal.sig) → Buf (Elt Ideal) ℓ) (g : Dev Cert.MainDxRefIdeal.nD → PrngReg), Pre_MainDxRefIdeal m →
    θ_run (Cert.MainDxRefIdeal.defs (F := Ideal)) (onTc (τ := Cert.MainDxRefIdeal.τ) (Cert.MainDxRefIdeal.main (F := Ideal))) ⟨m, fun _ => 0, g⟩ (fun r => (∀ c : Dev Cert.MainDxRefIdeal.nD,
      r.2.mem ((c.tc : Thread Cert.MainDxRefIdeal.nD Cert.MainDxRefIdeal.τ).loc Cert.MainDxRefIdeal.main_arg0) = m ((c.tc : Thread Cert.MainDxRefIdeal.nD Cert.MainDxRefIdeal.τ).loc Cert.MainDxRefIdeal.main_arg0)
      ∧ r.2.mem ((c.tc : Thread Cert.MainDxRefIdeal.nD Cert.MainDxRefIdeal.τ).loc Cert.MainDxRefIdeal.main_arg1) = m ((c.tc : Thread Cert.MainDxRefIdeal.nD Cert.MainDxRefIdeal.τ).loc Cert.MainDxRefIdeal.main_arg1)
      ∧ r.2.mem ((c.tc : Thread Cert.MainDxRefIdeal.nD Cert.MainDxRefIdeal.τ).loc Cert.MainDxRefIdeal.main_arg2) = m ((c.tc : Thread Cert.MainDxRefIdeal.nD Cert.MainDxRefIdeal.τ).loc Cert.MainDxRefIdeal.main_arg2))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_BranchDw [hBranchDw : Cert.BranchDw.Facts] : Prop :=
  ∀ (m : (ℓ : Loc Cert.BranchDw.nD Cert.BranchDw.τ Cert.BranchDw.sig) → Buf (Elt Bits) ℓ) (g : Dev Cert.BranchDw.nD → PrngReg), Pre_BranchDw m →
    θ_run (Cert.BranchDw.defs (F := Bits)) (onTc (τ := Cert.BranchDw.τ) (Cert.BranchDw.main (F := Bits))) ⟨m, fun _ => 0, g⟩ (fun r => (∀ c : Dev Cert.BranchDw.nD,
      r.2.mem ((c.tc : Thread Cert.BranchDw.nD Cert.BranchDw.τ).loc Cert.BranchDw.main_arg0) = m ((c.tc : Thread Cert.BranchDw.nD Cert.BranchDw.τ).loc Cert.BranchDw.main_arg0)
      ∧ r.2.mem ((c.tc : Thread Cert.BranchDw.nD Cert.BranchDw.τ).loc Cert.BranchDw.main_arg1) = m ((c.tc : Thread Cert.BranchDw.nD Cert.BranchDw.τ).loc Cert.BranchDw.main_arg1))
      ∧ r.2.sem = fun _ => 0)

def quiescent_BranchDwIdeal [hBranchDwIdeal : Cert.BranchDwIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg), Pre_BranchDwIdeal m →
    θ_run (Cert.BranchDwIdeal.defs (F := Ideal)) (onTc (τ := Cert.BranchDwIdeal.τ) (Cert.BranchDwIdeal.main (F := Ideal))) ⟨m, fun _ => 0, g⟩ (fun r => (∀ c : Dev Cert.BranchDwIdeal.nD,
      r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
      ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1))
      ∧ r.2.sem = fun _ => 0)

def quiescent_BranchDwRefIdeal [hBranchDwRefIdeal : Cert.BranchDwRefIdeal.Facts] : Prop :=
  ∀ (m : (ℓ : Loc Cert.BranchDwRefIdeal.nD Cert.BranchDwRefIdeal.τ Cert.BranchDwRefIdeal.sig) → Buf (Elt Ideal) ℓ) (g : Dev Cert.BranchDwRefIdeal.nD → PrngReg), Pre_BranchDwRefIdeal m →
    θ_run (Cert.BranchDwRefIdeal.defs (F := Ideal)) (onTc (τ := Cert.BranchDwRefIdeal.τ) (Cert.BranchDwRefIdeal.main (F := Ideal))) ⟨m, fun _ => 0, g⟩ (fun r => (∀ c : Dev Cert.BranchDwRefIdeal.nD,
      r.2.mem ((c.tc : Thread Cert.BranchDwRefIdeal.nD Cert.BranchDwRefIdeal.τ).loc Cert.BranchDwRefIdeal.main_arg0) = m ((c.tc : Thread Cert.BranchDwRefIdeal.nD Cert.BranchDwRefIdeal.τ).loc Cert.BranchDwRefIdeal.main_arg0)
      ∧ r.2.mem ((c.tc : Thread Cert.BranchDwRefIdeal.nD Cert.BranchDwRefIdeal.τ).loc Cert.BranchDwRefIdeal.main_arg1) = m ((c.tc : Thread Cert.BranchDwRefIdeal.nD Cert.BranchDwRefIdeal.τ).loc Cert.BranchDwRefIdeal.main_arg1))
      ∧ r.2.sem = fun _ => 0)

def quiescent_BranchDx [hBranchDx : Cert.BranchDx.Facts] : Prop :=
  ∀ (m : (ℓ : Loc Cert.BranchDx.nD Cert.BranchDx.τ Cert.BranchDx.sig) → Buf (Elt Bits) ℓ) (g : Dev Cert.BranchDx.nD → PrngReg), Pre_BranchDx m →
    θ_run (Cert.BranchDx.defs (F := Bits)) (onTc (τ := Cert.BranchDx.τ) (Cert.BranchDx.main (F := Bits))) ⟨m, fun _ => 0, g⟩ (fun r => (∀ c : Dev Cert.BranchDx.nD,
      r.2.mem ((c.tc : Thread Cert.BranchDx.nD Cert.BranchDx.τ).loc Cert.BranchDx.main_arg0) = m ((c.tc : Thread Cert.BranchDx.nD Cert.BranchDx.τ).loc Cert.BranchDx.main_arg0)
      ∧ r.2.mem ((c.tc : Thread Cert.BranchDx.nD Cert.BranchDx.τ).loc Cert.BranchDx.main_arg1) = m ((c.tc : Thread Cert.BranchDx.nD Cert.BranchDx.τ).loc Cert.BranchDx.main_arg1))
      ∧ r.2.sem = fun _ => 0)

def quiescent_BranchDxIdeal [hBranchDxIdeal : Cert.BranchDxIdeal.Facts] : Prop :=
  ∀ (m : (ℓ : Loc Cert.BranchDxIdeal.nD Cert.BranchDxIdeal.τ Cert.BranchDxIdeal.sig) → Buf (Elt Ideal) ℓ) (g : Dev Cert.BranchDxIdeal.nD → PrngReg), Pre_BranchDxIdeal m →
    θ_run (Cert.BranchDxIdeal.defs (F := Ideal)) (onTc (τ := Cert.BranchDxIdeal.τ) (Cert.BranchDxIdeal.main (F := Ideal))) ⟨m, fun _ => 0, g⟩ (fun r => (∀ c : Dev Cert.BranchDxIdeal.nD,
      r.2.mem ((c.tc : Thread Cert.BranchDxIdeal.nD Cert.BranchDxIdeal.τ).loc Cert.BranchDxIdeal.main_arg0) = m ((c.tc : Thread Cert.BranchDxIdeal.nD Cert.BranchDxIdeal.τ).loc Cert.BranchDxIdeal.main_arg0)
      ∧ r.2.mem ((c.tc : Thread Cert.BranchDxIdeal.nD Cert.BranchDxIdeal.τ).loc Cert.BranchDxIdeal.main_arg1) = m ((c.tc : Thread Cert.BranchDxIdeal.nD Cert.BranchDxIdeal.τ).loc Cert.BranchDxIdeal.main_arg1))
      ∧ r.2.sem = fun _ => 0)

def quiescent_BranchDxRefIdeal [hBranchDxRefIdeal : Cert.BranchDxRefIdeal.Facts] : Prop :=
  ∀ (m : (ℓ : Loc Cert.BranchDxRefIdeal.nD Cert.BranchDxRefIdeal.τ Cert.BranchDxRefIdeal.sig) → Buf (Elt Ideal) ℓ) (g : Dev Cert.BranchDxRefIdeal.nD → PrngReg), Pre_BranchDxRefIdeal m →
    θ_run (Cert.BranchDxRefIdeal.defs (F := Ideal)) (onTc (τ := Cert.BranchDxRefIdeal.τ) (Cert.BranchDxRefIdeal.main (F := Ideal))) ⟨m, fun _ => 0, g⟩ (fun r => (∀ c : Dev Cert.BranchDxRefIdeal.nD,
      r.2.mem ((c.tc : Thread Cert.BranchDxRefIdeal.nD Cert.BranchDxRefIdeal.τ).loc Cert.BranchDxRefIdeal.main_arg0) = m ((c.tc : Thread Cert.BranchDxRefIdeal.nD Cert.BranchDxRefIdeal.τ).loc Cert.BranchDxRefIdeal.main_arg0)
      ∧ r.2.mem ((c.tc : Thread Cert.BranchDxRefIdeal.nD Cert.BranchDxRefIdeal.τ).loc Cert.BranchDxRefIdeal.main_arg1) = m ((c.tc : Thread Cert.BranchDxRefIdeal.nD Cert.BranchDxRefIdeal.τ).loc Cert.BranchDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_MainFwd [hMainFwd : Cert.MainFwd.Facts] : Prop :=
  ∀ (m : (ℓ : Loc Cert.MainFwd.nD Cert.MainFwd.τ Cert.MainFwd.sig) → Buf (Elt Bits) ℓ) (g : Dev Cert.MainFwd.nD → PrngReg), Pre_MainFwd m →
    θ_run (Cert.MainFwd.defs (F := Bits)) (onTc (τ := Cert.MainFwd.τ) (Cert.MainFwd.main (F := Bits))) ⟨m, fun _ => 0, g⟩ (fun r => (∀ c : Dev Cert.MainFwd.nD,
      r.2.mem ((c.tc : Thread Cert.MainFwd.nD Cert.MainFwd.τ).loc Cert.MainFwd.main_arg0) = m ((c.tc : Thread Cert.MainFwd.nD Cert.MainFwd.τ).loc Cert.MainFwd.main_arg0)
      ∧ r.2.mem ((c.tc : Thread Cert.MainFwd.nD Cert.MainFwd.τ).loc Cert.MainFwd.main_arg1) = m ((c.tc : Thread Cert.MainFwd.nD Cert.MainFwd.τ).loc Cert.MainFwd.main_arg1)
      ∧ r.2.mem ((c.tc : Thread Cert.MainFwd.nD Cert.MainFwd.τ).loc Cert.MainFwd.main_arg2) = m ((c.tc : Thread Cert.MainFwd.nD Cert.MainFwd.τ).loc Cert.MainFwd.main_arg2))
      ∧ r.2.sem = fun _ => 0)

def quiescent_MainFwdIdeal [hMainFwdIdeal : Cert.MainFwdIdeal.Facts] : Prop :=
  ∀ (m : (ℓ : Loc Cert.MainFwdIdeal.nD Cert.MainFwdIdeal.τ Cert.MainFwdIdeal.sig) → Buf (Elt Ideal) ℓ) (g : Dev Cert.MainFwdIdeal.nD → PrngReg), Pre_MainFwdIdeal m →
    θ_run (Cert.MainFwdIdeal.defs (F := Ideal)) (onTc (τ := Cert.MainFwdIdeal.τ) (Cert.MainFwdIdeal.main (F := Ideal))) ⟨m, fun _ => 0, g⟩ (fun r => (∀ c : Dev Cert.MainFwdIdeal.nD,
      r.2.mem ((c.tc : Thread Cert.MainFwdIdeal.nD Cert.MainFwdIdeal.τ).loc Cert.MainFwdIdeal.main_arg0) = m ((c.tc : Thread Cert.MainFwdIdeal.nD Cert.MainFwdIdeal.τ).loc Cert.MainFwdIdeal.main_arg0)
      ∧ r.2.mem ((c.tc : Thread Cert.MainFwdIdeal.nD Cert.MainFwdIdeal.τ).loc Cert.MainFwdIdeal.main_arg1) = m ((c.tc : Thread Cert.MainFwdIdeal.nD Cert.MainFwdIdeal.τ).loc Cert.MainFwdIdeal.main_arg1)
      ∧ r.2.mem ((c.tc : Thread Cert.MainFwdIdeal.nD Cert.MainFwdIdeal.τ).loc Cert.MainFwdIdeal.main_arg2) = m ((c.tc : Thread Cert.MainFwdIdeal.nD Cert.MainFwdIdeal.τ).loc Cert.MainFwdIdeal.main_arg2))
      ∧ r.2.sem = fun _ => 0)

def quiescent_MainFwdRefIdeal [hMainFwdRefIdeal : Cert.MainFwdRefIdeal.Facts] : Prop :=
  ∀ (m : (ℓ : Loc Cert.MainFwdRefIdeal.nD Cert.MainFwdRefIdeal.τ Cert.MainFwdRefIdeal.sig) → Buf (Elt Ideal) ℓ) (g : Dev Cert.MainFwdRefIdeal.nD → PrngReg), Pre_MainFwdRefIdeal m →
    θ_run (Cert.MainFwdRefIdeal.defs (F := Ideal)) (onTc (τ := Cert.MainFwdRefIdeal.τ) (Cert.MainFwdRefIdeal.main (F := Ideal))) ⟨m, fun _ => 0, g⟩ (fun r => (∀ c : Dev Cert.MainFwdRefIdeal.nD,
      r.2.mem ((c.tc : Thread Cert.MainFwdRefIdeal.nD Cert.MainFwdRefIdeal.τ).loc Cert.MainFwdRefIdeal.main_arg0) = m ((c.tc : Thread Cert.MainFwdRefIdeal.nD Cert.MainFwdRefIdeal.τ).loc Cert.MainFwdRefIdeal.main_arg0)
      ∧ r.2.mem ((c.tc : Thread Cert.MainFwdRefIdeal.nD Cert.MainFwdRefIdeal.τ).loc Cert.MainFwdRefIdeal.main_arg1) = m ((c.tc : Thread Cert.MainFwdRefIdeal.nD Cert.MainFwdRefIdeal.τ).loc Cert.MainFwdRefIdeal.main_arg1)
      ∧ r.2.mem ((c.tc : Thread Cert.MainFwdRefIdeal.nD Cert.MainFwdRefIdeal.τ).loc Cert.MainFwdRefIdeal.main_arg2) = m ((c.tc : Thread Cert.MainFwdRefIdeal.nD Cert.MainFwdRefIdeal.τ).loc Cert.MainFwdRefIdeal.main_arg2))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ r.2.sem = fun _ => 0)

def quiescent_UpFwdRefIdeal [hUpFwdRefIdeal : Cert.UpFwdRefIdeal.Facts] : Prop :=
  ∀ (m : (ℓ : Loc Cert.UpFwdRefIdeal.nD Cert.UpFwdRefIdeal.τ Cert.UpFwdRefIdeal.sig) → Buf (Elt Ideal) ℓ) (g : Dev Cert.UpFwdRefIdeal.nD → PrngReg), Pre_UpFwdRefIdeal m →
    θ_run (Cert.UpFwdRefIdeal.defs (F := Ideal)) (onTc (τ := Cert.UpFwdRefIdeal.τ) (Cert.UpFwdRefIdeal.main (F := Ideal))) ⟨m, fun _ => 0, g⟩ (fun r => (∀ c : Dev Cert.UpFwdRefIdeal.nD,
      r.2.mem ((c.tc : Thread Cert.UpFwdRefIdeal.nD Cert.UpFwdRefIdeal.τ).loc Cert.UpFwdRefIdeal.main_arg0) = m ((c.tc : Thread Cert.UpFwdRefIdeal.nD Cert.UpFwdRefIdeal.τ).loc Cert.UpFwdRefIdeal.main_arg0)
      ∧ r.2.mem ((c.tc : Thread Cert.UpFwdRefIdeal.nD Cert.UpFwdRefIdeal.τ).loc Cert.UpFwdRefIdeal.main_arg1) = m ((c.tc : Thread Cert.UpFwdRefIdeal.nD Cert.UpFwdRefIdeal.τ).loc Cert.UpFwdRefIdeal.main_arg1))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1))
      ∧ r.2.sem = fun _ => 0)

def quiescent_DownFwdRefIdeal [hDownFwdRefIdeal : Cert.DownFwdRefIdeal.Facts] : Prop :=
  ∀ (m : (ℓ : Loc Cert.DownFwdRefIdeal.nD Cert.DownFwdRefIdeal.τ Cert.DownFwdRefIdeal.sig) → Buf (Elt Ideal) ℓ) (g : Dev Cert.DownFwdRefIdeal.nD → PrngReg), Pre_DownFwdRefIdeal m →
    θ_run (Cert.DownFwdRefIdeal.defs (F := Ideal)) (onTc (τ := Cert.DownFwdRefIdeal.τ) (Cert.DownFwdRefIdeal.main (F := Ideal))) ⟨m, fun _ => 0, g⟩ (fun r => (∀ c : Dev Cert.DownFwdRefIdeal.nD,
      r.2.mem ((c.tc : Thread Cert.DownFwdRefIdeal.nD Cert.DownFwdRefIdeal.τ).loc Cert.DownFwdRefIdeal.main_arg0) = m ((c.tc : Thread Cert.DownFwdRefIdeal.nD Cert.DownFwdRefIdeal.τ).loc Cert.DownFwdRefIdeal.main_arg0)
      ∧ r.2.mem ((c.tc : Thread Cert.DownFwdRefIdeal.nD Cert.DownFwdRefIdeal.τ).loc Cert.DownFwdRefIdeal.main_arg1) = m ((c.tc : Thread Cert.DownFwdRefIdeal.nD Cert.DownFwdRefIdeal.τ).loc Cert.DownFwdRefIdeal.main_arg1))
      ∧ r.2.sem = fun _ => 0)

def quiescent_BranchFwd [hBranchFwd : Cert.BranchFwd.Facts] : Prop :=
  ∀ (m : (ℓ : Loc Cert.BranchFwd.nD Cert.BranchFwd.τ Cert.BranchFwd.sig) → Buf (Elt Bits) ℓ) (g : Dev Cert.BranchFwd.nD → PrngReg), Pre_BranchFwd m →
    θ_run (Cert.BranchFwd.defs (F := Bits)) (onTc (τ := Cert.BranchFwd.τ) (Cert.BranchFwd.main (F := Bits))) ⟨m, fun _ => 0, g⟩ (fun r => (∀ c : Dev Cert.BranchFwd.nD,
      r.2.mem ((c.tc : Thread Cert.BranchFwd.nD Cert.BranchFwd.τ).loc Cert.BranchFwd.main_arg0) = m ((c.tc : Thread Cert.BranchFwd.nD Cert.BranchFwd.τ).loc Cert.BranchFwd.main_arg0)
      ∧ r.2.mem ((c.tc : Thread Cert.BranchFwd.nD Cert.BranchFwd.τ).loc Cert.BranchFwd.main_arg1) = m ((c.tc : Thread Cert.BranchFwd.nD Cert.BranchFwd.τ).loc Cert.BranchFwd.main_arg1))
      ∧ r.2.sem = fun _ => 0)

def quiescent_BranchFwdIdeal [hBranchFwdIdeal : Cert.BranchFwdIdeal.Facts] : Prop :=
  ∀ (m : (ℓ : Loc Cert.BranchFwdIdeal.nD Cert.BranchFwdIdeal.τ Cert.BranchFwdIdeal.sig) → Buf (Elt Ideal) ℓ) (g : Dev Cert.BranchFwdIdeal.nD → PrngReg), Pre_BranchFwdIdeal m →
    θ_run (Cert.BranchFwdIdeal.defs (F := Ideal)) (onTc (τ := Cert.BranchFwdIdeal.τ) (Cert.BranchFwdIdeal.main (F := Ideal))) ⟨m, fun _ => 0, g⟩ (fun r => (∀ c : Dev Cert.BranchFwdIdeal.nD,
      r.2.mem ((c.tc : Thread Cert.BranchFwdIdeal.nD Cert.BranchFwdIdeal.τ).loc Cert.BranchFwdIdeal.main_arg0) = m ((c.tc : Thread Cert.BranchFwdIdeal.nD Cert.BranchFwdIdeal.τ).loc Cert.BranchFwdIdeal.main_arg0)
      ∧ r.2.mem ((c.tc : Thread Cert.BranchFwdIdeal.nD Cert.BranchFwdIdeal.τ).loc Cert.BranchFwdIdeal.main_arg1) = m ((c.tc : Thread Cert.BranchFwdIdeal.nD Cert.BranchFwdIdeal.τ).loc Cert.BranchFwdIdeal.main_arg1))
      ∧ r.2.sem = fun _ => 0)

def quiescent_BranchFwdRefIdeal [hBranchFwdRefIdeal : Cert.BranchFwdRefIdeal.Facts] : Prop :=
  ∀ (m : (ℓ : Loc Cert.BranchFwdRefIdeal.nD Cert.BranchFwdRefIdeal.τ Cert.BranchFwdRefIdeal.sig) → Buf (Elt Ideal) ℓ) (g : Dev Cert.BranchFwdRefIdeal.nD → PrngReg), Pre_BranchFwdRefIdeal m →
    θ_run (Cert.BranchFwdRefIdeal.defs (F := Ideal)) (onTc (τ := Cert.BranchFwdRefIdeal.τ) (Cert.BranchFwdRefIdeal.main (F := Ideal))) ⟨m, fun _ => 0, g⟩ (fun r => (∀ c : Dev Cert.BranchFwdRefIdeal.nD,
      r.2.mem ((c.tc : Thread Cert.BranchFwdRefIdeal.nD Cert.BranchFwdRefIdeal.τ).loc Cert.BranchFwdRefIdeal.main_arg0) = m ((c.tc : Thread Cert.BranchFwdRefIdeal.nD Cert.BranchFwdRefIdeal.τ).loc Cert.BranchFwdRefIdeal.main_arg0)
      ∧ r.2.mem ((c.tc : Thread Cert.BranchFwdRefIdeal.nD Cert.BranchFwdRefIdeal.τ).loc Cert.BranchFwdRefIdeal.main_arg1) = m ((c.tc : Thread Cert.BranchFwdRefIdeal.nD Cert.BranchFwdRefIdeal.τ).loc Cert.BranchFwdRefIdeal.main_arg1))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3))
      ∧ r.2.sem = fun _ => 0)

def quiescent_MainDb [hMainDb : Cert.MainDb.Facts] : Prop :=
  ∀ (m : (ℓ : Loc Cert.MainDb.nD Cert.MainDb.τ Cert.MainDb.sig) → Buf (Elt Bits) ℓ) (g : Dev Cert.MainDb.nD → PrngReg), Pre_MainDb m →
    θ_run (Cert.MainDb.defs (F := Bits)) (onTc (τ := Cert.MainDb.τ) (Cert.MainDb.main (F := Bits))) ⟨m, fun _ => 0, g⟩ (fun r => (∀ c : Dev Cert.MainDb.nD,
      r.2.mem ((c.tc : Thread Cert.MainDb.nD Cert.MainDb.τ).loc Cert.MainDb.main_arg0) = m ((c.tc : Thread Cert.MainDb.nD Cert.MainDb.τ).loc Cert.MainDb.main_arg0))
      ∧ r.2.sem = fun _ => 0)

def quiescent_MainDbIdeal [hMainDbIdeal : Cert.MainDbIdeal.Facts] : Prop :=
  ∀ (m : (ℓ : Loc Cert.MainDbIdeal.nD Cert.MainDbIdeal.τ Cert.MainDbIdeal.sig) → Buf (Elt Ideal) ℓ) (g : Dev Cert.MainDbIdeal.nD → PrngReg), Pre_MainDbIdeal m →
    θ_run (Cert.MainDbIdeal.defs (F := Ideal)) (onTc (τ := Cert.MainDbIdeal.τ) (Cert.MainDbIdeal.main (F := Ideal))) ⟨m, fun _ => 0, g⟩ (fun r => (∀ c : Dev Cert.MainDbIdeal.nD,
      r.2.mem ((c.tc : Thread Cert.MainDbIdeal.nD Cert.MainDbIdeal.τ).loc Cert.MainDbIdeal.main_arg0) = m ((c.tc : Thread Cert.MainDbIdeal.nD Cert.MainDbIdeal.τ).loc Cert.MainDbIdeal.main_arg0))
      ∧ r.2.sem = fun _ => 0)

def quiescent_MainDbRefIdeal [hMainDbRefIdeal : Cert.MainDbRefIdeal.Facts] : Prop :=
  ∀ (m : (ℓ : Loc Cert.MainDbRefIdeal.nD Cert.MainDbRefIdeal.τ Cert.MainDbRefIdeal.sig) → Buf (Elt Ideal) ℓ) (g : Dev Cert.MainDbRefIdeal.nD → PrngReg), Pre_MainDbRefIdeal m →
    θ_run (Cert.MainDbRefIdeal.defs (F := Ideal)) (onTc (τ := Cert.MainDbRefIdeal.τ) (Cert.MainDbRefIdeal.main (F := Ideal))) ⟨m, fun _ => 0, g⟩ (fun r => (∀ c : Dev Cert.MainDbRefIdeal.nD,
      r.2.mem ((c.tc : Thread Cert.MainDbRefIdeal.nD Cert.MainDbRefIdeal.τ).loc Cert.MainDbRefIdeal.main_arg0) = m ((c.tc : Thread Cert.MainDbRefIdeal.nD Cert.MainDbRefIdeal.τ).loc Cert.MainDbRefIdeal.main_arg0))
      ∧ r.2.sem = fun _ => 0)

def quiescent_LnBwd [hLnBwd : Cert.LnBwd.Facts] : Prop :=
  ∀ (m : (ℓ : Loc Cert.LnBwd.nD Cert.LnBwd.τ Cert.LnBwd.sig) → Buf (Elt Bits) ℓ) (g : Dev Cert.LnBwd.nD → PrngReg), Pre_LnBwd m →
    θ_run (Cert.LnBwd.defs (F := Bits)) (onTc (τ := Cert.LnBwd.τ) (Cert.LnBwd.main (F := Bits))) ⟨m, fun _ => 0, g⟩ (fun r => (∀ c : Dev Cert.LnBwd.nD,
      r.2.mem ((c.tc : Thread Cert.LnBwd.nD Cert.LnBwd.τ).loc Cert.LnBwd.main_arg0) = m ((c.tc : Thread Cert.LnBwd.nD Cert.LnBwd.τ).loc Cert.LnBwd.main_arg0)
      ∧ r.2.mem ((c.tc : Thread Cert.LnBwd.nD Cert.LnBwd.τ).loc Cert.LnBwd.main_arg1) = m ((c.tc : Thread Cert.LnBwd.nD Cert.LnBwd.τ).loc Cert.LnBwd.main_arg1)
      ∧ r.2.mem ((c.tc : Thread Cert.LnBwd.nD Cert.LnBwd.τ).loc Cert.LnBwd.main_arg2) = m ((c.tc : Thread Cert.LnBwd.nD Cert.LnBwd.τ).loc Cert.LnBwd.main_arg2)
      ∧ r.2.mem ((c.tc : Thread Cert.LnBwd.nD Cert.LnBwd.τ).loc Cert.LnBwd.main_arg3) = m ((c.tc : Thread Cert.LnBwd.nD Cert.LnBwd.τ).loc Cert.LnBwd.main_arg3)
      ∧ r.2.mem ((c.tc : Thread Cert.LnBwd.nD Cert.LnBwd.τ).loc Cert.LnBwd.main_arg4) = m ((c.tc : Thread Cert.LnBwd.nD Cert.LnBwd.τ).loc Cert.LnBwd.main_arg4))
      ∧ r.2.sem = fun _ => 0)

def quiescent_LnBwdIdeal [hLnBwdIdeal : Cert.LnBwdIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3)
      ∧ r.2.mem ((c.tc : Thread Cert.LnBwdIdeal.nD Cert.LnBwdIdeal.τ).loc Cert.LnBwdIdeal.main_arg4) = m ((c.tc : Thread Cert.LnBwdIdeal.nD Cert.LnBwdIdeal.τ).loc Cert.LnBwdIdeal.main_arg4))
      ∧ r.2.sem = fun _ => 0)

def quiescent_LnBwdRefIdeal [hLnBwdRefIdeal : Cert.LnBwdRefIdeal.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2)
      ∧ r.2.mem ((c.tc : Thread Cert.LnBwdRefIdeal.nD Cert.LnBwdRefIdeal.τ).loc Cert.LnBwdRefIdeal.main_arg3) = m ((c.tc : Thread Cert.LnBwdRefIdeal.nD Cert.LnBwdRefIdeal.τ).loc Cert.LnBwdRefIdeal.main_arg3)
      ∧ r.2.mem ((c.tc : Thread Cert.LnBwdRefIdeal.nD Cert.LnBwdRefIdeal.τ).loc Cert.LnBwdRefIdeal.main_arg4) = m ((c.tc : Thread Cert.LnBwdRefIdeal.nD Cert.LnBwdRefIdeal.τ).loc Cert.LnBwdRefIdeal.main_arg4))
      ∧ r.2.sem = fun _ => 0)

def quiescent_LnFwd [hLnFwd : Cert.LnFwd.Facts] : Prop :=
  ∀ (m : (ℓ : Loc Cert.LnFwd.nD Cert.LnFwd.τ Cert.LnFwd.sig) → Buf (Elt Bits) ℓ) (g : Dev Cert.LnFwd.nD → PrngReg), Pre_LnFwd m →
    θ_run (Cert.LnFwd.defs (F := Bits)) (onTc (τ := Cert.LnFwd.τ) (Cert.LnFwd.main (F := Bits))) ⟨m, fun _ => 0, g⟩ (fun r => (∀ c : Dev Cert.LnFwd.nD,
      r.2.mem ((c.tc : Thread Cert.LnFwd.nD Cert.LnFwd.τ).loc Cert.LnFwd.main_arg0) = m ((c.tc : Thread Cert.LnFwd.nD Cert.LnFwd.τ).loc Cert.LnFwd.main_arg0)
      ∧ r.2.mem ((c.tc : Thread Cert.LnFwd.nD Cert.LnFwd.τ).loc Cert.LnFwd.main_arg1) = m ((c.tc : Thread Cert.LnFwd.nD Cert.LnFwd.τ).loc Cert.LnFwd.main_arg1)
      ∧ r.2.mem ((c.tc : Thread Cert.LnFwd.nD Cert.LnFwd.τ).loc Cert.LnFwd.main_arg2) = m ((c.tc : Thread Cert.LnFwd.nD Cert.LnFwd.τ).loc Cert.LnFwd.main_arg2)
      ∧ r.2.mem ((c.tc : Thread Cert.LnFwd.nD Cert.LnFwd.τ).loc Cert.LnFwd.main_arg3) = m ((c.tc : Thread Cert.LnFwd.nD Cert.LnFwd.τ).loc Cert.LnFwd.main_arg3))
      ∧ r.2.sem = fun _ => 0)

def quiescent_LnFwdIdeal [hLnFwdIdeal : Cert.LnFwdIdeal.Facts] : Prop :=
  ∀ (m : (ℓ : Loc Cert.LnFwdIdeal.nD Cert.LnFwdIdeal.τ Cert.LnFwdIdeal.sig) → Buf (Elt Ideal) ℓ) (g : Dev Cert.LnFwdIdeal.nD → PrngReg), Pre_LnFwdIdeal m →
    θ_run (Cert.LnFwdIdeal.defs (F := Ideal)) (onTc (τ := Cert.LnFwdIdeal.τ) (Cert.LnFwdIdeal.main (F := Ideal))) ⟨m, fun _ => 0, g⟩ (fun r => (∀ c : Dev Cert.LnFwdIdeal.nD,
      r.2.mem ((c.tc : Thread Cert.LnFwdIdeal.nD Cert.LnFwdIdeal.τ).loc Cert.LnFwdIdeal.main_arg0) = m ((c.tc : Thread Cert.LnFwdIdeal.nD Cert.LnFwdIdeal.τ).loc Cert.LnFwdIdeal.main_arg0)
      ∧ r.2.mem ((c.tc : Thread Cert.LnFwdIdeal.nD Cert.LnFwdIdeal.τ).loc Cert.LnFwdIdeal.main_arg1) = m ((c.tc : Thread Cert.LnFwdIdeal.nD Cert.LnFwdIdeal.τ).loc Cert.LnFwdIdeal.main_arg1)
      ∧ r.2.mem ((c.tc : Thread Cert.LnFwdIdeal.nD Cert.LnFwdIdeal.τ).loc Cert.LnFwdIdeal.main_arg2) = m ((c.tc : Thread Cert.LnFwdIdeal.nD Cert.LnFwdIdeal.τ).loc Cert.LnFwdIdeal.main_arg2)
      ∧ r.2.mem ((c.tc : Thread Cert.LnFwdIdeal.nD Cert.LnFwdIdeal.τ).loc Cert.LnFwdIdeal.main_arg3) = m ((c.tc : Thread Cert.LnFwdIdeal.nD Cert.LnFwdIdeal.τ).loc Cert.LnFwdIdeal.main_arg3))
      ∧ r.2.sem = fun _ => 0)

def quiescent_LnFwdRefIdeal [hLnFwdRefIdeal : Cert.LnFwdRefIdeal.Facts] : Prop :=
  ∀ (m : (ℓ : Loc Cert.LnFwdRefIdeal.nD Cert.LnFwdRefIdeal.τ Cert.LnFwdRefIdeal.sig) → Buf (Elt Ideal) ℓ) (g : Dev Cert.LnFwdRefIdeal.nD → PrngReg), Pre_LnFwdRefIdeal m →
    θ_run (Cert.LnFwdRefIdeal.defs (F := Ideal)) (onTc (τ := Cert.LnFwdRefIdeal.τ) (Cert.LnFwdRefIdeal.main (F := Ideal))) ⟨m, fun _ => 0, g⟩ (fun r => (∀ c : Dev Cert.LnFwdRefIdeal.nD,
      r.2.mem ((c.tc : Thread Cert.LnFwdRefIdeal.nD Cert.LnFwdRefIdeal.τ).loc Cert.LnFwdRefIdeal.main_arg0) = m ((c.tc : Thread Cert.LnFwdRefIdeal.nD Cert.LnFwdRefIdeal.τ).loc Cert.LnFwdRefIdeal.main_arg0)
      ∧ r.2.mem ((c.tc : Thread Cert.LnFwdRefIdeal.nD Cert.LnFwdRefIdeal.τ).loc Cert.LnFwdRefIdeal.main_arg1) = m ((c.tc : Thread Cert.LnFwdRefIdeal.nD Cert.LnFwdRefIdeal.τ).loc Cert.LnFwdRefIdeal.main_arg1)
      ∧ r.2.mem ((c.tc : Thread Cert.LnFwdRefIdeal.nD Cert.LnFwdRefIdeal.τ).loc Cert.LnFwdRefIdeal.main_arg2) = m ((c.tc : Thread Cert.LnFwdRefIdeal.nD Cert.LnFwdRefIdeal.τ).loc Cert.LnFwdRefIdeal.main_arg2)
      ∧ r.2.mem ((c.tc : Thread Cert.LnFwdRefIdeal.nD Cert.LnFwdRefIdeal.τ).loc Cert.LnFwdRefIdeal.main_arg3) = m ((c.tc : Thread Cert.LnFwdRefIdeal.nD Cert.LnFwdRefIdeal.τ).loc Cert.LnFwdRefIdeal.main_arg3))
      ∧ r.2.sem = fun _ => 0)

def quiescent_SguBwd [hSguBwd : Cert.SguBwd.Facts] : Prop :=
  ∀ (m : (ℓ : Loc Cert.SguBwd.nD Cert.SguBwd.τ Cert.SguBwd.sig) → Buf (Elt Bits) ℓ) (g : Dev Cert.SguBwd.nD → PrngReg), Pre_SguBwd m →
    θ_run (Cert.SguBwd.defs (F := Bits)) (onTc (τ := Cert.SguBwd.τ) (Cert.SguBwd.main (F := Bits))) ⟨m, fun _ => 0, g⟩ (fun r => (∀ c : Dev Cert.SguBwd.nD,
      r.2.mem ((c.tc : Thread Cert.SguBwd.nD Cert.SguBwd.τ).loc Cert.SguBwd.main_arg0) = m ((c.tc : Thread Cert.SguBwd.nD Cert.SguBwd.τ).loc Cert.SguBwd.main_arg0)
      ∧ r.2.mem ((c.tc : Thread Cert.SguBwd.nD Cert.SguBwd.τ).loc Cert.SguBwd.main_arg1) = m ((c.tc : Thread Cert.SguBwd.nD Cert.SguBwd.τ).loc Cert.SguBwd.main_arg1)
      ∧ r.2.mem ((c.tc : Thread Cert.SguBwd.nD Cert.SguBwd.τ).loc Cert.SguBwd.main_arg2) = m ((c.tc : Thread Cert.SguBwd.nD Cert.SguBwd.τ).loc Cert.SguBwd.main_arg2)
      ∧ r.2.mem ((c.tc : Thread Cert.SguBwd.nD Cert.SguBwd.τ).loc Cert.SguBwd.main_arg3) = m ((c.tc : Thread Cert.SguBwd.nD Cert.SguBwd.τ).loc Cert.SguBwd.main_arg3)
      ∧ r.2.mem ((c.tc : Thread Cert.SguBwd.nD Cert.SguBwd.τ).loc Cert.SguBwd.main_arg4) = m ((c.tc : Thread Cert.SguBwd.nD Cert.SguBwd.τ).loc Cert.SguBwd.main_arg4)
      ∧ r.2.mem ((c.tc : Thread Cert.SguBwd.nD Cert.SguBwd.τ).loc Cert.SguBwd.main_arg5) = m ((c.tc : Thread Cert.SguBwd.nD Cert.SguBwd.τ).loc Cert.SguBwd.main_arg5))
      ∧ r.2.sem = fun _ => 0)

def quiescent_SguBwdIdeal [hSguBwdIdeal : Cert.SguBwdIdeal.Facts] : Prop :=
  ∀ (m : (ℓ : Loc Cert.SguBwdIdeal.nD Cert.SguBwdIdeal.τ Cert.SguBwdIdeal.sig) → Buf (Elt Ideal) ℓ) (g : Dev Cert.SguBwdIdeal.nD → PrngReg), Pre_SguBwdIdeal m →
    θ_run (Cert.SguBwdIdeal.defs (F := Ideal)) (onTc (τ := Cert.SguBwdIdeal.τ) (Cert.SguBwdIdeal.main (F := Ideal))) ⟨m, fun _ => 0, g⟩ (fun r => (∀ c : Dev Cert.SguBwdIdeal.nD,
      r.2.mem ((c.tc : Thread Cert.SguBwdIdeal.nD Cert.SguBwdIdeal.τ).loc Cert.SguBwdIdeal.main_arg0) = m ((c.tc : Thread Cert.SguBwdIdeal.nD Cert.SguBwdIdeal.τ).loc Cert.SguBwdIdeal.main_arg0)
      ∧ r.2.mem ((c.tc : Thread Cert.SguBwdIdeal.nD Cert.SguBwdIdeal.τ).loc Cert.SguBwdIdeal.main_arg1) = m ((c.tc : Thread Cert.SguBwdIdeal.nD Cert.SguBwdIdeal.τ).loc Cert.SguBwdIdeal.main_arg1)
      ∧ r.2.mem ((c.tc : Thread Cert.SguBwdIdeal.nD Cert.SguBwdIdeal.τ).loc Cert.SguBwdIdeal.main_arg2) = m ((c.tc : Thread Cert.SguBwdIdeal.nD Cert.SguBwdIdeal.τ).loc Cert.SguBwdIdeal.main_arg2)
      ∧ r.2.mem ((c.tc : Thread Cert.SguBwdIdeal.nD Cert.SguBwdIdeal.τ).loc Cert.SguBwdIdeal.main_arg3) = m ((c.tc : Thread Cert.SguBwdIdeal.nD Cert.SguBwdIdeal.τ).loc Cert.SguBwdIdeal.main_arg3)
      ∧ r.2.mem ((c.tc : Thread Cert.SguBwdIdeal.nD Cert.SguBwdIdeal.τ).loc Cert.SguBwdIdeal.main_arg4) = m ((c.tc : Thread Cert.SguBwdIdeal.nD Cert.SguBwdIdeal.τ).loc Cert.SguBwdIdeal.main_arg4)
      ∧ r.2.mem ((c.tc : Thread Cert.SguBwdIdeal.nD Cert.SguBwdIdeal.τ).loc Cert.SguBwdIdeal.main_arg5) = m ((c.tc : Thread Cert.SguBwdIdeal.nD Cert.SguBwdIdeal.τ).loc Cert.SguBwdIdeal.main_arg5))
      ∧ r.2.sem = fun _ => 0)

def quiescent_SguBwdRefIdeal [hSguBwdRefIdeal : Cert.SguBwdRefIdeal.Facts] : Prop :=
  ∀ (m : (ℓ : Loc Cert.SguBwdRefIdeal.nD Cert.SguBwdRefIdeal.τ Cert.SguBwdRefIdeal.sig) → Buf (Elt Ideal) ℓ) (g : Dev Cert.SguBwdRefIdeal.nD → PrngReg), Pre_SguBwdRefIdeal m →
    θ_run (Cert.SguBwdRefIdeal.defs (F := Ideal)) (onTc (τ := Cert.SguBwdRefIdeal.τ) (Cert.SguBwdRefIdeal.main (F := Ideal))) ⟨m, fun _ => 0, g⟩ (fun r => (∀ c : Dev Cert.SguBwdRefIdeal.nD,
      r.2.mem ((c.tc : Thread Cert.SguBwdRefIdeal.nD Cert.SguBwdRefIdeal.τ).loc Cert.SguBwdRefIdeal.main_arg0) = m ((c.tc : Thread Cert.SguBwdRefIdeal.nD Cert.SguBwdRefIdeal.τ).loc Cert.SguBwdRefIdeal.main_arg0)
      ∧ r.2.mem ((c.tc : Thread Cert.SguBwdRefIdeal.nD Cert.SguBwdRefIdeal.τ).loc Cert.SguBwdRefIdeal.main_arg1) = m ((c.tc : Thread Cert.SguBwdRefIdeal.nD Cert.SguBwdRefIdeal.τ).loc Cert.SguBwdRefIdeal.main_arg1)
      ∧ r.2.mem ((c.tc : Thread Cert.SguBwdRefIdeal.nD Cert.SguBwdRefIdeal.τ).loc Cert.SguBwdRefIdeal.main_arg2) = m ((c.tc : Thread Cert.SguBwdRefIdeal.nD Cert.SguBwdRefIdeal.τ).loc Cert.SguBwdRefIdeal.main_arg2)
      ∧ r.2.mem ((c.tc : Thread Cert.SguBwdRefIdeal.nD Cert.SguBwdRefIdeal.τ).loc Cert.SguBwdRefIdeal.main_arg3) = m ((c.tc : Thread Cert.SguBwdRefIdeal.nD Cert.SguBwdRefIdeal.τ).loc Cert.SguBwdRefIdeal.main_arg3)
      ∧ r.2.mem ((c.tc : Thread Cert.SguBwdRefIdeal.nD Cert.SguBwdRefIdeal.τ).loc Cert.SguBwdRefIdeal.main_arg4) = m ((c.tc : Thread Cert.SguBwdRefIdeal.nD Cert.SguBwdRefIdeal.τ).loc Cert.SguBwdRefIdeal.main_arg4)
      ∧ r.2.mem ((c.tc : Thread Cert.SguBwdRefIdeal.nD Cert.SguBwdRefIdeal.τ).loc Cert.SguBwdRefIdeal.main_arg5) = m ((c.tc : Thread Cert.SguBwdRefIdeal.nD Cert.SguBwdRefIdeal.τ).loc Cert.SguBwdRefIdeal.main_arg5))
      ∧ r.2.sem = fun _ => 0)

def quiescent_SguFwd [hSguFwd : Cert.SguFwd.Facts] : Prop :=
  ∀ (m : (ℓ : Loc Cert.SguFwd.nD Cert.SguFwd.τ Cert.SguFwd.sig) → Buf (Elt Bits) ℓ) (g : Dev Cert.SguFwd.nD → PrngReg), Pre_SguFwd m →
    θ_run (Cert.SguFwd.defs (F := Bits)) (onTc (τ := Cert.SguFwd.τ) (Cert.SguFwd.main (F := Bits))) ⟨m, fun _ => 0, g⟩ (fun r => (∀ c : Dev Cert.SguFwd.nD,
      r.2.mem ((c.tc : Thread Cert.SguFwd.nD Cert.SguFwd.τ).loc Cert.SguFwd.main_arg0) = m ((c.tc : Thread Cert.SguFwd.nD Cert.SguFwd.τ).loc Cert.SguFwd.main_arg0)
      ∧ r.2.mem ((c.tc : Thread Cert.SguFwd.nD Cert.SguFwd.τ).loc Cert.SguFwd.main_arg1) = m ((c.tc : Thread Cert.SguFwd.nD Cert.SguFwd.τ).loc Cert.SguFwd.main_arg1)
      ∧ r.2.mem ((c.tc : Thread Cert.SguFwd.nD Cert.SguFwd.τ).loc Cert.SguFwd.main_arg2) = m ((c.tc : Thread Cert.SguFwd.nD Cert.SguFwd.τ).loc Cert.SguFwd.main_arg2)
      ∧ r.2.mem ((c.tc : Thread Cert.SguFwd.nD Cert.SguFwd.τ).loc Cert.SguFwd.main_arg3) = m ((c.tc : Thread Cert.SguFwd.nD Cert.SguFwd.τ).loc Cert.SguFwd.main_arg3)
      ∧ r.2.mem ((c.tc : Thread Cert.SguFwd.nD Cert.SguFwd.τ).loc Cert.SguFwd.main_arg4) = m ((c.tc : Thread Cert.SguFwd.nD Cert.SguFwd.τ).loc Cert.SguFwd.main_arg4))
      ∧ r.2.sem = fun _ => 0)

def quiescent_SguFwdIdeal [hSguFwdIdeal : Cert.SguFwdIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg), Pre_SguFwdIdeal m →
    θ_run (Cert.SguFwdIdeal.defs (F := Ideal)) (onTc (τ := Cert.SguFwdIdeal.τ) (Cert.SguFwdIdeal.main (F := Ideal))) ⟨m, fun _ => 0, g⟩ (fun r => (∀ c : Dev Cert.SguFwdIdeal.nD,
      r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
      ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
      ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
      ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
      ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4))
      ∧ r.2.sem = fun _ => 0)

def quiescent_SguFwdRefIdeal [hSguFwdRefIdeal : Cert.SguFwdRefIdeal.Facts] : Prop :=
  ∀ (m : (ℓ : Loc Cert.SguFwdRefIdeal.nD Cert.SguFwdRefIdeal.τ Cert.SguFwdRefIdeal.sig) → Buf (Elt Ideal) ℓ) (g : Dev Cert.SguFwdRefIdeal.nD → PrngReg), Pre_SguFwdRefIdeal m →
    θ_run (Cert.SguFwdRefIdeal.defs (F := Ideal)) (onTc (τ := Cert.SguFwdRefIdeal.τ) (Cert.SguFwdRefIdeal.main (F := Ideal))) ⟨m, fun _ => 0, g⟩ (fun r => (∀ c : Dev Cert.SguFwdRefIdeal.nD,
      r.2.mem ((c.tc : Thread Cert.SguFwdRefIdeal.nD Cert.SguFwdRefIdeal.τ).loc Cert.SguFwdRefIdeal.main_arg0) = m ((c.tc : Thread Cert.SguFwdRefIdeal.nD Cert.SguFwdRefIdeal.τ).loc Cert.SguFwdRefIdeal.main_arg0)
      ∧ r.2.mem ((c.tc : Thread Cert.SguFwdRefIdeal.nD Cert.SguFwdRefIdeal.τ).loc Cert.SguFwdRefIdeal.main_arg1) = m ((c.tc : Thread Cert.SguFwdRefIdeal.nD Cert.SguFwdRefIdeal.τ).loc Cert.SguFwdRefIdeal.main_arg1)
      ∧ r.2.mem ((c.tc : Thread Cert.SguFwdRefIdeal.nD Cert.SguFwdRefIdeal.τ).loc Cert.SguFwdRefIdeal.main_arg2) = m ((c.tc : Thread Cert.SguFwdRefIdeal.nD Cert.SguFwdRefIdeal.τ).loc Cert.SguFwdRefIdeal.main_arg2)
      ∧ r.2.mem ((c.tc : Thread Cert.SguFwdRefIdeal.nD Cert.SguFwdRefIdeal.τ).loc Cert.SguFwdRefIdeal.main_arg3) = m ((c.tc : Thread Cert.SguFwdRefIdeal.nD Cert.SguFwdRefIdeal.τ).loc Cert.SguFwdRefIdeal.main_arg3)
      ∧ r.2.mem ((c.tc : Thread Cert.SguFwdRefIdeal.nD Cert.SguFwdRefIdeal.τ).loc Cert.SguFwdRefIdeal.main_arg4) = m ((c.tc : Thread Cert.SguFwdRefIdeal.nD Cert.SguFwdRefIdeal.τ).loc Cert.SguFwdRefIdeal.main_arg4))
      ∧ r.2.sem = fun _ => 0)

def quiescent_ActBwd [hActBwd : Cert.ActBwd.Facts] : Prop :=
  ∀ (m : (ℓ : Loc Cert.ActBwd.nD Cert.ActBwd.τ Cert.ActBwd.sig) → Buf (Elt Bits) ℓ) (g : Dev Cert.ActBwd.nD → PrngReg), Pre_ActBwd m →
    θ_run (Cert.ActBwd.defs (F := Bits)) (onTc (τ := Cert.ActBwd.τ) (Cert.ActBwd.main (F := Bits))) ⟨m, fun _ => 0, g⟩ (fun r => (∀ c : Dev Cert.ActBwd.nD,
      r.2.mem ((c.tc : Thread Cert.ActBwd.nD Cert.ActBwd.τ).loc Cert.ActBwd.main_arg0) = m ((c.tc : Thread Cert.ActBwd.nD Cert.ActBwd.τ).loc Cert.ActBwd.main_arg0)
      ∧ r.2.mem ((c.tc : Thread Cert.ActBwd.nD Cert.ActBwd.τ).loc Cert.ActBwd.main_arg1) = m ((c.tc : Thread Cert.ActBwd.nD Cert.ActBwd.τ).loc Cert.ActBwd.main_arg1)
      ∧ r.2.mem ((c.tc : Thread Cert.ActBwd.nD Cert.ActBwd.τ).loc Cert.ActBwd.main_arg2) = m ((c.tc : Thread Cert.ActBwd.nD Cert.ActBwd.τ).loc Cert.ActBwd.main_arg2)
      ∧ r.2.mem ((c.tc : Thread Cert.ActBwd.nD Cert.ActBwd.τ).loc Cert.ActBwd.main_arg3) = m ((c.tc : Thread Cert.ActBwd.nD Cert.ActBwd.τ).loc Cert.ActBwd.main_arg3)
      ∧ r.2.mem ((c.tc : Thread Cert.ActBwd.nD Cert.ActBwd.τ).loc Cert.ActBwd.main_arg4) = m ((c.tc : Thread Cert.ActBwd.nD Cert.ActBwd.τ).loc Cert.ActBwd.main_arg4)
      ∧ r.2.mem ((c.tc : Thread Cert.ActBwd.nD Cert.ActBwd.τ).loc Cert.ActBwd.main_arg5) = m ((c.tc : Thread Cert.ActBwd.nD Cert.ActBwd.τ).loc Cert.ActBwd.main_arg5)
      ∧ r.2.mem ((c.tc : Thread Cert.ActBwd.nD Cert.ActBwd.τ).loc Cert.ActBwd.main_arg6) = m ((c.tc : Thread Cert.ActBwd.nD Cert.ActBwd.τ).loc Cert.ActBwd.main_arg6))
      ∧ r.2.sem = fun _ => 0)

def quiescent_ActBwdIdeal [hActBwdIdeal : Cert.ActBwdIdeal.Facts] : Prop :=
  ∀ (m : (ℓ : Loc Cert.ActBwdIdeal.nD Cert.ActBwdIdeal.τ Cert.ActBwdIdeal.sig) → Buf (Elt Ideal) ℓ) (g : Dev Cert.ActBwdIdeal.nD → PrngReg), Pre_ActBwdIdeal m →
    θ_run (Cert.ActBwdIdeal.defs (F := Ideal)) (onTc (τ := Cert.ActBwdIdeal.τ) (Cert.ActBwdIdeal.main (F := Ideal))) ⟨m, fun _ => 0, g⟩ (fun r => (∀ c : Dev Cert.ActBwdIdeal.nD,
      r.2.mem ((c.tc : Thread Cert.ActBwdIdeal.nD Cert.ActBwdIdeal.τ).loc Cert.ActBwdIdeal.main_arg0) = m ((c.tc : Thread Cert.ActBwdIdeal.nD Cert.ActBwdIdeal.τ).loc Cert.ActBwdIdeal.main_arg0)
      ∧ r.2.mem ((c.tc : Thread Cert.ActBwdIdeal.nD Cert.ActBwdIdeal.τ).loc Cert.ActBwdIdeal.main_arg1) = m ((c.tc : Thread Cert.ActBwdIdeal.nD Cert.ActBwdIdeal.τ).loc Cert.ActBwdIdeal.main_arg1)
      ∧ r.2.mem ((c.tc : Thread Cert.ActBwdIdeal.nD Cert.ActBwdIdeal.τ).loc Cert.ActBwdIdeal.main_arg2) = m ((c.tc : Thread Cert.ActBwdIdeal.nD Cert.ActBwdIdeal.τ).loc Cert.ActBwdIdeal.main_arg2)
      ∧ r.2.mem ((c.tc : Thread Cert.ActBwdIdeal.nD Cert.ActBwdIdeal.τ).loc Cert.ActBwdIdeal.main_arg3) = m ((c.tc : Thread Cert.ActBwdIdeal.nD Cert.ActBwdIdeal.τ).loc Cert.ActBwdIdeal.main_arg3)
      ∧ r.2.mem ((c.tc : Thread Cert.ActBwdIdeal.nD Cert.ActBwdIdeal.τ).loc Cert.ActBwdIdeal.main_arg4) = m ((c.tc : Thread Cert.ActBwdIdeal.nD Cert.ActBwdIdeal.τ).loc Cert.ActBwdIdeal.main_arg4)
      ∧ r.2.mem ((c.tc : Thread Cert.ActBwdIdeal.nD Cert.ActBwdIdeal.τ).loc Cert.ActBwdIdeal.main_arg5) = m ((c.tc : Thread Cert.ActBwdIdeal.nD Cert.ActBwdIdeal.τ).loc Cert.ActBwdIdeal.main_arg5)
      ∧ r.2.mem ((c.tc : Thread Cert.ActBwdIdeal.nD Cert.ActBwdIdeal.τ).loc Cert.ActBwdIdeal.main_arg6) = m ((c.tc : Thread Cert.ActBwdIdeal.nD Cert.ActBwdIdeal.τ).loc Cert.ActBwdIdeal.main_arg6))
      ∧ r.2.sem = fun _ => 0)

def quiescent_ActBwdIdeal_pre_finite_values [hActBwdIdeal : Cert.ActBwdIdeal.Facts] [hPre_finite_values : Cert.Pre_finite_values.Facts] : Prop :=
  ∀ (m : (ℓ : Loc Cert.ActBwdIdeal.nD Cert.ActBwdIdeal.τ Cert.ActBwdIdeal.sig) → Buf (Elt Ideal) ℓ) (g : Dev Cert.ActBwdIdeal.nD → PrngReg), Pre_ActBwdIdeal_finite_values m →
    θ_run (Cert.ActBwdIdeal.defs (F := Ideal)) (onTc (τ := Cert.ActBwdIdeal.τ) (Cert.ActBwdIdeal.main (F := Ideal))) ⟨m, fun _ => 0, g⟩ (fun r => (∀ c : Dev Cert.ActBwdIdeal.nD,
      r.2.mem ((c.tc : Thread Cert.ActBwdIdeal.nD Cert.ActBwdIdeal.τ).loc Cert.ActBwdIdeal.main_arg0) = m ((c.tc : Thread Cert.ActBwdIdeal.nD Cert.ActBwdIdeal.τ).loc Cert.ActBwdIdeal.main_arg0)
      ∧ r.2.mem ((c.tc : Thread Cert.ActBwdIdeal.nD Cert.ActBwdIdeal.τ).loc Cert.ActBwdIdeal.main_arg1) = m ((c.tc : Thread Cert.ActBwdIdeal.nD Cert.ActBwdIdeal.τ).loc Cert.ActBwdIdeal.main_arg1)
      ∧ r.2.mem ((c.tc : Thread Cert.ActBwdIdeal.nD Cert.ActBwdIdeal.τ).loc Cert.ActBwdIdeal.main_arg2) = m ((c.tc : Thread Cert.ActBwdIdeal.nD Cert.ActBwdIdeal.τ).loc Cert.ActBwdIdeal.main_arg2)
      ∧ r.2.mem ((c.tc : Thread Cert.ActBwdIdeal.nD Cert.ActBwdIdeal.τ).loc Cert.ActBwdIdeal.main_arg3) = m ((c.tc : Thread Cert.ActBwdIdeal.nD Cert.ActBwdIdeal.τ).loc Cert.ActBwdIdeal.main_arg3)
      ∧ r.2.mem ((c.tc : Thread Cert.ActBwdIdeal.nD Cert.ActBwdIdeal.τ).loc Cert.ActBwdIdeal.main_arg4) = m ((c.tc : Thread Cert.ActBwdIdeal.nD Cert.ActBwdIdeal.τ).loc Cert.ActBwdIdeal.main_arg4)
      ∧ r.2.mem ((c.tc : Thread Cert.ActBwdIdeal.nD Cert.ActBwdIdeal.τ).loc Cert.ActBwdIdeal.main_arg5) = m ((c.tc : Thread Cert.ActBwdIdeal.nD Cert.ActBwdIdeal.τ).loc Cert.ActBwdIdeal.main_arg5)
      ∧ r.2.mem ((c.tc : Thread Cert.ActBwdIdeal.nD Cert.ActBwdIdeal.τ).loc Cert.ActBwdIdeal.main_arg6) = m ((c.tc : Thread Cert.ActBwdIdeal.nD Cert.ActBwdIdeal.τ).loc Cert.ActBwdIdeal.main_arg6))
      ∧ r.2.sem = fun _ => 0)

def quiescent_ActBwdRefIdeal [hActBwdRefIdeal : Cert.ActBwdRefIdeal.Facts] : Prop :=
  ∀ (m : (ℓ : Loc Cert.ActBwdRefIdeal.nD Cert.ActBwdRefIdeal.τ Cert.ActBwdRefIdeal.sig) → Buf (Elt Ideal) ℓ) (g : Dev Cert.ActBwdRefIdeal.nD → PrngReg), Pre_ActBwdRefIdeal m →
    θ_run (Cert.ActBwdRefIdeal.defs (F := Ideal)) (onTc (τ := Cert.ActBwdRefIdeal.τ) (Cert.ActBwdRefIdeal.main (F := Ideal))) ⟨m, fun _ => 0, g⟩ (fun r => (∀ c : Dev Cert.ActBwdRefIdeal.nD,
      r.2.mem ((c.tc : Thread Cert.ActBwdRefIdeal.nD Cert.ActBwdRefIdeal.τ).loc Cert.ActBwdRefIdeal.main_arg0) = m ((c.tc : Thread Cert.ActBwdRefIdeal.nD Cert.ActBwdRefIdeal.τ).loc Cert.ActBwdRefIdeal.main_arg0)
      ∧ r.2.mem ((c.tc : Thread Cert.ActBwdRefIdeal.nD Cert.ActBwdRefIdeal.τ).loc Cert.ActBwdRefIdeal.main_arg1) = m ((c.tc : Thread Cert.ActBwdRefIdeal.nD Cert.ActBwdRefIdeal.τ).loc Cert.ActBwdRefIdeal.main_arg1)
      ∧ r.2.mem ((c.tc : Thread Cert.ActBwdRefIdeal.nD Cert.ActBwdRefIdeal.τ).loc Cert.ActBwdRefIdeal.main_arg2) = m ((c.tc : Thread Cert.ActBwdRefIdeal.nD Cert.ActBwdRefIdeal.τ).loc Cert.ActBwdRefIdeal.main_arg2)
      ∧ r.2.mem ((c.tc : Thread Cert.ActBwdRefIdeal.nD Cert.ActBwdRefIdeal.τ).loc Cert.ActBwdRefIdeal.main_arg3) = m ((c.tc : Thread Cert.ActBwdRefIdeal.nD Cert.ActBwdRefIdeal.τ).loc Cert.ActBwdRefIdeal.main_arg3)
      ∧ r.2.mem ((c.tc : Thread Cert.ActBwdRefIdeal.nD Cert.ActBwdRefIdeal.τ).loc Cert.ActBwdRefIdeal.main_arg4) = m ((c.tc : Thread Cert.ActBwdRefIdeal.nD Cert.ActBwdRefIdeal.τ).loc Cert.ActBwdRefIdeal.main_arg4)
      ∧ r.2.mem ((c.tc : Thread Cert.ActBwdRefIdeal.nD Cert.ActBwdRefIdeal.τ).loc Cert.ActBwdRefIdeal.main_arg5) = m ((c.tc : Thread Cert.ActBwdRefIdeal.nD Cert.ActBwdRefIdeal.τ).loc Cert.ActBwdRefIdeal.main_arg5)
      ∧ r.2.mem ((c.tc : Thread Cert.ActBwdRefIdeal.nD Cert.ActBwdRefIdeal.τ).loc Cert.ActBwdRefIdeal.main_arg6) = m ((c.tc : Thread Cert.ActBwdRefIdeal.nD Cert.ActBwdRefIdeal.τ).loc Cert.ActBwdRefIdeal.main_arg6))
      ∧ r.2.sem = fun _ => 0)

def quiescent_ActBwdRefIdeal_pre_finite_values [hActBwdRefIdeal : Cert.ActBwdRefIdeal.Facts] [hPre_finite_values : Cert.Pre_finite_values.Facts] : Prop :=
  ∀ (m : (ℓ : Loc Cert.ActBwdRefIdeal.nD Cert.ActBwdRefIdeal.τ Cert.ActBwdRefIdeal.sig) → Buf (Elt Ideal) ℓ) (g : Dev Cert.ActBwdRefIdeal.nD → PrngReg), Pre_ActBwdRefIdeal_finite_values m →
    θ_run (Cert.ActBwdRefIdeal.defs (F := Ideal)) (onTc (τ := Cert.ActBwdRefIdeal.τ) (Cert.ActBwdRefIdeal.main (F := Ideal))) ⟨m, fun _ => 0, g⟩ (fun r => (∀ c : Dev Cert.ActBwdRefIdeal.nD,
      r.2.mem ((c.tc : Thread Cert.ActBwdRefIdeal.nD Cert.ActBwdRefIdeal.τ).loc Cert.ActBwdRefIdeal.main_arg0) = m ((c.tc : Thread Cert.ActBwdRefIdeal.nD Cert.ActBwdRefIdeal.τ).loc Cert.ActBwdRefIdeal.main_arg0)
      ∧ r.2.mem ((c.tc : Thread Cert.ActBwdRefIdeal.nD Cert.ActBwdRefIdeal.τ).loc Cert.ActBwdRefIdeal.main_arg1) = m ((c.tc : Thread Cert.ActBwdRefIdeal.nD Cert.ActBwdRefIdeal.τ).loc Cert.ActBwdRefIdeal.main_arg1)
      ∧ r.2.mem ((c.tc : Thread Cert.ActBwdRefIdeal.nD Cert.ActBwdRefIdeal.τ).loc Cert.ActBwdRefIdeal.main_arg2) = m ((c.tc : Thread Cert.ActBwdRefIdeal.nD Cert.ActBwdRefIdeal.τ).loc Cert.ActBwdRefIdeal.main_arg2)
      ∧ r.2.mem ((c.tc : Thread Cert.ActBwdRefIdeal.nD Cert.ActBwdRefIdeal.τ).loc Cert.ActBwdRefIdeal.main_arg3) = m ((c.tc : Thread Cert.ActBwdRefIdeal.nD Cert.ActBwdRefIdeal.τ).loc Cert.ActBwdRefIdeal.main_arg3)
      ∧ r.2.mem ((c.tc : Thread Cert.ActBwdRefIdeal.nD Cert.ActBwdRefIdeal.τ).loc Cert.ActBwdRefIdeal.main_arg4) = m ((c.tc : Thread Cert.ActBwdRefIdeal.nD Cert.ActBwdRefIdeal.τ).loc Cert.ActBwdRefIdeal.main_arg4)
      ∧ r.2.mem ((c.tc : Thread Cert.ActBwdRefIdeal.nD Cert.ActBwdRefIdeal.τ).loc Cert.ActBwdRefIdeal.main_arg5) = m ((c.tc : Thread Cert.ActBwdRefIdeal.nD Cert.ActBwdRefIdeal.τ).loc Cert.ActBwdRefIdeal.main_arg5)
      ∧ r.2.mem ((c.tc : Thread Cert.ActBwdRefIdeal.nD Cert.ActBwdRefIdeal.τ).loc Cert.ActBwdRefIdeal.main_arg6) = m ((c.tc : Thread Cert.ActBwdRefIdeal.nD Cert.ActBwdRefIdeal.τ).loc Cert.ActBwdRefIdeal.main_arg6))
      ∧ r.2.sem = fun _ => 0)

def quiescent_ActFwd [hActFwd : Cert.ActFwd.Facts] : Prop :=
  ∀ (m : (ℓ : Loc Cert.ActFwd.nD Cert.ActFwd.τ Cert.ActFwd.sig) → Buf (Elt Bits) ℓ) (g : Dev Cert.ActFwd.nD → PrngReg), Pre_ActFwd m →
    θ_run (Cert.ActFwd.defs (F := Bits)) (onTc (τ := Cert.ActFwd.τ) (Cert.ActFwd.main (F := Bits))) ⟨m, fun _ => 0, g⟩ (fun r => (∀ c : Dev Cert.ActFwd.nD,
      r.2.mem ((c.tc : Thread Cert.ActFwd.nD Cert.ActFwd.τ).loc Cert.ActFwd.main_arg0) = m ((c.tc : Thread Cert.ActFwd.nD Cert.ActFwd.τ).loc Cert.ActFwd.main_arg0)
      ∧ r.2.mem ((c.tc : Thread Cert.ActFwd.nD Cert.ActFwd.τ).loc Cert.ActFwd.main_arg1) = m ((c.tc : Thread Cert.ActFwd.nD Cert.ActFwd.τ).loc Cert.ActFwd.main_arg1)
      ∧ r.2.mem ((c.tc : Thread Cert.ActFwd.nD Cert.ActFwd.τ).loc Cert.ActFwd.main_arg2) = m ((c.tc : Thread Cert.ActFwd.nD Cert.ActFwd.τ).loc Cert.ActFwd.main_arg2)
      ∧ r.2.mem ((c.tc : Thread Cert.ActFwd.nD Cert.ActFwd.τ).loc Cert.ActFwd.main_arg3) = m ((c.tc : Thread Cert.ActFwd.nD Cert.ActFwd.τ).loc Cert.ActFwd.main_arg3)
      ∧ r.2.mem ((c.tc : Thread Cert.ActFwd.nD Cert.ActFwd.τ).loc Cert.ActFwd.main_arg4) = m ((c.tc : Thread Cert.ActFwd.nD Cert.ActFwd.τ).loc Cert.ActFwd.main_arg4)
      ∧ r.2.mem ((c.tc : Thread Cert.ActFwd.nD Cert.ActFwd.τ).loc Cert.ActFwd.main_arg5) = m ((c.tc : Thread Cert.ActFwd.nD Cert.ActFwd.τ).loc Cert.ActFwd.main_arg5))
      ∧ r.2.sem = fun _ => 0)

def quiescent_ActFwdIdeal [hActFwdIdeal : Cert.ActFwdIdeal.Facts] : Prop :=
  ∀ (m : (ℓ : Loc Cert.ActFwdIdeal.nD Cert.ActFwdIdeal.τ Cert.ActFwdIdeal.sig) → Buf (Elt Ideal) ℓ) (g : Dev Cert.ActFwdIdeal.nD → PrngReg), Pre_ActFwdIdeal m →
    θ_run (Cert.ActFwdIdeal.defs (F := Ideal)) (onTc (τ := Cert.ActFwdIdeal.τ) (Cert.ActFwdIdeal.main (F := Ideal))) ⟨m, fun _ => 0, g⟩ (fun r => (∀ c : Dev Cert.ActFwdIdeal.nD,
      r.2.mem ((c.tc : Thread Cert.ActFwdIdeal.nD Cert.ActFwdIdeal.τ).loc Cert.ActFwdIdeal.main_arg0) = m ((c.tc : Thread Cert.ActFwdIdeal.nD Cert.ActFwdIdeal.τ).loc Cert.ActFwdIdeal.main_arg0)
      ∧ r.2.mem ((c.tc : Thread Cert.ActFwdIdeal.nD Cert.ActFwdIdeal.τ).loc Cert.ActFwdIdeal.main_arg1) = m ((c.tc : Thread Cert.ActFwdIdeal.nD Cert.ActFwdIdeal.τ).loc Cert.ActFwdIdeal.main_arg1)
      ∧ r.2.mem ((c.tc : Thread Cert.ActFwdIdeal.nD Cert.ActFwdIdeal.τ).loc Cert.ActFwdIdeal.main_arg2) = m ((c.tc : Thread Cert.ActFwdIdeal.nD Cert.ActFwdIdeal.τ).loc Cert.ActFwdIdeal.main_arg2)
      ∧ r.2.mem ((c.tc : Thread Cert.ActFwdIdeal.nD Cert.ActFwdIdeal.τ).loc Cert.ActFwdIdeal.main_arg3) = m ((c.tc : Thread Cert.ActFwdIdeal.nD Cert.ActFwdIdeal.τ).loc Cert.ActFwdIdeal.main_arg3)
      ∧ r.2.mem ((c.tc : Thread Cert.ActFwdIdeal.nD Cert.ActFwdIdeal.τ).loc Cert.ActFwdIdeal.main_arg4) = m ((c.tc : Thread Cert.ActFwdIdeal.nD Cert.ActFwdIdeal.τ).loc Cert.ActFwdIdeal.main_arg4)
      ∧ r.2.mem ((c.tc : Thread Cert.ActFwdIdeal.nD Cert.ActFwdIdeal.τ).loc Cert.ActFwdIdeal.main_arg5) = m ((c.tc : Thread Cert.ActFwdIdeal.nD Cert.ActFwdIdeal.τ).loc Cert.ActFwdIdeal.main_arg5))
      ∧ r.2.sem = fun _ => 0)

def quiescent_ActFwdRefIdeal [hActFwdRefIdeal : Cert.ActFwdRefIdeal.Facts] : Prop :=
  ∀ (m : (ℓ : Loc Cert.ActFwdRefIdeal.nD Cert.ActFwdRefIdeal.τ Cert.ActFwdRefIdeal.sig) → Buf (Elt Ideal) ℓ) (g : Dev Cert.ActFwdRefIdeal.nD → PrngReg), Pre_ActFwdRefIdeal m →
    θ_run (Cert.ActFwdRefIdeal.defs (F := Ideal)) (onTc (τ := Cert.ActFwdRefIdeal.τ) (Cert.ActFwdRefIdeal.main (F := Ideal))) ⟨m, fun _ => 0, g⟩ (fun r => (∀ c : Dev Cert.ActFwdRefIdeal.nD,
      r.2.mem ((c.tc : Thread Cert.ActFwdRefIdeal.nD Cert.ActFwdRefIdeal.τ).loc Cert.ActFwdRefIdeal.main_arg0) = m ((c.tc : Thread Cert.ActFwdRefIdeal.nD Cert.ActFwdRefIdeal.τ).loc Cert.ActFwdRefIdeal.main_arg0)
      ∧ r.2.mem ((c.tc : Thread Cert.ActFwdRefIdeal.nD Cert.ActFwdRefIdeal.τ).loc Cert.ActFwdRefIdeal.main_arg1) = m ((c.tc : Thread Cert.ActFwdRefIdeal.nD Cert.ActFwdRefIdeal.τ).loc Cert.ActFwdRefIdeal.main_arg1)
      ∧ r.2.mem ((c.tc : Thread Cert.ActFwdRefIdeal.nD Cert.ActFwdRefIdeal.τ).loc Cert.ActFwdRefIdeal.main_arg2) = m ((c.tc : Thread Cert.ActFwdRefIdeal.nD Cert.ActFwdRefIdeal.τ).loc Cert.ActFwdRefIdeal.main_arg2)
      ∧ r.2.mem ((c.tc : Thread Cert.ActFwdRefIdeal.nD Cert.ActFwdRefIdeal.τ).loc Cert.ActFwdRefIdeal.main_arg3) = m ((c.tc : Thread Cert.ActFwdRefIdeal.nD Cert.ActFwdRefIdeal.τ).loc Cert.ActFwdRefIdeal.main_arg3)
      ∧ r.2.mem ((c.tc : Thread Cert.ActFwdRefIdeal.nD Cert.ActFwdRefIdeal.τ).loc Cert.ActFwdRefIdeal.main_arg4) = m ((c.tc : Thread Cert.ActFwdRefIdeal.nD Cert.ActFwdRefIdeal.τ).loc Cert.ActFwdRefIdeal.main_arg4)
      ∧ r.2.mem ((c.tc : Thread Cert.ActFwdRefIdeal.nD Cert.ActFwdRefIdeal.τ).loc Cert.ActFwdRefIdeal.main_arg5) = m ((c.tc : Thread Cert.ActFwdRefIdeal.nD Cert.ActFwdRefIdeal.τ).loc Cert.ActFwdRefIdeal.main_arg5))
      ∧ r.2.sem = fun _ => 0)

def quiescent_PreBwd [hPreBwd : Cert.PreBwd.Facts] : Prop :=
  ∀ (m : (ℓ : Loc Cert.PreBwd.nD Cert.PreBwd.τ Cert.PreBwd.sig) → Buf (Elt Bits) ℓ) (g : Dev Cert.PreBwd.nD → PrngReg), Pre_PreBwd m →
    θ_run (Cert.PreBwd.defs (F := Bits)) (onTc (τ := Cert.PreBwd.τ) (Cert.PreBwd.main (F := Bits))) ⟨m, fun _ => 0, g⟩ (fun r => (∀ c : Dev Cert.PreBwd.nD,
      r.2.mem ((c.tc : Thread Cert.PreBwd.nD Cert.PreBwd.τ).loc Cert.PreBwd.main_arg0) = m ((c.tc : Thread Cert.PreBwd.nD Cert.PreBwd.τ).loc Cert.PreBwd.main_arg0)
      ∧ r.2.mem ((c.tc : Thread Cert.PreBwd.nD Cert.PreBwd.τ).loc Cert.PreBwd.main_arg1) = m ((c.tc : Thread Cert.PreBwd.nD Cert.PreBwd.τ).loc Cert.PreBwd.main_arg1)
      ∧ r.2.mem ((c.tc : Thread Cert.PreBwd.nD Cert.PreBwd.τ).loc Cert.PreBwd.main_arg2) = m ((c.tc : Thread Cert.PreBwd.nD Cert.PreBwd.τ).loc Cert.PreBwd.main_arg2))
      ∧ r.2.sem = fun _ => 0)

def quiescent_PreBwdIdeal [hPreBwdIdeal : Cert.PreBwdIdeal.Facts] : Prop :=
  ∀ (m : (ℓ : Loc Cert.PreBwdIdeal.nD Cert.PreBwdIdeal.τ Cert.PreBwdIdeal.sig) → Buf (Elt Ideal) ℓ) (g : Dev Cert.PreBwdIdeal.nD → PrngReg), Pre_PreBwdIdeal m →
    θ_run (Cert.PreBwdIdeal.defs (F := Ideal)) (onTc (τ := Cert.PreBwdIdeal.τ) (Cert.PreBwdIdeal.main (F := Ideal))) ⟨m, fun _ => 0, g⟩ (fun r => (∀ c : Dev Cert.PreBwdIdeal.nD,
      r.2.mem ((c.tc : Thread Cert.PreBwdIdeal.nD Cert.PreBwdIdeal.τ).loc Cert.PreBwdIdeal.main_arg0) = m ((c.tc : Thread Cert.PreBwdIdeal.nD Cert.PreBwdIdeal.τ).loc Cert.PreBwdIdeal.main_arg0)
      ∧ r.2.mem ((c.tc : Thread Cert.PreBwdIdeal.nD Cert.PreBwdIdeal.τ).loc Cert.PreBwdIdeal.main_arg1) = m ((c.tc : Thread Cert.PreBwdIdeal.nD Cert.PreBwdIdeal.τ).loc Cert.PreBwdIdeal.main_arg1)
      ∧ r.2.mem ((c.tc : Thread Cert.PreBwdIdeal.nD Cert.PreBwdIdeal.τ).loc Cert.PreBwdIdeal.main_arg2) = m ((c.tc : Thread Cert.PreBwdIdeal.nD Cert.PreBwdIdeal.τ).loc Cert.PreBwdIdeal.main_arg2))
      ∧ r.2.sem = fun _ => 0)

def quiescent_PreBwdIdeal_pre_finite_cotangent [hPreBwdIdeal : Cert.PreBwdIdeal.Facts] [hPre_finite_cotangent : Cert.Pre_finite_cotangent.Facts] : Prop :=
  ∀ (m : (ℓ : Loc Cert.PreBwdIdeal.nD Cert.PreBwdIdeal.τ Cert.PreBwdIdeal.sig) → Buf (Elt Ideal) ℓ) (g : Dev Cert.PreBwdIdeal.nD → PrngReg), Pre_PreBwdIdeal_finite_cotangent m →
    θ_run (Cert.PreBwdIdeal.defs (F := Ideal)) (onTc (τ := Cert.PreBwdIdeal.τ) (Cert.PreBwdIdeal.main (F := Ideal))) ⟨m, fun _ => 0, g⟩ (fun r => (∀ c : Dev Cert.PreBwdIdeal.nD,
      r.2.mem ((c.tc : Thread Cert.PreBwdIdeal.nD Cert.PreBwdIdeal.τ).loc Cert.PreBwdIdeal.main_arg0) = m ((c.tc : Thread Cert.PreBwdIdeal.nD Cert.PreBwdIdeal.τ).loc Cert.PreBwdIdeal.main_arg0)
      ∧ r.2.mem ((c.tc : Thread Cert.PreBwdIdeal.nD Cert.PreBwdIdeal.τ).loc Cert.PreBwdIdeal.main_arg1) = m ((c.tc : Thread Cert.PreBwdIdeal.nD Cert.PreBwdIdeal.τ).loc Cert.PreBwdIdeal.main_arg1)
      ∧ r.2.mem ((c.tc : Thread Cert.PreBwdIdeal.nD Cert.PreBwdIdeal.τ).loc Cert.PreBwdIdeal.main_arg2) = m ((c.tc : Thread Cert.PreBwdIdeal.nD Cert.PreBwdIdeal.τ).loc Cert.PreBwdIdeal.main_arg2))
      ∧ r.2.sem = fun _ => 0)

def quiescent_PreBwdRefIdeal [hPreBwdRefIdeal : Cert.PreBwdRefIdeal.Facts] : Prop :=
  ∀ (m : (ℓ : Loc Cert.PreBwdRefIdeal.nD Cert.PreBwdRefIdeal.τ Cert.PreBwdRefIdeal.sig) → Buf (Elt Ideal) ℓ) (g : Dev Cert.PreBwdRefIdeal.nD → PrngReg), Pre_PreBwdRefIdeal m →
    θ_run (Cert.PreBwdRefIdeal.defs (F := Ideal)) (onTc (τ := Cert.PreBwdRefIdeal.τ) (Cert.PreBwdRefIdeal.main (F := Ideal))) ⟨m, fun _ => 0, g⟩ (fun r => (∀ c : Dev Cert.PreBwdRefIdeal.nD,
      r.2.mem ((c.tc : Thread Cert.PreBwdRefIdeal.nD Cert.PreBwdRefIdeal.τ).loc Cert.PreBwdRefIdeal.main_arg0) = m ((c.tc : Thread Cert.PreBwdRefIdeal.nD Cert.PreBwdRefIdeal.τ).loc Cert.PreBwdRefIdeal.main_arg0)
      ∧ r.2.mem ((c.tc : Thread Cert.PreBwdRefIdeal.nD Cert.PreBwdRefIdeal.τ).loc Cert.PreBwdRefIdeal.main_arg1) = m ((c.tc : Thread Cert.PreBwdRefIdeal.nD Cert.PreBwdRefIdeal.τ).loc Cert.PreBwdRefIdeal.main_arg1)
      ∧ r.2.mem ((c.tc : Thread Cert.PreBwdRefIdeal.nD Cert.PreBwdRefIdeal.τ).loc Cert.PreBwdRefIdeal.main_arg2) = m ((c.tc : Thread Cert.PreBwdRefIdeal.nD Cert.PreBwdRefIdeal.τ).loc Cert.PreBwdRefIdeal.main_arg2))
      ∧ r.2.sem = fun _ => 0)

def quiescent_PreBwdRefIdeal_pre_finite_cotangent [hPreBwdRefIdeal : Cert.PreBwdRefIdeal.Facts] [hPre_finite_cotangent : Cert.Pre_finite_cotangent.Facts] : Prop :=
  ∀ (m : (ℓ : Loc Cert.PreBwdRefIdeal.nD Cert.PreBwdRefIdeal.τ Cert.PreBwdRefIdeal.sig) → Buf (Elt Ideal) ℓ) (g : Dev Cert.PreBwdRefIdeal.nD → PrngReg), Pre_PreBwdRefIdeal_finite_cotangent m →
    θ_run (Cert.PreBwdRefIdeal.defs (F := Ideal)) (onTc (τ := Cert.PreBwdRefIdeal.τ) (Cert.PreBwdRefIdeal.main (F := Ideal))) ⟨m, fun _ => 0, g⟩ (fun r => (∀ c : Dev Cert.PreBwdRefIdeal.nD,
      r.2.mem ((c.tc : Thread Cert.PreBwdRefIdeal.nD Cert.PreBwdRefIdeal.τ).loc Cert.PreBwdRefIdeal.main_arg0) = m ((c.tc : Thread Cert.PreBwdRefIdeal.nD Cert.PreBwdRefIdeal.τ).loc Cert.PreBwdRefIdeal.main_arg0)
      ∧ r.2.mem ((c.tc : Thread Cert.PreBwdRefIdeal.nD Cert.PreBwdRefIdeal.τ).loc Cert.PreBwdRefIdeal.main_arg1) = m ((c.tc : Thread Cert.PreBwdRefIdeal.nD Cert.PreBwdRefIdeal.τ).loc Cert.PreBwdRefIdeal.main_arg1)
      ∧ r.2.mem ((c.tc : Thread Cert.PreBwdRefIdeal.nD Cert.PreBwdRefIdeal.τ).loc Cert.PreBwdRefIdeal.main_arg2) = m ((c.tc : Thread Cert.PreBwdRefIdeal.nD Cert.PreBwdRefIdeal.τ).loc Cert.PreBwdRefIdeal.main_arg2))
      ∧ r.2.sem = fun _ => 0)

def quiescent_PreFwd [hPreFwd : Cert.PreFwd.Facts] : Prop :=
  ∀ (m : (ℓ : Loc Cert.PreFwd.nD Cert.PreFwd.τ Cert.PreFwd.sig) → Buf (Elt Bits) ℓ) (g : Dev Cert.PreFwd.nD → PrngReg), Pre_PreFwd m →
    θ_run (Cert.PreFwd.defs (F := Bits)) (onTc (τ := Cert.PreFwd.τ) (Cert.PreFwd.main (F := Bits))) ⟨m, fun _ => 0, g⟩ (fun r => (∀ c : Dev Cert.PreFwd.nD,
      r.2.mem ((c.tc : Thread Cert.PreFwd.nD Cert.PreFwd.τ).loc Cert.PreFwd.main_arg0) = m ((c.tc : Thread Cert.PreFwd.nD Cert.PreFwd.τ).loc Cert.PreFwd.main_arg0)
      ∧ r.2.mem ((c.tc : Thread Cert.PreFwd.nD Cert.PreFwd.τ).loc Cert.PreFwd.main_arg1) = m ((c.tc : Thread Cert.PreFwd.nD Cert.PreFwd.τ).loc Cert.PreFwd.main_arg1))
      ∧ r.2.sem = fun _ => 0)

def quiescent_PreFwdIdeal [hPreFwdIdeal : Cert.PreFwdIdeal.Facts] : Prop :=
  ∀ (m : (ℓ : Loc Cert.PreFwdIdeal.nD Cert.PreFwdIdeal.τ Cert.PreFwdIdeal.sig) → Buf (Elt Ideal) ℓ) (g : Dev Cert.PreFwdIdeal.nD → PrngReg), Pre_PreFwdIdeal m →
    θ_run (Cert.PreFwdIdeal.defs (F := Ideal)) (onTc (τ := Cert.PreFwdIdeal.τ) (Cert.PreFwdIdeal.main (F := Ideal))) ⟨m, fun _ => 0, g⟩ (fun r => (∀ c : Dev Cert.PreFwdIdeal.nD,
      r.2.mem ((c.tc : Thread Cert.PreFwdIdeal.nD Cert.PreFwdIdeal.τ).loc Cert.PreFwdIdeal.main_arg0) = m ((c.tc : Thread Cert.PreFwdIdeal.nD Cert.PreFwdIdeal.τ).loc Cert.PreFwdIdeal.main_arg0)
      ∧ r.2.mem ((c.tc : Thread Cert.PreFwdIdeal.nD Cert.PreFwdIdeal.τ).loc Cert.PreFwdIdeal.main_arg1) = m ((c.tc : Thread Cert.PreFwdIdeal.nD Cert.PreFwdIdeal.τ).loc Cert.PreFwdIdeal.main_arg1))
      ∧ r.2.sem = fun _ => 0)

def quiescent_PreFwdRefIdeal [hPreFwdRefIdeal : Cert.PreFwdRefIdeal.Facts] : Prop :=
  ∀ (m : (ℓ : Loc Cert.PreFwdRefIdeal.nD Cert.PreFwdRefIdeal.τ Cert.PreFwdRefIdeal.sig) → Buf (Elt Ideal) ℓ) (g : Dev Cert.PreFwdRefIdeal.nD → PrngReg), Pre_PreFwdRefIdeal m →
    θ_run (Cert.PreFwdRefIdeal.defs (F := Ideal)) (onTc (τ := Cert.PreFwdRefIdeal.τ) (Cert.PreFwdRefIdeal.main (F := Ideal))) ⟨m, fun _ => 0, g⟩ (fun r => (∀ c : Dev Cert.PreFwdRefIdeal.nD,
      r.2.mem ((c.tc : Thread Cert.PreFwdRefIdeal.nD Cert.PreFwdRefIdeal.τ).loc Cert.PreFwdRefIdeal.main_arg0) = m ((c.tc : Thread Cert.PreFwdRefIdeal.nD Cert.PreFwdRefIdeal.τ).loc Cert.PreFwdRefIdeal.main_arg0)
      ∧ r.2.mem ((c.tc : Thread Cert.PreFwdRefIdeal.nD Cert.PreFwdRefIdeal.τ).loc Cert.PreFwdRefIdeal.main_arg1) = m ((c.tc : Thread Cert.PreFwdRefIdeal.nD Cert.PreFwdRefIdeal.τ).loc Cert.PreFwdRefIdeal.main_arg1))
      ∧ r.2.sem = fun _ => 0)

def quiescent_TailDw [hTailDw : Cert.TailDw.Facts] : Prop :=
  ∀ (m : (ℓ : Loc Cert.TailDw.nD Cert.TailDw.τ Cert.TailDw.sig) → Buf (Elt Bits) ℓ) (g : Dev Cert.TailDw.nD → PrngReg), Pre_TailDw m →
    θ_run (Cert.TailDw.defs (F := Bits)) (onTc (τ := Cert.TailDw.τ) (Cert.TailDw.main (F := Bits))) ⟨m, fun _ => 0, g⟩ (fun r => (∀ c : Dev Cert.TailDw.nD,
      r.2.mem ((c.tc : Thread Cert.TailDw.nD Cert.TailDw.τ).loc Cert.TailDw.main_arg0) = m ((c.tc : Thread Cert.TailDw.nD Cert.TailDw.τ).loc Cert.TailDw.main_arg0)
      ∧ r.2.mem ((c.tc : Thread Cert.TailDw.nD Cert.TailDw.τ).loc Cert.TailDw.main_arg1) = m ((c.tc : Thread Cert.TailDw.nD Cert.TailDw.τ).loc Cert.TailDw.main_arg1))
      ∧ r.2.sem = fun _ => 0)

def quiescent_TailDwIdeal [hTailDwIdeal : Cert.TailDwIdeal.Facts] : Prop :=
  ∀ (m : (ℓ : Loc Cert.TailDwIdeal.nD Cert.TailDwIdeal.τ Cert.TailDwIdeal.sig) → Buf (Elt Ideal) ℓ) (g : Dev Cert.TailDwIdeal.nD → PrngReg), Pre_TailDwIdeal m →
    θ_run (Cert.TailDwIdeal.defs (F := Ideal)) (onTc (τ := Cert.TailDwIdeal.τ) (Cert.TailDwIdeal.main (F := Ideal))) ⟨m, fun _ => 0, g⟩ (fun r => (∀ c : Dev Cert.TailDwIdeal.nD,
      r.2.mem ((c.tc : Thread Cert.TailDwIdeal.nD Cert.TailDwIdeal.τ).loc Cert.TailDwIdeal.main_arg0) = m ((c.tc : Thread Cert.TailDwIdeal.nD Cert.TailDwIdeal.τ).loc Cert.TailDwIdeal.main_arg0)
      ∧ r.2.mem ((c.tc : Thread Cert.TailDwIdeal.nD Cert.TailDwIdeal.τ).loc Cert.TailDwIdeal.main_arg1) = m ((c.tc : Thread Cert.TailDwIdeal.nD Cert.TailDwIdeal.τ).loc Cert.TailDwIdeal.main_arg1))
      ∧ r.2.sem = fun _ => 0)

def quiescent_TailDwRefIdeal [hTailDwRefIdeal : Cert.TailDwRefIdeal.Facts] : Prop :=
  ∀ (m : (ℓ : Loc Cert.TailDwRefIdeal.nD Cert.TailDwRefIdeal.τ Cert.TailDwRefIdeal.sig) → Buf (Elt Ideal) ℓ) (g : Dev Cert.TailDwRefIdeal.nD → PrngReg), Pre_TailDwRefIdeal m →
    θ_run (Cert.TailDwRefIdeal.defs (F := Ideal)) (onTc (τ := Cert.TailDwRefIdeal.τ) (Cert.TailDwRefIdeal.main (F := Ideal))) ⟨m, fun _ => 0, g⟩ (fun r => (∀ c : Dev Cert.TailDwRefIdeal.nD,
      r.2.mem ((c.tc : Thread Cert.TailDwRefIdeal.nD Cert.TailDwRefIdeal.τ).loc Cert.TailDwRefIdeal.main_arg0) = m ((c.tc : Thread Cert.TailDwRefIdeal.nD Cert.TailDwRefIdeal.τ).loc Cert.TailDwRefIdeal.main_arg0)
      ∧ r.2.mem ((c.tc : Thread Cert.TailDwRefIdeal.nD Cert.TailDwRefIdeal.τ).loc Cert.TailDwRefIdeal.main_arg1) = m ((c.tc : Thread Cert.TailDwRefIdeal.nD Cert.TailDwRefIdeal.τ).loc Cert.TailDwRefIdeal.main_arg1))
      ∧ r.2.sem = fun _ => 0)

def quiescent_TailDx [hTailDx : Cert.TailDx.Facts] : Prop :=
  ∀ (m : (ℓ : Loc Cert.TailDx.nD Cert.TailDx.τ Cert.TailDx.sig) → Buf (Elt Bits) ℓ) (g : Dev Cert.TailDx.nD → PrngReg), Pre_TailDx m →
    θ_run (Cert.TailDx.defs (F := Bits)) (onTc (τ := Cert.TailDx.τ) (Cert.TailDx.main (F := Bits))) ⟨m, fun _ => 0, g⟩ (fun r => (∀ c : Dev Cert.TailDx.nD,
      r.2.mem ((c.tc : Thread Cert.TailDx.nD Cert.TailDx.τ).loc Cert.TailDx.main_arg0) = m ((c.tc : Thread Cert.TailDx.nD Cert.TailDx.τ).loc Cert.TailDx.main_arg0)
      ∧ r.2.mem ((c.tc : Thread Cert.TailDx.nD Cert.TailDx.τ).loc Cert.TailDx.main_arg1) = m ((c.tc : Thread Cert.TailDx.nD Cert.TailDx.τ).loc Cert.TailDx.main_arg1)
      ∧ r.2.mem ((c.tc : Thread Cert.TailDx.nD Cert.TailDx.τ).loc Cert.TailDx.main_arg2) = m ((c.tc : Thread Cert.TailDx.nD Cert.TailDx.τ).loc Cert.TailDx.main_arg2))
      ∧ r.2.sem = fun _ => 0)

def quiescent_TailDxIdeal [hTailDxIdeal : Cert.TailDxIdeal.Facts] : Prop :=
  ∀ (m : (ℓ : Loc Cert.TailDxIdeal.nD Cert.TailDxIdeal.τ Cert.TailDxIdeal.sig) → Buf (Elt Ideal) ℓ) (g : Dev Cert.TailDxIdeal.nD → PrngReg), Pre_TailDxIdeal m →
    θ_run (Cert.TailDxIdeal.defs (F := Ideal)) (onTc (τ := Cert.TailDxIdeal.τ) (Cert.TailDxIdeal.main (F := Ideal))) ⟨m, fun _ => 0, g⟩ (fun r => (∀ c : Dev Cert.TailDxIdeal.nD,
      r.2.mem ((c.tc : Thread Cert.TailDxIdeal.nD Cert.TailDxIdeal.τ).loc Cert.TailDxIdeal.main_arg0) = m ((c.tc : Thread Cert.TailDxIdeal.nD Cert.TailDxIdeal.τ).loc Cert.TailDxIdeal.main_arg0)
      ∧ r.2.mem ((c.tc : Thread Cert.TailDxIdeal.nD Cert.TailDxIdeal.τ).loc Cert.TailDxIdeal.main_arg1) = m ((c.tc : Thread Cert.TailDxIdeal.nD Cert.TailDxIdeal.τ).loc Cert.TailDxIdeal.main_arg1)
      ∧ r.2.mem ((c.tc : Thread Cert.TailDxIdeal.nD Cert.TailDxIdeal.τ).loc Cert.TailDxIdeal.main_arg2) = m ((c.tc : Thread Cert.TailDxIdeal.nD Cert.TailDxIdeal.τ).loc Cert.TailDxIdeal.main_arg2))
      ∧ r.2.sem = fun _ => 0)

def quiescent_TailDxRefIdeal [hTailDxRefIdeal : Cert.TailDxRefIdeal.Facts] : Prop :=
  ∀ (m : (ℓ : Loc Cert.TailDxRefIdeal.nD Cert.TailDxRefIdeal.τ Cert.TailDxRefIdeal.sig) → Buf (Elt Ideal) ℓ) (g : Dev Cert.TailDxRefIdeal.nD → PrngReg), Pre_TailDxRefIdeal m →
    θ_run (Cert.TailDxRefIdeal.defs (F := Ideal)) (onTc (τ := Cert.TailDxRefIdeal.τ) (Cert.TailDxRefIdeal.main (F := Ideal))) ⟨m, fun _ => 0, g⟩ (fun r => (∀ c : Dev Cert.TailDxRefIdeal.nD,
      r.2.mem ((c.tc : Thread Cert.TailDxRefIdeal.nD Cert.TailDxRefIdeal.τ).loc Cert.TailDxRefIdeal.main_arg0) = m ((c.tc : Thread Cert.TailDxRefIdeal.nD Cert.TailDxRefIdeal.τ).loc Cert.TailDxRefIdeal.main_arg0)
      ∧ r.2.mem ((c.tc : Thread Cert.TailDxRefIdeal.nD Cert.TailDxRefIdeal.τ).loc Cert.TailDxRefIdeal.main_arg1) = m ((c.tc : Thread Cert.TailDxRefIdeal.nD Cert.TailDxRefIdeal.τ).loc Cert.TailDxRefIdeal.main_arg1)
      ∧ r.2.mem ((c.tc : Thread Cert.TailDxRefIdeal.nD Cert.TailDxRefIdeal.τ).loc Cert.TailDxRefIdeal.main_arg2) = m ((c.tc : Thread Cert.TailDxRefIdeal.nD Cert.TailDxRefIdeal.τ).loc Cert.TailDxRefIdeal.main_arg2))
      ∧ r.2.sem = fun _ => 0)

def quiescent_TailFwd [hTailFwd : Cert.TailFwd.Facts] : Prop :=
  ∀ (m : (ℓ : Loc Cert.TailFwd.nD Cert.TailFwd.τ Cert.TailFwd.sig) → Buf (Elt Bits) ℓ) (g : Dev Cert.TailFwd.nD → PrngReg), Pre_TailFwd m →
    θ_run (Cert.TailFwd.defs (F := Bits)) (onTc (τ := Cert.TailFwd.τ) (Cert.TailFwd.main (F := Bits))) ⟨m, fun _ => 0, g⟩ (fun r => (∀ c : Dev Cert.TailFwd.nD,
      r.2.mem ((c.tc : Thread Cert.TailFwd.nD Cert.TailFwd.τ).loc Cert.TailFwd.main_arg0) = m ((c.tc : Thread Cert.TailFwd.nD Cert.TailFwd.τ).loc Cert.TailFwd.main_arg0)
      ∧ r.2.mem ((c.tc : Thread Cert.TailFwd.nD Cert.TailFwd.τ).loc Cert.TailFwd.main_arg1) = m ((c.tc : Thread Cert.TailFwd.nD Cert.TailFwd.τ).loc Cert.TailFwd.main_arg1)
      ∧ r.2.mem ((c.tc : Thread Cert.TailFwd.nD Cert.TailFwd.τ).loc Cert.TailFwd.main_arg2) = m ((c.tc : Thread Cert.TailFwd.nD Cert.TailFwd.τ).loc Cert.TailFwd.main_arg2))
      ∧ r.2.sem = fun _ => 0)

def quiescent_TailFwdIdeal [hTailFwdIdeal : Cert.TailFwdIdeal.Facts] : Prop :=
  ∀ (m : (ℓ : Loc Cert.TailFwdIdeal.nD Cert.TailFwdIdeal.τ Cert.TailFwdIdeal.sig) → Buf (Elt Ideal) ℓ) (g : Dev Cert.TailFwdIdeal.nD → PrngReg), Pre_TailFwdIdeal m →
    θ_run (Cert.TailFwdIdeal.defs (F := Ideal)) (onTc (τ := Cert.TailFwdIdeal.τ) (Cert.TailFwdIdeal.main (F := Ideal))) ⟨m, fun _ => 0, g⟩ (fun r => (∀ c : Dev Cert.TailFwdIdeal.nD,
      r.2.mem ((c.tc : Thread Cert.TailFwdIdeal.nD Cert.TailFwdIdeal.τ).loc Cert.TailFwdIdeal.main_arg0) = m ((c.tc : Thread Cert.TailFwdIdeal.nD Cert.TailFwdIdeal.τ).loc Cert.TailFwdIdeal.main_arg0)
      ∧ r.2.mem ((c.tc : Thread Cert.TailFwdIdeal.nD Cert.TailFwdIdeal.τ).loc Cert.TailFwdIdeal.main_arg1) = m ((c.tc : Thread Cert.TailFwdIdeal.nD Cert.TailFwdIdeal.τ).loc Cert.TailFwdIdeal.main_arg1)
      ∧ r.2.mem ((c.tc : Thread Cert.TailFwdIdeal.nD Cert.TailFwdIdeal.τ).loc Cert.TailFwdIdeal.main_arg2) = m ((c.tc : Thread Cert.TailFwdIdeal.nD Cert.TailFwdIdeal.τ).loc Cert.TailFwdIdeal.main_arg2))
      ∧ r.2.sem = fun _ => 0)

def quiescent_TailFwdRefIdeal [hTailFwdRefIdeal : Cert.TailFwdRefIdeal.Facts] : Prop :=
  ∀ (m : (ℓ : Loc Cert.TailFwdRefIdeal.nD Cert.TailFwdRefIdeal.τ Cert.TailFwdRefIdeal.sig) → Buf (Elt Ideal) ℓ) (g : Dev Cert.TailFwdRefIdeal.nD → PrngReg), Pre_TailFwdRefIdeal m →
    θ_run (Cert.TailFwdRefIdeal.defs (F := Ideal)) (onTc (τ := Cert.TailFwdRefIdeal.τ) (Cert.TailFwdRefIdeal.main (F := Ideal))) ⟨m, fun _ => 0, g⟩ (fun r => (∀ c : Dev Cert.TailFwdRefIdeal.nD,
      r.2.mem ((c.tc : Thread Cert.TailFwdRefIdeal.nD Cert.TailFwdRefIdeal.τ).loc Cert.TailFwdRefIdeal.main_arg0) = m ((c.tc : Thread Cert.TailFwdRefIdeal.nD Cert.TailFwdRefIdeal.τ).loc Cert.TailFwdRefIdeal.main_arg0)
      ∧ r.2.mem ((c.tc : Thread Cert.TailFwdRefIdeal.nD Cert.TailFwdRefIdeal.τ).loc Cert.TailFwdRefIdeal.main_arg1) = m ((c.tc : Thread Cert.TailFwdRefIdeal.nD Cert.TailFwdRefIdeal.τ).loc Cert.TailFwdRefIdeal.main_arg1)
      ∧ r.2.mem ((c.tc : Thread Cert.TailFwdRefIdeal.nD Cert.TailFwdRefIdeal.τ).loc Cert.TailFwdRefIdeal.main_arg2) = m ((c.tc : Thread Cert.TailFwdRefIdeal.nD Cert.TailFwdRefIdeal.τ).loc Cert.TailFwdRefIdeal.main_arg2))
      ∧ r.2.sem = fun _ => 0)

def quiescent_TailDb [hTailDb : Cert.TailDb.Facts] : Prop :=
  ∀ (m : (ℓ : Loc Cert.TailDb.nD Cert.TailDb.τ Cert.TailDb.sig) → Buf (Elt Bits) ℓ) (g : Dev Cert.TailDb.nD → PrngReg), Pre_TailDb m →
    θ_run (Cert.TailDb.defs (F := Bits)) (onTc (τ := Cert.TailDb.τ) (Cert.TailDb.main (F := Bits))) ⟨m, fun _ => 0, g⟩ (fun r => (∀ c : Dev Cert.TailDb.nD,
      r.2.mem ((c.tc : Thread Cert.TailDb.nD Cert.TailDb.τ).loc Cert.TailDb.main_arg0) = m ((c.tc : Thread Cert.TailDb.nD Cert.TailDb.τ).loc Cert.TailDb.main_arg0))
      ∧ r.2.sem = fun _ => 0)

def quiescent_TailDbIdeal [hTailDbIdeal : Cert.TailDbIdeal.Facts] : Prop :=
  ∀ (m : (ℓ : Loc Cert.TailDbIdeal.nD Cert.TailDbIdeal.τ Cert.TailDbIdeal.sig) → Buf (Elt Ideal) ℓ) (g : Dev Cert.TailDbIdeal.nD → PrngReg), Pre_TailDbIdeal m →
    θ_run (Cert.TailDbIdeal.defs (F := Ideal)) (onTc (τ := Cert.TailDbIdeal.τ) (Cert.TailDbIdeal.main (F := Ideal))) ⟨m, fun _ => 0, g⟩ (fun r => (∀ c : Dev Cert.TailDbIdeal.nD,
      r.2.mem ((c.tc : Thread Cert.TailDbIdeal.nD Cert.TailDbIdeal.τ).loc Cert.TailDbIdeal.main_arg0) = m ((c.tc : Thread Cert.TailDbIdeal.nD Cert.TailDbIdeal.τ).loc Cert.TailDbIdeal.main_arg0))
      ∧ r.2.sem = fun _ => 0)

def quiescent_TailDbRefIdeal [hTailDbRefIdeal : Cert.TailDbRefIdeal.Facts] : Prop :=
  ∀ (m : (ℓ : Loc Cert.TailDbRefIdeal.nD Cert.TailDbRefIdeal.τ Cert.TailDbRefIdeal.sig) → Buf (Elt Ideal) ℓ) (g : Dev Cert.TailDbRefIdeal.nD → PrngReg), Pre_TailDbRefIdeal m →
    θ_run (Cert.TailDbRefIdeal.defs (F := Ideal)) (onTc (τ := Cert.TailDbRefIdeal.τ) (Cert.TailDbRefIdeal.main (F := Ideal))) ⟨m, fun _ => 0, g⟩ (fun r => (∀ c : Dev Cert.TailDbRefIdeal.nD,
      r.2.mem ((c.tc : Thread Cert.TailDbRefIdeal.nD Cert.TailDbRefIdeal.τ).loc Cert.TailDbRefIdeal.main_arg0) = m ((c.tc : Thread Cert.TailDbRefIdeal.nD Cert.TailDbRefIdeal.τ).loc Cert.TailDbRefIdeal.main_arg0))
      ∧ r.2.sem = fun _ => 0)

def quiescent_CumBwd [hCumBwd : Cert.CumBwd.Facts] : Prop :=
  ∀ (m : (ℓ : Loc Cert.CumBwd.nD Cert.CumBwd.τ Cert.CumBwd.sig) → Buf (Elt Bits) ℓ) (g : Dev Cert.CumBwd.nD → PrngReg), Pre_CumBwd m →
    θ_run (Cert.CumBwd.defs (F := Bits)) (onTc (τ := Cert.CumBwd.τ) (Cert.CumBwd.main (F := Bits))) ⟨m, fun _ => 0, g⟩ (fun r => (∀ c : Dev Cert.CumBwd.nD,
      r.2.mem ((c.tc : Thread Cert.CumBwd.nD Cert.CumBwd.τ).loc Cert.CumBwd.main_arg0) = m ((c.tc : Thread Cert.CumBwd.nD Cert.CumBwd.τ).loc Cert.CumBwd.main_arg0)
      ∧ r.2.mem ((c.tc : Thread Cert.CumBwd.nD Cert.CumBwd.τ).loc Cert.CumBwd.main_arg1) = m ((c.tc : Thread Cert.CumBwd.nD Cert.CumBwd.τ).loc Cert.CumBwd.main_arg1)
      ∧ r.2.mem ((c.tc : Thread Cert.CumBwd.nD Cert.CumBwd.τ).loc Cert.CumBwd.main_arg2) = m ((c.tc : Thread Cert.CumBwd.nD Cert.CumBwd.τ).loc Cert.CumBwd.main_arg2))
      ∧ r.2.sem = fun _ => 0)

def quiescent_CumBwdIdeal [hCumBwdIdeal : Cert.CumBwdIdeal.Facts] : Prop :=
  ∀ (m : (ℓ : Loc Cert.CumBwdIdeal.nD Cert.CumBwdIdeal.τ Cert.CumBwdIdeal.sig) → Buf (Elt Ideal) ℓ) (g : Dev Cert.CumBwdIdeal.nD → PrngReg), Pre_CumBwdIdeal m →
    θ_run (Cert.CumBwdIdeal.defs (F := Ideal)) (onTc (τ := Cert.CumBwdIdeal.τ) (Cert.CumBwdIdeal.main (F := Ideal))) ⟨m, fun _ => 0, g⟩ (fun r => (∀ c : Dev Cert.CumBwdIdeal.nD,
      r.2.mem ((c.tc : Thread Cert.CumBwdIdeal.nD Cert.CumBwdIdeal.τ).loc Cert.CumBwdIdeal.main_arg0) = m ((c.tc : Thread Cert.CumBwdIdeal.nD Cert.CumBwdIdeal.τ).loc Cert.CumBwdIdeal.main_arg0)
      ∧ r.2.mem ((c.tc : Thread Cert.CumBwdIdeal.nD Cert.CumBwdIdeal.τ).loc Cert.CumBwdIdeal.main_arg1) = m ((c.tc : Thread Cert.CumBwdIdeal.nD Cert.CumBwdIdeal.τ).loc Cert.CumBwdIdeal.main_arg1)
      ∧ r.2.mem ((c.tc : Thread Cert.CumBwdIdeal.nD Cert.CumBwdIdeal.τ).loc Cert.CumBwdIdeal.main_arg2) = m ((c.tc : Thread Cert.CumBwdIdeal.nD Cert.CumBwdIdeal.τ).loc Cert.CumBwdIdeal.main_arg2))
      ∧ r.2.sem = fun _ => 0)

def quiescent_CumBwdRefIdeal [hCumBwdRefIdeal : Cert.CumBwdRefIdeal.Facts] : Prop :=
  ∀ (m : (ℓ : Loc Cert.CumBwdRefIdeal.nD Cert.CumBwdRefIdeal.τ Cert.CumBwdRefIdeal.sig) → Buf (Elt Ideal) ℓ) (g : Dev Cert.CumBwdRefIdeal.nD → PrngReg), Pre_CumBwdRefIdeal m →
    θ_run (Cert.CumBwdRefIdeal.defs (F := Ideal)) (onTc (τ := Cert.CumBwdRefIdeal.τ) (Cert.CumBwdRefIdeal.main (F := Ideal))) ⟨m, fun _ => 0, g⟩ (fun r => (∀ c : Dev Cert.CumBwdRefIdeal.nD,
      r.2.mem ((c.tc : Thread Cert.CumBwdRefIdeal.nD Cert.CumBwdRefIdeal.τ).loc Cert.CumBwdRefIdeal.main_arg0) = m ((c.tc : Thread Cert.CumBwdRefIdeal.nD Cert.CumBwdRefIdeal.τ).loc Cert.CumBwdRefIdeal.main_arg0)
      ∧ r.2.mem ((c.tc : Thread Cert.CumBwdRefIdeal.nD Cert.CumBwdRefIdeal.τ).loc Cert.CumBwdRefIdeal.main_arg1) = m ((c.tc : Thread Cert.CumBwdRefIdeal.nD Cert.CumBwdRefIdeal.τ).loc Cert.CumBwdRefIdeal.main_arg1)
      ∧ r.2.mem ((c.tc : Thread Cert.CumBwdRefIdeal.nD Cert.CumBwdRefIdeal.τ).loc Cert.CumBwdRefIdeal.main_arg2) = m ((c.tc : Thread Cert.CumBwdRefIdeal.nD Cert.CumBwdRefIdeal.τ).loc Cert.CumBwdRefIdeal.main_arg2))
      ∧ r.2.sem = fun _ => 0)

def quiescent_CumFwd [hCumFwd : Cert.CumFwd.Facts] : Prop :=
  ∀ (m : (ℓ : Loc Cert.CumFwd.nD Cert.CumFwd.τ Cert.CumFwd.sig) → Buf (Elt Bits) ℓ) (g : Dev Cert.CumFwd.nD → PrngReg), Pre_CumFwd m →
    θ_run (Cert.CumFwd.defs (F := Bits)) (onTc (τ := Cert.CumFwd.τ) (Cert.CumFwd.main (F := Bits))) ⟨m, fun _ => 0, g⟩ (fun r => (∀ c : Dev Cert.CumFwd.nD,
      r.2.mem ((c.tc : Thread Cert.CumFwd.nD Cert.CumFwd.τ).loc Cert.CumFwd.main_arg0) = m ((c.tc : Thread Cert.CumFwd.nD Cert.CumFwd.τ).loc Cert.CumFwd.main_arg0))
      ∧ r.2.sem = fun _ => 0)

def quiescent_CumFwdIdeal [hCumFwdIdeal : Cert.CumFwdIdeal.Facts] : Prop :=
  ∀ (m : (ℓ : Loc Cert.CumFwdIdeal.nD Cert.CumFwdIdeal.τ Cert.CumFwdIdeal.sig) → Buf (Elt Ideal) ℓ) (g : Dev Cert.CumFwdIdeal.nD → PrngReg), Pre_CumFwdIdeal m →
    θ_run (Cert.CumFwdIdeal.defs (F := Ideal)) (onTc (τ := Cert.CumFwdIdeal.τ) (Cert.CumFwdIdeal.main (F := Ideal))) ⟨m, fun _ => 0, g⟩ (fun r => (∀ c : Dev Cert.CumFwdIdeal.nD,
      r.2.mem ((c.tc : Thread Cert.CumFwdIdeal.nD Cert.CumFwdIdeal.τ).loc Cert.CumFwdIdeal.main_arg0) = m ((c.tc : Thread Cert.CumFwdIdeal.nD Cert.CumFwdIdeal.τ).loc Cert.CumFwdIdeal.main_arg0))
      ∧ r.2.sem = fun _ => 0)

def quiescent_CumFwdRefIdeal [hCumFwdRefIdeal : Cert.CumFwdRefIdeal.Facts] : Prop :=
  ∀ (m : (ℓ : Loc Cert.CumFwdRefIdeal.nD Cert.CumFwdRefIdeal.τ Cert.CumFwdRefIdeal.sig) → Buf (Elt Ideal) ℓ) (g : Dev Cert.CumFwdRefIdeal.nD → PrngReg), Pre_CumFwdRefIdeal m →
    θ_run (Cert.CumFwdRefIdeal.defs (F := Ideal)) (onTc (τ := Cert.CumFwdRefIdeal.τ) (Cert.CumFwdRefIdeal.main (F := Ideal))) ⟨m, fun _ => 0, g⟩ (fun r => (∀ c : Dev Cert.CumFwdRefIdeal.nD,
      r.2.mem ((c.tc : Thread Cert.CumFwdRefIdeal.nD Cert.CumFwdRefIdeal.τ).loc Cert.CumFwdRefIdeal.main_arg0) = m ((c.tc : Thread Cert.CumFwdRefIdeal.nD Cert.CumFwdRefIdeal.τ).loc Cert.CumFwdRefIdeal.main_arg0))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_ChipSum [hChipSum : Cert.ChipSum.Facts] : Prop :=
  ∀ (m : (ℓ : Loc Cert.ChipSum.nD Cert.ChipSum.τ Cert.ChipSum.sig) → Buf (Elt Bits) ℓ) (g : Dev Cert.ChipSum.nD → PrngReg), Pre_ChipSum m →
    θ_run (Cert.ChipSum.defs (F := Bits)) (onTc (τ := Cert.ChipSum.τ) (Cert.ChipSum.main (F := Bits))) ⟨m, fun _ => 0, g⟩ (fun r => (∀ c : Dev Cert.ChipSum.nD,
      r.2.mem ((c.tc : Thread Cert.ChipSum.nD Cert.ChipSum.τ).loc Cert.ChipSum.main_arg0) = m ((c.tc : Thread Cert.ChipSum.nD Cert.ChipSum.τ).loc Cert.ChipSum.main_arg0))
      ∧ r.2.sem = fun _ => 0)

def quiescent_ChipSumIdeal [hChipSumIdeal : Cert.ChipSumIdeal.Facts] : Prop :=
  ∀ (m : (ℓ : Loc Cert.ChipSumIdeal.nD Cert.ChipSumIdeal.τ Cert.ChipSumIdeal.sig) → Buf (Elt Ideal) ℓ) (g : Dev Cert.ChipSumIdeal.nD → PrngReg), Pre_ChipSumIdeal m →
    θ_run (Cert.ChipSumIdeal.defs (F := Ideal)) (onTc (τ := Cert.ChipSumIdeal.τ) (Cert.ChipSumIdeal.main (F := Ideal))) ⟨m, fun _ => 0, g⟩ (fun r => (∀ c : Dev Cert.ChipSumIdeal.nD,
      r.2.mem ((c.tc : Thread Cert.ChipSumIdeal.nD Cert.ChipSumIdeal.τ).loc Cert.ChipSumIdeal.main_arg0) = m ((c.tc : Thread Cert.ChipSumIdeal.nD Cert.ChipSumIdeal.τ).loc Cert.ChipSumIdeal.main_arg0))
      ∧ r.2.sem = fun _ => 0)

def quiescent_ChipSumRefIdeal [hChipSumRefIdeal : Cert.ChipSumRefIdeal.Facts] : Prop :=
  ∀ (m : (ℓ : Loc Cert.ChipSumRefIdeal.nD Cert.ChipSumRefIdeal.τ Cert.ChipSumRefIdeal.sig) → Buf (Elt Ideal) ℓ) (g : Dev Cert.ChipSumRefIdeal.nD → PrngReg), Pre_ChipSumRefIdeal m →
    θ_run (Cert.ChipSumRefIdeal.defs (F := Ideal)) (onTc (τ := Cert.ChipSumRefIdeal.τ) (Cert.ChipSumRefIdeal.main (F := Ideal))) ⟨m, fun _ => 0, g⟩ (fun r => (∀ c : Dev Cert.ChipSumRefIdeal.nD,
      r.2.mem ((c.tc : Thread Cert.ChipSumRefIdeal.nD Cert.ChipSumRefIdeal.τ).loc Cert.ChipSumRefIdeal.main_arg0) = m ((c.tc : Thread Cert.ChipSumRefIdeal.nD Cert.ChipSumRefIdeal.τ).loc Cert.ChipSumRefIdeal.main_arg0))
      ∧ r.2.sem = fun _ => 0)

def quiescent_PairSum [hPairSum : Cert.PairSum.Facts] : Prop :=
  ∀ (m : (ℓ : Loc Cert.PairSum.nD Cert.PairSum.τ Cert.PairSum.sig) → Buf (Elt Bits) ℓ) (g : Dev Cert.PairSum.nD → PrngReg), Pre_PairSum m →
    θ_run (Cert.PairSum.defs (F := Bits)) (onTc (τ := Cert.PairSum.τ) (Cert.PairSum.main (F := Bits))) ⟨m, fun _ => 0, g⟩ (fun r => (∀ c : Dev Cert.PairSum.nD,
      r.2.mem ((c.tc : Thread Cert.PairSum.nD Cert.PairSum.τ).loc Cert.PairSum.main_arg0) = m ((c.tc : Thread Cert.PairSum.nD Cert.PairSum.τ).loc Cert.PairSum.main_arg0)
      ∧ r.2.mem ((c.tc : Thread Cert.PairSum.nD Cert.PairSum.τ).loc Cert.PairSum.main_arg1) = m ((c.tc : Thread Cert.PairSum.nD Cert.PairSum.τ).loc Cert.PairSum.main_arg1))
      ∧ r.2.sem = fun _ => 0)

def quiescent_PairSumIdeal [hPairSumIdeal : Cert.PairSumIdeal.Facts] : Prop :=
  ∀ (m : (ℓ : Loc Cert.PairSumIdeal.nD Cert.PairSumIdeal.τ Cert.PairSumIdeal.sig) → Buf (Elt Ideal) ℓ) (g : Dev Cert.PairSumIdeal.nD → PrngReg), Pre_PairSumIdeal m →
    θ_run (Cert.PairSumIdeal.defs (F := Ideal)) (onTc (τ := Cert.PairSumIdeal.τ) (Cert.PairSumIdeal.main (F := Ideal))) ⟨m, fun _ => 0, g⟩ (fun r => (∀ c : Dev Cert.PairSumIdeal.nD,
      r.2.mem ((c.tc : Thread Cert.PairSumIdeal.nD Cert.PairSumIdeal.τ).loc Cert.PairSumIdeal.main_arg0) = m ((c.tc : Thread Cert.PairSumIdeal.nD Cert.PairSumIdeal.τ).loc Cert.PairSumIdeal.main_arg0)
      ∧ r.2.mem ((c.tc : Thread Cert.PairSumIdeal.nD Cert.PairSumIdeal.τ).loc Cert.PairSumIdeal.main_arg1) = m ((c.tc : Thread Cert.PairSumIdeal.nD Cert.PairSumIdeal.τ).loc Cert.PairSumIdeal.main_arg1))
      ∧ r.2.sem = fun _ => 0)

def quiescent_PairSumRefIdeal [hPairSumRefIdeal : Cert.PairSumRefIdeal.Facts] : Prop :=
  ∀ (m : (ℓ : Loc Cert.PairSumRefIdeal.nD Cert.PairSumRefIdeal.τ Cert.PairSumRefIdeal.sig) → Buf (Elt Ideal) ℓ) (g : Dev Cert.PairSumRefIdeal.nD → PrngReg), Pre_PairSumRefIdeal m →
    θ_run (Cert.PairSumRefIdeal.defs (F := Ideal)) (onTc (τ := Cert.PairSumRefIdeal.τ) (Cert.PairSumRefIdeal.main (F := Ideal))) ⟨m, fun _ => 0, g⟩ (fun r => (∀ c : Dev Cert.PairSumRefIdeal.nD,
      r.2.mem ((c.tc : Thread Cert.PairSumRefIdeal.nD Cert.PairSumRefIdeal.τ).loc Cert.PairSumRefIdeal.main_arg0) = m ((c.tc : Thread Cert.PairSumRefIdeal.nD Cert.PairSumRefIdeal.τ).loc Cert.PairSumRefIdeal.main_arg0)
      ∧ r.2.mem ((c.tc : Thread Cert.PairSumRefIdeal.nD Cert.PairSumRefIdeal.τ).loc Cert.PairSumRefIdeal.main_arg1) = m ((c.tc : Thread Cert.PairSumRefIdeal.nD Cert.PairSumRefIdeal.τ).loc Cert.PairSumRefIdeal.main_arg1))
      ∧ r.2.sem = fun _ => 0)

def preserves_FoxKv_FoxKvIdeal : Prop :=
  IdealRules.named_const.Statement Cert.FoxKvIdeal.κ "mask" .f32 0xF149F2CA#32 ⊥

def algebraic_FoxKvIdeal_FoxKvRefIdeal_pre_finite [hFoxKvIdeal : Cert.FoxKvIdeal.Facts] [hFoxKvRefIdeal : Cert.FoxKvRefIdeal.Facts] [hPre_finite : Cert.Pre_finite.Facts] : Prop :=
  ∀ (m : (ℓ : Loc Cert.FoxKvIdeal.nD Cert.FoxKvIdeal.τ Cert.FoxKvIdeal.sig) → Buf (Elt Ideal) ℓ) (g : Dev Cert.FoxKvIdeal.nD → PrngReg)
    (m' : (ℓ : Loc Cert.FoxKvRefIdeal.nD Cert.FoxKvRefIdeal.τ Cert.FoxKvRefIdeal.sig) → Buf (Elt Ideal) ℓ) (g' : Dev Cert.FoxKvRefIdeal.nD → PrngReg), Pre_FoxKvIdeal_finite m →
    (∀ c : Dev Cert.FoxKvIdeal.nD,
      m' ((c.tc : Thread Cert.FoxKvRefIdeal.nD Cert.FoxKvRefIdeal.τ).loc Cert.FoxKvRefIdeal.main_arg0) = m ((c.tc : Thread Cert.FoxKvIdeal.nD Cert.FoxKvIdeal.τ).loc Cert.FoxKvIdeal.main_arg0)
      ∧ m' ((c.tc : Thread Cert.FoxKvRefIdeal.nD Cert.FoxKvRefIdeal.τ).loc Cert.FoxKvRefIdeal.main_arg1) = m ((c.tc : Thread Cert.FoxKvIdeal.nD Cert.FoxKvIdeal.τ).loc Cert.FoxKvIdeal.main_arg1)
      ∧ m' ((c.tc : Thread Cert.FoxKvRefIdeal.nD Cert.FoxKvRefIdeal.τ).loc Cert.FoxKvRefIdeal.main_arg2) = m ((c.tc : Thread Cert.FoxKvIdeal.nD Cert.FoxKvIdeal.τ).loc Cert.FoxKvIdeal.main_arg2)) →
    ∃ (v0 : (c : Dev Cert.FoxKvIdeal.nD) → Buf (Elt Ideal) ((c.tc : Thread Cert.FoxKvIdeal.nD Cert.FoxKvIdeal.τ).loc Cert.FoxKvIdeal.main_v52_0)) (v1 : (c : Dev Cert.FoxKvIdeal.nD) → Buf (Elt Ideal) ((c.tc : Thread Cert.FoxKvIdeal.nD Cert.FoxKvIdeal.τ).loc Cert.FoxKvIdeal.main_v52_1)) (v2 : (c : Dev Cert.FoxKvIdeal.nD) → Buf (Elt Ideal) ((c.tc : Thread Cert.FoxKvIdeal.nD Cert.FoxKvIdeal.τ).loc Cert.FoxKvIdeal.main_v52_2)),
      θ_run (Cert.FoxKvIdeal.defs (F := Ideal)) (onTc (τ := Cert.FoxKvIdeal.τ) (Cert.FoxKvIdeal.main (F := Ideal))) ⟨m, fun _ => 0, g⟩ (fun r => ∀ c : Dev Cert.FoxKvIdeal.nD,
          r.2.mem ((c.tc : Thread Cert.FoxKvIdeal.nD Cert.FoxKvIdeal.τ).loc Cert.FoxKvIdeal.main_v52_0) = v0 c
          ∧ r.2.mem ((c.tc : Thread Cert.FoxKvIdeal.nD Cert.FoxKvIdeal.τ).loc Cert.FoxKvIdeal.main_v52_1) = v1 c
          ∧ r.2.mem ((c.tc : Thread Cert.FoxKvIdeal.nD Cert.FoxKvIdeal.τ).loc Cert.FoxKvIdeal.main_v52_2) = v2 c
          ∧ r.2.mem ((c.tc : Thread Cert.FoxKvIdeal.nD Cert.FoxKvIdeal.τ).loc Cert.FoxKvIdeal.main_arg0) = m ((c.tc : Thread Cert.FoxKvIdeal.nD Cert.FoxKvIdeal.τ).loc Cert.FoxKvIdeal.main_arg0)
          ∧ r.2.mem ((c.tc : Thread Cert.FoxKvIdeal.nD Cert.FoxKvIdeal.τ).loc Cert.FoxKvIdeal.main_arg1) = m ((c.tc : Thread Cert.FoxKvIdeal.nD Cert.FoxKvIdeal.τ).loc Cert.FoxKvIdeal.main_arg1)
          ∧ r.2.mem ((c.tc : Thread Cert.FoxKvIdeal.nD Cert.FoxKvIdeal.τ).loc Cert.FoxKvIdeal.main_arg2) = m ((c.tc : Thread Cert.FoxKvIdeal.nD Cert.FoxKvIdeal.τ).loc Cert.FoxKvIdeal.main_arg2))
      ∧ θ_run (Cert.FoxKvRefIdeal.defs (F := Ideal)) (onTc (τ := Cert.FoxKvRefIdeal.τ) (Cert.FoxKvRefIdeal.main (F := Ideal))) ⟨m', fun _ => 0, g'⟩ (fun r => ∀ c : Dev Cert.FoxKvRefIdeal.nD,
          r.2.mem ((c.tc : Thread Cert.FoxKvRefIdeal.nD Cert.FoxKvRefIdeal.τ).loc Cert.FoxKvRefIdeal.main_v82) = v0 c
          ∧ r.2.mem ((c.tc : Thread Cert.FoxKvRefIdeal.nD Cert.FoxKvRefIdeal.τ).loc Cert.FoxKvRefIdeal.main_v83) = v1 c
          ∧ r.2.mem ((c.tc : Thread Cert.FoxKvRefIdeal.nD Cert.FoxKvRefIdeal.τ).loc Cert.FoxKvRefIdeal.main_v85) = v2 c
          ∧ r.2.mem ((c.tc : Thread Cert.FoxKvRefIdeal.nD Cert.FoxKvRefIdeal.τ).loc Cert.FoxKvRefIdeal.main_arg0) = m' ((c.tc : Thread Cert.FoxKvRefIdeal.nD Cert.FoxKvRefIdeal.τ).loc Cert.FoxKvRefIdeal.main_arg0)
          ∧ r.2.mem ((c.tc : Thread Cert.FoxKvRefIdeal.nD Cert.FoxKvRefIdeal.τ).loc Cert.FoxKvRefIdeal.main_arg1) = m' ((c.tc : Thread Cert.FoxKvRefIdeal.nD Cert.FoxKvRefIdeal.τ).loc Cert.FoxKvRefIdeal.main_arg1)
          ∧ r.2.mem ((c.tc : Thread Cert.FoxKvRefIdeal.nD Cert.FoxKvRefIdeal.τ).loc Cert.FoxKvRefIdeal.main_arg2) = m' ((c.tc : Thread Cert.FoxKvRefIdeal.nD Cert.FoxKvRefIdeal.τ).loc Cert.FoxKvRefIdeal.main_arg2))

def preserves_MainDw_MainDwIdeal : Prop :=
  True

def algebraic_MainDwIdeal_MainDwRefIdeal [hMainDwIdeal : Cert.MainDwIdeal.Facts] [hMainDwRefIdeal : Cert.MainDwRefIdeal.Facts] : Prop :=
  ∀ (m : (ℓ : Loc Cert.MainDwIdeal.nD Cert.MainDwIdeal.τ Cert.MainDwIdeal.sig) → Buf (Elt Ideal) ℓ) (g : Dev Cert.MainDwIdeal.nD → PrngReg)
    (m' : (ℓ : Loc Cert.MainDwRefIdeal.nD Cert.MainDwRefIdeal.τ Cert.MainDwRefIdeal.sig) → Buf (Elt Ideal) ℓ) (g' : Dev Cert.MainDwRefIdeal.nD → PrngReg), Pre_MainDwIdeal m →
    (∀ c : Dev Cert.MainDwIdeal.nD,
      m' ((c.tc : Thread Cert.MainDwRefIdeal.nD Cert.MainDwRefIdeal.τ).loc Cert.MainDwRefIdeal.main_arg0) = m ((c.tc : Thread Cert.MainDwIdeal.nD Cert.MainDwIdeal.τ).loc Cert.MainDwIdeal.main_arg0)
      ∧ m' ((c.tc : Thread Cert.MainDwRefIdeal.nD Cert.MainDwRefIdeal.τ).loc Cert.MainDwRefIdeal.main_arg1) = m ((c.tc : Thread Cert.MainDwIdeal.nD Cert.MainDwIdeal.τ).loc Cert.MainDwIdeal.main_arg1)) →
    ∃ (v0 : (c : Dev Cert.MainDwIdeal.nD) → Buf (Elt Ideal) ((c.tc : Thread Cert.MainDwIdeal.nD Cert.MainDwIdeal.τ).loc Cert.MainDwIdeal.main_v2)),
      θ_run (Cert.MainDwIdeal.defs (F := Ideal)) (onTc (τ := Cert.MainDwIdeal.τ) (Cert.MainDwIdeal.main (F := Ideal))) ⟨m, fun _ => 0, g⟩ (fun r => ∀ c : Dev Cert.MainDwIdeal.nD,
          r.2.mem ((c.tc : Thread Cert.MainDwIdeal.nD Cert.MainDwIdeal.τ).loc Cert.MainDwIdeal.main_v2) = v0 c
          ∧ r.2.mem ((c.tc : Thread Cert.MainDwIdeal.nD Cert.MainDwIdeal.τ).loc Cert.MainDwIdeal.main_arg0) = m ((c.tc : Thread Cert.MainDwIdeal.nD Cert.MainDwIdeal.τ).loc Cert.MainDwIdeal.main_arg0)
          ∧ r.2.mem ((c.tc : Thread Cert.MainDwIdeal.nD Cert.MainDwIdeal.τ).loc Cert.MainDwIdeal.main_arg1) = m ((c.tc : Thread Cert.MainDwIdeal.nD Cert.MainDwIdeal.τ).loc Cert.MainDwIdeal.main_arg1))
      ∧ θ_run (Cert.MainDwRefIdeal.defs (F := Ideal)) (onTc (τ := Cert.MainDwRefIdeal.τ) (Cert.MainDwRefIdeal.main (F := Ideal))) ⟨m', fun _ => 0, g'⟩ (fun r => ∀ c : Dev Cert.MainDwRefIdeal.nD,
          r.2.mem ((c.tc : Thread Cert.MainDwRefIdeal.nD Cert.MainDwRefIdeal.τ).loc Cert.MainDwRefIdeal.main_v3) = v0 c
          ∧ r.2.mem ((c.tc : Thread Cert.MainDwRefIdeal.nD Cert.MainDwRefIdeal.τ).loc Cert.MainDwRefIdeal.main_arg0) = m' ((c.tc : Thread Cert.MainDwRefIdeal.nD Cert.MainDwRefIdeal.τ).loc Cert.MainDwRefIdeal.main_arg0)
          ∧ r.2.mem ((c.tc : Thread Cert.MainDwRefIdeal.nD Cert.MainDwRefIdeal.τ).loc Cert.MainDwRefIdeal.main_arg1) = m' ((c.tc : Thread Cert.MainDwRefIdeal.nD Cert.MainDwRefIdeal.τ).loc Cert.MainDwRefIdeal.main_arg1))

def preserves_MainDx_MainDxIdeal : Prop :=
  True

def algebraic_MainDxIdeal_MainDxRefIdeal [hMainDxIdeal : Cert.MainDxIdeal.Facts] [hMainDxRefIdeal : Cert.MainDxRefIdeal.Facts] : Prop :=
  ∀ (m : (ℓ : Loc Cert.MainDxIdeal.nD Cert.MainDxIdeal.τ Cert.MainDxIdeal.sig) → Buf (Elt Ideal) ℓ) (g : Dev Cert.MainDxIdeal.nD → PrngReg)
    (m' : (ℓ : Loc Cert.MainDxRefIdeal.nD Cert.MainDxRefIdeal.τ Cert.MainDxRefIdeal.sig) → Buf (Elt Ideal) ℓ) (g' : Dev Cert.MainDxRefIdeal.nD → PrngReg), Pre_MainDxIdeal m →
    (∀ c : Dev Cert.MainDxIdeal.nD,
      m' ((c.tc : Thread Cert.MainDxRefIdeal.nD Cert.MainDxRefIdeal.τ).loc Cert.MainDxRefIdeal.main_arg0) = m ((c.tc : Thread Cert.MainDxIdeal.nD Cert.MainDxIdeal.τ).loc Cert.MainDxIdeal.main_arg0)
      ∧ m' ((c.tc : Thread Cert.MainDxRefIdeal.nD Cert.MainDxRefIdeal.τ).loc Cert.MainDxRefIdeal.main_arg1) = m ((c.tc : Thread Cert.MainDxIdeal.nD Cert.MainDxIdeal.τ).loc Cert.MainDxIdeal.main_arg1)
      ∧ m' ((c.tc : Thread Cert.MainDxRefIdeal.nD Cert.MainDxRefIdeal.τ).loc Cert.MainDxRefIdeal.main_arg2) = m ((c.tc : Thread Cert.MainDxIdeal.nD Cert.MainDxIdeal.τ).loc Cert.MainDxIdeal.main_arg2)) →
    ∃ (v0 : (c : Dev Cert.MainDxIdeal.nD) → Buf (Elt Ideal) ((c.tc : Thread Cert.MainDxIdeal.nD Cert.MainDxIdeal.τ).loc Cert.MainDxIdeal.main_v2)),
      θ_run (Cert.MainDxIdeal.defs (F := Ideal)) (onTc (τ := Cert.MainDxIdeal.τ) (Cert.MainDxIdeal.main (F := Ideal))) ⟨m, fun _ => 0, g⟩ (fun r => ∀ c : Dev Cert.MainDxIdeal.nD,
          r.2.mem ((c.tc : Thread Cert.MainDxIdeal.nD Cert.MainDxIdeal.τ).loc Cert.MainDxIdeal.main_v2) = v0 c
          ∧ r.2.mem ((c.tc : Thread Cert.MainDxIdeal.nD Cert.MainDxIdeal.τ).loc Cert.MainDxIdeal.main_arg0) = m ((c.tc : Thread Cert.MainDxIdeal.nD Cert.MainDxIdeal.τ).loc Cert.MainDxIdeal.main_arg0)
          ∧ r.2.mem ((c.tc : Thread Cert.MainDxIdeal.nD Cert.MainDxIdeal.τ).loc Cert.MainDxIdeal.main_arg1) = m ((c.tc : Thread Cert.MainDxIdeal.nD Cert.MainDxIdeal.τ).loc Cert.MainDxIdeal.main_arg1)
          ∧ r.2.mem ((c.tc : Thread Cert.MainDxIdeal.nD Cert.MainDxIdeal.τ).loc Cert.MainDxIdeal.main_arg2) = m ((c.tc : Thread Cert.MainDxIdeal.nD Cert.MainDxIdeal.τ).loc Cert.MainDxIdeal.main_arg2))
      ∧ θ_run (Cert.MainDxRefIdeal.defs (F := Ideal)) (onTc (τ := Cert.MainDxRefIdeal.τ) (Cert.MainDxRefIdeal.main (F := Ideal))) ⟨m', fun _ => 0, g'⟩ (fun r => ∀ c : Dev Cert.MainDxRefIdeal.nD,
          r.2.mem ((c.tc : Thread Cert.MainDxRefIdeal.nD Cert.MainDxRefIdeal.τ).loc Cert.MainDxRefIdeal.main_v3) = v0 c
          ∧ r.2.mem ((c.tc : Thread Cert.MainDxRefIdeal.nD Cert.MainDxRefIdeal.τ).loc Cert.MainDxRefIdeal.main_arg0) = m' ((c.tc : Thread Cert.MainDxRefIdeal.nD Cert.MainDxRefIdeal.τ).loc Cert.MainDxRefIdeal.main_arg0)
          ∧ r.2.mem ((c.tc : Thread Cert.MainDxRefIdeal.nD Cert.MainDxRefIdeal.τ).loc Cert.MainDxRefIdeal.main_arg1) = m' ((c.tc : Thread Cert.MainDxRefIdeal.nD Cert.MainDxRefIdeal.τ).loc Cert.MainDxRefIdeal.main_arg1)
          ∧ r.2.mem ((c.tc : Thread Cert.MainDxRefIdeal.nD Cert.MainDxRefIdeal.τ).loc Cert.MainDxRefIdeal.main_arg2) = m' ((c.tc : Thread Cert.MainDxRefIdeal.nD Cert.MainDxRefIdeal.τ).loc Cert.MainDxRefIdeal.main_arg2))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v2)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v2) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v3) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)) →
    ∃ (v0 : (c : Dev Cert.UpDxIdeal.nD) → Buf (Elt Ideal) ((c.tc : Thread Cert.UpDxIdeal.nD Cert.UpDxIdeal.τ).loc Cert.UpDxIdeal.main_v2)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v2) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v3) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v2)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v2) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v3) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v2)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v2) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v2) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_BranchDw_BranchDwIdeal : Prop :=
  True

def algebraic_BranchDwIdeal_BranchDwRefIdeal [hBranchDwIdeal : Cert.BranchDwIdeal.Facts] [hBranchDwRefIdeal : Cert.BranchDwRefIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg)
    (m' : (ℓ : Loc Cert.BranchDwRefIdeal.nD Cert.BranchDwRefIdeal.τ Cert.BranchDwRefIdeal.sig) → Buf (Elt Ideal) ℓ) (g' : Dev Cert.BranchDwRefIdeal.nD → PrngReg), Pre_BranchDwIdeal m →
    (∀ c : Dev Cert.BranchDwIdeal.nD,
      m' ((c.tc : Thread Cert.BranchDwRefIdeal.nD Cert.BranchDwRefIdeal.τ).loc Cert.BranchDwRefIdeal.main_arg0) = m ((c.tc : Thread Cert.BranchDwIdeal.nD Cert.BranchDwIdeal.τ).loc Cert.BranchDwIdeal.main_arg0)
      ∧ m' ((c.tc : Thread Cert.BranchDwRefIdeal.nD Cert.BranchDwRefIdeal.τ).loc Cert.BranchDwRefIdeal.main_arg1) = m ((c.tc : Thread Cert.BranchDwIdeal.nD Cert.BranchDwIdeal.τ).loc Cert.BranchDwIdeal.main_arg1)) →
    ∃ (v0 : (c : Dev Cert.BranchDwIdeal.nD) → Buf (Elt Ideal) ((c.tc : Thread Cert.BranchDwIdeal.nD Cert.BranchDwIdeal.τ).loc Cert.BranchDwIdeal.main_v2)),
      θ_run (Cert.BranchDwIdeal.defs (F := Ideal)) (onTc (τ := Cert.BranchDwIdeal.τ) (Cert.BranchDwIdeal.main (F := Ideal))) ⟨m, fun _ => 0, g⟩ (fun r => ∀ c : Dev Cert.BranchDwIdeal.nD,
          r.2.mem ((c.tc : Thread Cert.BranchDwIdeal.nD Cert.BranchDwIdeal.τ).loc Cert.BranchDwIdeal.main_v2) = v0 c
          ∧ r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
          ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1))
      ∧ θ_run (Cert.BranchDwRefIdeal.defs (F := Ideal)) (onTc (τ := Cert.BranchDwRefIdeal.τ) (Cert.BranchDwRefIdeal.main (F := Ideal))) ⟨m', fun _ => 0, g'⟩ (fun r => ∀ c : Dev Cert.BranchDwRefIdeal.nD,
          r.2.mem ((c.tc : Thread Cert.BranchDwRefIdeal.nD Cert.BranchDwRefIdeal.τ).loc Cert.BranchDwRefIdeal.main_v3) = v0 c
          ∧ r.2.mem ((c.tc : Thread Cert.BranchDwRefIdeal.nD Cert.BranchDwRefIdeal.τ).loc Cert.BranchDwRefIdeal.main_arg0) = m' ((c.tc : Thread Cert.BranchDwRefIdeal.nD Cert.BranchDwRefIdeal.τ).loc Cert.BranchDwRefIdeal.main_arg0)
          ∧ r.2.mem ((c.tc : Thread Cert.BranchDwRefIdeal.nD Cert.BranchDwRefIdeal.τ).loc Cert.BranchDwRefIdeal.main_arg1) = m' ((c.tc : Thread Cert.BranchDwRefIdeal.nD Cert.BranchDwRefIdeal.τ).loc Cert.BranchDwRefIdeal.main_arg1))

def preserves_BranchDx_BranchDxIdeal : Prop :=
  True

def algebraic_BranchDxIdeal_BranchDxRefIdeal [hBranchDxIdeal : Cert.BranchDxIdeal.Facts] [hBranchDxRefIdeal : Cert.BranchDxRefIdeal.Facts] : Prop :=
  ∀ (m : (ℓ : Loc Cert.BranchDxIdeal.nD Cert.BranchDxIdeal.τ Cert.BranchDxIdeal.sig) → Buf (Elt Ideal) ℓ) (g : Dev Cert.BranchDxIdeal.nD → PrngReg)
    (m' : (ℓ : Loc Cert.BranchDxRefIdeal.nD Cert.BranchDxRefIdeal.τ Cert.BranchDxRefIdeal.sig) → Buf (Elt Ideal) ℓ) (g' : Dev Cert.BranchDxRefIdeal.nD → PrngReg), Pre_BranchDxIdeal m →
    (∀ c : Dev Cert.BranchDxIdeal.nD,
      m' ((c.tc : Thread Cert.BranchDxRefIdeal.nD Cert.BranchDxRefIdeal.τ).loc Cert.BranchDxRefIdeal.main_arg0) = m ((c.tc : Thread Cert.BranchDxIdeal.nD Cert.BranchDxIdeal.τ).loc Cert.BranchDxIdeal.main_arg0)
      ∧ m' ((c.tc : Thread Cert.BranchDxRefIdeal.nD Cert.BranchDxRefIdeal.τ).loc Cert.BranchDxRefIdeal.main_arg1) = m ((c.tc : Thread Cert.BranchDxIdeal.nD Cert.BranchDxIdeal.τ).loc Cert.BranchDxIdeal.main_arg1)) →
    ∃ (v0 : (c : Dev Cert.BranchDxIdeal.nD) → Buf (Elt Ideal) ((c.tc : Thread Cert.BranchDxIdeal.nD Cert.BranchDxIdeal.τ).loc Cert.BranchDxIdeal.main_v2)),
      θ_run (Cert.BranchDxIdeal.defs (F := Ideal)) (onTc (τ := Cert.BranchDxIdeal.τ) (Cert.BranchDxIdeal.main (F := Ideal))) ⟨m, fun _ => 0, g⟩ (fun r => ∀ c : Dev Cert.BranchDxIdeal.nD,
          r.2.mem ((c.tc : Thread Cert.BranchDxIdeal.nD Cert.BranchDxIdeal.τ).loc Cert.BranchDxIdeal.main_v2) = v0 c
          ∧ r.2.mem ((c.tc : Thread Cert.BranchDxIdeal.nD Cert.BranchDxIdeal.τ).loc Cert.BranchDxIdeal.main_arg0) = m ((c.tc : Thread Cert.BranchDxIdeal.nD Cert.BranchDxIdeal.τ).loc Cert.BranchDxIdeal.main_arg0)
          ∧ r.2.mem ((c.tc : Thread Cert.BranchDxIdeal.nD Cert.BranchDxIdeal.τ).loc Cert.BranchDxIdeal.main_arg1) = m ((c.tc : Thread Cert.BranchDxIdeal.nD Cert.BranchDxIdeal.τ).loc Cert.BranchDxIdeal.main_arg1))
      ∧ θ_run (Cert.BranchDxRefIdeal.defs (F := Ideal)) (onTc (τ := Cert.BranchDxRefIdeal.τ) (Cert.BranchDxRefIdeal.main (F := Ideal))) ⟨m', fun _ => 0, g'⟩ (fun r => ∀ c : Dev Cert.BranchDxRefIdeal.nD,
          r.2.mem ((c.tc : Thread Cert.BranchDxRefIdeal.nD Cert.BranchDxRefIdeal.τ).loc Cert.BranchDxRefIdeal.main_v2) = v0 c
          ∧ r.2.mem ((c.tc : Thread Cert.BranchDxRefIdeal.nD Cert.BranchDxRefIdeal.τ).loc Cert.BranchDxRefIdeal.main_arg0) = m' ((c.tc : Thread Cert.BranchDxRefIdeal.nD Cert.BranchDxRefIdeal.τ).loc Cert.BranchDxRefIdeal.main_arg0)
          ∧ r.2.mem ((c.tc : Thread Cert.BranchDxRefIdeal.nD Cert.BranchDxRefIdeal.τ).loc Cert.BranchDxRefIdeal.main_arg1) = m' ((c.tc : Thread Cert.BranchDxRefIdeal.nD Cert.BranchDxRefIdeal.τ).loc Cert.BranchDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v2)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v2) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v3) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v2)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v2) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v2) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_MainFwd_MainFwdIdeal : Prop :=
  True

def algebraic_MainFwdIdeal_MainFwdRefIdeal [hMainFwdIdeal : Cert.MainFwdIdeal.Facts] [hMainFwdRefIdeal : Cert.MainFwdRefIdeal.Facts] : Prop :=
  ∀ (m : (ℓ : Loc Cert.MainFwdIdeal.nD Cert.MainFwdIdeal.τ Cert.MainFwdIdeal.sig) → Buf (Elt Ideal) ℓ) (g : Dev Cert.MainFwdIdeal.nD → PrngReg)
    (m' : (ℓ : Loc Cert.MainFwdRefIdeal.nD Cert.MainFwdRefIdeal.τ Cert.MainFwdRefIdeal.sig) → Buf (Elt Ideal) ℓ) (g' : Dev Cert.MainFwdRefIdeal.nD → PrngReg), Pre_MainFwdIdeal m →
    (∀ c : Dev Cert.MainFwdIdeal.nD,
      m' ((c.tc : Thread Cert.MainFwdRefIdeal.nD Cert.MainFwdRefIdeal.τ).loc Cert.MainFwdRefIdeal.main_arg0) = m ((c.tc : Thread Cert.MainFwdIdeal.nD Cert.MainFwdIdeal.τ).loc Cert.MainFwdIdeal.main_arg0)
      ∧ m' ((c.tc : Thread Cert.MainFwdRefIdeal.nD Cert.MainFwdRefIdeal.τ).loc Cert.MainFwdRefIdeal.main_arg1) = m ((c.tc : Thread Cert.MainFwdIdeal.nD Cert.MainFwdIdeal.τ).loc Cert.MainFwdIdeal.main_arg1)
      ∧ m' ((c.tc : Thread Cert.MainFwdRefIdeal.nD Cert.MainFwdRefIdeal.τ).loc Cert.MainFwdRefIdeal.main_arg2) = m ((c.tc : Thread Cert.MainFwdIdeal.nD Cert.MainFwdIdeal.τ).loc Cert.MainFwdIdeal.main_arg2)) →
    ∃ (v0 : (c : Dev Cert.MainFwdIdeal.nD) → Buf (Elt Ideal) ((c.tc : Thread Cert.MainFwdIdeal.nD Cert.MainFwdIdeal.τ).loc Cert.MainFwdIdeal.main_v3)),
      θ_run (Cert.MainFwdIdeal.defs (F := Ideal)) (onTc (τ := Cert.MainFwdIdeal.τ) (Cert.MainFwdIdeal.main (F := Ideal))) ⟨m, fun _ => 0, g⟩ (fun r => ∀ c : Dev Cert.MainFwdIdeal.nD,
          r.2.mem ((c.tc : Thread Cert.MainFwdIdeal.nD Cert.MainFwdIdeal.τ).loc Cert.MainFwdIdeal.main_v3) = v0 c
          ∧ r.2.mem ((c.tc : Thread Cert.MainFwdIdeal.nD Cert.MainFwdIdeal.τ).loc Cert.MainFwdIdeal.main_arg0) = m ((c.tc : Thread Cert.MainFwdIdeal.nD Cert.MainFwdIdeal.τ).loc Cert.MainFwdIdeal.main_arg0)
          ∧ r.2.mem ((c.tc : Thread Cert.MainFwdIdeal.nD Cert.MainFwdIdeal.τ).loc Cert.MainFwdIdeal.main_arg1) = m ((c.tc : Thread Cert.MainFwdIdeal.nD Cert.MainFwdIdeal.τ).loc Cert.MainFwdIdeal.main_arg1)
          ∧ r.2.mem ((c.tc : Thread Cert.MainFwdIdeal.nD Cert.MainFwdIdeal.τ).loc Cert.MainFwdIdeal.main_arg2) = m ((c.tc : Thread Cert.MainFwdIdeal.nD Cert.MainFwdIdeal.τ).loc Cert.MainFwdIdeal.main_arg2))
      ∧ θ_run (Cert.MainFwdRefIdeal.defs (F := Ideal)) (onTc (τ := Cert.MainFwdRefIdeal.τ) (Cert.MainFwdRefIdeal.main (F := Ideal))) ⟨m', fun _ => 0, g'⟩ (fun r => ∀ c : Dev Cert.MainFwdRefIdeal.nD,
          r.2.mem ((c.tc : Thread Cert.MainFwdRefIdeal.nD Cert.MainFwdRefIdeal.τ).loc Cert.MainFwdRefIdeal.main_v3) = v0 c
          ∧ r.2.mem ((c.tc : Thread Cert.MainFwdRefIdeal.nD Cert.MainFwdRefIdeal.τ).loc Cert.MainFwdRefIdeal.main_arg0) = m' ((c.tc : Thread Cert.MainFwdRefIdeal.nD Cert.MainFwdRefIdeal.τ).loc Cert.MainFwdRefIdeal.main_arg0)
          ∧ r.2.mem ((c.tc : Thread Cert.MainFwdRefIdeal.nD Cert.MainFwdRefIdeal.τ).loc Cert.MainFwdRefIdeal.main_arg1) = m' ((c.tc : Thread Cert.MainFwdRefIdeal.nD Cert.MainFwdRefIdeal.τ).loc Cert.MainFwdRefIdeal.main_arg1)
          ∧ r.2.mem ((c.tc : Thread Cert.MainFwdRefIdeal.nD Cert.MainFwdRefIdeal.τ).loc Cert.MainFwdRefIdeal.main_arg2) = m' ((c.tc : Thread Cert.MainFwdRefIdeal.nD Cert.MainFwdRefIdeal.τ).loc Cert.MainFwdRefIdeal.main_arg2))

def preserves_UpFwd_UpFwdIdeal : Prop :=
  True

def algebraic_UpFwdIdeal_UpFwdRefIdeal [hUpFwdIdeal : Cert.UpFwdIdeal.Facts] [hUpFwdRefIdeal : Cert.UpFwdRefIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.UpFwdRefIdeal.nD Cert.UpFwdRefIdeal.τ Cert.UpFwdRefIdeal.sig) → Buf (Elt Ideal) ℓ) (g' : Dev Cert.UpFwdRefIdeal.nD → PrngReg), Pre_UpFwdIdeal m →
    (∀ c : Dev Cert.UpFwdIdeal.nD,
      m' ((c.tc : Thread Cert.UpFwdRefIdeal.nD Cert.UpFwdRefIdeal.τ).loc Cert.UpFwdRefIdeal.main_arg0) = m ((c.tc : Thread Cert.UpFwdIdeal.nD Cert.UpFwdIdeal.τ).loc Cert.UpFwdIdeal.main_arg0)
      ∧ m' ((c.tc : Thread Cert.UpFwdRefIdeal.nD Cert.UpFwdRefIdeal.τ).loc Cert.UpFwdRefIdeal.main_arg1) = m ((c.tc : Thread Cert.UpFwdIdeal.nD Cert.UpFwdIdeal.τ).loc Cert.UpFwdIdeal.main_arg1)) →
    ∃ (v0 : (c : Dev Cert.UpFwdIdeal.nD) → Buf (Elt Ideal) ((c.tc : Thread Cert.UpFwdIdeal.nD Cert.UpFwdIdeal.τ).loc Cert.UpFwdIdeal.main_v2)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v2) = v0 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ θ_run (Cert.UpFwdRefIdeal.defs (F := Ideal)) (onTc (τ := Cert.UpFwdRefIdeal.τ) (Cert.UpFwdRefIdeal.main (F := Ideal))) ⟨m', fun _ => 0, g'⟩ (fun r => ∀ c : Dev Cert.UpFwdRefIdeal.nD,
          r.2.mem ((c.tc : Thread Cert.UpFwdRefIdeal.nD Cert.UpFwdRefIdeal.τ).loc Cert.UpFwdRefIdeal.main_v0) = v0 c
          ∧ r.2.mem ((c.tc : Thread Cert.UpFwdRefIdeal.nD Cert.UpFwdRefIdeal.τ).loc Cert.UpFwdRefIdeal.main_arg0) = m' ((c.tc : Thread Cert.UpFwdRefIdeal.nD Cert.UpFwdRefIdeal.τ).loc Cert.UpFwdRefIdeal.main_arg0)
          ∧ r.2.mem ((c.tc : Thread Cert.UpFwdRefIdeal.nD Cert.UpFwdRefIdeal.τ).loc Cert.UpFwdRefIdeal.main_arg1) = m' ((c.tc : Thread Cert.UpFwdRefIdeal.nD Cert.UpFwdRefIdeal.τ).loc Cert.UpFwdRefIdeal.main_arg1))

def preserves_DownFwd_DownFwdIdeal : Prop :=
  True

def algebraic_DownFwdIdeal_DownFwdRefIdeal [hDownFwdIdeal : Cert.DownFwdIdeal.Facts] [hDownFwdRefIdeal : Cert.DownFwdRefIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdRefIdeal.nD Cert.DownFwdRefIdeal.τ Cert.DownFwdRefIdeal.sig) → Buf (Elt Ideal) ℓ) (g' : Dev Cert.DownFwdRefIdeal.nD → PrngReg), Pre_DownFwdIdeal m →
    (∀ c : Dev Cert.DownFwdIdeal.nD,
      m' ((c.tc : Thread Cert.DownFwdRefIdeal.nD Cert.DownFwdRefIdeal.τ).loc Cert.DownFwdRefIdeal.main_arg0) = m ((c.tc : Thread Cert.DownFwdIdeal.nD Cert.DownFwdIdeal.τ).loc Cert.DownFwdIdeal.main_arg0)
      ∧ m' ((c.tc : Thread Cert.DownFwdRefIdeal.nD Cert.DownFwdRefIdeal.τ).loc Cert.DownFwdRefIdeal.main_arg1) = m ((c.tc : Thread Cert.DownFwdIdeal.nD Cert.DownFwdIdeal.τ).loc Cert.DownFwdIdeal.main_arg1)) →
    ∃ (v0 : (c : Dev Cert.DownFwdIdeal.nD) → Buf (Elt Ideal) ((c.tc : Thread Cert.DownFwdIdeal.nD Cert.DownFwdIdeal.τ).loc Cert.DownFwdIdeal.main_v2)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v2) = v0 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1))
      ∧ θ_run (Cert.DownFwdRefIdeal.defs (F := Ideal)) (onTc (τ := Cert.DownFwdRefIdeal.τ) (Cert.DownFwdRefIdeal.main (F := Ideal))) ⟨m', fun _ => 0, g'⟩ (fun r => ∀ c : Dev Cert.DownFwdRefIdeal.nD,
          r.2.mem ((c.tc : Thread Cert.DownFwdRefIdeal.nD Cert.DownFwdRefIdeal.τ).loc Cert.DownFwdRefIdeal.main_v0) = v0 c
          ∧ r.2.mem ((c.tc : Thread Cert.DownFwdRefIdeal.nD Cert.DownFwdRefIdeal.τ).loc Cert.DownFwdRefIdeal.main_arg0) = m' ((c.tc : Thread Cert.DownFwdRefIdeal.nD Cert.DownFwdRefIdeal.τ).loc Cert.DownFwdRefIdeal.main_arg0)
          ∧ r.2.mem ((c.tc : Thread Cert.DownFwdRefIdeal.nD Cert.DownFwdRefIdeal.τ).loc Cert.DownFwdRefIdeal.main_arg1) = m' ((c.tc : Thread Cert.DownFwdRefIdeal.nD Cert.DownFwdRefIdeal.τ).loc Cert.DownFwdRefIdeal.main_arg1))

def preserves_BranchFwd_BranchFwdIdeal : Prop :=
  True

def algebraic_BranchFwdIdeal_BranchFwdRefIdeal [hBranchFwdIdeal : Cert.BranchFwdIdeal.Facts] [hBranchFwdRefIdeal : Cert.BranchFwdRefIdeal.Facts] : Prop :=
  ∀ (m : (ℓ : Loc Cert.BranchFwdIdeal.nD Cert.BranchFwdIdeal.τ Cert.BranchFwdIdeal.sig) → Buf (Elt Ideal) ℓ) (g : Dev Cert.BranchFwdIdeal.nD → PrngReg)
    (m' : (ℓ : Loc Cert.BranchFwdRefIdeal.nD Cert.BranchFwdRefIdeal.τ Cert.BranchFwdRefIdeal.sig) → Buf (Elt Ideal) ℓ) (g' : Dev Cert.BranchFwdRefIdeal.nD → PrngReg), Pre_BranchFwdIdeal m →
    (∀ c : Dev Cert.BranchFwdIdeal.nD,
      m' ((c.tc : Thread Cert.BranchFwdRefIdeal.nD Cert.BranchFwdRefIdeal.τ).loc Cert.BranchFwdRefIdeal.main_arg0) = m ((c.tc : Thread Cert.BranchFwdIdeal.nD Cert.BranchFwdIdeal.τ).loc Cert.BranchFwdIdeal.main_arg0)
      ∧ m' ((c.tc : Thread Cert.BranchFwdRefIdeal.nD Cert.BranchFwdRefIdeal.τ).loc Cert.BranchFwdRefIdeal.main_arg1) = m ((c.tc : Thread Cert.BranchFwdIdeal.nD Cert.BranchFwdIdeal.τ).loc Cert.BranchFwdIdeal.main_arg1)) →
    ∃ (v0 : (c : Dev Cert.BranchFwdIdeal.nD) → Buf (Elt Ideal) ((c.tc : Thread Cert.BranchFwdIdeal.nD Cert.BranchFwdIdeal.τ).loc Cert.BranchFwdIdeal.main_v2)),
      θ_run (Cert.BranchFwdIdeal.defs (F := Ideal)) (onTc (τ := Cert.BranchFwdIdeal.τ) (Cert.BranchFwdIdeal.main (F := Ideal))) ⟨m, fun _ => 0, g⟩ (fun r => ∀ c : Dev Cert.BranchFwdIdeal.nD,
          r.2.mem ((c.tc : Thread Cert.BranchFwdIdeal.nD Cert.BranchFwdIdeal.τ).loc Cert.BranchFwdIdeal.main_v2) = v0 c
          ∧ r.2.mem ((c.tc : Thread Cert.BranchFwdIdeal.nD Cert.BranchFwdIdeal.τ).loc Cert.BranchFwdIdeal.main_arg0) = m ((c.tc : Thread Cert.BranchFwdIdeal.nD Cert.BranchFwdIdeal.τ).loc Cert.BranchFwdIdeal.main_arg0)
          ∧ r.2.mem ((c.tc : Thread Cert.BranchFwdIdeal.nD Cert.BranchFwdIdeal.τ).loc Cert.BranchFwdIdeal.main_arg1) = m ((c.tc : Thread Cert.BranchFwdIdeal.nD Cert.BranchFwdIdeal.τ).loc Cert.BranchFwdIdeal.main_arg1))
      ∧ θ_run (Cert.BranchFwdRefIdeal.defs (F := Ideal)) (onTc (τ := Cert.BranchFwdRefIdeal.τ) (Cert.BranchFwdRefIdeal.main (F := Ideal))) ⟨m', fun _ => 0, g'⟩ (fun r => ∀ c : Dev Cert.BranchFwdRefIdeal.nD,
          r.2.mem ((c.tc : Thread Cert.BranchFwdRefIdeal.nD Cert.BranchFwdRefIdeal.τ).loc Cert.BranchFwdRefIdeal.main_v0) = v0 c
          ∧ r.2.mem ((c.tc : Thread Cert.BranchFwdRefIdeal.nD Cert.BranchFwdRefIdeal.τ).loc Cert.BranchFwdRefIdeal.main_arg0) = m' ((c.tc : Thread Cert.BranchFwdRefIdeal.nD Cert.BranchFwdRefIdeal.τ).loc Cert.BranchFwdRefIdeal.main_arg0)
          ∧ r.2.mem ((c.tc : Thread Cert.BranchFwdRefIdeal.nD Cert.BranchFwdRefIdeal.τ).loc Cert.BranchFwdRefIdeal.main_arg1) = m' ((c.tc : Thread Cert.BranchFwdRefIdeal.nD Cert.BranchFwdRefIdeal.τ).loc Cert.BranchFwdRefIdeal.main_arg1))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)) →
    ∃ (v0 : (c : Dev Cert.OutFwdIdeal.nD) → Buf (Elt Ideal) ((c.tc : Thread Cert.OutFwdIdeal.nD Cert.OutFwdIdeal.τ).loc Cert.OutFwdIdeal.main_v2)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v2) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v0) = v0 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v0_2)) (v3 : (c : Dev Cert.MergeBwdIdeal.nD) → Buf (Elt Ideal) ((c.tc : Thread Cert.MergeBwdIdeal.nD Cert.MergeBwdIdeal.τ).loc Cert.MergeBwdIdeal.main_v0_3)) (v4 : (c : Dev Cert.MergeBwdIdeal.nD) → Buf (Elt Ideal) ((c.tc : Thread Cert.MergeBwdIdeal.nD Cert.MergeBwdIdeal.τ).loc Cert.MergeBwdIdeal.main_v0_4)) (v5 : (c : Dev Cert.MergeBwdIdeal.nD) → Buf (Elt Ideal) ((c.tc : Thread Cert.MergeBwdIdeal.nD Cert.MergeBwdIdeal.τ).loc Cert.MergeBwdIdeal.main_v0_5)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v0_0) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_v0_2) = v2 c
          ∧ r.2.mem ((c.tc : Thread Cert.MergeBwdIdeal.nD Cert.MergeBwdIdeal.τ).loc Cert.MergeBwdIdeal.main_v0_3) = v3 c
          ∧ r.2.mem ((c.tc : Thread Cert.MergeBwdIdeal.nD Cert.MergeBwdIdeal.τ).loc Cert.MergeBwdIdeal.main_v0_4) = v4 c
          ∧ r.2.mem ((c.tc : Thread Cert.MergeBwdIdeal.nD Cert.MergeBwdIdeal.τ).loc Cert.MergeBwdIdeal.main_v0_5) = v5 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v45) = v0 c
          ∧ r.2.mem ((c.tc : Thread Cert.MergeBwdRefIdeal.nD Cert.MergeBwdRefIdeal.τ).loc Cert.MergeBwdRefIdeal.main_v42) = v1 c
          ∧ r.2.mem ((c.tc : Thread Cert.MergeBwdRefIdeal.nD Cert.MergeBwdRefIdeal.τ).loc Cert.MergeBwdRefIdeal.main_v39) = v2 c
          ∧ r.2.mem ((c.tc : Thread Cert.MergeBwdRefIdeal.nD Cert.MergeBwdRefIdeal.τ).loc Cert.MergeBwdRefIdeal.main_v46) = v3 c
          ∧ r.2.mem ((c.tc : Thread Cert.MergeBwdRefIdeal.nD Cert.MergeBwdRefIdeal.τ).loc Cert.MergeBwdRefIdeal.main_v47) = v4 c
          ∧ r.2.mem ((c.tc : Thread Cert.MergeBwdRefIdeal.nD Cert.MergeBwdRefIdeal.τ).loc Cert.MergeBwdRefIdeal.main_v48) = v5 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)) →
    ∃ (v0 : (c : Dev Cert.MergeFwdIdeal.nD) → Buf (Elt Ideal) ((c.tc : Thread Cert.MergeFwdIdeal.nD Cert.MergeFwdIdeal.τ).loc Cert.MergeFwdIdeal.main_v0)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v26) = v0 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3))

def preserves_MainDb_MainDbIdeal : Prop :=
  True

def algebraic_MainDbIdeal_MainDbRefIdeal [hMainDbIdeal : Cert.MainDbIdeal.Facts] [hMainDbRefIdeal : Cert.MainDbRefIdeal.Facts] : Prop :=
  ∀ (m : (ℓ : Loc Cert.MainDbIdeal.nD Cert.MainDbIdeal.τ Cert.MainDbIdeal.sig) → Buf (Elt Ideal) ℓ) (g : Dev Cert.MainDbIdeal.nD → PrngReg)
    (m' : (ℓ : Loc Cert.MainDbRefIdeal.nD Cert.MainDbRefIdeal.τ Cert.MainDbRefIdeal.sig) → Buf (Elt Ideal) ℓ) (g' : Dev Cert.MainDbRefIdeal.nD → PrngReg), Pre_MainDbIdeal m →
    (∀ c : Dev Cert.MainDbIdeal.nD,
      m' ((c.tc : Thread Cert.MainDbRefIdeal.nD Cert.MainDbRefIdeal.τ).loc Cert.MainDbRefIdeal.main_arg0) = m ((c.tc : Thread Cert.MainDbIdeal.nD Cert.MainDbIdeal.τ).loc Cert.MainDbIdeal.main_arg0)) →
    ∃ (v0 : (c : Dev Cert.MainDbIdeal.nD) → Buf (Elt Ideal) ((c.tc : Thread Cert.MainDbIdeal.nD Cert.MainDbIdeal.τ).loc Cert.MainDbIdeal.main_v0)),
      θ_run (Cert.MainDbIdeal.defs (F := Ideal)) (onTc (τ := Cert.MainDbIdeal.τ) (Cert.MainDbIdeal.main (F := Ideal))) ⟨m, fun _ => 0, g⟩ (fun r => ∀ c : Dev Cert.MainDbIdeal.nD,
          r.2.mem ((c.tc : Thread Cert.MainDbIdeal.nD Cert.MainDbIdeal.τ).loc Cert.MainDbIdeal.main_v0) = v0 c
          ∧ r.2.mem ((c.tc : Thread Cert.MainDbIdeal.nD Cert.MainDbIdeal.τ).loc Cert.MainDbIdeal.main_arg0) = m ((c.tc : Thread Cert.MainDbIdeal.nD Cert.MainDbIdeal.τ).loc Cert.MainDbIdeal.main_arg0))
      ∧ θ_run (Cert.MainDbRefIdeal.defs (F := Ideal)) (onTc (τ := Cert.MainDbRefIdeal.τ) (Cert.MainDbRefIdeal.main (F := Ideal))) ⟨m', fun _ => 0, g'⟩ (fun r => ∀ c : Dev Cert.MainDbRefIdeal.nD,
          r.2.mem ((c.tc : Thread Cert.MainDbRefIdeal.nD Cert.MainDbRefIdeal.τ).loc Cert.MainDbRefIdeal.main_v3) = v0 c
          ∧ r.2.mem ((c.tc : Thread Cert.MainDbRefIdeal.nD Cert.MainDbRefIdeal.τ).loc Cert.MainDbRefIdeal.main_arg0) = m' ((c.tc : Thread Cert.MainDbRefIdeal.nD Cert.MainDbRefIdeal.τ).loc Cert.MainDbRefIdeal.main_arg0))

def preserves_LnBwd_LnBwdIdeal : Prop :=
  True

def algebraic_LnBwdIdeal_LnBwdRefIdeal [hLnBwdIdeal : Cert.LnBwdIdeal.Facts] [hLnBwdRefIdeal : Cert.LnBwdRefIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg)
    (m' : (ℓ : Loc Cert.LnBwdRefIdeal.nD Cert.LnBwdRefIdeal.τ Cert.LnBwdRefIdeal.sig) → Buf (Elt Ideal) ℓ) (g' : Dev Cert.LnBwdRefIdeal.nD → PrngReg), Pre_LnBwdIdeal m →
    (∀ c : Dev Cert.LnBwdIdeal.nD,
      m' ((c.tc : Thread Cert.LnBwdRefIdeal.nD Cert.LnBwdRefIdeal.τ).loc Cert.LnBwdRefIdeal.main_arg0) = m ((c.tc : Thread Cert.LnBwdIdeal.nD Cert.LnBwdIdeal.τ).loc Cert.LnBwdIdeal.main_arg0)
      ∧ m' ((c.tc : Thread Cert.LnBwdRefIdeal.nD Cert.LnBwdRefIdeal.τ).loc Cert.LnBwdRefIdeal.main_arg1) = m ((c.tc : Thread Cert.LnBwdIdeal.nD Cert.LnBwdIdeal.τ).loc Cert.LnBwdIdeal.main_arg1)
      ∧ m' ((c.tc : Thread Cert.LnBwdRefIdeal.nD Cert.LnBwdRefIdeal.τ).loc Cert.LnBwdRefIdeal.main_arg2) = m ((c.tc : Thread Cert.LnBwdIdeal.nD Cert.LnBwdIdeal.τ).loc Cert.LnBwdIdeal.main_arg2)
      ∧ m' ((c.tc : Thread Cert.LnBwdRefIdeal.nD Cert.LnBwdRefIdeal.τ).loc Cert.LnBwdRefIdeal.main_arg3) = m ((c.tc : Thread Cert.LnBwdIdeal.nD Cert.LnBwdIdeal.τ).loc Cert.LnBwdIdeal.main_arg3)
      ∧ m' ((c.tc : Thread Cert.LnBwdRefIdeal.nD Cert.LnBwdRefIdeal.τ).loc Cert.LnBwdRefIdeal.main_arg4) = m ((c.tc : Thread Cert.LnBwdIdeal.nD Cert.LnBwdIdeal.τ).loc Cert.LnBwdIdeal.main_arg4)) →
    ∃ (v0 : (c : Dev Cert.LnBwdIdeal.nD) → Buf (Elt Ideal) ((c.tc : Thread Cert.LnBwdIdeal.nD Cert.LnBwdIdeal.τ).loc Cert.LnBwdIdeal.main_v0_0)) (v1 : (c : Dev Cert.LnBwdIdeal.nD) → Buf (Elt Ideal) ((c.tc : Thread Cert.LnBwdIdeal.nD Cert.LnBwdIdeal.τ).loc Cert.LnBwdIdeal.main_v0_1)) (v2 : (c : Dev Cert.LnBwdIdeal.nD) → Buf (Elt Ideal) ((c.tc : Thread Cert.LnBwdIdeal.nD Cert.LnBwdIdeal.τ).loc Cert.LnBwdIdeal.main_v0_2)) (v3 : (c : Dev Cert.LnBwdIdeal.nD) → Buf (Elt Ideal) ((c.tc : Thread Cert.LnBwdIdeal.nD Cert.LnBwdIdeal.τ).loc Cert.LnBwdIdeal.main_v0_3)),
      θ_run (Cert.LnBwdIdeal.defs (F := Ideal)) (onTc (τ := Cert.LnBwdIdeal.τ) (Cert.LnBwdIdeal.main (F := Ideal))) ⟨m, fun _ => 0, g⟩ (fun r => ∀ c : Dev Cert.LnBwdIdeal.nD,
          r.2.mem ((c.tc : Thread Cert.LnBwdIdeal.nD Cert.LnBwdIdeal.τ).loc Cert.LnBwdIdeal.main_v0_0) = v0 c
          ∧ r.2.mem ((c.tc : Thread Cert.LnBwdIdeal.nD Cert.LnBwdIdeal.τ).loc Cert.LnBwdIdeal.main_v0_1) = v1 c
          ∧ r.2.mem ((c.tc : Thread Cert.LnBwdIdeal.nD Cert.LnBwdIdeal.τ).loc Cert.LnBwdIdeal.main_v0_2) = v2 c
          ∧ r.2.mem ((c.tc : Thread Cert.LnBwdIdeal.nD Cert.LnBwdIdeal.τ).loc Cert.LnBwdIdeal.main_v0_3) = v3 c
          ∧ r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
          ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
          ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
          ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3)
          ∧ r.2.mem ((c.tc : Thread Cert.LnBwdIdeal.nD Cert.LnBwdIdeal.τ).loc Cert.LnBwdIdeal.main_arg4) = m ((c.tc : Thread Cert.LnBwdIdeal.nD Cert.LnBwdIdeal.τ).loc Cert.LnBwdIdeal.main_arg4))
      ∧ θ_run (Cert.LnBwdRefIdeal.defs (F := Ideal)) (onTc (τ := Cert.LnBwdRefIdeal.τ) (Cert.LnBwdRefIdeal.main (F := Ideal))) ⟨m', fun _ => 0, g'⟩ (fun r => ∀ c : Dev Cert.LnBwdRefIdeal.nD,
          r.2.mem ((c.tc : Thread Cert.LnBwdRefIdeal.nD Cert.LnBwdRefIdeal.τ).loc Cert.LnBwdRefIdeal.main_v57) = v0 c
          ∧ r.2.mem ((c.tc : Thread Cert.LnBwdRefIdeal.nD Cert.LnBwdRefIdeal.τ).loc Cert.LnBwdRefIdeal.main_v58) = v1 c
          ∧ r.2.mem ((c.tc : Thread Cert.LnBwdRefIdeal.nD Cert.LnBwdRefIdeal.τ).loc Cert.LnBwdRefIdeal.main_v33) = v2 c
          ∧ r.2.mem ((c.tc : Thread Cert.LnBwdRefIdeal.nD Cert.LnBwdRefIdeal.τ).loc Cert.LnBwdRefIdeal.main_v30) = v3 c
          ∧ r.2.mem ((c.tc : Thread Cert.LnBwdRefIdeal.nD Cert.LnBwdRefIdeal.τ).loc Cert.LnBwdRefIdeal.main_arg0) = m' ((c.tc : Thread Cert.LnBwdRefIdeal.nD Cert.LnBwdRefIdeal.τ).loc Cert.LnBwdRefIdeal.main_arg0)
          ∧ r.2.mem ((c.tc : Thread Cert.LnBwdRefIdeal.nD Cert.LnBwdRefIdeal.τ).loc Cert.LnBwdRefIdeal.main_arg1) = m' ((c.tc : Thread Cert.LnBwdRefIdeal.nD Cert.LnBwdRefIdeal.τ).loc Cert.LnBwdRefIdeal.main_arg1)
          ∧ r.2.mem ((c.tc : Thread Cert.LnBwdRefIdeal.nD Cert.LnBwdRefIdeal.τ).loc Cert.LnBwdRefIdeal.main_arg2) = m' ((c.tc : Thread Cert.LnBwdRefIdeal.nD Cert.LnBwdRefIdeal.τ).loc Cert.LnBwdRefIdeal.main_arg2)
          ∧ r.2.mem ((c.tc : Thread Cert.LnBwdRefIdeal.nD Cert.LnBwdRefIdeal.τ).loc Cert.LnBwdRefIdeal.main_arg3) = m' ((c.tc : Thread Cert.LnBwdRefIdeal.nD Cert.LnBwdRefIdeal.τ).loc Cert.LnBwdRefIdeal.main_arg3)
          ∧ r.2.mem ((c.tc : Thread Cert.LnBwdRefIdeal.nD Cert.LnBwdRefIdeal.τ).loc Cert.LnBwdRefIdeal.main_arg4) = m' ((c.tc : Thread Cert.LnBwdRefIdeal.nD Cert.LnBwdRefIdeal.τ).loc Cert.LnBwdRefIdeal.main_arg4))

def preserves_LnFwd_LnFwdIdeal : Prop :=
  True

def algebraic_LnFwdIdeal_LnFwdRefIdeal [hLnFwdIdeal : Cert.LnFwdIdeal.Facts] [hLnFwdRefIdeal : Cert.LnFwdRefIdeal.Facts] : Prop :=
  ∀ (m : (ℓ : Loc Cert.LnFwdIdeal.nD Cert.LnFwdIdeal.τ Cert.LnFwdIdeal.sig) → Buf (Elt Ideal) ℓ) (g : Dev Cert.LnFwdIdeal.nD → PrngReg)
    (m' : (ℓ : Loc Cert.LnFwdRefIdeal.nD Cert.LnFwdRefIdeal.τ Cert.LnFwdRefIdeal.sig) → Buf (Elt Ideal) ℓ) (g' : Dev Cert.LnFwdRefIdeal.nD → PrngReg), Pre_LnFwdIdeal m →
    (∀ c : Dev Cert.LnFwdIdeal.nD,
      m' ((c.tc : Thread Cert.LnFwdRefIdeal.nD Cert.LnFwdRefIdeal.τ).loc Cert.LnFwdRefIdeal.main_arg0) = m ((c.tc : Thread Cert.LnFwdIdeal.nD Cert.LnFwdIdeal.τ).loc Cert.LnFwdIdeal.main_arg0)
      ∧ m' ((c.tc : Thread Cert.LnFwdRefIdeal.nD Cert.LnFwdRefIdeal.τ).loc Cert.LnFwdRefIdeal.main_arg1) = m ((c.tc : Thread Cert.LnFwdIdeal.nD Cert.LnFwdIdeal.τ).loc Cert.LnFwdIdeal.main_arg1)
      ∧ m' ((c.tc : Thread Cert.LnFwdRefIdeal.nD Cert.LnFwdRefIdeal.τ).loc Cert.LnFwdRefIdeal.main_arg2) = m ((c.tc : Thread Cert.LnFwdIdeal.nD Cert.LnFwdIdeal.τ).loc Cert.LnFwdIdeal.main_arg2)
      ∧ m' ((c.tc : Thread Cert.LnFwdRefIdeal.nD Cert.LnFwdRefIdeal.τ).loc Cert.LnFwdRefIdeal.main_arg3) = m ((c.tc : Thread Cert.LnFwdIdeal.nD Cert.LnFwdIdeal.τ).loc Cert.LnFwdIdeal.main_arg3)) →
    ∃ (v0 : (c : Dev Cert.LnFwdIdeal.nD) → Buf (Elt Ideal) ((c.tc : Thread Cert.LnFwdIdeal.nD Cert.LnFwdIdeal.τ).loc Cert.LnFwdIdeal.main_v0)),
      θ_run (Cert.LnFwdIdeal.defs (F := Ideal)) (onTc (τ := Cert.LnFwdIdeal.τ) (Cert.LnFwdIdeal.main (F := Ideal))) ⟨m, fun _ => 0, g⟩ (fun r => ∀ c : Dev Cert.LnFwdIdeal.nD,
          r.2.mem ((c.tc : Thread Cert.LnFwdIdeal.nD Cert.LnFwdIdeal.τ).loc Cert.LnFwdIdeal.main_v0) = v0 c
          ∧ r.2.mem ((c.tc : Thread Cert.LnFwdIdeal.nD Cert.LnFwdIdeal.τ).loc Cert.LnFwdIdeal.main_arg0) = m ((c.tc : Thread Cert.LnFwdIdeal.nD Cert.LnFwdIdeal.τ).loc Cert.LnFwdIdeal.main_arg0)
          ∧ r.2.mem ((c.tc : Thread Cert.LnFwdIdeal.nD Cert.LnFwdIdeal.τ).loc Cert.LnFwdIdeal.main_arg1) = m ((c.tc : Thread Cert.LnFwdIdeal.nD Cert.LnFwdIdeal.τ).loc Cert.LnFwdIdeal.main_arg1)
          ∧ r.2.mem ((c.tc : Thread Cert.LnFwdIdeal.nD Cert.LnFwdIdeal.τ).loc Cert.LnFwdIdeal.main_arg2) = m ((c.tc : Thread Cert.LnFwdIdeal.nD Cert.LnFwdIdeal.τ).loc Cert.LnFwdIdeal.main_arg2)
          ∧ r.2.mem ((c.tc : Thread Cert.LnFwdIdeal.nD Cert.LnFwdIdeal.τ).loc Cert.LnFwdIdeal.main_arg3) = m ((c.tc : Thread Cert.LnFwdIdeal.nD Cert.LnFwdIdeal.τ).loc Cert.LnFwdIdeal.main_arg3))
      ∧ θ_run (Cert.LnFwdRefIdeal.defs (F := Ideal)) (onTc (τ := Cert.LnFwdRefIdeal.τ) (Cert.LnFwdRefIdeal.main (F := Ideal))) ⟨m', fun _ => 0, g'⟩ (fun r => ∀ c : Dev Cert.LnFwdRefIdeal.nD,
          r.2.mem ((c.tc : Thread Cert.LnFwdRefIdeal.nD Cert.LnFwdRefIdeal.τ).loc Cert.LnFwdRefIdeal.main_v22) = v0 c
          ∧ r.2.mem ((c.tc : Thread Cert.LnFwdRefIdeal.nD Cert.LnFwdRefIdeal.τ).loc Cert.LnFwdRefIdeal.main_arg0) = m' ((c.tc : Thread Cert.LnFwdRefIdeal.nD Cert.LnFwdRefIdeal.τ).loc Cert.LnFwdRefIdeal.main_arg0)
          ∧ r.2.mem ((c.tc : Thread Cert.LnFwdRefIdeal.nD Cert.LnFwdRefIdeal.τ).loc Cert.LnFwdRefIdeal.main_arg1) = m' ((c.tc : Thread Cert.LnFwdRefIdeal.nD Cert.LnFwdRefIdeal.τ).loc Cert.LnFwdRefIdeal.main_arg1)
          ∧ r.2.mem ((c.tc : Thread Cert.LnFwdRefIdeal.nD Cert.LnFwdRefIdeal.τ).loc Cert.LnFwdRefIdeal.main_arg2) = m' ((c.tc : Thread Cert.LnFwdRefIdeal.nD Cert.LnFwdRefIdeal.τ).loc Cert.LnFwdRefIdeal.main_arg2)
          ∧ r.2.mem ((c.tc : Thread Cert.LnFwdRefIdeal.nD Cert.LnFwdRefIdeal.τ).loc Cert.LnFwdRefIdeal.main_arg3) = m' ((c.tc : Thread Cert.LnFwdRefIdeal.nD Cert.LnFwdRefIdeal.τ).loc Cert.LnFwdRefIdeal.main_arg3))

def preserves_SguBwd_SguBwdIdeal : Prop :=
  True

def algebraic_SguBwdIdeal_SguBwdRefIdeal [hSguBwdIdeal : Cert.SguBwdIdeal.Facts] [hSguBwdRefIdeal : Cert.SguBwdRefIdeal.Facts] : Prop :=
  ∀ (m : (ℓ : Loc Cert.SguBwdIdeal.nD Cert.SguBwdIdeal.τ Cert.SguBwdIdeal.sig) → Buf (Elt Ideal) ℓ) (g : Dev Cert.SguBwdIdeal.nD → PrngReg)
    (m' : (ℓ : Loc Cert.SguBwdRefIdeal.nD Cert.SguBwdRefIdeal.τ Cert.SguBwdRefIdeal.sig) → Buf (Elt Ideal) ℓ) (g' : Dev Cert.SguBwdRefIdeal.nD → PrngReg), Pre_SguBwdIdeal m →
    (∀ c : Dev Cert.SguBwdIdeal.nD,
      m' ((c.tc : Thread Cert.SguBwdRefIdeal.nD Cert.SguBwdRefIdeal.τ).loc Cert.SguBwdRefIdeal.main_arg0) = m ((c.tc : Thread Cert.SguBwdIdeal.nD Cert.SguBwdIdeal.τ).loc Cert.SguBwdIdeal.main_arg0)
      ∧ m' ((c.tc : Thread Cert.SguBwdRefIdeal.nD Cert.SguBwdRefIdeal.τ).loc Cert.SguBwdRefIdeal.main_arg1) = m ((c.tc : Thread Cert.SguBwdIdeal.nD Cert.SguBwdIdeal.τ).loc Cert.SguBwdIdeal.main_arg1)
      ∧ m' ((c.tc : Thread Cert.SguBwdRefIdeal.nD Cert.SguBwdRefIdeal.τ).loc Cert.SguBwdRefIdeal.main_arg2) = m ((c.tc : Thread Cert.SguBwdIdeal.nD Cert.SguBwdIdeal.τ).loc Cert.SguBwdIdeal.main_arg2)
      ∧ m' ((c.tc : Thread Cert.SguBwdRefIdeal.nD Cert.SguBwdRefIdeal.τ).loc Cert.SguBwdRefIdeal.main_arg3) = m ((c.tc : Thread Cert.SguBwdIdeal.nD Cert.SguBwdIdeal.τ).loc Cert.SguBwdIdeal.main_arg3)
      ∧ m' ((c.tc : Thread Cert.SguBwdRefIdeal.nD Cert.SguBwdRefIdeal.τ).loc Cert.SguBwdRefIdeal.main_arg4) = m ((c.tc : Thread Cert.SguBwdIdeal.nD Cert.SguBwdIdeal.τ).loc Cert.SguBwdIdeal.main_arg4)
      ∧ m' ((c.tc : Thread Cert.SguBwdRefIdeal.nD Cert.SguBwdRefIdeal.τ).loc Cert.SguBwdRefIdeal.main_arg5) = m ((c.tc : Thread Cert.SguBwdIdeal.nD Cert.SguBwdIdeal.τ).loc Cert.SguBwdIdeal.main_arg5)) →
    ∃ (v0 : (c : Dev Cert.SguBwdIdeal.nD) → Buf (Elt Ideal) ((c.tc : Thread Cert.SguBwdIdeal.nD Cert.SguBwdIdeal.τ).loc Cert.SguBwdIdeal.main_v0_0)) (v1 : (c : Dev Cert.SguBwdIdeal.nD) → Buf (Elt Ideal) ((c.tc : Thread Cert.SguBwdIdeal.nD Cert.SguBwdIdeal.τ).loc Cert.SguBwdIdeal.main_v0_1)) (v2 : (c : Dev Cert.SguBwdIdeal.nD) → Buf (Elt Ideal) ((c.tc : Thread Cert.SguBwdIdeal.nD Cert.SguBwdIdeal.τ).loc Cert.SguBwdIdeal.main_v0_2)) (v3 : (c : Dev Cert.SguBwdIdeal.nD) → Buf (Elt Ideal) ((c.tc : Thread Cert.SguBwdIdeal.nD Cert.SguBwdIdeal.τ).loc Cert.SguBwdIdeal.main_v0_3)) (v4 : (c : Dev Cert.SguBwdIdeal.nD) → Buf (Elt Ideal) ((c.tc : Thread Cert.SguBwdIdeal.nD Cert.SguBwdIdeal.τ).loc Cert.SguBwdIdeal.main_v0_4)) (v5 : (c : Dev Cert.SguBwdIdeal.nD) → Buf (Elt Ideal) ((c.tc : Thread Cert.SguBwdIdeal.nD Cert.SguBwdIdeal.τ).loc Cert.SguBwdIdeal.main_v0_5)),
      θ_run (Cert.SguBwdIdeal.defs (F := Ideal)) (onTc (τ := Cert.SguBwdIdeal.τ) (Cert.SguBwdIdeal.main (F := Ideal))) ⟨m, fun _ => 0, g⟩ (fun r => ∀ c : Dev Cert.SguBwdIdeal.nD,
          r.2.mem ((c.tc : Thread Cert.SguBwdIdeal.nD Cert.SguBwdIdeal.τ).loc Cert.SguBwdIdeal.main_v0_0) = v0 c
          ∧ r.2.mem ((c.tc : Thread Cert.SguBwdIdeal.nD Cert.SguBwdIdeal.τ).loc Cert.SguBwdIdeal.main_v0_1) = v1 c
          ∧ r.2.mem ((c.tc : Thread Cert.SguBwdIdeal.nD Cert.SguBwdIdeal.τ).loc Cert.SguBwdIdeal.main_v0_2) = v2 c
          ∧ r.2.mem ((c.tc : Thread Cert.SguBwdIdeal.nD Cert.SguBwdIdeal.τ).loc Cert.SguBwdIdeal.main_v0_3) = v3 c
          ∧ r.2.mem ((c.tc : Thread Cert.SguBwdIdeal.nD Cert.SguBwdIdeal.τ).loc Cert.SguBwdIdeal.main_v0_4) = v4 c
          ∧ r.2.mem ((c.tc : Thread Cert.SguBwdIdeal.nD Cert.SguBwdIdeal.τ).loc Cert.SguBwdIdeal.main_v0_5) = v5 c
          ∧ r.2.mem ((c.tc : Thread Cert.SguBwdIdeal.nD Cert.SguBwdIdeal.τ).loc Cert.SguBwdIdeal.main_arg0) = m ((c.tc : Thread Cert.SguBwdIdeal.nD Cert.SguBwdIdeal.τ).loc Cert.SguBwdIdeal.main_arg0)
          ∧ r.2.mem ((c.tc : Thread Cert.SguBwdIdeal.nD Cert.SguBwdIdeal.τ).loc Cert.SguBwdIdeal.main_arg1) = m ((c.tc : Thread Cert.SguBwdIdeal.nD Cert.SguBwdIdeal.τ).loc Cert.SguBwdIdeal.main_arg1)
          ∧ r.2.mem ((c.tc : Thread Cert.SguBwdIdeal.nD Cert.SguBwdIdeal.τ).loc Cert.SguBwdIdeal.main_arg2) = m ((c.tc : Thread Cert.SguBwdIdeal.nD Cert.SguBwdIdeal.τ).loc Cert.SguBwdIdeal.main_arg2)
          ∧ r.2.mem ((c.tc : Thread Cert.SguBwdIdeal.nD Cert.SguBwdIdeal.τ).loc Cert.SguBwdIdeal.main_arg3) = m ((c.tc : Thread Cert.SguBwdIdeal.nD Cert.SguBwdIdeal.τ).loc Cert.SguBwdIdeal.main_arg3)
          ∧ r.2.mem ((c.tc : Thread Cert.SguBwdIdeal.nD Cert.SguBwdIdeal.τ).loc Cert.SguBwdIdeal.main_arg4) = m ((c.tc : Thread Cert.SguBwdIdeal.nD Cert.SguBwdIdeal.τ).loc Cert.SguBwdIdeal.main_arg4)
          ∧ r.2.mem ((c.tc : Thread Cert.SguBwdIdeal.nD Cert.SguBwdIdeal.τ).loc Cert.SguBwdIdeal.main_arg5) = m ((c.tc : Thread Cert.SguBwdIdeal.nD Cert.SguBwdIdeal.τ).loc Cert.SguBwdIdeal.main_arg5))
      ∧ θ_run (Cert.SguBwdRefIdeal.defs (F := Ideal)) (onTc (τ := Cert.SguBwdRefIdeal.τ) (Cert.SguBwdRefIdeal.main (F := Ideal))) ⟨m', fun _ => 0, g'⟩ (fun r => ∀ c : Dev Cert.SguBwdRefIdeal.nD,
          r.2.mem ((c.tc : Thread Cert.SguBwdRefIdeal.nD Cert.SguBwdRefIdeal.τ).loc Cert.SguBwdRefIdeal.main_v54) = v0 c
          ∧ r.2.mem ((c.tc : Thread Cert.SguBwdRefIdeal.nD Cert.SguBwdRefIdeal.τ).loc Cert.SguBwdRefIdeal.main_v98) = v1 c
          ∧ r.2.mem ((c.tc : Thread Cert.SguBwdRefIdeal.nD Cert.SguBwdRefIdeal.τ).loc Cert.SguBwdRefIdeal.main_v77) = v2 c
          ∧ r.2.mem ((c.tc : Thread Cert.SguBwdRefIdeal.nD Cert.SguBwdRefIdeal.τ).loc Cert.SguBwdRefIdeal.main_v70) = v3 c
          ∧ r.2.mem ((c.tc : Thread Cert.SguBwdRefIdeal.nD Cert.SguBwdRefIdeal.τ).loc Cert.SguBwdRefIdeal.main_v66) = v4 c
          ∧ r.2.mem ((c.tc : Thread Cert.SguBwdRefIdeal.nD Cert.SguBwdRefIdeal.τ).loc Cert.SguBwdRefIdeal.main_v61) = v5 c
          ∧ r.2.mem ((c.tc : Thread Cert.SguBwdRefIdeal.nD Cert.SguBwdRefIdeal.τ).loc Cert.SguBwdRefIdeal.main_arg0) = m' ((c.tc : Thread Cert.SguBwdRefIdeal.nD Cert.SguBwdRefIdeal.τ).loc Cert.SguBwdRefIdeal.main_arg0)
          ∧ r.2.mem ((c.tc : Thread Cert.SguBwdRefIdeal.nD Cert.SguBwdRefIdeal.τ).loc Cert.SguBwdRefIdeal.main_arg1) = m' ((c.tc : Thread Cert.SguBwdRefIdeal.nD Cert.SguBwdRefIdeal.τ).loc Cert.SguBwdRefIdeal.main_arg1)
          ∧ r.2.mem ((c.tc : Thread Cert.SguBwdRefIdeal.nD Cert.SguBwdRefIdeal.τ).loc Cert.SguBwdRefIdeal.main_arg2) = m' ((c.tc : Thread Cert.SguBwdRefIdeal.nD Cert.SguBwdRefIdeal.τ).loc Cert.SguBwdRefIdeal.main_arg2)
          ∧ r.2.mem ((c.tc : Thread Cert.SguBwdRefIdeal.nD Cert.SguBwdRefIdeal.τ).loc Cert.SguBwdRefIdeal.main_arg3) = m' ((c.tc : Thread Cert.SguBwdRefIdeal.nD Cert.SguBwdRefIdeal.τ).loc Cert.SguBwdRefIdeal.main_arg3)
          ∧ r.2.mem ((c.tc : Thread Cert.SguBwdRefIdeal.nD Cert.SguBwdRefIdeal.τ).loc Cert.SguBwdRefIdeal.main_arg4) = m' ((c.tc : Thread Cert.SguBwdRefIdeal.nD Cert.SguBwdRefIdeal.τ).loc Cert.SguBwdRefIdeal.main_arg4)
          ∧ r.2.mem ((c.tc : Thread Cert.SguBwdRefIdeal.nD Cert.SguBwdRefIdeal.τ).loc Cert.SguBwdRefIdeal.main_arg5) = m' ((c.tc : Thread Cert.SguBwdRefIdeal.nD Cert.SguBwdRefIdeal.τ).loc Cert.SguBwdRefIdeal.main_arg5))

def preserves_SguFwd_SguFwdIdeal : Prop :=
  True

def algebraic_SguFwdIdeal_SguFwdRefIdeal [hSguFwdIdeal : Cert.SguFwdIdeal.Facts] [hSguFwdRefIdeal : Cert.SguFwdRefIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg)
    (m' : (ℓ : Loc Cert.SguFwdRefIdeal.nD Cert.SguFwdRefIdeal.τ Cert.SguFwdRefIdeal.sig) → Buf (Elt Ideal) ℓ) (g' : Dev Cert.SguFwdRefIdeal.nD → PrngReg), Pre_SguFwdIdeal m →
    (∀ c : Dev Cert.SguFwdIdeal.nD,
      m' ((c.tc : Thread Cert.SguFwdRefIdeal.nD Cert.SguFwdRefIdeal.τ).loc Cert.SguFwdRefIdeal.main_arg0) = m ((c.tc : Thread Cert.SguFwdIdeal.nD Cert.SguFwdIdeal.τ).loc Cert.SguFwdIdeal.main_arg0)
      ∧ m' ((c.tc : Thread Cert.SguFwdRefIdeal.nD Cert.SguFwdRefIdeal.τ).loc Cert.SguFwdRefIdeal.main_arg1) = m ((c.tc : Thread Cert.SguFwdIdeal.nD Cert.SguFwdIdeal.τ).loc Cert.SguFwdIdeal.main_arg1)
      ∧ m' ((c.tc : Thread Cert.SguFwdRefIdeal.nD Cert.SguFwdRefIdeal.τ).loc Cert.SguFwdRefIdeal.main_arg2) = m ((c.tc : Thread Cert.SguFwdIdeal.nD Cert.SguFwdIdeal.τ).loc Cert.SguFwdIdeal.main_arg2)
      ∧ m' ((c.tc : Thread Cert.SguFwdRefIdeal.nD Cert.SguFwdRefIdeal.τ).loc Cert.SguFwdRefIdeal.main_arg3) = m ((c.tc : Thread Cert.SguFwdIdeal.nD Cert.SguFwdIdeal.τ).loc Cert.SguFwdIdeal.main_arg3)
      ∧ m' ((c.tc : Thread Cert.SguFwdRefIdeal.nD Cert.SguFwdRefIdeal.τ).loc Cert.SguFwdRefIdeal.main_arg4) = m ((c.tc : Thread Cert.SguFwdIdeal.nD Cert.SguFwdIdeal.τ).loc Cert.SguFwdIdeal.main_arg4)) →
    ∃ (v0 : (c : Dev Cert.SguFwdIdeal.nD) → Buf (Elt Ideal) ((c.tc : Thread Cert.SguFwdIdeal.nD Cert.SguFwdIdeal.τ).loc Cert.SguFwdIdeal.main_v0)),
      θ_run (Cert.SguFwdIdeal.defs (F := Ideal)) (onTc (τ := Cert.SguFwdIdeal.τ) (Cert.SguFwdIdeal.main (F := Ideal))) ⟨m, fun _ => 0, g⟩ (fun r => ∀ c : Dev Cert.SguFwdIdeal.nD,
          r.2.mem ((c.tc : Thread Cert.SguFwdIdeal.nD Cert.SguFwdIdeal.τ).loc Cert.SguFwdIdeal.main_v0) = v0 c
          ∧ r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
          ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
          ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
          ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
          ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4))
      ∧ θ_run (Cert.SguFwdRefIdeal.defs (F := Ideal)) (onTc (τ := Cert.SguFwdRefIdeal.τ) (Cert.SguFwdRefIdeal.main (F := Ideal))) ⟨m', fun _ => 0, g'⟩ (fun r => ∀ c : Dev Cert.SguFwdRefIdeal.nD,
          r.2.mem ((c.tc : Thread Cert.SguFwdRefIdeal.nD Cert.SguFwdRefIdeal.τ).loc Cert.SguFwdRefIdeal.main_v46) = v0 c
          ∧ r.2.mem ((c.tc : Thread Cert.SguFwdRefIdeal.nD Cert.SguFwdRefIdeal.τ).loc Cert.SguFwdRefIdeal.main_arg0) = m' ((c.tc : Thread Cert.SguFwdRefIdeal.nD Cert.SguFwdRefIdeal.τ).loc Cert.SguFwdRefIdeal.main_arg0)
          ∧ r.2.mem ((c.tc : Thread Cert.SguFwdRefIdeal.nD Cert.SguFwdRefIdeal.τ).loc Cert.SguFwdRefIdeal.main_arg1) = m' ((c.tc : Thread Cert.SguFwdRefIdeal.nD Cert.SguFwdRefIdeal.τ).loc Cert.SguFwdRefIdeal.main_arg1)
          ∧ r.2.mem ((c.tc : Thread Cert.SguFwdRefIdeal.nD Cert.SguFwdRefIdeal.τ).loc Cert.SguFwdRefIdeal.main_arg2) = m' ((c.tc : Thread Cert.SguFwdRefIdeal.nD Cert.SguFwdRefIdeal.τ).loc Cert.SguFwdRefIdeal.main_arg2)
          ∧ r.2.mem ((c.tc : Thread Cert.SguFwdRefIdeal.nD Cert.SguFwdRefIdeal.τ).loc Cert.SguFwdRefIdeal.main_arg3) = m' ((c.tc : Thread Cert.SguFwdRefIdeal.nD Cert.SguFwdRefIdeal.τ).loc Cert.SguFwdRefIdeal.main_arg3)
          ∧ r.2.mem ((c.tc : Thread Cert.SguFwdRefIdeal.nD Cert.SguFwdRefIdeal.τ).loc Cert.SguFwdRefIdeal.main_arg4) = m' ((c.tc : Thread Cert.SguFwdRefIdeal.nD Cert.SguFwdRefIdeal.τ).loc Cert.SguFwdRefIdeal.main_arg4))

def preserves_ActBwd_ActBwdIdeal : Prop :=
  True

def algebraic_ActBwdIdeal_ActBwdRefIdeal_pre_finite_values [hActBwdIdeal : Cert.ActBwdIdeal.Facts] [hActBwdRefIdeal : Cert.ActBwdRefIdeal.Facts] [hPre_finite_values : Cert.Pre_finite_values.Facts] : Prop :=
  ∀ (m : (ℓ : Loc Cert.ActBwdIdeal.nD Cert.ActBwdIdeal.τ Cert.ActBwdIdeal.sig) → Buf (Elt Ideal) ℓ) (g : Dev Cert.ActBwdIdeal.nD → PrngReg)
    (m' : (ℓ : Loc Cert.ActBwdRefIdeal.nD Cert.ActBwdRefIdeal.τ Cert.ActBwdRefIdeal.sig) → Buf (Elt Ideal) ℓ) (g' : Dev Cert.ActBwdRefIdeal.nD → PrngReg), Pre_ActBwdIdeal_finite_values m →
    (∀ c : Dev Cert.ActBwdIdeal.nD,
      m' ((c.tc : Thread Cert.ActBwdRefIdeal.nD Cert.ActBwdRefIdeal.τ).loc Cert.ActBwdRefIdeal.main_arg0) = m ((c.tc : Thread Cert.ActBwdIdeal.nD Cert.ActBwdIdeal.τ).loc Cert.ActBwdIdeal.main_arg0)
      ∧ m' ((c.tc : Thread Cert.ActBwdRefIdeal.nD Cert.ActBwdRefIdeal.τ).loc Cert.ActBwdRefIdeal.main_arg1) = m ((c.tc : Thread Cert.ActBwdIdeal.nD Cert.ActBwdIdeal.τ).loc Cert.ActBwdIdeal.main_arg1)
      ∧ m' ((c.tc : Thread Cert.ActBwdRefIdeal.nD Cert.ActBwdRefIdeal.τ).loc Cert.ActBwdRefIdeal.main_arg2) = m ((c.tc : Thread Cert.ActBwdIdeal.nD Cert.ActBwdIdeal.τ).loc Cert.ActBwdIdeal.main_arg2)
      ∧ m' ((c.tc : Thread Cert.ActBwdRefIdeal.nD Cert.ActBwdRefIdeal.τ).loc Cert.ActBwdRefIdeal.main_arg3) = m ((c.tc : Thread Cert.ActBwdIdeal.nD Cert.ActBwdIdeal.τ).loc Cert.ActBwdIdeal.main_arg3)
      ∧ m' ((c.tc : Thread Cert.ActBwdRefIdeal.nD Cert.ActBwdRefIdeal.τ).loc Cert.ActBwdRefIdeal.main_arg4) = m ((c.tc : Thread Cert.ActBwdIdeal.nD Cert.ActBwdIdeal.τ).loc Cert.ActBwdIdeal.main_arg4)
      ∧ m' ((c.tc : Thread Cert.ActBwdRefIdeal.nD Cert.ActBwdRefIdeal.τ).loc Cert.ActBwdRefIdeal.main_arg5) = m ((c.tc : Thread Cert.ActBwdIdeal.nD Cert.ActBwdIdeal.τ).loc Cert.ActBwdIdeal.main_arg5)
      ∧ m' ((c.tc : Thread Cert.ActBwdRefIdeal.nD Cert.ActBwdRefIdeal.τ).loc Cert.ActBwdRefIdeal.main_arg6) = m ((c.tc : Thread Cert.ActBwdIdeal.nD Cert.ActBwdIdeal.τ).loc Cert.ActBwdIdeal.main_arg6)) →
    ∃ (v0 : (c : Dev Cert.ActBwdIdeal.nD) → Buf (Elt Ideal) ((c.tc : Thread Cert.ActBwdIdeal.nD Cert.ActBwdIdeal.τ).loc Cert.ActBwdIdeal.main_v0_0)) (v1 : (c : Dev Cert.ActBwdIdeal.nD) → Buf (Elt Ideal) ((c.tc : Thread Cert.ActBwdIdeal.nD Cert.ActBwdIdeal.τ).loc Cert.ActBwdIdeal.main_v0_1)) (v2 : (c : Dev Cert.ActBwdIdeal.nD) → Buf (Elt Ideal) ((c.tc : Thread Cert.ActBwdIdeal.nD Cert.ActBwdIdeal.τ).loc Cert.ActBwdIdeal.main_v0_2)) (v3 : (c : Dev Cert.ActBwdIdeal.nD) → Buf (Elt Ideal) ((c.tc : Thread Cert.ActBwdIdeal.nD Cert.ActBwdIdeal.τ).loc Cert.ActBwdIdeal.main_v0_3)) (v4 : (c : Dev Cert.ActBwdIdeal.nD) → Buf (Elt Ideal) ((c.tc : Thread Cert.ActBwdIdeal.nD Cert.ActBwdIdeal.τ).loc Cert.ActBwdIdeal.main_v0_4)) (v5 : (c : Dev Cert.ActBwdIdeal.nD) → Buf (Elt Ideal) ((c.tc : Thread Cert.ActBwdIdeal.nD Cert.ActBwdIdeal.τ).loc Cert.ActBwdIdeal.main_v0_5)),
      θ_run (Cert.ActBwdIdeal.defs (F := Ideal)) (onTc (τ := Cert.ActBwdIdeal.τ) (Cert.ActBwdIdeal.main (F := Ideal))) ⟨m, fun _ => 0, g⟩ (fun r => ∀ c : Dev Cert.ActBwdIdeal.nD,
          r.2.mem ((c.tc : Thread Cert.ActBwdIdeal.nD Cert.ActBwdIdeal.τ).loc Cert.ActBwdIdeal.main_v0_0) = v0 c
          ∧ r.2.mem ((c.tc : Thread Cert.ActBwdIdeal.nD Cert.ActBwdIdeal.τ).loc Cert.ActBwdIdeal.main_v0_1) = v1 c
          ∧ r.2.mem ((c.tc : Thread Cert.ActBwdIdeal.nD Cert.ActBwdIdeal.τ).loc Cert.ActBwdIdeal.main_v0_2) = v2 c
          ∧ r.2.mem ((c.tc : Thread Cert.ActBwdIdeal.nD Cert.ActBwdIdeal.τ).loc Cert.ActBwdIdeal.main_v0_3) = v3 c
          ∧ r.2.mem ((c.tc : Thread Cert.ActBwdIdeal.nD Cert.ActBwdIdeal.τ).loc Cert.ActBwdIdeal.main_v0_4) = v4 c
          ∧ r.2.mem ((c.tc : Thread Cert.ActBwdIdeal.nD Cert.ActBwdIdeal.τ).loc Cert.ActBwdIdeal.main_v0_5) = v5 c
          ∧ r.2.mem ((c.tc : Thread Cert.ActBwdIdeal.nD Cert.ActBwdIdeal.τ).loc Cert.ActBwdIdeal.main_arg0) = m ((c.tc : Thread Cert.ActBwdIdeal.nD Cert.ActBwdIdeal.τ).loc Cert.ActBwdIdeal.main_arg0)
          ∧ r.2.mem ((c.tc : Thread Cert.ActBwdIdeal.nD Cert.ActBwdIdeal.τ).loc Cert.ActBwdIdeal.main_arg1) = m ((c.tc : Thread Cert.ActBwdIdeal.nD Cert.ActBwdIdeal.τ).loc Cert.ActBwdIdeal.main_arg1)
          ∧ r.2.mem ((c.tc : Thread Cert.ActBwdIdeal.nD Cert.ActBwdIdeal.τ).loc Cert.ActBwdIdeal.main_arg2) = m ((c.tc : Thread Cert.ActBwdIdeal.nD Cert.ActBwdIdeal.τ).loc Cert.ActBwdIdeal.main_arg2)
          ∧ r.2.mem ((c.tc : Thread Cert.ActBwdIdeal.nD Cert.ActBwdIdeal.τ).loc Cert.ActBwdIdeal.main_arg3) = m ((c.tc : Thread Cert.ActBwdIdeal.nD Cert.ActBwdIdeal.τ).loc Cert.ActBwdIdeal.main_arg3)
          ∧ r.2.mem ((c.tc : Thread Cert.ActBwdIdeal.nD Cert.ActBwdIdeal.τ).loc Cert.ActBwdIdeal.main_arg4) = m ((c.tc : Thread Cert.ActBwdIdeal.nD Cert.ActBwdIdeal.τ).loc Cert.ActBwdIdeal.main_arg4)
          ∧ r.2.mem ((c.tc : Thread Cert.ActBwdIdeal.nD Cert.ActBwdIdeal.τ).loc Cert.ActBwdIdeal.main_arg5) = m ((c.tc : Thread Cert.ActBwdIdeal.nD Cert.ActBwdIdeal.τ).loc Cert.ActBwdIdeal.main_arg5)
          ∧ r.2.mem ((c.tc : Thread Cert.ActBwdIdeal.nD Cert.ActBwdIdeal.τ).loc Cert.ActBwdIdeal.main_arg6) = m ((c.tc : Thread Cert.ActBwdIdeal.nD Cert.ActBwdIdeal.τ).loc Cert.ActBwdIdeal.main_arg6))
      ∧ θ_run (Cert.ActBwdRefIdeal.defs (F := Ideal)) (onTc (τ := Cert.ActBwdRefIdeal.τ) (Cert.ActBwdRefIdeal.main (F := Ideal))) ⟨m', fun _ => 0, g'⟩ (fun r => ∀ c : Dev Cert.ActBwdRefIdeal.nD,
          r.2.mem ((c.tc : Thread Cert.ActBwdRefIdeal.nD Cert.ActBwdRefIdeal.τ).loc Cert.ActBwdRefIdeal.main_v117) = v0 c
          ∧ r.2.mem ((c.tc : Thread Cert.ActBwdRefIdeal.nD Cert.ActBwdRefIdeal.τ).loc Cert.ActBwdRefIdeal.main_v118) = v1 c
          ∧ r.2.mem ((c.tc : Thread Cert.ActBwdRefIdeal.nD Cert.ActBwdRefIdeal.τ).loc Cert.ActBwdRefIdeal.main_v112) = v2 c
          ∧ r.2.mem ((c.tc : Thread Cert.ActBwdRefIdeal.nD Cert.ActBwdRefIdeal.τ).loc Cert.ActBwdRefIdeal.main_v79) = v3 c
          ∧ r.2.mem ((c.tc : Thread Cert.ActBwdRefIdeal.nD Cert.ActBwdRefIdeal.τ).loc Cert.ActBwdRefIdeal.main_v86) = v4 c
          ∧ r.2.mem ((c.tc : Thread Cert.ActBwdRefIdeal.nD Cert.ActBwdRefIdeal.τ).loc Cert.ActBwdRefIdeal.main_v53) = v5 c
          ∧ r.2.mem ((c.tc : Thread Cert.ActBwdRefIdeal.nD Cert.ActBwdRefIdeal.τ).loc Cert.ActBwdRefIdeal.main_arg0) = m' ((c.tc : Thread Cert.ActBwdRefIdeal.nD Cert.ActBwdRefIdeal.τ).loc Cert.ActBwdRefIdeal.main_arg0)
          ∧ r.2.mem ((c.tc : Thread Cert.ActBwdRefIdeal.nD Cert.ActBwdRefIdeal.τ).loc Cert.ActBwdRefIdeal.main_arg1) = m' ((c.tc : Thread Cert.ActBwdRefIdeal.nD Cert.ActBwdRefIdeal.τ).loc Cert.ActBwdRefIdeal.main_arg1)
          ∧ r.2.mem ((c.tc : Thread Cert.ActBwdRefIdeal.nD Cert.ActBwdRefIdeal.τ).loc Cert.ActBwdRefIdeal.main_arg2) = m' ((c.tc : Thread Cert.ActBwdRefIdeal.nD Cert.ActBwdRefIdeal.τ).loc Cert.ActBwdRefIdeal.main_arg2)
          ∧ r.2.mem ((c.tc : Thread Cert.ActBwdRefIdeal.nD Cert.ActBwdRefIdeal.τ).loc Cert.ActBwdRefIdeal.main_arg3) = m' ((c.tc : Thread Cert.ActBwdRefIdeal.nD Cert.ActBwdRefIdeal.τ).loc Cert.ActBwdRefIdeal.main_arg3)
          ∧ r.2.mem ((c.tc : Thread Cert.ActBwdRefIdeal.nD Cert.ActBwdRefIdeal.τ).loc Cert.ActBwdRefIdeal.main_arg4) = m' ((c.tc : Thread Cert.ActBwdRefIdeal.nD Cert.ActBwdRefIdeal.τ).loc Cert.ActBwdRefIdeal.main_arg4)
          ∧ r.2.mem ((c.tc : Thread Cert.ActBwdRefIdeal.nD Cert.ActBwdRefIdeal.τ).loc Cert.ActBwdRefIdeal.main_arg5) = m' ((c.tc : Thread Cert.ActBwdRefIdeal.nD Cert.ActBwdRefIdeal.τ).loc Cert.ActBwdRefIdeal.main_arg5)
          ∧ r.2.mem ((c.tc : Thread Cert.ActBwdRefIdeal.nD Cert.ActBwdRefIdeal.τ).loc Cert.ActBwdRefIdeal.main_arg6) = m' ((c.tc : Thread Cert.ActBwdRefIdeal.nD Cert.ActBwdRefIdeal.τ).loc Cert.ActBwdRefIdeal.main_arg6))

def preserves_ActFwd_ActFwdIdeal : Prop :=
  True

def algebraic_ActFwdIdeal_ActFwdRefIdeal [hActFwdIdeal : Cert.ActFwdIdeal.Facts] [hActFwdRefIdeal : Cert.ActFwdRefIdeal.Facts] : Prop :=
  ∀ (m : (ℓ : Loc Cert.ActFwdIdeal.nD Cert.ActFwdIdeal.τ Cert.ActFwdIdeal.sig) → Buf (Elt Ideal) ℓ) (g : Dev Cert.ActFwdIdeal.nD → PrngReg)
    (m' : (ℓ : Loc Cert.ActFwdRefIdeal.nD Cert.ActFwdRefIdeal.τ Cert.ActFwdRefIdeal.sig) → Buf (Elt Ideal) ℓ) (g' : Dev Cert.ActFwdRefIdeal.nD → PrngReg), Pre_ActFwdIdeal m →
    (∀ c : Dev Cert.ActFwdIdeal.nD,
      m' ((c.tc : Thread Cert.ActFwdRefIdeal.nD Cert.ActFwdRefIdeal.τ).loc Cert.ActFwdRefIdeal.main_arg0) = m ((c.tc : Thread Cert.ActFwdIdeal.nD Cert.ActFwdIdeal.τ).loc Cert.ActFwdIdeal.main_arg0)
      ∧ m' ((c.tc : Thread Cert.ActFwdRefIdeal.nD Cert.ActFwdRefIdeal.τ).loc Cert.ActFwdRefIdeal.main_arg1) = m ((c.tc : Thread Cert.ActFwdIdeal.nD Cert.ActFwdIdeal.τ).loc Cert.ActFwdIdeal.main_arg1)
      ∧ m' ((c.tc : Thread Cert.ActFwdRefIdeal.nD Cert.ActFwdRefIdeal.τ).loc Cert.ActFwdRefIdeal.main_arg2) = m ((c.tc : Thread Cert.ActFwdIdeal.nD Cert.ActFwdIdeal.τ).loc Cert.ActFwdIdeal.main_arg2)
      ∧ m' ((c.tc : Thread Cert.ActFwdRefIdeal.nD Cert.ActFwdRefIdeal.τ).loc Cert.ActFwdRefIdeal.main_arg3) = m ((c.tc : Thread Cert.ActFwdIdeal.nD Cert.ActFwdIdeal.τ).loc Cert.ActFwdIdeal.main_arg3)
      ∧ m' ((c.tc : Thread Cert.ActFwdRefIdeal.nD Cert.ActFwdRefIdeal.τ).loc Cert.ActFwdRefIdeal.main_arg4) = m ((c.tc : Thread Cert.ActFwdIdeal.nD Cert.ActFwdIdeal.τ).loc Cert.ActFwdIdeal.main_arg4)
      ∧ m' ((c.tc : Thread Cert.ActFwdRefIdeal.nD Cert.ActFwdRefIdeal.τ).loc Cert.ActFwdRefIdeal.main_arg5) = m ((c.tc : Thread Cert.ActFwdIdeal.nD Cert.ActFwdIdeal.τ).loc Cert.ActFwdIdeal.main_arg5)) →
    ∃ (v0 : (c : Dev Cert.ActFwdIdeal.nD) → Buf (Elt Ideal) ((c.tc : Thread Cert.ActFwdIdeal.nD Cert.ActFwdIdeal.τ).loc Cert.ActFwdIdeal.main_v0)),
      θ_run (Cert.ActFwdIdeal.defs (F := Ideal)) (onTc (τ := Cert.ActFwdIdeal.τ) (Cert.ActFwdIdeal.main (F := Ideal))) ⟨m, fun _ => 0, g⟩ (fun r => ∀ c : Dev Cert.ActFwdIdeal.nD,
          r.2.mem ((c.tc : Thread Cert.ActFwdIdeal.nD Cert.ActFwdIdeal.τ).loc Cert.ActFwdIdeal.main_v0) = v0 c
          ∧ r.2.mem ((c.tc : Thread Cert.ActFwdIdeal.nD Cert.ActFwdIdeal.τ).loc Cert.ActFwdIdeal.main_arg0) = m ((c.tc : Thread Cert.ActFwdIdeal.nD Cert.ActFwdIdeal.τ).loc Cert.ActFwdIdeal.main_arg0)
          ∧ r.2.mem ((c.tc : Thread Cert.ActFwdIdeal.nD Cert.ActFwdIdeal.τ).loc Cert.ActFwdIdeal.main_arg1) = m ((c.tc : Thread Cert.ActFwdIdeal.nD Cert.ActFwdIdeal.τ).loc Cert.ActFwdIdeal.main_arg1)
          ∧ r.2.mem ((c.tc : Thread Cert.ActFwdIdeal.nD Cert.ActFwdIdeal.τ).loc Cert.ActFwdIdeal.main_arg2) = m ((c.tc : Thread Cert.ActFwdIdeal.nD Cert.ActFwdIdeal.τ).loc Cert.ActFwdIdeal.main_arg2)
          ∧ r.2.mem ((c.tc : Thread Cert.ActFwdIdeal.nD Cert.ActFwdIdeal.τ).loc Cert.ActFwdIdeal.main_arg3) = m ((c.tc : Thread Cert.ActFwdIdeal.nD Cert.ActFwdIdeal.τ).loc Cert.ActFwdIdeal.main_arg3)
          ∧ r.2.mem ((c.tc : Thread Cert.ActFwdIdeal.nD Cert.ActFwdIdeal.τ).loc Cert.ActFwdIdeal.main_arg4) = m ((c.tc : Thread Cert.ActFwdIdeal.nD Cert.ActFwdIdeal.τ).loc Cert.ActFwdIdeal.main_arg4)
          ∧ r.2.mem ((c.tc : Thread Cert.ActFwdIdeal.nD Cert.ActFwdIdeal.τ).loc Cert.ActFwdIdeal.main_arg5) = m ((c.tc : Thread Cert.ActFwdIdeal.nD Cert.ActFwdIdeal.τ).loc Cert.ActFwdIdeal.main_arg5))
      ∧ θ_run (Cert.ActFwdRefIdeal.defs (F := Ideal)) (onTc (τ := Cert.ActFwdRefIdeal.τ) (Cert.ActFwdRefIdeal.main (F := Ideal))) ⟨m', fun _ => 0, g'⟩ (fun r => ∀ c : Dev Cert.ActFwdRefIdeal.nD,
          r.2.mem ((c.tc : Thread Cert.ActFwdRefIdeal.nD Cert.ActFwdRefIdeal.τ).loc Cert.ActFwdRefIdeal.main_v48) = v0 c
          ∧ r.2.mem ((c.tc : Thread Cert.ActFwdRefIdeal.nD Cert.ActFwdRefIdeal.τ).loc Cert.ActFwdRefIdeal.main_arg0) = m' ((c.tc : Thread Cert.ActFwdRefIdeal.nD Cert.ActFwdRefIdeal.τ).loc Cert.ActFwdRefIdeal.main_arg0)
          ∧ r.2.mem ((c.tc : Thread Cert.ActFwdRefIdeal.nD Cert.ActFwdRefIdeal.τ).loc Cert.ActFwdRefIdeal.main_arg1) = m' ((c.tc : Thread Cert.ActFwdRefIdeal.nD Cert.ActFwdRefIdeal.τ).loc Cert.ActFwdRefIdeal.main_arg1)
          ∧ r.2.mem ((c.tc : Thread Cert.ActFwdRefIdeal.nD Cert.ActFwdRefIdeal.τ).loc Cert.ActFwdRefIdeal.main_arg2) = m' ((c.tc : Thread Cert.ActFwdRefIdeal.nD Cert.ActFwdRefIdeal.τ).loc Cert.ActFwdRefIdeal.main_arg2)
          ∧ r.2.mem ((c.tc : Thread Cert.ActFwdRefIdeal.nD Cert.ActFwdRefIdeal.τ).loc Cert.ActFwdRefIdeal.main_arg3) = m' ((c.tc : Thread Cert.ActFwdRefIdeal.nD Cert.ActFwdRefIdeal.τ).loc Cert.ActFwdRefIdeal.main_arg3)
          ∧ r.2.mem ((c.tc : Thread Cert.ActFwdRefIdeal.nD Cert.ActFwdRefIdeal.τ).loc Cert.ActFwdRefIdeal.main_arg4) = m' ((c.tc : Thread Cert.ActFwdRefIdeal.nD Cert.ActFwdRefIdeal.τ).loc Cert.ActFwdRefIdeal.main_arg4)
          ∧ r.2.mem ((c.tc : Thread Cert.ActFwdRefIdeal.nD Cert.ActFwdRefIdeal.τ).loc Cert.ActFwdRefIdeal.main_arg5) = m' ((c.tc : Thread Cert.ActFwdRefIdeal.nD Cert.ActFwdRefIdeal.τ).loc Cert.ActFwdRefIdeal.main_arg5))

def preserves_PreBwd_PreBwdIdeal : Prop :=
  True

def algebraic_PreBwdIdeal_PreBwdRefIdeal_pre_finite_cotangent [hPreBwdIdeal : Cert.PreBwdIdeal.Facts] [hPreBwdRefIdeal : Cert.PreBwdRefIdeal.Facts] [hPre_finite_cotangent : Cert.Pre_finite_cotangent.Facts] : Prop :=
  ∀ (m : (ℓ : Loc Cert.PreBwdIdeal.nD Cert.PreBwdIdeal.τ Cert.PreBwdIdeal.sig) → Buf (Elt Ideal) ℓ) (g : Dev Cert.PreBwdIdeal.nD → PrngReg)
    (m' : (ℓ : Loc Cert.PreBwdRefIdeal.nD Cert.PreBwdRefIdeal.τ Cert.PreBwdRefIdeal.sig) → Buf (Elt Ideal) ℓ) (g' : Dev Cert.PreBwdRefIdeal.nD → PrngReg), Pre_PreBwdIdeal_finite_cotangent m →
    (∀ c : Dev Cert.PreBwdIdeal.nD,
      m' ((c.tc : Thread Cert.PreBwdRefIdeal.nD Cert.PreBwdRefIdeal.τ).loc Cert.PreBwdRefIdeal.main_arg0) = m ((c.tc : Thread Cert.PreBwdIdeal.nD Cert.PreBwdIdeal.τ).loc Cert.PreBwdIdeal.main_arg0)
      ∧ m' ((c.tc : Thread Cert.PreBwdRefIdeal.nD Cert.PreBwdRefIdeal.τ).loc Cert.PreBwdRefIdeal.main_arg1) = m ((c.tc : Thread Cert.PreBwdIdeal.nD Cert.PreBwdIdeal.τ).loc Cert.PreBwdIdeal.main_arg1)
      ∧ m' ((c.tc : Thread Cert.PreBwdRefIdeal.nD Cert.PreBwdRefIdeal.τ).loc Cert.PreBwdRefIdeal.main_arg2) = m ((c.tc : Thread Cert.PreBwdIdeal.nD Cert.PreBwdIdeal.τ).loc Cert.PreBwdIdeal.main_arg2)) →
    ∃ (v0 : (c : Dev Cert.PreBwdIdeal.nD) → Buf (Elt Ideal) ((c.tc : Thread Cert.PreBwdIdeal.nD Cert.PreBwdIdeal.τ).loc Cert.PreBwdIdeal.main_v0_0)) (v1 : (c : Dev Cert.PreBwdIdeal.nD) → Buf (Elt Ideal) ((c.tc : Thread Cert.PreBwdIdeal.nD Cert.PreBwdIdeal.τ).loc Cert.PreBwdIdeal.main_v0_1)),
      θ_run (Cert.PreBwdIdeal.defs (F := Ideal)) (onTc (τ := Cert.PreBwdIdeal.τ) (Cert.PreBwdIdeal.main (F := Ideal))) ⟨m, fun _ => 0, g⟩ (fun r => ∀ c : Dev Cert.PreBwdIdeal.nD,
          r.2.mem ((c.tc : Thread Cert.PreBwdIdeal.nD Cert.PreBwdIdeal.τ).loc Cert.PreBwdIdeal.main_v0_0) = v0 c
          ∧ r.2.mem ((c.tc : Thread Cert.PreBwdIdeal.nD Cert.PreBwdIdeal.τ).loc Cert.PreBwdIdeal.main_v0_1) = v1 c
          ∧ r.2.mem ((c.tc : Thread Cert.PreBwdIdeal.nD Cert.PreBwdIdeal.τ).loc Cert.PreBwdIdeal.main_arg0) = m ((c.tc : Thread Cert.PreBwdIdeal.nD Cert.PreBwdIdeal.τ).loc Cert.PreBwdIdeal.main_arg0)
          ∧ r.2.mem ((c.tc : Thread Cert.PreBwdIdeal.nD Cert.PreBwdIdeal.τ).loc Cert.PreBwdIdeal.main_arg1) = m ((c.tc : Thread Cert.PreBwdIdeal.nD Cert.PreBwdIdeal.τ).loc Cert.PreBwdIdeal.main_arg1)
          ∧ r.2.mem ((c.tc : Thread Cert.PreBwdIdeal.nD Cert.PreBwdIdeal.τ).loc Cert.PreBwdIdeal.main_arg2) = m ((c.tc : Thread Cert.PreBwdIdeal.nD Cert.PreBwdIdeal.τ).loc Cert.PreBwdIdeal.main_arg2))
      ∧ θ_run (Cert.PreBwdRefIdeal.defs (F := Ideal)) (onTc (τ := Cert.PreBwdRefIdeal.τ) (Cert.PreBwdRefIdeal.main (F := Ideal))) ⟨m', fun _ => 0, g'⟩ (fun r => ∀ c : Dev Cert.PreBwdRefIdeal.nD,
          r.2.mem ((c.tc : Thread Cert.PreBwdRefIdeal.nD Cert.PreBwdRefIdeal.τ).loc Cert.PreBwdRefIdeal.main_v136) = v0 c
          ∧ r.2.mem ((c.tc : Thread Cert.PreBwdRefIdeal.nD Cert.PreBwdRefIdeal.τ).loc Cert.PreBwdRefIdeal.main_v132) = v1 c
          ∧ r.2.mem ((c.tc : Thread Cert.PreBwdRefIdeal.nD Cert.PreBwdRefIdeal.τ).loc Cert.PreBwdRefIdeal.main_arg0) = m' ((c.tc : Thread Cert.PreBwdRefIdeal.nD Cert.PreBwdRefIdeal.τ).loc Cert.PreBwdRefIdeal.main_arg0)
          ∧ r.2.mem ((c.tc : Thread Cert.PreBwdRefIdeal.nD Cert.PreBwdRefIdeal.τ).loc Cert.PreBwdRefIdeal.main_arg1) = m' ((c.tc : Thread Cert.PreBwdRefIdeal.nD Cert.PreBwdRefIdeal.τ).loc Cert.PreBwdRefIdeal.main_arg1)
          ∧ r.2.mem ((c.tc : Thread Cert.PreBwdRefIdeal.nD Cert.PreBwdRefIdeal.τ).loc Cert.PreBwdRefIdeal.main_arg2) = m' ((c.tc : Thread Cert.PreBwdRefIdeal.nD Cert.PreBwdRefIdeal.τ).loc Cert.PreBwdRefIdeal.main_arg2))

def preserves_PreFwd_PreFwdIdeal : Prop :=
  True

def algebraic_PreFwdIdeal_PreFwdRefIdeal [hPreFwdIdeal : Cert.PreFwdIdeal.Facts] [hPreFwdRefIdeal : Cert.PreFwdRefIdeal.Facts] : Prop :=
  ∀ (m : (ℓ : Loc Cert.PreFwdIdeal.nD Cert.PreFwdIdeal.τ Cert.PreFwdIdeal.sig) → Buf (Elt Ideal) ℓ) (g : Dev Cert.PreFwdIdeal.nD → PrngReg)
    (m' : (ℓ : Loc Cert.PreFwdRefIdeal.nD Cert.PreFwdRefIdeal.τ Cert.PreFwdRefIdeal.sig) → Buf (Elt Ideal) ℓ) (g' : Dev Cert.PreFwdRefIdeal.nD → PrngReg), Pre_PreFwdIdeal m →
    (∀ c : Dev Cert.PreFwdIdeal.nD,
      m' ((c.tc : Thread Cert.PreFwdRefIdeal.nD Cert.PreFwdRefIdeal.τ).loc Cert.PreFwdRefIdeal.main_arg0) = m ((c.tc : Thread Cert.PreFwdIdeal.nD Cert.PreFwdIdeal.τ).loc Cert.PreFwdIdeal.main_arg0)
      ∧ m' ((c.tc : Thread Cert.PreFwdRefIdeal.nD Cert.PreFwdRefIdeal.τ).loc Cert.PreFwdRefIdeal.main_arg1) = m ((c.tc : Thread Cert.PreFwdIdeal.nD Cert.PreFwdIdeal.τ).loc Cert.PreFwdIdeal.main_arg1)) →
    ∃ (v0 : (c : Dev Cert.PreFwdIdeal.nD) → Buf (Elt Ideal) ((c.tc : Thread Cert.PreFwdIdeal.nD Cert.PreFwdIdeal.τ).loc Cert.PreFwdIdeal.main_v0)),
      θ_run (Cert.PreFwdIdeal.defs (F := Ideal)) (onTc (τ := Cert.PreFwdIdeal.τ) (Cert.PreFwdIdeal.main (F := Ideal))) ⟨m, fun _ => 0, g⟩ (fun r => ∀ c : Dev Cert.PreFwdIdeal.nD,
          r.2.mem ((c.tc : Thread Cert.PreFwdIdeal.nD Cert.PreFwdIdeal.τ).loc Cert.PreFwdIdeal.main_v0) = v0 c
          ∧ r.2.mem ((c.tc : Thread Cert.PreFwdIdeal.nD Cert.PreFwdIdeal.τ).loc Cert.PreFwdIdeal.main_arg0) = m ((c.tc : Thread Cert.PreFwdIdeal.nD Cert.PreFwdIdeal.τ).loc Cert.PreFwdIdeal.main_arg0)
          ∧ r.2.mem ((c.tc : Thread Cert.PreFwdIdeal.nD Cert.PreFwdIdeal.τ).loc Cert.PreFwdIdeal.main_arg1) = m ((c.tc : Thread Cert.PreFwdIdeal.nD Cert.PreFwdIdeal.τ).loc Cert.PreFwdIdeal.main_arg1))
      ∧ θ_run (Cert.PreFwdRefIdeal.defs (F := Ideal)) (onTc (τ := Cert.PreFwdRefIdeal.τ) (Cert.PreFwdRefIdeal.main (F := Ideal))) ⟨m', fun _ => 0, g'⟩ (fun r => ∀ c : Dev Cert.PreFwdRefIdeal.nD,
          r.2.mem ((c.tc : Thread Cert.PreFwdRefIdeal.nD Cert.PreFwdRefIdeal.τ).loc Cert.PreFwdRefIdeal.main_v54) = v0 c
          ∧ r.2.mem ((c.tc : Thread Cert.PreFwdRefIdeal.nD Cert.PreFwdRefIdeal.τ).loc Cert.PreFwdRefIdeal.main_arg0) = m' ((c.tc : Thread Cert.PreFwdRefIdeal.nD Cert.PreFwdRefIdeal.τ).loc Cert.PreFwdRefIdeal.main_arg0)
          ∧ r.2.mem ((c.tc : Thread Cert.PreFwdRefIdeal.nD Cert.PreFwdRefIdeal.τ).loc Cert.PreFwdRefIdeal.main_arg1) = m' ((c.tc : Thread Cert.PreFwdRefIdeal.nD Cert.PreFwdRefIdeal.τ).loc Cert.PreFwdRefIdeal.main_arg1))

def preserves_TailDw_TailDwIdeal : Prop :=
  True

def algebraic_TailDwIdeal_TailDwRefIdeal [hTailDwIdeal : Cert.TailDwIdeal.Facts] [hTailDwRefIdeal : Cert.TailDwRefIdeal.Facts] : Prop :=
  ∀ (m : (ℓ : Loc Cert.TailDwIdeal.nD Cert.TailDwIdeal.τ Cert.TailDwIdeal.sig) → Buf (Elt Ideal) ℓ) (g : Dev Cert.TailDwIdeal.nD → PrngReg)
    (m' : (ℓ : Loc Cert.TailDwRefIdeal.nD Cert.TailDwRefIdeal.τ Cert.TailDwRefIdeal.sig) → Buf (Elt Ideal) ℓ) (g' : Dev Cert.TailDwRefIdeal.nD → PrngReg), Pre_TailDwIdeal m →
    (∀ c : Dev Cert.TailDwIdeal.nD,
      m' ((c.tc : Thread Cert.TailDwRefIdeal.nD Cert.TailDwRefIdeal.τ).loc Cert.TailDwRefIdeal.main_arg0) = m ((c.tc : Thread Cert.TailDwIdeal.nD Cert.TailDwIdeal.τ).loc Cert.TailDwIdeal.main_arg0)
      ∧ m' ((c.tc : Thread Cert.TailDwRefIdeal.nD Cert.TailDwRefIdeal.τ).loc Cert.TailDwRefIdeal.main_arg1) = m ((c.tc : Thread Cert.TailDwIdeal.nD Cert.TailDwIdeal.τ).loc Cert.TailDwIdeal.main_arg1)) →
    ∃ (v0 : (c : Dev Cert.TailDwIdeal.nD) → Buf (Elt Ideal) ((c.tc : Thread Cert.TailDwIdeal.nD Cert.TailDwIdeal.τ).loc Cert.TailDwIdeal.main_v2)),
      θ_run (Cert.TailDwIdeal.defs (F := Ideal)) (onTc (τ := Cert.TailDwIdeal.τ) (Cert.TailDwIdeal.main (F := Ideal))) ⟨m, fun _ => 0, g⟩ (fun r => ∀ c : Dev Cert.TailDwIdeal.nD,
          r.2.mem ((c.tc : Thread Cert.TailDwIdeal.nD Cert.TailDwIdeal.τ).loc Cert.TailDwIdeal.main_v2) = v0 c
          ∧ r.2.mem ((c.tc : Thread Cert.TailDwIdeal.nD Cert.TailDwIdeal.τ).loc Cert.TailDwIdeal.main_arg0) = m ((c.tc : Thread Cert.TailDwIdeal.nD Cert.TailDwIdeal.τ).loc Cert.TailDwIdeal.main_arg0)
          ∧ r.2.mem ((c.tc : Thread Cert.TailDwIdeal.nD Cert.TailDwIdeal.τ).loc Cert.TailDwIdeal.main_arg1) = m ((c.tc : Thread Cert.TailDwIdeal.nD Cert.TailDwIdeal.τ).loc Cert.TailDwIdeal.main_arg1))
      ∧ θ_run (Cert.TailDwRefIdeal.defs (F := Ideal)) (onTc (τ := Cert.TailDwRefIdeal.τ) (Cert.TailDwRefIdeal.main (F := Ideal))) ⟨m', fun _ => 0, g'⟩ (fun r => ∀ c : Dev Cert.TailDwRefIdeal.nD,
          r.2.mem ((c.tc : Thread Cert.TailDwRefIdeal.nD Cert.TailDwRefIdeal.τ).loc Cert.TailDwRefIdeal.main_v3) = v0 c
          ∧ r.2.mem ((c.tc : Thread Cert.TailDwRefIdeal.nD Cert.TailDwRefIdeal.τ).loc Cert.TailDwRefIdeal.main_arg0) = m' ((c.tc : Thread Cert.TailDwRefIdeal.nD Cert.TailDwRefIdeal.τ).loc Cert.TailDwRefIdeal.main_arg0)
          ∧ r.2.mem ((c.tc : Thread Cert.TailDwRefIdeal.nD Cert.TailDwRefIdeal.τ).loc Cert.TailDwRefIdeal.main_arg1) = m' ((c.tc : Thread Cert.TailDwRefIdeal.nD Cert.TailDwRefIdeal.τ).loc Cert.TailDwRefIdeal.main_arg1))

def preserves_TailDx_TailDxIdeal : Prop :=
  True

def algebraic_TailDxIdeal_TailDxRefIdeal [hTailDxIdeal : Cert.TailDxIdeal.Facts] [hTailDxRefIdeal : Cert.TailDxRefIdeal.Facts] : Prop :=
  ∀ (m : (ℓ : Loc Cert.TailDxIdeal.nD Cert.TailDxIdeal.τ Cert.TailDxIdeal.sig) → Buf (Elt Ideal) ℓ) (g : Dev Cert.TailDxIdeal.nD → PrngReg)
    (m' : (ℓ : Loc Cert.TailDxRefIdeal.nD Cert.TailDxRefIdeal.τ Cert.TailDxRefIdeal.sig) → Buf (Elt Ideal) ℓ) (g' : Dev Cert.TailDxRefIdeal.nD → PrngReg), Pre_TailDxIdeal m →
    (∀ c : Dev Cert.TailDxIdeal.nD,
      m' ((c.tc : Thread Cert.TailDxRefIdeal.nD Cert.TailDxRefIdeal.τ).loc Cert.TailDxRefIdeal.main_arg0) = m ((c.tc : Thread Cert.TailDxIdeal.nD Cert.TailDxIdeal.τ).loc Cert.TailDxIdeal.main_arg0)
      ∧ m' ((c.tc : Thread Cert.TailDxRefIdeal.nD Cert.TailDxRefIdeal.τ).loc Cert.TailDxRefIdeal.main_arg1) = m ((c.tc : Thread Cert.TailDxIdeal.nD Cert.TailDxIdeal.τ).loc Cert.TailDxIdeal.main_arg1)
      ∧ m' ((c.tc : Thread Cert.TailDxRefIdeal.nD Cert.TailDxRefIdeal.τ).loc Cert.TailDxRefIdeal.main_arg2) = m ((c.tc : Thread Cert.TailDxIdeal.nD Cert.TailDxIdeal.τ).loc Cert.TailDxIdeal.main_arg2)) →
    ∃ (v0 : (c : Dev Cert.TailDxIdeal.nD) → Buf (Elt Ideal) ((c.tc : Thread Cert.TailDxIdeal.nD Cert.TailDxIdeal.τ).loc Cert.TailDxIdeal.main_v2)),
      θ_run (Cert.TailDxIdeal.defs (F := Ideal)) (onTc (τ := Cert.TailDxIdeal.τ) (Cert.TailDxIdeal.main (F := Ideal))) ⟨m, fun _ => 0, g⟩ (fun r => ∀ c : Dev Cert.TailDxIdeal.nD,
          r.2.mem ((c.tc : Thread Cert.TailDxIdeal.nD Cert.TailDxIdeal.τ).loc Cert.TailDxIdeal.main_v2) = v0 c
          ∧ r.2.mem ((c.tc : Thread Cert.TailDxIdeal.nD Cert.TailDxIdeal.τ).loc Cert.TailDxIdeal.main_arg0) = m ((c.tc : Thread Cert.TailDxIdeal.nD Cert.TailDxIdeal.τ).loc Cert.TailDxIdeal.main_arg0)
          ∧ r.2.mem ((c.tc : Thread Cert.TailDxIdeal.nD Cert.TailDxIdeal.τ).loc Cert.TailDxIdeal.main_arg1) = m ((c.tc : Thread Cert.TailDxIdeal.nD Cert.TailDxIdeal.τ).loc Cert.TailDxIdeal.main_arg1)
          ∧ r.2.mem ((c.tc : Thread Cert.TailDxIdeal.nD Cert.TailDxIdeal.τ).loc Cert.TailDxIdeal.main_arg2) = m ((c.tc : Thread Cert.TailDxIdeal.nD Cert.TailDxIdeal.τ).loc Cert.TailDxIdeal.main_arg2))
      ∧ θ_run (Cert.TailDxRefIdeal.defs (F := Ideal)) (onTc (τ := Cert.TailDxRefIdeal.τ) (Cert.TailDxRefIdeal.main (F := Ideal))) ⟨m', fun _ => 0, g'⟩ (fun r => ∀ c : Dev Cert.TailDxRefIdeal.nD,
          r.2.mem ((c.tc : Thread Cert.TailDxRefIdeal.nD Cert.TailDxRefIdeal.τ).loc Cert.TailDxRefIdeal.main_v3) = v0 c
          ∧ r.2.mem ((c.tc : Thread Cert.TailDxRefIdeal.nD Cert.TailDxRefIdeal.τ).loc Cert.TailDxRefIdeal.main_arg0) = m' ((c.tc : Thread Cert.TailDxRefIdeal.nD Cert.TailDxRefIdeal.τ).loc Cert.TailDxRefIdeal.main_arg0)
          ∧ r.2.mem ((c.tc : Thread Cert.TailDxRefIdeal.nD Cert.TailDxRefIdeal.τ).loc Cert.TailDxRefIdeal.main_arg1) = m' ((c.tc : Thread Cert.TailDxRefIdeal.nD Cert.TailDxRefIdeal.τ).loc Cert.TailDxRefIdeal.main_arg1)
          ∧ r.2.mem ((c.tc : Thread Cert.TailDxRefIdeal.nD Cert.TailDxRefIdeal.τ).loc Cert.TailDxRefIdeal.main_arg2) = m' ((c.tc : Thread Cert.TailDxRefIdeal.nD Cert.TailDxRefIdeal.τ).loc Cert.TailDxRefIdeal.main_arg2))

def preserves_TailFwd_TailFwdIdeal : Prop :=
  True

def algebraic_TailFwdIdeal_TailFwdRefIdeal [hTailFwdIdeal : Cert.TailFwdIdeal.Facts] [hTailFwdRefIdeal : Cert.TailFwdRefIdeal.Facts] : Prop :=
  ∀ (m : (ℓ : Loc Cert.TailFwdIdeal.nD Cert.TailFwdIdeal.τ Cert.TailFwdIdeal.sig) → Buf (Elt Ideal) ℓ) (g : Dev Cert.TailFwdIdeal.nD → PrngReg)
    (m' : (ℓ : Loc Cert.TailFwdRefIdeal.nD Cert.TailFwdRefIdeal.τ Cert.TailFwdRefIdeal.sig) → Buf (Elt Ideal) ℓ) (g' : Dev Cert.TailFwdRefIdeal.nD → PrngReg), Pre_TailFwdIdeal m →
    (∀ c : Dev Cert.TailFwdIdeal.nD,
      m' ((c.tc : Thread Cert.TailFwdRefIdeal.nD Cert.TailFwdRefIdeal.τ).loc Cert.TailFwdRefIdeal.main_arg0) = m ((c.tc : Thread Cert.TailFwdIdeal.nD Cert.TailFwdIdeal.τ).loc Cert.TailFwdIdeal.main_arg0)
      ∧ m' ((c.tc : Thread Cert.TailFwdRefIdeal.nD Cert.TailFwdRefIdeal.τ).loc Cert.TailFwdRefIdeal.main_arg1) = m ((c.tc : Thread Cert.TailFwdIdeal.nD Cert.TailFwdIdeal.τ).loc Cert.TailFwdIdeal.main_arg1)
      ∧ m' ((c.tc : Thread Cert.TailFwdRefIdeal.nD Cert.TailFwdRefIdeal.τ).loc Cert.TailFwdRefIdeal.main_arg2) = m ((c.tc : Thread Cert.TailFwdIdeal.nD Cert.TailFwdIdeal.τ).loc Cert.TailFwdIdeal.main_arg2)) →
    ∃ (v0 : (c : Dev Cert.TailFwdIdeal.nD) → Buf (Elt Ideal) ((c.tc : Thread Cert.TailFwdIdeal.nD Cert.TailFwdIdeal.τ).loc Cert.TailFwdIdeal.main_v3)),
      θ_run (Cert.TailFwdIdeal.defs (F := Ideal)) (onTc (τ := Cert.TailFwdIdeal.τ) (Cert.TailFwdIdeal.main (F := Ideal))) ⟨m, fun _ => 0, g⟩ (fun r => ∀ c : Dev Cert.TailFwdIdeal.nD,
          r.2.mem ((c.tc : Thread Cert.TailFwdIdeal.nD Cert.TailFwdIdeal.τ).loc Cert.TailFwdIdeal.main_v3) = v0 c
          ∧ r.2.mem ((c.tc : Thread Cert.TailFwdIdeal.nD Cert.TailFwdIdeal.τ).loc Cert.TailFwdIdeal.main_arg0) = m ((c.tc : Thread Cert.TailFwdIdeal.nD Cert.TailFwdIdeal.τ).loc Cert.TailFwdIdeal.main_arg0)
          ∧ r.2.mem ((c.tc : Thread Cert.TailFwdIdeal.nD Cert.TailFwdIdeal.τ).loc Cert.TailFwdIdeal.main_arg1) = m ((c.tc : Thread Cert.TailFwdIdeal.nD Cert.TailFwdIdeal.τ).loc Cert.TailFwdIdeal.main_arg1)
          ∧ r.2.mem ((c.tc : Thread Cert.TailFwdIdeal.nD Cert.TailFwdIdeal.τ).loc Cert.TailFwdIdeal.main_arg2) = m ((c.tc : Thread Cert.TailFwdIdeal.nD Cert.TailFwdIdeal.τ).loc Cert.TailFwdIdeal.main_arg2))
      ∧ θ_run (Cert.TailFwdRefIdeal.defs (F := Ideal)) (onTc (τ := Cert.TailFwdRefIdeal.τ) (Cert.TailFwdRefIdeal.main (F := Ideal))) ⟨m', fun _ => 0, g'⟩ (fun r => ∀ c : Dev Cert.TailFwdRefIdeal.nD,
          r.2.mem ((c.tc : Thread Cert.TailFwdRefIdeal.nD Cert.TailFwdRefIdeal.τ).loc Cert.TailFwdRefIdeal.main_v3) = v0 c
          ∧ r.2.mem ((c.tc : Thread Cert.TailFwdRefIdeal.nD Cert.TailFwdRefIdeal.τ).loc Cert.TailFwdRefIdeal.main_arg0) = m' ((c.tc : Thread Cert.TailFwdRefIdeal.nD Cert.TailFwdRefIdeal.τ).loc Cert.TailFwdRefIdeal.main_arg0)
          ∧ r.2.mem ((c.tc : Thread Cert.TailFwdRefIdeal.nD Cert.TailFwdRefIdeal.τ).loc Cert.TailFwdRefIdeal.main_arg1) = m' ((c.tc : Thread Cert.TailFwdRefIdeal.nD Cert.TailFwdRefIdeal.τ).loc Cert.TailFwdRefIdeal.main_arg1)
          ∧ r.2.mem ((c.tc : Thread Cert.TailFwdRefIdeal.nD Cert.TailFwdRefIdeal.τ).loc Cert.TailFwdRefIdeal.main_arg2) = m' ((c.tc : Thread Cert.TailFwdRefIdeal.nD Cert.TailFwdRefIdeal.τ).loc Cert.TailFwdRefIdeal.main_arg2))

def preserves_TailDb_TailDbIdeal : Prop :=
  True

def algebraic_TailDbIdeal_TailDbRefIdeal [hTailDbIdeal : Cert.TailDbIdeal.Facts] [hTailDbRefIdeal : Cert.TailDbRefIdeal.Facts] : Prop :=
  ∀ (m : (ℓ : Loc Cert.TailDbIdeal.nD Cert.TailDbIdeal.τ Cert.TailDbIdeal.sig) → Buf (Elt Ideal) ℓ) (g : Dev Cert.TailDbIdeal.nD → PrngReg)
    (m' : (ℓ : Loc Cert.TailDbRefIdeal.nD Cert.TailDbRefIdeal.τ Cert.TailDbRefIdeal.sig) → Buf (Elt Ideal) ℓ) (g' : Dev Cert.TailDbRefIdeal.nD → PrngReg), Pre_TailDbIdeal m →
    (∀ c : Dev Cert.TailDbIdeal.nD,
      m' ((c.tc : Thread Cert.TailDbRefIdeal.nD Cert.TailDbRefIdeal.τ).loc Cert.TailDbRefIdeal.main_arg0) = m ((c.tc : Thread Cert.TailDbIdeal.nD Cert.TailDbIdeal.τ).loc Cert.TailDbIdeal.main_arg0)) →
    ∃ (v0 : (c : Dev Cert.TailDbIdeal.nD) → Buf (Elt Ideal) ((c.tc : Thread Cert.TailDbIdeal.nD Cert.TailDbIdeal.τ).loc Cert.TailDbIdeal.main_v0)),
      θ_run (Cert.TailDbIdeal.defs (F := Ideal)) (onTc (τ := Cert.TailDbIdeal.τ) (Cert.TailDbIdeal.main (F := Ideal))) ⟨m, fun _ => 0, g⟩ (fun r => ∀ c : Dev Cert.TailDbIdeal.nD,
          r.2.mem ((c.tc : Thread Cert.TailDbIdeal.nD Cert.TailDbIdeal.τ).loc Cert.TailDbIdeal.main_v0) = v0 c
          ∧ r.2.mem ((c.tc : Thread Cert.TailDbIdeal.nD Cert.TailDbIdeal.τ).loc Cert.TailDbIdeal.main_arg0) = m ((c.tc : Thread Cert.TailDbIdeal.nD Cert.TailDbIdeal.τ).loc Cert.TailDbIdeal.main_arg0))
      ∧ θ_run (Cert.TailDbRefIdeal.defs (F := Ideal)) (onTc (τ := Cert.TailDbRefIdeal.τ) (Cert.TailDbRefIdeal.main (F := Ideal))) ⟨m', fun _ => 0, g'⟩ (fun r => ∀ c : Dev Cert.TailDbRefIdeal.nD,
          r.2.mem ((c.tc : Thread Cert.TailDbRefIdeal.nD Cert.TailDbRefIdeal.τ).loc Cert.TailDbRefIdeal.main_v3) = v0 c
          ∧ r.2.mem ((c.tc : Thread Cert.TailDbRefIdeal.nD Cert.TailDbRefIdeal.τ).loc Cert.TailDbRefIdeal.main_arg0) = m' ((c.tc : Thread Cert.TailDbRefIdeal.nD Cert.TailDbRefIdeal.τ).loc Cert.TailDbRefIdeal.main_arg0))

def preserves_CumBwd_CumBwdIdeal : Prop :=
  True

def algebraic_CumBwdIdeal_CumBwdRefIdeal [hCumBwdIdeal : Cert.CumBwdIdeal.Facts] [hCumBwdRefIdeal : Cert.CumBwdRefIdeal.Facts] : Prop :=
  ∀ (m : (ℓ : Loc Cert.CumBwdIdeal.nD Cert.CumBwdIdeal.τ Cert.CumBwdIdeal.sig) → Buf (Elt Ideal) ℓ) (g : Dev Cert.CumBwdIdeal.nD → PrngReg)
    (m' : (ℓ : Loc Cert.CumBwdRefIdeal.nD Cert.CumBwdRefIdeal.τ Cert.CumBwdRefIdeal.sig) → Buf (Elt Ideal) ℓ) (g' : Dev Cert.CumBwdRefIdeal.nD → PrngReg), Pre_CumBwdIdeal m →
    (∀ c : Dev Cert.CumBwdIdeal.nD,
      m' ((c.tc : Thread Cert.CumBwdRefIdeal.nD Cert.CumBwdRefIdeal.τ).loc Cert.CumBwdRefIdeal.main_arg0) = m ((c.tc : Thread Cert.CumBwdIdeal.nD Cert.CumBwdIdeal.τ).loc Cert.CumBwdIdeal.main_arg0)
      ∧ m' ((c.tc : Thread Cert.CumBwdRefIdeal.nD Cert.CumBwdRefIdeal.τ).loc Cert.CumBwdRefIdeal.main_arg1) = m ((c.tc : Thread Cert.CumBwdIdeal.nD Cert.CumBwdIdeal.τ).loc Cert.CumBwdIdeal.main_arg1)
      ∧ m' ((c.tc : Thread Cert.CumBwdRefIdeal.nD Cert.CumBwdRefIdeal.τ).loc Cert.CumBwdRefIdeal.main_arg2) = m ((c.tc : Thread Cert.CumBwdIdeal.nD Cert.CumBwdIdeal.τ).loc Cert.CumBwdIdeal.main_arg2)) →
    ∃ (v0 : (c : Dev Cert.CumBwdIdeal.nD) → Buf (Elt Ideal) ((c.tc : Thread Cert.CumBwdIdeal.nD Cert.CumBwdIdeal.τ).loc Cert.CumBwdIdeal.main_v0)),
      θ_run (Cert.CumBwdIdeal.defs (F := Ideal)) (onTc (τ := Cert.CumBwdIdeal.τ) (Cert.CumBwdIdeal.main (F := Ideal))) ⟨m, fun _ => 0, g⟩ (fun r => ∀ c : Dev Cert.CumBwdIdeal.nD,
          r.2.mem ((c.tc : Thread Cert.CumBwdIdeal.nD Cert.CumBwdIdeal.τ).loc Cert.CumBwdIdeal.main_v0) = v0 c
          ∧ r.2.mem ((c.tc : Thread Cert.CumBwdIdeal.nD Cert.CumBwdIdeal.τ).loc Cert.CumBwdIdeal.main_arg0) = m ((c.tc : Thread Cert.CumBwdIdeal.nD Cert.CumBwdIdeal.τ).loc Cert.CumBwdIdeal.main_arg0)
          ∧ r.2.mem ((c.tc : Thread Cert.CumBwdIdeal.nD Cert.CumBwdIdeal.τ).loc Cert.CumBwdIdeal.main_arg1) = m ((c.tc : Thread Cert.CumBwdIdeal.nD Cert.CumBwdIdeal.τ).loc Cert.CumBwdIdeal.main_arg1)
          ∧ r.2.mem ((c.tc : Thread Cert.CumBwdIdeal.nD Cert.CumBwdIdeal.τ).loc Cert.CumBwdIdeal.main_arg2) = m ((c.tc : Thread Cert.CumBwdIdeal.nD Cert.CumBwdIdeal.τ).loc Cert.CumBwdIdeal.main_arg2))
      ∧ θ_run (Cert.CumBwdRefIdeal.defs (F := Ideal)) (onTc (τ := Cert.CumBwdRefIdeal.τ) (Cert.CumBwdRefIdeal.main (F := Ideal))) ⟨m', fun _ => 0, g'⟩ (fun r => ∀ c : Dev Cert.CumBwdRefIdeal.nD,
          r.2.mem ((c.tc : Thread Cert.CumBwdRefIdeal.nD Cert.CumBwdRefIdeal.τ).loc Cert.CumBwdRefIdeal.main_v4) = v0 c
          ∧ r.2.mem ((c.tc : Thread Cert.CumBwdRefIdeal.nD Cert.CumBwdRefIdeal.τ).loc Cert.CumBwdRefIdeal.main_arg0) = m' ((c.tc : Thread Cert.CumBwdRefIdeal.nD Cert.CumBwdRefIdeal.τ).loc Cert.CumBwdRefIdeal.main_arg0)
          ∧ r.2.mem ((c.tc : Thread Cert.CumBwdRefIdeal.nD Cert.CumBwdRefIdeal.τ).loc Cert.CumBwdRefIdeal.main_arg1) = m' ((c.tc : Thread Cert.CumBwdRefIdeal.nD Cert.CumBwdRefIdeal.τ).loc Cert.CumBwdRefIdeal.main_arg1)
          ∧ r.2.mem ((c.tc : Thread Cert.CumBwdRefIdeal.nD Cert.CumBwdRefIdeal.τ).loc Cert.CumBwdRefIdeal.main_arg2) = m' ((c.tc : Thread Cert.CumBwdRefIdeal.nD Cert.CumBwdRefIdeal.τ).loc Cert.CumBwdRefIdeal.main_arg2))

def preserves_CumFwd_CumFwdIdeal : Prop :=
  True

def algebraic_CumFwdIdeal_CumFwdRefIdeal [hCumFwdIdeal : Cert.CumFwdIdeal.Facts] [hCumFwdRefIdeal : Cert.CumFwdRefIdeal.Facts] : Prop :=
  ∀ (m : (ℓ : Loc Cert.CumFwdIdeal.nD Cert.CumFwdIdeal.τ Cert.CumFwdIdeal.sig) → Buf (Elt Ideal) ℓ) (g : Dev Cert.CumFwdIdeal.nD → PrngReg)
    (m' : (ℓ : Loc Cert.CumFwdRefIdeal.nD Cert.CumFwdRefIdeal.τ Cert.CumFwdRefIdeal.sig) → Buf (Elt Ideal) ℓ) (g' : Dev Cert.CumFwdRefIdeal.nD → PrngReg), Pre_CumFwdIdeal m →
    (∀ c : Dev Cert.CumFwdIdeal.nD,
      m' ((c.tc : Thread Cert.CumFwdRefIdeal.nD Cert.CumFwdRefIdeal.τ).loc Cert.CumFwdRefIdeal.main_arg0) = m ((c.tc : Thread Cert.CumFwdIdeal.nD Cert.CumFwdIdeal.τ).loc Cert.CumFwdIdeal.main_arg0)) →
    ∃ (v0 : (c : Dev Cert.CumFwdIdeal.nD) → Buf (Elt Ideal) ((c.tc : Thread Cert.CumFwdIdeal.nD Cert.CumFwdIdeal.τ).loc Cert.CumFwdIdeal.main_v0)),
      θ_run (Cert.CumFwdIdeal.defs (F := Ideal)) (onTc (τ := Cert.CumFwdIdeal.τ) (Cert.CumFwdIdeal.main (F := Ideal))) ⟨m, fun _ => 0, g⟩ (fun r => ∀ c : Dev Cert.CumFwdIdeal.nD,
          r.2.mem ((c.tc : Thread Cert.CumFwdIdeal.nD Cert.CumFwdIdeal.τ).loc Cert.CumFwdIdeal.main_v0) = v0 c
          ∧ r.2.mem ((c.tc : Thread Cert.CumFwdIdeal.nD Cert.CumFwdIdeal.τ).loc Cert.CumFwdIdeal.main_arg0) = m ((c.tc : Thread Cert.CumFwdIdeal.nD Cert.CumFwdIdeal.τ).loc Cert.CumFwdIdeal.main_arg0))
      ∧ θ_run (Cert.CumFwdRefIdeal.defs (F := Ideal)) (onTc (τ := Cert.CumFwdRefIdeal.τ) (Cert.CumFwdRefIdeal.main (F := Ideal))) ⟨m', fun _ => 0, g'⟩ (fun r => ∀ c : Dev Cert.CumFwdRefIdeal.nD,
          r.2.mem ((c.tc : Thread Cert.CumFwdRefIdeal.nD Cert.CumFwdRefIdeal.τ).loc Cert.CumFwdRefIdeal.main_v1) = v0 c
          ∧ r.2.mem ((c.tc : Thread Cert.CumFwdRefIdeal.nD Cert.CumFwdRefIdeal.τ).loc Cert.CumFwdRefIdeal.main_arg0) = m' ((c.tc : Thread Cert.CumFwdRefIdeal.nD Cert.CumFwdRefIdeal.τ).loc Cert.CumFwdRefIdeal.main_arg0))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v15) = v0 c
          ∧ r.2.mem ((c.tc : Thread Cert.LossHeadRefIdeal.nD Cert.LossHeadRefIdeal.τ).loc Cert.LossHeadRefIdeal.main_v14) = v1 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v5)) (v1 : (c : Dev Cert.AdamIdeal.nD) → Buf (Elt Ideal) ((c.tc : Thread Cert.AdamIdeal.nD Cert.AdamIdeal.τ).loc Cert.AdamIdeal.main_v6)) (v2 : (c : Dev Cert.AdamIdeal.nD) → Buf (Elt Ideal) ((c.tc : Thread Cert.AdamIdeal.nD Cert.AdamIdeal.τ).loc Cert.AdamIdeal.main_v7)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v5) = v0 c
          ∧ r.2.mem ((c.tc : Thread Cert.AdamIdeal.nD Cert.AdamIdeal.τ).loc Cert.AdamIdeal.main_v6) = v1 c
          ∧ r.2.mem ((c.tc : Thread Cert.AdamIdeal.nD Cert.AdamIdeal.τ).loc Cert.AdamIdeal.main_v7) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v23) = v0 c
          ∧ r.2.mem ((c.tc : Thread Cert.AdamRefIdeal.nD Cert.AdamRefIdeal.τ).loc Cert.AdamRefIdeal.main_v4) = v1 c
          ∧ r.2.mem ((c.tc : Thread Cert.AdamRefIdeal.nD Cert.AdamRefIdeal.τ).loc Cert.AdamRefIdeal.main_v10) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_ChipSum_ChipSumIdeal : Prop :=
  True

def algebraic_ChipSumIdeal_ChipSumRefIdeal [hChipSumIdeal : Cert.ChipSumIdeal.Facts] [hChipSumRefIdeal : Cert.ChipSumRefIdeal.Facts] : Prop :=
  ∀ (m : (ℓ : Loc Cert.ChipSumIdeal.nD Cert.ChipSumIdeal.τ Cert.ChipSumIdeal.sig) → Buf (Elt Ideal) ℓ) (g : Dev Cert.ChipSumIdeal.nD → PrngReg)
    (m' : (ℓ : Loc Cert.ChipSumRefIdeal.nD Cert.ChipSumRefIdeal.τ Cert.ChipSumRefIdeal.sig) → Buf (Elt Ideal) ℓ) (g' : Dev Cert.ChipSumRefIdeal.nD → PrngReg), Pre_ChipSumIdeal m →
    (∀ c : Dev Cert.ChipSumIdeal.nD,
      m' ((c.tc : Thread Cert.ChipSumRefIdeal.nD Cert.ChipSumRefIdeal.τ).loc Cert.ChipSumRefIdeal.main_arg0) = m ((c.tc : Thread Cert.ChipSumIdeal.nD Cert.ChipSumIdeal.τ).loc Cert.ChipSumIdeal.main_arg0)) →
    ∃ (v0 : (c : Dev Cert.ChipSumIdeal.nD) → Buf (Elt Ideal) ((c.tc : Thread Cert.ChipSumIdeal.nD Cert.ChipSumIdeal.τ).loc Cert.ChipSumIdeal.main_v0)),
      θ_run (Cert.ChipSumIdeal.defs (F := Ideal)) (onTc (τ := Cert.ChipSumIdeal.τ) (Cert.ChipSumIdeal.main (F := Ideal))) ⟨m, fun _ => 0, g⟩ (fun r => ∀ c : Dev Cert.ChipSumIdeal.nD,
          r.2.mem ((c.tc : Thread Cert.ChipSumIdeal.nD Cert.ChipSumIdeal.τ).loc Cert.ChipSumIdeal.main_v0) = v0 c
          ∧ r.2.mem ((c.tc : Thread Cert.ChipSumIdeal.nD Cert.ChipSumIdeal.τ).loc Cert.ChipSumIdeal.main_arg0) = m ((c.tc : Thread Cert.ChipSumIdeal.nD Cert.ChipSumIdeal.τ).loc Cert.ChipSumIdeal.main_arg0))
      ∧ θ_run (Cert.ChipSumRefIdeal.defs (F := Ideal)) (onTc (τ := Cert.ChipSumRefIdeal.τ) (Cert.ChipSumRefIdeal.main (F := Ideal))) ⟨m', fun _ => 0, g'⟩ (fun r => ∀ c : Dev Cert.ChipSumRefIdeal.nD,
          r.2.mem ((c.tc : Thread Cert.ChipSumRefIdeal.nD Cert.ChipSumRefIdeal.τ).loc Cert.ChipSumRefIdeal.main_v1) = v0 c
          ∧ r.2.mem ((c.tc : Thread Cert.ChipSumRefIdeal.nD Cert.ChipSumRefIdeal.τ).loc Cert.ChipSumRefIdeal.main_arg0) = m' ((c.tc : Thread Cert.ChipSumRefIdeal.nD Cert.ChipSumRefIdeal.τ).loc Cert.ChipSumRefIdeal.main_arg0))

def preserves_PairSum_PairSumIdeal : Prop :=
  True

def algebraic_PairSumIdeal_PairSumRefIdeal [hPairSumIdeal : Cert.PairSumIdeal.Facts] [hPairSumRefIdeal : Cert.PairSumRefIdeal.Facts] : Prop :=
  ∀ (m : (ℓ : Loc Cert.PairSumIdeal.nD Cert.PairSumIdeal.τ Cert.PairSumIdeal.sig) → Buf (Elt Ideal) ℓ) (g : Dev Cert.PairSumIdeal.nD → PrngReg)
    (m' : (ℓ : Loc Cert.PairSumRefIdeal.nD Cert.PairSumRefIdeal.τ Cert.PairSumRefIdeal.sig) → Buf (Elt Ideal) ℓ) (g' : Dev Cert.PairSumRefIdeal.nD → PrngReg), Pre_PairSumIdeal m →
    (∀ c : Dev Cert.PairSumIdeal.nD,
      m' ((c.tc : Thread Cert.PairSumRefIdeal.nD Cert.PairSumRefIdeal.τ).loc Cert.PairSumRefIdeal.main_arg0) = m ((c.tc : Thread Cert.PairSumIdeal.nD Cert.PairSumIdeal.τ).loc Cert.PairSumIdeal.main_arg0)
      ∧ m' ((c.tc : Thread Cert.PairSumRefIdeal.nD Cert.PairSumRefIdeal.τ).loc Cert.PairSumRefIdeal.main_arg1) = m ((c.tc : Thread Cert.PairSumIdeal.nD Cert.PairSumIdeal.τ).loc Cert.PairSumIdeal.main_arg1)) →
    ∃ (v0 : (c : Dev Cert.PairSumIdeal.nD) → Buf (Elt Ideal) ((c.tc : Thread Cert.PairSumIdeal.nD Cert.PairSumIdeal.τ).loc Cert.PairSumIdeal.main_v3)),
      θ_run (Cert.PairSumIdeal.defs (F := Ideal)) (onTc (τ := Cert.PairSumIdeal.τ) (Cert.PairSumIdeal.main (F := Ideal))) ⟨m, fun _ => 0, g⟩ (fun r => ∀ c : Dev Cert.PairSumIdeal.nD,
          r.2.mem ((c.tc : Thread Cert.PairSumIdeal.nD Cert.PairSumIdeal.τ).loc Cert.PairSumIdeal.main_v3) = v0 c
          ∧ r.2.mem ((c.tc : Thread Cert.PairSumIdeal.nD Cert.PairSumIdeal.τ).loc Cert.PairSumIdeal.main_arg0) = m ((c.tc : Thread Cert.PairSumIdeal.nD Cert.PairSumIdeal.τ).loc Cert.PairSumIdeal.main_arg0)
          ∧ r.2.mem ((c.tc : Thread Cert.PairSumIdeal.nD Cert.PairSumIdeal.τ).loc Cert.PairSumIdeal.main_arg1) = m ((c.tc : Thread Cert.PairSumIdeal.nD Cert.PairSumIdeal.τ).loc Cert.PairSumIdeal.main_arg1))
      ∧ θ_run (Cert.PairSumRefIdeal.defs (F := Ideal)) (onTc (τ := Cert.PairSumRefIdeal.τ) (Cert.PairSumRefIdeal.main (F := Ideal))) ⟨m', fun _ => 0, g'⟩ (fun r => ∀ c : Dev Cert.PairSumRefIdeal.nD,
          r.2.mem ((c.tc : Thread Cert.PairSumRefIdeal.nD Cert.PairSumRefIdeal.τ).loc Cert.PairSumRefIdeal.main_v1) = v0 c
          ∧ r.2.mem ((c.tc : Thread Cert.PairSumRefIdeal.nD Cert.PairSumRefIdeal.τ).loc Cert.PairSumRefIdeal.main_arg0) = m' ((c.tc : Thread Cert.PairSumRefIdeal.nD Cert.PairSumRefIdeal.τ).loc Cert.PairSumRefIdeal.main_arg0)
          ∧ r.2.mem ((c.tc : Thread Cert.PairSumRefIdeal.nD Cert.PairSumRefIdeal.τ).loc Cert.PairSumRefIdeal.main_arg1) = m' ((c.tc : Thread Cert.PairSumRefIdeal.nD Cert.PairSumRefIdeal.τ).loc Cert.PairSumRefIdeal.main_arg1))

def Claim : Prop :=
  ∃ (hFoxKv : Cert.FoxKv.Facts) (hFoxKvIdeal : Cert.FoxKvIdeal.Facts) (hFoxKvRefIdeal : Cert.FoxKvRefIdeal.Facts) (hMainDw : Cert.MainDw.Facts) (hMainDwIdeal : Cert.MainDwIdeal.Facts) (hMainDwRefIdeal : Cert.MainDwRefIdeal.Facts) (hMainDx : Cert.MainDx.Facts) (hMainDxIdeal : Cert.MainDxIdeal.Facts) (hMainDxRefIdeal : Cert.MainDxRefIdeal.Facts) (hUpDw : Cert.UpDw.Facts) (hUpDwIdeal : Cert.UpDwIdeal.Facts) (hUpDwRefIdeal : Cert.UpDwRefIdeal.Facts) (hUpDx : Cert.UpDx.Facts) (hUpDxIdeal : Cert.UpDxIdeal.Facts) (hUpDxRefIdeal : Cert.UpDxRefIdeal.Facts) (hDownDw : Cert.DownDw.Facts) (hDownDwIdeal : Cert.DownDwIdeal.Facts) (hDownDwRefIdeal : Cert.DownDwRefIdeal.Facts) (hDownDx : Cert.DownDx.Facts) (hDownDxIdeal : Cert.DownDxIdeal.Facts) (hDownDxRefIdeal : Cert.DownDxRefIdeal.Facts) (hBranchDw : Cert.BranchDw.Facts) (hBranchDwIdeal : Cert.BranchDwIdeal.Facts) (hBranchDwRefIdeal : Cert.BranchDwRefIdeal.Facts) (hBranchDx : Cert.BranchDx.Facts) (hBranchDxIdeal : Cert.BranchDxIdeal.Facts) (hBranchDxRefIdeal : Cert.BranchDxRefIdeal.Facts) (hOutDw : Cert.OutDw.Facts) (hOutDwIdeal : Cert.OutDwIdeal.Facts) (hOutDwRefIdeal : Cert.OutDwRefIdeal.Facts) (hOutDx : Cert.OutDx.Facts) (hOutDxIdeal : Cert.OutDxIdeal.Facts) (hOutDxRefIdeal : Cert.OutDxRefIdeal.Facts) (hMainFwd : Cert.MainFwd.Facts) (hMainFwdIdeal : Cert.MainFwdIdeal.Facts) (hMainFwdRefIdeal : Cert.MainFwdRefIdeal.Facts) (hUpFwd : Cert.UpFwd.Facts) (hUpFwdIdeal : Cert.UpFwdIdeal.Facts) (hUpFwdRefIdeal : Cert.UpFwdRefIdeal.Facts) (hDownFwd : Cert.DownFwd.Facts) (hDownFwdIdeal : Cert.DownFwdIdeal.Facts) (hDownFwdRefIdeal : Cert.DownFwdRefIdeal.Facts) (hBranchFwd : Cert.BranchFwd.Facts) (hBranchFwdIdeal : Cert.BranchFwdIdeal.Facts) (hBranchFwdRefIdeal : Cert.BranchFwdRefIdeal.Facts) (hOutFwd : Cert.OutFwd.Facts) (hOutFwdIdeal : Cert.OutFwdIdeal.Facts) (hOutFwdRefIdeal : Cert.OutFwdRefIdeal.Facts) (hMergeBwd : Cert.MergeBwd.Facts) (hMergeBwdIdeal : Cert.MergeBwdIdeal.Facts) (hMergeBwdRefIdeal : Cert.MergeBwdRefIdeal.Facts) (hMergeFwd : Cert.MergeFwd.Facts) (hMergeFwdIdeal : Cert.MergeFwdIdeal.Facts) (hMergeFwdRefIdeal : Cert.MergeFwdRefIdeal.Facts) (hMainDb : Cert.MainDb.Facts) (hMainDbIdeal : Cert.MainDbIdeal.Facts) (hMainDbRefIdeal : Cert.MainDbRefIdeal.Facts) (hLnBwd : Cert.LnBwd.Facts) (hLnBwdIdeal : Cert.LnBwdIdeal.Facts) (hLnBwdRefIdeal : Cert.LnBwdRefIdeal.Facts) (hLnFwd : Cert.LnFwd.Facts) (hLnFwdIdeal : Cert.LnFwdIdeal.Facts) (hLnFwdRefIdeal : Cert.LnFwdRefIdeal.Facts) (hSguBwd : Cert.SguBwd.Facts) (hSguBwdIdeal : Cert.SguBwdIdeal.Facts) (hSguBwdRefIdeal : Cert.SguBwdRefIdeal.Facts) (hSguFwd : Cert.SguFwd.Facts) (hSguFwdIdeal : Cert.SguFwdIdeal.Facts) (hSguFwdRefIdeal : Cert.SguFwdRefIdeal.Facts) (hActBwd : Cert.ActBwd.Facts) (hActBwdIdeal : Cert.ActBwdIdeal.Facts) (hActBwdRefIdeal : Cert.ActBwdRefIdeal.Facts) (hActFwd : Cert.ActFwd.Facts) (hActFwdIdeal : Cert.ActFwdIdeal.Facts) (hActFwdRefIdeal : Cert.ActFwdRefIdeal.Facts) (hPreBwd : Cert.PreBwd.Facts) (hPreBwdIdeal : Cert.PreBwdIdeal.Facts) (hPreBwdRefIdeal : Cert.PreBwdRefIdeal.Facts) (hPreFwd : Cert.PreFwd.Facts) (hPreFwdIdeal : Cert.PreFwdIdeal.Facts) (hPreFwdRefIdeal : Cert.PreFwdRefIdeal.Facts) (hTailDw : Cert.TailDw.Facts) (hTailDwIdeal : Cert.TailDwIdeal.Facts) (hTailDwRefIdeal : Cert.TailDwRefIdeal.Facts) (hTailDx : Cert.TailDx.Facts) (hTailDxIdeal : Cert.TailDxIdeal.Facts) (hTailDxRefIdeal : Cert.TailDxRefIdeal.Facts) (hTailFwd : Cert.TailFwd.Facts) (hTailFwdIdeal : Cert.TailFwdIdeal.Facts) (hTailFwdRefIdeal : Cert.TailFwdRefIdeal.Facts) (hTailDb : Cert.TailDb.Facts) (hTailDbIdeal : Cert.TailDbIdeal.Facts) (hTailDbRefIdeal : Cert.TailDbRefIdeal.Facts) (hCumBwd : Cert.CumBwd.Facts) (hCumBwdIdeal : Cert.CumBwdIdeal.Facts) (hCumBwdRefIdeal : Cert.CumBwdRefIdeal.Facts) (hCumFwd : Cert.CumFwd.Facts) (hCumFwdIdeal : Cert.CumFwdIdeal.Facts) (hCumFwdRefIdeal : Cert.CumFwdRefIdeal.Facts) (hLossHead : Cert.LossHead.Facts) (hLossHeadIdeal : Cert.LossHeadIdeal.Facts) (hLossHeadRefIdeal : Cert.LossHeadRefIdeal.Facts) (hAdam : Cert.Adam.Facts) (hAdamIdeal : Cert.AdamIdeal.Facts) (hAdamRefIdeal : Cert.AdamRefIdeal.Facts) (hChipSum : Cert.ChipSum.Facts) (hChipSumIdeal : Cert.ChipSumIdeal.Facts) (hChipSumRefIdeal : Cert.ChipSumRefIdeal.Facts) (hPairSum : Cert.PairSum.Facts) (hPairSumIdeal : Cert.PairSumIdeal.Facts) (hPairSumRefIdeal : Cert.PairSumRefIdeal.Facts) (hPre_finite : Cert.Pre_finite.Facts) (hPre_finite_values : Cert.Pre_finite_values.Facts) (hPre_finite_cotangent : Cert.Pre_finite_cotangent.Facts),
    quiescent_FoxKv (hFoxKv := hFoxKv)
    ∧ quiescent_FoxKvIdeal (hFoxKvIdeal := hFoxKvIdeal)
    ∧ quiescent_FoxKvIdeal_pre_finite (hFoxKvIdeal := hFoxKvIdeal) (hPre_finite := hPre_finite)
    ∧ quiescent_FoxKvRefIdeal (hFoxKvRefIdeal := hFoxKvRefIdeal)
    ∧ quiescent_FoxKvRefIdeal_pre_finite (hFoxKvRefIdeal := hFoxKvRefIdeal) (hPre_finite := hPre_finite)
    ∧ quiescent_MainDw (hMainDw := hMainDw)
    ∧ quiescent_MainDwIdeal (hMainDwIdeal := hMainDwIdeal)
    ∧ quiescent_MainDwRefIdeal (hMainDwRefIdeal := hMainDwRefIdeal)
    ∧ quiescent_MainDx (hMainDx := hMainDx)
    ∧ quiescent_MainDxIdeal (hMainDxIdeal := hMainDxIdeal)
    ∧ quiescent_MainDxRefIdeal (hMainDxRefIdeal := hMainDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_BranchDw (hBranchDw := hBranchDw)
    ∧ quiescent_BranchDwIdeal (hBranchDwIdeal := hBranchDwIdeal)
    ∧ quiescent_BranchDwRefIdeal (hBranchDwRefIdeal := hBranchDwRefIdeal)
    ∧ quiescent_BranchDx (hBranchDx := hBranchDx)
    ∧ quiescent_BranchDxIdeal (hBranchDxIdeal := hBranchDxIdeal)
    ∧ quiescent_BranchDxRefIdeal (hBranchDxRefIdeal := hBranchDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_MainFwd (hMainFwd := hMainFwd)
    ∧ quiescent_MainFwdIdeal (hMainFwdIdeal := hMainFwdIdeal)
    ∧ quiescent_MainFwdRefIdeal (hMainFwdRefIdeal := hMainFwdRefIdeal)
    ∧ quiescent_UpFwd (hUpFwd := hUpFwd)
    ∧ quiescent_UpFwdIdeal (hUpFwdIdeal := hUpFwdIdeal)
    ∧ quiescent_UpFwdRefIdeal (hUpFwdRefIdeal := hUpFwdRefIdeal)
    ∧ quiescent_DownFwd (hDownFwd := hDownFwd)
    ∧ quiescent_DownFwdIdeal (hDownFwdIdeal := hDownFwdIdeal)
    ∧ quiescent_DownFwdRefIdeal (hDownFwdRefIdeal := hDownFwdRefIdeal)
    ∧ quiescent_BranchFwd (hBranchFwd := hBranchFwd)
    ∧ quiescent_BranchFwdIdeal (hBranchFwdIdeal := hBranchFwdIdeal)
    ∧ quiescent_BranchFwdRefIdeal (hBranchFwdRefIdeal := hBranchFwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_MainDb (hMainDb := hMainDb)
    ∧ quiescent_MainDbIdeal (hMainDbIdeal := hMainDbIdeal)
    ∧ quiescent_MainDbRefIdeal (hMainDbRefIdeal := hMainDbRefIdeal)
    ∧ quiescent_LnBwd (hLnBwd := hLnBwd)
    ∧ quiescent_LnBwdIdeal (hLnBwdIdeal := hLnBwdIdeal)
    ∧ quiescent_LnBwdRefIdeal (hLnBwdRefIdeal := hLnBwdRefIdeal)
    ∧ quiescent_LnFwd (hLnFwd := hLnFwd)
    ∧ quiescent_LnFwdIdeal (hLnFwdIdeal := hLnFwdIdeal)
    ∧ quiescent_LnFwdRefIdeal (hLnFwdRefIdeal := hLnFwdRefIdeal)
    ∧ quiescent_SguBwd (hSguBwd := hSguBwd)
    ∧ quiescent_SguBwdIdeal (hSguBwdIdeal := hSguBwdIdeal)
    ∧ quiescent_SguBwdRefIdeal (hSguBwdRefIdeal := hSguBwdRefIdeal)
    ∧ quiescent_SguFwd (hSguFwd := hSguFwd)
    ∧ quiescent_SguFwdIdeal (hSguFwdIdeal := hSguFwdIdeal)
    ∧ quiescent_SguFwdRefIdeal (hSguFwdRefIdeal := hSguFwdRefIdeal)
    ∧ quiescent_ActBwd (hActBwd := hActBwd)
    ∧ quiescent_ActBwdIdeal (hActBwdIdeal := hActBwdIdeal)
    ∧ quiescent_ActBwdIdeal_pre_finite_values (hActBwdIdeal := hActBwdIdeal) (hPre_finite_values := hPre_finite_values)
    ∧ quiescent_ActBwdRefIdeal (hActBwdRefIdeal := hActBwdRefIdeal)
    ∧ quiescent_ActBwdRefIdeal_pre_finite_values (hActBwdRefIdeal := hActBwdRefIdeal) (hPre_finite_values := hPre_finite_values)
    ∧ quiescent_ActFwd (hActFwd := hActFwd)
    ∧ quiescent_ActFwdIdeal (hActFwdIdeal := hActFwdIdeal)
    ∧ quiescent_ActFwdRefIdeal (hActFwdRefIdeal := hActFwdRefIdeal)
    ∧ quiescent_PreBwd (hPreBwd := hPreBwd)
    ∧ quiescent_PreBwdIdeal (hPreBwdIdeal := hPreBwdIdeal)
    ∧ quiescent_PreBwdIdeal_pre_finite_cotangent (hPreBwdIdeal := hPreBwdIdeal) (hPre_finite_cotangent := hPre_finite_cotangent)
    ∧ quiescent_PreBwdRefIdeal (hPreBwdRefIdeal := hPreBwdRefIdeal)
    ∧ quiescent_PreBwdRefIdeal_pre_finite_cotangent (hPreBwdRefIdeal := hPreBwdRefIdeal) (hPre_finite_cotangent := hPre_finite_cotangent)
    ∧ quiescent_PreFwd (hPreFwd := hPreFwd)
    ∧ quiescent_PreFwdIdeal (hPreFwdIdeal := hPreFwdIdeal)
    ∧ quiescent_PreFwdRefIdeal (hPreFwdRefIdeal := hPreFwdRefIdeal)
    ∧ quiescent_TailDw (hTailDw := hTailDw)
    ∧ quiescent_TailDwIdeal (hTailDwIdeal := hTailDwIdeal)
    ∧ quiescent_TailDwRefIdeal (hTailDwRefIdeal := hTailDwRefIdeal)
    ∧ quiescent_TailDx (hTailDx := hTailDx)
    ∧ quiescent_TailDxIdeal (hTailDxIdeal := hTailDxIdeal)
    ∧ quiescent_TailDxRefIdeal (hTailDxRefIdeal := hTailDxRefIdeal)
    ∧ quiescent_TailFwd (hTailFwd := hTailFwd)
    ∧ quiescent_TailFwdIdeal (hTailFwdIdeal := hTailFwdIdeal)
    ∧ quiescent_TailFwdRefIdeal (hTailFwdRefIdeal := hTailFwdRefIdeal)
    ∧ quiescent_TailDb (hTailDb := hTailDb)
    ∧ quiescent_TailDbIdeal (hTailDbIdeal := hTailDbIdeal)
    ∧ quiescent_TailDbRefIdeal (hTailDbRefIdeal := hTailDbRefIdeal)
    ∧ quiescent_CumBwd (hCumBwd := hCumBwd)
    ∧ quiescent_CumBwdIdeal (hCumBwdIdeal := hCumBwdIdeal)
    ∧ quiescent_CumBwdRefIdeal (hCumBwdRefIdeal := hCumBwdRefIdeal)
    ∧ quiescent_CumFwd (hCumFwd := hCumFwd)
    ∧ quiescent_CumFwdIdeal (hCumFwdIdeal := hCumFwdIdeal)
    ∧ quiescent_CumFwdRefIdeal (hCumFwdRefIdeal := hCumFwdRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_Adam (hAdam := hAdam)
    ∧ quiescent_AdamIdeal (hAdamIdeal := hAdamIdeal)
    ∧ quiescent_AdamRefIdeal (hAdamRefIdeal := hAdamRefIdeal)
    ∧ quiescent_ChipSum (hChipSum := hChipSum)
    ∧ quiescent_ChipSumIdeal (hChipSumIdeal := hChipSumIdeal)
    ∧ quiescent_ChipSumRefIdeal (hChipSumRefIdeal := hChipSumRefIdeal)
    ∧ quiescent_PairSum (hPairSum := hPairSum)
    ∧ quiescent_PairSumIdeal (hPairSumIdeal := hPairSumIdeal)
    ∧ quiescent_PairSumRefIdeal (hPairSumRefIdeal := hPairSumRefIdeal)
    ∧ preserves_FoxKv_FoxKvIdeal
    ∧ algebraic_FoxKvIdeal_FoxKvRefIdeal_pre_finite (hFoxKvIdeal := hFoxKvIdeal) (hFoxKvRefIdeal := hFoxKvRefIdeal) (hPre_finite := hPre_finite)
    ∧ preserves_MainDw_MainDwIdeal
    ∧ algebraic_MainDwIdeal_MainDwRefIdeal (hMainDwIdeal := hMainDwIdeal) (hMainDwRefIdeal := hMainDwRefIdeal)
    ∧ preserves_MainDx_MainDxIdeal
    ∧ algebraic_MainDxIdeal_MainDxRefIdeal (hMainDxIdeal := hMainDxIdeal) (hMainDxRefIdeal := hMainDxRefIdeal)
    ∧ preserves_UpDw_UpDwIdeal
    ∧ algebraic_UpDwIdeal_UpDwRefIdeal (hUpDwIdeal := hUpDwIdeal) (hUpDwRefIdeal := hUpDwRefIdeal)
    ∧ preserves_UpDx_UpDxIdeal
    ∧ algebraic_UpDxIdeal_UpDxRefIdeal (hUpDxIdeal := hUpDxIdeal) (hUpDxRefIdeal := hUpDxRefIdeal)
    ∧ preserves_DownDw_DownDwIdeal
    ∧ algebraic_DownDwIdeal_DownDwRefIdeal (hDownDwIdeal := hDownDwIdeal) (hDownDwRefIdeal := hDownDwRefIdeal)
    ∧ preserves_DownDx_DownDxIdeal
    ∧ algebraic_DownDxIdeal_DownDxRefIdeal (hDownDxIdeal := hDownDxIdeal) (hDownDxRefIdeal := hDownDxRefIdeal)
    ∧ preserves_BranchDw_BranchDwIdeal
    ∧ algebraic_BranchDwIdeal_BranchDwRefIdeal (hBranchDwIdeal := hBranchDwIdeal) (hBranchDwRefIdeal := hBranchDwRefIdeal)
    ∧ preserves_BranchDx_BranchDxIdeal
    ∧ algebraic_BranchDxIdeal_BranchDxRefIdeal (hBranchDxIdeal := hBranchDxIdeal) (hBranchDxRefIdeal := hBranchDxRefIdeal)
    ∧ preserves_OutDw_OutDwIdeal
    ∧ algebraic_OutDwIdeal_OutDwRefIdeal (hOutDwIdeal := hOutDwIdeal) (hOutDwRefIdeal := hOutDwRefIdeal)
    ∧ preserves_OutDx_OutDxIdeal
    ∧ algebraic_OutDxIdeal_OutDxRefIdeal (hOutDxIdeal := hOutDxIdeal) (hOutDxRefIdeal := hOutDxRefIdeal)
    ∧ preserves_MainFwd_MainFwdIdeal
    ∧ algebraic_MainFwdIdeal_MainFwdRefIdeal (hMainFwdIdeal := hMainFwdIdeal) (hMainFwdRefIdeal := hMainFwdRefIdeal)
    ∧ preserves_UpFwd_UpFwdIdeal
    ∧ algebraic_UpFwdIdeal_UpFwdRefIdeal (hUpFwdIdeal := hUpFwdIdeal) (hUpFwdRefIdeal := hUpFwdRefIdeal)
    ∧ preserves_DownFwd_DownFwdIdeal
    ∧ algebraic_DownFwdIdeal_DownFwdRefIdeal (hDownFwdIdeal := hDownFwdIdeal) (hDownFwdRefIdeal := hDownFwdRefIdeal)
    ∧ preserves_BranchFwd_BranchFwdIdeal
    ∧ algebraic_BranchFwdIdeal_BranchFwdRefIdeal (hBranchFwdIdeal := hBranchFwdIdeal) (hBranchFwdRefIdeal := hBranchFwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_MainDb_MainDbIdeal
    ∧ algebraic_MainDbIdeal_MainDbRefIdeal (hMainDbIdeal := hMainDbIdeal) (hMainDbRefIdeal := hMainDbRefIdeal)
    ∧ preserves_LnBwd_LnBwdIdeal
    ∧ algebraic_LnBwdIdeal_LnBwdRefIdeal (hLnBwdIdeal := hLnBwdIdeal) (hLnBwdRefIdeal := hLnBwdRefIdeal)
    ∧ preserves_LnFwd_LnFwdIdeal
    ∧ algebraic_LnFwdIdeal_LnFwdRefIdeal (hLnFwdIdeal := hLnFwdIdeal) (hLnFwdRefIdeal := hLnFwdRefIdeal)
    ∧ preserves_SguBwd_SguBwdIdeal
    ∧ algebraic_SguBwdIdeal_SguBwdRefIdeal (hSguBwdIdeal := hSguBwdIdeal) (hSguBwdRefIdeal := hSguBwdRefIdeal)
    ∧ preserves_SguFwd_SguFwdIdeal
    ∧ algebraic_SguFwdIdeal_SguFwdRefIdeal (hSguFwdIdeal := hSguFwdIdeal) (hSguFwdRefIdeal := hSguFwdRefIdeal)
    ∧ preserves_ActBwd_ActBwdIdeal
    ∧ algebraic_ActBwdIdeal_ActBwdRefIdeal_pre_finite_values (hActBwdIdeal := hActBwdIdeal) (hActBwdRefIdeal := hActBwdRefIdeal) (hPre_finite_values := hPre_finite_values)
    ∧ preserves_ActFwd_ActFwdIdeal
    ∧ algebraic_ActFwdIdeal_ActFwdRefIdeal (hActFwdIdeal := hActFwdIdeal) (hActFwdRefIdeal := hActFwdRefIdeal)
    ∧ preserves_PreBwd_PreBwdIdeal
    ∧ algebraic_PreBwdIdeal_PreBwdRefIdeal_pre_finite_cotangent (hPreBwdIdeal := hPreBwdIdeal) (hPreBwdRefIdeal := hPreBwdRefIdeal) (hPre_finite_cotangent := hPre_finite_cotangent)
    ∧ preserves_PreFwd_PreFwdIdeal
    ∧ algebraic_PreFwdIdeal_PreFwdRefIdeal (hPreFwdIdeal := hPreFwdIdeal) (hPreFwdRefIdeal := hPreFwdRefIdeal)
    ∧ preserves_TailDw_TailDwIdeal
    ∧ algebraic_TailDwIdeal_TailDwRefIdeal (hTailDwIdeal := hTailDwIdeal) (hTailDwRefIdeal := hTailDwRefIdeal)
    ∧ preserves_TailDx_TailDxIdeal
    ∧ algebraic_TailDxIdeal_TailDxRefIdeal (hTailDxIdeal := hTailDxIdeal) (hTailDxRefIdeal := hTailDxRefIdeal)
    ∧ preserves_TailFwd_TailFwdIdeal
    ∧ algebraic_TailFwdIdeal_TailFwdRefIdeal (hTailFwdIdeal := hTailFwdIdeal) (hTailFwdRefIdeal := hTailFwdRefIdeal)
    ∧ preserves_TailDb_TailDbIdeal
    ∧ algebraic_TailDbIdeal_TailDbRefIdeal (hTailDbIdeal := hTailDbIdeal) (hTailDbRefIdeal := hTailDbRefIdeal)
    ∧ preserves_CumBwd_CumBwdIdeal
    ∧ algebraic_CumBwdIdeal_CumBwdRefIdeal (hCumBwdIdeal := hCumBwdIdeal) (hCumBwdRefIdeal := hCumBwdRefIdeal)
    ∧ preserves_CumFwd_CumFwdIdeal
    ∧ algebraic_CumFwdIdeal_CumFwdRefIdeal (hCumFwdIdeal := hCumFwdIdeal) (hCumFwdRefIdeal := hCumFwdRefIdeal)
    ∧ preserves_LossHead_LossHeadIdeal
    ∧ algebraic_LossHeadIdeal_LossHeadRefIdeal (hLossHeadIdeal := hLossHeadIdeal) (hLossHeadRefIdeal := hLossHeadRefIdeal)
    ∧ preserves_Adam_AdamIdeal
    ∧ algebraic_AdamIdeal_AdamRefIdeal (hAdamIdeal := hAdamIdeal) (hAdamRefIdeal := hAdamRefIdeal)
    ∧ preserves_ChipSum_ChipSumIdeal
    ∧ algebraic_ChipSumIdeal_ChipSumRefIdeal (hChipSumIdeal := hChipSumIdeal) (hChipSumRefIdeal := hChipSumRefIdeal)
    ∧ preserves_PairSum_PairSumIdeal
    ∧ algebraic_PairSumIdeal_PairSumRefIdeal (hPairSumIdeal := hPairSumIdeal) (hPairSumRefIdeal := hPairSumRefIdeal)
-- ==== Pre_finite.lean ====
abbrev S4096x15360 : Shape := ⟨2, ![4096, 15360]⟩
abbrev S4096x8 : Shape := ⟨2, ![4096, 8]⟩
abbrev S4096x1024 : Shape := ⟨2, ![4096, 1024]⟩
abbrev S4096x3072 : Shape := ⟨2, ![4096, 3072]⟩
abbrev S_ : Shape := ⟨0, ![]⟩

class Facts : Prop where
  slices_S4096x15360_S4096x3072_0_0 : S4096x15360.Slices ![0, 0] S4096x3072
  bcast_S_S4096x3072 : S_.BroadcastsInDim S4096x3072 (![] : Fin 0 → Fin S4096x3072.rank)
  reducesTo_S4096x3072_S_d0_1 : S4096x3072.ReducesTo [0, 1] S_
  h_S_ : 0 < S_.numel
  bcast_S_S4096x8 : S_.BroadcastsInDim S4096x8 (![] : Fin 0 → Fin S4096x8.rank)
  reducesTo_S4096x8_S_d0_1 : S4096x8.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x15360 .f32) (main_arg1 : FVec F S4096x8 .f32) (main_arg2 : FVec F S4096x1024 .f32) : IVec S_ 1 :=
  let main_v0 : FVec F S4096x3072 .f32 := (extractStridedSlice S4096x3072 ![0, 0] · slices_S4096x15360_S4096x3072_0_0) main_arg0
  let main_v1 : FVec F S4096x3072 .f32 := Host.absf main_v0
  let main_cst : FVec F S_ .f32 := constant S_ .f32 0x7F800000#32
  let main_v2 : FVec F S4096x3072 .f32 := broadcastInDim S4096x3072 ![] bcast_S_S4096x3072 main_cst
  let main_v3 : IVec S4096x3072 1 := cmpf .olt main_v1 main_v2
  let main_c : IVec S_ 1 := constantI S_ 1 1#1
  let main_v4 : IVec S_ 1 := (fun x v => Host.reduce IntOp.andi x v reducesTo_S4096x3072_S_d0_1 h_S_) main_v3 main_c
  let main_v5 : FVec F S4096x8 .f32 := Host.absf main_arg1
  let main_cst_0 : FVec F S_ .f32 := constant S_ .f32 0x7F800000#32
  let main_v6 : FVec F S4096x8 .f32 := broadcastInDim S4096x8 ![] bcast_S_S4096x8 main_cst_0
  let main_v7 : IVec S4096x8 1 := cmpf .olt main_v5 main_v6
  let main_c_1 : IVec S_ 1 := constantI S_ 1 1#1
  let main_v8 : IVec S_ 1 := (fun x v => Host.reduce IntOp.andi x v reducesTo_S4096x8_S_d0_1 h_S_) main_v7 main_c_1
  let main_v9 : IVec S_ 1 := andi main_v4 main_v8
  let main_v10 : FVec F S4096x1024 .f32 := Host.absf main_arg2
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_c_3 : IVec S_ 1 := constantI S_ 1 1#1
  let main_v13 : IVec S_ 1 := (fun x v => Host.reduce IntOp.andi x v reducesTo_S4096x1024_S_d0_1 h_S_) main_v12 main_c_3
  let main_v14 : IVec S_ 1 := andi main_v9 main_v13
  main_v14
-- ==== Pre_finite_cotangent.lean ====
abbrev S4096x15360 : Shape := ⟨2, ![4096, 15360]⟩
abbrev S4x1x3072 : Shape := ⟨3, ![4, 1, 3072]⟩
abbrev S4096x3072 : Shape := ⟨2, ![4096, 3072]⟩
abbrev S_ : Shape := ⟨0, ![]⟩

class Facts : Prop where
  bcast_S_S4096x3072 : S_.BroadcastsInDim S4096x3072 (![] : Fin 0 → Fin S4096x3072.rank)
  reducesTo_S4096x3072_S_d0_1 : S4096x3072.ReducesTo [0, 1] S_
  h_S_ : 0 < S_.numel

variable [Facts]

def fn {F : FTy → Type} [FloatOps F] (main_arg0 : FVec F S4096x15360 .f32) (main_arg1 : FVec F S4x1x3072 .f32) (main_arg2 : FVec F S4096x3072 .f32) : IVec S_ 1 :=
  let main_v0 : FVec F S4096x3072 .f32 := Host.absf main_arg2
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  let main_c : IVec S_ 1 := constantI S_ 1 1#1
  let main_v3 : IVec S_ 1 := (fun x v => Host.reduce IntOp.andi x v reducesTo_S4096x3072_S_d0_1 h_S_) main_v2 main_c
  main_v3
-- ==== Pre_finite_values.lean ====
abbrev S4096x5632 : Shape := ⟨2, ![4096, 5632]⟩
abbrev S3x1x5632 : Shape := ⟨3, ![3, 1, 5632]⟩
abbrev S1x5632 : Shape := ⟨2, ![1, 5632]⟩
abbrev S_ : Shape := ⟨0, ![]⟩

class Facts : Prop where
  bcast_S_S4096x5632 : S_.BroadcastsInDim S4096x5632 (![] : Fin 0 → Fin S4096x5632.rank)
  reducesTo_S4096x5632_S_d0_1 : S4096x5632.ReducesTo [0, 1] S_
  h_S_ : 0 < S_.numel
  bcast_S_S3x1x5632 : S_.BroadcastsInDim S3x1x5632 (![] : Fin 0 → Fin S3x1x5632.rank)
  reducesTo_S3x1x5632_S_d0_1_2 : S3x1x5632.ReducesTo [0, 1, 2] S_
  bcast_S_S1x5632 : S_.BroadcastsInDim S1x5632 (![] : Fin 0 → Fin S1x5632.rank)
  reducesTo_S1x5632_S_d0_1 : S1x5632.ReducesTo [0, 1] S_

variable [Facts]

def fn_part1 {F : FTy → Type} [FloatOps F] (main_v13 : IVec S_ 1) (main_v16 : IVec S4096x5632 1) : IVec S_ 1 :=
  let main_c_5 : IVec S_ 1 := constantI S_ 1 1#1
  let main_v17 : IVec S_ 1 := (fun x v => Host.reduce IntOp.andi x v reducesTo_S4096x5632_S_d0_1 h_S_) main_v16 main_c_5
  let main_v18 : IVec S_ 1 := andi main_v13 main_v17
  main_v18

def fn {F : FTy → Type} [FloatOps F] (main_arg0 : FVec F S4096x5632 .f32) (main_arg1 : FVec F S4096x5632 .f32) (main_arg2 : FVec F S3x1x5632 .f32) (main_arg3 : FVec F S3x1x5632 .f32) (main_arg4 : FVec F S1x5632 .f32) (main_arg5 : FVec F S1x5632 .f32) (main_arg6 : FVec F S4096x5632 .f32) : IVec S_ 1 :=
  let main_v0 : FVec F S4096x5632 .f32 := Host.absf main_arg1
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_c : IVec S_ 1 := constantI S_ 1 1#1
  let main_v3 : IVec S_ 1 := (fun x v => Host.reduce IntOp.andi x v reducesTo_S4096x5632_S_d0_1 h_S_) main_v2 main_c
  let main_v4 : FVec F S3x1x5632 .f32 := Host.absf main_arg3
  let main_cst_0 : FVec F S_ .f32 := constant S_ .f32 0x7F800000#32
  let main_v5 : FVec F S3x1x5632 .f32 := broadcastInDim S3x1x5632 ![] bcast_S_S3x1x5632 main_cst_0
  let main_v6 : IVec S3x1x5632 1 := cmpf .olt main_v4 main_v5
  let main_c_1 : IVec S_ 1 := constantI S_ 1 1#1
  let main_v7 : IVec S_ 1 := (fun x v => Host.reduce IntOp.andi x v reducesTo_S3x1x5632_S_d0_1_2 h_S_) main_v6 main_c_1
  let main_v8 : IVec S_ 1 := andi main_v3 main_v7
  let main_v9 : FVec F S1x5632 .f32 := Host.absf main_arg5
  let main_cst_2 : FVec F S_ .f32 := constant S_ .f32 0x7F800000#32
  let main_v10 : FVec F S1x5632 .f32 := broadcastInDim S1x5632 ![] bcast_S_S1x5632 main_cst_2
  let main_v11 : IVec S1x5632 1 := cmpf .olt main_v9 main_v10
  let main_c_3 : IVec S_ 1 := constantI S_ 1 1#1
  let main_v12 : IVec S_ 1 := (fun x v => Host.reduce IntOp.andi x v reducesTo_S1x5632_S_d0_1 h_S_) main_v11 main_c_3
  let main_v13 : IVec S_ 1 := andi main_v8 main_v12
  let main_v14 : FVec F S4096x5632 .f32 := Host.absf main_arg6
  let main_cst_4 : FVec F S_ .f32 := constant S_ .f32 0x7F800000#32
  let main_v15 : FVec F S4096x5632 .f32 := broadcastInDim S4096x5632 ![] bcast_S_S4096x5632 main_cst_4
  let main_v16 : IVec S4096x5632 1 := cmpf .olt main_v14 main_v15
  fn_part1 (F := F) main_v13 main_v16
-- ==== FoxKv.lean ====
abbrev S4096x15360 : Shape := ⟨2, ![4096, 15360]⟩
abbrev S4096x8 : Shape := ⟨2, ![4096, 8]⟩
abbrev S4096x1024 : Shape := ⟨2, ![4096, 1024]⟩
abbrev S4096x3072 : Shape := ⟨2, ![4096, 3072]⟩
abbrev S4096x8x128 : Shape := ⟨3, ![4096, 8, 128]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x128x4096 : Shape := ⟨3, ![8, 128, 4096]⟩
abbrev S1024x128 : Shape := ⟨2, ![1024, 128]⟩
abbrev S1x1024x1 : Shape := ⟨3, ![1, 1024, 1]⟩
abbrev S1x1x1024 : Shape := ⟨3, ![1, 1, 1024]⟩
abbrev S1x1024 : Shape := ⟨2, ![1, 1024]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 68
  | .vmem => 25
  | .smem => 0
  | _ => 0

abbrev bufTy : (tb : Table) → Fin (tcTables nBuf tb) → BufTy
  | .hbm, ⟨0, _⟩ => ⟨S4096x15360, .f32⟩
  | .hbm, ⟨1, _⟩ => ⟨S4096x8, .f32⟩
  | .hbm, ⟨2, _⟩ => ⟨S4096x1024, .f32⟩
  | .hbm, ⟨3, _⟩ => ⟨S4096x3072, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x8x128, .f32⟩
  | .hbm, ⟨8, _⟩ => ⟨S4096x8x128, .f32⟩
  | .hbm, ⟨9, _⟩ => ⟨S4096x8x128, .f32⟩
  | .hbm, ⟨10, _⟩ => ⟨S8x4096x4096, .f32⟩
  | .hbm, ⟨11, _⟩ => ⟨S_, .f32⟩
  | .hbm, ⟨12, _⟩ => ⟨S8x4096x4096, .f32⟩
  | .hbm, ⟨13, _⟩ => ⟨S8x4096x4096, .f32⟩
  | .hbm, ⟨14, _⟩ => ⟨S8x4096, .f32⟩
  | .hbm, ⟨15, _⟩ => ⟨S8x4096x1, .f32⟩
  | .hbm, ⟨16, _⟩ => ⟨S8x4096x4096, .f32⟩
  | .hbm, ⟨17, _⟩ => ⟨S8x4096x4096, .f32⟩
  | .hbm, ⟨18, _⟩ => ⟨S8x4096, .f32⟩
  | .hbm, ⟨19, _⟩ => ⟨S8x1x4096, .f32⟩
  | .hbm, ⟨20, _⟩ => ⟨S8x4096x4096, .f32⟩
  | .hbm, ⟨21, _⟩ => ⟨S8x4096x4096, .f32⟩
  | .hbm, ⟨22, _⟩ => ⟨S4096, .i32⟩
  | .hbm, ⟨23, _⟩ => ⟨S4096x1, .i32⟩
  | .hbm, ⟨24, _⟩ => ⟨S1x4096, .i32⟩
  | .hbm, ⟨25, _⟩ => ⟨S4096x4096, .i32⟩
  | .hbm, ⟨26, _⟩ => ⟨S4096x4096, .i32⟩
  | .hbm, ⟨27, _⟩ => ⟨S4096x4096, .i1⟩
  | .hbm, ⟨28, _⟩ => ⟨S_, .f32⟩
  | .hbm, ⟨29, _⟩ => ⟨S_, .f32⟩
  | .hbm, ⟨30, _⟩ => ⟨S8x4096x4096, .i1⟩
  | .hbm, ⟨31, _⟩ => ⟨S8x4096x4096, .f32⟩
  | .hbm, ⟨32, _⟩ => ⟨S8x4096x4096, .f32⟩
  | .hbm, ⟨33, _⟩ => ⟨S_, .f32⟩
  | .hbm, ⟨34, _⟩ => ⟨S8x4096, .f32⟩
  | .hbm, ⟨35, _⟩ => ⟨S8x4096x1, .f32⟩
  | .hbm, ⟨36, _⟩ => ⟨S8x4096x4096, .f32⟩
  | .hbm, ⟨37, _⟩ => ⟨S8x4096x4096, .f32⟩
  | .hbm, ⟨38, _⟩ => ⟨S8x4096x4096, .f32⟩
  | .hbm, ⟨39, _⟩ => ⟨S_, .f32⟩
  | .hbm, ⟨40, _⟩ => ⟨S8x4096, .f32⟩
  | .hbm, ⟨41, _⟩ => ⟨S8x4096x1, .f32⟩
  | .hbm, ⟨42, _⟩ => ⟨S_, .f32⟩
  | .hbm, ⟨43, _⟩ => ⟨S8x4096, .f32⟩
  | .hbm, ⟨44, _⟩ => ⟨S_, .f32⟩
  | .hbm, ⟨45, _⟩ => ⟨S8x4096, .f32⟩
  | .hbm, ⟨46, _⟩ => ⟨S8x4096, .f32⟩
  | .hbm, ⟨47, _⟩ => ⟨S8x4096x1, .f32⟩
  | .hbm, ⟨48, _⟩ => ⟨S8x4096x4096, .f32⟩
  | .hbm, ⟨49, _⟩ => ⟨S8x4096x4096, .f32⟩
  | .hbm, ⟨50, _⟩ => ⟨S8x4096x4096, .f32⟩
  | .hbm, ⟨51, _⟩ => ⟨S_, .f32⟩
  | .hbm, ⟨52, _⟩ => ⟨S8x4096, .f32⟩
  | .hbm, ⟨53, _⟩ => ⟨S8x4096x1, .f32⟩
  | .hbm, ⟨54, _⟩ => ⟨S8x4096x4096, .f32⟩
  | .hbm, ⟨55, _⟩ => ⟨S8x4096x4096, .f32⟩
  | .hbm, ⟨56, _⟩ => ⟨S8x128x4096, .f32⟩
  | .hbm, ⟨57, _⟩ => ⟨S4096x8x128, .f32⟩
  | .hbm, ⟨58, _⟩ => ⟨S4096x1024, .f32⟩
  | .hbm, ⟨59, _⟩ => ⟨S8x4096x1, .f32⟩
  | .hbm, ⟨60, _⟩ => ⟨S8x4096x1, .f32⟩
  | .hbm, ⟨61, _⟩ => ⟨S8x4096, .f32⟩
  | .hbm, ⟨62, _⟩ => ⟨S8x4096x1, .f32⟩
  | .hbm, ⟨63, _⟩ => ⟨S8x4096, .f32⟩
  | .hbm, ⟨64, _⟩ => ⟨S8x1x4096, .f32⟩
  | .hbm, ⟨65, _⟩ => ⟨S4096x1024, .f32⟩
  | .hbm, ⟨66, _⟩ => ⟨S4096x1024, .f32⟩
  | .hbm, ⟨67, _⟩ => ⟨S8x1x4096, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1x1024x1, .f32⟩
  | .local _ .vmem, ⟨7, _⟩ => ⟨S1x1024x1, .f32⟩
  | .local _ .vmem, ⟨8, _⟩ => ⟨S1x1x1024, .f32⟩
  | .local _ .vmem, ⟨9, _⟩ => ⟨S1x1x1024, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1x1024x1, .f32⟩
  | .local _ .vmem, ⟨15, _⟩ => ⟨S1x1024x1, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1x1x1024, .f32⟩
  | .local _ .vmem, ⟨21, _⟩ => ⟨S1x1x1024, .f32⟩
  | .local _ .vmem, ⟨22, _⟩ => ⟨S1024x128, .f32⟩
  | .local _ .vmem, ⟨23, _⟩ => ⟨S1024x128, .f32⟩
  | .local _ .vmem, ⟨24, _⟩ => ⟨S1x1024, .f32⟩
  | _, _ => ⟨S4096x15360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52_0 : Ref sig .tc := ⟨.hbm, 65, rfl⟩
abbrev main_v52_1 : Ref sig .tc := ⟨.hbm, 66, rfl⟩
abbrev main_v52_2 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![8, 4, 4], ![false, false, false]⟩

def k0_cond4 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  ![arg1.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== FoxKvIdeal.lean ====
variable {F : FTy → Type} [FloatOps F] [Named F]
def κ : String → Option EReal := fun
  | "mask" => some ⊥
  | _ => none
-- ==== FoxKvRefIdeal.lean ====
abbrev S4096x15360 : Shape := ⟨2, ![4096, 15360]⟩
abbrev S4096x8 : Shape := ⟨2, ![4096, 8]⟩
abbrev S4096x1024 : Shape := ⟨2, ![4096, 1024]⟩
abbrev S4096x3072 : Shape := ⟨2, ![4096, 3072]⟩
abbrev S4096x8x128 : Shape := ⟨3, ![4096, 8, 128]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x128x4096 : Shape := ⟨3, ![8, 128, 4096]⟩
abbrev S8x4096x128 : Shape := ⟨3, ![8, 4096, 128]⟩

abbrev nBuf : Space → Nat
  | .hbm => 113
  | .vmem => 0
  | .smem => 0
  | _ => 0

abbrev bufTy : (tb : Table) → Fin (tcTables nBuf tb) → BufTy
  | .hbm, ⟨0, _⟩ => ⟨S4096x15360, .f32⟩
  | .hbm, ⟨1, _⟩ => ⟨S4096x8, .f32⟩
  | .hbm, ⟨2, _⟩ => ⟨S4096x1024, .f32⟩
  | .hbm, ⟨3, _⟩ => ⟨S4096x3072, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x8x128, .f32⟩
  | .hbm, ⟨8, _⟩ => ⟨S4096x8x128, .f32⟩
  | .hbm, ⟨9, _⟩ => ⟨S4096x8x128, .f32⟩
  | .hbm, ⟨10, _⟩ => ⟨S8x4096x4096, .f32⟩
  | .hbm, ⟨11, _⟩ => ⟨S_, .f32⟩
  | .hbm, ⟨12, _⟩ => ⟨S8x4096x4096, .f32⟩
  | .hbm, ⟨13, _⟩ => ⟨S8x4096x4096, .f32⟩
  | .hbm, ⟨14, _⟩ => ⟨S8x4096, .f32⟩
  | .hbm, ⟨15, _⟩ => ⟨S8x4096x1, .f32⟩
  | .hbm, ⟨16, _⟩ => ⟨S8x4096x4096, .f32⟩
  | .hbm, ⟨17, _⟩ => ⟨S8x4096x4096, .f32⟩
  | .hbm, ⟨18, _⟩ => ⟨S8x4096, .f32⟩
  | .hbm, ⟨19, _⟩ => ⟨S8x1x4096, .f32⟩
  | .hbm, ⟨20, _⟩ => ⟨S8x4096x4096, .f32⟩
  | .hbm, ⟨21, _⟩ => ⟨S8x4096x4096, .f32⟩
  | .hbm, ⟨22, _⟩ => ⟨S4096, .i32⟩
  | .hbm, ⟨23, _⟩ => ⟨S4096x1, .i32⟩
  | .hbm, ⟨24, _⟩ => ⟨S1x4096, .i32⟩
  | .hbm, ⟨25, _⟩ => ⟨S4096x4096, .i32⟩
  | .hbm, ⟨26, _⟩ => ⟨S4096x4096, .i32⟩
  | .hbm, ⟨27, _⟩ => ⟨S4096x4096, .i1⟩
  | .hbm, ⟨28, _⟩ => ⟨S_, .f32⟩
  | .hbm, ⟨29, _⟩ => ⟨S_, .f32⟩
  | .hbm, ⟨30, _⟩ => ⟨S8x4096x4096, .i1⟩
  | .hbm, ⟨31, _⟩ => ⟨S8x4096x4096, .f32⟩
  | .hbm, ⟨32, _⟩ => ⟨S8x4096x4096, .f32⟩
  | .hbm, ⟨33, _⟩ => ⟨S_, .f32⟩
  | .hbm, ⟨34, _⟩ => ⟨S8x4096x4096, .f32⟩
  | .hbm, ⟨35, _⟩ => ⟨S_, .f32⟩
  | .hbm, ⟨36, _⟩ => ⟨S8x4096, .f32⟩
  | .hbm, ⟨37, _⟩ => ⟨S8x4096x1, .f32⟩
  | .hbm, ⟨38, _⟩ => ⟨S8x4096x4096, .f32⟩
  | .hbm, ⟨39, _⟩ => ⟨S8x4096x4096, .i1⟩
  | .hbm, ⟨40, _⟩ => ⟨S8x4096x4096, .f32⟩
  | .hbm, ⟨41, _⟩ => ⟨S_, .f32⟩
  | .hbm, ⟨42, _⟩ => ⟨S8x4096, .f32⟩
  | .hbm, ⟨43, _⟩ => ⟨S_, .f32⟩
  | .hbm, ⟨44, _⟩ => ⟨S8x4096, .f32⟩
  | .hbm, ⟨45, _⟩ => ⟨S8x4096, .f32⟩
  | .hbm, ⟨46, _⟩ => ⟨S_, .f32⟩
  | .hbm, ⟨47, _⟩ => ⟨S8x4096, .f32⟩
  | .hbm, ⟨48, _⟩ => ⟨S8x4096, .i1⟩
  | .hbm, ⟨49, _⟩ => ⟨S_, .f32⟩
  | .hbm, ⟨50, _⟩ => ⟨S8x4096, .f32⟩
  | .hbm, ⟨51, _⟩ => ⟨S8x4096, .i1⟩
  | .hbm, ⟨52, _⟩ => ⟨S_, .f32⟩
  | .hbm, ⟨53, _⟩ => ⟨S8x4096, .f32⟩
  | .hbm, ⟨54, _⟩ => ⟨S_, .f32⟩
  | .hbm, ⟨55, _⟩ => ⟨S8x4096, .f32⟩
  | .hbm, ⟨56, _⟩ => ⟨S_, .f32⟩
  | .hbm, ⟨57, _⟩ => ⟨S8x4096, .f32⟩
  | .hbm, ⟨58, _⟩ => ⟨S8x4096, .f32⟩
  | .hbm, ⟨59, _⟩ => ⟨S8x4096, .f32⟩
  | .hbm, ⟨60, _⟩ => ⟨S8x4096x1, .f32⟩
  | .hbm, ⟨61, _⟩ => ⟨S8x4096x4096, .f32⟩
  | .hbm, ⟨62, _⟩ => ⟨S8x4096x4096, .f32⟩
  | .hbm, ⟨63, _⟩ => ⟨S8x4096x4096, .f32⟩
  | .hbm, ⟨64, _⟩ => ⟨S_, .f32⟩
  | .hbm, ⟨65, _⟩ => ⟨S8x4096, .f32⟩
  | .hbm, ⟨66, _⟩ => ⟨S8x4096x1, .f32⟩
  | .hbm, ⟨67, _⟩ => ⟨S8x4096x4096, .f32⟩
  | .hbm, ⟨68, _⟩ => ⟨S8x4096x4096, .f32⟩
  | .hbm, ⟨69, _⟩ => ⟨S8x4096x1, .f32⟩
  | .hbm, ⟨70, _⟩ => ⟨S_, .f32⟩
  | .hbm, ⟨71, _⟩ => ⟨S8x4096x1, .f32⟩
  | .hbm, ⟨72, _⟩ => ⟨S8x4096x1, .f32⟩
  | .hbm, ⟨73, _⟩ => ⟨S8x128x4096, .f32⟩
  | .hbm, ⟨74, _⟩ => ⟨S4096x8x128, .f32⟩
  | .hbm, ⟨75, _⟩ => ⟨S4096x8x128, .f32⟩
  | .hbm, ⟨76, _⟩ => ⟨S8x128x4096, .f32⟩
  | .hbm, ⟨77, _⟩ => ⟨S8x4096x4096, .f32⟩
  | .hbm, ⟨78, _⟩ => ⟨S8x128x4096, .f32⟩
  | .hbm, ⟨79, _⟩ => ⟨S4096x8x128, .f32⟩
  | .hbm, ⟨80, _⟩ => ⟨S8x4096x4096, .f32⟩
  | .hbm, ⟨81, _⟩ => ⟨S8x4096x4096, .f32⟩
  | .hbm, ⟨82, _⟩ => ⟨S8x4096x4096, .f32⟩
  | .hbm, ⟨83, _⟩ => ⟨S_, .f32⟩
  | .hbm, ⟨84, _⟩ => ⟨S8x4096, .f32⟩
  | .hbm, ⟨85, _⟩ => ⟨S8x4096x1, .f32⟩
  | .hbm, ⟨86, _⟩ => ⟨S8x4096x1, .f32⟩
  | .hbm, ⟨87, _⟩ => ⟨S8x4096x4096, .f32⟩
  | .hbm, ⟨88, _⟩ => ⟨S8x4096x4096, .f32⟩
  | .hbm, ⟨89, _⟩ => ⟨S_, .f32⟩
  | .hbm, ⟨90, _⟩ => ⟨S8x4096, .f32⟩
  | .hbm, ⟨91, _⟩ => ⟨S8x4096x4096, .f32⟩
  | .hbm, ⟨92, _⟩ => ⟨S8x4096x4096, .f32⟩
  | .hbm, ⟨93, _⟩ => ⟨S8x4096x4096, .f32⟩
  | .hbm, ⟨94, _⟩ => ⟨S_, .f32⟩
  | .hbm, ⟨95, _⟩ => ⟨S8x4096x4096, .f32⟩
  | .hbm, ⟨96, _⟩ => ⟨S8x4096x4096, .f32⟩
  | .hbm, ⟨97, _⟩ => ⟨S8x4096x4096, .f32⟩
  | .hbm, ⟨98, _⟩ => ⟨S_, .f32⟩
  | .hbm, ⟨99, _⟩ => ⟨S8x4096, .f32⟩
  | .hbm, ⟨100, _⟩ => ⟨S8x1x4096, .f32⟩
  | .hbm, ⟨101, _⟩ => ⟨S_, .f32⟩
  | .hbm, ⟨102, _⟩ => ⟨S8x4096, .f32⟩
  | .hbm, ⟨103, _⟩ => ⟨S4096x8, .f32⟩
  | .hbm, ⟨104, _⟩ => ⟨S_, .f32⟩
  | .hbm, ⟨105, _⟩ => ⟨S8x4096x4096, .f32⟩
  | .hbm, ⟨106, _⟩ => ⟨S8x4096x4096, .f32⟩
  | .hbm, ⟨107, _⟩ => ⟨S8x4096x128, .f32⟩
  | .hbm, ⟨108, _⟩ => ⟨S4096x8x128, .f32⟩
  | .hbm, ⟨109, _⟩ => ⟨S4096x1024, .f32⟩
  | .hbm, ⟨110, _⟩ => ⟨S4096x1024, .f32⟩
  | .hbm, ⟨111, _⟩ => ⟨S8x4096, .f32⟩
  | .hbm, ⟨112, _⟩ => ⟨S8x1x4096, .f32⟩
  | _, _ => ⟨S4096x15360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_0 : Ref sig .tc := ⟨.hbm, 28, rfl⟩
abbrev main_call0_v0 : Ref sig .tc := ⟨.hbm, 29, rfl⟩
abbrev main_v24_1 : Ref sig .tc := ⟨.hbm, 30, rfl⟩
abbrev main_call0_v2 : Ref sig .tc := ⟨.hbm, 31, rfl⟩
abbrev main_v24_0 : Ref sig .tc := ⟨.hbm, 32, rfl⟩
abbrev main_call0_cst : Ref sig .tc := ⟨.hbm, 33, rfl⟩
abbrev main_v24_2 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_10 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_11 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_12 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_call1_cst : Ref sig .tc := ⟨.hbm, 94, rfl⟩
abbrev main_call1_v0 : Ref sig .tc := ⟨.hbm, 95, rfl⟩
abbrev main_v72 : Ref sig .tc := ⟨.hbm, 96, rfl⟩
abbrev main_v73 : Ref sig .tc := ⟨.hbm, 97, rfl⟩
abbrev main_cst_13 : Ref sig .tc := ⟨.hbm, 98, rfl⟩
abbrev main_v74 : Ref sig .tc := ⟨.hbm, 99, rfl⟩
abbrev main_v75 : Ref sig .tc := ⟨.hbm, 100, rfl⟩
abbrev main_cst_14 : Ref sig .tc := ⟨.hbm, 101, rfl⟩
abbrev main_v76 : Ref sig .tc := ⟨.hbm, 102, rfl⟩
abbrev main_v77 : Ref sig .tc := ⟨.hbm, 103, rfl⟩
abbrev main_cst_15 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩

abbrev nD : Nat := 1
abbrev τ : Topo := Topo.v7x

variable {F : FTy → Type} [FloatOps F]
-- ==== MainDw.lean ====
abbrev S4096x2048 : Shape := ⟨2, ![4096, 2048]⟩
abbrev S4096x15360 : Shape := ⟨2, ![4096, 15360]⟩
abbrev S2048x15360 : Shape := ⟨2, ![2048, 15360]⟩
abbrev S1024x1024 : Shape := ⟨2, ![1024, 1024]⟩
abbrev S1024x2560 : Shape := ⟨2, ![1024, 2560]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x15360, .f32⟩
  | .hbm, ⟨2, _⟩ => ⟨S4096x2048, .bf16⟩
  | .hbm, ⟨3, _⟩ => ⟨S4096x15360, .bf16⟩
  | .hbm, ⟨4, _⟩ => ⟨S2048x15360, .f32⟩
  | .local _ .vmem, ⟨0, _⟩ => ⟨S1024x1024, .bf16⟩
  | .local _ .vmem, ⟨1, _⟩ => ⟨S1024x1024, .bf16⟩
  | .local _ .vmem, ⟨2, _⟩ => ⟨S1024x2560, .bf16⟩
  | .local _ .vmem, ⟨3, _⟩ => ⟨S1024x2560, .bf16⟩
  | .local _ .vmem, ⟨4, _⟩ => ⟨S1024x2560, .f32⟩
  | .local _ .vmem, ⟨5, _⟩ => ⟨S1024x2560, .f32⟩
  | .local _ .vmem, ⟨6, _⟩ => ⟨S1024x2560, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MainDwRefIdeal.lean ====
abbrev S4096x2048 : Shape := ⟨2, ![4096, 2048]⟩
abbrev S4096x15360 : Shape := ⟨2, ![4096, 15360]⟩
abbrev S_ : Shape := ⟨0, ![]⟩
abbrev S2048x15360 : Shape := ⟨2, ![2048, 15360]⟩
abbrev S15360x2048 : Shape := ⟨2, ![15360, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x15360, .f32⟩
  | .hbm, ⟨2, _⟩ => ⟨S_, .f32⟩
  | .hbm, ⟨3, _⟩ => ⟨S2048x15360, .f32⟩
  | .hbm, ⟨4, _⟩ => ⟨S4096x15360, .f32⟩
  | .hbm, ⟨5, _⟩ => ⟨S15360x2048, .f32⟩
  | .hbm, ⟨6, _⟩ => ⟨S2048x15360, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MainDx.lean ====
abbrev S4096x15360 : Shape := ⟨2, ![4096, 15360]⟩
abbrev S2048x15360 : Shape := ⟨2, ![2048, 15360]⟩
abbrev S4096x2048 : Shape := ⟨2, ![4096, 2048]⟩
abbrev S1024x512 : Shape := ⟨2, ![1024, 512]⟩
abbrev S2048x512 : Shape := ⟨2, ![2048, 512]⟩
abbrev S1024x2048 : Shape := ⟨2, ![1024, 2048]⟩

abbrev nBuf : Space → Nat
  | .hbm => 6
  | .vmem => 9
  | .smem => 0
  | _ => 0

abbrev bufTy : (tb : Table) → Fin (tcTables nBuf tb) → BufTy
  | .hbm, ⟨0, _⟩ => ⟨S4096x15360, .f32⟩
  | .hbm, ⟨1, _⟩ => ⟨S2048x15360, .f32⟩
  | .hbm, ⟨2, _⟩ => ⟨S4096x2048, .f32⟩
  | .hbm, ⟨3, _⟩ => ⟨S4096x15360, .bf16⟩
  | .hbm, ⟨4, _⟩ => ⟨S2048x15360, .bf16⟩
  | .hbm, ⟨5, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S2048x512, .bf16⟩
  | .local _ .vmem, ⟨3, _⟩ => ⟨S2048x512, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | .local _ .vmem, ⟨7, _⟩ => ⟨S1024x2048, .f32⟩
  | .local _ .vmem, ⟨8, _⟩ => ⟨S1024x2048, .f32⟩
  | _, _ => ⟨S4096x15360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 30], ![false, false, false]⟩

def k0_cond2 (i : grid0.Coords) : BitVec 1 :=
  let arg2 : BitVec 32 := BitVec.ofNat 32 (i 2).val
  let c29_i32 : BitVec 32 := 29#32
  let v13 : BitVec 1 := Scalar.cmpi .eq arg2 c29_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MainDxRefIdeal.lean ====
abbrev S4096x15360 : Shape := ⟨2, ![4096, 15360]⟩
abbrev S2048x15360 : Shape := ⟨2, ![2048, 15360]⟩
abbrev S4096x2048 : Shape := ⟨2, ![4096, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x15360, .f32⟩
  | .hbm, ⟨1, _⟩ => ⟨S2048x15360, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x15360, .f32⟩
  | .hbm, ⟨6, _⟩ => ⟨S4096x2048, .f32⟩
  | .hbm, ⟨7, _⟩ => ⟨S4096x2048, .f32⟩
  | _, _ => ⟨S4096x15360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== UpDw.lean ====
abbrev S4096x2048 : Shape := ⟨2, ![4096, 2048]⟩
abbrev S4096x5632 : Shape := ⟨2, ![4096, 5632]⟩
abbrev S2048x5632 : Shape := ⟨2, ![2048, 5632]⟩
abbrev S1024x1024 : Shape := ⟨2, ![1024, 1024]⟩
abbrev S1024x2816 : Shape := ⟨2, ![1024, 2816]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x5632, .f32⟩
  | .hbm, ⟨2, _⟩ => ⟨S4096x2048, .bf16⟩
  | .hbm, ⟨3, _⟩ => ⟨S4096x5632, .bf16⟩
  | .hbm, ⟨4, _⟩ => ⟨S2048x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S1024x2816, .f32⟩
  | .local _ .vmem, ⟨5, _⟩ => ⟨S1024x2816, .f32⟩
  | .local _ .vmem, ⟨6, _⟩ => ⟨S1024x2816, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S4096x2048 : Shape := ⟨2, ![4096, 2048]⟩
abbrev S4096x5632 : Shape := ⟨2, ![4096, 5632]⟩
abbrev S_ : Shape := ⟨0, ![]⟩
abbrev S2048x5632 : Shape := ⟨2, ![2048, 5632]⟩
abbrev S5632x2048 : Shape := ⟨2, ![5632, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x5632, .f32⟩
  | .hbm, ⟨2, _⟩ => ⟨S_, .f32⟩
  | .hbm, ⟨3, _⟩ => ⟨S2048x5632, .f32⟩
  | .hbm, ⟨4, _⟩ => ⟨S4096x5632, .f32⟩
  | .hbm, ⟨5, _⟩ => ⟨S5632x2048, .f32⟩
  | .hbm, ⟨6, _⟩ => ⟨S2048x5632, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== UpDx.lean ====
abbrev S4096x5632 : Shape := ⟨2, ![4096, 5632]⟩
abbrev S2048x5632 : Shape := ⟨2, ![2048, 5632]⟩
abbrev S4096x2048 : Shape := ⟨2, ![4096, 2048]⟩
abbrev S1024x512 : Shape := ⟨2, ![1024, 512]⟩
abbrev S2048x512 : Shape := ⟨2, ![2048, 512]⟩
abbrev S1024x2048 : Shape := ⟨2, ![1024, 2048]⟩

abbrev nBuf : Space → Nat
  | .hbm => 6
  | .vmem => 9
  | .smem => 0
  | _ => 0

abbrev bufTy : (tb : Table) → Fin (tcTables nBuf tb) → BufTy
  | .hbm, ⟨0, _⟩ => ⟨S4096x5632, .f32⟩
  | .hbm, ⟨1, _⟩ => ⟨S2048x5632, .f32⟩
  | .hbm, ⟨2, _⟩ => ⟨S4096x2048, .f32⟩
  | .hbm, ⟨3, _⟩ => ⟨S4096x5632, .bf16⟩
  | .hbm, ⟨4, _⟩ => ⟨S2048x5632, .bf16⟩
  | .hbm, ⟨5, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S2048x512, .bf16⟩
  | .local _ .vmem, ⟨3, _⟩ => ⟨S2048x512, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | .local _ .vmem, ⟨7, _⟩ => ⟨S1024x2048, .f32⟩
  | .local _ .vmem, ⟨8, _⟩ => ⟨S1024x2048, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 11], ![false, false, false]⟩

def k0_cond2 (i : grid0.Coords) : BitVec 1 :=
  let arg2 : BitVec 32 := BitVec.ofNat 32 (i 2).val
  let c10_i32 : BitVec 32 := 10#32
  let v13 : BitVec 1 := Scalar.cmpi .eq arg2 c10_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpDxRefIdeal.lean ====
abbrev S4096x5632 : Shape := ⟨2, ![4096, 5632]⟩
abbrev S2048x5632 : Shape := ⟨2, ![2048, 5632]⟩
abbrev S4096x2048 : Shape := ⟨2, ![4096, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S2048x5632, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x5632, .f32⟩
  | .hbm, ⟨6, _⟩ => ⟨S4096x2048, .f32⟩
  | .hbm, ⟨7, _⟩ => ⟨S4096x2048, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== DownDw.lean ====
abbrev S4096x5632 : Shape := ⟨2, ![4096, 5632]⟩
abbrev S4096x2048 : Shape := ⟨2, ![4096, 2048]⟩
abbrev S5632x2048 : Shape := ⟨2, ![5632, 2048]⟩
abbrev S1024x512 : Shape := ⟨2, ![1024, 512]⟩
abbrev S1024x2048 : Shape := ⟨2, ![1024, 2048]⟩
abbrev S512x2048 : Shape := ⟨2, ![512, 2048]⟩

abbrev nBuf : Space → Nat
  | .hbm => 5
  | .vmem => 7
  | .smem => 0
  | _ => 0

abbrev bufTy : (tb : Table) → Fin (tcTables nBuf tb) → BufTy
  | .hbm, ⟨0, _⟩ => ⟨S4096x5632, .f32⟩
  | .hbm, ⟨1, _⟩ => ⟨S4096x2048, .f32⟩
  | .hbm, ⟨2, _⟩ => ⟨S4096x5632, .bf16⟩
  | .hbm, ⟨3, _⟩ => ⟨S4096x2048, .bf16⟩
  | .hbm, ⟨4, _⟩ => ⟨S5632x2048, .f32⟩
  | .local _ .vmem, ⟨0, _⟩ => ⟨S1024x512, .bf16⟩
  | .local _ .vmem, ⟨1, _⟩ => ⟨S1024x512, .bf16⟩
  | .local _ .vmem, ⟨2, _⟩ => ⟨S1024x2048, .bf16⟩
  | .local _ .vmem, ⟨3, _⟩ => ⟨S1024x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 7
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x2048, .f32⟩
  | .hbm, ⟨2, _⟩ => ⟨S_, .f32⟩
  | .hbm, ⟨3, _⟩ => ⟨S5632x2048, .f32⟩
  | .hbm, ⟨4, _⟩ => ⟨S4096x2048, .f32⟩
  | .hbm, ⟨5, _⟩ => ⟨S2048x5632, .f32⟩
  | .hbm, ⟨6, _⟩ => ⟨S5632x2048, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DownDx.lean ====
abbrev S4096x2048 : Shape := ⟨2, ![4096, 2048]⟩
abbrev S5632x2048 : Shape := ⟨2, ![5632, 2048]⟩
abbrev S4096x5632 : Shape := ⟨2, ![4096, 5632]⟩
abbrev S1024x1024 : Shape := ⟨2, ![1024, 1024]⟩
abbrev S2816x1024 : Shape := ⟨2, ![2816, 1024]⟩
abbrev S1024x2816 : Shape := ⟨2, ![1024, 2816]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S5632x2048, .f32⟩
  | .hbm, ⟨2, _⟩ => ⟨S4096x2048, .bf16⟩
  | .hbm, ⟨3, _⟩ => ⟨S5632x2048, .bf16⟩
  | .hbm, ⟨4, _⟩ => ⟨S4096x5632, .f32⟩
  | .local _ .vmem, ⟨0, _⟩ => ⟨S1024x1024, .bf16⟩
  | .local _ .vmem, ⟨1, _⟩ => ⟨S1024x1024, .bf16⟩
  | .local _ .vmem, ⟨2, _⟩ => ⟨S2816x1024, .bf16⟩
  | .local _ .vmem, ⟨3, _⟩ => ⟨S2816x1024, .bf16⟩
  | .local _ .vmem, ⟨4, _⟩ => ⟨S1024x2816, .f32⟩
  | .local _ .vmem, ⟨5, _⟩ => ⟨S1024x2816, .f32⟩
  | .local _ .vmem, ⟨6, _⟩ => ⟨S1024x2816, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S4096x2048 : Shape := ⟨2, ![4096, 2048]⟩
abbrev S5632x2048 : Shape := ⟨2, ![5632, 2048]⟩
abbrev S_ : Shape := ⟨0, ![]⟩
abbrev S4096x5632 : Shape := ⟨2, ![4096, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S5632x2048, .f32⟩
  | .hbm, ⟨2, _⟩ => ⟨S_, .f32⟩
  | .hbm, ⟨3, _⟩ => ⟨S4096x5632, .f32⟩
  | .hbm, ⟨4, _⟩ => ⟨S4096x2048, .f32⟩
  | .hbm, ⟨5, _⟩ => ⟨S4096x5632, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== BranchDw.lean ====
abbrev S4096x1024 : Shape := ⟨2, ![4096, 1024]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .bf16⟩
  | .hbm, ⟨3, _⟩ => ⟨S4096x2048, .bf16⟩
  | .hbm, ⟨4, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BranchDwRefIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S_, .f32⟩
  | .hbm, ⟨3, _⟩ => ⟨S1024x2048, .f32⟩
  | .hbm, ⟨4, _⟩ => ⟨S4096x2048, .f32⟩
  | .hbm, ⟨5, _⟩ => ⟨S2048x1024, .f32⟩
  | .hbm, ⟨6, _⟩ => ⟨S1024x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== BranchDx.lean ====
abbrev S4096x2048 : Shape := ⟨2, ![4096, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S1024x2048, .f32⟩
  | .hbm, ⟨2, _⟩ => ⟨S4096x2048, .bf16⟩
  | .hbm, ⟨3, _⟩ => ⟨S1024x2048, .bf16⟩
  | .hbm, ⟨4, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchDxRefIdeal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1024x2048, .f32⟩
  | .hbm, ⟨2, _⟩ => ⟨S_, .f32⟩
  | .hbm, ⟨3, _⟩ => ⟨S4096x1024, .f32⟩
  | .hbm, ⟨4, _⟩ => ⟨S4096x2048, .f32⟩
  | .hbm, ⟨5, _⟩ => ⟨S4096x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutDw.lean ====
abbrev S4096x2048 : Shape := ⟨2, ![4096, 2048]⟩
abbrev S2048x2048 : Shape := ⟨2, ![2048, 2048]⟩
abbrev S1024x1024 : Shape := ⟨2, ![1024, 1024]⟩
abbrev S1024x2048 : Shape := ⟨2, ![1024, 2048]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S4096x2048, .bf16⟩
  | .hbm, ⟨4, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S2048x2048, .f32⟩
  | .hbm, ⟨6, _⟩ => ⟨S2048x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutDx.lean ====
abbrev S4096x2048 : Shape := ⟨2, ![4096, 2048]⟩
abbrev S2048x2048 : Shape := ⟨2, ![2048, 2048]⟩
abbrev S1024x1024 : Shape := ⟨2, ![1024, 1024]⟩
abbrev S2048x1024 : Shape := ⟨2, ![2048, 1024]⟩
abbrev S1024x2048 : Shape := ⟨2, ![1024, 2048]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .bf16⟩
  | .hbm, ⟨3, _⟩ => ⟨S2048x2048, .bf16⟩
  | .hbm, ⟨4, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MainFwd.lean ====
abbrev S4096x2048 : Shape := ⟨2, ![4096, 2048]⟩
abbrev S2048x15360 : Shape := ⟨2, ![2048, 15360]⟩
abbrev S15360 : Shape := ⟨1, ![15360]⟩
abbrev S1x15360 : Shape := ⟨2, ![1, 15360]⟩
abbrev S4096x15360 : Shape := ⟨2, ![4096, 15360]⟩
abbrev S1024x1024 : Shape := ⟨2, ![1024, 1024]⟩
abbrev S1024x2560 : Shape := ⟨2, ![1024, 2560]⟩
abbrev S1x2560 : Shape := ⟨2, ![1, 2560]⟩

abbrev nBuf : Space → Nat
  | .hbm => 7
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S2048x15360, .f32⟩
  | .hbm, ⟨2, _⟩ => ⟨S15360, .f32⟩
  | .hbm, ⟨3, _⟩ => ⟨S1x15360, .f32⟩
  | .hbm, ⟨4, _⟩ => ⟨S4096x2048, .bf16⟩
  | .hbm, ⟨5, _⟩ => ⟨S2048x15360, .bf16⟩
  | .hbm, ⟨6, _⟩ => ⟨S4096x15360, .f32⟩
  | .local _ .vmem, ⟨0, _⟩ => ⟨S1024x1024, .bf16⟩
  | .local _ .vmem, ⟨1, _⟩ => ⟨S1024x1024, .bf16⟩
  | .local _ .vmem, ⟨2, _⟩ => ⟨S1024x2560, .bf16⟩
  | .local _ .vmem, ⟨3, _⟩ => ⟨S1024x2560, .bf16⟩
  | .local _ .vmem, ⟨4, _⟩ => ⟨S1x2560, .f32⟩
  | .local _ .vmem, ⟨5, _⟩ => ⟨S1x2560, .f32⟩
  | .local _ .vmem, ⟨6, _⟩ => ⟨S1024x2560, .f32⟩
  | .local _ .vmem, ⟨7, _⟩ => ⟨S1024x2560, .f32⟩
  | .local _ .vmem, ⟨8, _⟩ => ⟨S1024x2560, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 6, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MainFwdRefIdeal.lean ====
abbrev S4096x2048 : Shape := ⟨2, ![4096, 2048]⟩
abbrev S2048x15360 : Shape := ⟨2, ![2048, 15360]⟩
abbrev S15360 : Shape := ⟨1, ![15360]⟩
abbrev S4096x15360 : Shape := ⟨2, ![4096, 15360]⟩
abbrev S1x15360 : Shape := ⟨2, ![1, 15360]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x15360, .f32⟩
  | .hbm, ⟨2, _⟩ => ⟨S15360, .f32⟩
  | .hbm, ⟨3, _⟩ => ⟨S4096x15360, .f32⟩
  | .hbm, ⟨4, _⟩ => ⟨S1x15360, .f32⟩
  | .hbm, ⟨5, _⟩ => ⟨S4096x15360, .f32⟩
  | .hbm, ⟨6, _⟩ => ⟨S4096x15360, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== UpFwd.lean ====
abbrev S4096x2048 : Shape := ⟨2, ![4096, 2048]⟩
abbrev S2048x5632 : Shape := ⟨2, ![2048, 5632]⟩
abbrev S4096x5632 : Shape := ⟨2, ![4096, 5632]⟩
abbrev S1024x1024 : Shape := ⟨2, ![1024, 1024]⟩
abbrev S1024x2816 : Shape := ⟨2, ![1024, 2816]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S4096x2048, .bf16⟩
  | .hbm, ⟨3, _⟩ => ⟨S2048x5632, .bf16⟩
  | .hbm, ⟨4, _⟩ => ⟨S4096x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S1024x2816, .f32⟩
  | .local _ .vmem, ⟨5, _⟩ => ⟨S1024x2816, .f32⟩
  | .local _ .vmem, ⟨6, _⟩ => ⟨S1024x2816, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpFwdRefIdeal.lean ====
abbrev S4096x2048 : Shape := ⟨2, ![4096, 2048]⟩
abbrev S2048x5632 : Shape := ⟨2, ![2048, 5632]⟩
abbrev S4096x5632 : Shape := ⟨2, ![4096, 5632]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S4096x5632, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DownFwd.lean ====
abbrev S4096x5632 : Shape := ⟨2, ![4096, 5632]⟩
abbrev S5632x2048 : Shape := ⟨2, ![5632, 2048]⟩
abbrev S4096x2048 : Shape := ⟨2, ![4096, 2048]⟩
abbrev S1024x512 : Shape := ⟨2, ![1024, 512]⟩
abbrev S512x2048 : Shape := ⟨2, ![512, 2048]⟩
abbrev S1024x2048 : Shape := ⟨2, ![1024, 2048]⟩

abbrev nBuf : Space → Nat
  | .hbm => 5
  | .vmem => 7
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x5632, .bf16⟩
  | .hbm, ⟨3, _⟩ => ⟨S5632x2048, .bf16⟩
  | .hbm, ⟨4, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S512x2048, .bf16⟩
  | .local _ .vmem, ⟨3, _⟩ => ⟨S512x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 11], ![false, false, false]⟩

def k0_cond2 (i : grid0.Coords) : BitVec 1 :=
  let arg2 : BitVec 32 := BitVec.ofNat 32 (i 2).val
  let c10_i32 : BitVec 32 := 10#32
  let v13 : BitVec 1 := Scalar.cmpi .eq arg2 c10_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownFwdRefIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== BranchFwd.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x1024, .bf16⟩
  | .hbm, ⟨3, _⟩ => ⟨S1024x2048, .bf16⟩
  | .hbm, ⟨4, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .f32⟩
  | .local _ .vmem, ⟨4, _⟩ => ⟨S1024x2048, .f32⟩
  | .local _ .vmem, ⟨5, _⟩ => ⟨S1024x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchFwdRefIdeal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OutFwd.lean ====
abbrev S4096x2048 : Shape := ⟨2, ![4096, 2048]⟩
abbrev S2048x2048 : Shape := ⟨2, ![2048, 2048]⟩
abbrev S1024x1024 : Shape := ⟨2, ![1024, 1024]⟩
abbrev S1024x2048 : Shape := ⟨2, ![1024, 2048]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .bf16⟩
  | .hbm, ⟨3, _⟩ => ⟨S2048x2048, .bf16⟩
  | .hbm, ⟨4, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutFwdRefIdeal.lean ====
abbrev S4096x2048 : Shape := ⟨2, ![4096, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MergeBwd.lean ====
abbrev S4096x15360 : Shape := ⟨2, ![4096, 15360]⟩
abbrev S4096x2048 : Shape := ⟨2, ![4096, 2048]⟩
abbrev S512x512 : Shape := ⟨2, ![512, 512]⟩

abbrev nBuf : Space → Nat
  | .hbm => 11
  | .vmem => 26
  | .smem => 0
  | _ => 0

abbrev bufTy : (tb : Table) → Fin (tcTables nBuf tb) → BufTy
  | .hbm, ⟨0, _⟩ => ⟨S4096x15360, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | .hbm, ⟨9, _⟩ => ⟨S4096x2048, .bf16⟩
  | .hbm, ⟨10, _⟩ => ⟨S4096x2048, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | _, _ => ⟨S4096x15360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c26_i32 : BitVec 32 := 26#32
  let v0 : BitVec 32 := Scalar.addi c26_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MergeBwdRefIdeal.lean ====
abbrev S4096x15360 : Shape := ⟨2, ![4096, 15360]⟩
abbrev S4096x2048 : Shape := ⟨2, ![4096, 2048]⟩
abbrev S_ : Shape := ⟨0, ![]⟩

abbrev nBuf : Space → Nat
  | .hbm => 63
  | .vmem => 0
  | .smem => 0
  | _ => 0

abbrev bufTy : (tb : Table) → Fin (tcTables nBuf tb) → BufTy
  | .hbm, ⟨0, _⟩ => ⟨S4096x15360, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S4096x2048, .bf16⟩
  | .hbm, ⟨61, _⟩ => ⟨S4096x2048, .bf16⟩
  | .hbm, ⟨62, _⟩ => ⟨S4096x2048, .bf16⟩
  | _, _ => ⟨S4096x15360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]
-- ==== MergeFwd.lean ====
abbrev S4096x15360 : Shape := ⟨2, ![4096, 15360]⟩
abbrev S4096x2048 : Shape := ⟨2, ![4096, 2048]⟩
abbrev S512x512 : Shape := ⟨2, ![512, 512]⟩

abbrev nBuf : Space → Nat
  | .hbm => 5
  | .vmem => 14
  | .smem => 0
  | _ => 0

abbrev bufTy : (tb : Table) → Fin (tcTables nBuf tb) → BufTy
  | .hbm, ⟨0, _⟩ => ⟨S4096x15360, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | _, _ => ⟨S4096x15360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c26_i32 : BitVec 32 := 26#32
  let v0 : BitVec 32 := Scalar.addi c26_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeFwdRefIdeal.lean ====
abbrev S4096x15360 : Shape := ⟨2, ![4096, 15360]⟩
abbrev S4096x2048 : Shape := ⟨2, ![4096, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x15360, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .bf16⟩
  | _, _ => ⟨S4096x15360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== MainDb.lean ====
abbrev S4096x15360 : Shape := ⟨2, ![4096, 15360]⟩
abbrev S1x15360 : Shape := ⟨2, ![1, 15360]⟩
abbrev S4096x512 : Shape := ⟨2, ![4096, 512]⟩
abbrev S1x512 : Shape := ⟨2, ![1, 512]⟩
abbrev S512 : Shape := ⟨1, ![512]⟩

abbrev nBuf : Space → Nat
  | .hbm => 2
  | .vmem => 4
  | .smem => 0
  | _ => 0

abbrev bufTy : (tb : Table) → Fin (tcTables nBuf tb) → BufTy
  | .hbm, ⟨0, _⟩ => ⟨S4096x15360, .f32⟩
  | .hbm, ⟨1, _⟩ => ⟨S1x15360, .f32⟩
  | .local _ .vmem, ⟨0, _⟩ => ⟨S4096x512, .f32⟩
  | .local _ .vmem, ⟨1, _⟩ => ⟨S4096x512, .f32⟩
  | .local _ .vmem, ⟨2, _⟩ => ⟨S1x512, .f32⟩
  | .local _ .vmem, ⟨3, _⟩ => ⟨S1x512, .f32⟩
  | _, _ => ⟨S4096x15360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== MainDbRefIdeal.lean ====
abbrev S4096x15360 : Shape := ⟨2, ![4096, 15360]⟩
abbrev S_ : Shape := ⟨0, ![]⟩
abbrev S1x15360 : Shape := ⟨2, ![1, 15360]⟩
abbrev S15360 : Shape := ⟨1, ![15360]⟩

abbrev nBuf : Space → Nat
  | .hbm => 7
  | .vmem => 0
  | .smem => 0
  | _ => 0

abbrev bufTy : (tb : Table) → Fin (tcTables nBuf tb) → BufTy
  | .hbm, ⟨0, _⟩ => ⟨S4096x15360, .f32⟩
  | .hbm, ⟨1, _⟩ => ⟨S_, .f32⟩
  | .hbm, ⟨2, _⟩ => ⟨S1x15360, .f32⟩
  | .hbm, ⟨3, _⟩ => ⟨S4096x15360, .f32⟩
  | .hbm, ⟨4, _⟩ => ⟨S_, .f32⟩
  | .hbm, ⟨5, _⟩ => ⟨S15360, .f32⟩
  | .hbm, ⟨6, _⟩ => ⟨S1x15360, .f32⟩
  | _, _ => ⟨S4096x15360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== LnBwd.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 9
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .hbm, ⟨8, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S1x2048, .f32⟩
  | .local _ .vmem, ⟨13, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LnBwdRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 81
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S2048, .f32⟩
  | .hbm, ⟨44, _⟩ => ⟨S1x2048, .f32⟩
  | .hbm, ⟨45, _⟩ => ⟨S4096x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x2048, .f32⟩
  | .hbm, ⟨56, _⟩ => ⟨S4096x2048, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S_, .f32⟩
  | .hbm, ⟨68, _⟩ => ⟨S4096, .f32⟩
  | .hbm, ⟨69, _⟩ => ⟨S4096x1, .f32⟩
  | .hbm, ⟨70, _⟩ => ⟨S_, .f32⟩
  | .hbm, ⟨71, _⟩ => ⟨S4096x1, .f32⟩
  | .hbm, ⟨72, _⟩ => ⟨S4096x1, .f32⟩
  | .hbm, ⟨73, _⟩ => ⟨S_, .f32⟩
  | .hbm, ⟨74, _⟩ => ⟨S4096, .f32⟩
  | .hbm, ⟨75, _⟩ => ⟨S4096x2048, .f32⟩
  | .hbm, ⟨76, _⟩ => ⟨S4096x2048, .f32⟩
  | .hbm, ⟨77, _⟩ => ⟨S_, .f32⟩
  | .hbm, ⟨78, _⟩ => ⟨S4096x2048, .f32⟩
  | .hbm, ⟨79, _⟩ => ⟨S4096x2048, .f32⟩
  | .hbm, ⟨80, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_10 : Ref sig .tc := ⟨.hbm, 58, rfl⟩
abbrev main_v42 : Ref sig .tc := ⟨.hbm, 59, rfl⟩
abbrev main_v43 : Ref sig .tc := ⟨.hbm, 60, rfl⟩
abbrev main_cst_11 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_12 : Ref sig .tc := ⟨.hbm, 67, rfl⟩
abbrev main_v49 : Ref sig .tc := ⟨.hbm, 68, rfl⟩
abbrev main_v50 : Ref sig .tc := ⟨.hbm, 69, rfl⟩
abbrev main_cst_13 : Ref sig .tc := ⟨.hbm, 70, rfl⟩
abbrev main_v51 : Ref sig .tc := ⟨.hbm, 71, rfl⟩
abbrev main_v52 : Ref sig .tc := ⟨.hbm, 72, rfl⟩
abbrev main_cst_14 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_15 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== LnFwd.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LnFwdRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 33
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== SguBwd.lean ====
abbrev S4096x15360 : Shape := ⟨2, ![4096, 15360]⟩
abbrev S1x1024 : Shape := ⟨2, ![1, 1024]⟩
abbrev S8x128x128 : Shape := ⟨3, ![8, 128, 128]⟩
abbrev S8x128x1 : Shape := ⟨3, ![8, 128, 1]⟩
abbrev S4096x1024 : Shape := ⟨2, ![4096, 1024]⟩
abbrev S1024x128 : Shape := ⟨2, ![1024, 128]⟩
abbrev S1x128 : Shape := ⟨2, ![1, 128]⟩
abbrev S1x128x128 : Shape := ⟨3, ![1, 128, 128]⟩
abbrev S1x128x1 : Shape := ⟨3, ![1, 128, 1]⟩
abbrev S128x128 : Shape := ⟨2, ![128, 128]⟩
abbrev S128x1 : Shape := ⟨2, ![128, 1]⟩
abbrev S1024 : Shape := ⟨1, ![1024]⟩
abbrev S1024x1 : Shape := ⟨2, ![1024, 1]⟩
abbrev S128 : Shape := ⟨1, ![128]⟩

abbrev nBuf : Space → Nat
  | .hbm => 12
  | .vmem => 26
  | .smem => 0
  | _ => 0

abbrev bufTy : (tb : Table) → Fin (tcTables nBuf tb) → BufTy
  | .hbm, ⟨0, _⟩ => ⟨S4096x15360, .f32⟩
  | .hbm, ⟨1, _⟩ => ⟨S1x1024, .f32⟩
  | .hbm, ⟨2, _⟩ => ⟨S1x1024, .f32⟩
  | .hbm, ⟨3, _⟩ => ⟨S8x128x128, .f32⟩
  | .hbm, ⟨4, _⟩ => ⟨S8x128x1, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S1x1024, .f32⟩
  | .hbm, ⟨9, _⟩ => ⟨S1x1024, .f32⟩
  | .hbm, ⟨10, _⟩ => ⟨S8x128x128, .f32⟩
  | .hbm, ⟨11, _⟩ => ⟨S8x128x1, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128x128, .f32⟩
  | .local _ .vmem, ⟨9, _⟩ => ⟨S1x128x128, .f32⟩
  | .local _ .vmem, ⟨10, _⟩ => ⟨S1x128x1, .f32⟩
  | .local _ .vmem, ⟨11, _⟩ => ⟨S1x128x1, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128x128, .f32⟩
  | .local _ .vmem, ⟨23, _⟩ => ⟨S1x128x128, .f32⟩
  | .local _ .vmem, ⟨24, _⟩ => ⟨S1x128x1, .f32⟩
  | .local _ .vmem, ⟨25, _⟩ => ⟨S1x128x1, .f32⟩
  | _, _ => ⟨S4096x15360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x128x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== SguBwdRefIdeal.lean ====
abbrev S4096x15360 : Shape := ⟨2, ![4096, 15360]⟩
abbrev S1x1024 : Shape := ⟨2, ![1, 1024]⟩
abbrev S8x128x128 : Shape := ⟨3, ![8, 128, 128]⟩
abbrev S8x128x1 : Shape := ⟨3, ![8, 128, 1]⟩
abbrev S4096x1024 : Shape := ⟨2, ![4096, 1024]⟩
abbrev S32x128x8x128 : Shape := ⟨4, ![32, 128, 8, 128]⟩
abbrev S_ : Shape := ⟨0, ![]⟩
abbrev S32x128x8 : Shape := ⟨3, ![32, 128, 8]⟩
abbrev S32x128x8x1 : Shape := ⟨4, ![32, 128, 8, 1]⟩
abbrev S8x128 : Shape := ⟨2, ![8, 128]⟩
abbrev S1x1x8x128 : Shape := ⟨4, ![1, 1, 8, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x32x128x128 : Shape := ⟨4, ![8, 32, 128, 128]⟩
abbrev S128x8 : Shape := ⟨2, ![128, 8]⟩
abbrev S128x8x1 : Shape := ⟨3, ![128, 8, 1]⟩
abbrev S1x128x8x1 : Shape := ⟨4, ![1, 128, 8, 1]⟩

abbrev nBuf : Space → Nat
  | .hbm => 150
  | .vmem => 0
  | .smem => 0
  | _ => 0

abbrev hbmTy0_0 (i : Nat) : BufTy := match i % 128 with
  | 0 => ⟨S4096x15360, .f32⟩
  | 1 => ⟨S1x1024, .f32⟩
  | 2 => ⟨S1x1024, .f32⟩
  | 3 => ⟨S8x128x128, .f32⟩
  | 4 => ⟨S8x128x1, .f32⟩
  | 5 => ⟨S4096x1024, .f32⟩
  | 6 => ⟨S4096x1024, .f32⟩
  | 7 => ⟨S4096x1024, .f32⟩
  | 8 => ⟨S32x128x8x128, .f32⟩
  | 9 => ⟨S_, .f32⟩
  | 10 => ⟨S32x128x8, .f32⟩
  | 11 => ⟨S32x128x8x1, .f32⟩
  | 12 => ⟨S_, .f32⟩
  | 13 => ⟨S32x128x8x1, .f32⟩
  | 14 => ⟨S32x128x8x1, .f32⟩
  | 15 => ⟨S32x128x8x128, .f32⟩
  | 16 => ⟨S32x128x8x128, .f32⟩
  | 17 => ⟨S32x128x8x128, .f32⟩
  | 18 => ⟨S_, .f32⟩
  | 19 => ⟨S32x128x8x128, .f32⟩
  | 20 => ⟨S32x128x8x128, .f32⟩
  | 21 => ⟨S_, .f32⟩
  | 22 => ⟨S32x128x8, .f32⟩
  | 23 => ⟨S32x128x8x1, .f32⟩
  | 24 => ⟨S_, .f32⟩
  | 25 => ⟨S32x128x8x1, .f32⟩
  | 26 => ⟨S32x128x8x1, .f32⟩
  | 27 => ⟨S_, .f32⟩
  | 28 => ⟨S32x128x8x1, .f32⟩
  | 29 => ⟨S32x128x8x1, .f32⟩
  | 30 => ⟨S32x128x8x1, .f32⟩
  | 31 => ⟨S32x128x8x1, .f32⟩
  | 32 => ⟨S_, .f32⟩
  | 33 => ⟨S32x128x8x1, .f32⟩
  | 34 => ⟨S32x128x8x1, .f32⟩
  | 35 => ⟨S32x128x8x128, .f32⟩
  | 36 => ⟨S32x128x8x128, .f32⟩
  | 37 => ⟨S8x128, .f32⟩
  | 38 => ⟨S1x1x8x128, .f32⟩
  | 39 => ⟨S32x128x8x128, .f32⟩
  | 40 => ⟨S32x128x8x128, .f32⟩
  | 41 => ⟨S8x128, .f32⟩
  | 42 => ⟨S1x1x8x128, .f32⟩
  | 43 => ⟨S32x128x8x128, .f32⟩
  | 44 => ⟨S32x128x8x128, .f32⟩
  | 45 => ⟨S128, .i32⟩
  | 46 => ⟨S_, .i32⟩
  | 47 => ⟨S_, .i32⟩
  | 48 => ⟨S128, .i32⟩
  | 49 => ⟨S128, .i32⟩
  | 50 => ⟨S128, .i32⟩
  | 51 => ⟨S_, .i32⟩
  | 52 => ⟨S128, .i32⟩
  | 53 => ⟨S128, .i1⟩
  | 54 => ⟨S128, .i32⟩
  | 55 => ⟨S128, .i32⟩
  | 56 => ⟨S_, .i32⟩
  | 57 => ⟨S128, .i32⟩
  | 58 => ⟨S128, .i1⟩
  | 59 => ⟨S128, .i1⟩
  | 60 => ⟨S_, .i32⟩
  | 61 => ⟨S128, .i32⟩
  | 62 => ⟨S128, .i32⟩
  | 63 => ⟨S128, .i32⟩
  | 64 => ⟨S128x1, .i32⟩
  | 65 => ⟨S1x128, .i32⟩
  | 66 => ⟨S128x128, .i32⟩
  | 67 => ⟨S128x128, .i32⟩
  | 68 => ⟨S128x128, .i1⟩
  | 69 => ⟨S_, .f32⟩
  | 70 => ⟨S_, .f32⟩
  | 71 => ⟨S8x128x128, .i1⟩
  | 72 => ⟨S8x128x128, .f32⟩
  | 73 => ⟨S8x128x128, .f32⟩
  | 74 => ⟨S_, .f32⟩
  | 75 => ⟨S8x128x128, .f32⟩
  | 76 => ⟨S8x32x128x128, .f32⟩
  | 77 => ⟨S32x128x8x128, .f32⟩
  | 78 => ⟨S8x128, .f32⟩
  | 79 => ⟨S128x8, .f32⟩
  | 80 => ⟨S128x8x1, .f32⟩
  | 81 => ⟨S1x128x8x1, .f32⟩
  | 82 => ⟨S32x128x8x128, .f32⟩
  | 83 => ⟨S32x128x8x128, .f32⟩
  | 84 => ⟨S32x128x8x128, .f32⟩
  | 85 => ⟨S32x128x8x128, .f32⟩
  | 86 => ⟨S4096x1024, .f32⟩
  | 87 => ⟨S32x128x8x128, .f32⟩
  | 88 => ⟨S32x128x8x128, .f32⟩
  | 89 => ⟨S32x128x8x128, .f32⟩
  | 90 => ⟨S4096x1024, .f32⟩
  | 91 => ⟨S_, .f32⟩
  | 92 => ⟨S128x8, .f32⟩
  | 93 => ⟨S1x128x8x1, .f32⟩
  | 94 => ⟨S_, .f32⟩
  | 95 => ⟨S128x8, .f32⟩
  | 96 => ⟨S128x8x1, .f32⟩
  | 97 => ⟨S_, .f32⟩
  | 98 => ⟨S128x8, .f32⟩
  | 99 => ⟨S8x128, .f32⟩
  | 100 => ⟨S8x128x1, .f32⟩
  | 101 => ⟨S8x32x128x128, .f32⟩
  | 102 => ⟨S8x128x128, .f32⟩
  | 103 => ⟨S8x32x128x128, .f32⟩
  | 104 => ⟨S32x128x8x128, .f32⟩
  | 105 => ⟨S_, .f32⟩
  | 106 => ⟨S8x128x128, .f32⟩
  | 107 => ⟨S8x128x128, .f32⟩
  | 108 => ⟨S_, .f32⟩
  | 109 => ⟨S8x128, .f32⟩
  | 110 => ⟨S1x1x8x128, .f32⟩
  | 111 => ⟨S_, .f32⟩
  | 112 => ⟨S8x128, .f32⟩
  | 113 => ⟨S1x1024, .f32⟩
  | 114 => ⟨S32x128x8x128, .f32⟩
  | 115 => ⟨S_, .f32⟩
  | 116 => ⟨S8x128, .f32⟩
  | 117 => ⟨S1x1x8x128, .f32⟩
  | 118 => ⟨S32x128x8x128, .f32⟩
  | 119 => ⟨S32x128x8x128, .f32⟩
  | 120 => ⟨S_, .f32⟩
  | 121 => ⟨S8x128, .f32⟩
  | 122 => ⟨S1x1024, .f32⟩
  | 123 => ⟨S32x128x8x128, .f32⟩
  | 124 => ⟨S_, .f32⟩
  | 125 => ⟨S32x128x8, .f32⟩
  | 126 => ⟨S32x128x8x1, .f32⟩
  | 127 => ⟨S32x128x8x128, .f32⟩
  | _ => ⟨S4096x15360, .f32⟩

abbrev hbmTy0_1 (i : Nat) : BufTy := match i % 128 with
  | 0 => ⟨S32x128x8x128, .f32⟩
  | 1 => ⟨S32x128x8x1, .f32⟩
  | 2 => ⟨S_, .f32⟩
  | 3 => ⟨S32x128x8x1, .f32⟩
  | 4 => ⟨S32x128x8x1, .f32⟩
  | 5 => ⟨S_, .f32⟩
  | 6 => ⟨S32x128x8, .f32⟩
  | 7 => ⟨S32x128x8x128, .f32⟩
  | 8 => ⟨S32x128x8x128, .f32⟩
  | 9 => ⟨S32x128x8x128, .f32⟩
  | 10 => ⟨S32x128x8x128, .f32⟩
  | 11 => ⟨S_, .f32⟩
  | 12 => ⟨S32x128x8, .f32⟩
  | 13 => ⟨S32x128x8x1, .f32⟩
  | 14 => ⟨S_, .f32⟩
  | 15 => ⟨S32x128x8x1, .f32⟩
  | 16 => ⟨S32x128x8x1, .f32⟩
  | 17 => ⟨S_, .f32⟩
  | 18 => ⟨S32x128x8, .f32⟩
  | 19 => ⟨S32x128x8x128, .f32⟩
  | 20 => ⟨S32x128x8x128, .f32⟩
  | 21 => ⟨S4096x1024, .f32⟩
  | _ => ⟨S4096x15360, .f32⟩

abbrev hbmTy (i : Nat) : BufTy := match i / 128 with
  | 0 => hbmTy0_0 i
  | 1 => hbmTy0_1 i
  | _ => ⟨S4096x15360, .f32⟩

abbrev bufTy : (tb : Table) → Fin (tcTables nBuf tb) → BufTy
  | .hbm, ⟨i, _⟩ => hbmTy i
  | _, _ => ⟨S4096x15360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_call0_v7 : Ref sig .tc := ⟨.hbm, 54, rfl⟩
abbrev main_call0_v8 : Ref sig .tc := ⟨.hbm, 55, rfl⟩
abbrev main_call0_c : Ref sig .tc := ⟨.hbm, 56, rfl⟩
abbrev main_call0_v9 : Ref sig .tc := ⟨.hbm, 57, rfl⟩
abbrev main_call0_v10 : Ref sig .tc := ⟨.hbm, 58, rfl⟩
abbrev main_call0_v11 : Ref sig .tc := ⟨.hbm, 59, rfl⟩
abbrev main_call0_c_0 : Ref sig .tc := ⟨.hbm, 60, rfl⟩
abbrev main_call0_v12 : Ref sig .tc := ⟨.hbm, 61, rfl⟩
abbrev main_call0_v13 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_6 : Ref sig .tc := ⟨.hbm, 69, rfl⟩
abbrev main_call1_v0 : Ref sig .tc := ⟨.hbm, 70, rfl⟩
abbrev main_v39_1 : Ref sig .tc := ⟨.hbm, 71, rfl⟩
abbrev main_call1_v2 : Ref sig .tc := ⟨.hbm, 72, rfl⟩
abbrev main_v39_0 : Ref sig .tc := ⟨.hbm, 73, rfl⟩
abbrev main_call1_cst : Ref sig .tc := ⟨.hbm, 74, rfl⟩
abbrev main_v39_2 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_cst_7 : Ref sig .tc := ⟨.hbm, 91, rfl⟩
abbrev main_v55 : Ref sig .tc := ⟨.hbm, 92, rfl⟩
abbrev main_v56 : Ref sig .tc := ⟨.hbm, 93, rfl⟩
abbrev main_cst_8 : Ref sig .tc := ⟨.hbm, 94, rfl⟩
abbrev main_v57 : Ref sig .tc := ⟨.hbm, 95, rfl⟩
abbrev main_v58 : Ref sig .tc := ⟨.hbm, 96, rfl⟩
abbrev main_cst_9 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_call2_cst : Ref sig .tc := ⟨.hbm, 105, rfl⟩
abbrev main_call2_v0 : Ref sig .tc := ⟨.hbm, 106, rfl⟩
abbrev main_v66 : Ref sig .tc := ⟨.hbm, 107, rfl⟩
abbrev main_cst_10 : Ref sig .tc := ⟨.hbm, 108, rfl⟩
abbrev main_v67 : Ref sig .tc := ⟨.hbm, 109, rfl⟩
abbrev main_v68 : Ref sig .tc := ⟨.hbm, 110, rfl⟩
abbrev main_cst_11 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_cst_12 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_cst_13 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_cst_14 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_cst_15 : Ref sig .tc := ⟨.hbm, 130, rfl⟩
abbrev main_v84 : Ref sig .tc := ⟨.hbm, 131, rfl⟩
abbrev main_v85 : Ref sig .tc := ⟨.hbm, 132, rfl⟩
abbrev main_cst_16 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_cst_17 : Ref sig .tc := ⟨.hbm, 139, rfl⟩
abbrev main_v91 : Ref sig .tc := ⟨.hbm, 140, rfl⟩
abbrev main_v92 : Ref sig .tc := ⟨.hbm, 141, rfl⟩
abbrev main_cst_18 : Ref sig .tc := ⟨.hbm, 142, rfl⟩
abbrev main_v93 : Ref sig .tc := ⟨.hbm, 143, rfl⟩
abbrev main_v94 : Ref sig .tc := ⟨.hbm, 144, rfl⟩
abbrev main_cst_19 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩

abbrev nD : Nat := 1
abbrev τ : Topo := Topo.v7x

variable {F : FTy → Type} [FloatOps F]
-- ==== SguFwd.lean ====
abbrev S4096x15360 : Shape := ⟨2, ![4096, 15360]⟩
abbrev S1x1024 : Shape := ⟨2, ![1, 1024]⟩
abbrev S8x128x128 : Shape := ⟨3, ![8, 128, 128]⟩
abbrev S8x128x1 : Shape := ⟨3, ![8, 128, 1]⟩
abbrev S4096x1024 : Shape := ⟨2, ![4096, 1024]⟩
abbrev S1024x128 : Shape := ⟨2, ![1024, 128]⟩
abbrev S1x128 : Shape := ⟨2, ![1, 128]⟩
abbrev S1x128x128 : Shape := ⟨3, ![1, 128, 128]⟩
abbrev S1x128x1 : Shape := ⟨3, ![1, 128, 1]⟩
abbrev S128x128 : Shape := ⟨2, ![128, 128]⟩
abbrev S128x1 : Shape := ⟨2, ![128, 1]⟩
abbrev S1024 : Shape := ⟨1, ![1024]⟩
abbrev S1024x1 : Shape := ⟨2, ![1024, 1]⟩

abbrev nBuf : Space → Nat
  | .hbm => 6
  | .vmem => 14
  | .smem => 0
  | _ => 0

abbrev bufTy : (tb : Table) → Fin (tcTables nBuf tb) → BufTy
  | .hbm, ⟨0, _⟩ => ⟨S4096x15360, .f32⟩
  | .hbm, ⟨1, _⟩ => ⟨S1x1024, .f32⟩
  | .hbm, ⟨2, _⟩ => ⟨S1x1024, .f32⟩
  | .hbm, ⟨3, _⟩ => ⟨S8x128x128, .f32⟩
  | .hbm, ⟨4, _⟩ => ⟨S8x128x1, .f32⟩
  | .hbm, ⟨5, _⟩ => ⟨S4096x1024, .bf16⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128x128, .f32⟩
  | .local _ .vmem, ⟨9, _⟩ => ⟨S1x128x128, .f32⟩
  | .local _ .vmem, ⟨10, _⟩ => ⟨S1x128x1, .f32⟩
  | .local _ .vmem, ⟨11, _⟩ => ⟨S1x128x1, .f32⟩
  | .local _ .vmem, ⟨12, _⟩ => ⟨S1024x128, .bf16⟩
  | .local _ .vmem, ⟨13, _⟩ => ⟨S1024x128, .bf16⟩
  | _, _ => ⟨S4096x15360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== SguFwdRefIdeal.lean ====
abbrev S4096x15360 : Shape := ⟨2, ![4096, 15360]⟩
abbrev S1x1024 : Shape := ⟨2, ![1, 1024]⟩
abbrev S8x128x128 : Shape := ⟨3, ![8, 128, 128]⟩
abbrev S8x128x1 : Shape := ⟨3, ![8, 128, 1]⟩
abbrev S4096x1024 : Shape := ⟨2, ![4096, 1024]⟩
abbrev S32x128x8x128 : Shape := ⟨4, ![32, 128, 8, 128]⟩
abbrev S_ : Shape := ⟨0, ![]⟩
abbrev S32x128x8 : Shape := ⟨3, ![32, 128, 8]⟩
abbrev S32x128x8x1 : Shape := ⟨4, ![32, 128, 8, 1]⟩
abbrev S8x128 : Shape := ⟨2, ![8, 128]⟩
abbrev S1x1x8x128 : Shape := ⟨4, ![1, 1, 8, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x32x128x128 : Shape := ⟨4, ![8, 32, 128, 128]⟩
abbrev S128x8 : Shape := ⟨2, ![128, 8]⟩
abbrev S128x8x1 : Shape := ⟨3, ![128, 8, 1]⟩
abbrev S1x128x8x1 : Shape := ⟨4, ![1, 128, 8, 1]⟩

abbrev nBuf : Space → Nat
  | .hbm => 78
  | .vmem => 0
  | .smem => 0
  | _ => 0

abbrev bufTy : (tb : Table) → Fin (tcTables nBuf tb) → BufTy
  | .hbm, ⟨0, _⟩ => ⟨S4096x15360, .f32⟩
  | .hbm, ⟨1, _⟩ => ⟨S1x1024, .f32⟩
  | .hbm, ⟨2, _⟩ => ⟨S1x1024, .f32⟩
  | .hbm, ⟨3, _⟩ => ⟨S8x128x128, .f32⟩
  | .hbm, ⟨4, _⟩ => ⟨S8x128x1, .f32⟩
  | .hbm, ⟨5, _⟩ => ⟨S4096x1024, .f32⟩
  | .hbm, ⟨6, _⟩ => ⟨S4096x1024, .f32⟩
  | .hbm, ⟨7, _⟩ => ⟨S32x128x8x128, .f32⟩
  | .hbm, ⟨8, _⟩ => ⟨S_, .f32⟩
  | .hbm, ⟨9, _⟩ => ⟨S32x128x8, .f32⟩
  | .hbm, ⟨10, _⟩ => ⟨S32x128x8x1, .f32⟩
  | .hbm, ⟨11, _⟩ => ⟨S_, .f32⟩
  | .hbm, ⟨12, _⟩ => ⟨S32x128x8x1, .f32⟩
  | .hbm, ⟨13, _⟩ => ⟨S32x128x8x1, .f32⟩
  | .hbm, ⟨14, _⟩ => ⟨S32x128x8x128, .f32⟩
  | .hbm, ⟨15, _⟩ => ⟨S32x128x8x128, .f32⟩
  | .hbm, ⟨16, _⟩ => ⟨S32x128x8x128, .f32⟩
  | .hbm, ⟨17, _⟩ => ⟨S_, .f32⟩
  | .hbm, ⟨18, _⟩ => ⟨S32x128x8, .f32⟩
  | .hbm, ⟨19, _⟩ => ⟨S32x128x8x1, .f32⟩
  | .hbm, ⟨20, _⟩ => ⟨S_, .f32⟩
  | .hbm, ⟨21, _⟩ => ⟨S32x128x8x1, .f32⟩
  | .hbm, ⟨22, _⟩ => ⟨S32x128x8x1, .f32⟩
  | .hbm, ⟨23, _⟩ => ⟨S_, .f32⟩
  | .hbm, ⟨24, _⟩ => ⟨S32x128x8x1, .f32⟩
  | .hbm, ⟨25, _⟩ => ⟨S32x128x8x1, .f32⟩
  | .hbm, ⟨26, _⟩ => ⟨S32x128x8x1, .f32⟩
  | .hbm, ⟨27, _⟩ => ⟨S32x128x8x128, .f32⟩
  | .hbm, ⟨28, _⟩ => ⟨S32x128x8x128, .f32⟩
  | .hbm, ⟨29, _⟩ => ⟨S8x128, .f32⟩
  | .hbm, ⟨30, _⟩ => ⟨S1x1x8x128, .f32⟩
  | .hbm, ⟨31, _⟩ => ⟨S32x128x8x128, .f32⟩
  | .hbm, ⟨32, _⟩ => ⟨S32x128x8x128, .f32⟩
  | .hbm, ⟨33, _⟩ => ⟨S8x128, .f32⟩
  | .hbm, ⟨34, _⟩ => ⟨S1x1x8x128, .f32⟩
  | .hbm, ⟨35, _⟩ => ⟨S32x128x8x128, .f32⟩
  | .hbm, ⟨36, _⟩ => ⟨S32x128x8x128, .f32⟩
  | .hbm, ⟨37, _⟩ => ⟨S128, .i32⟩
  | .hbm, ⟨38, _⟩ => ⟨S_, .i32⟩
  | .hbm, ⟨39, _⟩ => ⟨S_, .i32⟩
  | .hbm, ⟨40, _⟩ => ⟨S128, .i32⟩
  | .hbm, ⟨41, _⟩ => ⟨S128, .i32⟩
  | .hbm, ⟨42, _⟩ => ⟨S128, .i32⟩
  | .hbm, ⟨43, _⟩ => ⟨S_, .i32⟩
  | .hbm, ⟨44, _⟩ => ⟨S128, .i32⟩
  | .hbm, ⟨45, _⟩ => ⟨S128, .i1⟩
  | .hbm, ⟨46, _⟩ => ⟨S128, .i32⟩
  | .hbm, ⟨47, _⟩ => ⟨S128, .i32⟩
  | .hbm, ⟨48, _⟩ => ⟨S_, .i32⟩
  | .hbm, ⟨49, _⟩ => ⟨S128, .i32⟩
  | .hbm, ⟨50, _⟩ => ⟨S128, .i1⟩
  | .hbm, ⟨51, _⟩ => ⟨S128, .i1⟩
  | .hbm, ⟨52, _⟩ => ⟨S_, .i32⟩
  | .hbm, ⟨53, _⟩ => ⟨S128, .i32⟩
  | .hbm, ⟨54, _⟩ => ⟨S128, .i32⟩
  | .hbm, ⟨55, _⟩ => ⟨S128, .i32⟩
  | .hbm, ⟨56, _⟩ => ⟨S128x1, .i32⟩
  | .hbm, ⟨57, _⟩ => ⟨S1x128, .i32⟩
  | .hbm, ⟨58, _⟩ => ⟨S128x128, .i32⟩
  | .hbm, ⟨59, _⟩ => ⟨S128x128, .i32⟩
  | .hbm, ⟨60, _⟩ => ⟨S128x128, .i1⟩
  | .hbm, ⟨61, _⟩ => ⟨S_, .f32⟩
  | .hbm, ⟨62, _⟩ => ⟨S_, .f32⟩
  | .hbm, ⟨63, _⟩ => ⟨S8x128x128, .i1⟩
  | .hbm, ⟨64, _⟩ => ⟨S8x128x128, .f32⟩
  | .hbm, ⟨65, _⟩ => ⟨S8x128x128, .f32⟩
  | .hbm, ⟨66, _⟩ => ⟨S8x32x128x128, .f32⟩
  | .hbm, ⟨67, _⟩ => ⟨S32x128x8x128, .f32⟩
  | .hbm, ⟨68, _⟩ => ⟨S8x128, .f32⟩
  | .hbm, ⟨69, _⟩ => ⟨S128x8, .f32⟩
  | .hbm, ⟨70, _⟩ => ⟨S128x8x1, .f32⟩
  | .hbm, ⟨71, _⟩ => ⟨S1x128x8x1, .f32⟩
  | .hbm, ⟨72, _⟩ => ⟨S32x128x8x128, .f32⟩
  | .hbm, ⟨73, _⟩ => ⟨S32x128x8x128, .f32⟩
  | .hbm, ⟨74, _⟩ => ⟨S32x128x8x128, .f32⟩
  | .hbm, ⟨75, _⟩ => ⟨S32x128x8x128, .f32⟩
  | .hbm, ⟨76, _⟩ => ⟨S4096x1024, .f32⟩
  | .hbm, ⟨77, _⟩ => ⟨S4096x1024, .bf16⟩
  | _, _ => ⟨S4096x15360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_c : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_c_0 : Ref sig .tc := ⟨.hbm, 52, rfl⟩
abbrev main_call0_v12 : Ref sig .tc := ⟨.hbm, 53, rfl⟩
abbrev main_call0_v13 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_4 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩

abbrev nD : Nat := 1
abbrev τ : Topo := Topo.v7x

variable {F : FTy → Type} [FloatOps F]
-- ==== ActBwd.lean ====
abbrev S4096x5632 : Shape := ⟨2, ![4096, 5632]⟩
abbrev S3x1x5632 : Shape := ⟨3, ![3, 1, 5632]⟩
abbrev S1x5632 : Shape := ⟨2, ![1, 5632]⟩
abbrev S4096x128 : Shape := ⟨2, ![4096, 128]⟩
abbrev S3x1x128 : Shape := ⟨3, ![3, 1, 128]⟩
abbrev S1x128 : Shape := ⟨2, ![1, 128]⟩
abbrev S1x1x128 : Shape := ⟨3, ![1, 1, 128]⟩
abbrev S128 : Shape := ⟨1, ![128]⟩

abbrev nBuf : Space → Nat
  | .hbm => 13
  | .vmem => 26
  | .smem => 0
  | _ => 0

abbrev bufTy : (tb : Table) → Fin (tcTables nBuf tb) → BufTy
  | .hbm, ⟨0, _⟩ => ⟨S4096x5632, .f32⟩
  | .hbm, ⟨1, _⟩ => ⟨S4096x5632, .f32⟩
  | .hbm, ⟨2, _⟩ => ⟨S3x1x5632, .f32⟩
  | .hbm, ⟨3, _⟩ => ⟨S3x1x5632, .f32⟩
  | .hbm, ⟨4, _⟩ => ⟨S1x5632, .f32⟩
  | .hbm, ⟨5, _⟩ => ⟨S1x5632, .f32⟩
  | .hbm, ⟨6, _⟩ => ⟨S4096x5632, .f32⟩
  | .hbm, ⟨7, _⟩ => ⟨S4096x5632, .bf16⟩
  | .hbm, ⟨8, _⟩ => ⟨S4096x5632, .bf16⟩
  | .hbm, ⟨9, _⟩ => ⟨S3x1x5632, .f32⟩
  | .hbm, ⟨10, _⟩ => ⟨S3x1x5632, .f32⟩
  | .hbm, ⟨11, _⟩ => ⟨S1x5632, .f32⟩
  | .hbm, ⟨12, _⟩ => ⟨S1x5632, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S3x1x128, .f32⟩
  | .local _ .vmem, ⟨5, _⟩ => ⟨S3x1x128, .f32⟩
  | .local _ .vmem, ⟨6, _⟩ => ⟨S3x1x128, .f32⟩
  | .local _ .vmem, ⟨7, _⟩ => ⟨S3x1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S4096x128, .f32⟩
  | .local _ .vmem, ⟨13, _⟩ => ⟨S4096x128, .f32⟩
  | .local _ .vmem, ⟨14, _⟩ => ⟨S4096x128, .bf16⟩
  | .local _ .vmem, ⟨15, _⟩ => ⟨S4096x128, .bf16⟩
  | .local _ .vmem, ⟨16, _⟩ => ⟨S4096x128, .bf16⟩
  | .local _ .vmem, ⟨17, _⟩ => ⟨S4096x128, .bf16⟩
  | .local _ .vmem, ⟨18, _⟩ => ⟨S3x1x128, .f32⟩
  | .local _ .vmem, ⟨19, _⟩ => ⟨S3x1x128, .f32⟩
  | .local _ .vmem, ⟨20, _⟩ => ⟨S3x1x128, .f32⟩
  | .local _ .vmem, ⟨21, _⟩ => ⟨S3x1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![44], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S3x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S3x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ActBwdRefIdeal.lean ====
abbrev S4096x5632 : Shape := ⟨2, ![4096, 5632]⟩
abbrev S3x1x5632 : Shape := ⟨3, ![3, 1, 5632]⟩
abbrev S1x5632 : Shape := ⟨2, ![1, 5632]⟩
abbrev S_ : Shape := ⟨0, ![]⟩
abbrev S2x5632 : Shape := ⟨2, ![2, 5632]⟩
abbrev S4098x5632 : Shape := ⟨2, ![4098, 5632]⟩
abbrev S1x1x5632 : Shape := ⟨3, ![1, 1, 5632]⟩
abbrev S5632 : Shape := ⟨1, ![5632]⟩

abbrev nBuf : Space → Nat
  | .hbm => 167
  | .vmem => 0
  | .smem => 0
  | _ => 0

abbrev hbmTy0_0 (i : Nat) : BufTy := match i % 128 with
  | 0 => ⟨S4096x5632, .f32⟩
  | 1 => ⟨S4096x5632, .f32⟩
  | 2 => ⟨S3x1x5632, .f32⟩
  | 3 => ⟨S3x1x5632, .f32⟩
  | 4 => ⟨S1x5632, .f32⟩
  | 5 => ⟨S1x5632, .f32⟩
  | 6 => ⟨S4096x5632, .f32⟩
  | 7 => ⟨S_, .f32⟩
  | 8 => ⟨S2x5632, .f32⟩
  | 9 => ⟨S4098x5632, .f32⟩
  | 10 => ⟨S_, .f32⟩
  | 11 => ⟨S2x5632, .f32⟩
  | 12 => ⟨S4096x5632, .f32⟩
  | 13 => ⟨S1x1x5632, .f32⟩
  | 14 => ⟨S1x5632, .f32⟩
  | 15 => ⟨S4096x5632, .f32⟩
  | 16 => ⟨S4096x5632, .f32⟩
  | 17 => ⟨S_, .f32⟩
  | 18 => ⟨S4096x5632, .f32⟩
  | 19 => ⟨S4096x5632, .f32⟩
  | 20 => ⟨S4096x5632, .f32⟩
  | 21 => ⟨S1x1x5632, .f32⟩
  | 22 => ⟨S1x5632, .f32⟩
  | 23 => ⟨S4096x5632, .f32⟩
  | 24 => ⟨S4096x5632, .f32⟩
  | 25 => ⟨S4096x5632, .f32⟩
  | 26 => ⟨S4096x5632, .f32⟩
  | 27 => ⟨S1x1x5632, .f32⟩
  | 28 => ⟨S1x5632, .f32⟩
  | 29 => ⟨S4096x5632, .f32⟩
  | 30 => ⟨S4096x5632, .f32⟩
  | 31 => ⟨S4096x5632, .f32⟩
  | 32 => ⟨S4096x5632, .f32⟩
  | 33 => ⟨S4096x5632, .f32⟩
  | 34 => ⟨S4096x5632, .f32⟩
  | 35 => ⟨S4096x5632, .f32⟩
  | 36 => ⟨S_, .f32⟩
  | 37 => ⟨S4096x5632, .f32⟩
  | 38 => ⟨S4096x5632, .f32⟩
  | 39 => ⟨S_, .f32⟩
  | 40 => ⟨S4096x5632, .f32⟩
  | 41 => ⟨S4096x5632, .f32⟩
  | 42 => ⟨S_, .f32⟩
  | 43 => ⟨S4096x5632, .f32⟩
  | 44 => ⟨S4096x5632, .f32⟩
  | 45 => ⟨S4096x5632, .f32⟩
  | 46 => ⟨S4096x5632, .f32⟩
  | 47 => ⟨S_, .f32⟩
  | 48 => ⟨S2x5632, .f32⟩
  | 49 => ⟨S4098x5632, .f32⟩
  | 50 => ⟨S_, .f32⟩
  | 51 => ⟨S2x5632, .f32⟩
  | 52 => ⟨S4096x5632, .f32⟩
  | 53 => ⟨S1x1x5632, .f32⟩
  | 54 => ⟨S1x5632, .f32⟩
  | 55 => ⟨S4096x5632, .f32⟩
  | 56 => ⟨S4096x5632, .f32⟩
  | 57 => ⟨S_, .f32⟩
  | 58 => ⟨S4096x5632, .f32⟩
  | 59 => ⟨S4096x5632, .f32⟩
  | 60 => ⟨S4096x5632, .f32⟩
  | 61 => ⟨S1x1x5632, .f32⟩
  | 62 => ⟨S1x5632, .f32⟩
  | 63 => ⟨S4096x5632, .f32⟩
  | 64 => ⟨S4096x5632, .f32⟩
  | 65 => ⟨S4096x5632, .f32⟩
  | 66 => ⟨S4096x5632, .f32⟩
  | 67 => ⟨S1x1x5632, .f32⟩
  | 68 => ⟨S1x5632, .f32⟩
  | 69 => ⟨S4096x5632, .f32⟩
  | 70 => ⟨S4096x5632, .f32⟩
  | 71 => ⟨S4096x5632, .f32⟩
  | 72 => ⟨S4096x5632, .f32⟩
  | 73 => ⟨S4096x5632, .f32⟩
  | 74 => ⟨S4096x5632, .f32⟩
  | 75 => ⟨S4096x5632, .f32⟩
  | 76 => ⟨S4096x5632, .f32⟩
  | 77 => ⟨S_, .f32⟩
  | 78 => ⟨S5632, .f32⟩
  | 79 => ⟨S1x5632, .f32⟩
  | 80 => ⟨S4096x5632, .f32⟩
  | 81 => ⟨S_, .f32⟩
  | 82 => ⟨S5632, .f32⟩
  | 83 => ⟨S1x5632, .f32⟩
  | 84 => ⟨S4096x5632, .f32⟩
  | 85 => ⟨S4096x5632, .f32⟩
  | 86 => ⟨S1x1x5632, .f32⟩
  | 87 => ⟨S_, .f32⟩
  | 88 => ⟨S3x1x5632, .f32⟩
  | 89 => ⟨S_, .f32⟩
  | 90 => ⟨S4098x5632, .f32⟩
  | 91 => ⟨S4096x5632, .f32⟩
  | 92 => ⟨S_, .f32⟩
  | 93 => ⟨S5632, .f32⟩
  | 94 => ⟨S1x5632, .f32⟩
  | 95 => ⟨S4096x5632, .f32⟩
  | 96 => ⟨S4096x5632, .f32⟩
  | 97 => ⟨S1x1x5632, .f32⟩
  | 98 => ⟨S_, .f32⟩
  | 99 => ⟨S3x1x5632, .f32⟩
  | 100 => ⟨S3x1x5632, .f32⟩
  | 101 => ⟨S_, .f32⟩
  | 102 => ⟨S4098x5632, .f32⟩
  | 103 => ⟨S4098x5632, .f32⟩
  | 104 => ⟨S4096x5632, .f32⟩
  | 105 => ⟨S_, .f32⟩
  | 106 => ⟨S5632, .f32⟩
  | 107 => ⟨S1x5632, .f32⟩
  | 108 => ⟨S4096x5632, .f32⟩
  | 109 => ⟨S4096x5632, .f32⟩
  | 110 => ⟨S1x1x5632, .f32⟩
  | 111 => ⟨S_, .f32⟩
  | 112 => ⟨S3x1x5632, .f32⟩
  | 113 => ⟨S3x1x5632, .f32⟩
  | 114 => ⟨S_, .f32⟩
  | 115 => ⟨S4098x5632, .f32⟩
  | 116 => ⟨S4098x5632, .f32⟩
  | 117 => ⟨S2x5632, .f32⟩
  | 118 => ⟨S4096x5632, .f32⟩
  | 119 => ⟨S4096x5632, .f32⟩
  | 120 => ⟨S4096x5632, .f32⟩
  | 121 => ⟨S4096x5632, .f32⟩
  | 122 => ⟨S4096x5632, .f32⟩
  | 123 => ⟨S_, .f32⟩
  | 124 => ⟨S5632, .f32⟩
  | 125 => ⟨S1x5632, .f32⟩
  | 126 => ⟨S4096x5632, .f32⟩
  | 127 => ⟨S_, .f32⟩
  | _ => ⟨S4096x5632, .f32⟩

abbrev hbmTy0_1 (i : Nat) : BufTy := match i % 128 with
  | 0 => ⟨S5632, .f32⟩
  | 1 => ⟨S1x5632, .f32⟩
  | 2 => ⟨S4096x5632, .f32⟩
  | 3 => ⟨S4096x5632, .f32⟩
  | 4 => ⟨S1x1x5632, .f32⟩
  | 5 => ⟨S_, .f32⟩
  | 6 => ⟨S3x1x5632, .f32⟩
  | 7 => ⟨S_, .f32⟩
  | 8 => ⟨S4098x5632, .f32⟩
  | 9 => ⟨S4096x5632, .f32⟩
  | 10 => ⟨S_, .f32⟩
  | 11 => ⟨S5632, .f32⟩
  | 12 => ⟨S1x5632, .f32⟩
  | 13 => ⟨S4096x5632, .f32⟩
  | 14 => ⟨S4096x5632, .f32⟩
  | 15 => ⟨S1x1x5632, .f32⟩
  | 16 => ⟨S_, .f32⟩
  | 17 => ⟨S3x1x5632, .f32⟩
  | 18 => ⟨S3x1x5632, .f32⟩
  | 19 => ⟨S_, .f32⟩
  | 20 => ⟨S4098x5632, .f32⟩
  | 21 => ⟨S4098x5632, .f32⟩
  | 22 => ⟨S4096x5632, .f32⟩
  | 23 => ⟨S_, .f32⟩
  | 24 => ⟨S5632, .f32⟩
  | 25 => ⟨S1x5632, .f32⟩
  | 26 => ⟨S4096x5632, .f32⟩
  | 27 => ⟨S4096x5632, .f32⟩
  | 28 => ⟨S1x1x5632, .f32⟩
  | 29 => ⟨S_, .f32⟩
  | 30 => ⟨S3x1x5632, .f32⟩
  | 31 => ⟨S3x1x5632, .f32⟩
  | 32 => ⟨S_, .f32⟩
  | 33 => ⟨S4098x5632, .f32⟩
  | 34 => ⟨S4098x5632, .f32⟩
  | 35 => ⟨S2x5632, .f32⟩
  | 36 => ⟨S4096x5632, .f32⟩
  | 37 => ⟨S4096x5632, .bf16⟩
  | 38 => ⟨S4096x5632, .bf16⟩
  | _ => ⟨S4096x5632, .f32⟩

abbrev hbmTy (i : Nat) : BufTy := match i / 128 with
  | 0 => hbmTy0_0 i
  | 1 => hbmTy0_1 i
  | _ => ⟨S4096x5632, .f32⟩

abbrev bufTy : (tb : Table) → Fin (tcTables nBuf tb) → BufTy
  | .hbm, ⟨i, _⟩ => hbmTy i
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_v24_2 : Ref sig .tc := ⟨.hbm, 41, rfl⟩
abbrev main_call0_cst_1 : Ref sig .tc := ⟨.hbm, 42, rfl⟩
abbrev main_call0_v6 : Ref sig .tc := ⟨.hbm, 43, rfl⟩
abbrev main_call0_v7 : Ref sig .tc := ⟨.hbm, 44, rfl⟩
abbrev main_v24_1 : Ref sig .tc := ⟨.hbm, 45, rfl⟩
abbrev main_v24_0 : Ref sig .tc := ⟨.hbm, 46, rfl⟩
abbrev main_cst_2 : Ref sig .tc := ⟨.hbm, 47, rfl⟩
abbrev main_v25 : Ref sig .tc := ⟨.hbm, 48, rfl⟩
abbrev main_v26 : Ref sig .tc := ⟨.hbm, 49, rfl⟩
abbrev main_cst_3 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_4 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_5 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_6 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_7 : Ref sig .tc := ⟨.hbm, 87, rfl⟩
abbrev main_v60 : Ref sig .tc := ⟨.hbm, 88, rfl⟩
abbrev main_cst_8 : Ref sig .tc := ⟨.hbm, 89, rfl⟩
abbrev main_v61 : Ref sig .tc := ⟨.hbm, 90, rfl⟩
abbrev main_v62 : Ref sig .tc := ⟨.hbm, 91, rfl⟩
abbrev main_cst_9 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_10 : Ref sig .tc := ⟨.hbm, 98, rfl⟩
abbrev main_v68 : Ref sig .tc := ⟨.hbm, 99, rfl⟩
abbrev main_v69 : Ref sig .tc := ⟨.hbm, 100, rfl⟩
abbrev main_cst_11 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_12 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_13 : Ref sig .tc := ⟨.hbm, 111, rfl⟩
abbrev main_v78 : Ref sig .tc := ⟨.hbm, 112, rfl⟩
abbrev main_v79 : Ref sig .tc := ⟨.hbm, 113, rfl⟩
abbrev main_cst_14 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_call1_v0 : Ref sig .tc := ⟨.hbm, 119, rfl⟩
abbrev main_call1_v1 : Ref sig .tc := ⟨.hbm, 120, rfl⟩
abbrev main_call1_v2 : Ref sig .tc := ⟨.hbm, 121, rfl⟩
abbrev main_v84 : Ref sig .tc := ⟨.hbm, 122, rfl⟩
abbrev main_cst_15 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_16 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_17 : Ref sig .tc := ⟨.hbm, 133, rfl⟩
abbrev main_v93 : Ref sig .tc := ⟨.hbm, 134, rfl⟩
abbrev main_cst_18 : Ref sig .tc := ⟨.hbm, 135, rfl⟩
abbrev main_v94 : Ref sig .tc := ⟨.hbm, 136, rfl⟩
abbrev main_v95 : Ref sig .tc := ⟨.hbm, 137, rfl⟩
abbrev main_cst_19 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_cst_20 : Ref sig .tc := ⟨.hbm, 144, rfl⟩
abbrev main_v101 : Ref sig .tc := ⟨.hbm, 145, rfl⟩
abbrev main_v102 : Ref sig .tc := ⟨.hbm, 146, rfl⟩
abbrev main_cst_21 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_cst_22 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_cst_23 : Ref sig .tc := ⟨.hbm, 157, rfl⟩
abbrev main_v111 : Ref sig .tc := ⟨.hbm, 158, rfl⟩
abbrev main_v112 : Ref sig .tc := ⟨.hbm, 159, rfl⟩
abbrev main_cst_24 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩

abbrev nD : Nat := 1
abbrev τ : Topo := Topo.v7x

variable {F : FTy → Type} [FloatOps F]
-- ==== ActFwd.lean ====
abbrev S4096x5632 : Shape := ⟨2, ![4096, 5632]⟩
abbrev S3x1x5632 : Shape := ⟨3, ![3, 1, 5632]⟩
abbrev S1x5632 : Shape := ⟨2, ![1, 5632]⟩
abbrev S4096x128 : Shape := ⟨2, ![4096, 128]⟩
abbrev S3x1x128 : Shape := ⟨3, ![3, 1, 128]⟩
abbrev S1x128 : Shape := ⟨2, ![1, 128]⟩
abbrev S1x1x128 : Shape := ⟨3, ![1, 1, 128]⟩

abbrev nBuf : Space → Nat
  | .hbm => 7
  | .vmem => 14
  | .smem => 0
  | _ => 0

abbrev bufTy : (tb : Table) → Fin (tcTables nBuf tb) → BufTy
  | .hbm, ⟨0, _⟩ => ⟨S4096x5632, .f32⟩
  | .hbm, ⟨1, _⟩ => ⟨S4096x5632, .f32⟩
  | .hbm, ⟨2, _⟩ => ⟨S3x1x5632, .f32⟩
  | .hbm, ⟨3, _⟩ => ⟨S3x1x5632, .f32⟩
  | .hbm, ⟨4, _⟩ => ⟨S1x5632, .f32⟩
  | .hbm, ⟨5, _⟩ => ⟨S1x5632, .f32⟩
  | .hbm, ⟨6, _⟩ => ⟨S4096x5632, .bf16⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S3x1x128, .f32⟩
  | .local _ .vmem, ⟨5, _⟩ => ⟨S3x1x128, .f32⟩
  | .local _ .vmem, ⟨6, _⟩ => ⟨S3x1x128, .f32⟩
  | .local _ .vmem, ⟨7, _⟩ => ⟨S3x1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S4096x128, .bf16⟩
  | .local _ .vmem, ⟨13, _⟩ => ⟨S4096x128, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![44], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ActFwdRefIdeal.lean ====
abbrev S4096x5632 : Shape := ⟨2, ![4096, 5632]⟩
abbrev S3x1x5632 : Shape := ⟨3, ![3, 1, 5632]⟩
abbrev S1x5632 : Shape := ⟨2, ![1, 5632]⟩
abbrev S_ : Shape := ⟨0, ![]⟩
abbrev S2x5632 : Shape := ⟨2, ![2, 5632]⟩
abbrev S4098x5632 : Shape := ⟨2, ![4098, 5632]⟩
abbrev S1x1x5632 : Shape := ⟨3, ![1, 1, 5632]⟩

abbrev nBuf : Space → Nat
  | .hbm => 67
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x5632, .f32⟩
  | .hbm, ⟨2, _⟩ => ⟨S3x1x5632, .f32⟩
  | .hbm, ⟨3, _⟩ => ⟨S3x1x5632, .f32⟩
  | .hbm, ⟨4, _⟩ => ⟨S1x5632, .f32⟩
  | .hbm, ⟨5, _⟩ => ⟨S1x5632, .f32⟩
  | .hbm, ⟨6, _⟩ => ⟨S_, .f32⟩
  | .hbm, ⟨7, _⟩ => ⟨S2x5632, .f32⟩
  | .hbm, ⟨8, _⟩ => ⟨S4098x5632, .f32⟩
  | .hbm, ⟨9, _⟩ => ⟨S4096x5632, .f32⟩
  | .hbm, ⟨10, _⟩ => ⟨S1x1x5632, .f32⟩
  | .hbm, ⟨11, _⟩ => ⟨S1x5632, .f32⟩
  | .hbm, ⟨12, _⟩ => ⟨S4096x5632, .f32⟩
  | .hbm, ⟨13, _⟩ => ⟨S4096x5632, .f32⟩
  | .hbm, ⟨14, _⟩ => ⟨S_, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S1x1x5632, .f32⟩
  | .hbm, ⟨19, _⟩ => ⟨S1x5632, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S1x1x5632, .f32⟩
  | .hbm, ⟨25, _⟩ => ⟨S1x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S_, .f32⟩
  | .hbm, ⟨34, _⟩ => ⟨S4096x5632, .f32⟩
  | .hbm, ⟨35, _⟩ => ⟨S4096x5632, .f32⟩
  | .hbm, ⟨36, _⟩ => ⟨S_, .f32⟩
  | .hbm, ⟨37, _⟩ => ⟨S4096x5632, .f32⟩
  | .hbm, ⟨38, _⟩ => ⟨S4096x5632, .f32⟩
  | .hbm, ⟨39, _⟩ => ⟨S4096x5632, .f32⟩
  | .hbm, ⟨40, _⟩ => ⟨S_, .f32⟩
  | .hbm, ⟨41, _⟩ => ⟨S2x5632, .f32⟩
  | .hbm, ⟨42, _⟩ => ⟨S4098x5632, .f32⟩
  | .hbm, ⟨43, _⟩ => ⟨S4096x5632, .f32⟩
  | .hbm, ⟨44, _⟩ => ⟨S1x1x5632, .f32⟩
  | .hbm, ⟨45, _⟩ => ⟨S1x5632, .f32⟩
  | .hbm, ⟨46, _⟩ => ⟨S4096x5632, .f32⟩
  | .hbm, ⟨47, _⟩ => ⟨S4096x5632, .f32⟩
  | .hbm, ⟨48, _⟩ => ⟨S_, .f32⟩
  | .hbm, ⟨49, _⟩ => ⟨S4096x5632, .f32⟩
  | .hbm, ⟨50, _⟩ => ⟨S4096x5632, .f32⟩
  | .hbm, ⟨51, _⟩ => ⟨S4096x5632, .f32⟩
  | .hbm, ⟨52, _⟩ => ⟨S1x1x5632, .f32⟩
  | .hbm, ⟨53, _⟩ => ⟨S1x5632, .f32⟩
  | .hbm, ⟨54, _⟩ => ⟨S4096x5632, .f32⟩
  | .hbm, ⟨55, _⟩ => ⟨S4096x5632, .f32⟩
  | .hbm, ⟨56, _⟩ => ⟨S4096x5632, .f32⟩
  | .hbm, ⟨57, _⟩ => ⟨S4096x5632, .f32⟩
  | .hbm, ⟨58, _⟩ => ⟨S1x1x5632, .f32⟩
  | .hbm, ⟨59, _⟩ => ⟨S1x5632, .f32⟩
  | .hbm, ⟨60, _⟩ => ⟨S4096x5632, .f32⟩
  | .hbm, ⟨61, _⟩ => ⟨S4096x5632, .f32⟩
  | .hbm, ⟨62, _⟩ => ⟨S4096x5632, .f32⟩
  | .hbm, ⟨63, _⟩ => ⟨S4096x5632, .f32⟩
  | .hbm, ⟨64, _⟩ => ⟨S4096x5632, .f32⟩
  | .hbm, ⟨65, _⟩ => ⟨S4096x5632, .f32⟩
  | .hbm, ⟨66, _⟩ => ⟨S4096x5632, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v23 : Ref sig .tc := ⟨.hbm, 39, rfl⟩
abbrev main_cst_1 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_2 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩

abbrev nD : Nat := 1
abbrev τ : Topo := Topo.v7x

variable {F : FTy → Type} [FloatOps F]
-- ==== PreBwd.lean ====
abbrev S4096x15360 : Shape := ⟨2, ![4096, 15360]⟩
abbrev S4x1x3072 : Shape := ⟨3, ![4, 1, 3072]⟩
abbrev S4096x3072 : Shape := ⟨2, ![4096, 3072]⟩
abbrev S4096x128 : Shape := ⟨2, ![4096, 128]⟩
abbrev S4x1x128 : Shape := ⟨3, ![4, 1, 128]⟩
abbrev S1x1x128 : Shape := ⟨3, ![1, 1, 128]⟩
abbrev S1x128 : Shape := ⟨2, ![1, 128]⟩
abbrev S4096 : Shape := ⟨1, ![4096]⟩
abbrev S4096x1 : Shape := ⟨2, ![4096, 1]⟩
abbrev S128 : Shape := ⟨1, ![128]⟩

abbrev nBuf : Space → Nat
  | .hbm => 5
  | .vmem => 10
  | .smem => 0
  | _ => 0

abbrev bufTy : (tb : Table) → Fin (tcTables nBuf tb) → BufTy
  | .hbm, ⟨0, _⟩ => ⟨S4096x15360, .f32⟩
  | .hbm, ⟨1, _⟩ => ⟨S4x1x3072, .f32⟩
  | .hbm, ⟨2, _⟩ => ⟨S4096x3072, .f32⟩
  | .hbm, ⟨3, _⟩ => ⟨S4096x3072, .f32⟩
  | .hbm, ⟨4, _⟩ => ⟨S4x1x3072, .f32⟩
  | .local _ .vmem, ⟨0, _⟩ => ⟨S4096x128, .f32⟩
  | .local _ .vmem, ⟨1, _⟩ => ⟨S4096x128, .f32⟩
  | .local _ .vmem, ⟨2, _⟩ => ⟨S4x1x128, .f32⟩
  | .local _ .vmem, ⟨3, _⟩ => ⟨S4x1x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4x1x128, .f32⟩
  | .local _ .vmem, ⟨9, _⟩ => ⟨S4x1x128, .f32⟩
  | _, _ => ⟨S4096x15360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PreBwdRefIdeal.lean ====
abbrev S4096x15360 : Shape := ⟨2, ![4096, 15360]⟩
abbrev S4x1x3072 : Shape := ⟨3, ![4, 1, 3072]⟩
abbrev S4096x3072 : Shape := ⟨2, ![4096, 3072]⟩
abbrev S_ : Shape := ⟨0, ![]⟩
abbrev S3x3072 : Shape := ⟨2, ![3, 3072]⟩
abbrev S4099x3072 : Shape := ⟨2, ![4099, 3072]⟩
abbrev S1x1x3072 : Shape := ⟨3, ![1, 1, 3072]⟩
abbrev S1x3072 : Shape := ⟨2, ![1, 3072]⟩
abbrev S4096x1024 : Shape := ⟨2, ![4096, 1024]⟩
abbrev S4096x8x128 : Shape := ⟨3, ![4096, 8, 128]⟩
abbrev S4096x8 : Shape := ⟨2, ![4096, 8]⟩
abbrev S4096x8x1 : Shape := ⟨3, ![4096, 8, 1]⟩
abbrev S3072 : Shape := ⟨1, ![3072]⟩

abbrev nBuf : Space → Nat
  | .hbm => 182
  | .vmem => 0
  | .smem => 0
  | _ => 0

abbrev hbmTy0_0 (i : Nat) : BufTy := match i % 128 with
  | 0 => ⟨S4096x15360, .f32⟩
  | 1 => ⟨S4x1x3072, .f32⟩
  | 2 => ⟨S4096x3072, .f32⟩
  | 3 => ⟨S4096x3072, .f32⟩
  | 4 => ⟨S_, .f32⟩
  | 5 => ⟨S3x3072, .f32⟩
  | 6 => ⟨S4099x3072, .f32⟩
  | 7 => ⟨S_, .f32⟩
  | 8 => ⟨S3x3072, .f32⟩
  | 9 => ⟨S4096x3072, .f32⟩
  | 10 => ⟨S1x1x3072, .f32⟩
  | 11 => ⟨S1x3072, .f32⟩
  | 12 => ⟨S4096x3072, .f32⟩
  | 13 => ⟨S4096x3072, .f32⟩
  | 14 => ⟨S_, .f32⟩
  | 15 => ⟨S4096x3072, .f32⟩
  | 16 => ⟨S4096x3072, .f32⟩
  | 17 => ⟨S4096x3072, .f32⟩
  | 18 => ⟨S1x1x3072, .f32⟩
  | 19 => ⟨S1x3072, .f32⟩
  | 20 => ⟨S4096x3072, .f32⟩
  | 21 => ⟨S4096x3072, .f32⟩
  | 22 => ⟨S4096x3072, .f32⟩
  | 23 => ⟨S4096x3072, .f32⟩
  | 24 => ⟨S1x1x3072, .f32⟩
  | 25 => ⟨S1x3072, .f32⟩
  | 26 => ⟨S4096x3072, .f32⟩
  | 27 => ⟨S4096x3072, .f32⟩
  | 28 => ⟨S4096x3072, .f32⟩
  | 29 => ⟨S4096x3072, .f32⟩
  | 30 => ⟨S1x1x3072, .f32⟩
  | 31 => ⟨S1x3072, .f32⟩
  | 32 => ⟨S4096x3072, .f32⟩
  | 33 => ⟨S4096x3072, .f32⟩
  | 34 => ⟨S4096x3072, .f32⟩
  | 35 => ⟨S4096x3072, .f32⟩
  | 36 => ⟨S4096x3072, .f32⟩
  | 37 => ⟨S_, .f32⟩
  | 38 => ⟨S4096x3072, .f32⟩
  | 39 => ⟨S4096x3072, .f32⟩
  | 40 => ⟨S_, .f32⟩
  | 41 => ⟨S4096x3072, .f32⟩
  | 42 => ⟨S4096x3072, .f32⟩
  | 43 => ⟨S_, .f32⟩
  | 44 => ⟨S4096x3072, .f32⟩
  | 45 => ⟨S4096x3072, .f32⟩
  | 46 => ⟨S4096x3072, .f32⟩
  | 47 => ⟨S4096x3072, .f32⟩
  | 48 => ⟨S4096x1024, .f32⟩
  | 49 => ⟨S4096x1024, .f32⟩
  | 50 => ⟨S4096x1024, .f32⟩
  | 51 => ⟨S4096x8x128, .f32⟩
  | 52 => ⟨S4096x8x128, .f32⟩
  | 53 => ⟨S4096x8x128, .f32⟩
  | 54 => ⟨S4096x8x128, .f32⟩
  | 55 => ⟨S_, .f32⟩
  | 56 => ⟨S4096x8x128, .f32⟩
  | 57 => ⟨S4096x8x128, .f32⟩
  | 58 => ⟨S_, .f32⟩
  | 59 => ⟨S4096x8, .f32⟩
  | 60 => ⟨S4096x8x1, .f32⟩
  | 61 => ⟨S_, .f32⟩
  | 62 => ⟨S4096x8x1, .f32⟩
  | 63 => ⟨S4096x8x1, .f32⟩
  | 64 => ⟨S4096x8x1, .f32⟩
  | 65 => ⟨S4096x8x1, .f32⟩
  | 66 => ⟨S_, .f32⟩
  | 67 => ⟨S4096x8x1, .f32⟩
  | 68 => ⟨S4096x8x1, .f32⟩
  | 69 => ⟨S4096x8x128, .f32⟩
  | 70 => ⟨S4096x8x128, .f32⟩
  | 71 => ⟨S4096x8x128, .f32⟩
  | 72 => ⟨S_, .f32⟩
  | 73 => ⟨S4096x8x128, .f32⟩
  | 74 => ⟨S4096x8x128, .f32⟩
  | 75 => ⟨S_, .f32⟩
  | 76 => ⟨S4096x8, .f32⟩
  | 77 => ⟨S4096x8x1, .f32⟩
  | 78 => ⟨S_, .f32⟩
  | 79 => ⟨S4096x8x1, .f32⟩
  | 80 => ⟨S4096x8x1, .f32⟩
  | 81 => ⟨S4096x8x1, .f32⟩
  | 82 => ⟨S4096x8x1, .f32⟩
  | 83 => ⟨S_, .f32⟩
  | 84 => ⟨S4096x8x1, .f32⟩
  | 85 => ⟨S4096x8x1, .f32⟩
  | 86 => ⟨S4096x8x128, .f32⟩
  | 87 => ⟨S4096x8x128, .f32⟩
  | 88 => ⟨S4096x1024, .f32⟩
  | 89 => ⟨S4096x1024, .f32⟩
  | 90 => ⟨S4096x1024, .f32⟩
  | 91 => ⟨S4096x3072, .f32⟩
  | 92 => ⟨S4096x1024, .f32⟩
  | 93 => ⟨S4096x1024, .f32⟩
  | 94 => ⟨S4096x1024, .f32⟩
  | 95 => ⟨S4096x8x128, .f32⟩
  | 96 => ⟨S4096x8x128, .f32⟩
  | 97 => ⟨S4096x8x128, .f32⟩
  | 98 => ⟨S4096x8x128, .f32⟩
  | 99 => ⟨S_, .f32⟩
  | 100 => ⟨S4096x8, .f32⟩
  | 101 => ⟨S4096x8x1, .f32⟩
  | 102 => ⟨S4096x8x128, .f32⟩
  | 103 => ⟨S4096x8x128, .f32⟩
  | 104 => ⟨S4096x8x1, .f32⟩
  | 105 => ⟨S_, .f32⟩
  | 106 => ⟨S4096x8, .f32⟩
  | 107 => ⟨S4096x8x128, .f32⟩
  | 108 => ⟨S4096x8x128, .f32⟩
  | 109 => ⟨S4096x8x128, .f32⟩
  | 110 => ⟨S4096x8x128, .f32⟩
  | 111 => ⟨S_, .f32⟩
  | 112 => ⟨S4096x8, .f32⟩
  | 113 => ⟨S4096x8x1, .f32⟩
  | 114 => ⟨S4096x8x128, .f32⟩
  | 115 => ⟨S4096x8x128, .f32⟩
  | 116 => ⟨S4096x8x1, .f32⟩
  | 117 => ⟨S_, .f32⟩
  | 118 => ⟨S4096x8, .f32⟩
  | 119 => ⟨S4096x8x128, .f32⟩
  | 120 => ⟨S4096x8x128, .f32⟩
  | 121 => ⟨S4096x8x128, .f32⟩
  | 122 => ⟨S4096x1024, .f32⟩
  | 123 => ⟨S4096x1024, .f32⟩
  | 124 => ⟨S4096x1024, .f32⟩
  | 125 => ⟨S4096x3072, .f32⟩
  | 126 => ⟨S4096x3072, .f32⟩
  | 127 => ⟨S4096x3072, .f32⟩
  | _ => ⟨S4096x15360, .f32⟩

abbrev hbmTy0_1 (i : Nat) : BufTy := match i % 128 with
  | 0 => ⟨S4096x3072, .f32⟩
  | 1 => ⟨S4096x3072, .f32⟩
  | 2 => ⟨S4096x3072, .f32⟩
  | 3 => ⟨S_, .f32⟩
  | 4 => ⟨S3072, .f32⟩
  | 5 => ⟨S1x3072, .f32⟩
  | 6 => ⟨S4096x3072, .f32⟩
  | 7 => ⟨S4096x3072, .f32⟩
  | 8 => ⟨S1x1x3072, .f32⟩
  | 9 => ⟨S_, .f32⟩
  | 10 => ⟨S4x1x3072, .f32⟩
  | 11 => ⟨S_, .f32⟩
  | 12 => ⟨S4099x3072, .f32⟩
  | 13 => ⟨S4096x3072, .f32⟩
  | 14 => ⟨S_, .f32⟩
  | 15 => ⟨S3072, .f32⟩
  | 16 => ⟨S1x3072, .f32⟩
  | 17 => ⟨S4096x3072, .f32⟩
  | 18 => ⟨S4096x3072, .f32⟩
  | 19 => ⟨S1x1x3072, .f32⟩
  | 20 => ⟨S_, .f32⟩
  | 21 => ⟨S4x1x3072, .f32⟩
  | 22 => ⟨S4x1x3072, .f32⟩
  | 23 => ⟨S_, .f32⟩
  | 24 => ⟨S4099x3072, .f32⟩
  | 25 => ⟨S4099x3072, .f32⟩
  | 26 => ⟨S4096x3072, .f32⟩
  | 27 => ⟨S_, .f32⟩
  | 28 => ⟨S3072, .f32⟩
  | 29 => ⟨S1x3072, .f32⟩
  | 30 => ⟨S4096x3072, .f32⟩
  | 31 => ⟨S4096x3072, .f32⟩
  | 32 => ⟨S1x1x3072, .f32⟩
  | 33 => ⟨S_, .f32⟩
  | 34 => ⟨S4x1x3072, .f32⟩
  | 35 => ⟨S4x1x3072, .f32⟩
  | 36 => ⟨S_, .f32⟩
  | 37 => ⟨S4099x3072, .f32⟩
  | 38 => ⟨S4099x3072, .f32⟩
  | 39 => ⟨S4096x3072, .f32⟩
  | 40 => ⟨S_, .f32⟩
  | 41 => ⟨S3072, .f32⟩
  | 42 => ⟨S1x3072, .f32⟩
  | 43 => ⟨S4096x3072, .f32⟩
  | 44 => ⟨S4096x3072, .f32⟩
  | 45 => ⟨S1x1x3072, .f32⟩
  | 46 => ⟨S_, .f32⟩
  | 47 => ⟨S4x1x3072, .f32⟩
  | 48 => ⟨S4x1x3072, .f32⟩
  | 49 => ⟨S_, .f32⟩
  | 50 => ⟨S4099x3072, .f32⟩
  | 51 => ⟨S4099x3072, .f32⟩
  | 52 => ⟨S3x3072, .f32⟩
  | 53 => ⟨S4096x3072, .f32⟩
  | _ => ⟨S4096x15360, .f32⟩

abbrev hbmTy (i : Nat) : BufTy := match i / 128 with
  | 0 => hbmTy0_0 i
  | 1 => hbmTy0_1 i
  | _ => ⟨S4096x15360, .f32⟩

abbrev bufTy : (tb : Table) → Fin (tcTables nBuf tb) → BufTy
  | .hbm, ⟨i, _⟩ => hbmTy i
  | _, _ => ⟨S4096x15360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v29_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v29_1 : Ref sig .tc := ⟨.hbm, 46, rfl⟩
abbrev main_v29_0 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_2 : Ref sig .tc := ⟨.hbm, 55, rfl⟩
abbrev main_v37 : Ref sig .tc := ⟨.hbm, 56, rfl⟩
abbrev main_v38 : Ref sig .tc := ⟨.hbm, 57, rfl⟩
abbrev main_cst_3 : Ref sig .tc := ⟨.hbm, 58, rfl⟩
abbrev main_v39 : Ref sig .tc := ⟨.hbm, 59, rfl⟩
abbrev main_v40 : Ref sig .tc := ⟨.hbm, 60, rfl⟩
abbrev main_cst_4 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_5 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_6 : Ref sig .tc := ⟨.hbm, 72, rfl⟩
abbrev main_v50 : Ref sig .tc := ⟨.hbm, 73, rfl⟩
abbrev main_v51 : Ref sig .tc := ⟨.hbm, 74, rfl⟩
abbrev main_cst_7 : Ref sig .tc := ⟨.hbm, 75, rfl⟩
abbrev main_v52 : Ref sig .tc := ⟨.hbm, 76, rfl⟩
abbrev main_v53 : Ref sig .tc := ⟨.hbm, 77, rfl⟩
abbrev main_cst_8 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_9 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_10 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_11 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_12 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_13 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_call1_v0 : Ref sig .tc := ⟨.hbm, 126, rfl⟩
abbrev main_call1_v1 : Ref sig .tc := ⟨.hbm, 127, rfl⟩
abbrev main_call1_v2 : Ref sig .tc := ⟨.hbm, 128, rfl⟩
abbrev main_v96 : Ref sig .tc := ⟨.hbm, 129, rfl⟩
abbrev main_v97 : Ref sig .tc := ⟨.hbm, 130, rfl⟩
abbrev main_cst_14 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_cst_15 : Ref sig .tc := ⟨.hbm, 137, rfl⟩
abbrev main_v103 : Ref sig .tc := ⟨.hbm, 138, rfl⟩
abbrev main_cst_16 : Ref sig .tc := ⟨.hbm, 139, rfl⟩
abbrev main_v104 : Ref sig .tc := ⟨.hbm, 140, rfl⟩
abbrev main_v105 : Ref sig .tc := ⟨.hbm, 141, rfl⟩
abbrev main_cst_17 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_cst_18 : Ref sig .tc := ⟨.hbm, 148, rfl⟩
abbrev main_v111 : Ref sig .tc := ⟨.hbm, 149, rfl⟩
abbrev main_v112 : Ref sig .tc := ⟨.hbm, 150, rfl⟩
abbrev main_cst_19 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_cst_20 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_cst_21 : Ref sig .tc := ⟨.hbm, 161, rfl⟩
abbrev main_v121 : Ref sig .tc := ⟨.hbm, 162, rfl⟩
abbrev main_v122 : Ref sig .tc := ⟨.hbm, 163, rfl⟩
abbrev main_cst_22 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_cst_23 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_cst_24 : Ref sig .tc := ⟨.hbm, 174, rfl⟩
abbrev main_v131 : Ref sig .tc := ⟨.hbm, 175, rfl⟩
abbrev main_v132 : Ref sig .tc := ⟨.hbm, 176, rfl⟩
abbrev main_cst_25 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩

abbrev nD : Nat := 1
abbrev τ : Topo := Topo.v7x

variable {F : FTy → Type} [FloatOps F]
-- ==== PreFwd.lean ====
abbrev S4096x15360 : Shape := ⟨2, ![4096, 15360]⟩
abbrev S4x1x3072 : Shape := ⟨3, ![4, 1, 3072]⟩
abbrev S4096x3072 : Shape := ⟨2, ![4096, 3072]⟩
abbrev S4096x128 : Shape := ⟨2, ![4096, 128]⟩
abbrev S4x1x128 : Shape := ⟨3, ![4, 1, 128]⟩
abbrev S1x1x128 : Shape := ⟨3, ![1, 1, 128]⟩
abbrev S1x128 : Shape := ⟨2, ![1, 128]⟩
abbrev S4096 : Shape := ⟨1, ![4096]⟩
abbrev S4096x1 : Shape := ⟨2, ![4096, 1]⟩

abbrev nBuf : Space → Nat
  | .hbm => 3
  | .vmem => 6
  | .smem => 0
  | _ => 0

abbrev bufTy : (tb : Table) → Fin (tcTables nBuf tb) → BufTy
  | .hbm, ⟨0, _⟩ => ⟨S4096x15360, .f32⟩
  | .hbm, ⟨1, _⟩ => ⟨S4x1x3072, .f32⟩
  | .hbm, ⟨2, _⟩ => ⟨S4096x3072, .f32⟩
  | .local _ .vmem, ⟨0, _⟩ => ⟨S4096x128, .f32⟩
  | .local _ .vmem, ⟨1, _⟩ => ⟨S4096x128, .f32⟩
  | .local _ .vmem, ⟨2, _⟩ => ⟨S4x1x128, .f32⟩
  | .local _ .vmem, ⟨3, _⟩ => ⟨S4x1x128, .f32⟩
  | .local _ .vmem, ⟨4, _⟩ => ⟨S4096x128, .f32⟩
  | .local _ .vmem, ⟨5, _⟩ => ⟨S4096x128, .f32⟩
  | _, _ => ⟨S4096x15360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PreFwdRefIdeal.lean ====
abbrev S4096x15360 : Shape := ⟨2, ![4096, 15360]⟩
abbrev S4x1x3072 : Shape := ⟨3, ![4, 1, 3072]⟩
abbrev S4096x3072 : Shape := ⟨2, ![4096, 3072]⟩
abbrev S_ : Shape := ⟨0, ![]⟩
abbrev S3x3072 : Shape := ⟨2, ![3, 3072]⟩
abbrev S4099x3072 : Shape := ⟨2, ![4099, 3072]⟩
abbrev S1x1x3072 : Shape := ⟨3, ![1, 1, 3072]⟩
abbrev S1x3072 : Shape := ⟨2, ![1, 3072]⟩
abbrev S4096x1024 : Shape := ⟨2, ![4096, 1024]⟩
abbrev S4096x8x128 : Shape := ⟨3, ![4096, 8, 128]⟩
abbrev S4096x8 : Shape := ⟨2, ![4096, 8]⟩
abbrev S4096x8x1 : Shape := ⟨3, ![4096, 8, 1]⟩

abbrev nBuf : Space → Nat
  | .hbm => 71
  | .vmem => 0
  | .smem => 0
  | _ => 0

abbrev bufTy : (tb : Table) → Fin (tcTables nBuf tb) → BufTy
  | .hbm, ⟨0, _⟩ => ⟨S4096x15360, .f32⟩
  | .hbm, ⟨1, _⟩ => ⟨S4x1x3072, .f32⟩
  | .hbm, ⟨2, _⟩ => ⟨S4096x3072, .f32⟩
  | .hbm, ⟨3, _⟩ => ⟨S_, .f32⟩
  | .hbm, ⟨4, _⟩ => ⟨S3x3072, .f32⟩
  | .hbm, ⟨5, _⟩ => ⟨S4099x3072, .f32⟩
  | .hbm, ⟨6, _⟩ => ⟨S4096x3072, .f32⟩
  | .hbm, ⟨7, _⟩ => ⟨S1x1x3072, .f32⟩
  | .hbm, ⟨8, _⟩ => ⟨S1x3072, .f32⟩
  | .hbm, ⟨9, _⟩ => ⟨S4096x3072, .f32⟩
  | .hbm, ⟨10, _⟩ => ⟨S4096x3072, .f32⟩
  | .hbm, ⟨11, _⟩ => ⟨S_, .f32⟩
  | .hbm, ⟨12, _⟩ => ⟨S4096x3072, .f32⟩
  | .hbm, ⟨13, _⟩ => ⟨S4096x3072, .f32⟩
  | .hbm, ⟨14, _⟩ => ⟨S4096x3072, .f32⟩
  | .hbm, ⟨15, _⟩ => ⟨S1x1x3072, .f32⟩
  | .hbm, ⟨16, _⟩ => ⟨S1x3072, .f32⟩
  | .hbm, ⟨17, _⟩ => ⟨S4096x3072, .f32⟩
  | .hbm, ⟨18, _⟩ => ⟨S4096x3072, .f32⟩
  | .hbm, ⟨19, _⟩ => ⟨S4096x3072, .f32⟩
  | .hbm, ⟨20, _⟩ => ⟨S4096x3072, .f32⟩
  | .hbm, ⟨21, _⟩ => ⟨S1x1x3072, .f32⟩
  | .hbm, ⟨22, _⟩ => ⟨S1x3072, .f32⟩
  | .hbm, ⟨23, _⟩ => ⟨S4096x3072, .f32⟩
  | .hbm, ⟨24, _⟩ => ⟨S4096x3072, .f32⟩
  | .hbm, ⟨25, _⟩ => ⟨S4096x3072, .f32⟩
  | .hbm, ⟨26, _⟩ => ⟨S4096x3072, .f32⟩
  | .hbm, ⟨27, _⟩ => ⟨S1x1x3072, .f32⟩
  | .hbm, ⟨28, _⟩ => ⟨S1x3072, .f32⟩
  | .hbm, ⟨29, _⟩ => ⟨S4096x3072, .f32⟩
  | .hbm, ⟨30, _⟩ => ⟨S4096x3072, .f32⟩
  | .hbm, ⟨31, _⟩ => ⟨S4096x3072, .f32⟩
  | .hbm, ⟨32, _⟩ => ⟨S4096x3072, .f32⟩
  | .hbm, ⟨33, _⟩ => ⟨S4096x3072, .f32⟩
  | .hbm, ⟨34, _⟩ => ⟨S_, .f32⟩
  | .hbm, ⟨35, _⟩ => ⟨S4096x3072, .f32⟩
  | .hbm, ⟨36, _⟩ => ⟨S4096x3072, .f32⟩
  | .hbm, ⟨37, _⟩ => ⟨S_, .f32⟩
  | .hbm, ⟨38, _⟩ => ⟨S4096x3072, .f32⟩
  | .hbm, ⟨39, _⟩ => ⟨S4096x3072, .f32⟩
  | .hbm, ⟨40, _⟩ => ⟨S4096x3072, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x8x128, .f32⟩
  | .hbm, ⟨45, _⟩ => ⟨S4096x8x128, .f32⟩
  | .hbm, ⟨46, _⟩ => ⟨S4096x8x128, .f32⟩
  | .hbm, ⟨47, _⟩ => ⟨S4096x8x128, .f32⟩
  | .hbm, ⟨48, _⟩ => ⟨S_, .f32⟩
  | .hbm, ⟨49, _⟩ => ⟨S4096x8, .f32⟩
  | .hbm, ⟨50, _⟩ => ⟨S4096x8x1, .f32⟩
  | .hbm, ⟨51, _⟩ => ⟨S_, .f32⟩
  | .hbm, ⟨52, _⟩ => ⟨S4096x8x1, .f32⟩
  | .hbm, ⟨53, _⟩ => ⟨S4096x8x1, .f32⟩
  | .hbm, ⟨54, _⟩ => ⟨S4096x8x1, .f32⟩
  | .hbm, ⟨55, _⟩ => ⟨S4096x8x128, .f32⟩
  | .hbm, ⟨56, _⟩ => ⟨S4096x8x128, .f32⟩
  | .hbm, ⟨57, _⟩ => ⟨S4096x8x128, .f32⟩
  | .hbm, ⟨58, _⟩ => ⟨S_, .f32⟩
  | .hbm, ⟨59, _⟩ => ⟨S4096x8, .f32⟩
  | .hbm, ⟨60, _⟩ => ⟨S4096x8x1, .f32⟩
  | .hbm, ⟨61, _⟩ => ⟨S_, .f32⟩
  | .hbm, ⟨62, _⟩ => ⟨S4096x8x1, .f32⟩
  | .hbm, ⟨63, _⟩ => ⟨S4096x8x1, .f32⟩
  | .hbm, ⟨64, _⟩ => ⟨S4096x8x1, .f32⟩
  | .hbm, ⟨65, _⟩ => ⟨S4096x8x128, .f32⟩
  | .hbm, ⟨66, _⟩ => ⟨S4096x8x128, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x3072, .f32⟩
  | _, _ => ⟨S4096x15360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_1 : Ref sig .tc := ⟨.hbm, 48, rfl⟩
abbrev main_v36 : Ref sig .tc := ⟨.hbm, 49, rfl⟩
abbrev main_v37 : Ref sig .tc := ⟨.hbm, 50, rfl⟩
abbrev main_cst_2 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_3 : Ref sig .tc := ⟨.hbm, 58, rfl⟩
abbrev main_v44 : Ref sig .tc := ⟨.hbm, 59, rfl⟩
abbrev main_v45 : Ref sig .tc := ⟨.hbm, 60, rfl⟩
abbrev main_cst_4 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩

abbrev nD : Nat := 1
abbrev τ : Topo := Topo.v7x

variable {F : FTy → Type} [FloatOps F]
-- ==== TailDw.lean ====
abbrev S4096x2048 : Shape := ⟨2, ![4096, 2048]⟩
abbrev S4096x128 : Shape := ⟨2, ![4096, 128]⟩
abbrev S2048x128 : Shape := ⟨2, ![2048, 128]⟩
abbrev S1024x1024 : Shape := ⟨2, ![1024, 1024]⟩
abbrev S1024x128 : Shape := ⟨2, ![1024, 128]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x128, .f32⟩
  | .hbm, ⟨2, _⟩ => ⟨S4096x2048, .bf16⟩
  | .hbm, ⟨3, _⟩ => ⟨S4096x128, .bf16⟩
  | .hbm, ⟨4, _⟩ => ⟨S2048x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== TailDwRefIdeal.lean ====
abbrev S4096x2048 : Shape := ⟨2, ![4096, 2048]⟩
abbrev S4096x128 : Shape := ⟨2, ![4096, 128]⟩
abbrev S_ : Shape := ⟨0, ![]⟩
abbrev S2048x128 : Shape := ⟨2, ![2048, 128]⟩
abbrev S128x2048 : Shape := ⟨2, ![128, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x128, .f32⟩
  | .hbm, ⟨2, _⟩ => ⟨S_, .f32⟩
  | .hbm, ⟨3, _⟩ => ⟨S2048x128, .f32⟩
  | .hbm, ⟨4, _⟩ => ⟨S4096x128, .f32⟩
  | .hbm, ⟨5, _⟩ => ⟨S128x2048, .f32⟩
  | .hbm, ⟨6, _⟩ => ⟨S2048x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== TailDx.lean ====
abbrev S4096x128 : Shape := ⟨2, ![4096, 128]⟩
abbrev S2048x128 : Shape := ⟨2, ![2048, 128]⟩
abbrev S4096x2048 : Shape := ⟨2, ![4096, 2048]⟩
abbrev S1024x128 : Shape := ⟨2, ![1024, 128]⟩
abbrev S1024x2048 : Shape := ⟨2, ![1024, 2048]⟩

abbrev nBuf : Space → Nat
  | .hbm => 6
  | .vmem => 8
  | .smem => 0
  | _ => 0

abbrev bufTy : (tb : Table) → Fin (tcTables nBuf tb) → BufTy
  | .hbm, ⟨0, _⟩ => ⟨S4096x128, .f32⟩
  | .hbm, ⟨1, _⟩ => ⟨S2048x128, .f32⟩
  | .hbm, ⟨2, _⟩ => ⟨S4096x2048, .f32⟩
  | .hbm, ⟨3, _⟩ => ⟨S4096x128, .bf16⟩
  | .hbm, ⟨4, _⟩ => ⟨S2048x128, .bf16⟩
  | .hbm, ⟨5, _⟩ => ⟨S4096x2048, .f32⟩
  | .local _ .vmem, ⟨0, _⟩ => ⟨S1024x128, .bf16⟩
  | .local _ .vmem, ⟨1, _⟩ => ⟨S1024x128, .bf16⟩
  | .local _ .vmem, ⟨2, _⟩ => ⟨S2048x128, .bf16⟩
  | .local _ .vmem, ⟨3, _⟩ => ⟨S1024x2048, .f32⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | .local _ .vmem, ⟨7, _⟩ => ⟨S1024x2048, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== TailDxRefIdeal.lean ====
abbrev S4096x128 : Shape := ⟨2, ![4096, 128]⟩
abbrev S2048x128 : Shape := ⟨2, ![2048, 128]⟩
abbrev S4096x2048 : Shape := ⟨2, ![4096, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S2048x128, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x128, .f32⟩
  | .hbm, ⟨6, _⟩ => ⟨S4096x2048, .f32⟩
  | .hbm, ⟨7, _⟩ => ⟨S4096x2048, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== TailFwd.lean ====
abbrev S4096x2048 : Shape := ⟨2, ![4096, 2048]⟩
abbrev S2048x128 : Shape := ⟨2, ![2048, 128]⟩
abbrev S128 : Shape := ⟨1, ![128]⟩
abbrev S1x128 : Shape := ⟨2, ![1, 128]⟩
abbrev S4096x128 : Shape := ⟨2, ![4096, 128]⟩
abbrev S1024x1024 : Shape := ⟨2, ![1024, 1024]⟩
abbrev S1024x128 : Shape := ⟨2, ![1024, 128]⟩

abbrev nBuf : Space → Nat
  | .hbm => 7
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048x128, .f32⟩
  | .hbm, ⟨2, _⟩ => ⟨S128, .f32⟩
  | .hbm, ⟨3, _⟩ => ⟨S1x128, .f32⟩
  | .hbm, ⟨4, _⟩ => ⟨S4096x2048, .bf16⟩
  | .hbm, ⟨5, _⟩ => ⟨S2048x128, .bf16⟩
  | .hbm, ⟨6, _⟩ => ⟨S4096x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .bf16⟩
  | .local _ .vmem, ⟨4, _⟩ => ⟨S1x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== TailFwdRefIdeal.lean ====
abbrev S4096x2048 : Shape := ⟨2, ![4096, 2048]⟩
abbrev S2048x128 : Shape := ⟨2, ![2048, 128]⟩
abbrev S128 : Shape := ⟨1, ![128]⟩
abbrev S4096x128 : Shape := ⟨2, ![4096, 128]⟩
abbrev S1x128 : Shape := ⟨2, ![1, 128]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x128, .f32⟩
  | .hbm, ⟨2, _⟩ => ⟨S128, .f32⟩
  | .hbm, ⟨3, _⟩ => ⟨S4096x128, .f32⟩
  | .hbm, ⟨4, _⟩ => ⟨S1x128, .f32⟩
  | .hbm, ⟨5, _⟩ => ⟨S4096x128, .f32⟩
  | .hbm, ⟨6, _⟩ => ⟨S4096x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== TailDb.lean ====
abbrev S4096x128 : Shape := ⟨2, ![4096, 128]⟩
abbrev S1x128 : Shape := ⟨2, ![1, 128]⟩
abbrev S128 : Shape := ⟨1, ![128]⟩

abbrev nBuf : Space → Nat
  | .hbm => 2
  | .vmem => 2
  | .smem => 0
  | _ => 0

abbrev bufTy : (tb : Table) → Fin (tcTables nBuf tb) → BufTy
  | .hbm, ⟨0, _⟩ => ⟨S4096x128, .f32⟩
  | .hbm, ⟨1, _⟩ => ⟨S1x128, .f32⟩
  | .local _ .vmem, ⟨0, _⟩ => ⟨S4096x128, .f32⟩
  | .local _ .vmem, ⟨1, _⟩ => ⟨S1x128, .f32⟩
  | _, _ => ⟨S4096x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== TailDbRefIdeal.lean ====
abbrev S4096x128 : Shape := ⟨2, ![4096, 128]⟩
abbrev S_ : Shape := ⟨0, ![]⟩
abbrev S1x128 : Shape := ⟨2, ![1, 128]⟩
abbrev S128 : Shape := ⟨1, ![128]⟩

abbrev nBuf : Space → Nat
  | .hbm => 7
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S_, .f32⟩
  | .hbm, ⟨2, _⟩ => ⟨S1x128, .f32⟩
  | .hbm, ⟨3, _⟩ => ⟨S4096x128, .f32⟩
  | .hbm, ⟨4, _⟩ => ⟨S_, .f32⟩
  | .hbm, ⟨5, _⟩ => ⟨S128, .f32⟩
  | .hbm, ⟨6, _⟩ => ⟨S1x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== CumBwd.lean ====
abbrev S4096x128 : Shape := ⟨2, ![4096, 128]⟩
abbrev S512x128 : Shape := ⟨2, ![512, 128]⟩
abbrev S1x128 : Shape := ⟨2, ![1, 128]⟩
abbrev S512x512 : Shape := ⟨2, ![512, 512]⟩
abbrev S128 : Shape := ⟨1, ![128]⟩

abbrev nBuf : Space → Nat
  | .hbm => 4
  | .vmem => 9
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | .hbm, ⟨3, _⟩ => ⟨S4096x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CumBwdRefIdeal.lean ====
abbrev S4096x128 : Shape := ⟨2, ![4096, 128]⟩
abbrev S_ : Shape := ⟨0, ![]⟩

abbrev nBuf : Space → Nat
  | .hbm => 61
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | .hbm, ⟨3, _⟩ => ⟨S4096x128, .f32⟩
  | .hbm, ⟨4, _⟩ => ⟨S_, .f32⟩
  | .hbm, ⟨5, _⟩ => ⟨S4096x128, .f32⟩
  | .hbm, ⟨6, _⟩ => ⟨S4096x128, .f32⟩
  | .hbm, ⟨7, _⟩ => ⟨S4096x128, .f32⟩
  | .hbm, ⟨8, _⟩ => ⟨S4096x128, .f32⟩
  | .hbm, ⟨9, _⟩ => ⟨S4096x128, .i1⟩
  | .hbm, ⟨10, _⟩ => ⟨S4096x128, .f32⟩
  | .hbm, ⟨11, _⟩ => ⟨S4096x128, .f32⟩
  | .hbm, ⟨12, _⟩ => ⟨S4096x128, .f32⟩
  | .hbm, ⟨13, _⟩ => ⟨S4096x128, .f32⟩
  | .hbm, ⟨14, _⟩ => ⟨S4096x128, .f32⟩
  | .hbm, ⟨15, _⟩ => ⟨S4096x128, .f32⟩
  | .hbm, ⟨16, _⟩ => ⟨S4096x128, .f32⟩
  | .hbm, ⟨17, _⟩ => ⟨S4096x128, .f32⟩
  | .hbm, ⟨18, _⟩ => ⟨S_, .f32⟩
  | .hbm, ⟨19, _⟩ => ⟨S4096x128, .f32⟩
  | .hbm, ⟨20, _⟩ => ⟨S4096x128, .i1⟩
  | .hbm, ⟨21, _⟩ => ⟨S_, .f32⟩
  | .hbm, ⟨22, _⟩ => ⟨S4096x128, .f32⟩
  | .hbm, ⟨23, _⟩ => ⟨S4096x128, .f32⟩
  | .hbm, ⟨24, _⟩ => ⟨S_, .f32⟩
  | .hbm, ⟨25, _⟩ => ⟨S4096x128, .f32⟩
  | .hbm, ⟨26, _⟩ => ⟨S4096x128, .i1⟩
  | .hbm, ⟨27, _⟩ => ⟨S_, .f32⟩
  | .hbm, ⟨28, _⟩ => ⟨S4096x128, .f32⟩
  | .hbm, ⟨29, _⟩ => ⟨S4096x128, .f32⟩
  | .hbm, ⟨30, _⟩ => ⟨S4096x128, .f32⟩
  | .hbm, ⟨31, _⟩ => ⟨S4096x128, .f32⟩
  | .hbm, ⟨32, _⟩ => ⟨S_, .f32⟩
  | .hbm, ⟨33, _⟩ => ⟨S_, .f32⟩
  | .hbm, ⟨34, _⟩ => ⟨S_, .i1⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096x128, .f32⟩
  | .hbm, ⟨40, _⟩ => ⟨S4096x128, .i1⟩
  | .hbm, ⟨41, _⟩ => ⟨S_, .f32⟩
  | .hbm, ⟨42, _⟩ => ⟨S4096x128, .f32⟩
  | .hbm, ⟨43, _⟩ => ⟨S4096x128, .f32⟩
  | .hbm, ⟨44, _⟩ => ⟨S4096x128, .f32⟩
  | .hbm, ⟨45, _⟩ => ⟨S4096x128, .f32⟩
  | .hbm, ⟨46, _⟩ => ⟨S4096x128, .f32⟩
  | .hbm, ⟨47, _⟩ => ⟨S_, .f32⟩
  | .hbm, ⟨48, _⟩ => ⟨S4096x128, .f32⟩
  | .hbm, ⟨49, _⟩ => ⟨S4096x128, .f32⟩
  | .hbm, ⟨50, _⟩ => ⟨S4096x128, .f32⟩
  | .hbm, ⟨51, _⟩ => ⟨S_, .f32⟩
  | .hbm, ⟨52, _⟩ => ⟨S_, .f32⟩
  | .hbm, ⟨53, _⟩ => ⟨S4096x128, .f32⟩
  | .hbm, ⟨54, _⟩ => ⟨S4096x128, .f32⟩
  | .hbm, ⟨55, _⟩ => ⟨S_, .f32⟩
  | .hbm, ⟨56, _⟩ => ⟨S_, .f32⟩
  | .hbm, ⟨57, _⟩ => ⟨S4096x128, .f32⟩
  | .hbm, ⟨58, _⟩ => ⟨S4096x128, .f32⟩
  | .hbm, ⟨59, _⟩ => ⟨S4096x128, .f32⟩
  | .hbm, ⟨60, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_call0_cst : Ref sig .tc := ⟨.hbm, 4, rfl⟩
abbrev main_call0_call0_v0 : Ref sig .tc := ⟨.hbm, 5, rfl⟩
abbrev main_call0_call0_v1 : Ref sig .tc := ⟨.hbm, 6, rfl⟩
abbrev main_call0_call0_v2 : Ref sig .tc := ⟨.hbm, 7, rfl⟩
abbrev main_call0_call0_v3 : Ref sig .tc := ⟨.hbm, 8, rfl⟩
abbrev main_call0_call0_v4 : Ref sig .tc := ⟨.hbm, 9, rfl⟩
abbrev main_call0_call0_v5 : Ref sig .tc := ⟨.hbm, 10, rfl⟩
abbrev main_call0_call0_v6 : Ref sig .tc := ⟨.hbm, 11, rfl⟩
abbrev main_call0_call0_v7 : Ref sig .tc := ⟨.hbm, 12, rfl⟩
abbrev main_call0_call0_v8 : Ref sig .tc := ⟨.hbm, 13, rfl⟩
abbrev main_call0_call0_v9 : Ref sig .tc := ⟨.hbm, 14, rfl⟩
abbrev main_call0_call0_v10 : Ref sig .tc := ⟨.hbm, 15, rfl⟩
abbrev main_call0_call0_v11 : Ref sig .tc := ⟨.hbm, 16, rfl⟩
abbrev main_call0_v1_0 : Ref sig .tc := ⟨.hbm, 17, rfl⟩
abbrev main_call0_call0_cst_0 : Ref sig .tc := ⟨.hbm, 18, rfl⟩
abbrev main_call0_call0_v13 : Ref sig .tc := ⟨.hbm, 19, rfl⟩
abbrev main_call0_call0_v14 : Ref sig .tc := ⟨.hbm, 20, rfl⟩
abbrev main_call0_call0_cst_1 : Ref sig .tc := ⟨.hbm, 21, rfl⟩
abbrev main_call0_call0_v15 : Ref sig .tc := ⟨.hbm, 22, rfl⟩
abbrev main_call0_call0_v16 : Ref sig .tc := ⟨.hbm, 23, rfl⟩
abbrev main_call0_call0_cst_2 : Ref sig .tc := ⟨.hbm, 24, rfl⟩
abbrev main_call0_call0_v17 : Ref sig .tc := ⟨.hbm, 25, rfl⟩
abbrev main_call0_call0_v18 : Ref sig .tc := ⟨.hbm, 26, rfl⟩
abbrev main_call0_call0_cst_3 : Ref sig .tc := ⟨.hbm, 27, rfl⟩
abbrev main_call0_call0_v19 : Ref sig .tc := ⟨.hbm, 28, rfl⟩
abbrev main_call0_call0_v20 : Ref sig .tc := ⟨.hbm, 29, rfl⟩
abbrev main_call0_call0_v21 : Ref sig .tc := ⟨.hbm, 30, rfl⟩
abbrev main_v0_1 : Ref sig .tc := ⟨.hbm, 31, rfl⟩
abbrev main_call0_call0_cst_4 : Ref sig .tc := ⟨.hbm, 32, rfl⟩
abbrev main_call0_call0_cst_5 : Ref sig .tc := ⟨.hbm, 33, rfl⟩
abbrev main_call0_call0_v23 : Ref sig .tc := ⟨.hbm, 34, rfl⟩
abbrev main_call0_call0_cst_6 : Ref sig .tc := ⟨.hbm, 35, rfl⟩
abbrev main_call0_call0_cst_7 : Ref sig .tc := ⟨.hbm, 36, rfl⟩
abbrev main_call0_call0_v24 : Ref sig .tc := ⟨.hbm, 37, rfl⟩
abbrev main_call0_call0_cst_8 : Ref sig .tc := ⟨.hbm, 38, rfl⟩
abbrev main_call0_call0_v25 : Ref sig .tc := ⟨.hbm, 39, rfl⟩
abbrev main_call0_call0_v26 : Ref sig .tc := ⟨.hbm, 40, rfl⟩
abbrev main_call0_call0_cst_9 : Ref sig .tc := ⟨.hbm, 41, rfl⟩
abbrev main_call0_call0_v27 : Ref sig .tc := ⟨.hbm, 42, rfl⟩
abbrev main_call0_call0_v28 : Ref sig .tc := ⟨.hbm, 43, rfl⟩
abbrev main_call0_call0_v29 : Ref sig .tc := ⟨.hbm, 44, rfl⟩
abbrev main_call0_call0_v30 : Ref sig .tc := ⟨.hbm, 45, rfl⟩
abbrev main_call0_call0_v31 : Ref sig .tc := ⟨.hbm, 46, rfl⟩
abbrev main_call0_call0_cst_10 : Ref sig .tc := ⟨.hbm, 47, rfl⟩
abbrev main_call0_call0_v32 : Ref sig .tc := ⟨.hbm, 48, rfl⟩
abbrev main_v0_2 : Ref sig .tc := ⟨.hbm, 49, rfl⟩
abbrev main_v0_0 : Ref sig .tc := ⟨.hbm, 50, rfl⟩
abbrev main_call1_call0_cst : Ref sig .tc := ⟨.hbm, 51, rfl⟩
abbrev main_call1_call0_v0 : Ref sig .tc := ⟨.hbm, 52, rfl⟩
abbrev main_v1 : Ref sig .tc := ⟨.hbm, 53, rfl⟩
abbrev main_v2 : Ref sig .tc := ⟨.hbm, 54, rfl⟩
abbrev main_call2_call0_cst : Ref sig .tc := ⟨.hbm, 55, rfl⟩
abbrev main_call2_call0_v0 : Ref sig .tc := ⟨.hbm, 56, rfl⟩
abbrev main_v3 : Ref sig .tc := ⟨.hbm, 57, rfl⟩
abbrev main_call3_v0 : Ref sig .tc := ⟨.hbm, 58, rfl⟩
abbrev main_call3_v1 : Ref sig .tc := ⟨.hbm, 59, rfl⟩
abbrev main_v4 : Ref sig .tc := ⟨.hbm, 60, rfl⟩

abbrev nD : Nat := 1
abbrev τ : Topo := Topo.v7x

variable {F : FTy → Type} [FloatOps F]
-- ==== CumFwd.lean ====
abbrev S4096x128 : Shape := ⟨2, ![4096, 128]⟩
abbrev S512x128 : Shape := ⟨2, ![512, 128]⟩
abbrev S1x128 : Shape := ⟨2, ![1, 128]⟩
abbrev S512x512 : Shape := ⟨2, ![512, 512]⟩
abbrev S128 : Shape := ⟨1, ![128]⟩

abbrev nBuf : Space → Nat
  | .hbm => 2
  | .vmem => 5
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S1x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== CumFwdRefIdeal.lean ====
abbrev S4096x128 : Shape := ⟨2, ![4096, 128]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S_, .f32⟩
  | .hbm, ⟨3, _⟩ => ⟨S4096x128, .f32⟩
  | .hbm, ⟨4, _⟩ => ⟨S4096x128, .f32⟩
  | .hbm, ⟨5, _⟩ => ⟨S4096x128, .f32⟩
  | .hbm, ⟨6, _⟩ => ⟨S4096x128, .f32⟩
  | .hbm, ⟨7, _⟩ => ⟨S4096x128, .i1⟩
  | .hbm, ⟨8, _⟩ => ⟨S4096x128, .f32⟩
  | .hbm, ⟨9, _⟩ => ⟨S4096x128, .f32⟩
  | .hbm, ⟨10, _⟩ => ⟨S4096x128, .f32⟩
  | .hbm, ⟨11, _⟩ => ⟨S4096x128, .f32⟩
  | .hbm, ⟨12, _⟩ => ⟨S4096x128, .f32⟩
  | .hbm, ⟨13, _⟩ => ⟨S4096x128, .f32⟩
  | .hbm, ⟨14, _⟩ => ⟨S4096x128, .f32⟩
  | .hbm, ⟨15, _⟩ => ⟨S4096x128, .f32⟩
  | .hbm, ⟨16, _⟩ => ⟨S4096x128, .f32⟩
  | .hbm, ⟨17, _⟩ => ⟨S_, .f32⟩
  | .hbm, ⟨18, _⟩ => ⟨S_, .f32⟩
  | .hbm, ⟨19, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_call0_cst : Ref sig .tc := ⟨.hbm, 2, rfl⟩
abbrev main_call0_call0_v0 : Ref sig .tc := ⟨.hbm, 3, rfl⟩
abbrev main_call0_call0_v1 : Ref sig .tc := ⟨.hbm, 4, rfl⟩
abbrev main_call0_call0_v2 : Ref sig .tc := ⟨.hbm, 5, rfl⟩
abbrev main_call0_call0_v3 : Ref sig .tc := ⟨.hbm, 6, rfl⟩
abbrev main_call0_call0_v4 : Ref sig .tc := ⟨.hbm, 7, rfl⟩
abbrev main_call0_call0_v5 : Ref sig .tc := ⟨.hbm, 8, rfl⟩
abbrev main_call0_call0_v6 : Ref sig .tc := ⟨.hbm, 9, rfl⟩
abbrev main_call0_call0_v7 : Ref sig .tc := ⟨.hbm, 10, rfl⟩
abbrev main_call0_call0_v8 : Ref sig .tc := ⟨.hbm, 11, rfl⟩
abbrev main_call0_call0_v9 : Ref sig .tc := ⟨.hbm, 12, rfl⟩
abbrev main_call0_call0_v10 : Ref sig .tc := ⟨.hbm, 13, rfl⟩
abbrev main_call0_call0_v11 : Ref sig .tc := ⟨.hbm, 14, rfl⟩
abbrev main_call0_v1 : Ref sig .tc := ⟨.hbm, 15, rfl⟩
abbrev main_v0 : Ref sig .tc := ⟨.hbm, 16, rfl⟩
abbrev main_call1_call0_cst : Ref sig .tc := ⟨.hbm, 17, rfl⟩
abbrev main_call1_call0_v0 : Ref sig .tc := ⟨.hbm, 18, rfl⟩
abbrev main_v1 : Ref sig .tc := ⟨.hbm, 19, rfl⟩

abbrev nD : Nat := 1
abbrev τ : Topo := Topo.v7x

variable {F : FTy → Type} [FloatOps F]
-- ==== LossHead.lean ====
abbrev S4096x2048 : Shape := ⟨2, ![4096, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S8x128, .f32⟩
  | .hbm, ⟨3, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S8x128, .f32⟩
  | .local _ .vmem, ⟨5, _⟩ => ⟨S256x2048, .f32⟩
  | .local _ .vmem, ⟨6, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossHeadRefIdeal.lean ====
abbrev S4096x2048 : Shape := ⟨2, ![4096, 2048]⟩
abbrev S_ : Shape := ⟨0, ![]⟩
abbrev S4096 : Shape := ⟨1, ![4096]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x2048, .f32⟩
  | .hbm, ⟨24, _⟩ => ⟨S4096x2048, .f32⟩
  | .hbm, ⟨25, _⟩ => ⟨S8x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Adam.lean ====
abbrev S4x512x2048 : Shape := ⟨3, ![4, 512, 2048]⟩
abbrev S2048x2048 : Shape := ⟨2, ![2048, 2048]⟩
abbrev S128x2048 : Shape := ⟨2, ![128, 2048]⟩

abbrev nBuf : Space → Nat
  | .hbm => 14
  | .vmem => 14
  | .smem => 0
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x512x2048, .f32⟩
  | .hbm, ⟨3, _⟩ => ⟨S4x512x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S4x512x2048, .f32⟩
  | .hbm, ⟨12, _⟩ => ⟨S4x512x2048, .f32⟩
  | .hbm, ⟨13, _⟩ => ⟨S4x512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S4x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamRefIdeal.lean ====
abbrev S4x512x2048 : Shape := ⟨3, ![4, 512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x512x2048, .f32⟩
  | .hbm, ⟨3, _⟩ => ⟨S4x512x2048, .f32⟩
  | .hbm, ⟨4, _⟩ => ⟨S_, .f32⟩
  | .hbm, ⟨5, _⟩ => ⟨S4x512x2048, .f32⟩
  | .hbm, ⟨6, _⟩ => ⟨S4x512x2048, .f32⟩
  | .hbm, ⟨7, _⟩ => ⟨S_, .f32⟩
  | .hbm, ⟨8, _⟩ => ⟨S4x512x2048, .f32⟩
  | .hbm, ⟨9, _⟩ => ⟨S4x512x2048, .f32⟩
  | .hbm, ⟨10, _⟩ => ⟨S4x512x2048, .f32⟩
  | .hbm, ⟨11, _⟩ => ⟨S_, .f32⟩
  | .hbm, ⟨12, _⟩ => ⟨S4x512x2048, .f32⟩
  | .hbm, ⟨13, _⟩ => ⟨S4x512x2048, .f32⟩
  | .hbm, ⟨14, _⟩ => ⟨S4x512x2048, .f32⟩
  | .hbm, ⟨15, _⟩ => ⟨S_, .f32⟩
  | .hbm, ⟨16, _⟩ => ⟨S4x512x2048, .f32⟩
  | .hbm, ⟨17, _⟩ => ⟨S4x512x2048, .f32⟩
  | .hbm, ⟨18, _⟩ => ⟨S4x512x2048, .f32⟩
  | .hbm, ⟨19, _⟩ => ⟨S_, .f32⟩
  | .hbm, ⟨20, _⟩ => ⟨S4x512x2048, .f32⟩
  | .hbm, ⟨21, _⟩ => ⟨S4x512x2048, .f32⟩
  | .hbm, ⟨22, _⟩ => ⟨S_, .f32⟩
  | .hbm, ⟨23, _⟩ => ⟨S4x512x2048, .f32⟩
  | .hbm, ⟨24, _⟩ => ⟨S4x512x2048, .f32⟩
  | .hbm, ⟨25, _⟩ => ⟨S4x512x2048, .f32⟩
  | .hbm, ⟨26, _⟩ => ⟨S_, .f32⟩
  | .hbm, ⟨27, _⟩ => ⟨S4x512x2048, .f32⟩
  | .hbm, ⟨28, _⟩ => ⟨S4x512x2048, .f32⟩
  | .hbm, ⟨29, _⟩ => ⟨S4x512x2048, .f32⟩
  | .hbm, ⟨30, _⟩ => ⟨S_, .f32⟩
  | .hbm, ⟨31, _⟩ => ⟨S4x512x2048, .f32⟩
  | .hbm, ⟨32, _⟩ => ⟨S4x512x2048, .f32⟩
  | .hbm, ⟨33, _⟩ => ⟨S4x512x2048, .f32⟩
  | .hbm, ⟨34, _⟩ => ⟨S_, .f32⟩
  | .hbm, ⟨35, _⟩ => ⟨S4x512x2048, .f32⟩
  | .hbm, ⟨36, _⟩ => ⟨S4x512x2048, .f32⟩
  | _, _ => ⟨S4x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== ChipSum.lean ====
abbrev S4x944x2048 : Shape := ⟨3, ![4, 944, 2048]⟩
abbrev S944x2048 : Shape := ⟨2, ![944, 2048]⟩
abbrev S4x16x2048 : Shape := ⟨3, ![4, 16, 2048]⟩
abbrev S16x2048 : Shape := ⟨2, ![16, 2048]⟩
abbrev S1x16x2048 : Shape := ⟨3, ![1, 16, 2048]⟩

abbrev nBuf : Space → Nat
  | .hbm => 2
  | .vmem => 4
  | .smem => 0
  | _ => 0

abbrev bufTy : (tb : Table) → Fin (tcTables nBuf tb) → BufTy
  | .hbm, ⟨0, _⟩ => ⟨S4x944x2048, .bf16⟩
  | .hbm, ⟨1, _⟩ => ⟨S944x2048, .f32⟩
  | .local _ .vmem, ⟨0, _⟩ => ⟨S4x16x2048, .bf16⟩
  | .local _ .vmem, ⟨1, _⟩ => ⟨S4x16x2048, .bf16⟩
  | .local _ .vmem, ⟨2, _⟩ => ⟨S16x2048, .f32⟩
  | .local _ .vmem, ⟨3, _⟩ => ⟨S16x2048, .f32⟩
  | _, _ => ⟨S4x944x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![59], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x16x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ChipSumRefIdeal.lean ====
abbrev S4x944x2048 : Shape := ⟨3, ![4, 944, 2048]⟩
abbrev S_ : Shape := ⟨0, ![]⟩
abbrev S944x2048 : Shape := ⟨2, ![944, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4x944x2048, .bf16⟩
  | .hbm, ⟨1, _⟩ => ⟨S4x944x2048, .f32⟩
  | .hbm, ⟨2, _⟩ => ⟨S_, .f32⟩
  | .hbm, ⟨3, _⟩ => ⟨S944x2048, .f32⟩
  | _, _ => ⟨S4x944x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== PairSum.lean ====
abbrev S4x944x2048 : Shape := ⟨3, ![4, 944, 2048]⟩
abbrev S3776x2048 : Shape := ⟨2, ![3776, 2048]⟩
abbrev S64x2048 : Shape := ⟨2, ![64, 2048]⟩

abbrev nBuf : Space → Nat
  | .hbm => 6
  | .vmem => 6
  | .smem => 0
  | _ => 0

abbrev bufTy : (tb : Table) → Fin (tcTables nBuf tb) → BufTy
  | .hbm, ⟨0, _⟩ => ⟨S4x944x2048, .f32⟩
  | .hbm, ⟨1, _⟩ => ⟨S4x944x2048, .f32⟩
  | .hbm, ⟨2, _⟩ => ⟨S3776x2048, .f32⟩
  | .hbm, ⟨3, _⟩ => ⟨S3776x2048, .f32⟩
  | .hbm, ⟨4, _⟩ => ⟨S3776x2048, .bf16⟩
  | .hbm, ⟨5, _⟩ => ⟨S4x944x2048, .bf16⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .bf16⟩
  | .local _ .vmem, ⟨5, _⟩ => ⟨S64x2048, .bf16⟩
  | _, _ => ⟨S4x944x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![59], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PairSumRefIdeal.lean ====
abbrev S4x944x2048 : Shape := ⟨3, ![4, 944, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4x944x2048, .f32⟩
  | .hbm, ⟨1, _⟩ => ⟨S4x944x2048, .f32⟩
  | .hbm, ⟨2, _⟩ => ⟨S4x944x2048, .f32⟩
  | .hbm, ⟨3, _⟩ => ⟨S4x944x2048, .bf16⟩
  | _, _ => ⟨S4x944x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Terms.lean ====
/-
  The attention of the reference, operation by operation, as functions of the three argument arrays: the masked logits,
  their row maxima, the exponentials, the row sums, the gradient of the probabilities and the gradient of the logits.
  The reference's results are these terms (`dk_eq`, `dv_eq`, `dc_eq`), and so are the output and the log-sums that the
  kernel's host code computes (module `Saved`).
-/
module

public import proofs.«01_k».proof.Proof.Gen.FoxKvRefIdeal.Run
public import Idealize.ShloMosaic.PureOps.Ideal
public import Idealize.ShloMosaic.Lib.Pointwise

@[expose] public section

set_option maxRecDepth 16384

noncomputable section

namespace Cert.Fox

open Cert.FoxKvRefIdeal Cert.FoxKvRefIdeal.Gen Idealize.ShloMosaic Idealize.ShloMosaic.TcCoe Idealize.SL.Sem Idealize.ShloMosaic.StableHlo

/-- The projections of one device, float 32 of shape 4096 × 15360. -/
abbrev Proj := FVec Ideal S4096x15360 .f32
/-- The running gate sums, 4096 × 8. -/
abbrev Gate := FVec Ideal S4096x8 .f32
/-- The gradient with respect to the attention's output, 4096 × 1024. -/
abbrev Cot := FVec Ideal S4096x1024 .f32
/-- One scalar per head, query and key. -/
abbrev Score := FVec Ideal S8x4096x4096 .f32
/-- One scalar per head and row. -/
abbrev Row := FVec Ideal S8x4096 .f32

variable (x : Proj) (g : Gate) (d : Cot)

/-- The first 3072 columns of the projections. -/
def cut3 : FVec Ideal S4096x3072 .f32 := extractStridedSlice S4096x3072 ![0, 0] x slices_S4096x15360_S4096x3072_0_0
/-- The queries: position, head, lane. -/
def qs : FVec Ideal S4096x8x128 .f32 :=
  shapeCast _ (extractStridedSlice S4096x1024 ![0, 0] (cut3 x) slices_S4096x3072_S4096x1024_0_0) shapeCasts_S4096x1024_S4096x8x128
/-- The keys. -/
def ks : FVec Ideal S4096x8x128 .f32 :=
  shapeCast _ (extractStridedSlice S4096x1024 ![0, 1024] (cut3 x) slices_S4096x3072_S4096x1024_0_1024) shapeCasts_S4096x1024_S4096x8x128
/-- The values. -/
def vs : FVec Ideal S4096x8x128 .f32 :=
  shapeCast _ (extractStridedSlice S4096x1024 ![0, 2048] (cut3 x) slices_S4096x3072_S4096x1024_0_2048) shapeCasts_S4096x1024_S4096x8x128
/-- The gradient of the output: head, lane, position. -/
def cots : FVec Ideal S8x128x4096 .f32 :=
  transpose S8x128x4096 [1, 2, 0] (shapeCast _ d shapeCasts_S4096x1024_S4096x8x128) transposes_S4096x8x128_S8x128x4096_1_2_0

/-- Which keys a query sees: those that are not later. -/
def seen : IVec S8x4096x4096 1 :=
  broadcastInDim S8x4096x4096 ![1, 2] bcast_S4096x4096_S8x4096x4096_1_2 (cmpi .sge (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0))))

/-- The logits before the mask. -/
def scores : Score :=
  subf (addf (mulf (Host.dotGeneral dot_S4096x8x128_S4096x8x128_S8x4096x4096_2_2_0_0_1_1 none (qs x) (ks x)) (broadcastInDim S8x4096x4096 ![] bcast_S_S8x4096x4096 (constant S_ .f32 0x3DB504F3#32))) (broadcastInDim S8x4096x4096 ![0, 1, 2] bcast_S8x4096x1_S8x4096x4096_0_1_2 (broadcastInDim S8x4096x1 ![0, 1] bcast_S8x4096_S8x4096x1_0_1 (transpose S8x4096 [1, 0] g transposes_S4096x8_S8x4096_1_0)))) (broadcastInDim S8x4096x4096 ![0, 1, 2] bcast_S8x1x4096_S8x4096x4096_0_1_2 (broadcastInDim S8x1x4096 ![0, 2] bcast_S8x4096_S8x1x4096_0_2 (transpose S8x4096 [1, 0] g transposes_S4096x8_S8x4096_1_0)))

/-- The logits, minus infinity at a key that the query does not see. -/
def logits : Score :=
  select seen (scores x g) (broadcastInDim S8x4096x4096 ![] bcast_S_S8x4096x4096 (id (constant S_ .f32 0xFF800000#32)))

/-- The largest logit of a row. -/
def most (l : Score) : Row :=
  Host.reduce FloatOps.maximumf l (constant S_ .f32 0xFF800000#32) reducesTo_S8x4096x4096_S8x4096_d2 h_S_

/-- The exponentials of the logits less a row's number. -/
def exps (l : Score) (r : Row) : Score :=
  Host.exp (subf l (broadcastInDim S8x4096x4096 ![0, 1, 2] bcast_S8x4096x1_S8x4096x4096_0_1_2 (broadcastInDim S8x4096x1 ![0, 1] bcast_S8x4096_S8x4096x1_0_1 r)))

/-- The sum of a row, over the keys. -/
def total (e : Score) : Row :=
  Host.reduceAdd e (constant S_ .f32 0x00000000#32) reducesTo_S8x4096x4096_S8x4096_d2 h_S_

/-- A row's number bounded below by minus infinity, as the reference bounds its row maximum once more. -/
def bounded (r : Row) : Row := maximumf (broadcastInDim S8x4096 ![] bcast_S_S8x4096 (constant S_ .f32 0xFF800000#32)) r

/-- The quotients by the row sums. -/
def probs (e : Score) (z : Row) : Score :=
  Host.divf e (broadcastInDim S8x4096x4096 ![0, 1, 2] bcast_S8x4096x1_S8x4096x4096_0_1_2 (broadcastInDim S8x4096x1 ![0, 1] bcast_S8x4096_S8x4096x1_0_1 z))

/-- The gradient of the probabilities: the output's gradient at the query times the key's value. -/
def dprobs : Score := Host.dotGeneral dot_S8x128x4096_S4096x8x128_S8x4096x4096_1_2_2_0_0_1 none (cots d) (vs x)

/-- The gradient of the row sums: minus the sum over the keys of gradient times exponential, over the square of the sum. -/
def dtotal (dp e : Score) (z : Row) : Row :=
  Host.reduceAdd (Host.negf (shapeCast S8x4096x1 (total (mulf (mulf dp (broadcastInDim S8x4096x4096 ![0, 1, 2] bcast_S8x4096x1_S8x4096x4096_0_1_2 (Host.divf (broadcastInDim S8x4096x1 ![] bcast_S_S8x4096x1 (constant S_ .f32 0x3F800000#32)) (mulf (broadcastInDim S8x4096x1 ![0, 1] bcast_S8x4096_S8x4096x1_0_1 z) (broadcastInDim S8x4096x1 ![0, 1] bcast_S8x4096_S8x4096x1_0_1 z))))) e)) shapeCasts_S8x4096_S8x4096x1)) (constant S_ .f32 0x00000000#32) reducesTo_S8x4096x1_S8x4096_d2 h_S_

/-- The gradient of the logits before the mask: gradient over the row sum, plus the row sum's gradient, times the exponential. -/
def dscores (dp e : Score) (z : Row) : Score :=
  mulf (addf (Host.divf dp (broadcastInDim S8x4096x4096 ![0, 1, 2] bcast_S8x4096x1_S8x4096x4096_0_1_2 (broadcastInDim S8x4096x1 ![0, 1] bcast_S8x4096_S8x4096x1_0_1 z))) (broadcastInDim S8x4096x4096 ![0, 1] bcast_S8x4096_S8x4096x4096_0_1 (dtotal dp e z))) e

/-- The gradient of the logits, zero where the mask is. -/
def dlogits (ds : Score) : Score :=
  select seen ds (broadcastInDim S8x4096x4096 ![] bcast_S_S8x4096x4096 (constant S_ .f32 0x00000000#32))

/-- The gradient of the keys. -/
def dk (ds : Score) : FVec Ideal S4096x1024 .f32 :=
  shapeCast _ (transpose S4096x8x128 [1, 0, 2] (Host.dotGeneral dot_S8x4096x4096_S4096x8x128_S8x4096x128_1_0_2_2_0_1 none (mulf ds (broadcastInDim S8x4096x4096 ![] bcast_S_S8x4096x4096 (constant S_ .f32 0x3DB504F3#32))) (qs x)) transposes_S8x4096x128_S4096x8x128_1_0_2) shapeCasts_S4096x8x128_S4096x1024

/-- The gradient of the values. -/
def dv (p : Score) : FVec Ideal S4096x1024 .f32 :=
  shapeCast _ (transpose S4096x8x128 [2, 0, 1] (Host.dotGeneral dot_S8x128x4096_S8x4096x4096_S8x128x4096_2_1_1_2_0_0 none (cots d) p) transposes_S8x128x4096_S4096x8x128_2_0_1) shapeCasts_S4096x8x128_S4096x1024

/-- The gradient of the key-side gate sums. -/
def dc (ds : Score) : FVec Ideal S8x1x4096 .f32 :=
  broadcastInDim S8x1x4096 ![0, 2] bcast_S8x4096_S8x1x4096_0_2 (transpose S8x4096 [1, 0] (transpose S4096x8 [1, 0] (Host.reduceAdd (shapeCast S8x1x4096 (Host.reduceAdd (Host.negf ds) (constant S_ .f32 0x00000000#32) reducesTo_S8x4096x4096_S8x4096_d1 h_S_) shapeCasts_S8x4096_S8x1x4096) (constant S_ .f32 0x00000000#32) reducesTo_S8x1x4096_S8x4096_d1 h_S_) transposes_S8x4096_S4096x8_1_0) transposes_S4096x8_S8x4096_1_0)

/-- The reference's exponentials. -/
def refExps : Score := exps (logits x g) (bounded (most (logits x g)))
/-- The reference's gradient of the logits. -/
def refDlogits : Score := dlogits (dscores (dprobs x d) (refExps x g) (total (refExps x g)))

variable (m : (ℓ : Loc nD τ sig) → Buf (Elt Ideal) ℓ) (c : Dev nD)

/-- The reference's first result is `dk` of its arguments. -/
theorem dk_eq : Cert.FoxKvRefIdeal.Value.res_out0 m c = dk (m ((c.tc : Thread nD τ).loc main_arg0))
    (refDlogits (m ((c.tc : Thread nD τ).loc main_arg0)) (m ((c.tc : Thread nD τ).loc main_arg1)) (m ((c.tc : Thread nD τ).loc main_arg2))) := rfl

/-- The reference's second result is `dv` of its arguments. -/
theorem dv_eq : Cert.FoxKvRefIdeal.Value.res_out1 m c = dv (m ((c.tc : Thread nD τ).loc main_arg2))
    (probs (refExps (m ((c.tc : Thread nD τ).loc main_arg0)) (m ((c.tc : Thread nD τ).loc main_arg1)))
      (total (refExps (m ((c.tc : Thread nD τ).loc main_arg0)) (m ((c.tc : Thread nD τ).loc main_arg1))))) := rfl

/-- The reference's third result is `dc` of its arguments. -/
theorem dc_eq : Cert.FoxKvRefIdeal.Value.res_out2 m c = dc
    (refDlogits (m ((c.tc : Thread nD τ).loc main_arg0)) (m ((c.tc : Thread nD τ).loc main_arg1)) (m ((c.tc : Thread nD τ).loc main_arg2))) := rfl

end Cert.Fox

end
-- ==== Proof.Model.lean ====
/-
  The forgetting attention and its gradient over the real numbers: no program, only the formulas that the reference and the
  kernel are both shown to compute, and the two identities between their different ways of writing them.
-/
module

public import Mathlib.Analysis.SpecialFunctions.Log.Basic
public import Mathlib.Data.EReal.Operations
public import Mathlib.Algebra.BigOperators.Fin
public import Mathlib.Algebra.BigOperators.Field
public import Mathlib.Tactic.FieldSimp

@[expose] public section

noncomputable section

namespace Cert.Fox

/-- Queries, keys, values and the output's gradient per head, position and lane; the gate sums per head and position; the scale
    of the logits; a number per row that is taken off the logits before the exponential. -/
structure Data where
  q : Fin 8 → Fin 4096 → Fin 128 → ℝ
  k : Fin 8 → Fin 4096 → Fin 128 → ℝ
  v : Fin 8 → Fin 4096 → Fin 128 → ℝ
  g : Fin 8 → Fin 4096 → Fin 128 → ℝ
  c : Fin 8 → Fin 4096 → ℝ
  scale : ℝ
  top : Fin 8 → Fin 4096 → ℝ

namespace Data

variable (A : Data) (h : Fin 8) (i j : Fin 4096) (l : Fin 128)

/-- The logit of a query and a key. -/
def score : ℝ := (∑ l, A.q h i l * A.k h j l) * A.scale + A.c h i - A.c h j
/-- The exponential, zero at a key that the query does not see. -/
def expo : ℝ := if j ≤ i then Real.exp (A.score h i j - A.top h i) else 0
/-- The sum of a row. -/
def sum : ℝ := ∑ j, A.expo h i j
/-- The attention's probability. -/
def prob : ℝ := A.expo h i j / A.sum h i
/-- The attention's output. -/
def out : ℝ := ∑ j, A.v h j l * A.prob h i j
/-- The gradient of a probability. -/
def dprob : ℝ := ∑ l, A.g h i l * A.v h j l
/-- The probabilities' mean of their gradients. -/
def mean : ℝ := ∑ j, A.prob h i j * A.dprob h i j
/-- The gradient of a logit. -/
def dscore : ℝ := A.prob h i j * (A.dprob h i j - A.mean h i)

/-- The query at its own position makes the sum of a row positive. -/
theorem sum_pos : 0 < A.sum h i := by
  refine Finset.sum_pos' (fun j _ => ?_) ⟨i, Finset.mem_univ _, ?_⟩
  · unfold expo; split
    · exact (Real.exp_pos _).le
    · exact le_rfl
  · unfold expo; rw [if_pos le_rfl]; exact Real.exp_pos _

/-- A later key has no share in the probabilities. -/
theorem prob_of_lt (hij : i < j) : A.prob h i j = 0 := by
  unfold prob expo; rw [if_neg (not_le.mpr hij), zero_div]

/-- A later key's logit has no gradient. -/
theorem dscore_of_lt (hij : i < j) : A.dscore h i j = 0 := by
  unfold dscore; rw [A.prob_of_lt h i j hij, zero_mul]

/-- The exponential of the logit less the logarithm of the whole row's sum is the probability. -/
theorem exp_sub_log (hij : j ≤ i) :
    Real.exp (A.score h i j - (A.top h i + Real.log (A.sum h i))) = A.prob h i j := by
  unfold prob expo
  rw [if_pos hij, ← sub_sub, Real.exp_sub, Real.exp_log (A.sum_pos h i)]

/-- The output times its gradient, summed over the lanes, is the probabilities' mean of their gradients. -/
theorem sum_out_mul : ∑ l, A.out h i l * A.g h i l = A.mean h i := by
  unfold out mean dprob
  simp only [Finset.sum_mul, Finset.mul_sum]
  rw [Finset.sum_comm]
  exact Finset.sum_congr rfl fun j _ => Finset.sum_congr rfl fun l _ => by ring

/-- The gradient of the quotient of exponential and sum, written by the rule for quotients, is the gradient of the logit. -/
theorem quotient_rule :
    (A.dprob h i j / A.sum h i + -∑ j, A.dprob h i j * (1 / (A.sum h i * A.sum h i)) * A.expo h i j) * A.expo h i j
      = A.dscore h i j := by
  have hz := (A.sum_pos h i).ne'
  have hm : ∑ j, A.dprob h i j * (1 / (A.sum h i * A.sum h i)) * A.expo h i j = A.mean h i / A.sum h i := by
    unfold mean prob
    rw [Finset.sum_div]
    exact Finset.sum_congr rfl fun j _ => by field_simp
  rw [hm]
  unfold dscore prob
  field_simp
  ring

end Data

end Cert.Fox

end
-- ==== Proof.Host.lean ====
/-
  The operations of module `Terms` read at an index: over finite arguments each of them is the formula of module `Model`.
-/
module

public import proofs.«01_k».proof.Proof.Terms
public import proofs.«01_k».proof.Proof.Model
public import Idealize.ShloMosaic.Lib.WordCmp

@[expose] public section

set_option maxRecDepth 16384

noncomputable section

namespace Cert.Fox

open Cert.FoxKvRefIdeal Cert.FoxKvRefIdeal.Gen Idealize.ShloMosaic

/-- A finite sum of real numbers is the same sum of extended real numbers. -/
theorem coe_sum {ι : Type*} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

/-- An extended real that is a real number equals its real part. -/
theorem coe_toReal_of {a : EReal} (h : ∃ r : ℝ, a = r) : (a.toReal : EReal) = a := by
  obtain ⟨r, rfl⟩ := h; rfl

/-- The quotient of two real numbers, the second not zero. -/
theorem div_real (a : ℝ) {b : ℝ} (hb : b ≠ 0) : Ideal.div (a : EReal) (b : EReal) = ((a / b : ℝ) : EReal) := by
  rw [Ideal.div_coe hb, ← EReal.coe_mul, mul_one_div]

/-- The largest of finitely many extended reals that are real or minus infinity, one of them real, is real. -/
theorem fold_max_real {ι : Type*} [Fintype ι] (f : ι → EReal) (hf : ∀ i, f i = ⊥ ∨ ∃ r : ℝ, f i = r) (i : ι) (hi : ∃ r : ℝ, f i = r) :
    ∃ r : ℝ, Finset.univ.fold max ⊥ f = r := by
  have hlt : Finset.univ.fold max ⊥ f < ⊤ := by
    rw [Finset.fold_max_lt]
    exact ⟨bot_lt_top, fun j _ => (hf j).elim (fun e => e ▸ bot_lt_top) fun ⟨r, e⟩ => e ▸ EReal.coe_lt_top r⟩
  have hgt : ⊥ < Finset.univ.fold max ⊥ f := by
    obtain ⟨r, e⟩ := hi
    exact lt_of_lt_of_le (e ▸ EReal.bot_lt_coe r) (Finset.le_fold_max _ |>.mpr (Or.inr ⟨i, Finset.mem_univ _, le_rfl⟩))
  exact ⟨_, (EReal.coe_toReal hlt.ne hgt.ne').symm⟩

/-- The scale of the logits as a real number. -/
def scale : ℝ := (Ideal.ofBits .f32 0x3DB504F3#32).toReal

/-- The constant the programs multiply the logits by is a real number. -/
theorem ofBits_scale : Ideal.ofBits .f32 0x3DB504F3#32 = (scale : EReal) := by
  refine (coe_toReal_of ?_).symm
  simp [Ideal.ofBits, Ideal.ieee, -EReal.coe_mul]

/-- The constant minus infinity. -/
theorem ofBits_bot : Ideal.ofBits .f32 0xFF800000#32 = ⊥ := by
  simp [Ideal.ofBits, Ideal.ieee]

variable (x : Proj) (g : Gate) (d : Cot)

/-- The arguments are finite: the first 3072 columns of the projections, the gate sums and the output's gradient. -/
structure Fin3 : Prop where
  proj : ∀ (i : Fin 4096) (j : Fin 15360), j.val < 3072 → ∃ r : ℝ, x (ix2 i j) = r
  gate : ∀ (i : Fin 4096) (j : Fin 8), ∃ r : ℝ, g (ix2 i j) = r
  cot : ∀ (i : Fin 4096) (j : Fin 1024), ∃ r : ℝ, d (ix2 i j) = r

/-- The column of the projections that holds lane `l` of head `h` in part `b`: 0 the queries, 1 the keys, 2 the values. -/
def col (b : Fin 3) (h : Fin 8) (l : Fin 128) : Fin 15360 := ⟨1024 * b.val + (h.val * 128 + l.val), by omega⟩

/-- The column of the output's gradient that holds lane `l` of head `h`. -/
def lane (h : Fin 8) (l : Fin 128) : Fin 1024 := ⟨h.val * 128 + l.val, by omega⟩

/-- The arguments hold the real numbers `A`, and `A`'s scale is the programs' constant. -/
structure Reads (A : Data) : Prop where
  at_q : ∀ h i l, x (ix2 i (col 0 h l)) = (A.q h i l : EReal)
  at_k : ∀ h i l, x (ix2 i (col 1 h l)) = (A.k h i l : EReal)
  at_v : ∀ h i l, x (ix2 i (col 2 h l)) = (A.v h i l : EReal)
  at_g : ∀ h i l, d (ix2 i (lane h l)) = (A.g h i l : EReal)
  at_c : ∀ h i, g (ix2 i h) = (A.c h i : EReal)
  at_scale : Ideal.ofBits .f32 0x3DB504F3#32 = (A.scale : EReal)

/-- As `Reads`, and the number taken off a row's logits is their maximum. -/
structure Holds (A : Data) : Prop extends Reads x g d A where
  at_top : ∀ h i, most (logits x g) (ix2 h i) = (A.top h i : EReal)

/-- The host's mask reads two positions: the first of two values where the key is not later than the query. -/
theorem select_sge {α : Type} {n : ℕ} (hn : n ≤ 2 ^ 31) (i j : Fin n) (a b : α) :
    Scalar.select (IntOp.cmpi .sge (BitVec.ofNat 32 i.val) (BitVec.ofNat 32 j.val)) a b = if j ≤ i then a else b := by
  rw [WordCmp.cmpi_sge_ofNat (by omega) (by omega)]
  by_cases hij : j ≤ i
  · rw [if_pos hij, decide_eq_true (Fin.le_def.mp hij)]; rfl
  · rw [if_neg hij, decide_eq_false (fun e => hij (Fin.le_def.mpr e))]; rfl

section reads

variable {x g d} {A : Data} (H : Reads x g d A) (h : Fin 8) (i j : Fin 4096) (l : Fin 128)
include H

theorem qs_at : qs x (ix3 i h l) = (A.q h i l : EReal) := by
  rw [← H.at_q]; pointwise [qs, cut3]; congr 2; simp [col]
theorem ks_at : ks x (ix3 i h l) = (A.k h i l : EReal) := by
  rw [← H.at_k]; pointwise [ks, cut3]; congr 2
theorem vs_at : vs x (ix3 i h l) = (A.v h i l : EReal) := by
  rw [← H.at_v]; pointwise [vs, cut3]; congr 2
theorem cots_at : cots d (ix3 h l i) = (A.g h i l : EReal) := by
  rw [← H.at_g]; pointwise [cots]; congr 2

/-- The logit before the mask is a real number. -/
theorem scores_at : scores x g (ix3 h i j) = (A.score h i j : EReal) := by
  pointwise [scores]
  simp only [qs_at H, ks_at H, H.at_c, H.at_scale, ← EReal.coe_mul, ← coe_sum, ← EReal.coe_add, ← EReal.coe_sub]
  rfl

/-- A logit is real where the query sees the key and minus infinity elsewhere. -/
theorem logits_at : logits x g (ix3 h i j) = if j ≤ i then (A.score h i j : EReal) else ⊥ := by
  pointwise [logits, seen]
  rw [select_sge (by norm_num), scores_at H]
  simp only [id, constant, Ideal.ofBits_def, ofBits_bot]

/-- The largest logit of a row is a real number. -/
theorem most_real : ∃ r : ℝ, most (logits x g) (ix2 h i) = r := by
  pointwise [most]
  rw [ofBits_bot]
  refine fold_max_real _ (fun j => ?_) i ?_
  · rw [logits_at H]; split
    · exact Or.inr ⟨_, rfl⟩
    · exact Or.inl rfl
  · exact ⟨_, (logits_at H h i i).trans (if_pos le_rfl)⟩

end reads

/-- Finite arguments hold real numbers. -/
theorem exists_data (H : Fin3 x g d) : ∃ A, Holds x g d A := by
  have hc : ∀ b h i l, ∃ r : ℝ, x (ix2 i (col b h l)) = r := fun b h i l => H.proj _ _ (by simp only [col]; omega)
  choose f hf using hc
  choose u hu using fun h i l => H.cot i (lane h l)
  choose c hc using fun h i => H.gate i h
  have R : ∀ top, Reads x g d ⟨f 0, f 1, f 2, u, c, scale, top⟩ := fun top =>
    ⟨hf 0, hf 1, hf 2, hu, hc, ofBits_scale⟩
  choose top htop using most_real (R fun _ _ => 0)
  exact ⟨_, R top, htop⟩

variable {x g d} {A : Data} (H : Holds x g d A) (h : Fin 8) (i j : Fin 4096) (l : Fin 128)
include H

/-- The reference's row maximum is the same number. -/
theorem bounded_at : bounded (most (logits x g)) (ix2 h i) = (A.top h i : EReal) := by
  have e : ∀ r : Row, bounded r (ix2 h i) = r (ix2 h i) := fun r => by
    pointwise [bounded]
    rw [ofBits_bot, max_bot_left]
  rw [e, H.at_top]

/-- The exponentials, for whichever of the two row maxima. -/
theorem exps_at (r : Row) (hr : ∀ h i, r (ix2 h i) = (A.top h i : EReal)) :
    exps (logits x g) r (ix3 h i j) = (A.expo h i j : EReal) := by
  pointwise [exps]
  rw [logits_at H.toReads, hr]
  unfold Data.expo
  split
  · rw [← EReal.coe_sub, Ideal.exp_coe]
  · rw [EReal.bot_sub, Ideal.exp_bot, EReal.coe_zero]

/-- The row sums of the exponentials. -/
theorem total_at (e : Score) (he : ∀ h i j, e (ix3 h i j) = (A.expo h i j : EReal)) :
    total e (ix2 h i) = (A.sum h i : EReal) := by
  pointwise [total]
  simp only [he, ← coe_sum]
  rfl

/-- The probabilities. -/
theorem probs_at (e : Score) (z : Row) (he : ∀ h i j, e (ix3 h i j) = (A.expo h i j : EReal))
    (hz : ∀ h i, z (ix2 h i) = (A.sum h i : EReal)) :
    probs e z (ix3 h i j) = (A.prob h i j : EReal) := by
  pointwise [probs]
  rw [he, hz, div_real _ (A.sum_pos h i).ne']
  rfl

/-- The gradient of the probabilities. -/
theorem dprobs_at : dprobs x d (ix3 h i j) = (A.dprob h i j : EReal) := by
  pointwise [dprobs]
  simp only [cots_at H.toReads, vs_at H.toReads, ← EReal.coe_mul, ← coe_sum]
  rfl

theorem refExps_at : refExps x g (ix3 h i j) = (A.expo h i j : EReal) :=
  exps_at H h i j _ (bounded_at H)

theorem refTotal_at : total (refExps x g) (ix2 h i) = (A.sum h i : EReal) :=
  total_at H h i _ (refExps_at H)

/-- The reference's gradient of the logits. -/
theorem refDlogits_at : refDlogits x g d (ix3 h i j) = (A.dscore h i j : EReal) := by
  have hs : dscores (dprobs x d) (refExps x g) (total (refExps x g)) (ix3 h i j) = (A.dscore h i j : EReal) := by
    rw [← Data.quotient_rule]
    have hz := (Data.sum_pos A h i).ne'
    pointwise [dscores, dtotal]
    have e : ∀ z : Row, total (mulf (mulf (dprobs x d) (broadcastInDim S8x4096x4096 ![0, 1, 2] bcast_S8x4096x1_S8x4096x4096_0_1_2 (Host.divf (broadcastInDim S8x4096x1 ![] bcast_S_S8x4096x1 (constant S_ .f32 0x3F800000#32)) (mulf (broadcastInDim S8x4096x1 ![0, 1] bcast_S8x4096_S8x4096x1_0_1 z) (broadcastInDim S8x4096x1 ![0, 1] bcast_S8x4096_S8x4096x1_0_1 z))))) (refExps x g)) (ix2 h i)
        = ∑ j, dprobs x d (ix3 h i j) * Ideal.div 1 (z (ix2 h i) * z (ix2 h i)) * refExps x g (ix3 h i j) := by
      intro z; pointwise [total]
    rw [e]
    rw [refTotal_at H]
    simp only [dprobs_at H, refExps_at H, ← EReal.coe_mul, ← EReal.coe_one, div_real _ hz, div_real _ (mul_ne_zero hz hz), ← coe_sum, ← EReal.coe_neg, ← EReal.coe_add, Finset.univ_unique, Finset.sum_singleton]
  pointwise [refDlogits, dlogits, seen]
  rw [select_sge (by norm_num), hs]
  split
  · rfl
  · rw [Data.dscore_of_lt _ _ _ _ (not_le.mp ‹_›), EReal.coe_zero]

/-- The reference's first result. -/
theorem dk_at (l : Fin 128) : dk x (refDlogits x g d) (ix2 j (lane h l))
    = ((∑ i, A.dscore h i j * A.scale * A.q h i l : ℝ) : EReal) := by
  have hh : (lane h l).val / 128 = h.val := by simp only [lane]; omega
  have hl : (lane h l).val % 128 = l.val := by simp only [lane]; omega
  pointwise [dk]
  simp only [hh, hl, Fin.eta, refDlogits_at H, qs_at H.toReads, H.at_scale, ← EReal.coe_mul, ← coe_sum]

/-- The reference's second result. -/
theorem dv_at (l : Fin 128) : dv d (probs (refExps x g) (total (refExps x g))) (ix2 j (lane h l))
    = ((∑ i, A.g h i l * A.prob h i j : ℝ) : EReal) := by
  have hh : (lane h l).val / 128 = h.val := by simp only [lane]; omega
  pointwise [dv, cots]
  simp only [hh, Fin.eta, H.at_g, probs_at H _ _ _ _ _ (refExps_at H) (refTotal_at H), ← EReal.coe_mul, ← coe_sum]

/-- The reference's third result. -/
theorem dc_at (z : Fin 1) : dc (refDlogits x g d) (ix3 h z j) = ((∑ i, -A.dscore h i j : ℝ) : EReal) := by
  pointwise [dc]
  simp only [refDlogits_at H, ← EReal.coe_neg, ← coe_sum, Finset.univ_unique, Finset.sum_singleton]

end Cert.Fox

end
-- ==== Proof.Tile.lean ====
/-
  One tile of the kernel: 1024 queries against 1024 keys of one head. Over blocks that hold real numbers, the kernel's
  terms are the formulas of module `Model` at the tile's rows.
-/
module

public import proofs.«01_k».proof.Proof.Host
public import proofs.«01_k».proof.Proof.Gen.FoxKvIdeal.Skeleton

@[expose] public section

set_option maxRecDepth 16384

noncomputable section

namespace Cert.Fox

open Cert.FoxKvIdeal Cert.FoxKvIdeal.Gen Idealize.ShloMosaic

/-- Row `r` of the `n`-th of the four stretches of 1024 positions. -/
def row (n : Fin 4) (r : Fin 1024) : Fin 4096 := ⟨1024 * n.val + r.val, by omega⟩

/-- The blocks of queries `I` and keys `J` of head `h`: queries, keys, values, the two blocks of gate sums, the output, its
    gradient and the rows' log-sums. -/
structure Blocks (A : Data) (h : Fin 8) (I J : Fin 4) (q k v : FVec Ideal S1024x128 .f32) (cc : FVec Ideal S1x1024x1 .f32)
    (cr : FVec Ideal S1x1x1024 .f32) (o d : FVec Ideal S1024x128 .f32) (w : FVec Ideal S1x1024x1 .f32) : Prop where
  at_q : ∀ r l, q (ix2 r l) = (A.q h (row I r) l : EReal)
  at_k : ∀ s l, k (ix2 s l) = (A.k h (row J s) l : EReal)
  at_v : ∀ s l, v (ix2 s l) = (A.v h (row J s) l : EReal)
  at_cc : ∀ r, cc (ix3 0 r 0) = (A.c h (row I r) : EReal)
  at_cr : ∀ s, cr (ix3 0 0 s) = (A.c h (row J s) : EReal)
  at_o : ∀ r l, o (ix2 r l) = (A.out h (row I r) l : EReal)
  at_d : ∀ r l, d (ix2 r l) = (A.g h (row I r) l : EReal)
  at_w : ∀ r, w (ix3 0 r 0) = ((A.top h (row I r) + Real.log (A.sum h (row I r)) : ℝ) : EReal)
  at_scale : Ideal.ofBits .f32 0x3DB504F3#32 = (A.scale : EReal)

variable {A : Data} {h : Fin 8} {I J : Fin 4} {q k v : FVec Ideal S1024x128 .f32} {cc : FVec Ideal S1x1024x1 .f32}
    {cr : FVec Ideal S1x1x1024 .f32} {o d : FVec Ideal S1024x128 .f32} {w : FVec Ideal S1x1024x1 .f32}
    (B : Blocks A h I J q k v cc cr o d w)

section

variable (r s : Fin 1024)
include B

theorem score_sum : (∑ l, (A.q h (row I r) l * A.scale) * A.k h (row J s) l) + A.c h (row I r) - A.c h (row J s)
    = A.score h (row I r) (row J s) := by
  unfold Data.score
  rw [Finset.sum_mul]
  congr 2
  exact Finset.sum_congr rfl fun l _ => by ring

/-- Below the diagonal: the probabilities. -/
theorem pay13_at (hIJ : J < I) : k0_pay13 (F := Ideal) q k cc cr w (ix2 r s) = (A.prob h (row I r) (row J s) : EReal) := by
  pointwise [k0_pay13]
  simp only [B.at_q, B.at_k, B.at_cc, B.at_cr, B.at_w, B.at_scale, ← EReal.coe_mul, ← coe_sum, ← EReal.coe_add, ← EReal.coe_sub, Ideal.exp_coe]
  rw [score_sum B, A.exp_sub_log]
  simp only [row, Fin.le_def, Fin.lt_def] at hIJ ⊢; omega

/-- On the diagonal: the probabilities, zero at the later keys. -/
theorem pay16_at (hIJ : J = I) : k0_pay16 (F := Ideal) q k cc cr w (ix2 r s) = (A.prob h (row I r) (row J s) : EReal) := by
  pointwise [k0_pay16]
  rw [select_sge (by norm_num)]
  simp only [B.at_q, B.at_k, B.at_cc, B.at_cr, B.at_w, B.at_scale, ← EReal.coe_mul, ← coe_sum, ← EReal.coe_add, ← EReal.coe_sub]
  rw [score_sum B]
  subst hIJ
  by_cases hsr : s ≤ r
  · rw [if_pos hsr, ← EReal.coe_sub, Ideal.exp_coe, A.exp_sub_log]
    simp only [row, Fin.le_def] at hsr ⊢; omega
  · rw [if_neg hsr, IdealRules.named_const.ideal_named_scalar _ _ _ _ rfl, EReal.bot_sub, Ideal.exp_bot, A.prob_of_lt, EReal.coe_zero]
    simp only [row, Fin.le_def, Fin.lt_def] at hsr ⊢; omega

theorem pay17_at : k0_pay17 (F := Ideal) d v (ix2 r s) = (A.dprob h (row I r) (row J s) : EReal) := by
  pointwise [k0_pay17]
  simp only [B.at_d, B.at_v, ← EReal.coe_mul, ← coe_sum]
  rfl

theorem pay18_at : k0_pay18 (F := Ideal) d o (ix2 r s) = (A.mean h (row I r) : EReal) := by
  pointwise [k0_pay18]
  simp only [B.at_d, B.at_o, ← EReal.coe_mul, ← coe_sum, A.sum_out_mul]

/-- Below the diagonal: the gradient of the logits. -/
theorem pay14_at (hIJ : J < I) : k0_pay14 (F := Ideal) q k cc cr w d o v (ix2 r s) = (A.dscore h (row I r) (row J s) : EReal) := by
  pointwise [k0_pay14]
  rw [pay13_at B r s hIJ]
  simp only [B.at_d, B.at_o, B.at_v, ← EReal.coe_mul, ← coe_sum, A.sum_out_mul, ← EReal.coe_sub]
  rfl

theorem pay7_at (hIJ : J = I) : k0_pay7 (F := Ideal) (k0_pay16 q k cc cr w) (k0_pay17 d v) (k0_pay18 d o) (ix2 r s)
    = (A.dscore h (row I r) (row J s) : EReal) := by
  pointwise [k0_pay7]
  rw [pay16_at B r s hIJ, pay17_at B, pay18_at B, ← EReal.coe_sub, ← EReal.coe_mul]
  rfl

end

/-- The three running sums: the keys' gradient, the values' gradient, the gate sums' gradient. -/
abbrev Sums := FVec Ideal S1024x128 .f32 × FVec Ideal S1024x128 .f32 × FVec Ideal S1x1024 .f32

/-- The sum over the first `n` of the four stretches of positions. -/
def upto (f : Fin 4096 → ℝ) (n : ℕ) : ℝ := ∑ I : Fin 4, if I.val < n then ∑ r, f (row I r) else 0

theorem upto_zero (f : Fin 4096 → ℝ) : upto f 0 = 0 := by simp [upto]

theorem upto_succ (f : Fin 4096 → ℝ) (I : Fin 4) : upto f (I.val + 1) = upto f I.val + ∑ r, f (row I r) := by
  unfold upto
  fin_cases I <;> simp [Fin.sum_univ_four]

theorem upto_four (f : Fin 4096 → ℝ) : upto f 4 = ∑ i, f i := by
  unfold upto
  rw [← (finProdFinEquiv (m := 4) (n := 1024)).sum_comp f, Fintype.sum_prod_type]
  refine Finset.sum_congr rfl fun I _ => ?_
  rw [if_pos I.isLt]
  refine Finset.sum_congr rfl fun r _ => congrArg f (Fin.ext ?_)
  simp [row, finProdFinEquiv]; omega

/-- The running sums hold the part of the three gradients that comes from the first `n` stretches of queries. -/
structure Partial (A : Data) (h : Fin 8) (J : Fin 4) (n : ℕ) (y : Sums) : Prop where
  at_k : ∀ s l, y.1 (ix2 s l) = (upto (fun i => A.dscore h i (row J s) * A.q h i l) n : EReal)
  at_v : ∀ s l, y.2.1 (ix2 s l) = (upto (fun i => A.prob h i (row J s) * A.g h i l) n : EReal)
  at_c : ∀ s, y.2.2 (ix2 0 s) = (-upto (fun i => A.dscore h i (row J s)) n : EReal)

/-- The running sums as the kernel resets them. -/
def reset : Sums := (k0_pay1 (F := Ideal), k0_pay2 (F := Ideal), k0_pay3 (F := Ideal))

/-- One step below the diagonal. -/
def below (q k v : FVec Ideal S1024x128 .f32) (cc : FVec Ideal S1x1024x1 .f32) (cr : FVec Ideal S1x1x1024 .f32)
    (o d : FVec Ideal S1024x128 .f32) (w : FVec Ideal S1x1024x1 .f32) (y : Sums) : Sums :=
  (k0_pay5 (F := Ideal) (k0_pay14 q k cc cr w d o v) y.1 q, k0_pay4 (F := Ideal) d y.2.1 (k0_pay15 q k cc cr w),
    k0_pay6 (F := Ideal) (k0_pay14 q k cc cr w d o v) y.2.2)

/-- One step on the diagonal. -/
def diagonal (q k v : FVec Ideal S1024x128 .f32) (cc : FVec Ideal S1x1024x1 .f32) (cr : FVec Ideal S1x1x1024 .f32)
    (o d : FVec Ideal S1024x128 .f32) (w : FVec Ideal S1x1024x1 .f32) (y : Sums) : Sums :=
  (k0_pay9 (F := Ideal) (k0_pay16 q k cc cr w) (k0_pay17 d v) (k0_pay18 d o) y.1 q,
    k0_pay8 (F := Ideal) (k0_pay16 q k cc cr w) d y.2.1,
    k0_pay10 (F := Ideal) (k0_pay16 q k cc cr w) (k0_pay17 d v) (k0_pay18 d o) y.2.2)

theorem partial_reset (A : Data) (h : Fin 8) (J : Fin 4) : Partial A h J 0 reset where
  at_k s l := by rw [upto_zero, EReal.coe_zero]; unfold reset; pointwise [k0_pay1]
  at_v s l := by rw [upto_zero, EReal.coe_zero]; unfold reset; pointwise [k0_pay2]
  at_c s := by rw [upto_zero, EReal.coe_zero, neg_zero]; unfold reset; pointwise [k0_pay3]

/-- A stretch of queries before the keys adds nothing. -/
theorem Partial.skip {y : Sums} (P : Partial A h J I.val y) (hIJ : I < J) : Partial A h J (I.val + 1) y := by
  have hlt : ∀ r s, row I r < row J s := fun r s => by
    simp only [row, Fin.lt_def] at hIJ ⊢; omega
  refine ⟨fun s l => ?_, fun s l => ?_, fun s => ?_⟩
  · rw [P.at_k, upto_succ]; simp only [A.dscore_of_lt _ _ _ (hlt _ s), zero_mul, Finset.sum_const_zero, add_zero]
  · rw [P.at_v, upto_succ]; simp only [A.prob_of_lt _ _ _ (hlt _ s), zero_mul, Finset.sum_const_zero, add_zero]
  · rw [P.at_c, upto_succ]; simp only [A.dscore_of_lt _ _ _ (hlt _ s), Finset.sum_const_zero, add_zero]

section
include B

/-- A step below the diagonal adds the tile's part. -/
theorem Partial.below {y : Sums} (P : Partial A h J I.val y) (hIJ : J < I) :
    Partial A h J (I.val + 1) (below q k v cc cr o d w y) := by
  refine ⟨fun s l => ?_, fun s l => ?_, fun s => ?_⟩ <;> unfold Cert.Fox.below <;> rw [upto_succ]
  · pointwise [k0_pay5]
    simp only [pay14_at B _ _ hIJ, B.at_q, P.at_k, ← EReal.coe_mul, ← coe_sum, ← EReal.coe_add]
  · pointwise [k0_pay4, k0_pay15]
    simp only [pay13_at B _ _ hIJ, B.at_d, P.at_v, ← EReal.coe_mul, ← coe_sum, ← EReal.coe_add]
  · pointwise [k0_pay6]
    simp only [pay14_at B _ _ hIJ, P.at_c, ← coe_sum, ← EReal.coe_neg, ← EReal.coe_sub]
    congr 1; ring

/-- A step on the diagonal adds the tile's part. -/
theorem Partial.diagonal {y : Sums} (P : Partial A h J I.val y) (hIJ : J = I) :
    Partial A h J (I.val + 1) (diagonal q k v cc cr o d w y) := by
  have e := fun r s => pay7_at B r s hIJ
  refine ⟨fun s l => ?_, fun s l => ?_, fun s => ?_⟩ <;> unfold Cert.Fox.diagonal <;> rw [upto_succ]
  · pointwise [k0_pay9]
    simp only [e, B.at_q, P.at_k, ← EReal.coe_mul, ← coe_sum, ← EReal.coe_add]
  · pointwise [k0_pay8]
    simp only [pay16_at B _ _ hIJ, B.at_d, P.at_v, ← EReal.coe_mul, ← coe_sum, ← EReal.coe_add]
  · pointwise [k0_pay10]
    simp only [e, P.at_c, ← coe_sum, ← EReal.coe_neg, ← EReal.coe_sub]
    congr 1; ring

end

/-- What the last step writes of the keys' gradient. -/
theorem pay11_at (y : FVec Ideal S1024x128 .f32) (s : Fin 1024) (l : Fin 128) :
    k0_pay11 (F := Ideal) y (ix2 s l) = y (ix2 s l) * Ideal.ofBits .f32 0x3DB504F3#32 := by
  pointwise [k0_pay11]

/-- What the last step writes of the gate sums' gradient. -/
theorem pay12_at (y : FVec Ideal S1x1024 .f32) (s : Fin 1024) : k0_pay12 (F := Ideal) y (ix3 0 0 s) = y (ix2 0 s) := by
  pointwise [k0_pay12]

end Cert.Fox

end
-- ==== Proof.Saved.lean ====
/-
  What the kernel's region finds in the arrays that its host code computes: the attention's output, the rows' log-sums and
  the two layouts of the gate sums.
-/
module

public import proofs.«01_k».proof.Proof.Host
public import proofs.«01_k».proof.Proof.Gen.FoxKvIdeal.Frame.Runs
public import Idealize.ShloMosaic.Lib.StableHlo.RunRead
public import Idealize.ShloMosaic.Lib.Claim

@[expose] public section

set_option maxRecDepth 16384

noncomputable section

namespace Cert.Fox

open Idealize.ShloMosaic Idealize.ShloMosaic.TcCoe Idealize.SL.Sem Idealize.ShloMosaic.StableHlo

section terms

open Cert.FoxKvRefIdeal Cert.FoxKvRefIdeal.Gen

variable (x : Proj) (g : Gate)

/-- The attention's output as the host lays it out. -/
def out (p : Score) : FVec Ideal S4096x1024 .f32 :=
  shapeCast _ (transpose S4096x8x128 [2, 0, 1] (Host.dotGeneral dot_S4096x8x128_S8x4096x4096_S8x128x4096_0_2_2_1_1_0 none (vs x) p) transposes_S8x128x4096_S4096x8x128_2_0_1) shapeCasts_S4096x8x128_S4096x1024

/-- A row's number as a column. -/
def column (r : Row) : FVec Ideal S8x4096x1 .f32 := broadcastInDim S8x4096x1 ![0, 1] bcast_S8x4096_S8x4096x1_0_1 r

/-- The kernel's exponentials take off the row maximum, kept as a column. -/
def savedExps : Score :=
  Host.exp (subf (logits x g) (broadcastInDim S8x4096x4096 ![0, 1, 2] bcast_S8x4096x1_S8x4096x4096_0_1_2 (column (most (logits x g)))))

/-- The logarithms of the rows' sums, with their maxima added back. -/
def lse : FVec Ideal S8x4096x1 .f32 := addf (column (most (logits x g))) (Host.log (column (total (savedExps x g))))

/-- The gate sums as one column per head. -/
def gateCol : FVec Ideal S8x4096x1 .f32 := column (transpose S8x4096 [1, 0] g transposes_S4096x8_S8x4096_1_0)
/-- The gate sums as one row per head. -/
def gateRow : FVec Ideal S8x1x4096 .f32 :=
  broadcastInDim S8x1x4096 ![0, 2] bcast_S8x4096_S8x1x4096_0_2 (transpose S8x4096 [1, 0] g transposes_S4096x8_S8x4096_1_0)

end terms

section run

open Cert.FoxKvIdeal

variable (m : (ℓ : Loc nD τ sig) → Buf (Elt Ideal) ℓ) (c : Dev nD)

theorem V_gateCol : Cert.FoxKvIdeal.Gen.V m c main_v49 = gateCol (m ((c : Thread nD τ).loc main_arg1)) := by
  unfold_abbrev_sides
  after_reads_simp
  rfl

theorem V_gateRow : Cert.FoxKvIdeal.Gen.V m c main_v51 = gateRow (m ((c : Thread nD τ).loc main_arg1)) := by
  unfold_abbrev_sides
  after_reads_simp
  rfl

theorem V_lse : Cert.FoxKvIdeal.Gen.V m c main_v47 = lse (m ((c : Thread nD τ).loc main_arg0)) (m ((c : Thread nD τ).loc main_arg1)) := by
  unfold_abbrev_sides
  after_reads_simp
  rfl

theorem V_out : Cert.FoxKvIdeal.Gen.V m c main_v45 = out (m ((c : Thread nD τ).loc main_arg0))
    (probs (refExps (m ((c : Thread nD τ).loc main_arg0)) (m ((c : Thread nD τ).loc main_arg1)))
      (total (refExps (m ((c : Thread nD τ).loc main_arg0)) (m ((c : Thread nD τ).loc main_arg1))))) := by
  unfold_abbrev_sides
  after_reads_simp
  rfl

end run

open Cert.FoxKvRefIdeal Cert.FoxKvRefIdeal.Gen

variable {x : Proj} {g : Gate} {d : Cot} {A : Data} (H : Holds x g d A) (h : Fin 8) (i : Fin 4096) (l : Fin 128)
include H

theorem out_at : out x (probs (refExps x g) (total (refExps x g))) (ix2 i (lane h l)) = (A.out h i l : EReal) := by
  have hh : (lane h l).val / 128 = h.val := by simp only [lane]; omega
  have hl : (lane h l).val % 128 = l.val := by simp only [lane]; omega
  pointwise [out]
  simp only [hh, hl, Fin.eta, vs_at H.toReads, probs_at H _ _ _ _ _ (refExps_at H) (refTotal_at H), ← EReal.coe_mul, ← coe_sum]
  rfl

theorem savedExps_at (j : Fin 4096) : savedExps x g (ix3 h i j) = (A.expo h i j : EReal) :=
  exps_at H h i j _ H.at_top

theorem lse_at (z : Fin 1) : lse x g (ix3 h i z) = ((A.top h i + Real.log (A.sum h i) : ℝ) : EReal) := by
  have e : ∀ r z : Row, addf (column r) (Host.log (column z)) (ix3 h i 0) = r (ix2 h i) + Ideal.log (z (ix2 h i)) := fun r z => by
    pointwise [column]
  rw [Subsingleton.elim z 0, lse, e, H.at_top, total_at H _ _ _ (savedExps_at H), Ideal.log_coe, if_neg (not_le.mpr (A.sum_pos h i)), ← EReal.coe_add]

theorem gateCol_at (z : Fin 1) : gateCol g (ix3 h i z) = (A.c h i : EReal) := by
  rw [← H.at_c]; pointwise [gateCol, column]

theorem gateRow_at (z : Fin 1) : gateRow g (ix3 h z i) = (A.c h i : EReal) := by
  rw [← H.at_c]; pointwise [gateRow]

end Cert.Fox

end
-- ==== Proof.Cases.lean ====
/-
  The three running sums after each point of the grid. Point t handles head t / 16, the keys' stretch t / 4 % 4 and the
  queries' stretch t % 4; the sums are reset where the queries' stretch is the first.
-/
module

public import proofs.«01_k».proof.Proof.Gen.FoxKvIdeal.Frame
public import proofs.«01_k».proof.Proof.Tile
public import proofs.«01_k».proof.Proof.Saved
public import Idealize.ShloMosaic.Lib.Pipeline.ValueKit
public import Idealize.ShloMosaic.Lib.Pointwise

@[expose] public section

set_option maxRecDepth 16384

noncomputable section

namespace Cert.Fox

open Idealize.ShloMosaic Idealize.ShloMosaic.TcCoe Idealize.SL.Sem
open Cert.FoxKvIdeal Cert.FoxKvIdeal.Gen

variable (m : (ℓ : Loc nD τ sig) → Buf (Elt Ideal) ℓ) (c : Dev nD) (t : Fin cfg0.N)

/-- The running sums after a point. -/
def sums (n : ℕ) (hn : n < cfg0.N) : Sums := (outsAt0 m c n hn).2.2.2

/-- One step below the diagonal, of the point's blocks. -/
abbrev belowAt (y : Sums) : Sums :=
  below (iblk m c 0 t) (iblk m c 1 t) (iblk m c 2 t) (iblk m c 3 t) (iblk m c 4 t) (iblk m c 5 t) (iblk m c 6 t) (iblk m c 7 t) y

/-- One step on the diagonal, of the point's blocks. -/
abbrev diagonalAt (y : Sums) : Sums :=
  diagonal (iblk m c 0 t) (iblk m c 1 t) (iblk m c 2 t) (iblk m c 3 t) (iblk m c 4 t) (iblk m c 5 t) (iblk m c 6 t) (iblk m c 7 t) y

/-- The first point of the first keys: reset, then a step on the diagonal. -/
theorem sums_A (h0 : t.val % 4 = 0) (h1 : ¬t.val / 4 % 4 + 1 ≤ t.val % 4) (h2 : t.val / 4 % 4 = t.val % 4) (h3 : ¬t.val % 4 = 3) :
    sums m c t.val t.isLt = diagonalAt m c t reset := by
  unfold sums
  rw [outsAt0_A m c t h0 h1 h2 h3]
  dsimp only
  refine Prod.ext ?_ (Prod.ext ?_ ?_)
  all_goals
    frame_out
    try rfl

/-- The first point of other keys: reset. -/
theorem sums_D (h0 : t.val % 4 = 0) (h1 : ¬t.val / 4 % 4 + 1 ≤ t.val % 4) (h2 : ¬t.val / 4 % 4 = t.val % 4) (h3 : ¬t.val % 4 = 3) :
    sums m c t.val t.isLt = reset := by
  unfold sums
  rw [outsAt0_D m c t h0 h1 h2 h3]
  dsimp only
  refine Prod.ext ?_ (Prod.ext ?_ ?_)
  all_goals
    frame_out
    try rfl

/-- A later point below the diagonal. -/
theorem sums_below (h0 : ¬t.val % 4 = 0) (h1 : t.val / 4 % 4 + 1 ≤ t.val % 4) (h2 : ¬t.val / 4 % 4 = t.val % 4) :
    sums m c t.val t.isLt = belowAt m c t (sums m c (t.val - 1) (by omega)) := by
  unfold sums
  by_cases h3 : t.val % 4 = 3
  · rw [outsAt0_C m c t h0 h1 h2 h3]
    dsimp only
    refine Prod.ext ?_ (Prod.ext ?_ ?_)
    all_goals
      frame_out
      simp only [(Memref.isWhole_whole _).read_unread]
      try rfl
  · rw [outsAt0_B m c t h0 h1 h2 h3]
    dsimp only
    refine Prod.ext ?_ (Prod.ext ?_ ?_)
    all_goals
      frame_out
      simp only [(Memref.isWhole_whole _).read_unread]
      try rfl

/-- A later point on the diagonal. -/
theorem sums_diagonal (h0 : ¬t.val % 4 = 0) (h1 : ¬t.val / 4 % 4 + 1 ≤ t.val % 4) (h2 : t.val / 4 % 4 = t.val % 4) :
    sums m c t.val t.isLt = diagonalAt m c t (sums m c (t.val - 1) (by omega)) := by
  unfold sums
  by_cases h3 : t.val % 4 = 3
  · rw [outsAt0_G m c t h0 h1 h2 h3]
    dsimp only
    refine Prod.ext ?_ (Prod.ext ?_ ?_)
    all_goals
      frame_out
      simp only [(Memref.isWhole_whole _).read_unread]
      try rfl
  · rw [outsAt0_E m c t h0 h1 h2 h3]
    dsimp only
    refine Prod.ext ?_ (Prod.ext ?_ ?_)
    all_goals
      frame_out
      simp only [(Memref.isWhole_whole _).read_unread]
      try rfl

/-- A later point above the diagonal does nothing. -/
theorem sums_F (h0 : ¬t.val % 4 = 0) (h1 : ¬t.val / 4 % 4 + 1 ≤ t.val % 4) (h2 : ¬t.val / 4 % 4 = t.val % 4) (h3 : ¬t.val % 4 = 3) :
    sums m c t.val t.isLt = sums m c (t.val - 1) (by omega) := by
  unfold sums
  rw [outsAt0_F m c t h0 h1 h2 h3]
  dsimp only
  refine Prod.ext ?_ (Prod.ext ?_ ?_) <;> rfl

/-- What the last point of a stretch of keys writes, from the sums after it. -/
theorem writes (h3 : t.val % 4 = 3) :
    (outsAt0 m c t.val t.isLt).1 = k0_pay11 (F := Ideal) (sums m c t.val t.isLt).1
      ∧ (outsAt0 m c t.val t.isLt).2.1 = (sums m c t.val t.isLt).2.1
      ∧ (outsAt0 m c t.val t.isLt).2.2.1 = k0_pay12 (F := Ideal) (sums m c t.val t.isLt).2.2 := by
  by_cases h2 : t.val / 4 % 4 = t.val % 4
  · rw [sums_diagonal m c t (by omega) (by omega) h2, outsAt0_G m c t (by omega) (by omega) h2 h3]
    dsimp only
    refine ⟨?_, ?_, ?_⟩
    all_goals
      frame_out
      simp only [(Memref.isWhole_whole _).read_unread]
      try rfl
  · rw [sums_below m c t (by omega) (by omega) h2, outsAt0_C m c t (by omega) (by omega) h2 h3]
    dsimp only
    refine ⟨?_, ?_, ?_⟩
    all_goals
      frame_out
      simp only [(Memref.isWhole_whole _).read_unread]
      try rfl

/-- The point's head, keys' stretch and queries' stretch. -/
def head (n : Fin cfg0.N) : Fin 8 := ⟨n.val / 16, by have := n.isLt; have : cfg0.N = 128 := rfl; omega⟩
def keys (n : Fin cfg0.N) : Fin 4 := ⟨n.val / 4 % 4, by omega⟩
def queries (n : Fin cfg0.N) : Fin 4 := ⟨n.val % 4, by omega⟩

/-- The blocks each window stages. -/
theorem idx : ∀ t : Fin cfg0.N,
    win0_0.index t = ![max (t.val / 4 % 4) (t.val % 4), t.val / 16] ∧ win0_1.index t = ![t.val / 4 % 4, 8 + t.val / 16]
    ∧ win0_2.index t = ![t.val / 4 % 4, 16 + t.val / 16] ∧ win0_3.index t = ![t.val / 16, max (t.val / 4 % 4) (t.val % 4), 0]
    ∧ win0_4.index t = ![t.val / 16, 0, t.val / 4 % 4] ∧ win0_5.index t = ![max (t.val / 4 % 4) (t.val % 4), t.val / 16]
    ∧ win0_6.index t = ![max (t.val / 4 % 4) (t.val % 4), t.val / 16] ∧ win0_7.index t = ![t.val / 16, max (t.val / 4 % 4) (t.val % 4), 0]
    ∧ win0_8.index t = ![t.val / 4 % 4, t.val / 16] ∧ win0_9.index t = ![t.val / 4 % 4, t.val / 16]
    ∧ win0_10.index t = ![t.val / 16, 0, t.val / 4 % 4] :=
  (by decide +kernel : ∀ t : Fin grid0.N, _)

section staged

variable {m c t}
variable {A : Data} (H : Holds (m ((c : Thread nD τ).loc main_arg0)) (m ((c : Thread nD τ).loc main_arg1)) (m ((c : Thread nD τ).loc main_arg2)) A)

theorem V_arg0 : V m c main_arg0 = m ((c : Thread nD τ).loc main_arg0) := by
  unfold_abbrev_sides
  after_reads_simp

theorem V_arg2 : V m c main_arg2 = m ((c : Thread nD τ).loc main_arg2) := by
  unfold_abbrev_sides
  after_reads_simp

section

/-- The block of the rows' log-sums, of any array. -/
theorem read_w (X : FVec Ideal S8x4096x1 .f32) (hm : max (t.val / 4 % 4) (t.val % 4) = t.val % 4) (r : Fin 1024) :
    (((cfg0.win 7).blk t).view.read (Elt Ideal) X : FVec Ideal S1x1024x1 .f32) (ix3 0 r 0) = X (ix3 (head t) (row (queries t) r) 0) := by
  blk_ext [idx t, hm, row, head, queries]

include H

theorem staged_q (hJI : keys t ≤ queries t) (r : Fin 1024) (l : Fin 128) :
    iblk m c 0 t (ix2 r l) = (A.q (head t) (row (queries t) r) l : EReal) := by
  have hm : max (t.val / 4 % 4) (t.val % 4) = t.val % 4 := max_eq_right hJI
  rw [← H.at_q, ← V_arg0 (m := m) (c := c)]
  blk_ext [iblk, idx t, hm, row, col, head, queries]

theorem staged_k (s : Fin 1024) (l : Fin 128) : iblk m c 1 t (ix2 s l) = (A.k (head t) (row (keys t) s) l : EReal) := by
  rw [← H.at_k, ← V_arg0 (m := m) (c := c)]
  blk_ext [iblk, idx t, row, col, head, keys]

theorem staged_v (s : Fin 1024) (l : Fin 128) : iblk m c 2 t (ix2 s l) = (A.v (head t) (row (keys t) s) l : EReal) := by
  rw [← H.at_v, ← V_arg0 (m := m) (c := c)]
  blk_ext [iblk, idx t, row, col, head, keys]

theorem staged_col (hJI : keys t ≤ queries t) (r : Fin 1024) : iblk m c 3 t (ix3 0 r 0) = (A.c (head t) (row (queries t) r) : EReal) := by
  have hm : max (t.val / 4 % 4) (t.val % 4) = t.val % 4 := max_eq_right hJI
  rw [← gateCol_at H _ _ 0, ← V_gateCol]
  blk_ext [iblk, idx t, hm, row, head, queries]

theorem staged_row (s : Fin 1024) : iblk m c 4 t (ix3 0 0 s) = (A.c (head t) (row (keys t) s) : EReal) := by
  rw [← gateRow_at H _ _ 0, ← V_gateRow]
  blk_ext [iblk, idx t, row, head, keys]

theorem staged_o (hJI : keys t ≤ queries t) (r : Fin 1024) (l : Fin 128) :
    iblk m c 5 t (ix2 r l) = (A.out (head t) (row (queries t) r) l : EReal) := by
  have hm : max (t.val / 4 % 4) (t.val % 4) = t.val % 4 := max_eq_right hJI
  rw [← out_at H, ← V_out]
  blk_ext [iblk, idx t, hm, row, lane, head, queries]

theorem staged_d (hJI : keys t ≤ queries t) (r : Fin 1024) (l : Fin 128) :
    iblk m c 6 t (ix2 r l) = (A.g (head t) (row (queries t) r) l : EReal) := by
  have hm : max (t.val / 4 % 4) (t.val % 4) = t.val % 4 := max_eq_right hJI
  rw [← H.at_g, ← V_arg2 (m := m) (c := c)]
  blk_ext [iblk, idx t, hm, row, lane, head, queries]

theorem staged_w (hJI : keys t ≤ queries t) (r : Fin 1024) : iblk m c 7 t (ix3 0 r 0)
    = ((A.top (head t) (row (queries t) r) + Real.log (A.sum (head t) (row (queries t) r)) : ℝ) : EReal) := by
  have hm : max (t.val / 4 % 4) (t.val % 4) = t.val % 4 := max_eq_right hJI
  rw [← lse_at H _ _ 0, ← V_lse m c]
  exact read_w (V m c main_v47) hm r

/-- On and below the diagonal, the staged blocks are those of the point's queries and keys. -/
theorem blocks (hJI : keys t ≤ queries t) :
    Blocks A (head t) (queries t) (keys t) (iblk m c 0 t) (iblk m c 1 t) (iblk m c 2 t) (iblk m c 3 t) (iblk m c 4 t) (iblk m c 5 t)
      (iblk m c 6 t) (iblk m c 7 t) where
  at_q := staged_q H hJI
  at_k := staged_k H
  at_v := staged_v H
  at_cc := staged_col H hJI
  at_cr := staged_row H
  at_o := staged_o H hJI
  at_d := staged_d H hJI
  at_w := staged_w H hJI
  at_scale := H.at_scale

/-- After each point the running sums hold the gradients' parts from the stretches of queries up to the point's. -/
theorem sums_partial (n : ℕ) (hn : n < cfg0.N) :
    Partial A (head ⟨n, hn⟩) (keys ⟨n, hn⟩) ((queries ⟨n, hn⟩).val + 1) (sums m c n hn) := by
  induction n using Nat.strong_induction_on with
  | _ n ih =>
  by_cases h0 : n % 4 = 0
  · have P : Partial A (head ⟨n, hn⟩) (keys ⟨n, hn⟩) (queries ⟨n, hn⟩).val reset := by
      have e : (queries ⟨n, hn⟩).val = 0 := h0
      rw [e]; exact partial_reset A _ _
    by_cases h2 : n / 4 % 4 = n % 4
    · have e := sums_A m c ⟨n, hn⟩ h0 (by simp only; omega) h2 (by simp only; omega)
      rw [show sums m c n hn = _ from e]
      exact P.diagonal (blocks H (t := ⟨n, hn⟩) (le_of_eq (Fin.ext h2))) (Fin.ext h2)
    · have e := sums_D m c ⟨n, hn⟩ h0 (by simp only; omega) h2 (by simp only; omega)
      rw [show sums m c n hn = _ from e]
      exact P.skip (by simp only [Fin.lt_def, queries, keys]; omega)
  · have P : Partial A (head ⟨n, hn⟩) (keys ⟨n, hn⟩) (queries ⟨n, hn⟩).val (sums m c (n - 1) (by omega)) := by
      have I := ih (n - 1) (by omega) (by omega)
      have e1 : head ⟨n - 1, by omega⟩ = head ⟨n, hn⟩ := Fin.ext (by simp only [head]; omega)
      have e2 : keys ⟨n - 1, by omega⟩ = keys ⟨n, hn⟩ := Fin.ext (by simp only [keys]; omega)
      have e3 : (queries ⟨n - 1, by omega⟩).val + 1 = (queries ⟨n, hn⟩).val := by simp only [queries]; omega
      rwa [e1, e2, e3] at I
    by_cases h2 : n / 4 % 4 = n % 4
    · have e := sums_diagonal m c ⟨n, hn⟩ h0 (by simp only; omega) h2
      rw [show sums m c n hn = _ from e]
      exact P.diagonal (blocks H (t := ⟨n, hn⟩) (le_of_eq (Fin.ext h2))) (Fin.ext h2)
    · by_cases h1 : n / 4 % 4 + 1 ≤ n % 4
      · have hlt : keys ⟨n, hn⟩ < queries ⟨n, hn⟩ := by simp only [Fin.lt_def, queries, keys]; omega
        have e := sums_below m c ⟨n, hn⟩ h0 h1 h2
        rw [show sums m c n hn = _ from e]
        exact P.below (blocks H hlt.le) hlt
      · have e := sums_F m c ⟨n, hn⟩ h0 h1 h2 (by simp only; omega)
        rw [show sums m c n hn = _ from e]
        exact P.skip (by simp only [Fin.lt_def, queries, keys]; omega)

end

end staged

end Cert.Fox

end
-- ==== Proof.Final.lean ====
/-
  The kernel's three results are the reference's: what the grid's last points of every stretch of keys write back, put
  together, are the gradients of module `Terms`.
-/
module

public import proofs.«01_k».proof.Proof.Cases

@[expose] public section

set_option maxRecDepth 16384

noncomputable section

namespace Cert.Fox

open Idealize.ShloMosaic Idealize.ShloMosaic.TcCoe Idealize.SL.Sem Idealize.ShloMosaic.Pipeline
open Cert.FoxKvIdeal Cert.FoxKvIdeal.Gen

variable {m : (ℓ : Loc nD τ sig) → Buf (Elt Ideal) ℓ} {c : Dev nD} {A : Data}
  (H : Holds (m ((c : Thread nD τ).loc main_arg0)) (m ((c : Thread nD τ).loc main_arg1)) (m ((c : Thread nD τ).loc main_arg2)) A)
include H

/-- After the last stretch of queries the sums are whole. -/
theorem sums_last (t : Fin cfg0.N) (h3 : t.val % 4 = 3) : Partial A (head t) (keys t) 4 (sums m c t.val t.isLt) := by
  have P := sums_partial H t.val t.isLt
  rwa [show (queries t).val + 1 = 4 by simp only [queries]; omega] at P

/-- The keys' gradient. -/
theorem final_k : (dats m 0 c).arrAt 8 cfg0.N = dk (m ((c : Thread nD τ).loc main_arg0))
    (refDlogits (m ((c : Thread nD τ).loc main_arg0)) (m ((c : Thread nD τ).loc main_arg1)) (m ((c : Thread nD τ).loc main_arg2))) := by
  refine (dats m 0 c).arrAt_eq_of_covers 8 _ (by decide +kernel) fun t hf y => ?_
  have h3 := (flush0_8 t).mp hf
  obtain ⟨s, l, rfl⟩ : ∃ (s : Fin 1024) (l : Fin 128), y = ix2 s l := ⟨y 0, y 1, by funext a; fin_cases a <;> rfl⟩
  have e : ((cfg0.win 8).blk t).view.emb (ix2 s l) = ix2 (row (keys t) s) (lane (head t) l) := by
    blk_ext [idx t, row, lane, head, keys]
  rw [e, dk_at H]
  blk_simp
  rw [after0_8, (writes m c t h3).1, pay11_at, (sums_last H t h3).at_k, H.at_scale, ← EReal.coe_mul, upto_four, Finset.sum_mul]
  exact congrArg _ (Finset.sum_congr rfl fun i _ => by ring)

/-- The values' gradient. -/
theorem final_v : (dats m 0 c).arrAt 9 cfg0.N = dv (m ((c : Thread nD τ).loc main_arg2))
    (probs (refExps (m ((c : Thread nD τ).loc main_arg0)) (m ((c : Thread nD τ).loc main_arg1)))
      (total (refExps (m ((c : Thread nD τ).loc main_arg0)) (m ((c : Thread nD τ).loc main_arg1))))) := by
  refine (dats m 0 c).arrAt_eq_of_covers 9 _ (by decide +kernel) fun t hf y => ?_
  have h3 := (flush0_9 t).mp hf
  obtain ⟨s, l, rfl⟩ : ∃ (s : Fin 1024) (l : Fin 128), y = ix2 s l := ⟨y 0, y 1, by funext a; fin_cases a <;> rfl⟩
  have e : ((cfg0.win 9).blk t).view.emb (ix2 s l) = ix2 (row (keys t) s) (lane (head t) l) := by
    blk_ext [idx t, row, lane, head, keys]
  rw [e, dv_at H]
  blk_simp
  rw [after0_9, (writes m c t h3).2.1, (sums_last H t h3).at_v, upto_four]
  exact congrArg _ (Finset.sum_congr rfl fun i _ => by ring)

/-- The gradient of the keys' gate sums. -/
theorem final_c : (dats m 0 c).arrAt 10 cfg0.N = dc
    (refDlogits (m ((c : Thread nD τ).loc main_arg0)) (m ((c : Thread nD τ).loc main_arg1)) (m ((c : Thread nD τ).loc main_arg2))) := by
  refine (dats m 0 c).arrAt_eq_of_covers 10 _ (by decide +kernel) fun t hf y => ?_
  have h3 := (flush0_10 t).mp hf
  obtain ⟨s, rfl⟩ : ∃ s : Fin 1024, y = ix3 0 0 s := ⟨y 2, by funext a; fin_cases a <;> first | rfl | exact Subsingleton.elim (α := Fin 1) _ _⟩
  have e : ((cfg0.win 10).blk t).view.emb (ix3 0 0 s) = ix3 (head t) 0 (row (keys t) s) := by
    blk_ext [idx t, row, head, keys]
  rw [e, dc_at H]
  blk_simp
  rw [after0_10, (writes m c t h3).2.2, pay12_at, (sums_last H t h3).at_c, ← EReal.coe_neg, upto_four, Finset.sum_neg_distrib]

end Cert.Fox

end
-- ==== Proof.Finite.lean ====
/-
  The precondition: where the printed predicate is true, the arguments are real numbers.
-/
module

public import proofs.«01_k».proof.Proof.Host
public import proofs.«01_k».proof.Proof.Gen.Pre_finite
public import Idealize.ShloMosaic.Lib.ReduceAll

@[expose] public section

set_option maxRecDepth 16384

noncomputable section

namespace Cert.Fox

open Idealize.ShloMosaic

/-- The constant plus infinity. -/
theorem ofBits_top : Ideal.ofBits .f32 0x7F800000#32 = ⊤ := by
  simp [Ideal.ofBits, Ideal.ieee]

/-- An extended real whose absolute value is below plus infinity is a real number. -/
theorem real_of_abs {a : EReal} (h : Ideal.cmp .olt (max a (-a)) (Ideal.ofBits .f32 0x7F800000#32) = 1#1) : ∃ r : ℝ, a = r := by
  rw [ofBits_top] at h
  induction a with
  | bot => simp [Ideal.cmp] at h
  | coe r => exact ⟨r, rfl⟩
  | top => simp [Ideal.cmp] at h

/-- Where the predicate holds the three arguments are finite. -/
theorem finite_of_pre (x : Proj) (g : Gate) (d : Cot) (e : Cert.Pre_finite.fn (F := Ideal) x g d = fun _ => 1#1) : Fin3 x g d := by
  have e0 := congrFun e (fun a => a.elim0)
  unfold Cert.Pre_finite.fn at e0
  dsimp only at e0
  obtain ⟨e1, e2⟩ := IntOp.andi_eq_one.1 e0
  obtain ⟨e3, e4⟩ := IntOp.andi_eq_one.1 e1
  have : Subsingleton Cert.Pre_finite.S_.Idx := ⟨fun a b => funext fun i => i.elim0⟩
  refine ⟨fun i j hj => ?_, fun i j => ?_, fun i j => ?_⟩
  · have h := Host.reduce_andi_all _ _ _ _ _ e3 (ix2 i ⟨j.val, hj⟩)
    refine real_of_abs ?_
    rw [← h]
    pointwise
    rfl
  · have h := Host.reduce_andi_all _ _ _ _ _ e4 (ix2 i j)
    refine real_of_abs ?_
    rw [← h]
    pointwise
    rfl
  · have h := Host.reduce_andi_all _ _ _ _ _ e2 (ix2 i j)
    refine real_of_abs ?_
    rw [← h]
    pointwise
    rfl

end Cert.Fox

end
-- ==== Proof.Norm.lean ====
/-
  One row of the layer norm: the sum of the scaled residual and the branch, its deviation from the mean, scaled by the inverse
  root of the variance, and the gradient of the row. Every sum is over the row's 2048 channels.
-/
module

public import Idealize.ShloMosaic.Lib.Pipeline.ValueKit
public import Idealize.ShloMosaic.Lib.Pointwise

@[expose] public section

noncomputable section

namespace Cert.Norm

open Idealize.ShloMosaic

/-- The residual's scale, the number of channels, the term added to the variance and the exponent of the inverse root. -/
def scale : EReal := (FloatOps.ofBits .f32 0x3FD744FD#32 : Ideal .f32)
def count : EReal := (FloatOps.ofBits .f32 0x45000000#32 : Ideal .f32)
def small : EReal := (FloatOps.ofBits .f32 0x3727C5AC#32 : Ideal .f32)
def minusHalf : EReal := (FloatOps.ofBits .f32 0xBF000000#32 : Ideal .f32)

variable (x y g d : Fin 2048 → EReal)

/-- The deviation from the mean. -/
def dev (k : Fin 2048) : EReal := (scale * x k + y k) - Ideal.div (∑ l, (scale * x l + y l)) count

/-- The variance, with the term added. -/
def var : EReal := Ideal.div (∑ l, dev x y l * dev x y l) count + small

/-- Its inverse root. -/
def inv : EReal := Ideal.rsqrt (var x y)

/-- The row of the result. -/
def out (b : Fin 2048 → EReal) (k : Fin 2048) : EReal := dev x y k * inv x y * g k + b k

/-- The gradient of the scaled deviation, and what the row's variance passes on to each deviation. -/
def lift (k : Fin 2048) : EReal := d k * g k

def slope : EReal := Ideal.div ((∑ l, dev x y l * lift g d l) * (minusHalf * Ideal.div (inv x y) (var x y))) count

/-- The gradient of the deviation, and of the sum, from which the mean's part is taken. -/
def ofDev (k : Fin 2048) : EReal := lift g d k * inv x y + (dev x y k * slope x y g d + slope x y g d * dev x y k)

def ofSum (k : Fin 2048) : EReal := ofDev x y g d k + Ideal.div (∑ l, -ofDev x y g d l) count

/-- The constant two, and twice a number. -/
theorem two : Ideal.ofBits .f32 0x40000000#32 = 2 := by
  simp [Ideal.ofBits, Ideal.ieee]
  exact (EReal.coe_mul _ _).symm.trans (congrArg _ (by norm_num : (8388608 : ℝ) * (2 ^ 22)⁻¹ = 2))

theorem double (a b : EReal) : a * (2 * b) = b * a + a * b := by
  have h : ∀ v : EReal, 2 * v = v + v := fun v => by
    induction v with
    | bot => exact EReal.coe_mul_bot_of_pos (x := 2) (by norm_num)
    | top => exact EReal.coe_mul_top_of_pos (x := 2) (by norm_num)
    | coe r => exact (EReal.coe_mul 2 r).symm.trans ((congrArg _ (two_mul r)).trans (EReal.coe_add r r))
  rw [mul_left_comm, h, mul_comm b a]

/-- A row of sums `acc` over the points of a run of `J`, each adding the `n` terms `f` of its own columns. -/
theorem columns {N J n K Q : ℕ} [NeZero J] (hK : K = J * n) (acc : (t : ℕ) → t < N → Fin Q → EReal) (f : Fin N → Fin Q → Fin n → EReal)
    (first : ∀ t : Fin N, t.val % J = 0 → ∀ q, acc t.val t.isLt q = 0 + ∑ k, f t q k)
    (next : ∀ t : Fin N, ¬t.val % J = 0 → ∀ q, acc t.val t.isLt q = acc (t.val - 1) (Nat.lt_of_le_of_lt (Nat.sub_le _ _) t.isLt) q + ∑ k, f t q k)
    (t : Fin N) (last : t.val % J = J - 1) (G : Fin Q → Fin K → EReal)
    (hG : ∀ (s : Fin J) (u : Fin N) (_ : u.val = J * (t.val / J) + s.val) q k (hl : s.val * n + k.val < K), f u q k = G q ⟨s.val * n + k.val, hl⟩)
    (q : Fin Q) : acc t.val t.isLt q = ∑ k, G q k := by
  have e := Pipeline.eq_sum_fin_of_reset_step_apply_of_flush acc J (fun _ => (0 : EReal))
    (fun t q => ∑ k, f t q k) first next t last q
  exact e.trans ((zero_add _).trans (Fin.sum_mul_add_congr (fun s k hl => hG s _ rfl q k hl) hK))

end Cert.Norm

end

end
-- ==== Proof.Gate.lean ====
/-
  The spatial gating of one group of 128 channels: a position's layer norm over the channels, and the mixture of the positions
  of a block of 128 by the group's matrix, of which a position reads its own half of the block and the half before it.
-/
module

public import Idealize.ShloMosaic.Lib.Pipeline.ValueKit
public import Idealize.ShloMosaic.Lib.Pointwise

@[expose] public section

set_option maxRecDepth 16384

noncomputable section

namespace Cert.Gate

open Idealize.ShloMosaic

/-- The number of channels of a group, and the term added to the variance. -/
def count : EReal := (FloatOps.ofBits .f32 0x43000000#32 : Ideal .f32)
def small : EReal := (FloatOps.ofBits .f32 0x3727C5AC#32 : Ideal .f32)

/-- The deviation from the mean, and the inverse root of the variance. -/
def dev (x : Fin 128 → EReal) (k : Fin 128) : EReal := x k - Ideal.div (∑ l, x l) count

def inv (x : Fin 128 → EReal) : EReal := Ideal.rsqrt (Ideal.div (∑ l, dev x l * dev x l) count + small)

/-- A position's normed channels. -/
def norm (x g b : Fin 128 → EReal) (k : Fin 128) : EReal := dev x k * inv x * g k + b k

/-- Whether the position `r` of a block reads the position `k`, and the matrix of what it reads. -/
abbrev Reads (r k : Fin 128) : Prop := k.val / 64 ≤ r.val / 64

def masked (w : Fin 128 → Fin 128 → EReal) (r k : Fin 128) : EReal := if Reads r k then w r k else 0

/-- A position's half of the block, as the calls count it: the whole part of a quotient of integers. -/
abbrev half (x : BitVec 32) : BitVec 32 :=
  Scalar.select
    (IntOp.andi
      (IntOp.cmpi .ne (IntOp.subi (BitVec.setWidth 32 (IntOp.cmpi .sgt x 0#32)) (BitVec.setWidth 32 (IntOp.cmpi .slt x 0#32)))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32) (IntOp.divsi .vector x 64#32)

theorem half_eq : ∀ r : Fin 128, half (BitVec.ofNat 32 r.val) = BitVec.ofNat 32 (r.val / 64) := by decide +kernel

theorem reads_bit : ∀ a b : Fin 2, IntOp.cmpi .sge (BitVec.ofNat 32 a.val) (BitVec.ofNat 32 b.val) = if b.val ≤ a.val then 1 else 0 := by
  decide +kernel

/-- A choice by whether the halves are in order. -/
theorem choose (r k : Fin 128) (x y : EReal) :
    Scalar.select (IntOp.cmpi .sge (BitVec.ofNat 32 (r.val / 64)) (BitVec.ofNat 32 (k.val / 64))) x y = if Reads r k then x else y := by
  have h := reads_bit ⟨r.val / 64, by omega⟩ ⟨k.val / 64, by omega⟩
  dsimp only at h
  rw [h]
  by_cases e : Reads r k
  · rw [if_pos e, if_pos e]; rfl
  · rw [if_neg e, if_neg e]; rfl

/-- The positions' mixture, for one channel. -/
def mix (w : Fin 128 → Fin 128 → EReal) (y : Fin 128 → EReal) (b : EReal) (r : Fin 128) : EReal := ∑ k, masked w r k * y k + b

/-- The row of the position `r` in the block `b`. -/
abbrev row {n : ℕ} (b : Fin n) (r : Fin 128) : Fin (n * 128) := ⟨b.val * 128 + r.val, by omega⟩

theorem block_row {n : ℕ} (b : Fin n) (r : Fin 128) (h : (b.val * 128 + r.val) / 128 < n) : (⟨(b.val * 128 + r.val) / 128, h⟩ : Fin n) = b :=
  Fin.ext (show (b.val * 128 + r.val) / 128 = b.val by omega)

theorem pos_row {n : ℕ} (b : Fin n) (r : Fin 128) (h : (b.val * 128 + r.val) % 128 < 128) : (⟨(b.val * 128 + r.val) % 128, h⟩ : Fin 128) = r :=
  Fin.ext (show (b.val * 128 + r.val) % 128 = r.val by omega)

theorem exists_row {n : ℕ} (p : Fin (n * 128)) : ∃ (b : Fin n) (r : Fin 128), p = row b r :=
  ⟨⟨p.val / 128, by omega⟩, ⟨p.val % 128, by omega⟩, Fin.ext (show p.val = p.val / 128 * 128 + p.val % 128 by omega)⟩

end Cert.Gate

end

end
-- ==== Proof.GateGrad.lean ====
/-
  The gradient of the spatial gating: the mixture's transpose, the gradient of a position's layer norm over the 128 channels,
  and sums over two axes of an array.
-/
module

public import proofs.«01_k».proof.Proof.Gate
public import proofs.«01_k».proof.Proof.Norm
public import Idealize.ShloMosaic.Lib.Pipeline.ValueKit
public import Idealize.ShloMosaic.Lib.Pointwise

@[expose] public section

set_option maxRecDepth 16384

noncomputable section

namespace Cert.Gate

open Idealize.ShloMosaic

/-- What the positions that read the position `k` pass back to it. -/
def back (w : Fin 128 → Fin 128 → EReal) (d : Fin 128 → EReal) (k : Fin 128) : EReal := ∑ r, d r * masked w r k

/-- The variance with the term added, and the deviation scaled by its inverse root. -/
def var (x : Fin 128 → EReal) : EReal := Ideal.div (∑ l, dev x l * dev x l) count + small

def unit (x : Fin 128 → EReal) (k : Fin 128) : EReal := dev x k * inv x

variable (x g d : Fin 128 → EReal)

/-- The gradient of the scaled deviation, and what the position's variance passes on to each deviation. -/
def lift (k : Fin 128) : EReal := d k * g k

def slope : EReal := Ideal.div ((∑ l, dev x l * lift g d l) * (Norm.minusHalf * Ideal.div (inv x) (var x))) count

/-- The gradient of the deviation, and of the channel, from which the mean's part is taken. -/
def ofDev (k : Fin 128) : EReal := lift g d k * inv x + dev x k * slope x g d + slope x g d * dev x k

def ofChannel (k : Fin 128) : EReal := ofDev x g d k + Ideal.div (∑ l, -ofDev x g d l) count

/-- The sum over the elements that `p` keeps, counted by `e`. -/
theorem sum_kept {I A B : Type} [Fintype I] [DecidableEq I] [Fintype A] [Fintype B] (p : I → Prop) [DecidablePred p] (e : A × B → I)
    (he : Function.Injective e) (hp : ∀ i, p i ↔ ∃ k, e k = i) (v : I → EReal) :
    ∑ i ∈ Finset.univ.filter (fun i => p i), v i = ∑ a, ∑ b, v (e (a, b)) :=
  (Finset.sum_filter_eq_sum_of_fiber p e he hp v).trans (Fintype.sum_prod_type _)

/-- The sum of an array over its first and its third axis. -/
theorem sum_02 {n0 n1 n2 : ℕ} (h : (⟨3, ![n0, n1, n2]⟩ : Shape).Reduces [0, 2] ⟨1, ![n1]⟩) (v : (⟨3, ![n0, n1, n2]⟩ : Shape).Idx → EReal)
    (r : Fin n1) : Ideal.reduceAdd h v (ix1 r) = ∑ a, ∑ b, v (ix3 a r b) := by
  refine sum_kept (fun i => h.drop i = ix1 r) (fun k : Fin n0 × Fin n2 => ix3 k.1 r k.2) (fun a b e => ?_) (fun i => ⟨fun e => ?_, ?_⟩) v
  · exact Prod.ext (congrFun e 0) (congrFun e 2)
  · refine ⟨(i 0, i 2), ?_⟩
    funext a
    apply Fin.ext
    match a with
    | ⟨0, _⟩ => rfl
    | ⟨1, _⟩ => exact (congrArg Fin.val (congrFun e 0)).symm
    | ⟨2, _⟩ => rfl
  · rintro ⟨k, rfl⟩
    funext b
    fin_cases b
    rfl

/-- The sum of an array over its first and its last axis, and over its first two. -/
theorem host_03 {n0 n1 n2 n3 : ℕ} (h : (⟨4, ![n0, n1, n2, n3]⟩ : Shape).ReducesTo [0, 3] ⟨2, ![n1, n2]⟩) (v : (⟨4, ![n0, n1, n2, n3]⟩ : Shape).Idx → EReal)
    (z : EReal) (r : Fin n1) (g : Fin n2) : Ideal.hostReduceAdd h v z (ix2 r g) = z + ∑ a, ∑ b, v (ix4 a r g b) := by
  refine congrArg (z + ·) (sum_kept (fun i => h.drop i = ix2 r g) (fun k : Fin n0 × Fin n3 => ix4 k.1 r g k.2) (fun a b e => ?_) (fun i => ⟨fun e => ?_, ?_⟩) v)
  · exact Prod.ext (congrFun e 0) (congrFun e 3)
  · refine ⟨(i 0, i 3), ?_⟩
    funext a
    apply Fin.ext
    match a with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨k, rfl⟩
    funext b
    fin_cases b <;> rfl

theorem host_01 {n0 n1 n2 n3 : ℕ} (h : (⟨4, ![n0, n1, n2, n3]⟩ : Shape).ReducesTo [0, 1] ⟨2, ![n2, n3]⟩) (v : (⟨4, ![n0, n1, n2, n3]⟩ : Shape).Idx → EReal)
    (z : EReal) (g : Fin n2) (q : Fin n3) : Ideal.hostReduceAdd h v z (ix2 g q) = z + ∑ a, ∑ b, v (ix4 a b g q) := by
  refine congrArg (z + ·) (sum_kept (fun i => h.drop i = ix2 g q) (fun k : Fin n0 × Fin n1 => ix4 k.1 k.2 g q) (fun a b e => ?_) (fun i => ⟨fun e => ?_, ?_⟩) v)
  · exact Prod.ext (congrFun e 0) (congrFun e 1)
  · refine ⟨(i 0, i 1), ?_⟩
    funext a
    apply Fin.ext
    match a with
    | ⟨0, _⟩ => rfl
    | ⟨1, _⟩ => rfl
    | ⟨2, _⟩ => exact (congrArg Fin.val (congrFun e 0)).symm
    | ⟨3, _⟩ => exact (congrArg Fin.val (congrFun e 1)).symm
  · rintro ⟨k, rfl⟩
    funext b
    fin_cases b <;> rfl

/-- A sum over the rows, block by block. -/
theorem sum_rows {n : ℕ} (f : Fin (n * 128) → EReal) : ∑ b : Fin n, ∑ r : Fin 128, f (row b r) = ∑ k, f k :=
  Fin.sum_mul_add_congr (f := f) (fun _ _ _ => rfl) rfl

end Cert.Gate

end

end
-- ==== Proof.SguBwd.lean ====
/-
  The gradient of the spatial gating, block by block of 1024 positions and 128 channels.
-/
module

public import proofs.«01_k».proof.Defs
public import proofs.«01_k».proof.Proof.Norm
public import proofs.«01_k».proof.Proof.Gate
public import proofs.«01_k».proof.Proof.GateGrad
public import proofs.«01_k».proof.Proof.Gen.SguBwd.Frame
public import proofs.«01_k».proof.Proof.Gen.SguBwdIdeal.Frame
public import proofs.«01_k».proof.Proof.Gen.SguBwdRefIdeal.Run
public import proofs.«01_k».proof.Proof.Gen.SguBwdRefIdeal.Read
public import Idealize.ShloMosaic.Lib.Pipeline.ValueKit
public import Idealize.ShloMosaic.Lib.StableHlo.RunRead
public import Idealize.ShloMosaic.Lib.Claim
public import Idealize.ShloMosaic.Lib.Pointwise
public import Idealize.ShloMosaic.Adequacy
public import Idealize.ShloMosaic.Init

@[expose] public section

set_option maxRecDepth 16384

noncomputable section

namespace Cert.Rows.SguBwd

open Idealize.ShloMosaic Idealize.ShloMosaic.TcCoe Idealize.SL.Sem
open Cert.SguBwdIdeal Cert.SguBwdIdeal.Gen

variable (m : (ℓ : Loc nD τ sig) → Buf (Elt Ideal) ℓ) (c : Dev nD) (t : Fin cfg0.N)

/-- The projection, the norm's scale and shift, the groups' matrices, what they add, and the cotangent. -/
abbrev proj : FVec Ideal S4096x15360 .f32 := m ((c : Thread nD τ).loc main_arg0)
abbrev scale : FVec Ideal S1x1024 .f32 := m ((c : Thread nD τ).loc main_arg1)
abbrev shift : FVec Ideal S1x1024 .f32 := m ((c : Thread nD τ).loc main_arg2)
abbrev mat : FVec Ideal S8x128x128 .f32 := m ((c : Thread nD τ).loc main_arg3)
abbrev add : FVec Ideal S8x128x1 .f32 := m ((c : Thread nD τ).loc main_arg4)
abbrev cot : FVec Ideal S4096x1024 .f32 := m ((c : Thread nD τ).loc main_arg5)

/-- A point's blocks. -/
abbrev uAt : FVec Ideal S1024x128 .f32 := iblk m c 0 t
abbrev vAt : FVec Ideal S1024x128 .f32 := iblk m c 1 t
abbrev scaleAt : FVec Ideal S1x128 .f32 := iblk m c 2 t
abbrev shiftAt : FVec Ideal S1x128 .f32 := iblk m c 3 t
abbrev matAt : FVec Ideal S1x128x128 .f32 := iblk m c 4 t
abbrev addAt : FVec Ideal S1x128x1 .f32 := iblk m c 5 t
abbrev cotAt : FVec Ideal S1024x128 .f32 := iblk m c 6 t

section payloads

variable (u v d : Vec Ideal S1024x128 .f32) (lg lb : Vec Ideal S1x128 .f32) (w : Vec Ideal S1x128x128 .f32) (a : Vec Ideal S1x128x1 .f32)
  (b : Fin 8) (r k q : Fin 128) (p : Fin 1024)

/-- Which positions read which. -/
def reads : IVec S128x128 1 := k0_pay12 (iota .tc S128x128 32 [0] iota_S128x128_d0_w32) 64#32 k0_pay10 k0_pay11

theorem reads_at (x y : EReal) : Scalar.select (reads (ix2 r k)) x y = if Gate.Reads r k then x else y := by
  pointwise [reads, k0_pay12, k0_pay10, k0_pay11]
  have hr := Gate.half_eq r
  have hk := Gate.half_eq k
  unfold Gate.half at hr hk
  rw [hr, hk, Gate.choose]

/-- The group's matrix, the rows' gated cotangent and the normed channels, as the point has them. -/
abbrev matOf (r k : Fin 128) : EReal := w (ix3 0 r k)
abbrev gated (b : Fin 8) (q r : Fin 128) : EReal := u (ix2 (Gate.row b r) q) * d (ix2 (Gate.row b r) q)
abbrev normed (b : Fin 8) (q k : Fin 128) : EReal :=
  Gate.norm (fun l => v (ix2 (Gate.row b k) l)) (fun l => lg (ix2 0 l)) (fun l => lb (ix2 0 l)) q

theorem pay15_at : k0_pay15 (F := Ideal) (k0_pay2 (F := Ideal) w) reads (k0_pay13 (F := Ideal)) (ix3 b r k) = Gate.masked (matOf w) r k := by
  pointwise [k0_pay15, k0_pay2, k0_pay13, reads_at, Gate.masked]

theorem pay9_at : k0_pay9 (F := Ideal) v lg lb (ix2 p q)
    = Gate.norm (fun l => v (ix2 p l)) (fun l => lg (ix2 0 l)) (fun l => lb (ix2 0 l)) q := by
  pointwise [k0_pay9, k0_pay8, k0_pay6, k0_pay5, k0_pay4, Gate.norm, Gate.dev, Gate.inv, Gate.count, Gate.small]

theorem pay14_at (x : FVec Ideal S1024x128 .f32) : k0_pay14 (F := Ideal) x (ix3 b r q) = x (ix2 (Gate.row b r) q) := by
  pointwise [k0_pay14]

theorem pay17_at : k0_pay17 (F := Ideal) u d (ix3 b r q) = gated u d b q r := by
  pointwise [k0_pay17]

theorem pay16_at : k0_pay16 (F := Ideal) (k0_pay2 (F := Ideal) w) (k0_pay3 (F := Ideal) a) (k0_pay9 (F := Ideal) v lg lb) reads (k0_pay13 (F := Ideal)) d
      (ix2 (Gate.row b r) q)
    = d (ix2 (Gate.row b r) q) * Gate.mix (matOf w) (normed v lg lb b q) (a (ix3 0 r 0)) r := by
  have hm := pay15_at w b r
  have hn := fun k => (pay14_at b k q (k0_pay9 (F := Ideal) v lg lb)).trans (pay9_at v lg lb q (Gate.row b k))
  unfold k0_pay16
  generalize k0_pay15 (F := Ideal) _ _ _ = M at hm ⊢
  generalize k0_pay14 (F := Ideal) _ = N at hn ⊢
  pointwise [k0_pay3, Gate.mix]
  simp only [Gate.block_row, Gate.pos_row, hm, hn]

/-- What the rows pass back to the normed channels. -/
abbrev passed : FVec Ideal S1024x128 .f32 := k0_pay19 (F := Ideal) u (k0_pay2 (F := Ideal) w) reads (k0_pay13 (F := Ideal)) d

theorem passed_at : passed u d w (ix2 (Gate.row b k) q) = Gate.back (matOf w) (gated u d b q) k := by
  have hm := fun r => pay15_at w b r k
  have hd := fun r => pay17_at u d b r q
  unfold passed k0_pay19
  generalize k0_pay15 (F := Ideal) _ _ _ = M at hm ⊢
  generalize k0_pay17 (F := Ideal) _ _ = D at hd ⊢
  pointwise [Gate.back]
  simp only [Gate.block_row, Gate.pos_row, hm, hd]

theorem pay18_at : k0_pay18 (F := Ideal) u d (ix2 r 0) = ∑ b : Fin 8, ∑ q : Fin 128, gated u d b q r := by
  have hd := fun b r q => pay17_at u d b r q
  unfold k0_pay18
  generalize k0_pay17 (F := Ideal) _ _ = D at hd ⊢
  pointwise []
  refine (Gate.sum_02 (n0 := 1) (n1 := 128) (n2 := 1) _ _ r).trans ?_
  rw [Fin.sum_univ_one, Fin.sum_univ_one]
  pointwise []
  refine (Gate.sum_02 (n0 := 8) (n1 := 128) (n2 := 128) _ _ r).trans ?_
  simp only [hd]

theorem pay20_at : k0_pay20 (F := Ideal) u (k0_pay9 (F := Ideal) v lg lb) reads d (ix2 r k)
    = if Gate.Reads r k then ∑ b : Fin 8, ∑ q : Fin 128, gated u d b q r * normed v lg lb b q k else 0 := by
  have hd := fun b q => pay17_at u d b r q
  have hn := fun b q => (pay14_at b k q (k0_pay9 (F := Ideal) v lg lb)).trans (pay9_at v lg lb q (Gate.row b k))
  unfold k0_pay20
  generalize k0_pay17 (F := Ideal) _ _ = D at hd ⊢
  generalize k0_pay14 (F := Ideal) _ = N at hn ⊢
  pointwise [reads_at, hd, hn]

theorem pay21_at : k0_pay21 (F := Ideal) u (k0_pay2 (F := Ideal) w) reads (k0_pay13 (F := Ideal)) d (ix2 0 q) = ∑ p : Fin 1024, passed u d w (ix2 p q) := by
  unfold k0_pay21
  show _ = ∑ p : Fin 1024, k0_pay19 (F := Ideal) _ _ _ _ _ (ix2 p q)
  generalize k0_pay19 (F := Ideal) _ _ _ _ _ = M
  pointwise []

theorem pay22_at : k0_pay22 (F := Ideal) u (k0_pay2 (F := Ideal) w) (k0_pay8 (F := Ideal) v) reads (k0_pay13 (F := Ideal)) d (ix2 0 q)
    = ∑ p : Fin 1024, Gate.unit (fun l => v (ix2 p l)) q * passed u d w (ix2 p q) := by
  unfold k0_pay22
  show _ = ∑ p : Fin 1024, _ * k0_pay19 (F := Ideal) _ _ _ _ _ (ix2 p q)
  generalize k0_pay19 (F := Ideal) _ _ _ _ _ = M
  pointwise [k0_pay8, k0_pay6, k0_pay5, k0_pay4, Gate.unit, Gate.dev, Gate.inv, Gate.count, Gate.small]

/-- The gradient of the deviations, and of the channels. -/
abbrev ofDev : FVec Ideal S1024x128 .f32 := k0_pay23 (F := Ideal) u lg (k0_pay2 (F := Ideal) w) (k0_pay4 (F := Ideal) v) (k0_pay6 (F := Ideal) v)
  (k0_pay7 (F := Ideal) v) reads (k0_pay13 (F := Ideal)) d

theorem pay4_at : k0_pay4 (F := Ideal) v (ix2 p q) = Gate.dev (fun l => v (ix2 p l)) q := by
  pointwise [k0_pay4, Gate.dev, Gate.count]

theorem pay5_at : k0_pay5 (F := Ideal) v (ix2 p 0) = Gate.var (fun l => v (ix2 p l)) := by
  pointwise [k0_pay5, pay4_at, Gate.var, Gate.count, Gate.small]

theorem pay6_at : k0_pay6 (F := Ideal) v (ix2 p 0) = Gate.inv (fun l => v (ix2 p l)) := by
  pointwise [k0_pay6, pay5_at, Gate.inv, Gate.var]

theorem pay7_at : k0_pay7 (F := Ideal) v (ix2 p 0) = Norm.minusHalf * Ideal.div (Gate.inv (fun l => v (ix2 p l))) (Gate.var (fun l => v (ix2 p l))) := by
  pointwise [k0_pay7, pay5_at, pay6_at, Norm.minusHalf]

theorem pay23_at : ofDev u v d lg w (ix2 p q)
    = Gate.ofDev (fun l => v (ix2 p l)) (fun l => lg (ix2 0 l)) (fun l => passed u d w (ix2 p l)) q := by
  have h4 := fun q => pay4_at v q p
  have h6 := pay6_at v p
  have h7 := pay7_at v p
  show k0_pay23 (F := Ideal) _ _ _ _ _ _ _ _ _ (ix2 p q) = Gate.ofDev _ _ (fun l => k0_pay19 (F := Ideal) _ _ _ _ _ (ix2 p l)) q
  unfold k0_pay23
  generalize k0_pay19 (F := Ideal) _ _ _ _ _ = M
  generalize k0_pay4 (F := Ideal) _ = A at h4 ⊢
  generalize k0_pay6 (F := Ideal) _ = B at h6 ⊢
  generalize k0_pay7 (F := Ideal) _ = C at h7 ⊢
  pointwise [Gate.ofDev, Gate.lift, Gate.slope, Gate.count, h4, h6, h7, Fin.sum_univ_one]

theorem pay24_at : k0_pay24 (F := Ideal) (ofDev u v d lg w) (ix2 p q)
    = Gate.ofChannel (fun l => v (ix2 p l)) (fun l => lg (ix2 0 l)) (fun l => passed u d w (ix2 p l)) q := by
  have h := fun q => pay23_at u v d lg w q p
  generalize ofDev u v d lg w = M at h ⊢
  pointwise [k0_pay24, Gate.ofChannel, Gate.count, h, Fin.sum_univ_one, zero_sub]

/-- A running sum takes the point's part, and starts from zero. -/
theorem adds (x y : Vec Ideal S1x128 .f32) (i : S1x128.Idx) : k0_pay29 (F := Ideal) x y i = y i + x i ∧ k0_pay30 (F := Ideal) x y i = y i + x i := by
  constructor <;> pointwise [k0_pay29, k0_pay30, shapeCast_self]

theorem adds_mat (x : FVec Ideal S128x128 .f32) (y : Vec Ideal S1x128x128 .f32) : k0_pay31 (F := Ideal) x y (ix3 0 r k) = y (ix3 0 r k) + x (ix2 r k) := by
  pointwise [k0_pay31]

theorem adds_add (x : FVec Ideal S128x1 .f32) (y : Vec Ideal S1x128x1 .f32) : k0_pay1 (F := Ideal) x y (ix3 0 r 0) = y (ix3 0 r 0) + x (ix2 r 0) := by
  pointwise [k0_pay1]

theorem zeros : k0_pay25 (F := Ideal) (ix2 0 q) = 0 ∧ k0_pay26 (F := Ideal) (ix2 0 q) = 0 ∧ k0_pay27 (F := Ideal) (ix3 0 r k) = 0
    ∧ k0_pay28 (F := Ideal) (ix3 0 r 0) = 0 := by
  refine ⟨?_, ?_, ?_, ?_⟩
  · pointwise [k0_pay25]
  · pointwise [k0_pay26]
  · pointwise [k0_pay27]
  · pointwise [k0_pay28]

end payloads

/-- The blocks each window stages. -/
theorem idx : ∀ t : Fin cfg0.N, win0_0.index t = ![t.val % 4, 24 + t.val / 4] ∧ win0_1.index t = ![t.val % 4, 32 + t.val / 4]
    ∧ win0_2.index t = ![0, t.val / 4] ∧ win0_3.index t = ![0, t.val / 4] ∧ win0_4.index t = ![t.val / 4, 0, 0]
    ∧ win0_5.index t = ![t.val / 4, 0, 0] ∧ win0_6.index t = ![t.val % 4, t.val / 4] ∧ win0_7.index t = ![t.val % 4, t.val / 4]
    ∧ win0_8.index t = ![t.val % 4, t.val / 4] ∧ win0_9.index t = ![0, t.val / 4] ∧ win0_10.index t = ![0, t.val / 4]
    ∧ win0_11.index t = ![t.val / 4, 0, 0] ∧ win0_12.index t = ![t.val / 4, 0, 0] :=
  (by decide +kernel : ∀ t : Fin grid0.N, _)

/-- A point's group, and its blocks of 128 positions. -/
abbrev group : Fin 8 := ⟨t.val / 4, by have := t.isLt; have : cfg0.N = 32 := N_0; omega⟩
abbrev block (b : Fin 8) : Fin 32 := ⟨t.val % 4 * 8 + b.val, by omega⟩

/-- The group's columns, and where the projection has them. -/
abbrev uCol (g : Fin 8) (q : Fin 128) : Fin 15360 := ⟨3072 + (g.val * 128 + q.val), by omega⟩
abbrev vCol (g : Fin 8) (q : Fin 128) : Fin 15360 := ⟨4096 + (g.val * 128 + q.val), by omega⟩

theorem blocks_at (b : Fin 8) (r q : Fin 128) :
    uAt m c t (ix2 (Gate.row b r) q) = proj m c (ix2 (Gate.row (block t b) r) (uCol (group t) q))
    ∧ vAt m c t (ix2 (Gate.row b r) q) = proj m c (ix2 (Gate.row (block t b) r) (vCol (group t) q))
    ∧ cotAt m c t (ix2 (Gate.row b r) q) = cot m c (ix2 (Gate.row (block t b) r) (Gate.row (group t) q)) := by
  refine ⟨?_, ?_, ?_⟩
  · blk_ext [iblk, idx t, group, block, uCol, Gate.row]
  · blk_ext [iblk, idx t, group, block, vCol, Gate.row]
  · blk_ext [iblk, idx t, group, block, Gate.row]

theorem norm_at (q : Fin 128) : scaleAt m c t (ix2 0 q) = scale m c (ix2 0 (Gate.row (group t) q))
    ∧ shiftAt m c t (ix2 0 q) = shift m c (ix2 0 (Gate.row (group t) q)) := by
  refine ⟨?_, ?_⟩
  · blk_ext [iblk, idx t, group, Gate.row]
  · blk_ext [iblk, idx t, group, Gate.row]

theorem mat_at (r k : Fin 128) : matAt m c t (ix3 0 r k) = mat m c (ix3 (group t) r k) := by
  blk_ext [iblk, idx t, group]

theorem add_at (r : Fin 128) : addAt m c t (ix3 0 r 0) = add m c (ix3 (group t) r 0) := by
  blk_ext [iblk, idx t, group]

/-- The running sums after a point. -/
def accScale (n : ℕ) (hn : n < cfg0.N) : Vec Ideal S1x128 .f32 := (outsAt0 m c n hn).2.2.1
def accShift (n : ℕ) (hn : n < cfg0.N) : Vec Ideal S1x128 .f32 := (outsAt0 m c n hn).2.2.2.1
def accMat (n : ℕ) (hn : n < cfg0.N) : Vec Ideal S1x128x128 .f32 := (outsAt0 m c n hn).2.2.2.2.1
def accAdd (n : ℕ) (hn : n < cfg0.N) : Vec Ideal S1x128x1 .f32 := (outsAt0 m c n hn).2.2.2.2.2

/-- A point's part of each running sum. -/
abbrev partScale : FVec Ideal S1x128 .f32 := k0_pay22 (F := Ideal) (uAt m c t) (k0_pay2 (F := Ideal) (matAt m c t)) (k0_pay8 (F := Ideal) (vAt m c t)) reads (k0_pay13 (F := Ideal)) (cotAt m c t)
abbrev partShift : FVec Ideal S1x128 .f32 := k0_pay21 (F := Ideal) (uAt m c t) (k0_pay2 (F := Ideal) (matAt m c t)) reads (k0_pay13 (F := Ideal)) (cotAt m c t)
abbrev partMat : FVec Ideal S128x128 .f32 := k0_pay20 (F := Ideal) (uAt m c t) (k0_pay9 (F := Ideal) (vAt m c t) (scaleAt m c t) (shiftAt m c t)) reads (cotAt m c t)
abbrev partAdd : FVec Ideal S128x1 .f32 := k0_pay18 (F := Ideal) (uAt m c t) (cotAt m c t)

/-- What every point writes back. -/
theorem written_rows : (outsAt0 m c t.val t.isLt).1 = k0_pay16 (F := Ideal) (k0_pay2 (F := Ideal) (matAt m c t)) (k0_pay3 (F := Ideal) (addAt m c t)) (k0_pay9 (F := Ideal) (vAt m c t) (scaleAt m c t) (shiftAt m c t)) reads (k0_pay13 (F := Ideal)) (cotAt m c t)
    ∧ (outsAt0 m c t.val t.isLt).2.1 = k0_pay24 (F := Ideal) (ofDev (uAt m c t) (vAt m c t) (cotAt m c t) (scaleAt m c t) (matAt m c t)) := by
  by_cases h0 : t.val % 4 = 0
  · rw [outsAt0_A m c t h0]
    dsimp only
    constructor <;> (frame_out; try rfl)
  · rw [outsAt0_B m c t h0]
    dsimp only
    constructor <;> (frame_out; try rfl)

/-- The first point's sums start from zero, and every other goes on from the point before. -/
theorem acc_first (h0 : t.val % 4 = 0) : accScale m c t.val t.isLt = k0_pay29 (F := Ideal) (partScale m c t) (k0_pay25 (F := Ideal))
    ∧ accShift m c t.val t.isLt = k0_pay30 (F := Ideal) (partShift m c t) (k0_pay26 (F := Ideal))
    ∧ accMat m c t.val t.isLt = k0_pay31 (F := Ideal) (partMat m c t) (k0_pay27 (F := Ideal))
    ∧ accAdd m c t.val t.isLt = k0_pay1 (F := Ideal) (partAdd m c t) (k0_pay28 (F := Ideal)) := by
  unfold accScale accShift accMat accAdd
  rw [outsAt0_A m c t h0]
  dsimp only
  refine ⟨?_, ?_, ?_, ?_⟩ <;> (frame_out; try rfl)

theorem acc_next (h0 : ¬t.val % 4 = 0) : accScale m c t.val t.isLt = k0_pay29 (F := Ideal) (partScale m c t) (accScale m c (t.val - 1) (by omega))
    ∧ accShift m c t.val t.isLt = k0_pay30 (F := Ideal) (partShift m c t) (accShift m c (t.val - 1) (by omega))
    ∧ accMat m c t.val t.isLt = k0_pay31 (F := Ideal) (partMat m c t) (accMat m c (t.val - 1) (by omega))
    ∧ accAdd m c t.val t.isLt = k0_pay1 (F := Ideal) (partAdd m c t) (accAdd m c (t.val - 1) (by omega)) := by
  unfold accScale accShift accMat accAdd partScale partShift partMat partAdd reads
  rw [outsAt0_B m c t h0]
  dsimp only
  refine ⟨?_, ?_, ?_, ?_⟩ <;> (frame_out; try simp only [(Memref.isWhole_whole _).read_unread]; try rfl)

section reference

open Cert.SguBwdRefIdeal.Read

variable (x : FVec Ideal S4096x15360 .f32) (lg lb : FVec Ideal S1x1024 .f32) (w : FVec Ideal S8x128x128 .f32) (a : FVec Ideal S8x128x1 .f32)
  (d : FVec Ideal S4096x1024 .f32) (n : Fin 32) (r k : Fin 128) (g : Fin 8) (q : Fin 128)

/-- The rows of the two halves of the gate, the norm's parameters and the gated cotangent, block by block and group by group. -/
abbrev half (k : Fin 128) : Fin 128 → EReal := fun l => x (ix2 (Gate.row n k) (vCol g l))
abbrev par (y : FVec Ideal S1x1024 .f32) : Fin 128 → EReal := fun l => y (ix2 0 (Gate.row g l))
abbrev matrix (r k : Fin 128) : EReal := w (ix3 g r k)
abbrev gatedAt (r : Fin 128) : EReal := x (ix2 (Gate.row n r) (uCol g q)) * d (ix2 (Gate.row n r) (Gate.row g q))
abbrev passedAt (k : Fin 128) : EReal := Gate.back (matrix w g) (gatedAt x d n g q) k

theorem ref_halves : val_main_v48 (F := Ideal) x (ix4 n r g q) = x (ix2 (Gate.row n r) (uCol g q))
    ∧ val_main_v2 (F := Ideal) x (ix4 n r g q) = half x n g r q := by
  have e : (((n.val * 128 + r.val) * 8 + g.val) * 128 + q.val) / 1024 = n.val * 128 + r.val
      ∧ (((n.val * 128 + r.val) * 8 + g.val) * 128 + q.val) % 1024 = g.val * 128 + q.val := by omega
  have i48 : idx_main_v0 (idx_main_v48 (ix4 n r g q)) = ix2 (Gate.row n r) (uCol g q) := by
    funext j; fin_cases j <;> exact Fin.ext (by first | exact e.1 | exact congrArg (3072 + ·) e.2)
  have i2 : idx_main_v1 (idx_main_v2 (ix4 n r g q)) = ix2 (Gate.row n r) (vCol g q) := by
    funext j; fin_cases j <;> exact Fin.ext (by first | exact e.1 | exact congrArg (4096 + ·) e.2)
  refine ⟨?_, ?_⟩
  · rw [val_main_v48_apply, val_main_v0_apply, i48]
  · rw [val_main_v2_apply, val_main_v1_apply, i2]

theorem ref_cot : val_main_v51 (F := Ideal) d (ix4 n r g q) = d (ix2 (Gate.row n r) (Gate.row g q)) := by
  have e : (((n.val * 128 + r.val) * 8 + g.val) * 128 + q.val) / 1024 = n.val * 128 + r.val
      ∧ (((n.val * 128 + r.val) * 8 + g.val) * 128 + q.val) % 1024 = g.val * 128 + q.val := by omega
  have i51 : idx_main_v51 (ix4 n r g q) = ix2 (Gate.row n r) (Gate.row g q) := by
    funext j; fin_cases j <;> exact Fin.ext (by first | exact e.1 | exact e.2)
  rw [val_main_v51_apply, i51]

theorem ref_gated : val_main_v52 (F := Ideal) x d (ix4 n r g q) = gatedAt x d n g q r := by
  pointwise [val_main_v52, (ref_halves x n r g q).1, ref_cot d n r g q]

theorem ref_params : val_main_v25 (F := Ideal) lg (ix4 0 0 g q) = par g lg q ∧ val_main_v29 (F := Ideal) lb (ix4 0 0 g q) = par g lb q := by
  refine ⟨?_, ?_⟩
  · pointwise [val_main_v25, val_main_v24]
  · pointwise [val_main_v29, val_main_v28]

theorem ref_add : val_main_v46 (F := Ideal) a (ix4 n r g q) = a (ix3 g r 0) := by
  pointwise [val_main_v46, val_main_v45, val_main_v44, val_main_v43, val_main_v42]

theorem ref_dev : val_main_v8 (F := Ideal) x (ix4 n r g q) = Gate.dev (half x n g r) q := by
  have i3 : ∀ k, idx_main_v3 (ix3 n r g) k = ix4 n r g k := fun k => by funext j; fin_cases j <;> rfl
  pointwise [val_main_v8, val_main_v7, val_main_v6, val_main_v5, val_main_cst_0, val_main_v4, val_main_v3_apply, i3, val_main_cst,
    fun k => (ref_halves x n r g k).2, Gate.dev, Gate.count]

theorem ref_var : val_main_v17 (F := Ideal) x (ix4 n r g 0) = Gate.var (half x n g r) := by
  have i12 : ∀ k, idx_main_v12 (ix3 n r g) k = ix4 n r g k := fun k => by funext j; fin_cases j <;> rfl
  pointwise [val_main_v17, val_main_v16, val_main_cst_4, val_main_v15, val_main_v14, val_main_cst_3, val_main_v13, val_main_v12_apply, i12,
    val_main_cst_2, val_main_v9, ref_dev, Gate.var, Gate.count, Gate.small]

theorem ref_inv : val_main_v18 (F := Ideal) x (ix4 n r g 0) = Gate.inv (half x n g r) := by
  pointwise [val_main_v18, ref_var, Gate.inv, Gate.var]

theorem ref_unit : val_main_v23 (F := Ideal) x (ix4 n r g q) = Gate.unit (half x n g r) q := by
  pointwise [val_main_v23, val_main_v22, ref_dev, ref_inv, Gate.unit]

theorem ref_normed : val_main_v31 (F := Ideal) x lg lb (ix4 n r g q) = Gate.norm (half x n g r) (par g lg) (par g lb) q := by
  pointwise [val_main_v31, val_main_v30, val_main_v27, val_main_v26, ref_unit, fun q => (ref_params lg lb g q).1, fun q => (ref_params lg lb g q).2,
    Gate.norm, Gate.unit]

theorem ref_half : ∀ r : Fin 128, val_main_v33 (F := Ideal) (ix1 r) = BitVec.ofNat 32 (r.val / 64) := by
  decide +kernel

theorem ref_reads (y z : EReal) : Scalar.select (val_main_v39_1 (F := Ideal) (ix3 g r k)) y z = if Gate.Reads r k then y else z := by
  have hr := ref_half r
  have hk := ref_half k
  pointwise [val_main_v39_1, val_main_v38, val_main_v37, val_main_v36, val_main_v35, val_main_v34, hr, hk]
  rw [Gate.choose]

theorem ref_masked : val_main_v39_0 (F := Ideal) w (ix3 g r k) = Gate.masked (matrix w g) r k := by
  pointwise [val_main_v39_0, val_main_call1_v2, val_main_call1_v0, val_main_cst_6, ref_reads, Gate.masked]
  exact congrArg (fun z => if Gate.Reads r k then w (ix3 g r k) else z) Ideal.ofBits_zero_f32

/-- A row and a column of the gate, and where the reference keeps them. -/
theorem flat : ((n.val * 128 + r.val) * 1024 + (g.val * 128 + q.val)) / 131072 = n.val
    ∧ ((n.val * 128 + r.val) * 1024 + (g.val * 128 + q.val)) / 1024 % 128 = r.val
    ∧ ((n.val * 128 + r.val) * 1024 + (g.val * 128 + q.val)) / 128 % 8 = g.val
    ∧ ((n.val * 128 + r.val) * 1024 + (g.val * 128 + q.val)) % 128 = q.val := by omega

theorem ref_du : val_main_v54 (F := Ideal) x lg lb w a d (ix2 (Gate.row n r) (Gate.row g q))
    = d (ix2 (Gate.row n r) (Gate.row g q)) * Gate.mix (matrix w g) (fun k => Gate.norm (half x n g k) (par g lg) (par g lb) q) (a (ix3 g r 0)) r := by
  have e := flat n r g q
  have i54 : idx_main_v54 (ix2 (Gate.row n r) (Gate.row g q)) = ix4 n r g q := by
    funext j; fin_cases j <;> exact Fin.ext (by first | exact e.1 | exact e.2.1 | exact e.2.2.1 | exact e.2.2.2)
  have il : ∀ k, lidx_main_v40 (ix4 g n q r) k = ix4 n k g q := fun k => by funext j; fin_cases j <;> rfl
  have ir : ∀ k, ridx_main_v40 (ix4 g n q r) k = ix3 g r k := fun k => by funext j; fin_cases j <;> rfl
  have hd : val_main_v40 (F := Ideal) x lg lb w (ix4 g n q r)
      = ∑ k, Gate.masked (matrix w g) r k * Gate.norm (half x n g k) (par g lg) (par g lb) q := by
    rw [val_main_v40_apply]
    exact Finset.sum_congr rfl fun k _ => by rw [il, ir, ref_masked, ref_normed, mul_comm]
  rw [val_main_v54_apply, i54]
  pointwise [val_main_v53, val_main_v47, val_main_v41, hd, ref_cot d n r g q, ref_add a n r g q, Gate.mix]

theorem ref_passed : val_main_v65 (F := Ideal) x w d (ix4 n k g q) = passedAt x w d n g q k := by
  have il : ∀ r, lidx_main_v64 (ix4 g n q k) r = ix4 g n q r := fun r => by funext j; fin_cases j <;> rfl
  have ir : ∀ r, ridx_main_v64 (ix4 g n q k) r = ix3 g r k := fun r => by funext j; fin_cases j <;> rfl
  have hg : ∀ r, val_main_v62 (F := Ideal) x d (ix4 g n q r) = gatedAt x d n g q r := fun r => by
    pointwise [val_main_v62, ref_gated]
  have hd : val_main_v64 (F := Ideal) x w d (ix4 g n q k) = passedAt x w d n g q k := by
    rw [val_main_v64_apply]
    exact Finset.sum_congr rfl fun r _ => by rw [il, ir, ref_masked, hg]
  pointwise [val_main_v65, hd]

theorem ref_ofDev : val_main_v89 (F := Ideal) x lg w d (ix4 n k g q) = Gate.ofDev (half x n g k) (par g lg) (fun l => passedAt x w d n g l k) q := by
  have i79 : ∀ l, idx_main_v79 (ix3 n k g) l = ix4 n k g l := fun l => by funext j; fin_cases j <;> rfl
  have i86 : idx_main_v86 (ix3 n k g) 0 = ix4 n k g 0 := by funext j; fin_cases j <;> rfl
  have hp := fun q => (ref_params lg lg g q).1
  have hl : ∀ l, val_main_v75 (F := Ideal) x lg w d (ix4 n k g l) = Gate.lift (par g lg) (fun l => passedAt x w d n g l k) l := fun l => by
    pointwise [val_main_v75, val_main_v74, hp, ref_passed, Gate.lift]
  have hs : val_main_v86 (F := Ideal) x lg w d (ix3 n k g) = Gate.slope (half x n g k) (par g lg) (fun l => passedAt x w d n g l k) := by
    rw [val_main_v86_apply, Fin.sum_univ_one, i86]
    pointwise [val_main_cst_16, val_main_v85, val_main_v84, val_main_cst_15, val_main_v83, val_main_v80, val_main_v79_apply, i79, val_main_cst_14,
      val_main_v78, ref_dev, hl, val_main_v21, val_main_v20, val_main_cst_5, val_main_v19, ref_inv, ref_var, Gate.slope, Gate.count, Norm.minusHalf]
  rw [Gate.ofDev, add_assoc, ← Norm.double, ← Norm.two]
  pointwise [val_main_v89, val_main_v82, val_main_v81, hl, ref_inv, val_main_v88, val_main_v87, hs, val_main_v11, val_main_v10, val_main_cst_1, ref_dev]

theorem ref_dv : val_main_v98 (F := Ideal) x lg w d (ix2 (Gate.row n k) (Gate.row g q))
    = Gate.ofChannel (half x n g k) (par g lg) (fun l => passedAt x w d n g l k) q := by
  have e := flat n k g q
  have i98 : idx_main_v98 (ix2 (Gate.row n k) (Gate.row g q)) = ix4 n k g q := by
    funext j; fin_cases j <;> exact Fin.ext (by first | exact e.1 | exact e.2.1 | exact e.2.2.1 | exact e.2.2.2)
  have i91 : ∀ l, idx_main_v91 (ix3 n k g) l = ix4 n k g l := fun l => by funext j; fin_cases j <;> rfl
  have i95 : idx_main_v95 (ix3 n k g) 0 = ix4 n k g 0 := by funext j; fin_cases j <;> rfl
  have hs : val_main_v95 (F := Ideal) x lg w d (ix3 n k g)
      = Ideal.div (∑ l, -Gate.ofDev (half x n g k) (par g lg) (fun l => passedAt x w d n g l k) l) Gate.count := by
    rw [val_main_v95_apply, Fin.sum_univ_one, i95]
    pointwise [val_main_cst_19, val_main_v94, val_main_v93, val_main_cst_18, val_main_v92, val_main_v91_apply, i91, val_main_cst_17, val_main_v90,
      ref_ofDev, Gate.count]
  rw [val_main_v98_apply, i98]
  pointwise [val_main_v97, val_main_v96, hs, ref_ofDev, Gate.ofChannel]

/-- What the reference sums over its rows. -/
theorem ref_shift : val_main_v70 (F := Ideal) x w d (ix2 0 (Gate.row g q)) = ∑ n : Fin 32, ∑ k : Fin 128, passedAt x w d n g q k := by
  have h67 : val_main_v67 (F := Ideal) x w d (ix2 g q) = ∑ n : Fin 32, ∑ k : Fin 128, passedAt x w d n g q k := by
    refine (Gate.host_01 (n0 := 32) (n1 := 128) (n2 := 8) (n3 := 128) _ _ _ g q).trans ?_
    pointwise [val_main_cst_10, ref_passed]
  have h69 : val_main_v69 (F := Ideal) x w d (ix2 g q) = val_main_v67 (F := Ideal) x w d (ix2 g q) := by
    refine (Gate.host_01 (n0 := 1) (n1 := 1) (n2 := 8) (n3 := 128) _ _ _ g q).trans ?_
    rw [Fin.sum_univ_one, Fin.sum_univ_one]
    pointwise [val_main_cst_11, val_main_v68]
  pointwise [val_main_v70]
  rw [Gate.block_row, Gate.pos_row, h69, h67]

theorem ref_scale : val_main_v77 (F := Ideal) x w d (ix2 0 (Gate.row g q))
    = ∑ n : Fin 32, ∑ k : Fin 128, Gate.unit (half x n g k) q * passedAt x w d n g q k := by
  have h72 : val_main_v72 (F := Ideal) x w d (ix2 g q) = ∑ n : Fin 32, ∑ k : Fin 128, Gate.unit (half x n g k) q * passedAt x w d n g q k := by
    refine (Gate.host_01 (n0 := 32) (n1 := 128) (n2 := 8) (n3 := 128) _ _ _ g q).trans ?_
    pointwise [val_main_cst_12, val_main_v71, ref_passed, ref_unit]
  have h76 : val_main_v76 (F := Ideal) x w d (ix2 g q) = val_main_v72 (F := Ideal) x w d (ix2 g q) := by
    refine (Gate.host_01 (n0 := 1) (n1 := 1) (n2 := 8) (n3 := 128) _ _ _ g q).trans ?_
    rw [Fin.sum_univ_one, Fin.sum_univ_one]
    pointwise [val_main_cst_13, val_main_v73]
  pointwise [val_main_v77]
  rw [Gate.block_row, Gate.pos_row, h76, h72]

theorem ref_add_grad : val_main_v61 (F := Ideal) x d (ix3 g r 0) = ∑ n : Fin 32, ∑ q : Fin 128, gatedAt x d n g q r := by
  have h55 : val_main_v55 (F := Ideal) x d (ix2 r g) = ∑ n : Fin 32, ∑ q : Fin 128, gatedAt x d n g q r := by
    refine (Gate.host_03 (n0 := 32) (n1 := 128) (n2 := 8) (n3 := 128) _ _ _ r g).trans ?_
    pointwise [val_main_cst_7, ref_gated]
  have h57 : val_main_v57 (F := Ideal) x d (ix2 r g) = val_main_v55 (F := Ideal) x d (ix2 r g) := by
    refine (Gate.host_03 (n0 := 1) (n1 := 128) (n2 := 8) (n3 := 1) _ _ _ r g).trans ?_
    rw [Fin.sum_univ_one, Fin.sum_univ_one]
    pointwise [val_main_cst_8, val_main_v56]
  have i59 : idx_main_v59 (ix2 r g) 0 = ix3 r g 0 := by funext j; fin_cases j <;> rfl
  have h59 : val_main_v59 (F := Ideal) x d (ix2 r g) = val_main_v57 (F := Ideal) x d (ix2 r g) := by
    rw [val_main_v59_apply, Fin.sum_univ_one, i59]
    pointwise [val_main_cst_9, val_main_v58]
  pointwise [val_main_v61, val_main_v60, h59, h57, h55]

theorem ref_mat : val_main_v66 (F := Ideal) x lg lb d (ix3 g r k)
    = if Gate.Reads r k then ∑ n : Fin 32, ∑ q : Fin 128, gatedAt x d n g q r * Gate.norm (half x n g k) (par g lg) (par g lb) q else 0 := by
  have hg : ∀ n q, val_main_v62 (F := Ideal) x d (ix4 g n q r) = gatedAt x d n g q r := fun n q => by
    pointwise [val_main_v62, ref_gated]
  have hd : val_main_v63 (F := Ideal) x lg lb d (ix3 g r k)
      = ∑ n : Fin 32, ∑ q : Fin 128, gatedAt x d n g q r * Gate.norm (half x n g k) (par g lg) (par g lb) q := by
    pointwise [val_main_v63, hg, ref_normed]
  pointwise [val_main_v66, ref_reads, hd, val_main_call2_v0, val_main_call2_cst]

end reference

/-- A point's rows, as the reference has them. -/
theorem half_at (b : Fin 8) (k : Fin 128) : (fun l => vAt m c t (ix2 (Gate.row b k) l)) = half (proj m c) (block t b) (group t) k :=
  funext fun l => (blocks_at m c t b k l).2.1

theorem scale_at : (fun l => scaleAt m c t (ix2 0 l)) = par (group t) (scale m c) := funext fun l => (norm_at m c t l).1

theorem shift_at : (fun l => shiftAt m c t (ix2 0 l)) = par (group t) (shift m c) := funext fun l => (norm_at m c t l).2

theorem matrix_at : matOf (matAt m c t) = matrix (mat m c) (group t) := funext fun r => funext fun k => mat_at m c t r k

theorem gated_at (b : Fin 8) (q : Fin 128) : gated (uAt m c t) (cotAt m c t) b q = gatedAt (proj m c) (cot m c) (block t b) (group t) q :=
  funext fun r => congrArg₂ (· * ·) (blocks_at m c t b r q).1 (blocks_at m c t b r q).2.2

theorem passed_row (b : Fin 8) (k q : Fin 128) : passed (uAt m c t) (cotAt m c t) (matAt m c t) (ix2 (Gate.row b k) q)
    = passedAt (proj m c) (mat m c) (cot m c) (block t b) (group t) q k := by
  rw [passed_at, matrix_at, gated_at]

theorem normed_row (b : Fin 8) (q : Fin 128) : normed (vAt m c t) (scaleAt m c t) (shiftAt m c t) b q
    = fun k => Gate.norm (half (proj m c) (block t b) (group t) k) (par (group t) (scale m c)) (par (group t) (shift m c)) q := by
  unfold normed
  simp only [half_at, scale_at, shift_at]

theorem final_7 : (dats m 0 c).arrAt 7 cfg0.N
    = Cert.SguBwdRefIdeal.Read.val_main_v54 (F := Ideal) (proj m c) (scale m c) (shift m c) (mat m c) (add m c) (cot m c) := by
  refine (dats m 0 c).arrAt_eq_of_covers 7 _ (by decide +kernel) fun t _ y => ?_
  obtain ⟨p, q, rfl⟩ : ∃ (p : Fin 1024) (q : Fin 128), y = ix2 p q := ⟨y 0, y 1, by funext a; fin_cases a <;> rfl⟩
  obtain ⟨b, r, rfl⟩ := Gate.exists_row (n := 8) p
  have e : ((cfg0.win 7).blk t).view.emb (ix2 (Gate.row b r) q) = ix2 (Gate.row (block t b) r) (Gate.row (group t) q) := by
    blk_ext [idx t, group, block, Gate.row]
  rw [e, ref_du]
  blk_simp
  rw [after0_7, (written_rows m c t).1, pay16_at, matrix_at, normed_row, add_at, (blocks_at m c t b r q).2.2]

theorem final_8 : (dats m 0 c).arrAt 8 cfg0.N
    = Cert.SguBwdRefIdeal.Read.val_main_v98 (F := Ideal) (proj m c) (scale m c) (mat m c) (cot m c) := by
  refine (dats m 0 c).arrAt_eq_of_covers 8 _ (by decide +kernel) fun t _ y => ?_
  obtain ⟨p, q, rfl⟩ : ∃ (p : Fin 1024) (q : Fin 128), y = ix2 p q := ⟨y 0, y 1, by funext a; fin_cases a <;> rfl⟩
  obtain ⟨b, k, rfl⟩ := Gate.exists_row (n := 8) p
  have e : ((cfg0.win 8).blk t).view.emb (ix2 (Gate.row b k) q) = ix2 (Gate.row (block t b) k) (Gate.row (group t) q) := by
    blk_ext [idx t, group, block, Gate.row]
  rw [e, ref_dv]
  blk_simp
  rw [after0_8, (written_rows m c t).2, pay24_at, half_at, scale_at]
  simp only [passed_row]

/-- A point's part of the running sums, element by element. -/
theorem part_scale (q : Fin 128) : partScale m c t (ix2 0 q) = ∑ b : Fin 8, ∑ k : Fin 128, Gate.unit (half (proj m c) (block t b) (group t) k) q
    * passedAt (proj m c) (mat m c) (cot m c) (block t b) (group t) q k := by
  refine (pay22_at _ _ _ _ q).trans ((Gate.sum_rows (n := 8) _).symm.trans ?_)
  simp only [half_at, passed_row]

theorem part_shift (q : Fin 128) : partShift m c t (ix2 0 q)
    = ∑ b : Fin 8, ∑ k : Fin 128, passedAt (proj m c) (mat m c) (cot m c) (block t b) (group t) q k := by
  refine (pay21_at _ _ _ q).trans ((Gate.sum_rows (n := 8) _).symm.trans ?_)
  simp only [passed_row]

theorem part_mat (r k : Fin 128) : partMat m c t (ix2 r k) = ∑ b : Fin 8, if Gate.Reads r k then
    ∑ q : Fin 128, gatedAt (proj m c) (cot m c) (block t b) (group t) q r
      * Gate.norm (half (proj m c) (block t b) (group t) k) (par (group t) (scale m c)) (par (group t) (shift m c)) q else 0 := by
  refine (pay20_at _ _ _ _ _ r k).trans ?_
  by_cases h : Gate.Reads r k
  · simp only [if_pos h]
    exact Finset.sum_congr rfl fun b _ => Finset.sum_congr rfl fun q _ =>
      congrArg₂ (· * ·) (congrFun (gated_at m c t b q) r) (congrFun (normed_row m c t b q) k)
  · simp only [if_neg h, Finset.sum_const_zero]

theorem part_add (r : Fin 128) : partAdd m c t (ix2 r 0)
    = ∑ b : Fin 8, ∑ q : Fin 128, gatedAt (proj m c) (cot m c) (block t b) (group t) q r := by
  refine (pay18_at _ _ r).trans ?_
  exact Finset.sum_congr rfl fun b _ => Finset.sum_congr rfl fun q _ => congrFun (gated_at m c t b q) r

/-- The points of a group, and their blocks among all the blocks. -/
theorem run_at (s : Fin 4) (u : Fin cfg0.N) (hu : u.val = 4 * (t.val / 4) + s.val) (b : Fin 8) (hl : s.val * 8 + b.val < 32) :
    group u = group t ∧ block u b = ⟨s.val * 8 + b.val, hl⟩ :=
  ⟨Fin.ext (show u.val / 4 = t.val / 4 by omega), Fin.ext (show u.val % 4 * 8 + b.val = s.val * 8 + b.val by omega)⟩

theorem scale_last (h : t.val % 4 = 3) (q : Fin 128) : accScale m c t.val t.isLt (ix2 0 q)
    = Cert.SguBwdRefIdeal.Read.val_main_v77 (F := Ideal) (proj m c) (mat m c) (cot m c) (ix2 0 (Gate.row (group t) q)) := by
  rw [ref_scale]
  refine Cert.Norm.columns (J := 4) (n := 8) rfl (fun n hn q => accScale m c n hn (ix2 0 q))
    (fun u q b => ∑ k : Fin 128, Gate.unit (half (proj m c) (block u b) (group u) k) q
      * passedAt (proj m c) (mat m c) (cot m c) (block u b) (group u) q k)
    (fun u h0 q => ?_) (fun u h0 q => ?_) t h
    (fun q n => ∑ k : Fin 128, Gate.unit (half (proj m c) n (group t) k) q * passedAt (proj m c) (mat m c) (cot m c) n (group t) q k)
    (fun s u hu q b hl => ?_) q
  · rw [(acc_first m c u h0).1, (adds _ _ _).1, (zeros 0 0 q).1, part_scale]
  · rw [(acc_next m c u h0).1, (adds _ _ _).1, part_scale]
  · rw [(run_at t s u hu b hl).1, (run_at t s u hu b hl).2]

theorem shift_last (h : t.val % 4 = 3) (q : Fin 128) : accShift m c t.val t.isLt (ix2 0 q)
    = Cert.SguBwdRefIdeal.Read.val_main_v70 (F := Ideal) (proj m c) (mat m c) (cot m c) (ix2 0 (Gate.row (group t) q)) := by
  rw [ref_shift]
  refine Cert.Norm.columns (J := 4) (n := 8) rfl (fun n hn q => accShift m c n hn (ix2 0 q))
    (fun u q b => ∑ k : Fin 128, passedAt (proj m c) (mat m c) (cot m c) (block u b) (group u) q k)
    (fun u h0 q => ?_) (fun u h0 q => ?_) t h
    (fun q n => ∑ k : Fin 128, passedAt (proj m c) (mat m c) (cot m c) n (group t) q k) (fun s u hu q b hl => ?_) q
  · rw [(acc_first m c u h0).2.1, (adds _ _ _).2, (zeros 0 0 q).2.1, part_shift]
  · rw [(acc_next m c u h0).2.1, (adds _ _ _).2, part_shift]
  · rw [(run_at t s u hu b hl).1, (run_at t s u hu b hl).2]

theorem mat_last (h : t.val % 4 = 3) (r k : Fin 128) : accMat m c t.val t.isLt (ix3 0 r k)
    = Cert.SguBwdRefIdeal.Read.val_main_v66 (F := Ideal) (proj m c) (scale m c) (shift m c) (cot m c) (ix3 (group t) r k) := by
  have e : Cert.SguBwdRefIdeal.Read.val_main_v66 (F := Ideal) (proj m c) (scale m c) (shift m c) (cot m c) (ix3 (group t) r k)
      = ∑ n : Fin 32, if Gate.Reads r k then ∑ q : Fin 128, gatedAt (proj m c) (cot m c) n (group t) q r
        * Gate.norm (half (proj m c) n (group t) k) (par (group t) (scale m c)) (par (group t) (shift m c)) q else 0 := by
    rw [ref_mat]
    by_cases h : Gate.Reads r k
    · simp only [if_pos h]
    · simp only [if_neg h, Finset.sum_const_zero]
  rw [e]
  refine Cert.Norm.columns (J := 4) (n := 8) rfl (fun n hn r => accMat m c n hn (ix3 0 r k))
    (fun u r b => if Gate.Reads r k then ∑ q : Fin 128, gatedAt (proj m c) (cot m c) (block u b) (group u) q r
      * Gate.norm (half (proj m c) (block u b) (group u) k) (par (group u) (scale m c)) (par (group u) (shift m c)) q else 0)
    (fun u h0 r => ?_) (fun u h0 r => ?_) t h
    (fun r n => if Gate.Reads r k then ∑ q : Fin 128, gatedAt (proj m c) (cot m c) n (group t) q r
      * Gate.norm (half (proj m c) n (group t) k) (par (group t) (scale m c)) (par (group t) (shift m c)) q else 0)
    (fun s u hu r b hl => ?_) r
  · rw [(acc_first m c u h0).2.2.1, adds_mat, (zeros r k 0).2.2.1, part_mat]
  · rw [(acc_next m c u h0).2.2.1, adds_mat, part_mat]
  · rw [(run_at t s u hu b hl).1, (run_at t s u hu b hl).2]

theorem add_last (h : t.val % 4 = 3) (r : Fin 128) : accAdd m c t.val t.isLt (ix3 0 r 0)
    = Cert.SguBwdRefIdeal.Read.val_main_v61 (F := Ideal) (proj m c) (cot m c) (ix3 (group t) r 0) := by
  rw [ref_add_grad]
  refine Cert.Norm.columns (J := 4) (n := 8) rfl (fun n hn r => accAdd m c n hn (ix3 0 r 0))
    (fun u r b => ∑ q : Fin 128, gatedAt (proj m c) (cot m c) (block u b) (group u) q r)
    (fun u h0 r => ?_) (fun u h0 r => ?_) t h
    (fun r n => ∑ q : Fin 128, gatedAt (proj m c) (cot m c) n (group t) q r) (fun s u hu r b hl => ?_) r
  · rw [(acc_first m c u h0).2.2.2, adds_add, (zeros r 0 0).2.2.2, part_add]
  · rw [(acc_next m c u h0).2.2.2, adds_add, part_add]
  · rw [(run_at t s u hu b hl).1, (run_at t s u hu b hl).2]

theorem final_9 : (dats m 0 c).arrAt 9 cfg0.N = Cert.SguBwdRefIdeal.Read.val_main_v77 (F := Ideal) (proj m c) (mat m c) (cot m c) := by
  refine (dats m 0 c).arrAt_eq_of_covers 9 _ (by decide +kernel) fun t hf y => ?_
  have h1 := (flush0_9 t).mp hf
  obtain ⟨r, q, rfl⟩ : ∃ (r : Fin 1) (q : Fin 128), y = ix2 r q := ⟨y 0, y 1, by funext a; fin_cases a <;> rfl⟩
  obtain rfl : r = 0 := Subsingleton.elim _ _
  have e : ((cfg0.win 9).blk t).view.emb (ix2 0 q) = ix2 0 (Gate.row (group t) q) := by
    blk_ext [idx t, group, Gate.row]
  rw [e, ← scale_last m c t h1]
  blk_simp
  rw [after0_9, accScale]

theorem final_10 : (dats m 0 c).arrAt 10 cfg0.N = Cert.SguBwdRefIdeal.Read.val_main_v70 (F := Ideal) (proj m c) (mat m c) (cot m c) := by
  refine (dats m 0 c).arrAt_eq_of_covers 10 _ (by decide +kernel) fun t hf y => ?_
  have h1 := (flush0_10 t).mp hf
  obtain ⟨r, q, rfl⟩ : ∃ (r : Fin 1) (q : Fin 128), y = ix2 r q := ⟨y 0, y 1, by funext a; fin_cases a <;> rfl⟩
  obtain rfl : r = 0 := Subsingleton.elim _ _
  have e : ((cfg0.win 10).blk t).view.emb (ix2 0 q) = ix2 0 (Gate.row (group t) q) := by
    blk_ext [idx t, group, Gate.row]
  rw [e, ← shift_last m c t h1]
  blk_simp
  rw [after0_10, accShift]

theorem final_11 : (dats m 0 c).arrAt 11 cfg0.N
    = Cert.SguBwdRefIdeal.Read.val_main_v66 (F := Ideal) (proj m c) (scale m c) (shift m c) (cot m c) := by
  refine (dats m 0 c).arrAt_eq_of_covers 11 _ (by decide +kernel) fun t hf y => ?_
  have h1 := (flush0_11 t).mp hf
  obtain ⟨z, r, k, rfl⟩ : ∃ (z : Fin 1) (r k : Fin 128), y = ix3 z r k := ⟨y 0, y 1, y 2, by funext a; fin_cases a <;> rfl⟩
  obtain rfl : z = 0 := Subsingleton.elim _ _
  have e : ((cfg0.win 11).blk t).view.emb (ix3 0 r k) = ix3 (group t) r k := by
    blk_ext [idx t, group]
  rw [e, ← mat_last m c t h1]
  blk_simp
  rw [after0_11, accMat]

theorem final_12 : (dats m 0 c).arrAt 12 cfg0.N = Cert.SguBwdRefIdeal.Read.val_main_v61 (F := Ideal) (proj m c) (cot m c) := by
  refine (dats m 0 c).arrAt_eq_of_covers 12 _ (by decide +kernel) fun t hf y => ?_
  have h1 := (flush0_12 t).mp hf
  obtain ⟨z, r, o, rfl⟩ : ∃ (z : Fin 1) (r : Fin 128) (o : Fin 1), y = ix3 z r o := ⟨y 0, y 1, y 2, by funext a; fin_cases a <;> rfl⟩
  obtain rfl : z = 0 := Subsingleton.elim _ _
  obtain rfl : o = 0 := Subsingleton.elim _ _
  have e : ((cfg0.win 12).blk t).view.emb (ix3 0 r 0) = ix3 (group t) r 0 := by
    blk_ext [idx t, group]
  rw [e, ← add_last m c t h1]
  blk_simp
  rw [after0_12, accAdd]

theorem frame_ref : Cert.quiescent_SguBwdRefIdeal (hSguBwdRefIdeal := Cert.SguBwdRefIdeal.Gen.facts) := fun m ρ _ =>
  (θ_run Cert.SguBwdRefIdeal.defs _ _).mono (fun r h => ⟨fun c => (h c).2.2.2.2.2.2, sem_eq_zero_of_no_sems (by decide) r.2⟩)
    (Cert.SguBwdRefIdeal.Value.run (F := Ideal) m ρ)

theorem value : Cert.algebraic_SguBwdIdeal_SguBwdRefIdeal (hSguBwdIdeal := Cert.SguBwdIdeal.Gen.facts)
    (hSguBwdRefIdeal := Cert.SguBwdRefIdeal.Gen.facts) := by
  intro m g m' g' _ hagree
  refine ⟨fun c => (dats m 0 c).arrAt 7 cfg0.N, fun c => (dats m 0 c).arrAt 8 cfg0.N, fun c => (dats m 0 c).arrAt 9 cfg0.N,
    fun c => (dats m 0 c).arrAt 10 cfg0.N, fun c => (dats m 0 c).arrAt 11 cfg0.N, fun c => (dats m 0 c).arrAt 12 cfg0.N,
    (θ_run _ _ _).mono (fun r h c => ⟨(h.1 c).1 7, (h.1 c).1 8, (h.1 c).1 9, (h.1 c).1 10, (h.1 c).1 11, (h.1 c).1 12, h.2 c⟩)
      (θ_run_and (run_main m g) (unchanged m g)),
    (θ_run _ _ _).mono (fun r h c => ?_) (Cert.SguBwdRefIdeal.Value.run m' g')⟩
  obtain ⟨e0, e1, e2, e3, e4, e5⟩ := hagree c
  obtain ⟨h7, h8, h9, h10, h11, h12, hargs⟩ := h c
  refine ⟨h7.trans ?_, h8.trans ?_, h9.trans ?_, h10.trans ?_, h11.trans ?_, h12.trans ?_, hargs⟩
  · rw [Cert.SguBwdRefIdeal.Read.val_main_v54_eq, e0, e1, e2, e3, e4, e5]; exact (final_7 m c).symm
  · rw [Cert.SguBwdRefIdeal.Read.val_main_v98_eq, e0, e1, e3, e5]; exact (final_8 m c).symm
  · rw [Cert.SguBwdRefIdeal.Read.val_main_v77_eq, e0, e3, e5]; exact (final_9 m c).symm
  · refine (Cert.SguBwdRefIdeal.Read.val_main_v70_eq _ _ _).trans ?_
    rw [e0, e3, e5]; exact (final_10 m c).symm
  · rw [Cert.SguBwdRefIdeal.Read.val_main_v66_eq, e0, e1, e2, e5]; exact (final_11 m c).symm
  · refine (Cert.SguBwdRefIdeal.Read.val_main_v61_eq _ _).trans ?_
    rw [e0, e5]; exact (final_12 m c).symm

end Cert.Rows.SguBwd

end

end
-- ==== Proof.SguFwd.lean ====
/-
  The spatial gating, block by block of 1024 positions and 128 channels.
-/
module

public import proofs.«01_k».proof.Defs
public import proofs.«01_k».proof.Proof.Gate
public import proofs.«01_k».proof.Proof.Gen.SguFwd.Frame
public import proofs.«01_k».proof.Proof.Gen.SguFwdIdeal.Frame
public import proofs.«01_k».proof.Proof.Gen.SguFwdRefIdeal.Run
public import proofs.«01_k».proof.Proof.Gen.SguFwdRefIdeal.Read
public import Idealize.ShloMosaic.Lib.Pipeline.ValueKit
public import Idealize.ShloMosaic.Lib.StableHlo.RunRead
public import Idealize.ShloMosaic.Lib.Claim
public import Idealize.ShloMosaic.Lib.Pointwise
public import Idealize.ShloMosaic.Adequacy
public import Idealize.ShloMosaic.Init

@[expose] public section

set_option maxRecDepth 16384

noncomputable section

namespace Cert.Rows.SguFwd

open Idealize.ShloMosaic Idealize.ShloMosaic.TcCoe Idealize.SL.Sem
open Cert.SguFwdIdeal Cert.SguFwdIdeal.Gen

variable (m : (ℓ : Loc nD τ sig) → Buf (Elt Ideal) ℓ) (c : Dev nD) (t : Fin cfg0.N)

/-- The projection, the norm's scale and shift, the groups' matrices and what they add. -/
abbrev proj : FVec Ideal S4096x15360 .f32 := m ((c : Thread nD τ).loc main_arg0)
abbrev scale : FVec Ideal S1x1024 .f32 := m ((c : Thread nD τ).loc main_arg1)
abbrev shift : FVec Ideal S1x1024 .f32 := m ((c : Thread nD τ).loc main_arg2)
abbrev mat : FVec Ideal S8x128x128 .f32 := m ((c : Thread nD τ).loc main_arg3)
abbrev add : FVec Ideal S8x128x1 .f32 := m ((c : Thread nD τ).loc main_arg4)

/-- A point's blocks. -/
abbrev uAt : FVec Ideal S1024x128 .f32 := iblk m c 0 t
abbrev vAt : FVec Ideal S1024x128 .f32 := iblk m c 1 t
abbrev scaleAt : FVec Ideal S1x128 .f32 := iblk m c 2 t
abbrev shiftAt : FVec Ideal S1x128 .f32 := iblk m c 3 t
abbrev matAt : FVec Ideal S1x128x128 .f32 := iblk m c 4 t
abbrev addAt : FVec Ideal S1x128x1 .f32 := iblk m c 5 t

variable (v : Vec Ideal S1024x128 .f32) (lg lb : Vec Ideal S1x128 .f32) (w : Vec Ideal S1x128x128 .f32)

/-- The normed channels of a block's row. -/
theorem normed (p : Fin 1024) (q : Fin 128) : k0_pay4 (F := Ideal) v lg lb (ix2 p q)
    = Gate.norm (fun k => v (ix2 p k)) (fun k => lg (ix2 0 k)) (fun k => lb (ix2 0 k)) q := by
  pointwise [k0_pay4, Gate.norm, Gate.dev, Gate.inv, Gate.count, Gate.small]

/-- The rows, block by block. -/
theorem blocks (x : FVec Ideal S1024x128 .f32) (b : Fin 8) (r q : Fin 128) : k0_pay8 (F := Ideal) x (ix3 b r q) = x (ix2 (Gate.row b r) q) := by
  pointwise [k0_pay8]

/-- The matrix of what a position reads. -/
theorem masked (b : Fin 8) (r k : Fin 128) :
    k0_pay9 (F := Ideal) (k0_pay2 (F := Ideal) w) (iota .tc S128x128 32 [0] iota_S128x128_d0_w32) 64#32 k0_pay5 k0_pay6 k0_pay7 (ix3 b r k)
      = Gate.masked (fun r k => w (ix3 0 r k)) r k := by
  pointwise [k0_pay9, k0_pay2, k0_pay5, k0_pay6, k0_pay7, Gate.masked]
  have hr := Gate.half_eq r
  have hk := Gate.half_eq k
  unfold Gate.half at hr hk
  rw [hr, hk, Gate.choose]

/-- What a point writes back, element by element. -/
theorem pay1_at (u : Vec Ideal S1024x128 .f32) (a : Vec Ideal S1x128x1 .f32) (b : Fin 8) (r q : Fin 128) :
    k0_pay1 (F := Ideal) u (k0_pay3 (F := Ideal) a) (k0_pay8 (F := Ideal) (k0_pay4 (F := Ideal) v lg lb))
        (k0_pay9 (F := Ideal) (k0_pay2 (F := Ideal) w) (iota .tc S128x128 32 [0] iota_S128x128_d0_w32) 64#32 k0_pay5 k0_pay6 k0_pay7)
        (ix2 (Gate.row b r) q)
      = u (ix2 (Gate.row b r) q) * Gate.mix (fun r k => w (ix3 0 r k))
          (fun k => Gate.norm (fun l => v (ix2 (Gate.row b k) l)) (fun k => lg (ix2 0 k)) (fun k => lb (ix2 0 k)) q) (a (ix3 0 r 0)) r := by
  have hm := masked w b r
  have hn := fun k => (blocks (k0_pay4 (F := Ideal) v lg lb) b k q).trans (normed v lg lb (Gate.row b k) q)
  generalize k0_pay9 (F := Ideal) _ _ _ _ _ _ = M at hm ⊢
  generalize k0_pay8 (F := Ideal) _ = N at hn ⊢
  pointwise [k0_pay1, k0_pay3, Gate.mix]
  simp only [Gate.block_row, Gate.pos_row, hm, hn]

/-- The blocks each window stages. -/
theorem idx : ∀ t : Fin cfg0.N, win0_0.index t = ![t.val % 4, 24 + t.val / 4] ∧ win0_1.index t = ![t.val % 4, 32 + t.val / 4]
    ∧ win0_2.index t = ![0, t.val / 4] ∧ win0_3.index t = ![0, t.val / 4] ∧ win0_4.index t = ![t.val / 4, 0, 0]
    ∧ win0_5.index t = ![t.val / 4, 0, 0] ∧ win0_6.index t = ![t.val % 4, t.val / 4] :=
  (by decide +kernel : ∀ t : Fin grid0.N, _)

/-- A point's group, and its blocks of 128 positions. -/
abbrev group : Fin 8 := ⟨t.val / 4, by have := t.isLt; have : cfg0.N = 32 := N_0; omega⟩
abbrev block (b : Fin 8) : Fin 32 := ⟨t.val % 4 * 8 + b.val, by omega⟩

/-- The group's columns, and where the projection has them. -/
abbrev uCol (g : Fin 8) (q : Fin 128) : Fin 15360 := ⟨3072 + (g.val * 128 + q.val), by omega⟩
abbrev vCol (g : Fin 8) (q : Fin 128) : Fin 15360 := ⟨4096 + (g.val * 128 + q.val), by omega⟩

theorem blocks_at (b : Fin 8) (r q : Fin 128) :
    uAt m c t (ix2 (Gate.row b r) q) = proj m c (ix2 (Gate.row (block t b) r) (uCol (group t) q))
    ∧ vAt m c t (ix2 (Gate.row b r) q) = proj m c (ix2 (Gate.row (block t b) r) (vCol (group t) q)) := by
  refine ⟨?_, ?_⟩
  · blk_ext [iblk, idx t, group, block, uCol, Gate.row]
  · blk_ext [iblk, idx t, group, block, vCol, Gate.row]

theorem params_at (r k q : Fin 128) : scaleAt m c t (ix2 0 q) = scale m c (ix2 0 (Gate.row (group t) q))
    ∧ shiftAt m c t (ix2 0 q) = shift m c (ix2 0 (Gate.row (group t) q)) ∧ matAt m c t (ix3 0 r k) = mat m c (ix3 (group t) r k)
    ∧ addAt m c t (ix3 0 r 0) = add m c (ix3 (group t) r 0) := by
  refine ⟨?_, ?_, ?_, ?_⟩
  · blk_ext [iblk, idx t, group, Gate.row]
  · blk_ext [iblk, idx t, group, Gate.row]
  · blk_ext [iblk, idx t, group]
  · blk_ext [iblk, idx t, group]

section reference

open Cert.SguFwdRefIdeal.Read

variable (x : FVec Ideal S4096x15360 .f32) (lg lb : FVec Ideal S1x1024 .f32) (w : FVec Ideal S8x128x128 .f32) (a : FVec Ideal S8x128x1 .f32)
  (n : Fin 32) (r : Fin 128) (g : Fin 8) (q : Fin 128)

/-- The two halves of the gate, block by block and group by group. -/
theorem ref_halves : val_main_v43 (F := Ideal) x (ix4 n r g q) = x (ix2 (Gate.row n r) (uCol g q))
    ∧ val_main_v2 (F := Ideal) x (ix4 n r g q) = x (ix2 (Gate.row n r) (vCol g q)) := by
  have e : (((n.val * 128 + r.val) * 8 + g.val) * 128 + q.val) / 1024 = n.val * 128 + r.val
      ∧ (((n.val * 128 + r.val) * 8 + g.val) * 128 + q.val) % 1024 = g.val * 128 + q.val := by omega
  have i43 : idx_main_v0 (idx_main_v43 (ix4 n r g q)) = ix2 (Gate.row n r) (uCol g q) := by
    funext j; fin_cases j <;> exact Fin.ext (by first | exact e.1 | exact congrArg (3072 + ·) e.2)
  have i2 : idx_main_v1 (idx_main_v2 (ix4 n r g q)) = ix2 (Gate.row n r) (vCol g q) := by
    funext j; fin_cases j <;> exact Fin.ext (by first | exact e.1 | exact congrArg (4096 + ·) e.2)
  refine ⟨?_, ?_⟩
  · rw [val_main_v43_apply, val_main_v0_apply, i43]
  · rw [val_main_v2_apply, val_main_v1_apply, i2]

theorem ref_params : val_main_v21 (F := Ideal) lg (ix4 n r g q) = lg (ix2 0 (Gate.row g q))
    ∧ val_main_v25 (F := Ideal) lb (ix4 n r g q) = lb (ix2 0 (Gate.row g q)) := by
  refine ⟨?_, ?_⟩
  · pointwise [val_main_v21, val_main_v20, val_main_v19]
  · pointwise [val_main_v25, val_main_v24, val_main_v23]

theorem ref_add : val_main_v41 (F := Ideal) a (ix4 n r g q) = a (ix3 g r 0) := by
  pointwise [val_main_v41, val_main_v40, val_main_v39, val_main_v38, val_main_v37]

theorem ref_normed : val_main_v26 (F := Ideal) x lg lb (ix4 n r g q) = Gate.norm (fun k => x (ix2 (Gate.row n r) (vCol g k)))
    (fun k => lg (ix2 0 (Gate.row g k))) (fun k => lb (ix2 0 (Gate.row g k))) q := by
  have i3 : ∀ k, idx_main_v3 (ix3 n r g) k = ix4 n r g k := fun k => by funext j; fin_cases j <;> rfl
  have i10 : ∀ k, idx_main_v10 (ix3 n r g) k = ix4 n r g k := fun k => by funext j; fin_cases j <;> rfl
  simp only [← fun k => (ref_halves x n r g k).2, ← fun k => (ref_params lg lb n r g k).1, ← fun k => (ref_params lg lb n r g k).2]
  pointwise [val_main_v26, val_main_v22, val_main_v18, val_main_v17, val_main_v16, val_main_v15, val_main_v14, val_main_cst_3, val_main_v13,
    val_main_v12, val_main_cst_2, val_main_v11, val_main_v10_apply, i10, val_main_cst_1, val_main_v9, val_main_v8, val_main_v7, val_main_v6,
    val_main_v5, val_main_cst_0, val_main_v4, val_main_v3_apply, i3, val_main_cst, Gate.norm, Gate.dev, Gate.inv, Gate.count, Gate.small]

theorem ref_half : ∀ r : Fin 128, val_main_v28 (F := Ideal) (ix1 r) = BitVec.ofNat 32 (r.val / 64) := by
  decide +kernel

theorem ref_masked (k : Fin 128) : val_main_v34 (F := Ideal) w (ix3 g r k) = Gate.masked (fun r k => w (ix3 g r k)) r k := by
  have hr := ref_half r
  have hk := ref_half k
  pointwise [val_main_v34, val_main_call1_v2, val_main_call1_v1, val_main_call1_v0, val_main_cst_4, val_main_v33, val_main_v32, val_main_v31,
    val_main_v30, val_main_v29, hr, hk, Gate.masked]
  rw [Gate.choose]
  exact congrArg (fun z => if Gate.Reads r k then w (ix3 g r k) else z) Ideal.ofBits_zero_f32

/-- The reference's result. -/
theorem ref_out : val_main_v46 (F := Ideal) x lg lb w a (ix2 (Gate.row n r) (Gate.row g q))
    = x (ix2 (Gate.row n r) (uCol g q)) * Gate.mix (fun r k => w (ix3 g r k)) (fun k => Gate.norm (fun l => x (ix2 (Gate.row n k) (vCol g l)))
        (fun k => lg (ix2 0 (Gate.row g k))) (fun k => lb (ix2 0 (Gate.row g k))) q) (a (ix3 g r 0)) r := by
  have e : ((n.val * 128 + r.val) * 1024 + (g.val * 128 + q.val)) / 131072 = n.val
      ∧ ((n.val * 128 + r.val) * 1024 + (g.val * 128 + q.val)) / 1024 % 128 = r.val
      ∧ ((n.val * 128 + r.val) * 1024 + (g.val * 128 + q.val)) / 128 % 8 = g.val
      ∧ ((n.val * 128 + r.val) * 1024 + (g.val * 128 + q.val)) % 128 = q.val := by omega
  have i45 : idx_main_v45 (ix2 (Gate.row n r) (Gate.row g q)) = ix4 n r g q := by
    funext j; fin_cases j <;> exact Fin.ext (by first | exact e.1 | exact e.2.1 | exact e.2.2.1 | exact e.2.2.2)
  have il : ∀ k, lidx_main_v35 (ix4 g n q r) k = ix4 n k g q := fun k => by funext j; fin_cases j <;> rfl
  have ir : ∀ k, ridx_main_v35 (ix4 g n q r) k = ix3 g r k := fun k => by funext j; fin_cases j <;> rfl
  have hm := ref_masked w r g
  have hn := fun k => ref_normed x lg lb n k g q
  have hd : val_main_v35 (F := Ideal) x lg lb w (ix4 g n q r) = ∑ k, Gate.masked (fun r k => w (ix3 g r k)) r k
      * Gate.norm (fun l => x (ix2 (Gate.row n k) (vCol g l))) (fun k => lg (ix2 0 (Gate.row g k))) (fun k => lb (ix2 0 (Gate.row g k))) q := by
    rw [val_main_v35_apply]
    exact Finset.sum_congr rfl fun k _ => by rw [il, ir, hm, hn, mul_comm]
  have h45 : val_main_v45 (F := Ideal) x lg lb w a (ix2 (Gate.row n r) (Gate.row g q)) = val_main_v44 (F := Ideal) x lg lb w a (ix4 n r g q) := by
    rw [val_main_v45_apply, i45]
  pointwise [val_main_v46, h45, val_main_v44, val_main_v42, val_main_v36, hd, (ref_halves x n r g q).1, ref_add a n r g q, Gate.mix]

end reference

theorem written : out0_6 (F := Ideal) (uAt m c t) (vAt m c t) (scaleAt m c t) (shiftAt m c t) (matAt m c t) (addAt m c t)
    = k0_pay1 (F := Ideal) (uAt m c t) (k0_pay3 (F := Ideal) (addAt m c t))
        (k0_pay8 (F := Ideal) (k0_pay4 (F := Ideal) (vAt m c t) (scaleAt m c t) (shiftAt m c t)))
        (k0_pay9 (F := Ideal) (k0_pay2 (F := Ideal) (matAt m c t)) (iota .tc S128x128 32 [0] iota_S128x128_d0_w32) 64#32 k0_pay5 k0_pay6 k0_pay7) := by
  unfold out0_6
  frame_out
  try rfl

theorem final : (dats m 0 c).arrAt 6 cfg0.N
    = Cert.SguFwdRefIdeal.Read.val_main_v46 (F := Ideal) (proj m c) (scale m c) (shift m c) (mat m c) (add m c) := by
  refine (dats m 0 c).arrAt_eq_of_covers 6 _ (by decide +kernel) fun t _ y => ?_
  obtain ⟨p, q, rfl⟩ : ∃ (p : Fin 1024) (q : Fin 128), y = ix2 p q := ⟨y 0, y 1, by funext a; fin_cases a <;> rfl⟩
  obtain ⟨b, r, rfl⟩ := Gate.exists_row (n := 8) p
  have e : ((cfg0.win 6).blk t).view.emb (ix2 (Gate.row b r) q) = ix2 (Gate.row (block t b) r) (Gate.row (group t) q) := by
    blk_ext [idx t, group, block, Gate.row]
  rw [e, ref_out]
  blk_simp
  rw [after0_6, written m c t, pay1_at]
  simp only [blocks_at, fun q => (params_at m c t 0 0 q).1, fun q => (params_at m c t 0 0 q).2.1, fun r k => (params_at m c t r k 0).2.2.1,
    fun r => (params_at m c t r 0 0).2.2.2]

theorem frame_ref : Cert.quiescent_SguFwdRefIdeal (hSguFwdRefIdeal := Cert.SguFwdRefIdeal.Gen.facts) := fun m ρ _ =>
  (θ_run Cert.SguFwdRefIdeal.defs _ _).mono (fun r h => ⟨fun c => (h c).2, sem_eq_zero_of_no_sems (by decide) r.2⟩)
    (Cert.SguFwdRefIdeal.Value.run (F := Ideal) m ρ)

theorem value : Cert.algebraic_SguFwdIdeal_SguFwdRefIdeal (hSguFwdIdeal := Cert.SguFwdIdeal.Gen.facts)
    (hSguFwdRefIdeal := Cert.SguFwdRefIdeal.Gen.facts) := by
  intro m g m' g' _ hagree
  refine ⟨fun c => (dats m 0 c).arrAt 6 cfg0.N,
    (θ_run _ _ _).mono (fun r h c => ⟨(h.1 c).1 6, h.2 c⟩) (θ_run_and (run_main m g) (unchanged m g)),
    (θ_run _ _ _).mono (fun r h c => ?_) (Cert.SguFwdRefIdeal.Value.run m' g')⟩
  obtain ⟨e0, e1, e2, e3, e4⟩ := hagree c
  obtain ⟨h0, hargs⟩ := h c
  refine ⟨h0.trans ?_, hargs⟩
  rw [Cert.SguFwdRefIdeal.Read.val_main_v46_eq, e0, e1, e2, e3, e4]
  exact (final m c).symm

end Cert.Rows.SguFwd

end

end
-- ==== Proof.Shift.lean ====
/-
  Columns of 4096 rows shifted down and up, with zeros where a row has no other: as a rotation under a mask, as a slice of the
  column after rows of zeros, and as a column padded with zeros; and the causal convolution of three taps.
-/
module

public import Idealize.ShloMosaic.Lib.Pipeline.ValueKit
public import Idealize.ShloMosaic.Lib.Pointwise
public import Idealize.ShloMosaic.Lib.KernelVsHost
public import Idealize.ShloMosaic.Lib.WordCmp
public import Idealize.ShloMosaic.Lib.Pipeline.RowLoads

@[expose] public section

set_option maxRecDepth 16384

noncomputable section

namespace Cert.Shift

open Idealize.ShloMosaic

/-- A column moved down, and up, by `k` rows. -/
def down (k : ℕ) (x : Fin 4096 → EReal) (p : Fin 4096) : EReal :=
  if k ≤ p.val then x ⟨p.val - k, by omega⟩ else 0

def up (k : ℕ) (x : Fin 4096 → EReal) (p : Fin 4096) : EReal :=
  if h : p.val + k < 4096 then x ⟨p.val + k, h⟩ else 0

theorem down_zero (x : Fin 4096 → EReal) (p : Fin 4096) : down 0 x p = x p := by simp [down]

theorem up_zero (x : Fin 4096 → EReal) (p : Fin 4096) : up 0 x p = x p := by simp [up]

/-- A scaled column moved is the moved column scaled. -/
theorem up_mul (k : ℕ) (x : Fin 4096 → EReal) (w : EReal) (p : Fin 4096) : up k (fun r => x r * w) p = w * up k x p := by
  unfold up
  split
  · exact mul_comm _ _
  · exact (mul_zero w).symm

section rolled

variable {n : ℕ} (x : Vec Ideal ⟨2, ![4096, n]⟩ .f32) (k : ℕ)

/-- Comparing a row's number with `k`. -/
theorem small (hk : k ≤ 4096) : (BitVec.ofNat 32 k).toInt = k := WordCmp.toInt_ofNat_of_lt (by show k < 2 ^ 31; omega)

theorem rolled_down (hk : k < 4096) (hi : Shape.Iotas ⟨2, ![4096, n]⟩ .tc 32 [0]) (hr : Shape.Rotates ⟨2, ![4096, n]⟩ 0 none)
    (z : Ideal .f32) (hz : z = 0) (p : Fin 4096) (q : Fin n) :
    select (cmpi .sge (iota .tc ⟨2, ![4096, n]⟩ 32 [0] hi) (broadcast ⟨2, ![4096, n]⟩ (BitVec.ofNat 32 k)))
      (dynamicRotate 0 (BitVec.ofNat 32 k) none x hr) (broadcast ⟨2, ![4096, n]⟩ z) (ix2 p q)
      = down k (fun r => x (ix2 r q)) p := by
  have hb : (BitVec.ofNat 32 k).toNat = k := by rw [BitVec.toNat_ofNat]; omega
  have hp : (0 * 4096 + p.val) = p.val := by omega
  show (if BitVec.ofBool (BitVec.sle (BitVec.ofNat 32 k) (BitVec.ofNat 32 (0 * 4096 + p.val))) = 1 then _ else z) = _
  rw [hp]
  unfold BitVec.sle down
  rw [small k hk.le, small p.val p.isLt.le]
  by_cases h : k ≤ p.val
  · rw [if_pos h, decide_eq_true (by omega)]
    refine (if_pos rfl).trans ?_
    refine dynamicRotate_apply 0 _ x hr (ix2 p q) (ix2 ⟨p.val - k, by omega⟩ q) fun b => ?_
    fin_cases b
    · show p.val - k = (p.val + 4096 - (BitVec.ofNat 32 k).toNat % 4096) % 4096
      rw [hb]; omega
    · rfl
  · rw [if_neg h, decide_eq_false (by omega)]
    exact (if_neg (by decide)).trans hz

theorem rolled_up (hk : 0 < k ∧ k < 4096) (hi : Shape.Iotas ⟨2, ![4096, n]⟩ .tc 32 [0]) (hr : Shape.Rotates ⟨2, ![4096, n]⟩ 0 none)
    (z : Ideal .f32) (hz : z = 0) (p : Fin 4096) (q : Fin n) :
    select (cmpi .slt (iota .tc ⟨2, ![4096, n]⟩ 32 [0] hi) (broadcast ⟨2, ![4096, n]⟩ (BitVec.ofNat 32 k)))
      (dynamicRotate 0 (BitVec.ofNat 32 k) none x hr) (broadcast ⟨2, ![4096, n]⟩ z) (ix2 p q)
      = up (4096 - k) (fun r => x (ix2 r q)) p := by
  have hb : (BitVec.ofNat 32 k).toNat = k := by rw [BitVec.toNat_ofNat]; omega
  have hp : (0 * 4096 + p.val) = p.val := by omega
  show (if BitVec.ofBool (BitVec.slt (BitVec.ofNat 32 (0 * 4096 + p.val)) (BitVec.ofNat 32 k)) = 1 then _ else z) = _
  rw [hp]
  unfold BitVec.slt up
  rw [small k hk.2.le, small p.val p.isLt.le]
  by_cases h : p.val + (4096 - k) < 4096
  · rw [dif_pos h, decide_eq_true (by omega)]
    refine (if_pos rfl).trans ?_
    refine dynamicRotate_apply 0 _ x hr (ix2 p q) (ix2 ⟨p.val + (4096 - k), h⟩ q) fun b => ?_
    fin_cases b
    · show p.val + (4096 - k) = (p.val + 4096 - (BitVec.ofNat 32 k).toNat % 4096) % 4096
      rw [hb]; omega
    · rfl
  · rw [dif_neg h, decide_eq_false (by omega)]
    exact (if_neg (by decide)).trans hz

end rolled

section host

variable {T n : ℕ} (K j : ℕ) (x : Vec Ideal ⟨2, ![4096, n]⟩ .f32) (p : Fin 4096) (q : Fin n)

/-- A row of the column after `K` rows of zeros. -/
theorem past (hT : T = K + 4096) (hj : j ≤ K) (z : Vec Ideal ⟨2, ![K, n]⟩ .f32) (hz : ∀ i, z i = 0)
    (h : Shape.Concatenates [⟨2, ![K, n]⟩, ⟨2, ![4096, n]⟩] ⟨2, ![T, n]⟩ 0) (i : Shape.Idx ⟨2, ![T, n]⟩)
    (h0 : (i 0).val = p.val + j) (h1 : (i 1).val = q.val) :
    concatenate ⟨2, ![T, n]⟩ 0 [⟨⟨2, ![K, n]⟩, z⟩, ⟨⟨2, ![4096, n]⟩, x⟩] h i = down (K - j) (fun r => x (ix2 r q)) p := by
  unfold down
  by_cases hp : K - j ≤ p.val
  · rw [if_pos hp]
    refine concatenate_pair_apply_right 0 z x h i rfl rfl (ix2 ⟨p.val - (K - j), by omega⟩ q) (fun b hb => ?_) ?_
    · fin_cases b
      · exact absurd rfl hb
      · exact h1.symm
    · show (p.val - (K - j)) + K = _
      omega
  · rw [if_neg hp]
    refine (concatenate_pair_apply_left 0 z x h i rfl (ix2 ⟨(i 0).val, by omega⟩ ⟨(i 1).val, by omega⟩) (fun b => ?_)).trans (hz _)
    fin_cases b <;> rfl

/-- A row of the column padded with zeros, `j` before it. -/
theorem ahead (hj : j ≤ K) (hi : Fin 2 → ℕ) {u : Shape} (z : Vec Ideal u .f32) (hu : 0 < u.numel) (hz : ∀ i, z i = 0)
    (h : Shape.Pads ⟨2, ![4096, n]⟩ ![j, 0] hi ![0, 0] ⟨2, ![T, n]⟩) (i : Shape.Idx ⟨2, ![T, n]⟩)
    (h0 : (i 0).val = p.val + K) (h1 : (i 1).val = q.val) :
    pad ⟨2, ![T, n]⟩ ![j, 0] hi ![0, 0] x z h hu i = up (K - j) (fun r => x (ix2 r q)) p := by
  unfold up
  by_cases hp : p.val + (K - j) < 4096
  · rw [dif_pos hp]
    refine pad_apply_of_inside _ _ _ x z h hu i (ix2 ⟨p.val + (K - j), hp⟩ q) (fun a => ?_)
    fin_cases a
    · show (i 0).val = j + (p.val + (K - j)) * 1
      omega
    · show (i 1).val = 0 + q.val * 1
      omega
  · rw [dif_neg hp]
    refine (pad_apply_of_not_inside _ _ _ x z h hu i 0 (fun hin => ?_)).trans (hz _)
    have := hin.2.2
    change ((i 0).val - j) / 1 < 4096 at this
    omega

end host

section taps

variable {T n : ℕ}

/-- One row of an array of `T` taps. -/
abbrev tap (w : Vec Ideal ⟨3, ![T, 1, n]⟩ .f32) (k : Fin T) : Vec Ideal ⟨3, ![1, 1, n]⟩ .f32 := fun i => w (ix3 k 0 (i 2))

theorem load_tap (w : Vec Ideal ⟨3, ![T, 1, n]⟩ .f32) (k : Fin T) (h : ∀ a, ![k.val, 0, 0] a + ![1, 1, n] a ≤ ![T, 1, n] a) :
    View.ld w (Rect.unit (s := ⟨3, ![T, 1, n]⟩) ![k.val, 0, 0] ![1, 1, n] h) = tap w k := by
  funext i
  refine congrArg w (funext fun a => Fin.ext ?_)
  rw [Rect.idx_unit_val]
  match a with
  | ⟨0, _⟩ => have : (i 0).val < 1 := (i 0).isLt; show k.val + (i 0).val = k.val; omega
  | ⟨1, _⟩ => have : (i 1).val < 1 := (i 1).isLt; show 0 + (i 1).val = 0; omega
  | ⟨2, _⟩ => exact Nat.zero_add _

end taps

/-- The zero a shifted column is filled with. -/
theorem fill : (Scalar.ofBits .f32 0x00000000#32 : Ideal .f32) = 0 := Ideal.ofBits_zero_f32

/-- The convolution of three taps: a row's own by the last, the two rows before by the first two. -/
def conv3 (w : Fin 3 → EReal) (x : Fin 4096 → EReal) (p : Fin 4096) : EReal :=
  w 2 * x p + w 0 * down 2 x p + w 1 * down 1 x p

theorem conv3_host (w : Fin 3 → EReal) (x : Fin 4096 → EReal) (p : Fin 4096) :
    0 + down 2 x p * w 0 + down 1 x p * w 1 + x p * w 2 = conv3 w x p := by
  unfold conv3
  rw [zero_add, mul_comm (down 2 x p), mul_comm (down 1 x p), mul_comm (x p), add_comm _ (w 2 * x p), ← add_assoc]

/-- Its gradient with respect to the column: a row's own by the last tap, the two rows after by the first two. -/
def spread3 (w : Fin 3 → EReal) (z : Fin 4096 → EReal) (p : Fin 4096) : EReal :=
  w 2 * z p + w 0 * up 2 z p + w 1 * up 1 z p

theorem spread3_host (w : Fin 3 → EReal) (z : Fin 4096 → EReal) (p : Fin 4096) :
    up 0 (fun r => z r * w 2) p + up 1 (fun r => z r * w 1) p + up 2 (fun r => z r * w 0) p = spread3 w z p := by
  unfold spread3
  rw [up_mul, up_mul, up_mul, up_zero, add_right_comm]

/-- The convolution of four taps. -/
def conv4 (w : Fin 4 → EReal) (x : Fin 4096 → EReal) (p : Fin 4096) : EReal :=
  w 3 * x p + w 0 * down 3 x p + w 1 * down 2 x p + w 2 * down 1 x p

theorem conv4_host (w : Fin 4 → EReal) (x : Fin 4096 → EReal) (p : Fin 4096) :
    0 + down 3 x p * w 0 + down 2 x p * w 1 + down 1 x p * w 2 + x p * w 3 = conv4 w x p := by
  unfold conv4
  rw [zero_add, mul_comm (down 3 x p), mul_comm (down 2 x p), mul_comm (down 1 x p), mul_comm (x p), add_comm _ (w 3 * x p), ← add_assoc,
    ← add_assoc]

/-- Its gradient with respect to the column. -/
def spread4 (w : Fin 4 → EReal) (z : Fin 4096 → EReal) (p : Fin 4096) : EReal :=
  w 3 * z p + w 0 * up 3 z p + w 1 * up 2 z p + w 2 * up 1 z p

theorem spread4_host (w : Fin 4 → EReal) (z : Fin 4096 → EReal) (p : Fin 4096) :
    up 0 (fun r => z r * w 3) p + up 1 (fun r => z r * w 2) p + up 2 (fun r => z r * w 1) p + up 3 (fun r => z r * w 0) p = spread4 w z p := by
  unfold spread4
  rw [up_mul, up_mul, up_mul, up_mul, up_zero]
  ac_rfl

/-- Its gradient with respect to the tap of the row `j` before. -/
def ofTap (j : ℕ) (x z : Fin 4096 → EReal) : EReal := ∑ p, z p * down j x p

/-- A row of taps padded with zeros to its place among the taps. -/
theorem place {T n : ℕ} (a : ℕ) (hi : Fin 3 → ℕ) (x : Vec Ideal ⟨3, ![1, 1, n]⟩ .f32) {u : Shape} (z : Vec Ideal u .f32) (hu : 0 < u.numel)
    (hz : ∀ i, z i = 0) (h : Shape.Pads ⟨3, ![1, 1, n]⟩ ![a, 0, 0] hi ![0, 0, 0] ⟨3, ![T, 1, n]⟩) (k : Fin T) (q : Fin n) :
    pad ⟨3, ![T, 1, n]⟩ ![a, 0, 0] hi ![0, 0, 0] x z h hu (ix3 k 0 q) = if k.val = a then x (ix3 0 0 q) else 0 := by
  by_cases hk : k.val = a
  · rw [if_pos hk]
    refine pad_apply_of_inside _ _ _ x z h hu _ (ix3 0 0 q) (fun b => ?_)
    match b with
    | ⟨0, _⟩ => exact hk
    | ⟨1, _⟩ => rfl
    | ⟨2, _⟩ => show q.val = 0 + q.val * 1; omega
  · rw [if_neg hk]
    refine (pad_apply_of_not_inside _ _ _ x z h hu _ 0 (fun hin => ?_)).trans (hz _)
    have h1 : a ≤ k.val := hin.1
    have h2 : (k.val - a) / 1 < 1 := hin.2.2
    omega

/-- Three rows of taps' gradients, each at its place, added up. -/
theorem place3 (k : Fin 3) (x z : Fin 4096 → EReal) {a2 a1 a0 s2 s1 s0 : EReal} (e2 : s2 = if k.val = 2 then a2 else 0)
    (e1 : s1 = if k.val = 1 then a1 else 0) (e0 : s0 = if k.val = 0 then a0 else 0) (h2 : a2 = ofTap 0 x z) (h1 : a1 = ofTap 1 x z)
    (h0 : a0 = ofTap 2 x z) : s2 + s1 + s0 = ofTap (2 - k.val) x z := by
  subst e2 e1 e0 h2 h1 h0
  fin_cases k <;> simp

/-- Four of them. -/
theorem place4 (k : Fin 4) (x z : Fin 4096 → EReal) {a3 a2 a1 a0 s3 s2 s1 s0 : EReal} (e3 : s3 = if k.val = 3 then a3 else 0)
    (e2 : s2 = if k.val = 2 then a2 else 0) (e1 : s1 = if k.val = 1 then a1 else 0) (e0 : s0 = if k.val = 0 then a0 else 0)
    (h3 : a3 = ofTap 0 x z) (h2 : a2 = ofTap 1 x z) (h1 : a1 = ofTap 2 x z) (h0 : a0 = ofTap 3 x z) :
    s3 + s2 + s1 + s0 = ofTap (3 - k.val) x z := by
  subst e3 e2 e1 e0 h3 h2 h1 h0
  fin_cases k <;> simp

/-! ## Real numbers among the extended ones -/

def IsReal (a : EReal) : Prop := ∃ r : ℝ, a = r

theorem IsReal.add {a b : EReal} (ha : IsReal a) (hb : IsReal b) : IsReal (a + b) := by
  obtain ⟨x, rfl⟩ := ha; obtain ⟨y, rfl⟩ := hb
  exact ⟨x + y, (EReal.coe_add x y).symm⟩

theorem IsReal.mul {a b : EReal} (ha : IsReal a) (hb : IsReal b) : IsReal (a * b) := by
  obtain ⟨x, rfl⟩ := ha; obtain ⟨y, rfl⟩ := hb
  exact ⟨x * y, (EReal.coe_mul x y).symm⟩

theorem IsReal.down {x : Fin 4096 → EReal} (hx : ∀ r, IsReal (x r)) (k : ℕ) (p : Fin 4096) : IsReal (down k x p) := by
  unfold Shift.down
  split
  · exact hx _
  · exact ⟨0, rfl⟩

theorem IsReal.conv3 {w : Fin 3 → EReal} {x : Fin 4096 → EReal} (hw : ∀ k, IsReal (w k)) (hx : ∀ r, IsReal (x r)) (p : Fin 4096) :
    IsReal (conv3 w x p) :=
  (((hw 2).mul (hx p)).add ((hw 0).mul (IsReal.down hx 2 p))).add ((hw 1).mul (IsReal.down hx 1 p))

/-- The slope of the activation, of one product and of the sum that the reference takes. -/
theorem slope {d z : EReal} (hd : IsReal d) :
    d * Ideal.logistic z + z * d * (Ideal.logistic z * (1 - Ideal.logistic z)) = d * (Ideal.logistic z * (1 + z * (1 - Ideal.logistic z))) := by
  obtain ⟨d, rfl⟩ := hd
  induction z with
  | bot => simp only [Ideal.logistic_bot, zero_mul, mul_zero, add_zero]
  | top =>
    have h0 : (1 : EReal) - 1 = 0 := EReal.sub_self (by decide) (by decide)
    simp only [Ideal.logistic_top, h0, mul_zero, add_zero, mul_one]
  | coe z =>
    obtain ⟨s, hs⟩ : IsReal (Ideal.logistic (z : EReal)) := ⟨_, Ideal.logistic_coe z⟩
    rw [hs]
    have h1 : (1 : EReal) = ((1 : ℝ) : EReal) := rfl
    rw [h1, ← EReal.coe_sub, ← EReal.coe_mul, ← EReal.coe_mul, ← EReal.coe_mul, ← EReal.coe_mul, ← EReal.coe_add, ← EReal.coe_mul,
      ← EReal.coe_add, ← EReal.coe_mul, ← EReal.coe_mul]
    exact congrArg _ (by ring)

end Cert.Shift

end

end
-- ==== Proof.ActBwd.lean ====
/-
  The gradients of the feed-forward's convolutions and activation, column by column.
-/
module

public import proofs.«01_k».proof.Defs
public import proofs.«01_k».proof.Proof.Finite
public import proofs.«01_k».proof.Proof.Shift
public import proofs.«01_k».proof.Proof.Gen.ActBwd.Frame
public import proofs.«01_k».proof.Proof.Gen.ActBwdIdeal.Frame
public import proofs.«01_k».proof.Proof.Gen.ActBwdRefIdeal.Run
public import proofs.«01_k».proof.Proof.Gen.ActBwdRefIdeal.Read
public import Idealize.ShloMosaic.Lib.Pipeline.ValueKit
public import Idealize.ShloMosaic.Lib.StableHlo.RunRead
public import Idealize.ShloMosaic.Lib.Claim
public import Idealize.ShloMosaic.Lib.ReduceAll
public import proofs.«01_k».proof.Proof.Gen.Pre_finite_values
public import Idealize.ShloMosaic.Lib.Pointwise
public import Idealize.ShloMosaic.Adequacy
public import Idealize.ShloMosaic.Init

@[expose] public section

set_option maxRecDepth 16384

noncomputable section

namespace Cert.Rows.ActBwd

open Idealize.ShloMosaic Idealize.ShloMosaic.TcCoe Idealize.SL.Sem
open Cert.ActBwdIdeal Cert.ActBwdIdeal.Gen Cert.Shift

variable (m : (ℓ : Loc nD τ sig) → Buf (Elt Ideal) ℓ) (c : Dev nD) (t : Fin cfg0.N)

variable (m : (ℓ : Loc nD τ sig) → Buf (Elt Ideal) ℓ) (c : Dev nD) (t : Fin cfg0.N)

/-- The two halves of the projection, their taps and shifts, and the cotangent of the product. -/
abbrev gate : FVec Ideal S4096x5632 .f32 := m ((c : Thread nD τ).loc main_arg0)
abbrev value' : FVec Ideal S4096x5632 .f32 := m ((c : Thread nD τ).loc main_arg1)
abbrev gateTap : FVec Ideal S3x1x5632 .f32 := m ((c : Thread nD τ).loc main_arg2)
abbrev valueTap : FVec Ideal S3x1x5632 .f32 := m ((c : Thread nD τ).loc main_arg3)
abbrev gateBias : FVec Ideal S1x5632 .f32 := m ((c : Thread nD τ).loc main_arg4)
abbrev valueBias : FVec Ideal S1x5632 .f32 := m ((c : Thread nD τ).loc main_arg5)
abbrev cot : FVec Ideal S4096x5632 .f32 := m ((c : Thread nD τ).loc main_arg6)

/-- A point's blocks. -/
abbrev gateAt : FVec Ideal S4096x128 .f32 := iblk m c 0 t
abbrev valueAt : FVec Ideal S4096x128 .f32 := iblk m c 1 t
abbrev gateTapAt : FVec Ideal S3x1x128 .f32 := iblk m c 2 t
abbrev valueTapAt : FVec Ideal S3x1x128 .f32 := iblk m c 3 t
abbrev gateBiasAt : FVec Ideal S1x128 .f32 := iblk m c 4 t
abbrev valueBiasAt : FVec Ideal S1x128 .f32 := iblk m c 5 t
abbrev cotAt : FVec Ideal S4096x128 .f32 := iblk m c 6 t

/-- A column convolved and shifted, of an array of any width. -/
def conv {n : ℕ} (w : FVec Ideal ⟨3, ![3, 1, n]⟩ .f32) (b : FVec Ideal ⟨2, ![1, n]⟩ .f32) (x : FVec Ideal ⟨2, ![4096, n]⟩ .f32) (q : Fin n)
    (p : Fin 4096) : EReal := conv3 (fun k => w (ix3 k 0 q)) (fun r => x (ix2 r q)) p + b (ix2 0 q)

/-- The gradients of the two convolved columns, of them and the cotangent. -/
def ofGate (g v d : EReal) : EReal := d * v * (Ideal.logistic g * (1 + g * (1 - Ideal.logistic g)))
def ofValue (g d : EReal) : EReal := d * (g * Ideal.logistic g)

theorem ld_tap (w : FVec Ideal S3x1x128 .f32) : View.ld w r0_1 = tap w 2 ∧ View.ld w r0_2 = tap w 0 ∧ View.ld w r0_3 = tap w 1 :=
  ⟨load_tap w 2 _, load_tap w 0 _, load_tap w 1 _⟩

section point

variable (x y d : FVec Ideal S4096x128 .f32) (w u : FVec Ideal S3x1x128 .f32) (b e : FVec Ideal S1x128 .f32) (z : FVec Ideal S4096x128 .f32)
  (p : Fin 4096) (q : Fin 128)

/-- The convolved gate and the two gradients of a point. -/
abbrev gatePt : FVec Ideal S4096x128 .f32 := k0_pay3 (F := Ideal) x (tap w 2) (tap w 0) (tap w 1) b
abbrev dGate : FVec Ideal S4096x128 .f32 := k0_pay5 (F := Ideal) y d (gatePt x w b) (tap u 2) (tap u 0) (tap u 1) e
abbrev dValue : FVec Ideal S4096x128 .f32 := k0_pay6 (F := Ideal) d (gatePt x w b)

theorem pay20_eq : k0_pay20 (F := Ideal) x y w u b e d = gatePt x w b := by
  unfold k0_pay20
  simp only [(ld_tap _).1, (ld_tap _).2.1, (ld_tap _).2.2]
  frame_out
  try rfl

theorem pay21_eq : k0_pay21 (F := Ideal) x y w u b e d = dGate x y d w u b e := by
  unfold k0_pay21
  rw [pay20_eq]
  simp only [(ld_tap _).1, (ld_tap _).2.1, (ld_tap _).2.2]
  frame_out
  try rfl

theorem pay22_eq : k0_pay22 (F := Ideal) x y w u b e d = dValue x d w b := by
  unfold k0_pay22
  rw [pay20_eq]
  frame_out
  try rfl

theorem gatePt_at : gatePt x w b (ix2 p q) = conv w b x q p := by
  have d2 := rolled_down x 2 (by decide) iota_S4096x128_d0_w32 rotates_S4096x128_d0 _ fill p q
  have d1 := rolled_down x 1 (by decide) iota_S4096x128_d0_w32 rotates_S4096x128_d0 _ fill p q
  unfold gatePt k0_pay3 conv conv3
  rw [← d2, ← d1]
  generalize select _ _ _ = s
  generalize select _ _ _ = r
  pointwise [tap]

theorem dGate_at : dGate x y d w u b e (ix2 p q) = ofGate (conv w b x q p) (conv u e y q p) (d (ix2 p q)) := by
  have d2 := rolled_down y 2 (by decide) iota_S4096x128_d0_w32 rotates_S4096x128_d0 _ fill p q
  have d1 := rolled_down y 1 (by decide) iota_S4096x128_d0_w32 rotates_S4096x128_d0 _ fill p q
  rw [← gatePt_at]
  unfold dGate
  generalize gatePt x w b = g
  unfold k0_pay5 k0_pay4 conv conv3
  rw [← d2, ← d1]
  generalize select _ _ _ = s
  generalize select _ _ _ = r
  pointwise [tap, ofGate]

theorem dValue_at : dValue x d w b (ix2 p q) = ofValue (conv w b x q p) (d (ix2 p q)) := by
  rw [← gatePt_at]
  unfold dValue
  generalize gatePt x w b = g
  pointwise [k0_pay6, k0_pay4, ofValue]

/-- What is handed back to the gate's column and to the value's. -/
theorem toGate_at : k0_pay14 (F := Ideal) z (k0_pay10 (F := Ideal) z (tap w 2) (tap w 0)) (tap w 1) (ix2 p q)
    = spread3 (fun k => w (ix3 k 0 q)) (fun r => z (ix2 r q)) p := by
  have d2 := rolled_up z 4094 (by decide) iota_S4096x128_d0_w32 rotates_S4096x128_d0 _ fill p q
  have d1 := rolled_up z 4095 (by decide) iota_S4096x128_d0_w32 rotates_S4096x128_d0 _ fill p q
  unfold k0_pay14 k0_pay10 spread3
  dsimp only
  rw [← d2, ← d1]
  generalize select _ _ _ = s
  generalize select _ _ _ = r
  pointwise [tap]

theorem toValue_at : k0_pay2 (F := Ideal) (k0_pay19 (F := Ideal) z (k0_pay15 (F := Ideal) z (tap w 2)) (tap w 0) (tap w 1)) (ix2 p q)
    = spread3 (fun k => w (ix3 k 0 q)) (fun r => z (ix2 r q)) p := by
  have d2 := rolled_up z 4094 (by decide) iota_S4096x128_d0_w32 rotates_S4096x128_d0 _ fill p q
  have d1 := rolled_up z 4095 (by decide) iota_S4096x128_d0_w32 rotates_S4096x128_d0 _ fill p q
  unfold k0_pay2 k0_pay19 k0_pay15 spread3
  dsimp only
  rw [← d2, ← d1]
  generalize select _ _ _ = s
  generalize select _ _ _ = r
  pointwise [tap]

/-- What each tap is handed back, of the gate's three and of the value's. -/
theorem pay9_at : k0_pay9 (F := Ideal) x z (ix3 0 0 q) = ofTap 0 (fun r => x (ix2 r q)) (fun r => z (ix2 r q)) := by
  simp only [ofTap, down_zero]
  pointwise [k0_pay9]

theorem pay11_at : k0_pay12 (F := Ideal) (k0_pay11 (F := Ideal) x z) (ix3 0 0 q) = ofTap 2 (fun r => x (ix2 r q)) (fun r => z (ix2 r q)) := by
  have d2 := fun p => rolled_down x 2 (by decide) iota_S4096x128_d0_w32 rotates_S4096x128_d0 _ fill p q
  unfold k0_pay12 k0_pay11 ofTap
  simp only [← d2]
  generalize select _ _ _ = s
  pointwise

theorem pay13_at : k0_pay13 (F := Ideal) x z (ix3 0 0 q) = ofTap 1 (fun r => x (ix2 r q)) (fun r => z (ix2 r q)) := by
  have d1 := fun p => rolled_down x 1 (by decide) iota_S4096x128_d0_w32 rotates_S4096x128_d0 _ fill p q
  unfold k0_pay13 ofTap
  simp only [← d1]
  generalize select _ _ _ = s
  pointwise

theorem pay16_at : k0_pay17 (F := Ideal) (k0_pay16 (F := Ideal) x z) (ix3 0 0 q) = ofTap 0 (fun r => x (ix2 r q)) (fun r => z (ix2 r q)) := by
  simp only [ofTap, down_zero]
  pointwise [k0_pay17, k0_pay16]

theorem pay18_at : k0_pay18 (F := Ideal) x z (ix3 0 0 q) = ofTap 2 (fun r => x (ix2 r q)) (fun r => z (ix2 r q)) := by
  have d2 := fun p => rolled_down x 2 (by decide) iota_S4096x128_d0_w32 rotates_S4096x128_d0 _ fill p q
  unfold k0_pay18 ofTap
  simp only [← d2]
  generalize select _ _ _ = s
  pointwise

theorem pay1_at : k0_pay1 (F := Ideal) x z (iota .tc S4096x128 32 [0] iota_S4096x128_d0_w32) 1#32 (ix3 0 0 q)
    = ofTap 1 (fun r => x (ix2 r q)) (fun r => z (ix2 r q)) := by
  have d1 := fun p => rolled_down x 1 (by decide) iota_S4096x128_d0_w32 rotates_S4096x128_d0 _ fill p q
  unfold k0_pay1 ofTap
  simp only [← d1]
  generalize select _ _ _ = s
  pointwise

theorem pay7_at : k0_pay7 (F := Ideal) y d (gatePt x w b) (tap u 2) (tap u 0) (tap u 1) e (ix2 0 q) = ∑ p, dGate x y d w u b e (ix2 p q) := by
  unfold k0_pay7 dGate
  generalize k0_pay5 (F := Ideal) _ _ _ _ _ _ _ = g
  pointwise

theorem pay8_at : k0_pay8 (F := Ideal) z (ix2 0 q) = ∑ p, z (ix2 p q) := by
  pointwise [k0_pay8]

/-- What a point writes back, one result after the other. -/
theorem out_7 : out0_7 (F := Ideal) x y w u b e d (ix2 p q)
    = spread3 (fun k => w (ix3 k 0 q)) (fun r => dGate x y d w u b e (ix2 r q)) p := by
  rw [← toGate_at]
  unfold out0_7
  rw [pay21_eq]
  simp only [(ld_tap _).1, (ld_tap _).2.1, (ld_tap _).2.2]
  generalize dGate x y d w u b e = g
  frame_out
  try rfl

theorem out_8 : out0_8 (F := Ideal) x y w u b e d (ix2 p q)
    = spread3 (fun k => u (ix3 k 0 q)) (fun r => dValue x d w b (ix2 r q)) p := by
  rw [← toValue_at]
  unfold out0_8
  rw [pay22_eq]
  simp only [(ld_tap _).1, (ld_tap _).2.1, (ld_tap _).2.2]
  generalize dValue x d w b = g
  frame_out
  try rfl

theorem out_9 (k : Fin 3) : out0_9 (F := Ideal) x y w u b e d (ix3 k 0 q)
    = ofTap (2 - k.val) (fun r => x (ix2 r q)) (fun r => dGate x y d w u b e (ix2 r q)) := by
  unfold out0_9
  rw [pay21_eq]
  generalize dGate x y d w u b e = g
  have l : View.ld (Val := Elt Ideal) (e' := .f32) x r0_0 = x := by frame_out
  rw [l]
  fin_cases k
  · refine (View.canon_storedRow1_of_ne (0 : Fin 3) (1 : Fin 3) (by decide) q _ _ _).trans ?_
    exact (View.canon_storedRow1 (0 : Fin 3) q _ _ _).trans (pay11_at x g q)
  · exact (View.canon_storedRow1 (1 : Fin 3) q _ _ _).trans (pay13_at x g q)
  · refine (View.canon_storedRow1_of_ne (2 : Fin 3) (1 : Fin 3) (by decide) q _ _ _).trans ?_
    refine (View.canon_storedRow1_of_ne (2 : Fin 3) (0 : Fin 3) (by decide) q _ _ _).trans ?_
    exact (View.canon_storedRow1 (2 : Fin 3) q _ _ _).trans (pay9_at x g q)

theorem out_10 (k : Fin 3) : out0_10 (F := Ideal) x y w u b e d (ix3 k 0 q)
    = ofTap (2 - k.val) (fun r => y (ix2 r q)) (fun r => dValue x d w b (ix2 r q)) := by
  unfold out0_10
  rw [pay22_eq]
  generalize dValue x d w b = g
  have l : View.ld (Val := Elt Ideal) (e' := .f32) y r0_0 = y := by frame_out
  rw [l]
  fin_cases k
  · refine (View.canon_storedRow1_of_ne (0 : Fin 3) (1 : Fin 3) (by decide) q _ _ _).trans ?_
    exact (View.canon_storedRow1 (0 : Fin 3) q _ _ _).trans (pay18_at y g q)
  · exact (View.canon_storedRow1 (1 : Fin 3) q _ _ _).trans (pay1_at y g q)
  · refine (View.canon_storedRow1_of_ne (2 : Fin 3) (1 : Fin 3) (by decide) q _ _ _).trans ?_
    refine (View.canon_storedRow1_of_ne (2 : Fin 3) (0 : Fin 3) (by decide) q _ _ _).trans ?_
    exact (View.canon_storedRow1 (2 : Fin 3) q _ _ _).trans (pay16_at y g q)

theorem out_11 : out0_11 (F := Ideal) x y w u b e d (ix2 0 q) = ∑ p, dGate x y d w u b e (ix2 p q) := by
  rw [← pay7_at]
  unfold out0_11
  rw [pay20_eq]
  simp only [(ld_tap _).1, (ld_tap _).2.1, (ld_tap _).2.2]
  generalize gatePt x w b = g
  frame_out
  try rfl

theorem out_12 : out0_12 (F := Ideal) x y w u b e d (ix2 0 q) = ∑ p, dValue x d w b (ix2 p q) := by
  rw [← pay8_at]
  unfold out0_12
  rw [pay22_eq]
  generalize dValue x d w b = g
  frame_out
  try rfl

end point

/-- The blocks each window stages. -/
theorem idx : ∀ t : Fin cfg0.N, win0_0.index t = ![0, t.val] ∧ win0_1.index t = ![0, t.val] ∧ win0_2.index t = ![0, 0, t.val]
    ∧ win0_3.index t = ![0, 0, t.val] ∧ win0_4.index t = ![0, t.val] ∧ win0_5.index t = ![0, t.val] ∧ win0_6.index t = ![0, t.val]
    ∧ win0_7.index t = ![0, t.val] ∧ win0_8.index t = ![0, t.val] ∧ win0_9.index t = ![0, 0, t.val] ∧ win0_10.index t = ![0, 0, t.val]
    ∧ win0_11.index t = ![0, t.val] ∧ win0_12.index t = ![0, t.val] :=
  (by decide +kernel : ∀ t : Fin grid0.N, _)

/-- The columns of a point's block. -/
abbrev col (q : Fin 128) : Fin 5632 := ⟨t.val * 128 + q.val, by have := t.isLt; have : cfg0.N = 44 := N_0; omega⟩

theorem gate_at (p : Fin 4096) (q : Fin 128) : gateAt m c t (ix2 p q) = gate m c (ix2 p (col t q)) := by
  blk_ext [iblk, idx t, col]

theorem value_at (p : Fin 4096) (q : Fin 128) : valueAt m c t (ix2 p q) = value' m c (ix2 p (col t q)) := by
  blk_ext [iblk, idx t, col]

theorem gateTap_at (k : Fin 3) (q : Fin 128) : gateTapAt m c t (ix3 k 0 q) = gateTap m c (ix3 k 0 (col t q)) := by
  blk_ext [iblk, idx t, col]

theorem valueTap_at (k : Fin 3) (q : Fin 128) : valueTapAt m c t (ix3 k 0 q) = valueTap m c (ix3 k 0 (col t q)) := by
  blk_ext [iblk, idx t, col]

theorem gateBias_at (q : Fin 128) : gateBiasAt m c t (ix2 0 q) = gateBias m c (ix2 0 (col t q)) := by
  blk_ext [iblk, idx t, col]

theorem valueBias_at (q : Fin 128) : valueBiasAt m c t (ix2 0 q) = valueBias m c (ix2 0 (col t q)) := by
  blk_ext [iblk, idx t, col]

theorem cot_at (p : Fin 4096) (q : Fin 128) : cotAt m c t (ix2 p q) = cot m c (ix2 p (col t q)) := by
  blk_ext [iblk, idx t, col]

theorem convGate_at (p : Fin 4096) (q : Fin 128) : conv (gateTapAt m c t) (gateBiasAt m c t) (gateAt m c t) q p
    = conv (gateTap m c) (gateBias m c) (gate m c) (col t q) p := by
  simp only [conv, gate_at, gateTap_at, gateBias_at]

theorem convValue_at (p : Fin 4096) (q : Fin 128) : conv (valueTapAt m c t) (valueBiasAt m c t) (valueAt m c t) q p
    = conv (valueTap m c) (valueBias m c) (value' m c) (col t q) p := by
  simp only [conv, value_at, valueTap_at, valueBias_at]

section reference

open Cert.ActBwdRefIdeal.Read

variable (x y : FVec Ideal S4096x5632 .f32) (w u : FVec Ideal S3x1x5632 .f32) (b e : FVec Ideal S1x5632 .f32) (d : FVec Ideal S4096x5632 .f32)
  (p : Fin 4096) (q : Fin 5632)

/-- The column after two rows of zeros, from each of its first three rows on. -/
theorem ref_down : val_main_v3 (F := Ideal) x (ix2 p q) = down 2 (fun r => x (ix2 r q)) p
    ∧ val_main_v10 (F := Ideal) x (ix2 p q) = down 1 (fun r => x (ix2 r q)) p
    ∧ val_main_v16 (F := Ideal) x (ix2 p q) = x (ix2 p q) := by
  have hz : ∀ i, val_main_v0 (F := Ideal) i = 0 := fun i => by pointwise [val_main_v0, val_main_cst]
  refine ⟨?_, ?_, ?_⟩
  · rw [val_main_v3_apply]
    exact past 2 0 x p q rfl (by decide) _ hz _ _ rfl rfl
  · rw [val_main_v10_apply]
    exact past 2 1 x p q rfl (by decide) _ hz _ _ (Nat.add_comm _ _) rfl
  · rw [val_main_v16_apply]
    exact (past 2 2 x p q rfl (by decide) _ hz _ _ (Nat.add_comm _ _) rfl).trans (down_zero _ _)

theorem ref_down' : val_main_v28 (F := Ideal) y (ix2 p q) = down 2 (fun r => y (ix2 r q)) p
    ∧ val_main_v35 (F := Ideal) y (ix2 p q) = down 1 (fun r => y (ix2 r q)) p
    ∧ val_main_v41 (F := Ideal) y (ix2 p q) = y (ix2 p q) :=
  ref_down y p q

/-- The reference's convolutions, one function of two sets of arguments. -/
theorem ref_conv : val_main_v23 (F := Ideal) x w b (ix2 p q) = conv w b x q p := by
  unfold conv
  rw [← conv3_host]
  pointwise [val_main_v23, val_main_v22, val_main_v21, val_main_v20, val_main_v19, val_main_v18, val_main_v17, val_main_v15, val_main_v14,
    val_main_v13, val_main_v12, val_main_v11, val_main_v9, val_main_v8, val_main_v7, val_main_v6, val_main_v5, val_main_v4, val_main_cst_1,
    (ref_down x p q).1, (ref_down x p q).2.1, (ref_down x p q).2.2]

theorem ref_conv' : val_main_v48 (F := Ideal) y u e (ix2 p q) = conv u e y q p :=
  ref_conv y u e p q

theorem ref_logistic : val_main_v24_2 (F := Ideal) x w b (ix2 p q) = Ideal.logistic (conv w b x q p) := by
  pointwise [val_main_v24_2, val_main_call0_v4, val_main_call0_v3, val_main_call0_v2, val_main_call0_v1, val_main_call0_v0, val_main_call0_cst,
    val_main_call0_cst_0, ref_conv, Ideal.logistic]

/-- Its gradient of the value's column, and of the gate's where the value's and the cotangent are real. -/
theorem ref_value : val_main_v50 (F := Ideal) x w b d (ix2 p q) = ofValue (conv w b x q p) (d (ix2 p q)) := by
  rw [ofValue, mul_comm]
  pointwise [val_main_v50, val_main_v24_0, ref_logistic, ref_conv]

theorem ref_gate (hv : IsReal (conv u e y q p)) (hd : IsReal (d (ix2 p q))) : val_main_v84 (F := Ideal) x y w u b e d (ix2 p q)
    = ofGate (conv w b x q p) (conv u e y q p) (d (ix2 p q)) := by
  rw [ofGate, ← slope (hd.mul hv)]
  pointwise [val_main_v84, val_main_call1_v2, val_main_call1_v1, val_main_call1_v0, val_main_v51, val_main_v24_1, val_main_call0_v7,
    val_main_call0_v6, val_main_call0_cst_1, ref_logistic, ref_conv, ref_conv']

theorem pad_zero (i : Cert.ActBwdRefIdeal.S_.Idx) : val_main_cst_6 (F := Ideal) i = 0 := by
  pointwise [val_main_cst_6]

/-- What the reference hands back to the value's column. -/
theorem ref_toValue : val_main_v118 (F := Ideal) x w u b d (ix2 p q)
    = spread3 (fun k => u (ix3 k 0 q)) (fun r => ofValue (conv w b x q r) (d (ix2 r q))) p := by
  have h2 : ∀ r, val_main_v58 (F := Ideal) x w u b d (ix2 r q) = ofValue (conv w b x q r) (d (ix2 r q)) * u (ix3 2 0 q) := fun r => by
    pointwise [val_main_v58, val_main_v57, val_main_v44, val_main_v43, val_main_v42, ref_value]
  have h1 : ∀ r, val_main_v66 (F := Ideal) x w u b d (ix2 r q) = ofValue (conv w b x q r) (d (ix2 r q)) * u (ix3 1 0 q) := fun r => by
    pointwise [val_main_v66, val_main_v65, val_main_v38, val_main_v37, val_main_v36, ref_value]
  have h0 : ∀ r, val_main_v76 (F := Ideal) x w u b d (ix2 r q) = ofValue (conv w b x q r) (d (ix2 r q)) * u (ix3 0 0 q) := fun r => by
    pointwise [val_main_v76, val_main_v75, val_main_v31, val_main_v30, val_main_v29, ref_value]
  rw [← spread3_host]
  simp only [← h2, ← h1, ← h0]
  rw [val_main_v118_apply, val_main_v83_apply]
  refine congrArg₂ (fun a b : EReal => a + b) (congrArg₂ (fun a b : EReal => a + b) ?_ ?_) ?_
  · exact ahead 2 2 _ p q (by decide) _ _ _ pad_zero _ _ (Nat.add_comm _ _) rfl
  · exact ahead 2 1 _ p q (by decide) _ _ _ pad_zero _ _ (Nat.add_comm _ _) rfl
  · exact ahead 2 0 _ p q (by decide) _ _ _ pad_zero _ _ (Nat.add_comm _ _) rfl

/-- And to its taps. -/
theorem ref_valueTap (k : Fin 3) : val_main_v79 (F := Ideal) x y w b d (ix3 k 0 q)
    = ofTap (2 - k.val) (fun r => y (ix2 r q)) (fun r => ofValue (conv w b x q r) (d (ix2 r q))) := by
  have i55 : ∀ k, idx_main_v55 (ix1 q) k = ix2 k q := fun k => by funext j; fin_cases j <;> rfl
  have i63 : ∀ k, idx_main_v63 (ix1 q) k = ix2 k q := fun k => by funext j; fin_cases j <;> rfl
  have i73 : ∀ k, idx_main_v73 (ix1 q) k = ix2 k q := fun k => by funext j; fin_cases j <;> rfl
  have h2 : val_main_v59 (F := Ideal) x y w b d (ix3 0 0 q) = ofTap 0 (fun r => y (ix2 r q)) (fun r => ofValue (conv w b x q r) (d (ix2 r q))) := by
    simp only [ofTap, down_zero, mul_comm (ofValue _ _)]
    pointwise [val_main_v59, val_main_v56, val_main_v55_apply, i55, val_main_cst_6, val_main_v54, ref_value, (ref_down' y _ q).2.2]
  have h1 : val_main_v67 (F := Ideal) x y w b d (ix3 0 0 q) = ofTap 1 (fun r => y (ix2 r q)) (fun r => ofValue (conv w b x q r) (d (ix2 r q))) := by
    simp only [ofTap, mul_comm (ofValue _ _)]
    pointwise [val_main_v67, val_main_v64, val_main_v63_apply, i63, val_main_cst_9, val_main_v62, ref_value, (ref_down' y _ q).2.1]
  have h0 : val_main_v77 (F := Ideal) x y w b d (ix3 0 0 q) = ofTap 2 (fun r => y (ix2 r q)) (fun r => ofValue (conv w b x q r) (d (ix2 r q))) := by
    simp only [ofTap, mul_comm (ofValue _ _)]
    pointwise [val_main_v77, val_main_v74, val_main_v73_apply, i73, val_main_cst_12, val_main_v72, ref_value, (ref_down' y _ q).1]
  exact place3 k _ _ (place 2 _ _ _ _ pad_zero _ k q) (place 1 _ _ _ _ pad_zero _ k q) (place 0 _ _ _ _ pad_zero _ k q) h2 h1 h0

/-- And to its shift. -/
theorem ref_valueBias : val_main_v53 (F := Ideal) x w b d (ix2 0 q) = ∑ p, ofValue (conv w b x q p) (d (ix2 p q)) := by
  have i52 : ∀ k, idx_main_v52 (ix1 q) k = ix2 k q := fun k => by funext j; fin_cases j <;> rfl
  pointwise [val_main_v53, val_main_v52_apply, i52, val_main_cst_5, ref_value]

section gate

variable (hv : ∀ p, IsReal (conv u e y q p)) (hd : ∀ p, IsReal (d (ix2 p q)))
include hv hd

/-- What the reference hands back to the gate's column. -/
theorem ref_toGate : val_main_v117 (F := Ideal) x y w u b e d (ix2 p q)
    = spread3 (fun k => w (ix3 k 0 q)) (fun r => ofGate (conv w b x q r) (conv u e y q r) (d (ix2 r q))) p := by
  have h2 : ∀ r, val_main_v91 (F := Ideal) x y w u b e d (ix2 r q) = ofGate (conv w b x q r) (conv u e y q r) (d (ix2 r q)) * w (ix3 2 0 q) :=
    fun r => by
      rw [← ref_gate x y w u b e d r q (hv r) (hd r)]
      pointwise [val_main_v91, val_main_v90, val_main_v19, val_main_v18, val_main_v17]
  have h1 : ∀ r, val_main_v99 (F := Ideal) x y w u b e d (ix2 r q) = ofGate (conv w b x q r) (conv u e y q r) (d (ix2 r q)) * w (ix3 1 0 q) :=
    fun r => by
      rw [← ref_gate x y w u b e d r q (hv r) (hd r)]
      pointwise [val_main_v99, val_main_v98, val_main_v13, val_main_v12, val_main_v11]
  have h0 : ∀ r, val_main_v109 (F := Ideal) x y w u b e d (ix2 r q) = ofGate (conv w b x q r) (conv u e y q r) (d (ix2 r q)) * w (ix3 0 0 q) :=
    fun r => by
      rw [← ref_gate x y w u b e d r q (hv r) (hd r)]
      pointwise [val_main_v109, val_main_v108, val_main_v6, val_main_v5, val_main_v4]
  rw [← spread3_host]
  simp only [← h2, ← h1, ← h0]
  rw [val_main_v117_apply, val_main_v116_apply]
  refine congrArg₂ (fun a b : EReal => a + b) (congrArg₂ (fun a b : EReal => a + b) ?_ ?_) ?_
  · exact ahead 2 2 _ p q (by decide) _ _ _ pad_zero _ _ (Nat.add_comm _ _) rfl
  · exact ahead 2 1 _ p q (by decide) _ _ _ pad_zero _ _ (Nat.add_comm _ _) rfl
  · exact ahead 2 0 _ p q (by decide) _ _ _ pad_zero _ _ (Nat.add_comm _ _) rfl

/-- And to its taps. -/
theorem ref_gateTap (k : Fin 3) : val_main_v112 (F := Ideal) x y w u b e d (ix3 k 0 q)
    = ofTap (2 - k.val) (fun r => x (ix2 r q)) (fun r => ofGate (conv w b x q r) (conv u e y q r) (d (ix2 r q))) := by
  have i88 : ∀ k, idx_main_v88 (ix1 q) k = ix2 k q := fun k => by funext j; fin_cases j <;> rfl
  have i96 : ∀ k, idx_main_v96 (ix1 q) k = ix2 k q := fun k => by funext j; fin_cases j <;> rfl
  have i106 : ∀ k, idx_main_v106 (ix1 q) k = ix2 k q := fun k => by funext j; fin_cases j <;> rfl
  simp only [← fun r => ref_gate x y w u b e d r q (hv r) (hd r)]
  refine place3 k _ _ (place 2 _ _ _ _ pad_zero _ k q) (place 1 _ _ _ _ pad_zero _ k q) (place 0 _ _ _ _ pad_zero _ k q) ?_ ?_ ?_
  · simp only [ofTap, down_zero, mul_comm (val_main_v84 _ _ _ _ _ _ _ _)]
    pointwise [val_main_v92, val_main_v89, val_main_v88_apply, i88, val_main_cst_16, val_main_v87, (ref_down x _ q).2.2]
  · simp only [ofTap, mul_comm (val_main_v84 _ _ _ _ _ _ _ _)]
    pointwise [val_main_v100, val_main_v97, val_main_v96_apply, i96, val_main_cst_19, val_main_v95, (ref_down x _ q).2.1]
  · simp only [ofTap, mul_comm (val_main_v84 _ _ _ _ _ _ _ _)]
    pointwise [val_main_v110, val_main_v107, val_main_v106_apply, i106, val_main_cst_22, val_main_v105, (ref_down x _ q).1]

/-- And to its shift. -/
theorem ref_gateBias : val_main_v86 (F := Ideal) x y w u b e d (ix2 0 q)
    = ∑ p, ofGate (conv w b x q p) (conv u e y q p) (d (ix2 p q)) := by
  have i85 : ∀ k, idx_main_v85 (ix1 q) k = ix2 k q := fun k => by funext j; fin_cases j <;> rfl
  simp only [← fun r => ref_gate x y w u b e d r q (hv r) (hd r)]
  pointwise [val_main_v86, val_main_v85_apply, i85, val_main_cst_15]

end gate

end reference

/-! ## The precondition -/

section finite

variable (x y : FVec Ideal S4096x5632 .f32) (w u : FVec Ideal S3x1x5632 .f32) (b e : FVec Ideal S1x5632 .f32) (d : FVec Ideal S4096x5632 .f32)

/-- Where the predicate holds the convolved value and the cotangent are real numbers. -/
theorem finite (h : Cert.Pre_finite_values.fn (F := Ideal) x y w u b e d = fun _ => 1#1) (p : Fin 4096) (q : Fin 5632) :
    IsReal (conv u e y q p) ∧ IsReal (d (ix2 p q)) := by
  have h0 := congrFun h (fun a => a.elim0)
  unfold Cert.Pre_finite_values.fn Cert.Pre_finite_values.fn_part1 at h0
  dsimp only at h0
  obtain ⟨h1, hd⟩ := IntOp.andi_eq_one.1 h0
  obtain ⟨h2, he⟩ := IntOp.andi_eq_one.1 h1
  obtain ⟨hy, hu⟩ := IntOp.andi_eq_one.1 h2
  have : Subsingleton Cert.Pre_finite_values.S_.Idx := ⟨fun a b => funext fun i => i.elim0⟩
  refine ⟨(IsReal.conv3 (fun k => ?_) (fun r => ?_) p).add ?_, ?_⟩
  · have h := Host.reduce_andi_all _ _ _ _ _ hu (ix3 k 0 q)
    refine Cert.Fox.real_of_abs ?_
    rw [← h]
    pointwise
    rfl
  · have h := Host.reduce_andi_all _ _ _ _ _ hy (ix2 r q)
    refine Cert.Fox.real_of_abs ?_
    rw [← h]
    pointwise
    rfl
  · have h := Host.reduce_andi_all _ _ _ _ _ he (ix2 0 q)
    refine Cert.Fox.real_of_abs ?_
    rw [← h]
    pointwise
    rfl
  · have h := Host.reduce_andi_all _ _ _ _ _ hd (ix2 p q)
    refine Cert.Fox.real_of_abs ?_
    rw [← h]
    pointwise
    rfl

end finite

/-- The point's two gradients, of the arrays. -/
theorem dGate_of (p : Fin 4096) (q : Fin 128) :
    dGate (gateAt m c t) (valueAt m c t) (cotAt m c t) (gateTapAt m c t) (valueTapAt m c t) (gateBiasAt m c t) (valueBiasAt m c t) (ix2 p q)
      = ofGate (conv (gateTap m c) (gateBias m c) (gate m c) (col t q) p) (conv (valueTap m c) (valueBias m c) (value' m c) (col t q) p)
          (cot m c (ix2 p (col t q))) := by
  rw [dGate_at, convGate_at, convValue_at, cot_at]

theorem dValue_of (p : Fin 4096) (q : Fin 128) : dValue (gateAt m c t) (cotAt m c t) (gateTapAt m c t) (gateBiasAt m c t) (ix2 p q)
    = ofValue (conv (gateTap m c) (gateBias m c) (gate m c) (col t q) p) (cot m c (ix2 p (col t q))) := by
  rw [dValue_at, convGate_at, cot_at]

section results

variable (hf : ∀ (p : Fin 4096) (q : Fin 5632), IsReal (conv (valueTap m c) (valueBias m c) (value' m c) q p) ∧ IsReal (cot m c (ix2 p q)))

include hf in
theorem final_7 : (dats m 0 c).arrAt 7 cfg0.N = Cert.ActBwdRefIdeal.Read.val_main_v117 (F := Ideal) (gate m c) (value' m c) (gateTap m c) (valueTap m c) (gateBias m c) (valueBias m c) (cot m c) := by
  refine (dats m 0 c).arrAt_eq_of_covers 7 _ (by decide +kernel) fun t _ y => ?_
  obtain ⟨p, q, rfl⟩ : ∃ (p : Fin 4096) (q : Fin 128), y = ix2 p q := ⟨y 0, y 1, by funext a; fin_cases a <;> rfl⟩
  have e : ((cfg0.win 7).blk t).view.emb (ix2 p q) = ix2 p (col t q) := by
    blk_ext [idx t, col]
  rw [e, ref_toGate _ _ _ _ _ _ _ p _ (fun p => (hf p (col t q)).1) (fun p => (hf p (col t q)).2)]
  blk_simp
  rw [after0_7, out_7]
  simp only [dGate_of, gateTap_at]

theorem final_8 : (dats m 0 c).arrAt 8 cfg0.N = Cert.ActBwdRefIdeal.Read.val_main_v118 (F := Ideal) (gate m c) (gateTap m c) (valueTap m c) (gateBias m c) (cot m c) := by
  refine (dats m 0 c).arrAt_eq_of_covers 8 _ (by decide +kernel) fun t _ y => ?_
  obtain ⟨p, q, rfl⟩ : ∃ (p : Fin 4096) (q : Fin 128), y = ix2 p q := ⟨y 0, y 1, by funext a; fin_cases a <;> rfl⟩
  have e : ((cfg0.win 8).blk t).view.emb (ix2 p q) = ix2 p (col t q) := by
    blk_ext [idx t, col]
  rw [e, ref_toValue]
  blk_simp
  rw [after0_8, out_8]
  simp only [dValue_of, valueTap_at]

include hf in
theorem final_9 : (dats m 0 c).arrAt 9 cfg0.N = Cert.ActBwdRefIdeal.Read.val_main_v112 (F := Ideal) (gate m c) (value' m c) (gateTap m c) (valueTap m c) (gateBias m c) (valueBias m c) (cot m c) := by
  refine (dats m 0 c).arrAt_eq_of_covers 9 _ (by decide +kernel) fun t _ y => ?_
  obtain ⟨k, r, q, rfl⟩ : ∃ (k : Fin 3) (r : Fin 1) (q : Fin 128), y = ix3 k r q := ⟨y 0, y 1, y 2, by funext a; fin_cases a <;> rfl⟩
  obtain rfl : r = 0 := Subsingleton.elim _ _
  have e : ((cfg0.win 9).blk t).view.emb (ix3 k 0 q) = ix3 k 0 (col t q) := by
    blk_ext [idx t, col]
  rw [e, ref_gateTap _ _ _ _ _ _ _ _ (fun p => (hf p (col t q)).1) (fun p => (hf p (col t q)).2) k]
  blk_simp
  rw [after0_9, out_9]
  simp only [dGate_of, gate_at]

theorem final_10 : (dats m 0 c).arrAt 10 cfg0.N = Cert.ActBwdRefIdeal.Read.val_main_v79 (F := Ideal) (gate m c) (value' m c) (gateTap m c) (gateBias m c) (cot m c) := by
  refine (dats m 0 c).arrAt_eq_of_covers 10 _ (by decide +kernel) fun t _ y => ?_
  obtain ⟨k, r, q, rfl⟩ : ∃ (k : Fin 3) (r : Fin 1) (q : Fin 128), y = ix3 k r q := ⟨y 0, y 1, y 2, by funext a; fin_cases a <;> rfl⟩
  obtain rfl : r = 0 := Subsingleton.elim _ _
  have e : ((cfg0.win 10).blk t).view.emb (ix3 k 0 q) = ix3 k 0 (col t q) := by
    blk_ext [idx t, col]
  rw [e, ref_valueTap]
  blk_simp
  rw [after0_10, out_10]
  simp only [dValue_of, value_at]

include hf in
theorem final_11 : (dats m 0 c).arrAt 11 cfg0.N = Cert.ActBwdRefIdeal.Read.val_main_v86 (F := Ideal) (gate m c) (value' m c) (gateTap m c) (valueTap m c) (gateBias m c) (valueBias m c) (cot m c) := by
  refine (dats m 0 c).arrAt_eq_of_covers 11 _ (by decide +kernel) fun t _ y => ?_
  obtain ⟨r, q, rfl⟩ : ∃ (r : Fin 1) (q : Fin 128), y = ix2 r q := ⟨y 0, y 1, by funext a; fin_cases a <;> rfl⟩
  obtain rfl : r = 0 := Subsingleton.elim _ _
  have e : ((cfg0.win 11).blk t).view.emb (ix2 0 q) = ix2 0 (col t q) := by
    blk_ext [idx t, col]
  rw [e, ref_gateBias _ _ _ _ _ _ _ _ (fun p => (hf p (col t q)).1) (fun p => (hf p (col t q)).2)]
  blk_simp
  rw [after0_11, out_11]
  simp only [dGate_of]

theorem final_12 : (dats m 0 c).arrAt 12 cfg0.N = Cert.ActBwdRefIdeal.Read.val_main_v53 (F := Ideal) (gate m c) (gateTap m c) (gateBias m c) (cot m c) := by
  refine (dats m 0 c).arrAt_eq_of_covers 12 _ (by decide +kernel) fun t _ y => ?_
  obtain ⟨r, q, rfl⟩ : ∃ (r : Fin 1) (q : Fin 128), y = ix2 r q := ⟨y 0, y 1, by funext a; fin_cases a <;> rfl⟩
  obtain rfl : r = 0 := Subsingleton.elim _ _
  have e : ((cfg0.win 12).blk t).view.emb (ix2 0 q) = ix2 0 (col t q) := by
    blk_ext [idx t, col]
  rw [e, ref_valueBias]
  blk_simp
  rw [after0_12, out_12]
  simp only [dValue_of]

end results

theorem frame_ref : Cert.quiescent_ActBwdRefIdeal (hActBwdRefIdeal := Cert.ActBwdRefIdeal.Gen.facts) := fun m ρ _ =>
  (θ_run Cert.ActBwdRefIdeal.defs _ _).mono (fun r h => ⟨fun c => (h c).2.2.2.2.2.2, sem_eq_zero_of_no_sems (by decide) r.2⟩)
    (Cert.ActBwdRefIdeal.Value.run (F := Ideal) m ρ)

theorem value : Cert.algebraic_ActBwdIdeal_ActBwdRefIdeal_pre_finite_values (hActBwdIdeal := Cert.ActBwdIdeal.Gen.facts)
    (hActBwdRefIdeal := Cert.ActBwdRefIdeal.Gen.facts) (hPre_finite_values := Cert.Pre_finite_values.Gen.facts) := by
  intro m g m' g' hpre hagree
  refine ⟨fun c => (dats m 0 c).arrAt 7 cfg0.N, fun c => (dats m 0 c).arrAt 8 cfg0.N, fun c => (dats m 0 c).arrAt 9 cfg0.N,
    fun c => (dats m 0 c).arrAt 10 cfg0.N, fun c => (dats m 0 c).arrAt 11 cfg0.N, fun c => (dats m 0 c).arrAt 12 cfg0.N,
    (θ_run _ _ _).mono (fun r h c => ⟨(h.1 c).1 7, (h.1 c).1 8, (h.1 c).1 9, (h.1 c).1 10, (h.1 c).1 11, (h.1 c).1 12, h.2 c⟩)
      (θ_run_and (run_main m g) (unchanged m g)),
    (θ_run _ _ _).mono (fun r h c => ?_) (Cert.ActBwdRefIdeal.Value.run m' g')⟩
  have hf := finite _ _ _ _ _ _ _ (hpre c)
  obtain ⟨e0, e1, e2, e3, e4, e5, e6⟩ := hagree c
  obtain ⟨h7, h8, h9, h10, h11, h12, hargs⟩ := h c
  refine ⟨h7.trans ?_, h8.trans ?_, h9.trans ?_, h10.trans ?_, h11.trans ?_, h12.trans ?_, hargs⟩
  · rw [Cert.ActBwdRefIdeal.Read.val_main_v117_eq, e0, e1, e2, e3, e4, e5, e6]; exact (final_7 m c hf).symm
  · rw [Cert.ActBwdRefIdeal.Read.val_main_v118_eq, e0, e2, e3, e4, e6]; exact (final_8 m c).symm
  · rw [Cert.ActBwdRefIdeal.Read.val_main_v112_eq, e0, e1, e2, e3, e4, e5, e6]; exact (final_9 m c hf).symm
  · rw [Cert.ActBwdRefIdeal.Read.val_main_v79_eq, e0, e1, e2, e4, e6]; exact (final_10 m c).symm
  · rw [Cert.ActBwdRefIdeal.Read.val_main_v86_eq, e0, e1, e2, e3, e4, e5, e6]; exact (final_11 m c hf).symm
  · refine (Cert.ActBwdRefIdeal.Read.val_main_v53_eq _ _ _ _).trans ?_
    rw [e0, e2, e4, e6]; exact (final_12 m c).symm

end Cert.Rows.ActBwd

end

end
-- ==== Proof.ActFwd.lean ====
/-
  The feed-forward's convolutions and activation, column by column.
-/
module

public import proofs.«01_k».proof.Defs
public import proofs.«01_k».proof.Proof.Shift
public import proofs.«01_k».proof.Proof.Gen.ActFwd.Frame
public import proofs.«01_k».proof.Proof.Gen.ActFwdIdeal.Frame
public import proofs.«01_k».proof.Proof.Gen.ActFwdRefIdeal.Run
public import proofs.«01_k».proof.Proof.Gen.ActFwdRefIdeal.Read
public import Idealize.ShloMosaic.Lib.Pipeline.ValueKit
public import Idealize.ShloMosaic.Lib.StableHlo.RunRead
public import Idealize.ShloMosaic.Lib.Claim
public import Idealize.ShloMosaic.Lib.Pointwise
public import Idealize.ShloMosaic.Adequacy
public import Idealize.ShloMosaic.Init

@[expose] public section

set_option maxRecDepth 16384

noncomputable section

namespace Cert.Rows.ActFwd

open Idealize.ShloMosaic Idealize.ShloMosaic.TcCoe Idealize.SL.Sem
open Cert.ActFwdIdeal Cert.ActFwdIdeal.Gen Cert.Shift

variable (m : (ℓ : Loc nD τ sig) → Buf (Elt Ideal) ℓ) (c : Dev nD) (t : Fin cfg0.N)

/-- The two halves of the projection, their taps and their shifts. -/
abbrev gate : FVec Ideal S4096x5632 .f32 := m ((c : Thread nD τ).loc main_arg0)
abbrev value' : FVec Ideal S4096x5632 .f32 := m ((c : Thread nD τ).loc main_arg1)
abbrev gateTap : FVec Ideal S3x1x5632 .f32 := m ((c : Thread nD τ).loc main_arg2)
abbrev valueTap : FVec Ideal S3x1x5632 .f32 := m ((c : Thread nD τ).loc main_arg3)
abbrev gateBias : FVec Ideal S1x5632 .f32 := m ((c : Thread nD τ).loc main_arg4)
abbrev valueBias : FVec Ideal S1x5632 .f32 := m ((c : Thread nD τ).loc main_arg5)

/-- A point's blocks. -/
abbrev gateAt : FVec Ideal S4096x128 .f32 := iblk m c 0 t
abbrev valueAt : FVec Ideal S4096x128 .f32 := iblk m c 1 t
abbrev gateTapAt : FVec Ideal S3x1x128 .f32 := iblk m c 2 t
abbrev valueTapAt : FVec Ideal S3x1x128 .f32 := iblk m c 3 t
abbrev gateBiasAt : FVec Ideal S1x128 .f32 := iblk m c 4 t
abbrev valueBiasAt : FVec Ideal S1x128 .f32 := iblk m c 5 t

/-- An element of the result, of the two convolved columns. -/
def act (g v : EReal) : EReal := g * Ideal.logistic g * v

theorem ld_tap (w : FVec Ideal S3x1x128 .f32) : View.ld w r0_1 = tap w 2 ∧ View.ld w r0_2 = tap w 0 ∧ View.ld w r0_3 = tap w 1 :=
  ⟨load_tap w 2 _, load_tap w 0 _, load_tap w 1 _⟩

/-- What a point writes back. -/
theorem written : out0_6 (F := Ideal) (gateAt m c t) (valueAt m c t) (gateTapAt m c t) (valueTapAt m c t) (gateBiasAt m c t) (valueBiasAt m c t)
    = k0_pay1 (F := Ideal) (k0_pay2 (F := Ideal) (gateAt m c t) (tap (gateTapAt m c t) 2) (tap (gateTapAt m c t) 0) (tap (gateTapAt m c t) 1)
        (gateBiasAt m c t)) (valueAt m c t) (k0_pay3 (F := Ideal) (valueAt m c t) (tap (valueTapAt m c t) 2)) (tap (valueTapAt m c t) 0)
        (tap (valueTapAt m c t) 1) (valueBiasAt m c t) := by
  unfold out0_6
  simp only [(ld_tap _).1, (ld_tap _).2.1, (ld_tap _).2.2]
  frame_out
  try rfl

theorem pay2_at (x : Vec Ideal S4096x128 .f32) (w : Vec Ideal S3x1x128 .f32) (b : Vec Ideal S1x128 .f32) (p : Fin 4096) (q : Fin 128) :
    k0_pay2 (F := Ideal) x (tap w 2) (tap w 0) (tap w 1) b (ix2 p q)
      = conv3 (fun k => w (ix3 k 0 q)) (fun r => x (ix2 r q)) p + b (ix2 0 q) := by
  have d2 := rolled_down x 2 (by decide) iota_S4096x128_d0_w32 rotates_S4096x128_d0 _ fill p q
  have d1 := rolled_down x 1 (by decide) iota_S4096x128_d0_w32 rotates_S4096x128_d0 _ fill p q
  unfold k0_pay2 conv3
  rw [← d2, ← d1]
  generalize select _ _ _ = s
  generalize select _ _ _ = r
  pointwise [tap]

theorem pay1_at (g : FVec Ideal S4096x128 .f32) (x : Vec Ideal S4096x128 .f32) (w : Vec Ideal S3x1x128 .f32) (b : Vec Ideal S1x128 .f32)
    (p : Fin 4096) (q : Fin 128) :
    k0_pay1 (F := Ideal) g x (k0_pay3 (F := Ideal) x (tap w 2)) (tap w 0) (tap w 1) b (ix2 p q)
      = act (g (ix2 p q)) (conv3 (fun k => w (ix3 k 0 q)) (fun r => x (ix2 r q)) p + b (ix2 0 q)) := by
  have d2 := rolled_down x 2 (by decide) iota_S4096x128_d0_w32 rotates_S4096x128_d0 _ fill p q
  have d1 := rolled_down x 1 (by decide) iota_S4096x128_d0_w32 rotates_S4096x128_d0 _ fill p q
  unfold k0_pay1 k0_pay3 conv3
  rw [← d2, ← d1]
  generalize select _ _ _ = s
  generalize select _ _ _ = r
  pointwise [tap, act]

/-- The blocks each window stages. -/
theorem idx : ∀ t : Fin cfg0.N, win0_0.index t = ![0, t.val] ∧ win0_1.index t = ![0, t.val] ∧ win0_2.index t = ![0, 0, t.val]
    ∧ win0_3.index t = ![0, 0, t.val] ∧ win0_4.index t = ![0, t.val] ∧ win0_5.index t = ![0, t.val] ∧ win0_6.index t = ![0, t.val] :=
  (by decide +kernel : ∀ t : Fin grid0.N, _)

/-- The columns of a point's block. -/
abbrev col (q : Fin 128) : Fin 5632 := ⟨t.val * 128 + q.val, by have := t.isLt; have : cfg0.N = 44 := N_0; omega⟩

theorem gate_at (p : Fin 4096) (q : Fin 128) : gateAt m c t (ix2 p q) = gate m c (ix2 p (col t q)) := by
  blk_ext [iblk, idx t, col]

theorem value_at (p : Fin 4096) (q : Fin 128) : valueAt m c t (ix2 p q) = value' m c (ix2 p (col t q)) := by
  blk_ext [iblk, idx t, col]

theorem gateTap_at (k : Fin 3) (q : Fin 128) : gateTapAt m c t (ix3 k 0 q) = gateTap m c (ix3 k 0 (col t q)) := by
  blk_ext [iblk, idx t, col]

theorem valueTap_at (k : Fin 3) (q : Fin 128) : valueTapAt m c t (ix3 k 0 q) = valueTap m c (ix3 k 0 (col t q)) := by
  blk_ext [iblk, idx t, col]

theorem gateBias_at (q : Fin 128) : gateBiasAt m c t (ix2 0 q) = gateBias m c (ix2 0 (col t q)) := by
  blk_ext [iblk, idx t, col]

theorem valueBias_at (q : Fin 128) : valueBiasAt m c t (ix2 0 q) = valueBias m c (ix2 0 (col t q)) := by
  blk_ext [iblk, idx t, col]

section reference

open Cert.ActFwdRefIdeal.Read

variable (x y : FVec Ideal S4096x5632 .f32) (w u : FVec Ideal S3x1x5632 .f32) (b d : FVec Ideal S1x5632 .f32) (p : Fin 4096) (q : Fin 5632)

/-- The column after two rows of zeros, from each of its first three rows on. -/
theorem ref_down : val_main_v2 (F := Ideal) x (ix2 p q) = down 2 (fun r => x (ix2 r q)) p
    ∧ val_main_v9 (F := Ideal) x (ix2 p q) = down 1 (fun r => x (ix2 r q)) p
    ∧ val_main_v15 (F := Ideal) x (ix2 p q) = x (ix2 p q) := by
  have hz : ∀ i, val_main_v0 (F := Ideal) i = 0 := fun i => by pointwise [val_main_v0, val_main_cst]
  refine ⟨?_, ?_, ?_⟩
  · rw [val_main_v2_apply]
    exact past 2 0 x p q rfl (by decide) _ hz _ _ rfl rfl
  · rw [val_main_v9_apply]
    exact past 2 1 x p q rfl (by decide) _ hz _ _ (Nat.add_comm _ _) rfl
  · rw [val_main_v15_apply]
    exact (past 2 2 x p q rfl (by decide) _ hz _ _ (Nat.add_comm _ _) rfl).trans (down_zero _ _)

/-- The reference's convolution. -/
theorem ref_conv : val_main_v22 (F := Ideal) x w b (ix2 p q)
    = conv3 (fun k => w (ix3 k 0 q)) (fun r => x (ix2 r q)) p + b (ix2 0 q) := by
  rw [← conv3_host]
  pointwise [val_main_v22, val_main_v21, val_main_v20, val_main_v19, val_main_v18, val_main_v17, val_main_v16, val_main_v14, val_main_v13,
    val_main_v12, val_main_v11, val_main_v10, val_main_v8, val_main_v7, val_main_v6, val_main_v5, val_main_v4, val_main_v3, val_main_cst_0,
    (ref_down x p q).1, (ref_down x p q).2.1, (ref_down x p q).2.2]

/-- The other half's is the same function. -/
theorem ref_conv' : val_main_v46 (F := Ideal) y u d (ix2 p q)
    = conv3 (fun k => u (ix3 k 0 q)) (fun r => y (ix2 r q)) p + d (ix2 0 q) :=
  ref_conv y u d p q

theorem ref_out : val_main_v48 (F := Ideal) x y w u b d (ix2 p q)
    = act (conv3 (fun k => w (ix3 k 0 q)) (fun r => x (ix2 r q)) p + b (ix2 0 q))
        (conv3 (fun k => u (ix3 k 0 q)) (fun r => y (ix2 r q)) p + d (ix2 0 q)) := by
  pointwise [val_main_v48, val_main_v47, ref_conv', val_main_v23, val_main_call0_v5, val_main_call0_v4, val_main_call0_v3, val_main_call0_v2,
    val_main_call0_v1, val_main_call0_v0, val_main_call0_cst, val_main_call0_cst_0, ref_conv, act, Ideal.logistic]

end reference

/-- The result is the reference's. -/
theorem final : (dats m 0 c).arrAt 6 cfg0.N
    = Cert.ActFwdRefIdeal.Read.val_main_v48 (F := Ideal) (gate m c) (value' m c) (gateTap m c) (valueTap m c) (gateBias m c) (valueBias m c) := by
  refine (dats m 0 c).arrAt_eq_of_covers 6 _ (by decide +kernel) fun t _ y => ?_
  obtain ⟨p, q, rfl⟩ : ∃ (p : Fin 4096) (q : Fin 128), y = ix2 p q := ⟨y 0, y 1, by funext a; fin_cases a <;> rfl⟩
  have e : ((cfg0.win 6).blk t).view.emb (ix2 p q) = ix2 p (col t q) := by
    blk_ext [idx t, col]
  rw [e, ref_out]
  blk_simp
  rw [after0_6, written m c t, pay1_at, pay2_at]
  simp only [gate_at, value_at, gateTap_at, valueTap_at, gateBias_at, valueBias_at]

theorem frame_ref : Cert.quiescent_ActFwdRefIdeal (hActFwdRefIdeal := Cert.ActFwdRefIdeal.Gen.facts) := fun m ρ _ =>
  (θ_run Cert.ActFwdRefIdeal.defs _ _).mono (fun r h => ⟨fun c => (h c).2, sem_eq_zero_of_no_sems (by decide) r.2⟩)
    (Cert.ActFwdRefIdeal.Value.run (F := Ideal) m ρ)

theorem value : Cert.algebraic_ActFwdIdeal_ActFwdRefIdeal (hActFwdIdeal := Cert.ActFwdIdeal.Gen.facts)
    (hActFwdRefIdeal := Cert.ActFwdRefIdeal.Gen.facts) := by
  intro m g m' g' _ hagree
  refine ⟨fun c => (dats m 0 c).arrAt 6 cfg0.N,
    (θ_run _ _ _).mono (fun r h c => ⟨(h.1 c).1 6, h.2 c⟩) (θ_run_and (run_main m g) (unchanged m g)),
    (θ_run _ _ _).mono (fun r h c => ?_) (Cert.ActFwdRefIdeal.Value.run m' g')⟩
  obtain ⟨e0, e1, e2, e3, e4, e5⟩ := hagree c
  obtain ⟨h0, hargs⟩ := h c
  refine ⟨h0.trans ?_, hargs⟩
  rw [Cert.ActFwdRefIdeal.Read.val_main_v48_eq, e0, e1, e2, e3, e4, e5]
  exact (final m c).symm

end Cert.Rows.ActFwd

end

end
-- ==== Proof.Head.lean ====
/-
  One head of the delta rule's inputs: a row of 128 activated lanes, divided by its length, and the gradient of that; and the three
  parts of 1024 columns each that the heads are laid out in.
-/
module

public import proofs.«01_k».proof.Proof.Shift

@[expose] public section

noncomputable section

namespace Cert.Head

open Idealize.ShloMosaic Cert.Shift

/-- The term added to a row's squared length, and the exponent of the inverse root. -/
def small : EReal := Ideal.ofBits .f32 0x358637BD#32
def minusHalf : EReal := Ideal.ofBits .f32 0xBF000000#32

theorem small_real : ∃ e : ℝ, 0 < e ∧ small = e := by
  refine ⟨8796093 * (2 ^ 43)⁻¹, by norm_num, ?_⟩
  simp [small, Ideal.ofBits, Ideal.ieee]

theorem minusHalf_real : minusHalf = ((-(1 / 2) : ℝ) : EReal) := by
  simp [minusHalf, Ideal.ofBits, Ideal.ieee]
  exact (EReal.coe_mul _ _).symm.trans (congrArg _ (by norm_num))

variable (z y d : Fin 128 → EReal)

/-- The activation. -/
def act (z : EReal) : EReal := z * Ideal.logistic z

/-- The squared length, with the term added, and its inverse root. -/
def len : EReal := (∑ k, y k * y k) + small
def inv : EReal := Ideal.rsqrt (len y)

/-- The row divided by its length. -/
def unit (k : Fin 128) : EReal := y k * inv y

/-- The gradient of that: as one difference, and as the sum that the reference takes. -/
def grad (k : Fin 128) : EReal := d k * inv y - y k * (inv y * inv y * inv y) * ∑ l, d l * y l

def gradSum (k : Fin 128) : EReal := d k * inv y + (∑ l, y l * d l) * (minusHalf * Ideal.div (inv y) (len y)) * (2 * y k)

/-- An activated lane is a real number or positively infinite. -/
theorem act_cases (z : EReal) : IsReal (act z) ∨ act z = ⊤ := by
  unfold act
  induction z with
  | bot => exact .inl ⟨0, by rw [Ideal.logistic_bot, mul_zero]; rfl⟩
  | top => exact .inr (by rw [Ideal.logistic_top, mul_one])
  | coe z => exact .inl (IsReal.mul ⟨z, rfl⟩ ⟨_, Ideal.logistic_coe z⟩)

theorem IsReal.sum {ι : Type} [Fintype ι] {f : ι → EReal} (h : ∀ i, IsReal (f i)) : IsReal (∑ i, f i) := by
  choose g hg using h
  refine ⟨∑ i, g i, ?_⟩
  rw [funext hg]
  exact (map_sum (⟨⟨(↑), rfl⟩, EReal.coe_add⟩ : ℝ →+ EReal) g Finset.univ).symm

/-- Where a lane is infinite the row's length is, and both gradients are zero. -/
theorem inv_eq_zero (hy : ∀ k, IsReal (y k) ∨ y k = ⊤) {l : Fin 128} (hl : y l = ⊤) : len y = ⊤ ∧ inv y = 0 := by
  have h0 : ∀ k, 0 ≤ y k * y k := fun k => by
    rcases hy k with ⟨r, hr⟩ | h
    · rw [hr, ← EReal.coe_mul]; exact EReal.coe_nonneg.2 (mul_self_nonneg r)
    · rw [h]; exact le_top
  have h1 : (∑ k, y k * y k) = ⊤ := by
    refine top_le_iff.1 (le_trans ?_ (Finset.single_le_sum (f := fun k => y k * y k) (fun k _ => h0 k) (Finset.mem_univ l)))
    show ⊤ ≤ y l * y l
    rw [hl]; exact le_refl _
  have h2 : len y = ⊤ := by
    obtain ⟨e, _, he⟩ := small_real
    unfold len
    rw [h1, he]; exact EReal.top_add_coe e
  exact ⟨h2, by unfold inv; rw [h2]; rfl⟩

/-- The two gradients are one, and it is a real number, wherever the cotangent's lanes are real. -/
theorem grad_eq (hy : ∀ k, IsReal (y k) ∨ y k = ⊤) (hd : ∀ k, IsReal (d k)) (k : Fin 128) :
    gradSum y d k = grad y d k ∧ IsReal (grad y d k) := by
  by_cases ht : ∃ l, y l = ⊤
  · obtain ⟨l, hl⟩ := ht
    obtain ⟨h2, h3⟩ := inv_eq_zero y hy hl
    have h4 : grad y d k = 0 := by unfold grad; rw [h3]; simp
    have h5 : gradSum y d k = 0 := by unfold gradSum; rw [h3, h2]; simp [Ideal.div]
    exact ⟨h5.trans h4.symm, 0, h4⟩
  · have hr : ∀ l, IsReal (y l) := fun l => (hy l).resolve_right fun h => ht ⟨l, h⟩
    obtain ⟨s, hs⟩ : ∃ s : ℝ, 0 ≤ s ∧ (∑ l, y l * y l) = s := by
      choose g hg using hr
      refine ⟨∑ l, g l * g l, Finset.sum_nonneg fun l _ => mul_self_nonneg _, ?_⟩
      rw [funext hg]
      exact (map_sum (⟨⟨(↑), rfl⟩, EReal.coe_add⟩ : ℝ →+ EReal) (fun l => g l * g l) Finset.univ).symm
    obtain ⟨e, he, hse⟩ := small_real
    have hv : 0 < s + e := by linarith [hs.1]
    have hlen : len y = ((s + e : ℝ) : EReal) := by unfold len; rw [hs.2, hse]; rfl
    have hi : inv y = (((Real.sqrt (s + e))⁻¹ : ℝ) : EReal) := by
      unfold inv; rw [hlen, Ideal.rsqrt_coe, if_neg (not_lt.2 hv.le), if_neg hv.ne']
    obtain ⟨t, ht⟩ := IsReal.sum fun l => (hd l).mul (hr l)
    have ht' : (∑ l, y l * d l) = t := by rw [← ht]; exact Finset.sum_congr rfl fun l _ => mul_comm _ _
    obtain ⟨a, ha⟩ := hr k
    obtain ⟨b, hb⟩ := hd k
    have hq : Ideal.div (inv y) (len y) = (((Real.sqrt (s + e))⁻¹ / (s + e) : ℝ) : EReal) := by
      rw [hi, hlen, Ideal.div_coe hv.ne', ← EReal.coe_mul, one_div, div_eq_mul_inv]
    have h2 : (2 : EReal) = ((2 : ℝ) : EReal) := rfl
    have hc : (Real.sqrt (s + e))⁻¹ / (s + e) = (Real.sqrt (s + e))⁻¹ * (Real.sqrt (s + e))⁻¹ * (Real.sqrt (s + e))⁻¹ := by
      have h := Real.mul_self_sqrt hv.le
      have hp := Real.sqrt_pos.2 hv
      generalize Real.sqrt (s + e) = u at h hp ⊢
      rw [← h]
      field_simp
    unfold gradSum grad
    rw [hq, ht, ht', hi, ha, hb, minusHalf_real, h2, hc]
    simp only [← EReal.coe_mul, ← EReal.coe_add, ← EReal.coe_sub]
    exact ⟨congrArg _ (by ring), _, rfl⟩

/-- A lane's cotangent, carried through the activation. -/
def ofLane (z d : EReal) : EReal := d * (Ideal.logistic z * (1 + z * (1 - Ideal.logistic z)))

theorem ofLane_eq {z d : EReal} (hd : IsReal d) : d * Ideal.logistic z + z * d * (Ideal.logistic z * (1 - Ideal.logistic z)) = ofLane z d :=
  slope hd

/-- Three parts of 1024 columns, side by side. -/
theorem parts {x y z : (⟨2, ![4096, 1024]⟩ : Shape).Idx → EReal}
    {h : Shape.Concatenates ([(⟨_, x⟩ : (s : Shape) × (s.Idx → EReal)), ⟨_, y⟩, ⟨_, z⟩].map (·.1)) ⟨2, ![4096, 3072]⟩ 1} (p : Fin 4096) (q : Fin 3072)
    (r : Fin 1024) : (q.val = r.val → concatenate ⟨2, ![4096, 3072]⟩ 1 [⟨_, x⟩, ⟨_, y⟩, ⟨_, z⟩] h (ix2 p q) = x (ix2 p r))
    ∧ (q.val = 1024 + r.val → concatenate ⟨2, ![4096, 3072]⟩ 1 [⟨_, x⟩, ⟨_, y⟩, ⟨_, z⟩] h (ix2 p q) = y (ix2 p r))
    ∧ (q.val = 2048 + r.val → concatenate ⟨2, ![4096, 3072]⟩ 1 [⟨_, x⟩, ⟨_, y⟩, ⟨_, z⟩] h (ix2 p q) = z (ix2 p r)) := by
  have off : ∀ b : Fin 2, b ≠ 1 → (ix2 p r b).val = (ix2 p q b).val := fun b hb => by
    match b with
    | ⟨0, _⟩ => rfl
    | ⟨1, _⟩ => exact absurd rfl hb
  refine ⟨fun e => ?_, fun e => ?_, fun e => ?_⟩
  · exact concatenate_apply_piece 1 _ h _ 0 (by simp) _ x rfl rfl 0 rfl (ix2 p r) off ((Nat.zero_add _).trans e.symm)
  · exact concatenate_apply_piece 1 _ h _ 1 (by simp) _ y rfl rfl 1024 rfl (ix2 p r) off e.symm
  · exact concatenate_apply_piece 1 _ h _ 2 (by simp) _ z rfl rfl 2048 rfl (ix2 p r) off e.symm

/-- A head's lane among a part's columns, and a part's column among all. -/
abbrev headCol (h : Fin 8) (q : Fin 128) : Fin 1024 := ⟨h.val * 128 + q.val, by omega⟩
abbrev part (a : Fin 3) (r : Fin 1024) : Fin 3072 := ⟨a.val * 1024 + r.val, by omega⟩

/-- A block's column. -/
abbrev col (n : Fin 24) (q : Fin 128) : Fin 3072 := ⟨n.val * 128 + q.val, by omega⟩

/-- Every block is a head of a part. -/
theorem col_part (n : Fin 24) : ∃ (a : Fin 3) (h : Fin 8), (∀ q, col n q = part a (headCol h q)) ∧ (n.val < 16 ↔ a ≠ 2) := by
  refine ⟨⟨n.val / 8, by omega⟩, ⟨n.val % 8, by omega⟩, fun q => Fin.ext ?_, ?_⟩
  · show n.val * 128 + q.val = n.val / 8 * 1024 + (n.val % 8 * 128 + q.val)
    omega
  · rw [Ne, Fin.ext_iff]
    show n.val < 16 ↔ ¬ n.val / 8 = 2
    omega

/-- The first 16 blocks of 128 columns are the heads that are divided by their length. -/
theorem isHead : ∀ n : Fin 24, Scalar.cmpi .slt (BitVec.ofNat 32 n.val) 16#32 = if n.val < 16 then 1#1 else 0#1 := by
  decide +kernel

end Cert.Head

end

end
-- ==== Proof.PreBwd.lean ====
/-
  The gradients of the delta rule's inputs: of the short convolution, the activation and the heads' lengths.
-/
module

public import proofs.«01_k».proof.Defs
public import proofs.«01_k».proof.Proof.Finite
public import proofs.«01_k».proof.Proof.Head
public import proofs.«01_k».proof.Proof.Norm
public import proofs.«01_k».proof.Proof.Gen.PreBwd.Frame
public import proofs.«01_k».proof.Proof.Gen.PreBwdIdeal.Frame
public import proofs.«01_k».proof.Proof.Gen.PreBwdRefIdeal.Run
public import proofs.«01_k».proof.Proof.Gen.PreBwdRefIdeal.Read
public import Idealize.ShloMosaic.Lib.Pipeline.ValueKit
public import Idealize.ShloMosaic.Lib.StableHlo.RunRead
public import Idealize.ShloMosaic.Lib.Claim
public import Idealize.ShloMosaic.Lib.ReduceAll
public import proofs.«01_k».proof.Proof.Gen.Pre_finite_cotangent
public import Idealize.ShloMosaic.Lib.Pointwise
public import Idealize.ShloMosaic.Adequacy
public import Idealize.ShloMosaic.Init

@[expose] public section

set_option maxRecDepth 16384

noncomputable section

namespace Cert.Rows.PreBwd

open Idealize.ShloMosaic Idealize.ShloMosaic.TcCoe Idealize.SL.Sem
open Cert.PreBwdIdeal Cert.PreBwdIdeal.Gen Cert.Shift

variable (m : (ℓ : Loc nD τ sig) → Buf (Elt Ideal) ℓ) (c : Dev nD) (t : Fin cfg0.N)

/-- The projection, the taps and the cotangent of the heads. -/
abbrev proj : FVec Ideal S4096x15360 .f32 := m ((c : Thread nD τ).loc main_arg0)
abbrev taps : FVec Ideal S4x1x3072 .f32 := m ((c : Thread nD τ).loc main_arg1)
abbrev cot : FVec Ideal S4096x3072 .f32 := m ((c : Thread nD τ).loc main_arg2)

/-- A point's blocks. -/
abbrev projAt : FVec Ideal S4096x128 .f32 := iblk m c 0 t
abbrev tapsAt : FVec Ideal S4x1x128 .f32 := iblk m c 1 t
abbrev cotAt : FVec Ideal S4096x128 .f32 := iblk m c 2 t

theorem ld_tap (w : FVec Ideal S4x1x128 .f32) : View.ld w r0_1 = tap w 3 ∧ View.ld w r0_2 = tap w 0 ∧ View.ld w r0_3 = tap w 1
    ∧ View.ld w r0_4 = tap w 2 :=
  ⟨load_tap w 3 _, load_tap w 0 _, load_tap w 1 _, load_tap w 2 _⟩

section point

variable (n : Fin 24) (x : Vec Ideal S4096x128 .f32) (w : Vec Ideal S4x1x128 .f32) (d : Vec Ideal S4096x128 .f32) (p : Fin 4096) (q : Fin 128)

/-- A convolved lane. -/
abbrev conv : EReal := conv4 (fun k => w (ix3 k 0 q)) (fun r => x (ix2 r q)) p

/-- The gradient of a block's convolved lanes, as the point computes it. -/
abbrev dz : FVec Ideal S4096x128 .f32 :=
  k0_pay8 (F := Ideal) (BitVec.ofNat 32 n.val) d (k0_pay4 (F := Ideal) x (tap w 3) (tap w 0) (tap w 1)) (k0_pay5 (F := Ideal) (tap w 2)) k0_pay6
    (k0_pay7 (F := Ideal) x) (Scalar.ofBits .f32 0x00000000#32)

theorem conv_at : addf (k0_pay4 (F := Ideal) x (tap w 3) (tap w 0) (tap w 1)) (mulf (broadcastTo S4096x128 (k0_pay5 (F := Ideal) (tap w 2))
      broadcasts_S1x128_S4096x128) (select k0_pay6 (k0_pay7 (F := Ideal) x) (broadcast S4096x128 (Scalar.ofBits .f32 0x00000000#32)))) (ix2 p q)
    = conv x w p q := by
  have d3 := rolled_down x 3 (by decide) iota_S4096x128_d0_w32 rotates_S4096x128_d0 _ fill p q
  have d2 := rolled_down x 2 (by decide) iota_S4096x128_d0_w32 rotates_S4096x128_d0 _ fill p q
  have d1 := rolled_down x 1 (by decide) iota_S4096x128_d0_w32 rotates_S4096x128_d0 _ fill p q
  unfold k0_pay4 k0_pay5 k0_pay6 k0_pay7 conv conv4
  dsimp only
  rw [← d3, ← d2, ← d1]
  generalize select _ _ _ = s
  generalize select _ _ _ = r
  generalize select _ _ _ = u
  pointwise [tap]

/-- It is the lane's cotangent, or the heads' gradient of it, carried through the activation. -/
theorem dz_at : dz n x w d (ix2 p q) = Head.ofLane (conv x w p q)
    (if n.val < 16 then Head.grad (fun k => Head.act (conv x w p k)) (fun k => d (ix2 p k)) q else d (ix2 p q)) := by
  have e := conv_at x w p
  unfold dz k0_pay8
  dsimp only
  generalize addf (k0_pay4 (F := Ideal) x _ _ _) (mulf _ _) = z at e ⊢
  rw [Head.isHead]
  simp only [← e]
  split
  · pointwise [Head.ofLane, Head.grad, Head.inv, Head.len, Head.small, Head.act]
  · pointwise [Head.ofLane]

/-- What the block's columns are handed back, and each of their taps. -/
theorem toCol_at : k0_pay2 (F := Ideal) (dz n x w d) (k0_pay12 (F := Ideal) (dz n x w d)
      (k0_pay9 (F := Ideal) (BitVec.ofNat 32 n.val) d (k0_pay4 (F := Ideal) x (tap w 3) (tap w 0) (tap w 1)) (k0_pay5 (F := Ideal) (tap w 2)) k0_pay6
        (k0_pay7 (F := Ideal) x) (Scalar.ofBits .f32 0x00000000#32) (tap w 3)) (tap w 0) (tap w 1)) (tap w 2) (ix2 p q)
    = spread4 (fun k => w (ix3 k 0 q)) (fun r => dz n x w d (ix2 r q)) p := by
  unfold k0_pay9 dz
  dsimp only
  generalize k0_pay8 (F := Ideal) _ _ _ _ _ _ _ = z
  have d3 := rolled_up z 4093 (by decide) iota_S4096x128_d0_w32 rotates_S4096x128_d0 _ fill p q
  have d2 := rolled_up z 4094 (by decide) iota_S4096x128_d0_w32 rotates_S4096x128_d0 _ fill p q
  have d1 := rolled_up z 4095 (by decide) iota_S4096x128_d0_w32 rotates_S4096x128_d0 _ fill p q
  unfold k0_pay2 k0_pay12 spread4
  dsimp only
  rw [← d3, ← d2, ← d1]
  generalize select _ _ _ = s
  generalize select _ _ _ = r
  generalize select _ _ _ = u
  pointwise [tap]

variable (z : FVec Ideal S4096x128 .f32)

theorem pay10_at : k0_pay10 (F := Ideal) (BitVec.ofNat 32 n.val) x d (k0_pay4 (F := Ideal) x (tap w 3) (tap w 0) (tap w 1))
      (k0_pay5 (F := Ideal) (tap w 2)) k0_pay6 (k0_pay7 (F := Ideal) x) (Scalar.ofBits .f32 0x00000000#32) (ix3 0 0 q)
    = ofTap 0 (fun r => x (ix2 r q)) (fun r => dz n x w d (ix2 r q)) := by
  unfold k0_pay10 dz
  dsimp only
  generalize k0_pay8 (F := Ideal) _ _ _ _ _ _ _ = z
  simp only [ofTap, down_zero]
  pointwise

theorem pay3_at : k0_pay3 (F := Ideal) x z (ix3 0 0 q) = ofTap 1 (fun r => x (ix2 r q)) (fun r => z (ix2 r q)) := by
  have d1 := fun p => rolled_down x 1 (by decide) iota_S4096x128_d0_w32 rotates_S4096x128_d0 _ fill p q
  unfold k0_pay3 ofTap
  simp only [← d1]
  generalize select _ _ _ = s
  pointwise

theorem pay1_at : k0_pay1 (F := Ideal) z k0_pay13 (k0_pay14 (F := Ideal) x) (k0_pay15 (F := Ideal)) (ix3 0 0 q)
    = ofTap 2 (fun r => x (ix2 r q)) (fun r => z (ix2 r q)) := by
  have d2 := fun p => rolled_down x 2 (by decide) iota_S4096x128_d0_w32 rotates_S4096x128_d0 _ fill p q
  unfold k0_pay1 k0_pay13 k0_pay14 k0_pay15 ofTap
  dsimp only
  simp only [← d2]
  generalize select _ _ _ = s
  pointwise

theorem pay11_at : k0_pay11 (F := Ideal) x z (ix3 0 0 q) = ofTap 3 (fun r => x (ix2 r q)) (fun r => z (ix2 r q)) := by
  have d3 := fun p => rolled_down x 3 (by decide) iota_S4096x128_d0_w32 rotates_S4096x128_d0 _ fill p q
  unfold k0_pay11 ofTap
  simp only [← d3]
  generalize select _ _ _ = s
  pointwise

variable (i : grid0.Coords) (hi : (i 0).val = n.val)

theorem pays_eq : k0_pay16 (F := Ideal) i x w d = k0_pay4 (F := Ideal) x (tap w 3) (tap w 0) (tap w 1)
    ∧ k0_pay17 (F := Ideal) i x w d = k0_pay5 (F := Ideal) (tap w 2) ∧ k0_pay18 (F := Ideal) i x w d = k0_pay6
    ∧ k0_pay19 (F := Ideal) i x w d = k0_pay7 (F := Ideal) x := by
  unfold k0_pay16 k0_pay17 k0_pay18 k0_pay19
  simp only [(ld_tap _).1, (ld_tap _).2.1, (ld_tap _).2.2.1, (ld_tap _).2.2.2]
  have l : View.ld (Val := Elt Ideal) (e' := .f32) x r0_0 = x := by frame_out
  rw [l]
  refine ⟨?_, ?_, ?_, ?_⟩ <;> first | trivial | rfl

include hi in
theorem pay20_eq : k0_pay20 (F := Ideal) i x w d = dz n x w d := by
  unfold k0_pay20
  obtain ⟨e0, e1, e2, e3⟩ := pays_eq x w d i
  have l : View.ld (Val := Elt Ideal) (e' := .f32) d r0_0 = d := by frame_out
  rw [e0, e1, e2, e3, l, hi]

include hi in
/-- What a point writes back. -/
theorem out_3 : out0_3 (F := Ideal) i x w d (ix2 p q) = spread4 (fun k => w (ix3 k 0 q)) (fun r => dz n x w d (ix2 r q)) p := by
  rw [← toCol_at]
  unfold out0_3
  rw [pay20_eq n x w d i hi]
  obtain ⟨e0, e1, e2, e3⟩ := pays_eq x w d i
  have l : View.ld (Val := Elt Ideal) (e' := .f32) d r0_0 = d := by frame_out
  rw [e0, e1, e2, e3, l, hi]
  simp only [(ld_tap _).1, (ld_tap _).2.1, (ld_tap _).2.2.1, (ld_tap _).2.2.2]
  generalize k0_pay2 (F := Ideal) _ _ _ = y
  frame_out
  try rfl

include hi in
theorem out_4 (k : Fin 4) : out0_4 (F := Ideal) i x w d (ix3 k 0 q)
    = ofTap (3 - k.val) (fun r => x (ix2 r q)) (fun r => dz n x w d (ix2 r q)) := by
  unfold out0_4
  rw [pay20_eq n x w d i hi]
  obtain ⟨e0, e1, e2, e3⟩ := pays_eq x w d i
  have l : View.ld (Val := Elt Ideal) (e' := .f32) d r0_0 = d := by frame_out
  have l' : View.ld (Val := Elt Ideal) (e' := .f32) x r0_0 = x := by frame_out
  rw [e0, e1, e2, e3, l, l', hi]
  fin_cases k
  · refine (View.canon_storedRow1_of_ne (0 : Fin 4) (2 : Fin 4) (by decide) q _ _ _).trans ?_
    refine (View.canon_storedRow1_of_ne (0 : Fin 4) (1 : Fin 4) (by decide) q _ _ _).trans ?_
    exact (View.canon_storedRow1 (0 : Fin 4) q _ _ _).trans (pay11_at x q _)
  · refine (View.canon_storedRow1_of_ne (1 : Fin 4) (2 : Fin 4) (by decide) q _ _ _).trans ?_
    exact (View.canon_storedRow1 (1 : Fin 4) q _ _ _).trans (pay1_at x q _)
  · exact (View.canon_storedRow1 (2 : Fin 4) q _ _ _).trans (pay3_at x q _)
  · refine (View.canon_storedRow1_of_ne (3 : Fin 4) (2 : Fin 4) (by decide) q _ _ _).trans ?_
    refine (View.canon_storedRow1_of_ne (3 : Fin 4) (1 : Fin 4) (by decide) q _ _ _).trans ?_
    refine (View.canon_storedRow1_of_ne (3 : Fin 4) (0 : Fin 4) (by decide) q _ _ _).trans ?_
    exact (View.canon_storedRow1 (3 : Fin 4) q _ _ _).trans (pay10_at n x w d q)

end point

/-- The blocks each window stages. -/
theorem idx : ∀ t : Fin cfg0.N, win0_0.index t = ![0, 40 + t.val] ∧ win0_1.index t = ![0, 0, t.val] ∧ win0_2.index t = ![0, t.val]
    ∧ win0_3.index t = ![0, t.val] ∧ win0_4.index t = ![0, 0, t.val] :=
  (by decide +kernel : ∀ t : Fin grid0.N, _)

theorem coord : ∀ t : Fin cfg0.N, (grid0.coords t 0).val = t.val ∧ t.val < 24 :=
  (by decide +kernel : ∀ t : Fin grid0.N, _)

/-- A point's block among the columns, and where the projection has a column. -/
abbrev blk : Fin 24 := ⟨t.val, (coord t).2⟩
abbrev src (q : Fin 3072) : Fin 15360 := ⟨5120 + q.val, by omega⟩

theorem proj_at (p : Fin 4096) (q : Fin 128) : projAt m c t (ix2 p q) = proj m c (ix2 p (src (Head.col (blk t) q))) := by
  blk_ext [iblk, idx t, src, Head.col, blk]

theorem taps_at (k : Fin 4) (q : Fin 128) : tapsAt m c t (ix3 k 0 q) = taps m c (ix3 k 0 (Head.col (blk t) q)) := by
  blk_ext [iblk, idx t, Head.col, blk]

theorem cot_at (p : Fin 4096) (q : Fin 128) : cotAt m c t (ix2 p q) = cot m c (ix2 p (Head.col (blk t) q)) := by
  blk_ext [iblk, idx t, Head.col, blk]

section reference

open Cert.PreBwdRefIdeal.Read

variable (x : FVec Ideal S4096x15360 .f32) (w : FVec Ideal S4x1x3072 .f32) (d : FVec Ideal S4096x3072 .f32) (p : Fin 4096)

/-- A convolved lane of the reference's, and an activated one. -/
abbrev refConv (q : Fin 3072) : EReal := conv4 (fun k => w (ix3 k 0 q)) (fun r => x (ix2 r (src q))) p
abbrev refLane (q : Fin 3072) : EReal := Head.act (refConv x w p q)

theorem ref_src (q : Fin 3072) : val_main_v0 (F := Ideal) x (ix2 p q) = x (ix2 p (src q)) := by
  have i0 : idx_main_v0 (ix2 p q) = ix2 p (src q) := by funext j; fin_cases j <;> rfl
  rw [val_main_v0_apply, i0]

/-- The column after three rows of zeros, from each of its first four rows on. -/
theorem ref_down (q : Fin 3072) : val_main_v4 (F := Ideal) x (ix2 p q) = down 3 (fun r => x (ix2 r (src q))) p
    ∧ val_main_v11 (F := Ideal) x (ix2 p q) = down 2 (fun r => x (ix2 r (src q))) p
    ∧ val_main_v17 (F := Ideal) x (ix2 p q) = down 1 (fun r => x (ix2 r (src q))) p
    ∧ val_main_v23 (F := Ideal) x (ix2 p q) = x (ix2 p (src q)) := by
  have hz : ∀ i, val_main_v1 (F := Ideal) i = 0 := fun i => by pointwise [val_main_v1, val_main_cst]
  simp only [← ref_src]
  refine ⟨?_, ?_, ?_, ?_⟩
  · rw [val_main_v4_apply]
    exact past 3 0 (val_main_v0 (F := Ideal) x) p q rfl (by decide) _ hz _ _ rfl rfl
  · rw [val_main_v11_apply]
    exact past 3 1 (val_main_v0 (F := Ideal) x) p q rfl (by decide) _ hz _ _ (Nat.add_comm _ _) rfl
  · rw [val_main_v17_apply]
    exact past 3 2 (val_main_v0 (F := Ideal) x) p q rfl (by decide) _ hz _ _ (Nat.add_comm _ _) rfl
  · rw [val_main_v23_apply]
    exact (past 3 3 (val_main_v0 (F := Ideal) x) p q rfl (by decide) _ hz _ _ (Nat.add_comm _ _) rfl).trans (down_zero _ _)

theorem ref_conv (q : Fin 3072) : val_main_v28 (F := Ideal) x w (ix2 p q) = refConv x w p q := by
  unfold refConv
  rw [← conv4_host]
  pointwise [val_main_v28, val_main_v27, val_main_v26, val_main_v25, val_main_v24, val_main_v22, val_main_v21, val_main_v20, val_main_v19,
    val_main_v18, val_main_v16, val_main_v15, val_main_v14, val_main_v13, val_main_v12, val_main_v10, val_main_v9, val_main_v8, val_main_v7,
    val_main_v6, val_main_v5, val_main_cst_1, (ref_down x p q).1, (ref_down x p q).2.1, (ref_down x p q).2.2.1, (ref_down x p q).2.2.2]

theorem ref_logistic (q : Fin 3072) : val_main_v29_2 (F := Ideal) x w (ix2 p q) = Ideal.logistic (refConv x w p q) := by
  pointwise [val_main_v29_2, val_main_call0_v4, val_main_call0_v3, val_main_call0_v2, val_main_call0_v1, val_main_call0_v0, val_main_call0_cst,
    val_main_call0_cst_0, ref_conv, Ideal.logistic]

theorem ref_lane (q : Fin 3072) : val_main_v29_0 (F := Ideal) x w (ix2 p q) = refLane x w p q := by
  pointwise [val_main_v29_0, ref_logistic, ref_conv, Head.act]

section heads

variable (h : Fin 8) (q : Fin 128)

theorem split_row : ((p.val * 8 + h.val) * 128 + q.val) / 1024 = p.val ∧ ((p.val * 8 + h.val) * 128 + q.val) % 1024 = h.val * 128 + q.val := by
  omega

/-- The parts that are divided by their heads' lengths, and the three of the cotangent. -/
theorem ref_parts : val_main_v33 (F := Ideal) x w (ix3 p h q) = refLane x w p (Head.part 0 (Head.headCol h q))
    ∧ val_main_v34 (F := Ideal) x w (ix3 p h q) = refLane x w p (Head.part 1 (Head.headCol h q)) := by
  have e := split_row p h q
  have i33 : idx_main_v30 (idx_main_v33 (ix3 p h q)) = ix2 p (Head.part 0 (Head.headCol h q)) := by
    funext j; fin_cases j <;> exact Fin.ext (by first | exact e.1 | exact e.2.trans (by simp))
  have i34 : idx_main_v31 (idx_main_v34 (ix3 p h q)) = ix2 p (Head.part 1 (Head.headCol h q)) := by
    funext j; fin_cases j <;> exact Fin.ext (by first | exact e.1 | exact congrArg (1024 + ·) e.2)
  refine ⟨?_, ?_⟩
  · rw [val_main_v33_apply, val_main_v30_apply, i33, ref_lane]
  · rw [val_main_v34_apply, val_main_v31_apply, i34, ref_lane]

theorem ref_cots : val_main_v71 (F := Ideal) d (ix3 p h q) = d (ix2 p (Head.part 0 (Head.headCol h q)))
    ∧ val_main_v70 (F := Ideal) d (ix3 p h q) = d (ix2 p (Head.part 1 (Head.headCol h q)))
    ∧ val_main_v69 (F := Ideal) d (ix3 p h q) = d (ix2 p (Head.part 2 (Head.headCol h q))) := by
  have e := split_row p h q
  have i71 : idx_main_v66 (idx_main_v71 (ix3 p h q)) = ix2 p (Head.part 0 (Head.headCol h q)) := by
    funext j; fin_cases j <;> exact Fin.ext (by first | exact e.1 | exact e.2.trans (by simp))
  have i70 : idx_main_v67 (idx_main_v70 (ix3 p h q)) = ix2 p (Head.part 1 (Head.headCol h q)) := by
    funext j; fin_cases j <;> exact Fin.ext (by first | exact e.1 | exact congrArg (1024 + ·) e.2)
  have i69 : idx_main_v68 (idx_main_v69 (ix3 p h q)) = ix2 p (Head.part 2 (Head.headCol h q)) := by
    funext j; fin_cases j <;> exact Fin.ext (by first | exact e.1 | exact congrArg (2048 + ·) e.2)
  refine ⟨?_, ?_, ?_⟩
  · rw [val_main_v71_apply, val_main_v66_apply, i71]
  · rw [val_main_v70_apply, val_main_v67_apply, i70]
  · rw [val_main_v69_apply, val_main_v68_apply, i69]

/-- The gradients of the heads divided by their lengths. -/
theorem ref_grads : val_main_v91 (F := Ideal) x w d (ix3 p h q)
      = Head.gradSum (fun k => refLane x w p (Head.part 0 (Head.headCol h k))) (fun k => d (ix2 p (Head.part 0 (Head.headCol h k)))) q
    ∧ val_main_v81 (F := Ideal) x w d (ix3 p h q)
      = Head.gradSum (fun k => refLane x w p (Head.part 1 (Head.headCol h k))) (fun k => d (ix2 p (Head.part 1 (Head.headCol h k)))) q := by
  have e : ((p.val * 8 + h.val) * 1 + 0) / 8 = p.val ∧ ((p.val * 8 + h.val) * 1 + 0) % 8 = h.val := by omega
  have i39 : ∀ k, idx_main_v39 (ix2 p h) k = ix3 p h k := fun k => by funext j; fin_cases j <;> rfl
  have i52 : ∀ k, idx_main_v52 (ix2 p h) k = ix3 p h k := fun k => by funext j; fin_cases j <;> rfl
  have i83 : ∀ k, idx_main_v83 (ix2 p h) k = ix3 p h k := fun k => by funext j; fin_cases j <;> rfl
  have i73 : ∀ k, idx_main_v73 (ix2 p h) k = ix3 p h k := fun k => by funext j; fin_cases j <;> rfl
  have i88 : ∀ k, idx_main_v88 (ix2 p h) k = ix3 p h k := fun k => by funext j; fin_cases j <;> rfl
  have i78 : ∀ k, idx_main_v78 (ix2 p h) k = ix3 p h k := fun k => by funext j; fin_cases j <;> rfl
  have i84 : ∀ k : Fin 1, idx_main_v84 (ix3 p h k) = ix2 p h := fun k => by
    obtain rfl : k = 0 := Subsingleton.elim _ _
    funext j; fin_cases j <;> exact Fin.ext (by first | exact e.1 | exact e.2)
  have i74 : ∀ k : Fin 1, idx_main_v74 (ix3 p h k) = ix2 p h := i84
  refine ⟨?_, ?_⟩
  · simp only [Head.gradSum, Head.inv, Head.len, ← fun k => (ref_parts x w p h k).1, ← fun k => (ref_cots d p h k).1]
    pointwise [val_main_v91, val_main_v90, val_main_v89, val_main_v88_apply, i88, val_main_v87, val_main_v86, val_main_v85, val_main_v84_apply,
      i84, val_main_v83_apply, i83, val_main_v82, val_main_cst_13, val_main_cst_12, val_main_v46, val_main_v45, val_main_cst_5, val_main_v44,
      val_main_v43, val_main_v42, val_main_v41, val_main_cst_4, val_main_v40, val_main_v39_apply, i39, val_main_cst_3, val_main_v38,
      val_main_v37, val_main_cst_2, val_main_v36, Head.small, Head.minusHalf]
    rw [Norm.two, Fin.sum_univ_one]
  · simp only [Head.gradSum, Head.inv, Head.len, ← fun k => (ref_parts x w p h k).2, ← fun k => (ref_cots d p h k).2.1]
    pointwise [val_main_v81, val_main_v80, val_main_v79, val_main_v78_apply, i78, val_main_v77, val_main_v76, val_main_v75, val_main_v74_apply,
      i74, val_main_v73_apply, i73, val_main_v72, val_main_cst_11, val_main_cst_10, val_main_v59, val_main_v58, val_main_cst_9, val_main_v57,
      val_main_v56, val_main_v55, val_main_v54, val_main_cst_8, val_main_v53, val_main_v52_apply, i52, val_main_cst_7, val_main_v51,
      val_main_v50, val_main_cst_6, val_main_v49, Head.small, Head.minusHalf]
    rw [Norm.two, Fin.sum_univ_one]

end heads

/-- The gradient of the activated lanes, block by block. -/
theorem ref_act (n : Fin 24) (q : Fin 128) : val_main_v95 (F := Ideal) x w d (ix2 p (Head.col n q))
    = if n.val < 16 then Head.gradSum (fun k => refLane x w p (Head.col n k)) (fun k => d (ix2 p (Head.col n k))) q else d (ix2 p (Head.col n q)) := by
  obtain ⟨a, h, hc, ha⟩ := Head.col_part n
  simp only [hc]
  have e : (p.val * 1024 + (h.val * 128 + q.val)) / 1024 = p.val ∧ (p.val * 1024 + (h.val * 128 + q.val)) / 128 % 8 = h.val
      ∧ (p.val * 1024 + (h.val * 128 + q.val)) % 128 = q.val := by omega
  have i94 : idx_main_v94 (ix2 p (Head.headCol h q)) = ix3 p h q := by
    funext j; fin_cases j <;> exact Fin.ext (by first | exact e.1 | exact e.2.1 | exact e.2.2)
  have f0 := (val_main_v94_apply (F := Ideal) x w d (ix2 p (Head.headCol h q))).trans ((congrArg _ i94).trans (ref_grads x w d p h q).1)
  have f1 := (val_main_v93_apply (F := Ideal) x w d (ix2 p (Head.headCol h q))).trans ((congrArg _ i94).trans (ref_grads x w d p h q).2)
  have f2 := (val_main_v92_apply (F := Ideal) d (ix2 p (Head.headCol h q))).trans ((congrArg _ i94).trans (ref_cots d p h q).2.2)
  generalize refLane x w p = l at f0 f1 f2 ⊢
  unfold val_main_v95
  generalize val_main_v94 (F := Ideal) x w d = y0 at f0 ⊢
  generalize val_main_v93 (F := Ideal) x w d = y1 at f1 ⊢
  generalize val_main_v92 (F := Ideal) d = y2 at f2 ⊢
  fin_cases a
  · rw [if_pos (ha.2 (by decide))]
    exact ((Head.parts p _ (Head.headCol h q)).1 (by simp)).trans f0
  · rw [if_pos (ha.2 (by decide))]
    exact ((Head.parts p _ (Head.headCol h q)).2.1 (by simp)).trans f1
  · rw [if_neg fun hn => ha.1 hn rfl]
    exact ((Head.parts p _ (Head.headCol h q)).2.2 (by simp)).trans f2

/-- The gradient of a convolved lane. -/
def refGrad (n : Fin 24) (q : Fin 128) (p : Fin 4096) : EReal := Head.ofLane (refConv x w p (Head.col n q))
  (if n.val < 16 then Head.grad (fun k => Head.act (refConv x w p (Head.col n k))) (fun k => d (ix2 p (Head.col n k))) q
    else d (ix2 p (Head.col n q)))

section real

variable (hd : ∀ p q, IsReal (d (ix2 p q))) (n : Fin 24) (q : Fin 128)
include hd

/-- The reference's is the same where the cotangent is real. -/
theorem ref_grad : val_main_v96 (F := Ideal) x w d (ix2 p (Head.col n q)) = refGrad x w d n q p := by
  have g := Head.grad_eq (fun k => refLane x w p (Head.col n k)) (fun k => d (ix2 p (Head.col n k))) (fun k => Head.act_cases _) (fun k => hd _ _) q
  have e : (if n.val < 16 then Head.grad (fun k => Head.act (refConv x w p (Head.col n k))) (fun k => d (ix2 p (Head.col n k))) q
      else d (ix2 p (Head.col n q))) = val_main_v95 (F := Ideal) x w d (ix2 p (Head.col n q)) := by
    rw [ref_act]
    split
    · exact g.1.symm
    · rfl
  have r : IsReal (val_main_v95 (F := Ideal) x w d (ix2 p (Head.col n q))) := by
    rw [← e]
    split
    · exact g.2
    · exact hd _ _
  unfold refGrad
  rw [e, ← Head.ofLane_eq r]
  pointwise [val_main_v96, val_main_call1_v2, val_main_call1_v1, val_main_call1_v0, val_main_v29_1, val_main_call0_v7, val_main_call0_v6,
    val_main_call0_cst_1, ref_logistic, ref_conv]

omit hd in
theorem pad_zero (i : Cert.PreBwdRefIdeal.S_.Idx) : val_main_cst_15 (F := Ideal) i = 0 := by
  pointwise [val_main_cst_15]

/-- What the reference hands back to the columns. -/
theorem ref_toCol : val_main_v136 (F := Ideal) x w d (ix2 p (Head.col n q))
    = spread4 (fun k => w (ix3 k 0 (Head.col n q))) (refGrad x w d n q) p := by
  have h3 : ∀ r, val_main_v101 (F := Ideal) x w d (ix2 r (Head.col n q)) = refGrad x w d n q r * w (ix3 3 0 (Head.col n q)) := fun r => by
    rw [← ref_grad x w d r hd]
    pointwise [val_main_v101, val_main_v100, val_main_v26, val_main_v25, val_main_v24]
  have h2 : ∀ r, val_main_v109 (F := Ideal) x w d (ix2 r (Head.col n q)) = refGrad x w d n q r * w (ix3 2 0 (Head.col n q)) := fun r => by
    rw [← ref_grad x w d r hd]
    pointwise [val_main_v109, val_main_v108, val_main_v20, val_main_v19, val_main_v18]
  have h1 : ∀ r, val_main_v119 (F := Ideal) x w d (ix2 r (Head.col n q)) = refGrad x w d n q r * w (ix3 1 0 (Head.col n q)) := fun r => by
    rw [← ref_grad x w d r hd]
    pointwise [val_main_v119, val_main_v118, val_main_v14, val_main_v13, val_main_v12]
  have h0 : ∀ r, val_main_v129 (F := Ideal) x w d (ix2 r (Head.col n q)) = refGrad x w d n q r * w (ix3 0 0 (Head.col n q)) := fun r => by
    rw [← ref_grad x w d r hd]
    pointwise [val_main_v129, val_main_v128, val_main_v7, val_main_v6, val_main_v5]
  rw [← spread4_host]
  simp only [← h3, ← h2, ← h1, ← h0]
  rw [val_main_v136_apply, val_main_v134_apply]
  refine congrArg₂ (fun a b : EReal => a + b) (congrArg₂ (fun a b : EReal => a + b) (congrArg₂ (fun a b : EReal => a + b) ?_ ?_) ?_) ?_
  · exact ahead 3 3 _ p _ (by decide) _ _ _ pad_zero _ _ (Nat.add_comm _ _) rfl
  · exact ahead 3 2 _ p _ (by decide) _ _ _ pad_zero _ _ (Nat.add_comm _ _) rfl
  · exact ahead 3 1 _ p _ (by decide) _ _ _ pad_zero _ _ (Nat.add_comm _ _) rfl
  · exact ahead 3 0 _ p _ (by decide) _ _ _ pad_zero _ _ (Nat.add_comm _ _) rfl

/-- And to their taps. -/
theorem ref_toTap (k : Fin 4) : val_main_v132 (F := Ideal) x w d (ix3 k 0 (Head.col n q))
    = ofTap (3 - k.val) (fun r => x (ix2 r (src (Head.col n q)))) (refGrad x w d n q) := by
  have i98 : ∀ q k, idx_main_v98 (ix1 q) k = ix2 k q := fun q k => by funext j; fin_cases j <;> rfl
  have i106 : ∀ q k, idx_main_v106 (ix1 q) k = ix2 k q := fun q k => by funext j; fin_cases j <;> rfl
  have i116 : ∀ q k, idx_main_v116 (ix1 q) k = ix2 k q := fun q k => by funext j; fin_cases j <;> rfl
  have i126 : ∀ q k, idx_main_v126 (ix1 q) k = ix2 k q := fun q k => by funext j; fin_cases j <;> rfl
  have hg : refGrad x w d n q = fun p => val_main_v96 (F := Ideal) x w d (ix2 p (Head.col n q)) := funext fun r => (ref_grad x w d r hd n q).symm
  rw [hg]
  generalize Head.col n q = j
  refine place4 k _ _ (place 3 _ _ _ _ pad_zero _ k j) (place 2 _ _ _ _ pad_zero _ k j) (place 1 _ _ _ _ pad_zero _ k j)
    (place 0 _ _ _ _ pad_zero _ k j) ?_ ?_ ?_ ?_
  · simp only [ofTap, down_zero, mul_comm (val_main_v96 _ _ _ _)]
    pointwise [val_main_v102, val_main_v99, val_main_v98_apply, i98, val_main_cst_14, val_main_v97, (ref_down x _ j).2.2.2]
  · simp only [ofTap, mul_comm (val_main_v96 _ _ _ _)]
    pointwise [val_main_v110, val_main_v107, val_main_v106_apply, i106, val_main_cst_17, val_main_v105, (ref_down x _ j).2.2.1]
  · simp only [ofTap, mul_comm (val_main_v96 _ _ _ _)]
    pointwise [val_main_v120, val_main_v117, val_main_v116_apply, i116, val_main_cst_20, val_main_v115, (ref_down x _ j).2.1]
  · simp only [ofTap, mul_comm (val_main_v96 _ _ _ _)]
    pointwise [val_main_v130, val_main_v127, val_main_v126_apply, i126, val_main_cst_23, val_main_v125, (ref_down x _ j).1]

end real

end reference

/-- Where the predicate holds the cotangent is real. -/
theorem finite (x : FVec Ideal S4096x15360 .f32) (w : FVec Ideal S4x1x3072 .f32) (d : FVec Ideal S4096x3072 .f32)
    (h : Cert.Pre_finite_cotangent.fn (F := Ideal) x w d = fun _ => 1#1) (p : Fin 4096) (q : Fin 3072) : IsReal (d (ix2 p q)) := by
  have h0 := congrFun h (fun a => a.elim0)
  unfold Cert.Pre_finite_cotangent.fn at h0
  dsimp only at h0
  have : Subsingleton Cert.Pre_finite_cotangent.S_.Idx := ⟨fun a b => funext fun i => i.elim0⟩
  have h := Host.reduce_andi_all _ _ _ _ _ h0 (ix2 p q)
  refine Cert.Fox.real_of_abs ?_
  rw [← h]
  pointwise
  rfl

/-- The point's gradient, of the arrays. -/
theorem dz_of (p : Fin 4096) (q : Fin 128) : dz (blk t) (projAt m c t) (tapsAt m c t) (cotAt m c t) (ix2 p q)
    = refGrad (proj m c) (taps m c) (cot m c) (blk t) q p := by
  rw [dz_at]
  have hc : ∀ k, conv (projAt m c t) (tapsAt m c t) p k = refConv (proj m c) (taps m c) p (Head.col (blk t) k) := fun k => by
    unfold conv refConv; simp only [proj_at, taps_at]
  unfold refGrad
  simp only [hc, cot_at]

section results

variable (hd : ∀ (p : Fin 4096) (q : Fin 3072), IsReal (cot m c (ix2 p q)))
include hd

theorem final_3 : (dats m 0 c).arrAt 3 cfg0.N = Cert.PreBwdRefIdeal.Read.val_main_v136 (F := Ideal) (proj m c) (taps m c) (cot m c) := by
  refine (dats m 0 c).arrAt_eq_of_covers 3 _ (by decide +kernel) fun t _ y => ?_
  obtain ⟨p, q, rfl⟩ : ∃ (p : Fin 4096) (q : Fin 128), y = ix2 p q := ⟨y 0, y 1, by funext a; fin_cases a <;> rfl⟩
  have e : ((cfg0.win 3).blk t).view.emb (ix2 p q) = ix2 p (Head.col (blk t) q) := by
    blk_ext [idx t, Head.col, blk]
  rw [e, ref_toCol _ _ _ p hd]
  blk_simp
  rw [after0_3, out_3 (blk t) _ _ _ p q _ (coord t).1]
  simp only [dz_of, taps_at]

theorem final_4 : (dats m 0 c).arrAt 4 cfg0.N = Cert.PreBwdRefIdeal.Read.val_main_v132 (F := Ideal) (proj m c) (taps m c) (cot m c) := by
  refine (dats m 0 c).arrAt_eq_of_covers 4 _ (by decide +kernel) fun t _ y => ?_
  obtain ⟨k, r, q, rfl⟩ : ∃ (k : Fin 4) (r : Fin 1) (q : Fin 128), y = ix3 k r q := ⟨y 0, y 1, y 2, by funext a; fin_cases a <;> rfl⟩
  obtain rfl : r = 0 := Subsingleton.elim _ _
  have e : ((cfg0.win 4).blk t).view.emb (ix3 k 0 q) = ix3 k 0 (Head.col (blk t) q) := by
    blk_ext [idx t, Head.col, blk]
  rw [e, ref_toTap _ _ _ hd]
  blk_simp
  rw [after0_4, out_4 (blk t) _ _ _ q _ (coord t).1]
  simp only [dz_of, proj_at]

end results

theorem frame_ref : Cert.quiescent_PreBwdRefIdeal (hPreBwdRefIdeal := Cert.PreBwdRefIdeal.Gen.facts) := fun m ρ _ =>
  (θ_run Cert.PreBwdRefIdeal.defs _ _).mono (fun r h => ⟨fun c => (h c).2.2, sem_eq_zero_of_no_sems (by decide) r.2⟩)
    (Cert.PreBwdRefIdeal.Value.run (F := Ideal) m ρ)

theorem value : Cert.algebraic_PreBwdIdeal_PreBwdRefIdeal_pre_finite_cotangent (hPreBwdIdeal := Cert.PreBwdIdeal.Gen.facts)
    (hPreBwdRefIdeal := Cert.PreBwdRefIdeal.Gen.facts) (hPre_finite_cotangent := Cert.Pre_finite_cotangent.Gen.facts) := by
  intro m g m' g' hpre hagree
  refine ⟨fun c => (dats m 0 c).arrAt 3 cfg0.N, fun c => (dats m 0 c).arrAt 4 cfg0.N,
    (θ_run _ _ _).mono (fun r h c => ⟨(h.1 c).1 3, (h.1 c).1 4, h.2 c⟩) (θ_run_and (run_main m g) (unchanged m g)),
    (θ_run _ _ _).mono (fun r h c => ?_) (Cert.PreBwdRefIdeal.Value.run m' g')⟩
  have hd := finite _ _ _ (hpre c)
  obtain ⟨e0, e1, e2⟩ := hagree c
  obtain ⟨h3, h4, hargs⟩ := h c
  refine ⟨h3.trans ?_, h4.trans ?_, hargs⟩
  · refine (Cert.PreBwdRefIdeal.Read.val_main_v136_eq _).trans ?_
    show Cert.PreBwdRefIdeal.Read.val_main_v136 (F := Ideal) (m' (c.tc.loc Cert.PreBwdRefIdeal.main_arg0))
      (m' (c.tc.loc Cert.PreBwdRefIdeal.main_arg1)) (m' (c.tc.loc Cert.PreBwdRefIdeal.main_arg2)) = _
    rw [e0, e1, e2]; exact (final_3 m c hd).symm
  · refine (Cert.PreBwdRefIdeal.Read.val_main_v132_eq _).trans ?_
    show Cert.PreBwdRefIdeal.Read.val_main_v132 (F := Ideal) (m' (c.tc.loc Cert.PreBwdRefIdeal.main_arg0))
      (m' (c.tc.loc Cert.PreBwdRefIdeal.main_arg1)) (m' (c.tc.loc Cert.PreBwdRefIdeal.main_arg2)) = _
    rw [e0, e1, e2]; exact (final_4 m c hd).symm

end Cert.Rows.PreBwd

end

end
-- ==== Proof.PreFwd.lean ====
/-
  The delta rule's inputs: the short convolution, the activation and the heads' lengths, block by block of 128 columns.
-/
module

public import proofs.«01_k».proof.Defs
public import proofs.«01_k».proof.Proof.Head
public import proofs.«01_k».proof.Proof.Gen.PreFwd.Frame
public import proofs.«01_k».proof.Proof.Gen.PreFwdIdeal.Frame
public import proofs.«01_k».proof.Proof.Gen.PreFwdRefIdeal.Run
public import proofs.«01_k».proof.Proof.Gen.PreFwdRefIdeal.Read
public import Idealize.ShloMosaic.Lib.Pipeline.ValueKit
public import Idealize.ShloMosaic.Lib.StableHlo.RunRead
public import Idealize.ShloMosaic.Lib.Claim
public import Idealize.ShloMosaic.Lib.Pointwise
public import Idealize.ShloMosaic.Adequacy
public import Idealize.ShloMosaic.Init

@[expose] public section

set_option maxRecDepth 16384

noncomputable section

namespace Cert.Rows.PreFwd

open Idealize.ShloMosaic Idealize.ShloMosaic.TcCoe Idealize.SL.Sem
open Cert.PreFwdIdeal Cert.PreFwdIdeal.Gen Cert.Shift

variable (m : (ℓ : Loc nD τ sig) → Buf (Elt Ideal) ℓ) (c : Dev nD) (t : Fin cfg0.N)

/-- The projection and the taps. -/
abbrev proj : FVec Ideal S4096x15360 .f32 := m ((c : Thread nD τ).loc main_arg0)
abbrev taps : FVec Ideal S4x1x3072 .f32 := m ((c : Thread nD τ).loc main_arg1)

/-- A point's blocks. -/
abbrev projAt : FVec Ideal S4096x128 .f32 := iblk m c 0 t
abbrev tapsAt : FVec Ideal S4x1x128 .f32 := iblk m c 1 t

/-- A convolved and activated lane of a block. -/
abbrev lane (w : Vec Ideal S4x1x128 .f32) (x : Vec Ideal S4096x128 .f32) (p : Fin 4096) : Fin 128 → EReal :=
  fun q => Head.act (conv4 (fun k => w (ix3 k 0 q)) (fun r => x (ix2 r q)) p)

theorem ld_tap (w : FVec Ideal S4x1x128 .f32) : View.ld w r0_1 = tap w 3 ∧ View.ld w r0_2 = tap w 0 ∧ View.ld w r0_3 = tap w 1
    ∧ View.ld w r0_4 = tap w 2 :=
  ⟨load_tap w 3 _, load_tap w 0 _, load_tap w 1 _, load_tap w 2 _⟩

/-- What a point writes back. -/
theorem written (i : grid0.Coords) : out0_2 (F := Ideal) i (projAt m c t) (tapsAt m c t)
    = k0_pay1 (F := Ideal) (BitVec.ofNat 32 (i 0).val) (k0_pay2 (F := Ideal) (projAt m c t) (tap (tapsAt m c t) 3) (tap (tapsAt m c t) 0) (tap (tapsAt m c t) 1))
        (k0_pay3 (F := Ideal) (projAt m c t)) (k0_pay4 (F := Ideal) (tap (tapsAt m c t) 2)) := by
  unfold out0_2
  simp only [(ld_tap _).1, (ld_tap _).2.1, (ld_tap _).2.2.1, (ld_tap _).2.2.2]
  frame_out
  try rfl

/-- The convolution. -/
theorem conv_at (x : Vec Ideal S4096x128 .f32) (w : Vec Ideal S4x1x128 .f32) (p : Fin 4096) (q : Fin 128) :
    addf (k0_pay2 (F := Ideal) x (tap w 3) (tap w 0) (tap w 1)) (mulf (k0_pay4 (F := Ideal) (tap w 2)) (k0_pay3 (F := Ideal) x)) (ix2 p q)
      = conv4 (fun k => w (ix3 k 0 q)) (fun r => x (ix2 r q)) p := by
  have d3 := rolled_down x 3 (by decide) iota_S4096x128_d0_w32 rotates_S4096x128_d0 _ fill p q
  have d2 := rolled_down x 2 (by decide) iota_S4096x128_d0_w32 rotates_S4096x128_d0 _ fill p q
  have d1 := rolled_down x 1 (by decide) iota_S4096x128_d0_w32 rotates_S4096x128_d0 _ fill p q
  unfold k0_pay2 k0_pay3 k0_pay4 conv4
  dsimp only
  rw [← d3, ← d2, ← d1]
  generalize select _ _ _ = s
  generalize select _ _ _ = r
  generalize select _ _ _ = u
  pointwise [tap]

/-- A block's element: of a head divided by its length, or as it is. -/
theorem pay1_at (n : Fin 24) (x : Vec Ideal S4096x128 .f32) (w : Vec Ideal S4x1x128 .f32) (p : Fin 4096) (q : Fin 128) :
    k0_pay1 (F := Ideal) (BitVec.ofNat 32 n.val) (k0_pay2 (F := Ideal) x (tap w 3) (tap w 0) (tap w 1)) (k0_pay3 (F := Ideal) x)
        (k0_pay4 (F := Ideal) (tap w 2)) (ix2 p q)
      = if n.val < 16 then Head.unit (lane w x p) q else lane w x p q := by
  have e := conv_at x w p
  unfold k0_pay1
  dsimp only
  generalize addf (k0_pay2 (F := Ideal) x _ _ _) (mulf _ _) = z at e ⊢
  rw [Head.isHead]
  unfold lane
  simp only [← e]
  split
  · pointwise [Head.unit, Head.inv, Head.len, Head.small, Head.act]
  · pointwise [Head.act]

/-- The blocks each window stages. -/
theorem idx : ∀ t : Fin cfg0.N, win0_0.index t = ![0, 40 + t.val] ∧ win0_1.index t = ![0, 0, t.val] ∧ win0_2.index t = ![0, t.val] :=
  (by decide +kernel : ∀ t : Fin grid0.N, _)

theorem coord : ∀ t : Fin cfg0.N, (grid0.coords t 0).val = t.val ∧ t.val < 24 :=
  (by decide +kernel : ∀ t : Fin grid0.N, _)

/-- The columns of a point's block, and where the projection has them. -/
abbrev col (q : Fin 128) : Fin 3072 := ⟨t.val * 128 + q.val, by have := t.isLt; have : cfg0.N = 24 := N_0; omega⟩
abbrev src (q : Fin 3072) : Fin 15360 := ⟨5120 + q.val, by omega⟩

theorem proj_at (p : Fin 4096) (q : Fin 128) : projAt m c t (ix2 p q) = proj m c (ix2 p (src (col t q))) := by
  blk_ext [iblk, idx t, col, src]

theorem taps_at (k : Fin 4) (q : Fin 128) : tapsAt m c t (ix3 k 0 q) = taps m c (ix3 k 0 (col t q)) := by
  blk_ext [iblk, idx t, col]

section reference

open Cert.PreFwdRefIdeal.Read

variable (x : FVec Ideal S4096x15360 .f32) (w : FVec Ideal S4x1x3072 .f32) (p : Fin 4096)

/-- A convolved and activated lane of the reference's. -/
abbrev refLane (q : Fin 3072) : EReal := Head.act (conv4 (fun k => w (ix3 k 0 q)) (fun r => x (ix2 r (src q))) p)

theorem ref_src (q : Fin 3072) : val_main_v0 (F := Ideal) x (ix2 p q) = x (ix2 p (src q)) := by
  have i0 : idx_main_v0 (ix2 p q) = ix2 p (src q) := by funext j; fin_cases j <;> rfl
  rw [val_main_v0_apply, i0]

/-- The column after three rows of zeros, from each of its first four rows on. -/
theorem ref_down (q : Fin 3072) : val_main_v3 (F := Ideal) x (ix2 p q) = down 3 (fun r => x (ix2 r (src q))) p
    ∧ val_main_v10 (F := Ideal) x (ix2 p q) = down 2 (fun r => x (ix2 r (src q))) p
    ∧ val_main_v16 (F := Ideal) x (ix2 p q) = down 1 (fun r => x (ix2 r (src q))) p
    ∧ val_main_v22 (F := Ideal) x (ix2 p q) = x (ix2 p (src q)) := by
  have hz : ∀ i, val_main_v1 (F := Ideal) i = 0 := fun i => by pointwise [val_main_v1, val_main_cst]
  simp only [← ref_src]
  refine ⟨?_, ?_, ?_, ?_⟩
  · rw [val_main_v3_apply]
    exact past 3 0 (val_main_v0 (F := Ideal) x) p q rfl (by decide) _ hz _ _ rfl rfl
  · rw [val_main_v10_apply]
    exact past 3 1 (val_main_v0 (F := Ideal) x) p q rfl (by decide) _ hz _ _ (Nat.add_comm _ _) rfl
  · rw [val_main_v16_apply]
    exact past 3 2 (val_main_v0 (F := Ideal) x) p q rfl (by decide) _ hz _ _ (Nat.add_comm _ _) rfl
  · rw [val_main_v22_apply]
    exact (past 3 3 (val_main_v0 (F := Ideal) x) p q rfl (by decide) _ hz _ _ (Nat.add_comm _ _) rfl).trans (down_zero _ _)

theorem ref_conv (q : Fin 3072) : val_main_v27 (F := Ideal) x w (ix2 p q) = conv4 (fun k => w (ix3 k 0 q)) (fun r => x (ix2 r (src q))) p := by
  rw [← conv4_host]
  pointwise [val_main_v27, val_main_v26, val_main_v25, val_main_v24, val_main_v23, val_main_v21, val_main_v20, val_main_v19, val_main_v18,
    val_main_v17, val_main_v15, val_main_v14, val_main_v13, val_main_v12, val_main_v11, val_main_v9, val_main_v8, val_main_v7, val_main_v6,
    val_main_v5, val_main_v4, val_main_cst_0, (ref_down x p q).1, (ref_down x p q).2.1, (ref_down x p q).2.2.1, (ref_down x p q).2.2.2]

theorem ref_lane (q : Fin 3072) : val_main_v28 (F := Ideal) x w (ix2 p q) = refLane x w p q := by
  pointwise [val_main_v28, val_main_call0_v5, val_main_call0_v4, val_main_call0_v3, val_main_call0_v2, val_main_call0_v1, val_main_call0_v0,
    val_main_call0_cst, val_main_call0_cst_0, ref_conv, Head.act, Ideal.logistic]

/-- The three parts, head by head. -/
theorem ref_parts (h : Fin 8) (q : Fin 128) : val_main_v32 (F := Ideal) x w (ix3 p h q) = refLane x w p (Head.part 0 (Head.headCol h q))
    ∧ val_main_v33 (F := Ideal) x w (ix3 p h q) = refLane x w p (Head.part 1 (Head.headCol h q))
    ∧ val_main_v34 (F := Ideal) x w (ix3 p h q) = refLane x w p (Head.part 2 (Head.headCol h q)) := by
  have e : ((p.val * 8 + h.val) * 128 + q.val) / 1024 = p.val ∧ ((p.val * 8 + h.val) * 128 + q.val) % 1024 = h.val * 128 + q.val := by omega
  have i32 : idx_main_v29 (idx_main_v32 (ix3 p h q)) = ix2 p (Head.part 0 (Head.headCol h q)) := by
    funext j; fin_cases j <;> exact Fin.ext (by first | exact e.1 | exact e.2.trans (by simp))
  have i33 : idx_main_v30 (idx_main_v33 (ix3 p h q)) = ix2 p (Head.part 1 (Head.headCol h q)) := by
    funext j; fin_cases j <;> exact Fin.ext (by first | exact e.1 | exact congrArg (1024 + ·) e.2)
  have i34 : idx_main_v31 (idx_main_v34 (ix3 p h q)) = ix2 p (Head.part 2 (Head.headCol h q)) := by
    funext j; fin_cases j <;> exact Fin.ext (by first | exact e.1 | exact congrArg (2048 + ·) e.2)
  refine ⟨?_, ?_, ?_⟩
  · rw [val_main_v32_apply, val_main_v29_apply, i32, ref_lane]
  · rw [val_main_v33_apply, val_main_v30_apply, i33, ref_lane]
  · rw [val_main_v34_apply, val_main_v31_apply, i34, ref_lane]

/-- The two parts divided by their heads' lengths. -/
theorem ref_units (h : Fin 8) (q : Fin 128) :
    val_main_v42 (F := Ideal) x w (ix3 p h q) = Head.unit (fun k => refLane x w p (Head.part 0 (Head.headCol h k))) q
    ∧ val_main_v50 (F := Ideal) x w (ix3 p h q) = Head.unit (fun k => refLane x w p (Head.part 1 (Head.headCol h k))) q := by
  have i36 : ∀ k, idx_main_v36 (ix2 p h) k = ix3 p h k := fun k => by funext j; fin_cases j <;> rfl
  have i44 : ∀ k, idx_main_v44 (ix2 p h) k = ix3 p h k := fun k => by funext j; fin_cases j <;> rfl
  refine ⟨?_, ?_⟩
  · simp only [Head.unit, Head.inv, Head.len, ← fun k => (ref_parts x w p h k).1]
    pointwise [val_main_v42, val_main_v41, val_main_v40, val_main_v39, val_main_v38, val_main_cst_2, val_main_v37, val_main_v36_apply, i36,
      val_main_cst_1, val_main_v35, Head.small]
  · simp only [Head.unit, Head.inv, Head.len, ← fun k => (ref_parts x w p h k).2.1]
    pointwise [val_main_v50, val_main_v49, val_main_v48, val_main_v47, val_main_v46, val_main_cst_4, val_main_v45, val_main_v44_apply, i44,
      val_main_cst_3, val_main_v43, Head.small]

/-- The reference's result, block by block. -/
theorem ref_out (n : Fin 24) (q : Fin 128) : val_main_v54 (F := Ideal) x w (ix2 p (Head.col n q))
    = if n.val < 16 then Head.unit (fun k => refLane x w p (Head.col n k)) q else refLane x w p (Head.col n q) := by
  obtain ⟨a, h, hc, ha⟩ := Head.col_part n
  simp only [hc]
  have e : (p.val * 1024 + (h.val * 128 + q.val)) / 1024 = p.val ∧ (p.val * 1024 + (h.val * 128 + q.val)) / 128 % 8 = h.val
      ∧ (p.val * 1024 + (h.val * 128 + q.val)) % 128 = q.val := by omega
  have i51 : idx_main_v51 (ix2 p (Head.headCol h q)) = ix3 p h q := by
    funext j; fin_cases j <;> exact Fin.ext (by first | exact e.1 | exact e.2.1 | exact e.2.2)
  have f0 : val_main_v51 (F := Ideal) x w (ix2 p (Head.headCol h q)) = Head.unit (fun k => refLane x w p (Head.part 0 (Head.headCol h k))) q := by
    rw [val_main_v51_apply, i51, (ref_units x w p h q).1]
  have f1 : val_main_v52 (F := Ideal) x w (ix2 p (Head.headCol h q)) = Head.unit (fun k => refLane x w p (Head.part 1 (Head.headCol h k))) q := by
    rw [val_main_v52_apply]; exact (congrArg _ i51).trans (ref_units x w p h q).2
  have f2 : val_main_v53 (F := Ideal) x w (ix2 p (Head.headCol h q)) = refLane x w p (Head.part 2 (Head.headCol h q)) := by
    rw [val_main_v53_apply]; exact (congrArg _ i51).trans (ref_parts x w p h q).2.2
  generalize refLane x w p = l at f0 f1 f2 ⊢
  unfold val_main_v54
  generalize val_main_v51 (F := Ideal) x w = y0 at f0 ⊢
  generalize val_main_v52 (F := Ideal) x w = y1 at f1 ⊢
  generalize val_main_v53 (F := Ideal) x w = y2 at f2 ⊢
  fin_cases a
  · rw [if_pos (ha.2 (by decide))]
    exact ((Head.parts p _ (Head.headCol h q)).1 (by simp)).trans f0
  · rw [if_pos (ha.2 (by decide))]
    exact ((Head.parts p _ (Head.headCol h q)).2.1 (by simp)).trans f1
  · rw [if_neg fun hn => ha.1 hn rfl]
    exact ((Head.parts p _ (Head.headCol h q)).2.2 (by simp)).trans f2

end reference

/-- The result is the reference's. -/
theorem final : (dats m 0 c).arrAt 2 cfg0.N = Cert.PreFwdRefIdeal.Read.val_main_v54 (F := Ideal) (proj m c) (taps m c) := by
  refine (dats m 0 c).arrAt_eq_of_covers 2 _ (by decide +kernel) fun t _ y => ?_
  obtain ⟨p, q, rfl⟩ : ∃ (p : Fin 4096) (q : Fin 128), y = ix2 p q := ⟨y 0, y 1, by funext a; fin_cases a <;> rfl⟩
  have e : ((cfg0.win 2).blk t).view.emb (ix2 p q) = ix2 p (col t q) := by
    blk_ext [idx t, col]
  have ht : (grid0.coords t 0).val < 24 := (coord t).1 ▸ (coord t).2
  have hc : ∀ q, Head.col ⟨(grid0.coords t 0).val, ht⟩ q = col t q := fun q => Fin.ext (congrArg (· * 128 + q.val) (coord t).1)
  rw [e, ← hc]
  refine Eq.trans ?_ (ref_out (proj m c) (taps m c) p _ q).symm
  blk_simp
  rw [after0_2, written m c t]
  refine (pay1_at ⟨(grid0.coords t 0).val, ht⟩ (projAt m c t) (tapsAt m c t) p q).trans ?_
  have hl : lane (tapsAt m c t) (projAt m c t) p = fun k => refLane (proj m c) (taps m c) p (col t k) :=
    funext fun k => by unfold lane refLane; simp only [proj_at, taps_at]
  rw [hl]
  simp only [hc]

theorem frame_ref : Cert.quiescent_PreFwdRefIdeal (hPreFwdRefIdeal := Cert.PreFwdRefIdeal.Gen.facts) := fun m ρ _ =>
  (θ_run Cert.PreFwdRefIdeal.defs _ _).mono (fun r h => ⟨fun c => (h c).2, sem_eq_zero_of_no_sems (by decide) r.2⟩)
    (Cert.PreFwdRefIdeal.Value.run (F := Ideal) m ρ)

theorem value : Cert.algebraic_PreFwdIdeal_PreFwdRefIdeal (hPreFwdIdeal := Cert.PreFwdIdeal.Gen.facts)
    (hPreFwdRefIdeal := Cert.PreFwdRefIdeal.Gen.facts) := by
  intro m g m' g' _ hagree
  refine ⟨fun c => (dats m 0 c).arrAt 2 cfg0.N,
    (θ_run _ _ _).mono (fun r h c => ⟨(h.1 c).1 2, h.2 c⟩) (θ_run_and (run_main m g) (unchanged m g)),
    (θ_run _ _ _).mono (fun r h c => ?_) (Cert.PreFwdRefIdeal.Value.run m' g')⟩
  obtain ⟨e0, e1⟩ := hagree c
  obtain ⟨h0, hargs⟩ := h c
  refine ⟨h0.trans ?_, hargs⟩
  rw [Cert.PreFwdRefIdeal.Read.val_main_v54_eq, e0, e1]
  exact (final m c).symm

end Cert.Rows.PreFwd

end

end
-- ==== Proof.Products.lean ====
/-
  A product of two matrices, taken stretch by stretch of the contracted axis: a running block is set to zero where a run of
  points begins, every point adds its stretch, and at the end of the run the block is that of the whole product.
-/
module

public import Idealize.ShloMosaic.Lib.Pipeline.ValueKit

@[expose] public section

noncomputable section

namespace Cert.Products

open Idealize.ShloMosaic

/-- The running block `acc` after the last point of a run of `J` points. `a` and `b` are the points' blocks of the operands,
    `n` long on the contracted axis, and `A`, `B` the same rows and columns on the whole axis. -/
theorem whole {N J n K P Q : ℕ} [NeZero J] (hK : K = J * n) (acc : (t : ℕ) → t < N → Fin P → Fin Q → EReal)
    (a : Fin N → Fin P → Fin n → EReal) (b : Fin N → Fin Q → Fin n → EReal)
    (first : ∀ t : Fin N, t.val % J = 0 → ∀ p q, acc t.val t.isLt p q = 0 + ∑ k, a t p k * b t q k)
    (next : ∀ t : Fin N, ¬t.val % J = 0 → ∀ p q, acc t.val t.isLt p q
      = acc (t.val - 1) (Nat.lt_of_le_of_lt (Nat.sub_le _ _) t.isLt) p q + ∑ k, a t p k * b t q k)
    (t : Fin N) (last : t.val % J = J - 1) (A : Fin P → Fin K → EReal) (B : Fin Q → Fin K → EReal)
    (hA : ∀ (s : Fin J) (u : Fin N) (_ : u.val = J * (t.val / J) + s.val) p k (hl : s.val * n + k.val < K), a u p k = A p ⟨s.val * n + k.val, hl⟩)
    (hB : ∀ (s : Fin J) (u : Fin N) (_ : u.val = J * (t.val / J) + s.val) q k (hl : s.val * n + k.val < K), b u q k = B q ⟨s.val * n + k.val, hl⟩)
    (p : Fin P) (q : Fin Q) : acc t.val t.isLt p q = ∑ k, A p k * B q k := by
  have e := Pipeline.eq_sum_fin_of_reset_step_apply_of_flush (fun r h (i : Fin P × Fin Q) => acc r h i.1 i.2) J (fun _ => (0 : EReal))
    (fun t i => ∑ k, a t i.1 k * b t i.2 k) (fun t h i => first t h i.1 i.2) (fun t h i => next t h i.1 i.2) t last (p, q)
  refine e.trans ((zero_add _).trans (Fin.sum_mul_add_congr (fun s k hl => ?_) hK))
  rw [hA s _ rfl p k hl, hB s _ rfl q k hl]

end Cert.Products

end

end
-- ==== Proof.TailDw.lean ====
/-
  The gradient of the narrow part of the projection with respect to its weight, stretch by stretch of 1024: 4096 terms in each sum.
-/
module

public import proofs.«01_k».proof.Defs
public import proofs.«01_k».proof.Proof.Products
public import proofs.«01_k».proof.Proof.Gen.TailDw.Frame
public import proofs.«01_k».proof.Proof.Gen.TailDwIdeal.Frame
public import proofs.«01_k».proof.Proof.Gen.TailDwRefIdeal.Run
public import proofs.«01_k».proof.Proof.Gen.TailDwRefIdeal.Read
public import Idealize.ShloMosaic.Lib.StableHlo.RunRead
public import Idealize.ShloMosaic.Lib.Claim
public import Idealize.ShloMosaic.Lib.Pointwise
public import Idealize.ShloMosaic.Adequacy
public import Idealize.ShloMosaic.Init

@[expose] public section

set_option maxRecDepth 16384

noncomputable section

namespace Cert.Products.TailDw

open Idealize.ShloMosaic Idealize.ShloMosaic.TcCoe Idealize.SL.Sem
open Cert.TailDwIdeal Cert.TailDwIdeal.Gen

variable (m : (ℓ : Loc nD τ sig) → Buf (Elt Ideal) ℓ) (c : Dev nD) (t : Fin cfg0.N)

/-- The operands. -/
abbrev left : FVec Ideal S4096x2048 .f32 := m ((c : Thread nD τ).loc main_arg0)
abbrev right : FVec Ideal S4096x128 .f32 := m ((c : Thread nD τ).loc main_arg1)

/-- A point's blocks of the operands. -/
abbrev leftAt : FVec Ideal S1024x1024 .bf16 := iblk m c 0 t
abbrev rightAt : FVec Ideal S1024x128 .bf16 := iblk m c 1 t

/-- The running product after a point. -/
def acc (n : ℕ) (hn : n < cfg0.N) : Vec Ideal S1024x128 .f32 := (outsAt0 m c n hn).2

/-- Where a run of points begins, the product starts from zero. -/
theorem acc_first (h0 : t.val % 4 = 0) : acc m c t.val t.isLt = k0_pay2 (F := Ideal) (k0_pay1 (F := Ideal)) (leftAt m c t) (rightAt m c t) := by
  unfold acc
  rw [outsAt0_A m c t h0 (by omega)]
  dsimp only
  frame_out
  try rfl

/-- Elsewhere it goes on from the point before. -/
theorem acc_next (h0 : ¬t.val % 4 = 0) :
    acc m c t.val t.isLt = k0_pay2 (F := Ideal) (acc m c (t.val - 1) (by omega)) (leftAt m c t) (rightAt m c t) := by
  unfold acc
  by_cases h1 : t.val % 4 = 3
  · rw [outsAt0_C m c t h0 h1]
    dsimp only
    frame_out
    simp only [(Memref.isWhole_whole _).read_unread]
    try rfl
  · rw [outsAt0_B m c t h0 h1]
    dsimp only
    frame_out
    simp only [(Memref.isWhole_whole _).read_unread]
    try rfl

/-- Where a run ends, its product is written back. -/
theorem written (h1 : t.val % 4 = 3) : (outsAt0 m c t.val t.isLt).1 = acc m c t.val t.isLt := by
  rw [acc_next m c t (by omega)]
  unfold acc
  rw [outsAt0_C m c t (by omega) h1]
  dsimp only
  frame_out
  simp only [(Memref.isWhole_whole _).read_unread]
  try rfl

theorem pay1_at (i : S1024x128.Idx) : k0_pay1 (F := Ideal) i = 0 := by
  pointwise [k0_pay1]

theorem pay2_at (y : Vec Ideal S1024x128 .f32) (a : Vec Ideal S1024x1024 .bf16) (b : Vec Ideal S1024x128 .bf16) (p : Fin 1024) (q : Fin 128) :
    k0_pay2 (F := Ideal) y a b (ix2 p q) = y (ix2 p q) + ∑ k : Fin 1024, a (ix2 k p) * b (ix2 k q) := by
  pointwise [k0_pay2]

/-- The blocks each window stages. -/
theorem idx : ∀ t : Fin cfg0.N, win0_0.index t = ![t.val % 4, t.val / 4] ∧ win0_1.index t = ![t.val % 4, 0]
    ∧ win0_2.index t = ![t.val / 4, 0] :=
  (by decide +kernel : ∀ t : Fin grid0.N, _)

theorem V_left : V m c main_v0 = left m c := by
  unfold_abbrev_sides
  after_reads_simp
  rfl

theorem V_right : V m c main_v1 = right m c := by
  unfold_abbrev_sides
  after_reads_simp
  rfl

/-- The rows of a point's block. -/
abbrev row (p : Fin 1024) : Fin 2048 := ⟨t.val / 4 * 1024 + p.val, by have := t.isLt; have : cfg0.N = 8 := N_0; omega⟩

/-- At the end of a run the product is whole. -/
theorem acc_last (h1 : t.val % 4 = 3) (p : Fin 1024) (q : Fin 128) :
    acc m c t.val t.isLt (ix2 p q) = ∑ k : Fin 4096, left m c (ix2 k (row t p)) * right m c (ix2 k q) := by
  rw [← V_left m c, ← V_right m c]
  refine whole (J := 4) (n := 1024) (K := 4096) rfl (fun n h p q => acc m c n h (ix2 p q)) (fun t p k => leftAt m c t (ix2 k p)) (fun t q k => rightAt m c t (ix2 k q))
    (fun t h0 p q => ?_) (fun t h0 p q => ?_) t h1 (fun p k => V m c main_v0 (ix2 k (row t p))) (fun q k => V m c main_v1 (ix2 k q))
    (fun s u hu p k hl => ?_) (fun s u hu q k hl => ?_) p q
  · rw [acc_first m c t h0, pay2_at, pay1_at]
  · rw [acc_next m c t h0, pay2_at]
  · have := s.isLt
    blk_ext [iblk, idx u, hu, row]
  · have := s.isLt
    blk_ext [iblk, idx u, hu, row]

/-- The result is the reference's. -/
theorem final : (dats m 0 c).arrAt 2 cfg0.N = Cert.TailDwRefIdeal.Read.val_main_v3 (F := Ideal) (left m c) (right m c) := by
  refine (dats m 0 c).arrAt_eq_of_covers 2 _ (by decide +kernel) fun t hf y => ?_
  have h1 := (flush0_2 t).mp hf
  obtain ⟨p, q, rfl⟩ : ∃ (p : Fin 1024) (q : Fin 128), y = ix2 p q := ⟨y 0, y 1, by funext a; fin_cases a <;> rfl⟩
  have e : ((cfg0.win 2).blk t).view.emb (ix2 p q) = ix2 (row t p) q := by
    blk_ext [idx t, row]
  rw [e, Cert.TailDwRefIdeal.Read.val_main_v3_apply, Cert.TailDwRefIdeal.Read.val_main_v2_apply]
  blk_simp
  rw [after0_2, written m c t h1, acc_last m c t h1]
  refine (Finset.sum_congr rfl fun k _ => (mul_comm (_ : EReal) _).trans ?_ : (_ : EReal) = _)
  congr 2 <;> (funext a; fin_cases a <;> rfl)

theorem frame_ref : Cert.quiescent_TailDwRefIdeal (hTailDwRefIdeal := Cert.TailDwRefIdeal.Gen.facts) := fun m ρ _ =>
  (θ_run Cert.TailDwRefIdeal.defs _ _).mono (fun r h => ⟨fun c => (h c).2, sem_eq_zero_of_no_sems (by decide) r.2⟩)
    (Cert.TailDwRefIdeal.Value.run (F := Ideal) m ρ)

theorem value : Cert.algebraic_TailDwIdeal_TailDwRefIdeal (hTailDwIdeal := Cert.TailDwIdeal.Gen.facts)
    (hTailDwRefIdeal := Cert.TailDwRefIdeal.Gen.facts) := by
  intro m g m' g' _ hagree
  refine ⟨fun c => (dats m 0 c).arrAt 2 cfg0.N,
    (θ_run _ _ _).mono (fun r h c => ⟨(h.1 c).1 2, h.2 c⟩) (θ_run_and (run_main m g) (unchanged m g)),
    (θ_run _ _ _).mono (fun r h c => ?_) (Cert.TailDwRefIdeal.Value.run m' g')⟩
  obtain ⟨e0, e1⟩ := hagree c
  obtain ⟨h0, hargs⟩ := h c
  refine ⟨h0.trans ?_, hargs⟩
  rw [e0, e1]
  exact (final m c).symm

end Cert.Products.TailDw

end

end
-- ==== Proof.TailDx.lean ====
/-
  The gradient of the narrow part of the projection with respect to its input, plus the gradient that is carried along. Its 128 columns
  are one stretch, so that every point starts its sums and ends them.
-/
module

public import proofs.«01_k».proof.Defs
public import proofs.«01_k».proof.Proof.Gen.TailDx.Frame
public import proofs.«01_k».proof.Proof.Gen.TailDxIdeal.Frame
public import proofs.«01_k».proof.Proof.Gen.TailDxRefIdeal.Run
public import proofs.«01_k».proof.Proof.Gen.TailDxRefIdeal.Read
public import Idealize.ShloMosaic.Lib.Pipeline.ValueKit
public import Idealize.ShloMosaic.Lib.StableHlo.RunRead
public import Idealize.ShloMosaic.Lib.Claim
public import Idealize.ShloMosaic.Lib.Pointwise
public import Idealize.ShloMosaic.Adequacy
public import Idealize.ShloMosaic.Init

@[expose] public section

set_option maxRecDepth 16384

noncomputable section

namespace Cert.Products.TailDx

open Idealize.ShloMosaic Idealize.ShloMosaic.TcCoe Idealize.SL.Sem
open Cert.TailDxIdeal Cert.TailDxIdeal.Gen

variable (m : (ℓ : Loc nD τ sig) → Buf (Elt Ideal) ℓ) (c : Dev nD) (t : Fin cfg0.N)

/-- The operands, and what is added to the product. -/
abbrev left : FVec Ideal S4096x128 .f32 := m ((c : Thread nD τ).loc main_arg0)
abbrev right : FVec Ideal S2048x128 .f32 := m ((c : Thread nD τ).loc main_arg1)
abbrev rest : FVec Ideal S4096x2048 .f32 := m ((c : Thread nD τ).loc main_arg2)

/-- A point's blocks of the operands. -/
abbrev leftAt : FVec Ideal S1024x128 .bf16 := iblk m c 0 t
abbrev rightAt : FVec Ideal S2048x128 .bf16 := iblk m c 1 t

/-- What a point writes back: its product from zero, with what is added. -/
theorem written : outsAt0 m c t = k0_pay3 (F := Ideal) (k0_pay2 (F := Ideal) (k0_pay1 (F := Ideal)) (leftAt m c t) (rightAt m c t)) (iblk m c 2 t) := by
  unfold outsAt0 out0_A_3 kernelRun0_A
  dsimp only
  frame_out
  try simp only [(Memref.isWhole_whole _).read_unread]
  try rfl

theorem pay1_at (i : S1024x2048.Idx) : k0_pay1 (F := Ideal) i = 0 := by
  pointwise [k0_pay1]

theorem pay2_at (y : Vec Ideal S1024x2048 .f32) (a : Vec Ideal S1024x128 .bf16) (b : Vec Ideal S2048x128 .bf16) (p : Fin 1024) (q : Fin 2048) :
    k0_pay2 (F := Ideal) y a b (ix2 p q) = y (ix2 p q) + ∑ k : Fin 128, a (ix2 p k) * b (ix2 q k) := by
  pointwise [k0_pay2]

theorem pay3_at (y r : Vec Ideal S1024x2048 .f32) (i : S1024x2048.Idx) : k0_pay3 (F := Ideal) y r i = y i + r i := by
  pointwise [k0_pay3]

/-- The blocks each window stages. -/
theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

theorem V_left : V m c main_v0 = left m c := by
  unfold_abbrev_sides
  after_reads_simp
  rfl

theorem V_right : V m c main_v1 = right m c := by
  unfold_abbrev_sides
  after_reads_simp
  rfl

/-- The rows of a point's block. -/
abbrev row (p : Fin 1024) : Fin 4096 := ⟨t.val * 1024 + p.val, by have := t.isLt; have : cfg0.N = 4 := N_0; omega⟩

theorem left_at (p : Fin 1024) (k : Fin 128) : leftAt m c t (ix2 p k) = left m c (ix2 (row t p) k) := by
  rw [← V_left m c]
  blk_ext [iblk, idx t, row]

theorem right_at (q : Fin 2048) (k : Fin 128) : rightAt m c t (ix2 q k) = right m c (ix2 q k) := by
  rw [← V_right m c]
  blk_ext [iblk, idx t]

theorem rest_at (p : Fin 1024) (q : Fin 2048) : (iblk m c 2 t : FVec Ideal S1024x2048 .f32) (ix2 p q) = rest m c (ix2 (row t p) q) := by
  unfold rest
  rw [← V_main_arg2 m c]
  blk_ext [iblk, idx t, row]

/-- The result is the reference's. -/
theorem final : (dats m 0 c).arrAt 3 cfg0.N = Cert.TailDxRefIdeal.Read.val_main_v3 (F := Ideal) (left m c) (right m c) (rest m c) := by
  refine (dats m 0 c).arrAt_eq_of_covers 3 _ (by decide +kernel) fun t _ y => ?_
  obtain ⟨p, q, rfl⟩ : ∃ (p : Fin 1024) (q : Fin 2048), y = ix2 p q := ⟨y 0, y 1, by funext a; fin_cases a <;> rfl⟩
  have e : ((cfg0.win 3).blk t).view.emb (ix2 p q) = ix2 (row t p) q := by
    blk_ext [idx t, row]
  rw [e, Cert.TailDxRefIdeal.Read.val_main_v3_apply, Cert.TailDxRefIdeal.Read.val_main_v2_apply]
  blk_simp
  rw [after0_3, written m c t, pay3_at, pay2_at, pay1_at, zero_add, rest_at, add_comm]
  refine congrArg (_ + ·) (Finset.sum_congr rfl fun k _ => ?_)
  rw [left_at, right_at]
  congr 2 <;> (funext a; fin_cases a <;> rfl)

theorem frame_ref : Cert.quiescent_TailDxRefIdeal (hTailDxRefIdeal := Cert.TailDxRefIdeal.Gen.facts) := fun m ρ _ =>
  (θ_run Cert.TailDxRefIdeal.defs _ _).mono (fun r h => ⟨fun c => (h c).2, sem_eq_zero_of_no_sems (by decide) r.2⟩)
    (Cert.TailDxRefIdeal.Value.run (F := Ideal) m ρ)

theorem value : Cert.algebraic_TailDxIdeal_TailDxRefIdeal (hTailDxIdeal := Cert.TailDxIdeal.Gen.facts)
    (hTailDxRefIdeal := Cert.TailDxRefIdeal.Gen.facts) := by
  intro m g m' g' _ hagree
  refine ⟨fun c => (dats m 0 c).arrAt 3 cfg0.N,
    (θ_run _ _ _).mono (fun r h c => ⟨(h.1 c).1 3, h.2 c⟩) (θ_run_and (run_main m g) (unchanged m g)),
    (θ_run _ _ _).mono (fun r h c => ?_) (Cert.TailDxRefIdeal.Value.run m' g')⟩
  obtain ⟨e0, e1, e2⟩ := hagree c
  obtain ⟨h0, hargs⟩ := h c
  refine ⟨h0.trans ?_, hargs⟩
  rw [e0, e1, e2]
  exact (final m c).symm

end Cert.Products.TailDx

end

end
-- ==== Proof.TailFwd.lean ====
/-
  The narrow part of the projection with its bias, stretch by stretch of 1024: 2048 terms in each sum.
-/
module

public import proofs.«01_k».proof.Defs
public import proofs.«01_k».proof.Proof.Products
public import proofs.«01_k».proof.Proof.Gen.TailFwd.Frame
public import proofs.«01_k».proof.Proof.Gen.TailFwdIdeal.Frame
public import proofs.«01_k».proof.Proof.Gen.TailFwdRefIdeal.Run
public import proofs.«01_k».proof.Proof.Gen.TailFwdRefIdeal.Read
public import Idealize.ShloMosaic.Lib.StableHlo.RunRead
public import Idealize.ShloMosaic.Lib.Claim
public import Idealize.ShloMosaic.Lib.Pointwise
public import Idealize.ShloMosaic.Adequacy
public import Idealize.ShloMosaic.Init

@[expose] public section

set_option maxRecDepth 16384

noncomputable section

namespace Cert.Products.TailFwd

open Idealize.ShloMosaic Idealize.ShloMosaic.TcCoe Idealize.SL.Sem
open Cert.TailFwdIdeal Cert.TailFwdIdeal.Gen

variable (m : (ℓ : Loc nD τ sig) → Buf (Elt Ideal) ℓ) (c : Dev nD) (t : Fin cfg0.N)

/-- The operands, and what is added to the product. -/
abbrev left : FVec Ideal S4096x2048 .f32 := m ((c : Thread nD τ).loc main_arg0)
abbrev right : FVec Ideal S2048x128 .f32 := m ((c : Thread nD τ).loc main_arg1)
abbrev rest : FVec Ideal S128 .f32 := m ((c : Thread nD τ).loc main_arg2)

/-- A point's blocks of the operands. -/
abbrev leftAt : FVec Ideal S1024x1024 .bf16 := iblk m c 0 t
abbrev rightAt : FVec Ideal S1024x128 .bf16 := iblk m c 1 t

/-- The running product after a point. -/
def acc (n : ℕ) (hn : n < cfg0.N) : Vec Ideal S1024x128 .f32 := (outsAt0 m c n hn).2

/-- Where a run of points begins, the product starts from zero. -/
theorem acc_first (h0 : t.val % 2 = 0) : acc m c t.val t.isLt = k0_pay2 (F := Ideal) (k0_pay1 (F := Ideal)) (leftAt m c t) (rightAt m c t) := by
  unfold acc
  rw [outsAt0_A m c t h0 (by omega)]
  dsimp only
  frame_out
  try rfl

/-- Elsewhere it goes on from the point before. -/
theorem acc_next (h0 : ¬t.val % 2 = 0) :
    acc m c t.val t.isLt = k0_pay2 (F := Ideal) (acc m c (t.val - 1) (by omega)) (leftAt m c t) (rightAt m c t) := by
  unfold acc
  rw [outsAt0_B m c t h0 (by omega)]
  dsimp only
  frame_out
  simp only [(Memref.isWhole_whole _).read_unread]
  try rfl

/-- Where a run ends, its product is written back, with what is added. -/
theorem written (h1 : t.val % 2 = 1) : (outsAt0 m c t.val t.isLt).1 = k0_pay3 (F := Ideal) (acc m c t.val t.isLt) (iblk m c 2 t) := by
  rw [acc_next m c t (by omega)]
  unfold acc
  rw [outsAt0_B m c t (by omega) h1]
  dsimp only
  frame_out
  simp only [(Memref.isWhole_whole _).read_unread]
  try rfl

theorem pay1_at (i : S1024x128.Idx) : k0_pay1 (F := Ideal) i = 0 := by
  pointwise [k0_pay1]

theorem pay2_at (y : Vec Ideal S1024x128 .f32) (a : Vec Ideal S1024x1024 .bf16) (b : Vec Ideal S1024x128 .bf16) (p : Fin 1024) (q : Fin 128) :
    k0_pay2 (F := Ideal) y a b (ix2 p q) = y (ix2 p q) + ∑ k : Fin 1024, a (ix2 p k) * b (ix2 k q) := by
  pointwise [k0_pay2]

theorem pay3_at (y : Vec Ideal S1024x128 .f32) (r : Vec Ideal S1x128 .f32) (p : Fin 1024) (q : Fin 128) :
    k0_pay3 (F := Ideal) y r (ix2 p q) = y (ix2 p q) + r (ix2 0 q) := by
  pointwise [k0_pay3]

/-- The blocks each window stages. -/
theorem idx : ∀ t : Fin cfg0.N, win0_0.index t = ![t.val / 2, t.val % 2] ∧ win0_1.index t = ![t.val % 2, 0] ∧ win0_2.index t = ![0, 0]
    ∧ win0_3.index t = ![t.val / 2, 0] :=
  (by decide +kernel : ∀ t : Fin grid0.N, _)

theorem V_left : V m c main_v1 = left m c := by
  unfold_abbrev_sides
  after_reads_simp
  rfl

theorem V_right : V m c main_v2 = right m c := by
  unfold_abbrev_sides
  after_reads_simp
  rfl

/-- The rows of a point's block. -/
abbrev row (p : Fin 1024) : Fin 4096 := ⟨t.val / 2 * 1024 + p.val, by have := t.isLt; have : cfg0.N = 8 := N_0; omega⟩

/-- At the end of a run the product is whole. -/
theorem acc_last (h1 : t.val % 2 = 1) (p : Fin 1024) (q : Fin 128) :
    acc m c t.val t.isLt (ix2 p q) = ∑ k : Fin 2048, left m c (ix2 (row t p) k) * right m c (ix2 k q) := by
  rw [← V_left m c, ← V_right m c]
  refine whole (J := 2) (n := 1024) (K := 2048) rfl (fun n h p q => acc m c n h (ix2 p q)) (fun t p k => leftAt m c t (ix2 p k)) (fun t q k => rightAt m c t (ix2 k q))
    (fun t h0 p q => ?_) (fun t h0 p q => ?_) t h1 (fun p k => V m c main_v1 (ix2 (row t p) k)) (fun q k => V m c main_v2 (ix2 k q))
    (fun s u hu p k hl => ?_) (fun s u hu q k hl => ?_) p q
  · rw [acc_first m c t h0, pay2_at, pay1_at]
  · rw [acc_next m c t h0, pay2_at]
  · have := s.isLt
    blk_ext [iblk, idx u, hu, row]
  · have := s.isLt
    blk_ext [iblk, idx u, hu, row]

theorem V_rest (j : Fin 128) : (V m c main_v0 : FVec Ideal S1x128 .f32) (ix2 0 j) = rest m c (ix1 j) := by
  have e : V m c main_v0 = (broadcastInDim S1x128 ![1] bcast_S128_S1x128_1 (rest m c) : FVec Ideal S1x128 .f32) := by
    unfold_abbrev_sides
    after_reads_simp
  rw [e]
  pointwise []

theorem rest_at (q : Fin 128) : (iblk m c 2 t : FVec Ideal S1x128 .f32) (ix2 0 q) = rest m c (ix1 q) := by
  rw [← V_rest m c]
  blk_ext [iblk, idx t, row]

/-- The result is the reference's. -/
theorem final : (dats m 0 c).arrAt 3 cfg0.N = Cert.TailFwdRefIdeal.Read.val_main_v3 (F := Ideal) (left m c) (right m c) (rest m c) := by
  refine (dats m 0 c).arrAt_eq_of_covers 3 _ (by decide +kernel) fun t hf y => ?_
  have h1 := (flush0_3 t).mp hf
  obtain ⟨p, q, rfl⟩ : ∃ (p : Fin 1024) (q : Fin 128), y = ix2 p q := ⟨y 0, y 1, by funext a; fin_cases a <;> rfl⟩
  have e : ((cfg0.win 3).blk t).view.emb (ix2 p q) = ix2 (row t p) q := by
    blk_ext [idx t, row]
  rw [e, Cert.TailFwdRefIdeal.Read.val_main_v3_apply, Cert.TailFwdRefIdeal.Read.val_main_v0_apply, Cert.TailFwdRefIdeal.Read.val_main_v2_apply, Cert.TailFwdRefIdeal.Read.val_main_v1_apply]
  blk_simp
  rw [after0_3, written m c t h1, pay3_at, acc_last m c t h1, rest_at]
  refine congrArg₂ (· + ·) (Finset.sum_congr rfl fun k _ => ?_) (congrArg (rest m c) (by funext a; fin_cases a; rfl))
  congr 2 <;> (funext a; fin_cases a <;> rfl)

theorem frame_ref : Cert.quiescent_TailFwdRefIdeal (hTailFwdRefIdeal := Cert.TailFwdRefIdeal.Gen.facts) := fun m ρ _ =>
  (θ_run Cert.TailFwdRefIdeal.defs _ _).mono (fun r h => ⟨fun c => (h c).2, sem_eq_zero_of_no_sems (by decide) r.2⟩)
    (Cert.TailFwdRefIdeal.Value.run (F := Ideal) m ρ)

theorem value : Cert.algebraic_TailFwdIdeal_TailFwdRefIdeal (hTailFwdIdeal := Cert.TailFwdIdeal.Gen.facts)
    (hTailFwdRefIdeal := Cert.TailFwdRefIdeal.Gen.facts) := by
  intro m g m' g' _ hagree
  refine ⟨fun c => (dats m 0 c).arrAt 3 cfg0.N,
    (θ_run _ _ _).mono (fun r h c => ⟨(h.1 c).1 3, h.2 c⟩) (θ_run_and (run_main m g) (unchanged m g)),
    (θ_run _ _ _).mono (fun r h c => ?_) (Cert.TailFwdRefIdeal.Value.run m' g')⟩
  obtain ⟨e0, e1, e2⟩ := hagree c
  obtain ⟨h0, hargs⟩ := h c
  refine ⟨h0.trans ?_, hargs⟩
  rw [e0, e1, e2]
  exact (final m c).symm

end Cert.Products.TailFwd

end

end
-- ==== Proof.TailDb.lean ====
/-
  The gradient of the bias of the narrow part of the projection: each column of the cotangent summed over its 4096 rows.
-/
module

public import proofs.«01_k».proof.Defs
public import proofs.«01_k».proof.Proof.Gen.TailDb.Frame
public import proofs.«01_k».proof.Proof.Gen.TailDbIdeal.Frame
public import proofs.«01_k».proof.Proof.Gen.TailDbRefIdeal.Run
public import proofs.«01_k».proof.Proof.Gen.TailDbRefIdeal.Read
public import Idealize.ShloMosaic.Lib.Pipeline.ValueKit
public import Idealize.ShloMosaic.Lib.StableHlo.RunRead
public import Idealize.ShloMosaic.Lib.Claim
public import Idealize.ShloMosaic.Lib.Pointwise
public import Idealize.ShloMosaic.Adequacy
public import Idealize.ShloMosaic.Init

@[expose] public section

set_option maxRecDepth 16384

noncomputable section

namespace Cert.Rows.TailDb

open Idealize.ShloMosaic Idealize.ShloMosaic.TcCoe Idealize.SL.Sem
open Cert.TailDbIdeal Cert.TailDbIdeal.Gen

variable (m : (ℓ : Loc nD τ sig) → Buf (Elt Ideal) ℓ) (c : Dev nD) (t : Fin cfg0.N)

/-- The cotangent. -/
abbrev cot : FVec Ideal S4096x128 .f32 := m ((c : Thread nD τ).loc main_arg0)

/-- A point's block of it. -/
abbrev cotAt : FVec Ideal S4096x128 .f32 := iblk m c 0 t

/-- What a point writes back. -/
theorem written : out0_1 (F := Ideal) (cotAt m c t) = k0_pay1 (F := Ideal) (cotAt m c t) := by
  unfold out0_1
  frame_out
  try rfl

theorem pay1_at (a : Vec Ideal S4096x128 .f32) (p : Fin 1) (q : Fin 128) : k0_pay1 (F := Ideal) a (ix2 p q) = ∑ k : Fin 4096, a (ix2 k q) := by
  pointwise [k0_pay1]

/-- The blocks each window stages. -/
theorem idx : ∀ t : Fin cfg0.N, win0_0.index t = ![0, 0] ∧ win0_1.index t = ![0, 0] :=
  (by decide +kernel : ∀ t : Fin grid0.N, _)

theorem cot_at (p : Fin 4096) (q : Fin 128) : cotAt m c t (ix2 p q) = cot m c (ix2 p q) := by
  blk_ext [iblk, idx t]

theorem start (i : Cert.TailDbRefIdeal.S_.Idx) : Cert.TailDbRefIdeal.Read.val_main_cst_0 (F := Ideal) i = 0 := by
  pointwise [Cert.TailDbRefIdeal.Read.val_main_cst_0]

/-- The result is the reference's. -/
theorem final : (dats m 0 c).arrAt 1 cfg0.N = Cert.TailDbRefIdeal.Read.val_main_v3 (F := Ideal) (cot m c) := by
  refine (dats m 0 c).arrAt_eq_of_covers 1 _ (by decide +kernel) fun t _ y => ?_
  obtain ⟨p, q, rfl⟩ : ∃ (p : Fin 1) (q : Fin 128), y = ix2 p q := ⟨y 0, y 1, by funext a; fin_cases a <;> rfl⟩
  have e : ((cfg0.win 1).blk t).view.emb (ix2 p q) = ix2 p q := by
    blk_ext [idx t]
  rw [e, Cert.TailDbRefIdeal.Read.val_main_v3_apply, Cert.TailDbRefIdeal.Read.val_main_v2_apply]
  blk_simp
  rw [after0_1, written m c t, pay1_at, start, zero_add]
  refine (Finset.sum_congr rfl fun k _ => ?_ : (_ : EReal) = _)
  rw [cot_at]
  congr 1
  funext a; fin_cases a <;> rfl

theorem frame_ref : Cert.quiescent_TailDbRefIdeal (hTailDbRefIdeal := Cert.TailDbRefIdeal.Gen.facts) := fun m ρ _ =>
  (θ_run Cert.TailDbRefIdeal.defs _ _).mono (fun r h => ⟨fun c => (h c).2, sem_eq_zero_of_no_sems (by decide) r.2⟩)
    (Cert.TailDbRefIdeal.Value.run (F := Ideal) m ρ)

theorem value : Cert.algebraic_TailDbIdeal_TailDbRefIdeal (hTailDbIdeal := Cert.TailDbIdeal.Gen.facts)
    (hTailDbRefIdeal := Cert.TailDbRefIdeal.Gen.facts) := by
  intro m g m' g' _ hagree
  refine ⟨fun c => (dats m 0 c).arrAt 1 cfg0.N,
    (θ_run _ _ _).mono (fun r h c => ⟨(h.1 c).1 1, h.2 c⟩) (θ_run_and (run_main m g) (unchanged m g)),
    (θ_run _ _ _).mono (fun r h c => ?_) (Cert.TailDbRefIdeal.Value.run m' g')⟩
  have e0 := hagree c
  obtain ⟨h0, hargs⟩ := h c
  refine ⟨h0.trans ?_, hargs⟩
  rw [e0]
  exact (final m c).symm

end Cert.Rows.TailDb

end

end
-- ==== Proof.Running.lean ====
/-
  Running sums: a column summed from its beginning or to its end, as one window per entry on the host and as blocks with a carried row
  in the kernel. And the logarithm of the sigmoid, with its slope.
-/
module

public import Idealize.ShloMosaic.Lib.Pipeline.ValueKit
public import Idealize.ShloMosaic.Lib.StableHlo.RunRead
public import Idealize.ShloMosaic.Lib.Pointwise

@[expose] public section

noncomputable section

namespace Cert.Running

open Idealize.ShloMosaic

/-- A column by row numbers, zero past its end. -/
def ext {N : ℕ} (f : Fin N → EReal) (n : ℕ) : EReal := if h : n < N then f ⟨n, h⟩ else 0

theorem ext_val {N : ℕ} (f : Fin N → EReal) (i : Fin N) : ext f i.val = f i := dif_pos i.isLt

/-- The rows of a block of `B` rows between two bounds. -/
theorem block {N B : ℕ} (f : Fin N → EReal) (g : Fin B → EReal) (a lo hi : ℕ) (hhi : hi ≤ B) (hg : ∀ k : Fin B, g k = ext f (a + k.val)) :
    (∑ k : Fin B, if lo ≤ k.val ∧ k.val < hi then g k else 0) = ∑ n ∈ Finset.Ico (a + lo) (a + hi), ext f n := by
  have e : ∀ k : Fin B, (if lo ≤ k.val ∧ k.val < hi then g k else 0) = (fun n : ℕ => if lo ≤ n ∧ n < hi then ext f (a + n) else 0) k.val := fun k => by
    simp only [hg]
  rw [Finset.sum_congr rfl fun k _ => e k, Fin.sum_univ_eq_sum_range (fun n : ℕ => if lo ≤ n ∧ n < hi then ext f (a + n) else 0) B, ← Finset.sum_filter,
    add_comm a lo, add_comm a hi, ← Finset.sum_Ico_add]
  refine Finset.sum_congr (Finset.ext fun n => ?_) fun _ _ => rfl
  rw [Finset.mem_filter, Finset.mem_range, Finset.mem_Ico]
  omega

/-- The rows of a whole column between two bounds. -/
theorem column {N : ℕ} (f : Fin N → EReal) (lo hi : ℕ) (hhi : hi ≤ N) :
    (∑ k : Fin N, if lo ≤ k.val ∧ k.val < hi then f k else 0) = ∑ n ∈ Finset.Ico lo hi, ext f n := by
  have h := block f f 0 lo hi hhi fun k => by rw [zero_add, ext_val]
  rwa [zero_add, zero_add] at h

/-- All rows of a block. -/
theorem rows {N B : ℕ} (f : Fin N → EReal) (g : Fin B → EReal) (a : ℕ) (hg : ∀ k : Fin B, g k = ext f (a + k.val)) :
    ∑ k : Fin B, g k = ∑ n ∈ Finset.Ico a (a + B), ext f n := by
  have h := block f g a 0 B le_rfl hg
  rw [add_zero] at h
  exact (Finset.sum_congr rfl fun k _ => (if_pos ⟨Nat.zero_le _, k.isLt⟩).symm).trans h

theorem foldl_add {α : Type} (g : α → EReal) (l : List α) (v : EReal) : l.foldl (fun r n => r + g n) v = v + (l.map g).sum := by
  induction l generalizing v with
  | nil => simp
  | cons a l ih => rw [List.foldl_cons, ih, List.map_cons, List.sum_cons, add_assoc]

/-- The positions of a window of one column. -/
theorem window {R : ℕ} (g : (⟨2, ![R, 1]⟩ : Shape).Idx → EReal) :
    ∑ n : Fin (⟨2, ![R, 1]⟩ : Shape).numel, g ((⟨2, ![R, 1]⟩ : Shape).rowMajor.symm n) = ∑ w : Fin R, g (ix2 w (0 : Fin 1)) := by
  rw [Equiv.sum_comp (⟨2, ![R, 1]⟩ : Shape).rowMajor.symm g]
  refine (Fintype.sum_equiv ⟨fun w => ix2 w (0 : Fin 1), fun i => i 0, fun w => rfl, fun i => ?_⟩ _ _ fun w => rfl).symm
  funext a
  match a with
  | ⟨0, _⟩ => rfl
  | ⟨1, _⟩ => exact Subsingleton.elim (α := Fin 1) _ _

/-- A sum over the columns' windows, padded before the first row: each entry sums the rows up to its own. -/
theorem up_to {R Rm1 C : ℕ} (hR : Rm1 + 1 = R) (x : FVec Ideal ⟨2, ![R, C]⟩ .f32) (init : FVec Ideal ⟨0, ![]⟩ .f32) (h0 : ∀ i, init i = (0 : EReal))
    (h : (⟨2, ![R, C]⟩ : Shape).ReduceWindows (![R, 1] : Fin 2 → ℕ) ![1, 1] ![Rm1, 0] ![0, 0] ⟨2, ![R, C]⟩) (hu : 0 < (⟨0, ![]⟩ : Shape).numel)
    (j : Fin R) (c : Fin C) :
    Host.reduceWindowAdd ![R, 1] ![1, 1] ![Rm1, 0] ![0, 0] x init h hu (ix2 j c)
      = ∑ n ∈ Finset.Ico 0 (j.val + 1), ext (fun i : Fin R => (x (ix2 i c) : EReal)) n := by
  have hj := j.isLt
  have hc := c.isLt
  change Host.reduceWindow (· + ·) ![R, 1] ![1, 1] ![Rm1, 0] ![0, 0] x (fun _ : (⟨0, ![]⟩ : Shape).Idx => init (Shape.Idx.first hu)) h (by decide) (ix2 j c) = _
  unfold Host.reduceWindow
  dsimp only
  rw [foldl_add, ← Fin.sum_univ_def, h0, zero_add]
  refine (Finset.sum_congr rfl fun n _ => ?_ : _ = ∑ n : Fin (⟨2, ![R, 1]⟩ : Shape).numel, (fun w : (⟨2, ![R, 1]⟩ : Shape).Idx => if Rm1 - j.val ≤ (w 0).val
    then ext (fun i : Fin R => (x (ix2 i c) : EReal)) (j.val + (w 0).val - Rm1) else 0) ((⟨2, ![R, 1]⟩ : Shape).rowMajor.symm n)).trans ?_
  · dsimp only
    have hw0 : ((⟨2, ![R, 1]⟩ : Shape).rowMajor.symm n 0).val < R := ((⟨2, ![R, 1]⟩ : Shape).rowMajor.symm n 0).isLt
    have hw1 : ((⟨2, ![R, 1]⟩ : Shape).rowMajor.symm n 1).val < 1 := ((⟨2, ![R, 1]⟩ : Shape).rowMajor.symm n 1).isLt
    split
    · next hin =>
      have hz : Rm1 ≤ j.val * 1 + ((⟨2, ![R, 1]⟩ : Shape).rowMajor.symm n 0).val ∧ j.val * 1 + ((⟨2, ![R, 1]⟩ : Shape).rowMajor.symm n 0).val - Rm1 < R := hin 0
      rw [if_pos (by omega), ext, dif_pos (by omega)]
      refine congrArg x (funext fun a => Fin.ext ?_)
      match a with
      | ⟨0, _⟩ => exact (by omega : j.val * 1 + ((⟨2, ![R, 1]⟩ : Shape).rowMajor.symm n 0).val - Rm1 = j.val + ((⟨2, ![R, 1]⟩ : Shape).rowMajor.symm n 0).val - Rm1)
      | ⟨1, _⟩ => exact (by omega : c.val * 1 + ((⟨2, ![R, 1]⟩ : Shape).rowMajor.symm n 1).val - 0 = c.val)
    · next hin =>
      rw [if_neg fun hle => hin fun a => ?_]
      match a with
      | ⟨0, _⟩ => exact (by omega : Rm1 ≤ j.val * 1 + ((⟨2, ![R, 1]⟩ : Shape).rowMajor.symm n 0).val ∧ j.val * 1 + ((⟨2, ![R, 1]⟩ : Shape).rowMajor.symm n 0).val - Rm1 < R)
      | ⟨1, _⟩ => exact (by omega : 0 ≤ c.val * 1 + ((⟨2, ![R, 1]⟩ : Shape).rowMajor.symm n 1).val ∧ c.val * 1 + ((⟨2, ![R, 1]⟩ : Shape).rowMajor.symm n 1).val - 0 < C)
  refine (window (R := R) fun w => if Rm1 - j.val ≤ (w 0).val then ext (fun i : Fin R => (x (ix2 i c) : EReal)) (j.val + (w 0).val - Rm1) else 0).trans ?_
  refine (Fin.sum_univ_eq_sum_range (fun n : ℕ => if Rm1 - j.val ≤ n then ext (fun i : Fin R => (x (ix2 i c) : EReal)) (j.val + n - Rm1) else 0) R).trans ?_
  rw [← Finset.sum_filter, show (Finset.range R).filter (fun n => Rm1 - j.val ≤ n) = Finset.Ico (0 + (Rm1 - j.val)) (j.val + 1 + (Rm1 - j.val)) from
      Finset.ext fun n => by rw [Finset.mem_filter, Finset.mem_range, Finset.mem_Ico]; omega, ← Finset.sum_Ico_add]
  exact Finset.sum_congr rfl fun n _ => congrArg (ext _) (by omega)

/-- The same with the padding after the last row: each entry sums the rows from its own on. -/
theorem from_on {R Rm1 C : ℕ} (hR : Rm1 + 1 = R) (x : FVec Ideal ⟨2, ![R, C]⟩ .f32) (init : FVec Ideal ⟨0, ![]⟩ .f32) (h0 : ∀ i, init i = (0 : EReal))
    (h : (⟨2, ![R, C]⟩ : Shape).ReduceWindows (![R, 1] : Fin 2 → ℕ) ![1, 1] ![0, 0] ![Rm1, 0] ⟨2, ![R, C]⟩) (hu : 0 < (⟨0, ![]⟩ : Shape).numel)
    (j : Fin R) (c : Fin C) :
    Host.reduceWindowAdd ![R, 1] ![1, 1] ![0, 0] ![Rm1, 0] x init h hu (ix2 j c)
      = ∑ n ∈ Finset.Ico j.val R, ext (fun i : Fin R => (x (ix2 i c) : EReal)) n := by
  have hj := j.isLt
  have hc := c.isLt
  change Host.reduceWindow (· + ·) ![R, 1] ![1, 1] ![0, 0] ![Rm1, 0] x (fun _ : (⟨0, ![]⟩ : Shape).Idx => init (Shape.Idx.first hu)) h (by decide) (ix2 j c) = _
  unfold Host.reduceWindow
  dsimp only
  rw [foldl_add, ← Fin.sum_univ_def, h0, zero_add]
  refine (Finset.sum_congr rfl fun n _ => ?_ : _ = ∑ n : Fin (⟨2, ![R, 1]⟩ : Shape).numel, (fun w : (⟨2, ![R, 1]⟩ : Shape).Idx => if 0 ≤ (w 0).val ∧ (w 0).val < R - j.val
    then ext (fun i : Fin R => (x (ix2 i c) : EReal)) (j.val + (w 0).val) else 0) ((⟨2, ![R, 1]⟩ : Shape).rowMajor.symm n)).trans ?_
  · dsimp only
    have hw0 : ((⟨2, ![R, 1]⟩ : Shape).rowMajor.symm n 0).val < R := ((⟨2, ![R, 1]⟩ : Shape).rowMajor.symm n 0).isLt
    have hw1 : ((⟨2, ![R, 1]⟩ : Shape).rowMajor.symm n 1).val < 1 := ((⟨2, ![R, 1]⟩ : Shape).rowMajor.symm n 1).isLt
    split
    · next hin =>
      have hz : 0 ≤ j.val * 1 + ((⟨2, ![R, 1]⟩ : Shape).rowMajor.symm n 0).val ∧ j.val * 1 + ((⟨2, ![R, 1]⟩ : Shape).rowMajor.symm n 0).val - 0 < R := hin 0
      rw [if_pos (by omega), ext, dif_pos (by omega)]
      refine congrArg x (funext fun a => Fin.ext ?_)
      match a with
      | ⟨0, _⟩ => exact (by omega : j.val * 1 + ((⟨2, ![R, 1]⟩ : Shape).rowMajor.symm n 0).val - 0 = j.val + ((⟨2, ![R, 1]⟩ : Shape).rowMajor.symm n 0).val)
      | ⟨1, _⟩ => exact (by omega : c.val * 1 + ((⟨2, ![R, 1]⟩ : Shape).rowMajor.symm n 1).val - 0 = c.val)
    · next hin =>
      rw [if_neg fun hle => hin fun a => ?_]
      match a with
      | ⟨0, _⟩ => exact (by omega : 0 ≤ j.val * 1 + ((⟨2, ![R, 1]⟩ : Shape).rowMajor.symm n 0).val ∧ j.val * 1 + ((⟨2, ![R, 1]⟩ : Shape).rowMajor.symm n 0).val - 0 < R)
      | ⟨1, _⟩ => exact (by omega : 0 ≤ c.val * 1 + ((⟨2, ![R, 1]⟩ : Shape).rowMajor.symm n 1).val ∧ c.val * 1 + ((⟨2, ![R, 1]⟩ : Shape).rowMajor.symm n 1).val - 0 < C)
  refine (window (R := R) fun w => if 0 ≤ (w 0).val ∧ (w 0).val < R - j.val then ext (fun i : Fin R => (x (ix2 i c) : EReal)) (j.val + (w 0).val) else 0).trans ?_
  refine (block (fun i : Fin R => (x (ix2 i c) : EReal)) (fun w : Fin R => ext _ (j.val + w.val)) j.val 0 (R - j.val) (by omega) fun k => rfl).trans ?_
  rw [add_zero, show j.val + (R - j.val) = R by omega]

theorem coe_max' (a b : ℝ) : ((max a b : ℝ) : EReal) = max (a : EReal) (b : EReal) := (EReal.coe_strictMono.monotone).map_max
theorem coe_min' (a b : ℝ) : ((min a b : ℝ) : EReal) = min (a : EReal) (b : EReal) := (EReal.coe_strictMono.monotone).map_min

/-- What the logarithm of the sigmoid takes off: the logarithm of one plus the exponential of minus the distance from zero. -/
def excess (x : EReal) : EReal := Ideal.log1p (Ideal.exp (-max x (-x)))

/-- The logarithm of the sigmoid. -/
def logSigmoid (x : EReal) : EReal := min x 0 - excess x

theorem excess_coe (r : ℝ) : excess (r : EReal) = (Real.log (1 + Real.exp (-|r|)) : ℝ) := by
  have e : max (r : EReal) (-(r : EReal)) = ((|r| : ℝ) : EReal) := by
    rw [← EReal.coe_neg, ← coe_max']; rfl
  have hp : ¬(1 + Real.exp (-|r|) ≤ 0) := not_le.mpr (by positivity)
  rw [excess, e, ← EReal.coe_neg, Ideal.exp_coe, Ideal.log1p, ← EReal.coe_one, ← EReal.coe_add, Ideal.log_coe, if_neg hp]

theorem excess_top : excess ⊤ = 0 := by
  have e : Ideal.log ((1 : ℝ) : EReal) = 0 := by rw [Ideal.log_coe, if_neg (by norm_num), Real.log_one, EReal.coe_zero]
  simpa [excess, Ideal.log1p] using e

theorem excess_bot : excess ⊥ = 0 := by
  have e : Ideal.log ((1 : ℝ) : EReal) = 0 := by rw [Ideal.log_coe, if_neg (by norm_num), Real.log_one, EReal.coe_zero]
  simpa [excess, Ideal.log1p] using e

theorem excess_neg (x : EReal) : excess (-x) = excess x := by
  rw [excess, excess, neg_neg, max_comm]

/-- The reference's form: minus the larger of `-x` and zero and what is taken off. -/
theorem neg_soft (x : EReal) : -(max (-x) 0 + excess (-x)) = logSigmoid x := by
  rw [excess_neg, logSigmoid]
  induction x using EReal.rec with
  | bot => simp [excess_bot]
  | top => simp [excess_top]
  | coe r =>
    rw [excess_coe, ← EReal.coe_zero, ← EReal.coe_neg, ← coe_max', ← coe_min', ← EReal.coe_add, ← EReal.coe_neg, ← EReal.coe_sub]
    congr 1
    rw [neg_add, ← neg_zero, max_neg_neg, neg_neg, neg_zero, sub_eq_add_neg]

/-- An infinity above replaced by zero. -/
def tame (x : EReal) : EReal := if x = ⊤ then 0 else x

/-- The slope: the exponential of the difference is the sigmoid of `-x`. -/
theorem slope (x : EReal) : Ideal.exp (tame (-x) - tame (max (-x) 0 + excess (-x))) = Ideal.logistic (-x) := by
  rw [excess_neg]
  induction x using EReal.rec with
  | bot => simp [excess_bot, tame, ← EReal.coe_zero, ← EReal.coe_one]
  | top => simp [excess_top, tame]
  | coe r =>
    rw [excess_coe, ← EReal.coe_zero, ← EReal.coe_neg, ← coe_max', ← EReal.coe_add, tame, tame, if_neg (EReal.coe_ne_top _), if_neg (EReal.coe_ne_top _),
      ← EReal.coe_sub, Ideal.exp_coe, Ideal.logistic_coe]
    congr 1
    have hp : 0 < 1 + Real.exp (-|r|) := by positivity
    rw [neg_neg, sub_add_eq_sub_sub, Real.exp_sub, Real.exp_log hp]
    rcases le_total 0 r with h | h
    · rw [abs_of_nonneg h, max_eq_right (neg_nonpos.mpr h), sub_zero, Real.exp_neg]
      have := Real.exp_pos r
      field_simp
      ring
    · rw [abs_of_nonpos h, max_eq_left (neg_nonneg.mpr h), sub_self, Real.exp_zero, neg_neg, one_div]

theorem sle_small (a b : Fin 512) : (BitVec.ofNat 32 a.val).sle (BitVec.ofNat 32 b.val) = decide (a.val ≤ b.val) := by
  have ha := a.isLt
  have hb := b.isLt
  have ea : (BitVec.ofNat 32 a.val).toInt = (a.val : ℤ) := by
    rw [BitVec.toInt_eq_toNat_of_lt] <;> rw [BitVec.toNat_ofNat, Nat.mod_eq_of_lt (by omega)]
    omega
  have eb : (BitVec.ofNat 32 b.val).toInt = (b.val : ℤ) := by
    rw [BitVec.toInt_eq_toNat_of_lt] <;> rw [BitVec.toNat_ofNat, Nat.mod_eq_of_lt (by omega)]
    omega
  rw [BitVec.sle, ea, eb]
  simp only [Nat.cast_le]

/-- A bit as a number, times a value. -/
theorem bit_mul (b : Bool) (v : EReal) : (FloatOps.sitofp (F := Ideal) .f32 (BitVec.setWidth 32 (BitVec.ofBool b)) : EReal) * v = if b then v else 0 := by
  cases b
  · have e : (FloatOps.sitofp (F := Ideal) .f32 (BitVec.setWidth 32 (BitVec.ofBool false)) : EReal) = 0 := by
      change (((BitVec.setWidth 32 (BitVec.ofBool false)).toInt : ℝ) : EReal) = 0
      rw [show (BitVec.setWidth 32 (BitVec.ofBool false)).toInt = 0 by decide, Int.cast_zero, EReal.coe_zero]
    rw [e, zero_mul, if_neg (by decide)]
  · have e : (FloatOps.sitofp (F := Ideal) .f32 (BitVec.setWidth 32 (BitVec.ofBool true)) : EReal) = 1 := by
      change (((BitVec.setWidth 32 (BitVec.ofBool true)).toInt : ℝ) : EReal) = 1
      rw [show (BitVec.setWidth 32 (BitVec.ofBool true)).toInt = 1 by decide, Int.cast_one, EReal.coe_one]
    rw [e, one_mul, if_pos rfl]

/-- A triangle's entry times a value, at the rows up to its own and from its own on. -/
theorem tri_lower (p k : Fin 512) (v : EReal) :
    (FloatOps.sitofp (F := Ideal) .f32 (BitVec.setWidth 32 (IntOp.cmpi .sge (BitVec.ofNat 32 p.val) (BitVec.ofNat 32 k.val))) : EReal) * v
      = if k.val < p.val + 1 then v else 0 := by
  refine (bit_mul _ v).trans ?_
  simp only [sle_small, decide_eq_true_eq, Nat.lt_succ_iff]

theorem tri_upper (p k : Fin 512) (v : EReal) :
    (FloatOps.sitofp (F := Ideal) .f32 (BitVec.setWidth 32 (IntOp.cmpi .sle (BitVec.ofNat 32 p.val) (BitVec.ofNat 32 k.val))) : EReal) * v
      = if p.val ≤ k.val then v else 0 := by
  refine (bit_mul _ v).trans ?_
  simp only [sle_small, decide_eq_true_eq]

end Cert.Running

end

end
-- ==== Proof.CumBwd.lean ====
/-
  The gradient of the forgetting gates' cumulative log-sums: blocks of 512 rows, the last first, with a carried row of sums.
-/
module

public import proofs.«01_k».proof.Defs
public import proofs.«01_k».proof.Proof.Running
public import proofs.«01_k».proof.Proof.Gen.CumBwd.Frame
public import proofs.«01_k».proof.Proof.Gen.CumBwdIdeal.Frame
public import proofs.«01_k».proof.Proof.Gen.CumBwdRefIdeal.Run
public import proofs.«01_k».proof.Proof.Gen.CumBwdRefIdeal.Read
public import Idealize.ShloMosaic.Lib.Pipeline.ValueKit
public import Idealize.ShloMosaic.Lib.StableHlo.RunRead
public import Idealize.ShloMosaic.Lib.Claim
public import Idealize.ShloMosaic.Lib.Pointwise
public import Idealize.ShloMosaic.Adequacy
public import Idealize.ShloMosaic.Init

@[expose] public section

set_option maxRecDepth 16384

noncomputable section

namespace Cert.Rows.CumBwd

open Idealize.ShloMosaic Idealize.ShloMosaic.TcCoe Idealize.SL.Sem
open Cert.CumBwdIdeal Cert.CumBwdIdeal.Gen

variable (m : (ℓ : Loc nD τ sig) → Buf (Elt Ideal) ℓ) (c : Dev nD) (t : Fin cfg0.N)

/-- The gates' inputs and the cotangents of the queries' and the keys' sums, and a point's blocks of them. -/
abbrev gates : FVec Ideal S4096x128 .f32 := m ((c : Thread nD τ).loc main_arg0)
abbrev cotQ : FVec Ideal S4096x128 .f32 := m ((c : Thread nD τ).loc main_arg1)
abbrev cotK : FVec Ideal S4096x128 .f32 := m ((c : Thread nD τ).loc main_arg2)
abbrev gatesAt : FVec Ideal S512x128 .f32 := iblk m c 0 t
abbrev cotQAt : FVec Ideal S512x128 .f32 := iblk m c 1 t
abbrev cotKAt : FVec Ideal S512x128 .f32 := iblk m c 2 t

/-- The carried row of sums after a point. -/
def carried (n : ℕ) (hn : n < cfg0.N) : Vec Ideal S1x128 .f32 := (outsAt0 m c n hn).2

/-- The first point carries from zero. -/
theorem first (h0 : t.val % 8 = 0) : (outsAt0 m c t.val t.isLt).1 = k0_pay4 (F := Ideal) (cotKAt m c t) (cotQAt m c t) (k0_pay1 (F := Ideal)) (gatesAt m c t)
    ∧ carried m c t.val t.isLt = k0_pay3 (F := Ideal) (cotKAt m c t) (cotQAt m c t) (k0_pay1 (F := Ideal)) := by
  unfold carried
  rw [outsAt0_A m c t h0]
  dsimp only
  constructor <;> (frame_out; try simp only [(Memref.isWhole_whole _).read_unread]; try rfl)

/-- Every other point carries from the point before. -/
theorem next (h0 : ¬t.val % 8 = 0) : (outsAt0 m c t.val t.isLt).1 = k0_pay4 (F := Ideal) (cotKAt m c t) (cotQAt m c t) (carried m c (t.val - 1) (by omega)) (gatesAt m c t)
    ∧ carried m c t.val t.isLt = k0_pay3 (F := Ideal) (cotKAt m c t) (cotQAt m c t) (carried m c (t.val - 1) (by omega)) := by
  unfold carried
  rw [outsAt0_B m c t h0]
  dsimp only
  constructor <;> (frame_out; try simp only [(Memref.isWhole_whole _).read_unread]; try rfl)

theorem pay1_at (i : S1x128.Idx) : k0_pay1 (F := Ideal) i = 0 := by
  pointwise [k0_pay1]

theorem pay2_at (d e : Vec Ideal S512x128 .f32) (i : S512x128.Idx) : k0_pay2 (F := Ideal) d e i = d i + e i := by
  pointwise [k0_pay2]

theorem pay3_at (d e : Vec Ideal S512x128 .f32) (r : Vec Ideal S1x128 .f32) (q : Fin 128) :
    k0_pay3 (F := Ideal) d e r (ix2 0 q) = r (ix2 0 q) + ∑ k : Fin 512, (d (ix2 k q) + e (ix2 k q)) := by
  pointwise [k0_pay3, pay2_at]

theorem pay4_at (d e x : Vec Ideal S512x128 .f32) (r : Vec Ideal S1x128 .f32) (p : Fin 512) (q : Fin 128) :
    k0_pay4 (F := Ideal) d e r x (ix2 p q)
      = ((∑ k : Fin 512, if p.val ≤ k.val ∧ k.val < 512 then d (ix2 k q) + e (ix2 k q) else 0) + r (ix2 0 q)) * Ideal.logistic (-x (ix2 p q)) := by
  pointwise [k0_pay4, pay2_at]
  simp only [Cert.Running.tri_upper, Fin.is_lt, and_true, zero_sub]

/-- The blocks each window stages: the last rows first. -/
theorem idx : ∀ t : Fin cfg0.N, win0_0.index t = ![7 - t.val, 0] ∧ win0_1.index t = ![7 - t.val, 0] ∧ win0_2.index t = ![7 - t.val, 0]
    ∧ win0_3.index t = ![7 - t.val, 0] :=
  (by decide +kernel : ∀ t : Fin grid0.N, _)

/-- The rows of a point's block. -/
abbrev row (p : Fin 512) : Fin 4096 := ⟨(7 - t.val) * 512 + p.val, by have := t.isLt; have : cfg0.N = 8 := N_0; omega⟩

theorem gates_at (p : Fin 512) (q : Fin 128) : gatesAt m c t (ix2 p q) = gates m c (ix2 (row t p) q) := by
  blk_ext [iblk, idx t, row]

theorem cotQ_at (p : Fin 512) (q : Fin 128) : cotQAt m c t (ix2 p q) = cotQ m c (ix2 (row t p) q) := by
  blk_ext [iblk, idx t, row]

theorem cotK_at (p : Fin 512) (q : Fin 128) : cotKAt m c t (ix2 p q) = cotK m c (ix2 (row t p) q) := by
  blk_ext [iblk, idx t, row]

/-- The terms of a column. -/
def term (q : Fin 128) (i : Fin 4096) : EReal := cotQ m c (ix2 i q) + cotK m c (ix2 i q)

theorem term_at (k : Fin 512) (q : Fin 128) : cotKAt m c t (ix2 k q) + cotQAt m c t (ix2 k q) = Cert.Running.ext (term m c q) ((7 - t.val) * 512 + k.val) := by
  rw [cotQ_at, cotK_at, add_comm]
  exact (Cert.Running.ext_val (term m c q) (row t k)).symm

/-- A point carries the sum of all rows from its own first row on. -/
theorem carried_at (q : Fin 128) : ∀ (n : ℕ) (hn : n < cfg0.N), carried m c n hn (ix2 0 q) = ∑ i ∈ Finset.Ico ((7 - n) * 512) 4096, Cert.Running.ext (term m c q) i := by
  have hN : cfg0.N = 8 := N_0
  intro n
  induction n with
  | zero =>
    intro hn
    rw [(first m c ⟨0, hn⟩ (by rfl)).2, pay3_at, pay1_at, zero_add, Cert.Running.rows (term m c q) _ ((7 - 0) * 512) fun k => term_at m c ⟨0, hn⟩ k q]
  | succ n ih =>
    intro hn
    have h : carried m c (n + 1) hn = k0_pay3 (F := Ideal) (cotKAt m c ⟨n + 1, hn⟩) (cotQAt m c ⟨n + 1, hn⟩) (carried m c n (by omega)) :=
      (next m c ⟨n + 1, hn⟩ (by simp only; omega)).2
    rw [h, pay3_at, ih (by omega), Cert.Running.rows (term m c q) _ ((7 - (n + 1)) * 512) fun k => term_at m c ⟨n + 1, hn⟩ k q, add_comm,
      show (7 - (n + 1)) * 512 + 512 = (7 - n) * 512 by omega, Finset.sum_Ico_consecutive _ (by omega) (by omega)]

/-- A point's block holds the sums of all rows from each on, times the slope. -/
theorem written (p : Fin 512) (q : Fin 128) : (outsAt0 m c t.val t.isLt).1 (ix2 p q)
    = (∑ i ∈ Finset.Ico (row t p).val 4096, Cert.Running.ext (term m c q) i) * Ideal.logistic (-gates m c (ix2 (row t p) q)) := by
  have hN : cfg0.N = 8 := N_0
  have ht := t.isLt
  have hp := p.isLt
  have e := Cert.Running.block (term m c q) (fun k : Fin 512 => cotKAt m c t (ix2 k q) + cotQAt m c t (ix2 k q)) ((7 - t.val) * 512) p.val 512 le_rfl
    fun k => term_at m c t k q
  by_cases h0 : t.val % 8 = 0
  · have hz : t.val = 0 := by omega
    rw [(first m c t h0).1, pay4_at, pay1_at, add_zero, e, gates_at]
    simp only [hz, row]
  · rw [(next m c t h0).1, pay4_at, carried_at, e, gates_at, show (7 - (t.val - 1)) * 512 = (7 - t.val) * 512 + 512 by omega,
      Finset.sum_Ico_consecutive _ (by omega) (by omega)]

section reference

open Cert.CumBwdRefIdeal.Read

theorem ref_soft (i : Fin 4096) (q : Fin 128) : val_main_call0_v1_0 (F := Ideal) (gates m c) (ix2 i q)
    = max (-gates m c (ix2 i q)) 0 + Cert.Running.excess (-gates m c (ix2 i q)) := by
  pointwise [val_main_call0_v1_0, val_main_call0_v0, val_main_call0_call0_cst, val_main_call0_call0_v0, val_main_call0_call0_v1, val_main_call0_call0_v2,
    val_main_call0_call0_v3, val_main_call0_call0_v4, val_main_call0_call0_v5, val_main_call0_call0_v6, val_main_call0_call0_v7,
    val_main_call0_call0_v8, val_main_call0_call0_v9, val_main_call0_call0_v10, val_main_call0_call0_v11, Cert.Running.excess]
  rw [if_neg fun h => h rfl]
  rfl

theorem top_bits : Ideal.ofBits FTy.f32 2139095040#32 = (⊤ : EReal) := by
  simp [Ideal.ofBits, Ideal.ieee]

theorem ref_slope (i : Fin 4096) (q : Fin 128) : val_main_v0_1 (F := Ideal) (gates m c) (ix2 i q) = Ideal.logistic (-gates m c (ix2 i q)) := by
  rw [← Cert.Running.slope]
  pointwise [val_main_v0_1, val_main_call0_call0_v21, val_main_call0_call0_v20, val_main_call0_call0_v19, val_main_call0_call0_cst_3, val_main_call0_call0_v18,
    val_main_call0_call0_v17, val_main_call0_call0_cst_2, val_main_call0_call0_v16, val_main_call0_call0_v15, val_main_call0_call0_cst_1,
    val_main_call0_call0_v14, val_main_call0_call0_v13, val_main_call0_call0_cst_0, val_main_call0_v0, ref_soft, Cert.Running.tame, top_bits]

theorem start (i : Cert.CumBwdRefIdeal.S_.Idx) : val_main_call2_call0_v0 (F := Ideal) i = 0 := by
  pointwise [val_main_call2_call0_v0, val_main_call2_call0_cst]

theorem ref_term (i : Fin 4096) (q : Fin 128) : val_main_v2 (F := Ideal) (cotQ m c) (cotK m c) (ix2 i q) = term m c q i := by
  pointwise [val_main_v2, term]

theorem ref_sum (i : Fin 4096) (q : Fin 128) : val_main_v3 (F := Ideal) (cotQ m c) (cotK m c) (ix2 i q)
    = ∑ n ∈ Finset.Ico i.val 4096, Cert.Running.ext (term m c q) n := by
  rw [val_main_v3]
  refine (Cert.Running.from_on rfl _ _ start _ _ i q).trans ?_
  simp only [ref_term]

theorem ref_at (i : Fin 4096) (q : Fin 128) : val_main_v4 (F := Ideal) (gates m c) (cotQ m c) (cotK m c) (ix2 i q)
    = (∑ n ∈ Finset.Ico i.val 4096, Cert.Running.ext (term m c q) n) * Ideal.logistic (-gates m c (ix2 i q)) := by
  pointwise [val_main_v4, val_main_call3_v1, val_main_call3_v0, ref_sum, ref_slope]
  rw [EReal.neg_mul, neg_neg]

end reference

/-- The result is the reference's. -/
theorem final : (dats m 0 c).arrAt 3 cfg0.N = Cert.CumBwdRefIdeal.Read.val_main_v4 (F := Ideal) (gates m c) (cotQ m c) (cotK m c) := by
  refine (dats m 0 c).arrAt_eq_of_covers 3 _ (by decide +kernel) fun t _ y => ?_
  obtain ⟨p, q, rfl⟩ : ∃ (p : Fin 512) (q : Fin 128), y = ix2 p q := ⟨y 0, y 1, by funext a; fin_cases a <;> rfl⟩
  have e : ((cfg0.win 3).blk t).view.emb (ix2 p q) = ix2 (row t p) q := by
    blk_ext [idx t, row]
  rw [e, ref_at]
  blk_simp
  rw [after0_3, written m c t]

theorem frame_ref : Cert.quiescent_CumBwdRefIdeal (hCumBwdRefIdeal := Cert.CumBwdRefIdeal.Gen.facts) := fun m ρ _ =>
  (θ_run Cert.CumBwdRefIdeal.defs _ _).mono (fun r h => ⟨fun c => (h c).2, sem_eq_zero_of_no_sems (by decide) r.2⟩)
    (Cert.CumBwdRefIdeal.Value.run (F := Ideal) m ρ)

theorem value : Cert.algebraic_CumBwdIdeal_CumBwdRefIdeal (hCumBwdIdeal := Cert.CumBwdIdeal.Gen.facts)
    (hCumBwdRefIdeal := Cert.CumBwdRefIdeal.Gen.facts) := by
  intro m g m' g' _ hagree
  refine ⟨fun c => (dats m 0 c).arrAt 3 cfg0.N,
    (θ_run _ _ _).mono (fun r h c => ⟨(h.1 c).1 3, h.2 c⟩) (θ_run_and (run_main m g) (unchanged m g)),
    (θ_run _ _ _).mono (fun r h c => ?_) (Cert.CumBwdRefIdeal.Value.run m' g')⟩
  obtain ⟨e0, e1, e2⟩ := hagree c
  obtain ⟨h0, hargs⟩ := h c
  refine ⟨h0.trans ?_, hargs⟩
  rw [e0, e1, e2]
  exact (final m c).symm

end Cert.Rows.CumBwd

end

end
-- ==== Proof.CumFwd.lean ====
/-
  The forgetting gates' cumulative log-sums: blocks of 512 rows with a carried row of sums.
-/
module

public import proofs.«01_k».proof.Defs
public import proofs.«01_k».proof.Proof.Running
public import proofs.«01_k».proof.Proof.Gen.CumFwd.Frame
public import proofs.«01_k».proof.Proof.Gen.CumFwdIdeal.Frame
public import proofs.«01_k».proof.Proof.Gen.CumFwdRefIdeal.Run
public import proofs.«01_k».proof.Proof.Gen.CumFwdRefIdeal.Read
public import Idealize.ShloMosaic.Lib.Pipeline.ValueKit
public import Idealize.ShloMosaic.Lib.StableHlo.RunRead
public import Idealize.ShloMosaic.Lib.Claim
public import Idealize.ShloMosaic.Lib.Pointwise
public import Idealize.ShloMosaic.Adequacy
public import Idealize.ShloMosaic.Init

@[expose] public section

set_option maxRecDepth 16384

noncomputable section

namespace Cert.Rows.CumFwd

open Idealize.ShloMosaic Idealize.ShloMosaic.TcCoe Idealize.SL.Sem
open Cert.CumFwdIdeal Cert.CumFwdIdeal.Gen

variable (m : (ℓ : Loc nD τ sig) → Buf (Elt Ideal) ℓ) (c : Dev nD) (t : Fin cfg0.N)

/-- The gates' inputs, and a point's block of them. -/
abbrev gates : FVec Ideal S4096x128 .f32 := m ((c : Thread nD τ).loc main_arg0)
abbrev gatesAt : FVec Ideal S512x128 .f32 := iblk m c 0 t

/-- The carried row of sums after a point. -/
def carried (n : ℕ) (hn : n < cfg0.N) : Vec Ideal S1x128 .f32 := (outsAt0 m c n hn).2

/-- The first point carries from zero. -/
theorem first (h0 : t.val % 8 = 0) : (outsAt0 m c t.val t.isLt).1 = k0_pay3 (F := Ideal) (gatesAt m c t) (k0_pay1 (F := Ideal))
    ∧ carried m c t.val t.isLt = k0_pay4 (F := Ideal) (gatesAt m c t) (k0_pay1 (F := Ideal)) := by
  unfold carried
  rw [outsAt0_A m c t h0]
  dsimp only
  constructor <;> (frame_out; try simp only [(Memref.isWhole_whole _).read_unread]; try rfl)

/-- Every other point carries from the point before. -/
theorem next (h0 : ¬t.val % 8 = 0) : (outsAt0 m c t.val t.isLt).1 = k0_pay3 (F := Ideal) (gatesAt m c t) (carried m c (t.val - 1) (by omega))
    ∧ carried m c t.val t.isLt = k0_pay4 (F := Ideal) (gatesAt m c t) (carried m c (t.val - 1) (by omega)) := by
  unfold carried
  rw [outsAt0_B m c t h0]
  dsimp only
  constructor <;> (frame_out; try simp only [(Memref.isWhole_whole _).read_unread]; try rfl)

theorem pay1_at (i : S1x128.Idx) : k0_pay1 (F := Ideal) i = 0 := by
  pointwise [k0_pay1]

theorem pay2_at (x : Vec Ideal S512x128 .f32) (i : S512x128.Idx) : k0_pay2 (F := Ideal) x i = Cert.Running.logSigmoid (x i) := by
  pointwise [k0_pay2, Cert.Running.logSigmoid, Cert.Running.excess]
  rw [zero_sub]
  rfl

theorem pay3_at (x : Vec Ideal S512x128 .f32) (r : Vec Ideal S1x128 .f32) (p : Fin 512) (q : Fin 128) :
    k0_pay3 (F := Ideal) x r (ix2 p q) = (∑ k : Fin 512, if 0 ≤ k.val ∧ k.val < p.val + 1 then Cert.Running.logSigmoid (x (ix2 k q)) else 0) + r (ix2 0 q) := by
  pointwise [k0_pay3, pay2_at]
  simp only [Cert.Running.tri_lower]

theorem pay4_at (x : Vec Ideal S512x128 .f32) (r : Vec Ideal S1x128 .f32) (q : Fin 128) :
    k0_pay4 (F := Ideal) x r (ix2 0 q) = r (ix2 0 q) + ∑ k : Fin 512, Cert.Running.logSigmoid (x (ix2 k q)) := by
  pointwise [k0_pay4, pay2_at]

/-- The blocks each window stages. -/
theorem idx : ∀ t : Fin cfg0.N, win0_0.index t = ![t.val, 0] ∧ win0_1.index t = ![t.val, 0] :=
  (by decide +kernel : ∀ t : Fin grid0.N, _)

/-- The rows of a point's block. -/
abbrev row (p : Fin 512) : Fin 4096 := ⟨t.val * 512 + p.val, by have := t.isLt; have : cfg0.N = 8 := N_0; omega⟩

theorem gates_at (p : Fin 512) (q : Fin 128) : gatesAt m c t (ix2 p q) = gates m c (ix2 (row t p) q) := by
  blk_ext [iblk, idx t, row]

/-- The terms of a column. -/
def term (q : Fin 128) (i : Fin 4096) : EReal := Cert.Running.logSigmoid (gates m c (ix2 i q))

theorem term_at (k : Fin 512) (q : Fin 128) : Cert.Running.logSigmoid (gatesAt m c t (ix2 k q)) = Cert.Running.ext (term m c q) (t.val * 512 + k.val) := by
  rw [gates_at]
  exact (Cert.Running.ext_val (term m c q) (row t k)).symm

/-- A point carries the sum of all rows so far. -/
theorem carried_at (q : Fin 128) : ∀ (n : ℕ) (hn : n < cfg0.N), carried m c n hn (ix2 0 q) = ∑ i ∈ Finset.Ico 0 ((n + 1) * 512), Cert.Running.ext (term m c q) i := by
  have hN : cfg0.N = 8 := N_0
  intro n
  induction n with
  | zero =>
    intro hn
    rw [(first m c ⟨0, hn⟩ (by rfl)).2, pay4_at, pay1_at, zero_add, Cert.Running.rows (term m c q) _ 0 fun k => ?_]
    have := term_at m c ⟨0, hn⟩ k q
    rwa [Nat.zero_mul] at this
  | succ n ih =>
    intro hn
    have h : carried m c (n + 1) hn = k0_pay4 (F := Ideal) (gatesAt m c ⟨n + 1, hn⟩) (carried m c n (by omega)) := (next m c ⟨n + 1, hn⟩ (by simp only; omega)).2
    rw [h, pay4_at, ih (by omega), Cert.Running.rows (term m c q) _ ((n + 1) * 512) fun k => term_at m c ⟨n + 1, hn⟩ k q,
      Finset.sum_Ico_consecutive _ (Nat.zero_le _) (Nat.le_add_right _ _)]
    rw [show (n + 1) * 512 + 512 = (n + 1 + 1) * 512 by omega]

/-- A point's block holds the sums of all rows up to each. -/
theorem written (p : Fin 512) (q : Fin 128) : (outsAt0 m c t.val t.isLt).1 (ix2 p q)
    = ∑ i ∈ Finset.Ico 0 ((row t p).val + 1), Cert.Running.ext (term m c q) i := by
  have hN : cfg0.N = 8 := N_0
  have ht := t.isLt
  have hp := p.isLt
  have e := Cert.Running.block (term m c q) (fun k : Fin 512 => Cert.Running.logSigmoid (gatesAt m c t (ix2 k q))) (t.val * 512) 0 (p.val + 1) (by omega)
    fun k => term_at m c t k q
  by_cases h0 : t.val % 8 = 0
  · have hz : t.val = 0 := by omega
    rw [(first m c t h0).1, pay3_at, pay1_at, add_zero, e]
    congr 2 <;> (simp only [hz, row]; try omega)
  · rw [(next m c t h0).1, pay3_at, carried_at, e, add_comm, show (t.val - 1 + 1) * 512 = t.val * 512 + 0 by omega,
      Finset.sum_Ico_consecutive _ (Nat.zero_le _) (by omega)]
    rfl

theorem ref_term (i : Fin 4096) (q : Fin 128) : Cert.CumFwdRefIdeal.Read.val_main_v0 (F := Ideal) (gates m c) (ix2 i q) = term m c q i := by
  rw [term, ← Cert.Running.neg_soft]
  pointwise [Cert.CumFwdRefIdeal.Read.val_main_v0, Cert.CumFwdRefIdeal.Read.val_main_call0_v1, Cert.CumFwdRefIdeal.Read.val_main_call0_v0,
    Cert.CumFwdRefIdeal.Read.val_main_call0_call0_cst, Cert.CumFwdRefIdeal.Read.val_main_call0_call0_v0, Cert.CumFwdRefIdeal.Read.val_main_call0_call0_v1,
    Cert.CumFwdRefIdeal.Read.val_main_call0_call0_v2, Cert.CumFwdRefIdeal.Read.val_main_call0_call0_v3, Cert.CumFwdRefIdeal.Read.val_main_call0_call0_v4,
    Cert.CumFwdRefIdeal.Read.val_main_call0_call0_v5, Cert.CumFwdRefIdeal.Read.val_main_call0_call0_v6, Cert.CumFwdRefIdeal.Read.val_main_call0_call0_v7,
    Cert.CumFwdRefIdeal.Read.val_main_call0_call0_v8, Cert.CumFwdRefIdeal.Read.val_main_call0_call0_v9, Cert.CumFwdRefIdeal.Read.val_main_call0_call0_v10,
    Cert.CumFwdRefIdeal.Read.val_main_call0_call0_v11, Cert.Running.excess]
  rw [if_neg fun h => h rfl]
  rfl

theorem start (i : Cert.CumFwdRefIdeal.S_.Idx) : Cert.CumFwdRefIdeal.Read.val_main_call1_call0_v0 (F := Ideal) i = 0 := by
  pointwise [Cert.CumFwdRefIdeal.Read.val_main_call1_call0_v0, Cert.CumFwdRefIdeal.Read.val_main_call1_call0_cst]

theorem ref_at (i : Fin 4096) (q : Fin 128) : Cert.CumFwdRefIdeal.Read.val_main_v1 (F := Ideal) (gates m c) (ix2 i q)
    = ∑ n ∈ Finset.Ico 0 (i.val + 1), Cert.Running.ext (term m c q) n := by
  rw [Cert.CumFwdRefIdeal.Read.val_main_v1]
  refine (Cert.Running.up_to rfl _ _ start _ _ i q).trans ?_
  simp only [ref_term]

/-- The result is the reference's. -/
theorem final : (dats m 0 c).arrAt 1 cfg0.N = Cert.CumFwdRefIdeal.Read.val_main_v1 (F := Ideal) (gates m c) := by
  refine (dats m 0 c).arrAt_eq_of_covers 1 _ (by decide +kernel) fun t _ y => ?_
  obtain ⟨p, q, rfl⟩ : ∃ (p : Fin 512) (q : Fin 128), y = ix2 p q := ⟨y 0, y 1, by funext a; fin_cases a <;> rfl⟩
  have e : ((cfg0.win 1).blk t).view.emb (ix2 p q) = ix2 (row t p) q := by
    blk_ext [idx t, row]
  rw [e, ref_at]
  blk_simp
  rw [after0_1, written m c t]

theorem frame_ref : Cert.quiescent_CumFwdRefIdeal (hCumFwdRefIdeal := Cert.CumFwdRefIdeal.Gen.facts) := fun m ρ _ =>
  (θ_run Cert.CumFwdRefIdeal.defs _ _).mono (fun r h => ⟨fun c => (h c).2, sem_eq_zero_of_no_sems (by decide) r.2⟩)
    (Cert.CumFwdRefIdeal.Value.run (F := Ideal) m ρ)

theorem value : Cert.algebraic_CumFwdIdeal_CumFwdRefIdeal (hCumFwdIdeal := Cert.CumFwdIdeal.Gen.facts)
    (hCumFwdRefIdeal := Cert.CumFwdRefIdeal.Gen.facts) := by
  intro m g m' g' _ hagree
  refine ⟨fun c => (dats m 0 c).arrAt 1 cfg0.N,
    (θ_run _ _ _).mono (fun r h c => ⟨(h.1 c).1 1, h.2 c⟩) (θ_run_and (run_main m g) (unchanged m g)),
    (θ_run _ _ _).mono (fun r h c => ?_) (Cert.CumFwdRefIdeal.Value.run m' g')⟩
  have e0 := hagree c
  obtain ⟨h0, hargs⟩ := h c
  refine ⟨h0.trans ?_, hargs⟩
  rw [e0]
  exact (final m c).symm

end Cert.Rows.CumFwd

end

end
-- ==== Proof.LossHead.lean ====
/-
  The loss and the gradient that it starts: blocks of 256 rows, the loss accumulated over all of them.
-/
module

public import proofs.«01_k».proof.Defs
public import proofs.«01_k».proof.Proof.Norm
public import proofs.«01_k».proof.Proof.Gen.LossHead.Frame
public import proofs.«01_k».proof.Proof.Gen.LossHeadIdeal.Frame
public import proofs.«01_k».proof.Proof.Gen.LossHeadRefIdeal.Run
public import proofs.«01_k».proof.Proof.Gen.LossHeadRefIdeal.Read
public import Idealize.ShloMosaic.Lib.Pipeline.ValueKit
public import Idealize.ShloMosaic.Lib.StableHlo.RunRead
public import Idealize.ShloMosaic.Lib.Claim
public import Idealize.ShloMosaic.Lib.Pointwise
public import Idealize.ShloMosaic.Adequacy
public import Idealize.ShloMosaic.Init

@[expose] public section

set_option maxRecDepth 16384

noncomputable section

namespace Cert.Rows.LossHead

open Idealize.ShloMosaic Idealize.ShloMosaic.TcCoe Idealize.SL.Sem
open Cert.LossHeadIdeal Cert.LossHeadIdeal.Gen

variable (m : (ℓ : Loc nD τ sig) → Buf (Elt Ideal) ℓ) (c : Dev nD) (t : Fin cfg0.N)

/-- The step's result and its target, and a point's rows of them. -/
abbrev out : FVec Ideal S4096x2048 .f32 := m ((c : Thread nD τ).loc main_arg0)
abbrev target : FVec Ideal S4096x2048 .f32 := m ((c : Thread nD τ).loc main_arg1)
abbrev outAt : FVec Ideal S256x2048 .f32 := iblk m c 0 t
abbrev targetAt : FVec Ideal S256x2048 .f32 := iblk m c 1 t

/-- The accumulated loss after a point. -/
def acc (n : ℕ) (hn : n < cfg0.N) : Vec Ideal S8x128 .f32 := (outsAt0 m c n hn).1

/-- The first point adds to zero. -/
theorem acc_first (h0 : t.val % 16 = 0) : acc m c t.val t.isLt = k0_pay4 (F := Ideal) (outAt m c t) (targetAt m c t) (k0_pay3 (F := Ideal))
    ∧ (outsAt0 m c t.val t.isLt).2 = k0_pay2 (F := Ideal) (outAt m c t) (targetAt m c t) := by
  unfold acc
  rw [outsAt0_A m c t h0]
  dsimp only
  constructor <;> (frame_out; try simp only [(Memref.isWhole_whole _).read_unread]; try rfl)

/-- Every other point adds to the point before. -/
theorem acc_next (h0 : ¬t.val % 16 = 0) : acc m c t.val t.isLt = k0_pay4 (F := Ideal) (outAt m c t) (targetAt m c t) (acc m c (t.val - 1) (by omega))
    ∧ (outsAt0 m c t.val t.isLt).2 = k0_pay2 (F := Ideal) (outAt m c t) (targetAt m c t) := by
  unfold acc
  rw [outsAt0_B m c t h0]
  dsimp only
  constructor <;> (frame_out; try simp only [(Memref.isWhole_whole _).read_unread]; try rfl)

/-- The numbers a half and the width. -/
abbrev half : EReal := Ideal.ofBits .f32 0x3F000000#32
abbrev width : EReal := Ideal.ofBits .f32 0x45000000#32

/-- The constants as real numbers. -/
theorem half_eq : half = ((1 / 2 : ℝ) : EReal) := by
  simp [half, Ideal.ofBits, Ideal.ieee]
  rw [← EReal.coe_mul]
  norm_num

theorem width_eq : width = ((2048 : ℝ) : EReal) := by
  simp [width, Ideal.ofBits, Ideal.ieee]
  rw [← EReal.coe_mul]
  norm_num

theorem two_eq : Ideal.ofBits .f32 0x40000000#32 = ((2 : ℝ) : EReal) := by
  simp [Ideal.ofBits, Ideal.ieee]
  rw [← EReal.coe_mul]
  norm_num

/-- Half a sum is the sum of the halves. -/
theorem half_sum {ι : Type} (s : Finset ι) (f : ι → EReal) : half * ∑ i ∈ s, f i = ∑ i ∈ s, half * f i := by
  rw [half_eq]
  classical
  induction s using Finset.induction_on with
  | empty => simp
  | insert a s ha ih =>
    rw [Finset.sum_insert ha, Finset.sum_insert ha,
      EReal.left_distrib_of_nonneg_of_ne_top (EReal.coe_nonneg.2 (by norm_num)) (EReal.coe_ne_top _), ih]

/-- The square's slope against the half and the mean. -/
theorem scaled (d : EReal) : Ideal.div (half * 1) width * (Ideal.ofBits .f32 0x40000000#32 * d) = Ideal.div d width := by
  rw [half_eq, width_eq, two_eq, Ideal.div_coe (by norm_num), Ideal.div_coe (by norm_num), mul_one, ← mul_assoc, ← EReal.coe_mul, ← EReal.coe_mul,
    mul_comm d]
  norm_num

theorem pay1_at (y g : Vec Ideal S256x2048 .f32) (i : S256x2048.Idx) : k0_pay1 (F := Ideal) y g i = y i - g i := by
  pointwise [k0_pay1]

theorem pay2_at (y g : Vec Ideal S256x2048 .f32) (i : S256x2048.Idx) : k0_pay2 (F := Ideal) y g i = Ideal.div (y i - g i) width := by
  pointwise [k0_pay2, pay1_at]

theorem pay3_at (i : S8x128.Idx) : k0_pay3 (F := Ideal) i = 0 := by
  pointwise [k0_pay3]

/-- Half the mean square of a row's differences. -/
def share (d : Fin 2048 → EReal) : EReal := half * Ideal.div (∑ l, d l * d l) width

theorem pay4_at (y g : Vec Ideal S256x2048 .f32) (r : Vec Ideal S8x128 .f32) (p : Fin 8) (q : Fin 128) :
    k0_pay4 (F := Ideal) y g r (ix2 p q) = r (ix2 p q) + ∑ k : Fin 256, share fun l => y (ix2 k l) - g (ix2 k l) := by
  pointwise [k0_pay4, pay1_at]
  simp only [Finset.univ_unique, Finset.sum_singleton]
  rw [half_sum]
  rfl

/-- The blocks each window stages. -/
theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

/-- The rows of a point's block. -/
abbrev row (p : Fin 256) : Fin 4096 := ⟨t.val * 256 + p.val, by have := t.isLt; have : cfg0.N = 16 := N_0; omega⟩

theorem out_at (p : Fin 256) (q : Fin 2048) : outAt m c t (ix2 p q) = out m c (ix2 (row t p) q) := by
  blk_ext [iblk, idx t, row]

theorem target_at (p : Fin 256) (q : Fin 2048) : targetAt m c t (ix2 p q) = target m c (ix2 (row t p) q) := by
  blk_ext [iblk, idx t, row]

/-- A row's share of the loss. -/
def shareOf (i : Fin 4096) : EReal := share fun l => out m c (ix2 i l) - target m c (ix2 i l)

theorem share_at (k : Fin 256) : (share fun l => outAt m c t (ix2 k l) - targetAt m c t (ix2 k l)) = shareOf m c (row t k) := by
  simp only [shareOf, out_at, target_at]

/-- The last point holds the sum of all rows' shares. -/
theorem acc_last (h : t.val % 16 = 15) (p : Fin 8) (q : Fin 128) : acc m c t.val t.isLt (ix2 p q) = ∑ i, shareOf m c i := by
  have hN : cfg0.N = 16 := N_0
  refine Cert.Norm.columns (J := 16) (n := 256) rfl (fun n hn q => acc m c n hn (ix2 p q)) (fun u _ k => shareOf m c (row u k))
    (fun u h0 q => ?_) (fun u h0 q => ?_) t h (fun _ k => shareOf m c k) (fun s u hu q k hl => ?_) q
  · rw [(acc_first m c u h0).1, pay4_at, pay3_at]
    simp only [share_at]
  · rw [(acc_next m c u h0).1, pay4_at]
    simp only [share_at]
  · have ht := t.isLt
    have e : row u k = ⟨s.val * 256 + k.val, hl⟩ := Fin.ext (by simp only [row]; omega)
    rw [e]

/-- A point writes its rows of the gradient. -/
theorem written (p : Fin 256) (q : Fin 2048) : (outsAt0 m c t.val t.isLt).2 (ix2 p q)
    = Ideal.div (out m c (ix2 (row t p) q) - target m c (ix2 (row t p) q)) width := by
  by_cases h0 : t.val % 16 = 0
  · rw [(acc_first m c t h0).2, pay2_at, out_at, target_at]
  · rw [(acc_next m c t h0).2, pay2_at, out_at, target_at]

section reference

open Cert.LossHeadRefIdeal.Read

theorem ref_rows (i : Fin 4096) : half * val_main_v6 (F := Ideal) (out m c) (target m c) (ix1 i) = shareOf m c i := by
  pointwise [val_main_v6, val_main_v5, val_main_cst_1, val_main_v4, val_main_cst_0, val_main_v1, val_main_v0, shareOf, share]

theorem ref_loss (p : Fin 8) (q : Fin 128) : val_main_v15 (F := Ideal) (out m c) (target m c) (ix2 p q) = ∑ i, shareOf m c i := by
  pointwise [val_main_v15, val_main_v8, val_main_cst_3, val_main_v7, val_main_cst_2]
  rw [half_sum]
  exact Finset.sum_congr rfl fun i _ => ref_rows m c i

theorem ref_grad (i : Fin 4096) (q : Fin 2048) : val_main_v14 (F := Ideal) (out m c) (target m c) (ix2 i q)
    = Ideal.div (out m c (ix2 i q) - target m c (ix2 i q)) width := by
  rw [← scaled]
  pointwise [val_main_v14, val_main_v13, val_main_v12, val_main_v11, val_main_cst_6, val_main_v10, val_main_v9, val_main_cst_5, val_main_cst_4,
    val_main_v3, val_main_v2, val_main_cst, val_main_v0]

end reference

/-- The results are the reference's. -/
theorem final_2 : (dats m 0 c).arrAt 2 cfg0.N = Cert.LossHeadRefIdeal.Read.val_main_v15 (F := Ideal) (out m c) (target m c) := by
  refine (dats m 0 c).arrAt_eq_of_covers 2 _ (by decide +kernel) fun t hf y => ?_
  have h1 := (flush0_2 t).mp hf
  obtain ⟨p, q, rfl⟩ : ∃ (p : Fin 8) (q : Fin 128), y = ix2 p q := ⟨y 0, y 1, by funext a; fin_cases a <;> rfl⟩
  have e : ((cfg0.win 2).blk t).view.emb (ix2 p q) = ix2 p q := by
    blk_ext [idx t]
  rw [e, ref_loss, ← acc_last m c t h1 p q]
  blk_simp
  rw [after0_2, acc]

theorem final_3 : (dats m 0 c).arrAt 3 cfg0.N = Cert.LossHeadRefIdeal.Read.val_main_v14 (F := Ideal) (out m c) (target m c) := by
  refine (dats m 0 c).arrAt_eq_of_covers 3 _ (by decide +kernel) fun t _ y => ?_
  obtain ⟨p, q, rfl⟩ : ∃ (p : Fin 256) (q : Fin 2048), y = ix2 p q := ⟨y 0, y 1, by funext a; fin_cases a <;> rfl⟩
  have e : ((cfg0.win 3).blk t).view.emb (ix2 p q) = ix2 (row t p) q := by
    blk_ext [idx t, row]
  rw [e, ref_grad]
  blk_simp
  rw [after0_3, written m c t]

theorem frame_ref : Cert.quiescent_LossHeadRefIdeal (hLossHeadRefIdeal := Cert.LossHeadRefIdeal.Gen.facts) := fun m ρ _ =>
  (θ_run Cert.LossHeadRefIdeal.defs _ _).mono (fun r h => ⟨fun c => (h c).2.2, sem_eq_zero_of_no_sems (by decide) r.2⟩)
    (Cert.LossHeadRefIdeal.Value.run (F := Ideal) m ρ)

theorem value : Cert.algebraic_LossHeadIdeal_LossHeadRefIdeal (hLossHeadIdeal := Cert.LossHeadIdeal.Gen.facts)
    (hLossHeadRefIdeal := Cert.LossHeadRefIdeal.Gen.facts) := by
  intro m g m' g' _ hagree
  refine ⟨fun c => (dats m 0 c).arrAt 2 cfg0.N, fun c => (dats m 0 c).arrAt 3 cfg0.N,
    (θ_run _ _ _).mono (fun r h c => ⟨(h.1 c).1 2, (h.1 c).1 3, h.2 c⟩) (θ_run_and (run_main m g) (unchanged m g)),
    (θ_run _ _ _).mono (fun r h c => ?_) (Cert.LossHeadRefIdeal.Value.run m' g')⟩
  obtain ⟨e0, e1⟩ := hagree c
  obtain ⟨h2, h3, hargs⟩ := h c
  refine ⟨h2.trans ?_, h3.trans ?_, hargs⟩
  · rw [Cert.LossHeadRefIdeal.Read.val_main_v15_eq, e0, e1]; exact (final_2 m c).symm
  · rw [Cert.LossHeadRefIdeal.Read.val_main_v14_eq, e0, e1]; exact (final_3 m c).symm

end Cert.Rows.LossHead

end

end
-- ==== Proof.Adam.lean ====
/-
  The optimiser's step of one weight: the weight, its gradient and the moments as rows, in blocks of 128.
-/
module

public import proofs.«01_k».proof.Defs
public import proofs.«01_k».proof.Proof.Gen.Adam.Frame
public import proofs.«01_k».proof.Proof.Gen.AdamIdeal.Frame
public import proofs.«01_k».proof.Proof.Gen.AdamRefIdeal.Run
public import proofs.«01_k».proof.Proof.Gen.AdamRefIdeal.Read
public import Idealize.ShloMosaic.Lib.Pipeline.ValueKit
public import Idealize.ShloMosaic.Lib.StableHlo.RunRead
public import Idealize.ShloMosaic.Lib.Claim
public import Idealize.ShloMosaic.Lib.Pointwise
public import Idealize.ShloMosaic.Adequacy
public import Idealize.ShloMosaic.Init

@[expose] public section

set_option maxRecDepth 16384

noncomputable section

namespace Cert.Rows.Adam

open Idealize.ShloMosaic Idealize.ShloMosaic.TcCoe Idealize.SL.Sem
open Cert.AdamIdeal Cert.AdamIdeal.Gen

variable (m : (ℓ : Loc nD τ sig) → Buf (Elt Ideal) ℓ) (c : Dev nD) (t : Fin cfg0.N)

/-- The weight, its gradient and the two moments. -/
abbrev weight : FVec Ideal S4x512x2048 .f32 := m ((c : Thread nD τ).loc main_arg0)
abbrev grad : FVec Ideal S4x512x2048 .f32 := m ((c : Thread nD τ).loc main_arg1)
abbrev first : FVec Ideal S4x512x2048 .f32 := m ((c : Thread nD τ).loc main_arg2)
abbrev second : FVec Ideal S4x512x2048 .f32 := m ((c : Thread nD τ).loc main_arg3)

/-- An array as rows of its last axis, and back. -/
abbrev flat (x : Vec Ideal S4x512x2048 .f32) : Vec Ideal S2048x2048 .f32 := shapeCast S2048x2048 x shapeCasts_S4x512x2048_S2048x2048
abbrev back (x : Vec Ideal S2048x2048 .f32) : Vec Ideal S4x512x2048 .f32 := shapeCast S4x512x2048 x shapeCasts_S2048x2048_S4x512x2048

/-- A point's blocks. -/
abbrev weightAt : FVec Ideal S128x2048 .f32 := iblk m c 0 t
abbrev gradAt : FVec Ideal S128x2048 .f32 := iblk m c 1 t
abbrev firstAt : FVec Ideal S128x2048 .f32 := iblk m c 2 t
abbrev secondAt : FVec Ideal S128x2048 .f32 := iblk m c 3 t

/-- The moments and the step of one element. -/
def newFirst (g a : EReal) : EReal := Ideal.ofBits .f32 0x3F666666#32 * a + Ideal.ofBits .f32 0x3DCCCCCD#32 * g
def newSecond (g b : EReal) : EReal := Ideal.ofBits .f32 0x3F7FBE77#32 * b + Ideal.ofBits .f32 0x3A83126F#32 * (g * g)
def step (w g a b : EReal) : EReal := Ideal.ofBits .f32 0xBA83126F#32 * (Ideal.div (Ideal.div (newFirst g a) (Ideal.ofBits .f32 0x3F26BD02#32))
  (Ideal.sqrt (Ideal.div (newSecond g b) (Ideal.ofBits .f32 0x3C231ACC#32)) + Ideal.ofBits .f32 0x322BCC77#32) + Ideal.ofBits .f32 0x3C23D70A#32 * w)

/-- What a point writes back. -/
theorem written : out0_4 (F := Ideal) (weightAt m c t) (gradAt m c t) (firstAt m c t) (secondAt m c t)
      = k0_pay4 (F := Ideal) (gradAt m c t) (firstAt m c t) (secondAt m c t) (weightAt m c t)
    ∧ out0_5 (F := Ideal) (weightAt m c t) (gradAt m c t) (firstAt m c t) (secondAt m c t) = k0_pay2 (F := Ideal) (gradAt m c t) (firstAt m c t)
    ∧ out0_6 (F := Ideal) (weightAt m c t) (gradAt m c t) (firstAt m c t) (secondAt m c t) = k0_pay3 (F := Ideal) (gradAt m c t) (secondAt m c t) := by
  unfold out0_4 out0_5 out0_6
  refine ⟨?_, ?_, ?_⟩ <;> (frame_out; try rfl)

theorem pay2_at (g a : Vec Ideal S128x2048 .f32) (i : S128x2048.Idx) : k0_pay2 (F := Ideal) g a i = newFirst (g i) (a i) := by
  pointwise [k0_pay2, k0_pay1, newFirst]

theorem pay3_at (g b : Vec Ideal S128x2048 .f32) (i : S128x2048.Idx) : k0_pay3 (F := Ideal) g b i = newSecond (g i) (b i) := by
  pointwise [k0_pay3, k0_pay1, newSecond]

theorem pay4_at (g a b w : Vec Ideal S128x2048 .f32) (i : S128x2048.Idx) : k0_pay4 (F := Ideal) g a b w i = step (w i) (g i) (a i) (b i) := by
  pointwise [k0_pay4, pay2_at, pay3_at, step]

/-- The blocks each window stages. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The rows of a point's block. -/
abbrev row (p : Fin 128) : Fin 2048 := ⟨t.val * 128 + p.val, by have := t.isLt; have : cfg0.N = 16 := N_0; omega⟩

theorem flat_args : V m c main_v0 = flat (weight m c) ∧ V m c main_v1 = flat (grad m c) ∧ V m c main_v2 = flat (first m c)
    ∧ V m c main_v3 = flat (second m c) := by
  refine ⟨?_, ?_, ?_, ?_⟩ <;>
  · unfold_abbrev_sides
    after_reads_simp
    rfl

theorem weight_at (p : Fin 128) (q : Fin 2048) : weightAt m c t (ix2 p q) = flat (weight m c) (ix2 (row t p) q) := by
  rw [← (flat_args m c).1]
  blk_ext [iblk, idx t, row]

theorem grad_at (p : Fin 128) (q : Fin 2048) : gradAt m c t (ix2 p q) = flat (grad m c) (ix2 (row t p) q) := by
  rw [← (flat_args m c).2.1]
  blk_ext [iblk, idx t, row]

theorem first_at (p : Fin 128) (q : Fin 2048) : firstAt m c t (ix2 p q) = flat (first m c) (ix2 (row t p) q) := by
  rw [← (flat_args m c).2.2.1]
  blk_ext [iblk, idx t, row]

theorem second_at (p : Fin 128) (q : Fin 2048) : secondAt m c t (ix2 p q) = flat (second m c) (ix2 (row t p) q) := by
  rw [← (flat_args m c).2.2.2]
  blk_ext [iblk, idx t, row]

/-- The three arrays that the call writes. -/
theorem final_4 : (dats m 0 c).arrAt 4 cfg0.N
    = fun i => step (flat (weight m c) i) (flat (grad m c) i) (flat (first m c) i) (flat (second m c) i) := by
  refine (dats m 0 c).arrAt_eq_of_covers 4 _ (by decide +kernel) fun t _ y => ?_
  obtain ⟨p, q, rfl⟩ : ∃ (p : Fin 128) (q : Fin 2048), y = ix2 p q := ⟨y 0, y 1, by funext a; fin_cases a <;> rfl⟩
  have e : ((cfg0.win 4).blk t).view.emb (ix2 p q) = ix2 (row t p) q := by
    blk_ext [idx t, row]
  rw [e]
  blk_simp
  rw [after0_4, (written m c t).1, pay4_at, weight_at, grad_at, first_at, second_at]

theorem final_5 : (dats m 0 c).arrAt 5 cfg0.N = fun i => newFirst (flat (grad m c) i) (flat (first m c) i) := by
  refine (dats m 0 c).arrAt_eq_of_covers 5 _ (by decide +kernel) fun t _ y => ?_
  obtain ⟨p, q, rfl⟩ : ∃ (p : Fin 128) (q : Fin 2048), y = ix2 p q := ⟨y 0, y 1, by funext a; fin_cases a <;> rfl⟩
  have e : ((cfg0.win 5).blk t).view.emb (ix2 p q) = ix2 (row t p) q := by
    blk_ext [idx t, row]
  rw [e]
  blk_simp
  rw [after0_5, (written m c t).2.1, pay2_at, grad_at, first_at]

theorem final_6 : (dats m 0 c).arrAt 6 cfg0.N = fun i => newSecond (flat (grad m c) i) (flat (second m c) i) := by
  refine (dats m 0 c).arrAt_eq_of_covers 6 _ (by decide +kernel) fun t _ y => ?_
  obtain ⟨p, q, rfl⟩ : ∃ (p : Fin 128) (q : Fin 2048), y = ix2 p q := ⟨y 0, y 1, by funext a; fin_cases a <;> rfl⟩
  have e : ((cfg0.win 6).blk t).view.emb (ix2 p q) = ix2 (row t p) q := by
    blk_ext [idx t, row]
  rw [e]
  blk_simp
  rw [after0_6, (written m c t).2.2, pay3_at, grad_at, second_at]

/-- The arrays after the lines that follow the call. -/
theorem inj : Function.Injective (Pipeline.arrRef spec0) := by decide

theorem after_5 : Pipeline.afterTail₀ cfgs (dats m) 0 (V0 m) [hostOps1] c main_v5 = back ((dats m 0 c).arrAt 4 cfg0.N) := by
  rw [← Pipeline.withArrays_arr spec0 inj c (V0 m c) (fun w => (dats m 0 c).arrAt w cfg0.N) 4]
  unfold Pipeline.afterTail₀
  generalize Pipeline.withArrays _ c (V0 m c) _ = W
  after_reads_simp
  rfl

theorem after_6 : Pipeline.afterTail₀ cfgs (dats m) 0 (V0 m) [hostOps1] c main_v6 = back ((dats m 0 c).arrAt 5 cfg0.N) := by
  rw [← Pipeline.withArrays_arr spec0 inj c (V0 m c) (fun w => (dats m 0 c).arrAt w cfg0.N) 5]
  unfold Pipeline.afterTail₀
  generalize Pipeline.withArrays _ c (V0 m c) _ = W
  after_reads_simp
  rfl

theorem after_7 : Pipeline.afterTail₀ cfgs (dats m) 0 (V0 m) [hostOps1] c main_v7 = back ((dats m 0 c).arrAt 6 cfg0.N) := by
  rw [← Pipeline.withArrays_arr spec0 inj c (V0 m c) (fun w => (dats m 0 c).arrAt w cfg0.N) 6]
  unfold Pipeline.afterTail₀
  generalize Pipeline.withArrays _ c (V0 m c) _ = W
  after_reads_simp
  rfl

/-- There and back is the array itself. -/
theorem back_flat (x : Vec Ideal S4x512x2048 .f32) (i : S4x512x2048.Idx) :
    flat x (Shape.reshapeEquiv shapeCasts_S2048x2048_S4x512x2048 i) = x i :=
  congrFun (shapeCast_shapeCast x shapeCasts_S4x512x2048_S2048x2048 shapeCasts_S2048x2048_S4x512x2048) i

section reference

open Cert.AdamRefIdeal.Read

theorem ref_first (i : S4x512x2048.Idx) : val_main_v4 (F := Ideal) (grad m c) (first m c) i = newFirst (grad m c i) (first m c i) := by
  pointwise [val_main_v4, val_main_v3, val_main_v2, val_main_cst_0, val_main_v1, val_main_v0, val_main_cst, newFirst]

theorem ref_second (i : S4x512x2048.Idx) : val_main_v10 (F := Ideal) (grad m c) (second m c) i = newSecond (grad m c i) (second m c i) := by
  pointwise [val_main_v10, val_main_v9, val_main_v8, val_main_cst_2, val_main_v7, val_main_v6, val_main_v5, val_main_cst_1, newSecond]

theorem ref_step (i : S4x512x2048.Idx) : val_main_v23 (F := Ideal) (weight m c) (grad m c) (first m c) (second m c) i
    = step (weight m c i) (grad m c i) (first m c i) (second m c i) := by
  pointwise [val_main_v23, val_main_v22, val_main_cst_7, val_main_v21, val_main_v20, val_main_v19, val_main_cst_6, val_main_v18, val_main_v17,
    val_main_v16, val_main_cst_5, val_main_v15, val_main_v14, val_main_v13, val_main_cst_4, val_main_v12, val_main_v11, val_main_cst_3,
    ref_first, ref_second, step]

end reference

theorem result_5 : back ((dats m 0 c).arrAt 4 cfg0.N)
    = Cert.AdamRefIdeal.Read.val_main_v23 (F := Ideal) (weight m c) (grad m c) (first m c) (second m c) := by
  funext i
  rw [ref_step, final_4]
  show step _ _ _ _ = _
  rw [back_flat, back_flat, back_flat, back_flat]

theorem result_6 : back ((dats m 0 c).arrAt 5 cfg0.N) = Cert.AdamRefIdeal.Read.val_main_v4 (F := Ideal) (grad m c) (first m c) := by
  funext i
  rw [ref_first, final_5]
  show newFirst _ _ = _
  rw [back_flat, back_flat]

theorem result_7 : back ((dats m 0 c).arrAt 6 cfg0.N) = Cert.AdamRefIdeal.Read.val_main_v10 (F := Ideal) (grad m c) (second m c) := by
  funext i
  rw [ref_second, final_6]
  show newSecond _ _ = _
  rw [back_flat, back_flat]

theorem frame_ref : Cert.quiescent_AdamRefIdeal (hAdamRefIdeal := Cert.AdamRefIdeal.Gen.facts) := fun m ρ _ =>
  (θ_run Cert.AdamRefIdeal.defs _ _).mono (fun r h => ⟨fun c => (h c).2.2.2, sem_eq_zero_of_no_sems (by decide) r.2⟩)
    (Cert.AdamRefIdeal.Value.run (F := Ideal) m ρ)

theorem value : Cert.algebraic_AdamIdeal_AdamRefIdeal (hAdamIdeal := Cert.AdamIdeal.Gen.facts)
    (hAdamRefIdeal := Cert.AdamRefIdeal.Gen.facts) := by
  intro m g m' g' _ hagree
  refine ⟨fun c => back ((dats m 0 c).arrAt 4 cfg0.N), fun c => back ((dats m 0 c).arrAt 5 cfg0.N), fun c => back ((dats m 0 c).arrAt 6 cfg0.N),
    (θ_run _ _ _).mono (fun r h c => ⟨((h.1 c).2 main_v5 (Pipeline.mem_restRefs_of main_v5 (by decide) (by decide))).trans (after_5 m c),
      ((h.1 c).2 main_v6 (Pipeline.mem_restRefs_of main_v6 (by decide) (by decide))).trans (after_6 m c),
      ((h.1 c).2 main_v7 (Pipeline.mem_restRefs_of main_v7 (by decide) (by decide))).trans (after_7 m c), h.2 c⟩)
      (θ_run_and (run_main m g) (unchanged m g)),
    (θ_run _ _ _).mono (fun r h c => ?_) (Cert.AdamRefIdeal.Value.run m' g')⟩
  obtain ⟨e0, e1, e2, e3⟩ := hagree c
  obtain ⟨h0, h1, h2, hargs⟩ := h c
  refine ⟨h0.trans ?_, h1.trans ?_, h2.trans ?_, hargs⟩
  · rw [Cert.AdamRefIdeal.Read.val_main_v23_eq, e0, e1, e2, e3]; exact (result_5 m c).symm
  · rw [Cert.AdamRefIdeal.Read.val_main_v4_eq, e1, e2]; exact (result_6 m c).symm
  · rw [Cert.AdamRefIdeal.Read.val_main_v10_eq, e1, e3]; exact (result_7 m c).symm

end Cert.Rows.Adam

end

end
-- ==== Proof.ChipSum.lean ====
/-
  The sum over the chips of a reduced gradient: blocks of 16 rows.
-/
module

public import proofs.«01_k».proof.Defs
public import proofs.«01_k».proof.Proof.Gen.ChipSum.Frame
public import proofs.«01_k».proof.Proof.Gen.ChipSumIdeal.Frame
public import proofs.«01_k».proof.Proof.Gen.ChipSumRefIdeal.Run
public import proofs.«01_k».proof.Proof.Gen.ChipSumRefIdeal.Read
public import Idealize.ShloMosaic.Lib.Pipeline.ValueKit
public import Idealize.ShloMosaic.Lib.StableHlo.RunRead
public import Idealize.ShloMosaic.Lib.Claim
public import Idealize.ShloMosaic.Lib.Pointwise
public import Idealize.ShloMosaic.Adequacy
public import Idealize.ShloMosaic.Init

@[expose] public section

set_option maxRecDepth 16384

noncomputable section

namespace Cert.Rows.ChipSum

open Idealize.ShloMosaic Idealize.ShloMosaic.TcCoe Idealize.SL.Sem
open Cert.ChipSumIdeal Cert.ChipSumIdeal.Gen

variable (m : (ℓ : Loc nD τ sig) → Buf (Elt Ideal) ℓ) (c : Dev nD) (t : Fin cfg0.N)

/-- The chips' gradients, and a point's rows of them. -/
abbrev grads : FVec Ideal S4x944x2048 .bf16 := m ((c : Thread nD τ).loc main_arg0)
abbrev gradsAt : FVec Ideal S4x16x2048 .bf16 := iblk m c 0 t

/-- A chip's rows. -/
def part (x : Vec Ideal S4x16x2048 .bf16) (k : Fin 4) : Vec Ideal S1x16x2048 .bf16 := fun i => x (ix3 k (i 1) (i 2))

theorem load_part (x : Vec Ideal S4x16x2048 .bf16) (k : Fin 4) (h : ∀ a, ![k.val, 0, 0] a + S1x16x2048.size a ≤ S4x16x2048.size a) :
    View.ld x (Rect.unit (s := S4x16x2048) ![k.val, 0, 0] S1x16x2048.size h) = part x k := by
  funext i
  refine congrArg x (funext fun a => Fin.ext ?_)
  rw [Rect.idx_unit_val]
  match a with
  | ⟨0, _⟩ => have : (i 0).val < 1 := (i 0).isLt; show k.val + (i 0).val = k.val; omega
  | ⟨1, _⟩ => exact Nat.zero_add _
  | ⟨2, _⟩ => exact Nat.zero_add _

theorem ld_part (x : Vec Ideal S4x16x2048 .bf16) : View.ld x r0_0 = part x 0 ∧ View.ld x r0_1 = part x 1 ∧ View.ld x r0_2 = part x 2
    ∧ View.ld x r0_3 = part x 3 :=
  ⟨load_part x 0 _, load_part x 1 _, load_part x 2 _, load_part x 3 _⟩

/-- What a point writes back. -/
theorem written : out0_1 (F := Ideal) (gradsAt m c t) = k0_pay1 (F := Ideal) (part (gradsAt m c t) 0) (part (gradsAt m c t) 1) (part (gradsAt m c t) 2)
    (part (gradsAt m c t) 3) := by
  unfold out0_1
  simp only [(ld_part _).1, (ld_part _).2.1, (ld_part _).2.2.1, (ld_part _).2.2.2]
  frame_out
  try rfl

theorem pay1_at (x : Vec Ideal S4x16x2048 .bf16) (p : Fin 16) (q : Fin 2048) :
    k0_pay1 (F := Ideal) (part x 0) (part x 1) (part x 2) (part x 3) (ix2 p q) = ∑ k : Fin 4, x (ix3 k p q) := by
  pointwise [k0_pay1, part, Fin.sum_univ_four]

/-- The blocks each window stages. -/
theorem idx : ∀ t : Fin cfg0.N, win0_0.index t = ![0, t.val, 0] ∧ win0_1.index t = ![t.val, 0] :=
  (by decide +kernel : ∀ t : Fin grid0.N, _)

/-- The rows of a point's block. -/
abbrev row (p : Fin 16) : Fin 944 := ⟨t.val * 16 + p.val, by have := t.isLt; have : cfg0.N = 59 := N_0; omega⟩

theorem grads_at (k : Fin 4) (p : Fin 16) (q : Fin 2048) : gradsAt m c t (ix3 k p q) = grads m c (ix3 k (row t p) q) := by
  blk_ext [iblk, idx t, row]

section reference

open Cert.ChipSumRefIdeal.Read

theorem ref_at (i : Fin 944) (q : Fin 2048) : val_main_v1 (F := Ideal) (grads m c) (ix2 i q) = ∑ k : Fin 4, grads m c (ix3 k i q) := by
  pointwise [val_main_v1, val_main_v0, val_main_cst]

end reference

/-- The result is the reference's. -/
theorem final : (dats m 0 c).arrAt 1 cfg0.N = Cert.ChipSumRefIdeal.Read.val_main_v1 (F := Ideal) (grads m c) := by
  refine (dats m 0 c).arrAt_eq_of_covers 1 _ (by decide +kernel) fun t _ y => ?_
  obtain ⟨p, q, rfl⟩ : ∃ (p : Fin 16) (q : Fin 2048), y = ix2 p q := ⟨y 0, y 1, by funext a; fin_cases a <;> rfl⟩
  have e : ((cfg0.win 1).blk t).view.emb (ix2 p q) = ix2 (row t p) q := by
    blk_ext [idx t, row]
  rw [e, ref_at]
  blk_simp
  rw [after0_1, written m c t, pay1_at]
  simp only [grads_at]

theorem frame_ref : Cert.quiescent_ChipSumRefIdeal (hChipSumRefIdeal := Cert.ChipSumRefIdeal.Gen.facts) := fun m ρ _ =>
  (θ_run Cert.ChipSumRefIdeal.defs _ _).mono (fun r h => ⟨fun c => (h c).2, sem_eq_zero_of_no_sems (by decide) r.2⟩)
    (Cert.ChipSumRefIdeal.Value.run (F := Ideal) m ρ)

theorem value : Cert.algebraic_ChipSumIdeal_ChipSumRefIdeal (hChipSumIdeal := Cert.ChipSumIdeal.Gen.facts)
    (hChipSumRefIdeal := Cert.ChipSumRefIdeal.Gen.facts) := by
  intro m g m' g' _ hagree
  refine ⟨fun c => (dats m 0 c).arrAt 1 cfg0.N,
    (θ_run _ _ _).mono (fun r h c => ⟨(h.1 c).1 1, h.2 c⟩) (θ_run_and (run_main m g) (unchanged m g)),
    (θ_run _ _ _).mono (fun r h c => ?_) (Cert.ChipSumRefIdeal.Value.run m' g')⟩
  have e0 := hagree c
  obtain ⟨h0, hargs⟩ := h c
  refine ⟨h0.trans ?_, hargs⟩
  rw [e0]
  exact (final m c).symm

end Cert.Rows.ChipSum

end

end
-- ==== Proof.PairSum.lean ====
/-
  The sum over a pair of cores of a gradient: its rows, in blocks of 64.
-/
module

public import proofs.«01_k».proof.Defs
public import proofs.«01_k».proof.Proof.Gen.PairSum.Frame
public import proofs.«01_k».proof.Proof.Gen.PairSumIdeal.Frame
public import proofs.«01_k».proof.Proof.Gen.PairSumRefIdeal.Run
public import proofs.«01_k».proof.Proof.Gen.PairSumRefIdeal.Read
public import Idealize.ShloMosaic.Lib.Pipeline.ValueKit
public import Idealize.ShloMosaic.Lib.StableHlo.RunRead
public import Idealize.ShloMosaic.Lib.Claim
public import Idealize.ShloMosaic.Lib.Pointwise
public import Idealize.ShloMosaic.Adequacy
public import Idealize.ShloMosaic.Init

@[expose] public section

set_option maxRecDepth 16384

noncomputable section

namespace Cert.Rows.PairSum

open Idealize.ShloMosaic Idealize.ShloMosaic.TcCoe Idealize.SL.Sem
open Cert.PairSumIdeal Cert.PairSumIdeal.Gen

variable (m : (ℓ : Loc nD τ sig) → Buf (Elt Ideal) ℓ) (c : Dev nD) (t : Fin cfg0.N)

/-- The two cores' gradients. -/
abbrev mine : FVec Ideal S4x944x2048 .f32 := m ((c : Thread nD τ).loc main_arg0)
abbrev other : FVec Ideal S4x944x2048 .f32 := m ((c : Thread nD τ).loc main_arg1)

/-- An array as rows of its last axis, and back. -/
abbrev flat (x : Vec Ideal S4x944x2048 .f32) : Vec Ideal S3776x2048 .f32 := shapeCast S3776x2048 x shapeCasts_S4x944x2048_S3776x2048
abbrev back (x : Vec Ideal S3776x2048 .bf16) : Vec Ideal S4x944x2048 .bf16 := shapeCast S4x944x2048 x shapeCasts_S3776x2048_S4x944x2048

/-- A point's blocks. -/
abbrev mineAt : FVec Ideal S64x2048 .f32 := iblk m c 0 t
abbrev otherAt : FVec Ideal S64x2048 .f32 := iblk m c 1 t

/-- What a point writes back. -/
theorem written : out0_2 (F := Ideal) (mineAt m c t) (otherAt m c t) = k0_pay1 (F := Ideal) (mineAt m c t) (otherAt m c t) := by
  unfold out0_2
  frame_out
  try rfl

theorem pay1_at (a b : Vec Ideal S64x2048 .f32) (i : S64x2048.Idx) : k0_pay1 (F := Ideal) a b i = a i + b i := by
  pointwise [k0_pay1]

/-- The blocks each window stages. -/
theorem idx : ∀ t : Fin cfg0.N, win0_0.index t = ![t.val, 0] ∧ win0_1.index t = ![t.val, 0] ∧ win0_2.index t = ![t.val, 0] :=
  (by decide +kernel : ∀ t : Fin grid0.N, _)

/-- The rows of a point's block. -/
abbrev row (p : Fin 64) : Fin 3776 := ⟨t.val * 64 + p.val, by have := t.isLt; have : cfg0.N = 59 := N_0; omega⟩

theorem flat_args : V m c main_v0 = flat (mine m c) ∧ V m c main_v1 = flat (other m c) := by
  refine ⟨?_, ?_⟩ <;>
  · unfold_abbrev_sides
    after_reads_simp
    rfl

theorem mine_at (p : Fin 64) (q : Fin 2048) : mineAt m c t (ix2 p q) = flat (mine m c) (ix2 (row t p) q) := by
  rw [← (flat_args m c).1]
  blk_ext [iblk, idx t, row]

theorem other_at (p : Fin 64) (q : Fin 2048) : otherAt m c t (ix2 p q) = flat (other m c) (ix2 (row t p) q) := by
  rw [← (flat_args m c).2]
  blk_ext [iblk, idx t, row]

/-- The array that the call writes. -/
theorem final : (dats m 0 c).arrAt 2 cfg0.N = fun i => flat (mine m c) i + flat (other m c) i := by
  refine (dats m 0 c).arrAt_eq_of_covers 2 _ (by decide +kernel) fun t _ y => ?_
  obtain ⟨p, q, rfl⟩ : ∃ (p : Fin 64) (q : Fin 2048), y = ix2 p q := ⟨y 0, y 1, by funext a; fin_cases a <;> rfl⟩
  have e : ((cfg0.win 2).blk t).view.emb (ix2 p q) = ix2 (row t p) q := by
    blk_ext [idx t, row]
  rw [e]
  blk_simp
  rw [after0_2, written m c t, pay1_at, mine_at, other_at]

/-- The result after the line that follows the call. -/
theorem inj : Function.Injective (Pipeline.arrRef spec0) := by decide

theorem after_3 : Pipeline.afterTail₀ cfgs (dats m) 0 (V0 m) [hostOps1] c main_v3 = back ((dats m 0 c).arrAt 2 cfg0.N) := by
  rw [← Pipeline.withArrays_arr spec0 inj c (V0 m c) (fun w => (dats m 0 c).arrAt w cfg0.N) 2]
  unfold Pipeline.afterTail₀
  generalize Pipeline.withArrays _ c (V0 m c) _ = W
  after_reads_simp
  rfl

/-- There and back is the array itself. -/
theorem back_flat (x : Vec Ideal S4x944x2048 .f32) (i : S4x944x2048.Idx) :
    flat x (Shape.reshapeEquiv shapeCasts_S3776x2048_S4x944x2048 i) = x i :=
  congrFun (shapeCast_shapeCast x shapeCasts_S4x944x2048_S3776x2048 shapeCasts_S3776x2048_S4x944x2048) i

theorem ref_at (i : S4x944x2048.Idx) : Cert.PairSumRefIdeal.Read.val_main_v1 (F := Ideal) (mine m c) (other m c) i = mine m c i + other m c i := by
  pointwise [Cert.PairSumRefIdeal.Read.val_main_v1, Cert.PairSumRefIdeal.Read.val_main_v0]

theorem result : back ((dats m 0 c).arrAt 2 cfg0.N) = Cert.PairSumRefIdeal.Read.val_main_v1 (F := Ideal) (mine m c) (other m c) := by
  funext i
  rw [ref_at, final]
  show flat (mine m c) _ + flat (other m c) _ = _
  rw [back_flat, back_flat]

theorem frame_ref : Cert.quiescent_PairSumRefIdeal (hPairSumRefIdeal := Cert.PairSumRefIdeal.Gen.facts) := fun m ρ _ =>
  (θ_run Cert.PairSumRefIdeal.defs _ _).mono (fun r h => ⟨fun c => (h c).2, sem_eq_zero_of_no_sems (by decide) r.2⟩)
    (Cert.PairSumRefIdeal.Value.run (F := Ideal) m ρ)

theorem value : Cert.algebraic_PairSumIdeal_PairSumRefIdeal (hPairSumIdeal := Cert.PairSumIdeal.Gen.facts)
    (hPairSumRefIdeal := Cert.PairSumRefIdeal.Gen.facts) := by
  intro m g m' g' _ hagree
  refine ⟨fun c => back ((dats m 0 c).arrAt 2 cfg0.N),
    (θ_run _ _ _).mono (fun r h c => ⟨((h.1 c).2 main_v3 (Pipeline.mem_restRefs_of main_v3 (by decide) (by decide))).trans (after_3 m c), h.2 c⟩)
      (θ_run_and (run_main m g) (unchanged m g)),
    (θ_run _ _ _).mono (fun r h c => ?_) (Cert.PairSumRefIdeal.Value.run m' g')⟩
  obtain ⟨e0, e1⟩ := hagree c
  obtain ⟨h0, hargs⟩ := h c
  refine ⟨h0.trans ?_, hargs⟩
  rw [e0, e1]
  exact (result m c).symm

end Cert.Rows.PairSum

end

end
-- ==== Proof.LnFwd.lean ====
/-
  The layer norm of the scaled residual plus a branch, row by row.
-/
module

public import proofs.«01_k».proof.Defs
public import proofs.«01_k».proof.Proof.Norm
public import proofs.«01_k».proof.Proof.Gen.LnFwd.Frame
public import proofs.«01_k».proof.Proof.Gen.LnFwdIdeal.Frame
public import proofs.«01_k».proof.Proof.Gen.LnFwdRefIdeal.Run
public import proofs.«01_k».proof.Proof.Gen.LnFwdRefIdeal.Read
public import Idealize.ShloMosaic.Lib.Pipeline.ValueKit
public import Idealize.ShloMosaic.Lib.StableHlo.RunRead
public import Idealize.ShloMosaic.Lib.Claim
public import Idealize.ShloMosaic.Lib.Pointwise
public import Idealize.ShloMosaic.Adequacy
public import Idealize.ShloMosaic.Init

@[expose] public section

set_option maxRecDepth 16384

noncomputable section

namespace Cert.Rows.LnFwd

open Idealize.ShloMosaic Idealize.ShloMosaic.TcCoe Idealize.SL.Sem
open Cert.LnFwdIdeal Cert.LnFwdIdeal.Gen

variable (m : (ℓ : Loc nD τ sig) → Buf (Elt Ideal) ℓ) (c : Dev nD) (t : Fin cfg0.N)

/-- The residual, the branch, the gain and the shift. -/
abbrev resid : FVec Ideal S4096x2048 .f32 := m ((c : Thread nD τ).loc main_arg0)
abbrev branch : FVec Ideal S4096x2048 .f32 := m ((c : Thread nD τ).loc main_arg1)
abbrev gain : FVec Ideal S1x2048 .f32 := m ((c : Thread nD τ).loc main_arg2)
abbrev shift : FVec Ideal S1x2048 .f32 := m ((c : Thread nD τ).loc main_arg3)

/-- A point's blocks. -/
abbrev residAt : FVec Ideal S256x2048 .f32 := iblk m c 0 t
abbrev branchAt : FVec Ideal S256x2048 .f32 := iblk m c 1 t
abbrev gainAt : FVec Ideal S1x2048 .f32 := iblk m c 2 t
abbrev shiftAt : FVec Ideal S1x2048 .f32 := iblk m c 3 t

/-- What a point writes back. -/
theorem written : out0_4 (F := Ideal) (residAt m c t) (branchAt m c t) (gainAt m c t) (shiftAt m c t)
    = k0_pay1 (F := Ideal) (residAt m c t) (branchAt m c t) (gainAt m c t) (shiftAt m c t) := by
  unfold out0_4
  frame_out
  try rfl

theorem pay1_at (x y : Vec Ideal S256x2048 .f32) (g b : Vec Ideal S1x2048 .f32) (p : Fin 256) (q : Fin 2048) :
    k0_pay1 (F := Ideal) x y g b (ix2 p q)
      = Cert.Norm.out (fun k => x (ix2 p k)) (fun k => y (ix2 p k)) (fun k => g (ix2 0 k)) (fun k => b (ix2 0 k)) q := by
  pointwise [k0_pay1, Cert.Norm.out, Cert.Norm.inv, Cert.Norm.var, Cert.Norm.dev, Cert.Norm.scale, Cert.Norm.count, Cert.Norm.small]

/-- The blocks each window stages. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] :=
  (by decide +kernel : ∀ t : Fin grid0.N, _)

/-- The rows of a point's block. -/
abbrev row (p : Fin 256) : Fin 4096 := ⟨t.val * 256 + p.val, by have := t.isLt; have : cfg0.N = 16 := N_0; omega⟩

theorem resid_at (p : Fin 256) (q : Fin 2048) : residAt m c t (ix2 p q) = resid m c (ix2 (row t p) q) := by
  blk_ext [iblk, idx t, row]

theorem branch_at (p : Fin 256) (q : Fin 2048) : branchAt m c t (ix2 p q) = branch m c (ix2 (row t p) q) := by
  blk_ext [iblk, idx t, row]

theorem gain_at (q : Fin 2048) : gainAt m c t (ix2 0 q) = gain m c (ix2 0 q) := by
  blk_ext [iblk, idx t]

theorem shift_at (q : Fin 2048) : shiftAt m c t (ix2 0 q) = shift m c (ix2 0 q) := by
  blk_ext [iblk, idx t]

section reference

open Cert.LnFwdRefIdeal.Read

variable (x y : FVec Ideal S4096x2048 .f32) (g b : FVec Ideal S1x2048 .f32) (p : Fin 4096) (q : Fin 2048)

theorem idx3 (k : Fin 2048) : idx_main_v3 (ix1 p) k = ix2 p k := by funext j; fin_cases j <;> rfl

theorem idx10 (k : Fin 2048) : idx_main_v10 (ix1 p) k = ix2 p k := by funext j; fin_cases j <;> rfl

/-- The reference's deviation, inverse root and result. -/
theorem ref_dev : val_main_v8 (F := Ideal) x y (ix2 p q) = Cert.Norm.dev (fun k => x (ix2 p k)) (fun k => y (ix2 p k)) q := by
  pointwise [val_main_v8, val_main_v7, val_main_v6, val_main_v5, val_main_v4, val_main_v3_apply, val_main_v2, val_main_v1, val_main_v0,
    val_main_cst, val_main_cst_0, val_main_cst_1, idx3, Cert.Norm.dev, Cert.Norm.scale, Cert.Norm.count]

theorem ref_inv : val_main_v16 (F := Ideal) x y (ix2 p 0) = Cert.Norm.inv (fun k => x (ix2 p k)) (fun k => y (ix2 p k)) := by
  pointwise [val_main_v16, val_main_v15, val_main_v14, val_main_v13, val_main_v12, val_main_v11, val_main_v10_apply, val_main_v9,
    val_main_cst_2, val_main_cst_3, val_main_cst_4, idx10, ref_dev, Cert.Norm.inv, Cert.Norm.var, Cert.Norm.count, Cert.Norm.small]

theorem ref_out : val_main_v22 (F := Ideal) x y g b (ix2 p q)
    = Cert.Norm.out (fun k => x (ix2 p k)) (fun k => y (ix2 p k)) (fun k => g (ix2 0 k)) (fun k => b (ix2 0 k)) q := by
  pointwise [val_main_v22, val_main_v21, val_main_v20, val_main_v19, val_main_v18, val_main_v17, ref_dev, ref_inv, Cert.Norm.out]

end reference

/-- The result is the reference's. -/
theorem final : (dats m 0 c).arrAt 4 cfg0.N
    = Cert.LnFwdRefIdeal.Read.val_main_v22 (F := Ideal) (resid m c) (branch m c) (gain m c) (shift m c) := by
  refine (dats m 0 c).arrAt_eq_of_covers 4 _ (by decide +kernel) fun t _ y => ?_
  obtain ⟨p, q, rfl⟩ : ∃ (p : Fin 256) (q : Fin 2048), y = ix2 p q := ⟨y 0, y 1, by funext a; fin_cases a <;> rfl⟩
  have e : ((cfg0.win 4).blk t).view.emb (ix2 p q) = ix2 (row t p) q := by
    blk_ext [idx t, row]
  rw [e, ref_out]
  blk_simp
  rw [after0_4, written m c t, pay1_at]
  simp only [resid_at, branch_at, gain_at, shift_at]

theorem frame_ref : Cert.quiescent_LnFwdRefIdeal (hLnFwdRefIdeal := Cert.LnFwdRefIdeal.Gen.facts) := fun m ρ _ =>
  (θ_run Cert.LnFwdRefIdeal.defs _ _).mono (fun r h => ⟨fun c => (h c).2, sem_eq_zero_of_no_sems (by decide) r.2⟩)
    (Cert.LnFwdRefIdeal.Value.run (F := Ideal) m ρ)

theorem value : Cert.algebraic_LnFwdIdeal_LnFwdRefIdeal (hLnFwdIdeal := Cert.LnFwdIdeal.Gen.facts)
    (hLnFwdRefIdeal := Cert.LnFwdRefIdeal.Gen.facts) := by
  intro m g m' g' _ hagree
  refine ⟨fun c => (dats m 0 c).arrAt 4 cfg0.N,
    (θ_run _ _ _).mono (fun r h c => ⟨(h.1 c).1 4, h.2 c⟩) (θ_run_and (run_main m g) (unchanged m g)),
    (θ_run _ _ _).mono (fun r h c => ?_) (Cert.LnFwdRefIdeal.Value.run m' g')⟩
  obtain ⟨e0, e1, e2, e3⟩ := hagree c
  obtain ⟨h0, hargs⟩ := h c
  refine ⟨h0.trans ?_, hargs⟩
  rw [e0, e1, e2, e3]
  exact (final m c).symm

end Cert.Rows.LnFwd

end

end
-- ==== Proof.LnBwd.lean ====
/-
  The gradient of the layer norm: of the residual and the branch row by row, of the gain and the shift by sums over the rows.
-/
module

public import proofs.«01_k».proof.Defs
public import proofs.«01_k».proof.Proof.Norm
public import proofs.«01_k».proof.Proof.Gen.LnBwd.Frame
public import proofs.«01_k».proof.Proof.Gen.LnBwdIdeal.Frame
public import proofs.«01_k».proof.Proof.Gen.LnBwdRefIdeal.Run
public import proofs.«01_k».proof.Proof.Gen.LnBwdRefIdeal.Read
public import Idealize.ShloMosaic.Lib.Pipeline.ValueKit
public import Idealize.ShloMosaic.Lib.StableHlo.RunRead
public import Idealize.ShloMosaic.Lib.Claim
public import Idealize.ShloMosaic.Lib.Pointwise
public import Idealize.ShloMosaic.Adequacy
public import Idealize.ShloMosaic.Init

@[expose] public section

set_option maxRecDepth 16384

noncomputable section

namespace Cert.Rows.LnBwd

open Idealize.ShloMosaic Idealize.ShloMosaic.TcCoe Idealize.SL.Sem
open Cert.LnBwdIdeal Cert.LnBwdIdeal.Gen

variable (m : (ℓ : Loc nD τ sig) → Buf (Elt Ideal) ℓ) (c : Dev nD) (t : Fin cfg0.N)

/-- The residual, the branch, the gain and the cotangent. -/
abbrev resid : FVec Ideal S4096x2048 .f32 := m ((c : Thread nD τ).loc main_arg0)
abbrev branch : FVec Ideal S4096x2048 .f32 := m ((c : Thread nD τ).loc main_arg1)
abbrev gain : FVec Ideal S1x2048 .f32 := m ((c : Thread nD τ).loc main_arg2)
abbrev cot : FVec Ideal S4096x2048 .f32 := m ((c : Thread nD τ).loc main_arg4)

/-- A point's blocks. -/
abbrev residAt : FVec Ideal S256x2048 .f32 := iblk m c 0 t
abbrev branchAt : FVec Ideal S256x2048 .f32 := iblk m c 1 t
abbrev gainAt : FVec Ideal S1x2048 .f32 := iblk m c 2 t
abbrev cotAt : FVec Ideal S256x2048 .f32 := iblk m c 4 t

/-- The number of channels, as the kernel hands it on. -/
abbrev n2048 : Ideal .f32 := Scalar.ofBits .f32 0x45000000#32

/-- The running sums for the gain and for the shift after a point. -/
def accGain (n : ℕ) (hn : n < cfg0.N) : Vec Ideal S1x2048 .f32 := (outsAt0 m c n hn).2.2.1
def accShift (n : ℕ) (hn : n < cfg0.N) : Vec Ideal S1x2048 .f32 := (outsAt0 m c n hn).2.2.2

/-- What every point writes back. -/
theorem written_rows : (outsAt0 m c t.val t.isLt).1 = k0_pay11 (F := Ideal) (k0_pay1 (F := Ideal) (residAt m c t) (branchAt m c t)) (k0_pay8 (F := Ideal) (residAt m c t) (branchAt m c t) (gainAt m c t) (cotAt m c t)) (k0_pay9 (F := Ideal) (residAt m c t) (branchAt m c t) (gainAt m c t) (cotAt m c t)) n2048
    ∧ (outsAt0 m c t.val t.isLt).2.1 = k0_pay12 (F := Ideal) (k0_pay1 (F := Ideal) (residAt m c t) (branchAt m c t)) (k0_pay8 (F := Ideal) (residAt m c t) (branchAt m c t) (gainAt m c t) (cotAt m c t)) (k0_pay9 (F := Ideal) (residAt m c t) (branchAt m c t) (gainAt m c t) (cotAt m c t)) n2048 := by
  by_cases h0 : t.val % 16 = 0
  · rw [outsAt0_A m c t h0]
    dsimp only
    constructor <;> (frame_out; try rfl)
  · rw [outsAt0_B m c t h0]
    dsimp only
    constructor <;> (frame_out; try rfl)

/-- The first point's sums start from zero, and every other goes on from the point before. -/
theorem acc_first (h0 : t.val % 16 = 0) : accGain m c t.val t.isLt = k0_pay15 (F := Ideal) (k0_pay6 (F := Ideal) (residAt m c t) (branchAt m c t) (cotAt m c t)) (k0_pay13 (F := Ideal))
    ∧ accShift m c t.val t.isLt = k0_pay16 (F := Ideal) (k0_pay5 (F := Ideal) (cotAt m c t)) (k0_pay14 (F := Ideal)) := by
  unfold accGain accShift
  rw [outsAt0_A m c t h0]
  dsimp only
  constructor <;> (frame_out; try rfl)

theorem acc_next (h0 : ¬t.val % 16 = 0) :
    accGain m c t.val t.isLt = k0_pay15 (F := Ideal) (k0_pay6 (F := Ideal) (residAt m c t) (branchAt m c t) (cotAt m c t)) (accGain m c (t.val - 1) (by omega))
    ∧ accShift m c t.val t.isLt = k0_pay16 (F := Ideal) (k0_pay5 (F := Ideal) (cotAt m c t)) (accShift m c (t.val - 1) (by omega)) := by
  unfold accGain accShift
  rw [outsAt0_B m c t h0]
  dsimp only
  constructor <;> (frame_out; try simp only [(Memref.isWhole_whole _).read_unread]; try rfl)

section payloads

variable (x y d : Vec Ideal S256x2048 .f32) (g : Vec Ideal S1x2048 .f32) (p : Fin 256) (q : Fin 2048)

theorem pay1_at : k0_pay1 (F := Ideal) x y (ix2 p q) = Cert.Norm.dev (fun k => x (ix2 p k)) (fun k => y (ix2 p k)) q := by
  pointwise [k0_pay1, Cert.Norm.dev, Cert.Norm.scale, Cert.Norm.count]

theorem pay2_at : k0_pay2 (F := Ideal) x y (ix2 p 0) = Cert.Norm.var (fun k => x (ix2 p k)) (fun k => y (ix2 p k)) := by
  pointwise [k0_pay2, pay1_at, Cert.Norm.var, Cert.Norm.count, Cert.Norm.small]

theorem pay3_at : k0_pay3 (F := Ideal) x y (ix2 p 0) = Cert.Norm.inv (fun k => x (ix2 p k)) (fun k => y (ix2 p k)) := by
  pointwise [k0_pay3, pay2_at, Cert.Norm.inv]

theorem pay7_at : k0_pay7 (F := Ideal) g d (ix2 p q) = Cert.Norm.lift (fun k => g (ix2 0 k)) (fun k => d (ix2 p k)) q := by
  pointwise [k0_pay7, k0_pay4, shapeCast_self, Cert.Norm.lift]

theorem pay8_at : k0_pay8 (F := Ideal) x y g d (ix2 p q) = Cert.Norm.lift (fun k => g (ix2 0 k)) (fun k => d (ix2 p k)) q
    * Cert.Norm.inv (fun k => x (ix2 p k)) (fun k => y (ix2 p k)) := by
  pointwise [k0_pay8, pay7_at, pay3_at]

theorem pay9_at : Ideal.div (k0_pay9 (F := Ideal) x y g d (ix2 p 0)) n2048
    = Cert.Norm.slope (fun k => x (ix2 p k)) (fun k => y (ix2 p k)) (fun k => g (ix2 0 k)) (fun k => d (ix2 p k)) := by
  pointwise [k0_pay9, pay7_at, pay3_at, pay2_at, pay1_at, Cert.Norm.slope, Cert.Norm.minusHalf, Cert.Norm.count]

theorem pay10_at : k0_pay10 (F := Ideal) (k0_pay1 (F := Ideal) x y) (k0_pay8 (F := Ideal) x y g d) (k0_pay9 (F := Ideal) x y g d) n2048 (ix2 p q)
    = Cert.Norm.ofSum (fun k => x (ix2 p k)) (fun k => y (ix2 p k)) (fun k => g (ix2 0 k)) (fun k => d (ix2 p k)) q := by
  have e : Ideal.div (k0_pay9 (F := Ideal) x y g d (ix2 p 0)) (Ideal.ofBits .f32 0x45000000#32) = _ := pay9_at x y d g p
  pointwise [k0_pay10, pay1_at, pay8_at, Fin.sum_univ_one, zero_sub, Cert.Norm.ofSum, Cert.Norm.ofDev, Cert.Norm.count, add_assoc]
  simp only [e]

theorem pay6_at : k0_pay6 (F := Ideal) x y d (ix2 0 q) = ∑ k : Fin 256, Cert.Norm.dev (fun l => x (ix2 k l)) (fun l => y (ix2 k l)) q
    * Cert.Norm.inv (fun l => x (ix2 k l)) (fun l => y (ix2 k l)) * d (ix2 k q) := by
  pointwise [k0_pay6, k0_pay4, shapeCast_self, pay1_at, pay3_at]

theorem pay5_at : k0_pay5 (F := Ideal) d (ix2 0 q) = ∑ k : Fin 256, d (ix2 k q) := by
  pointwise [k0_pay5]

theorem pay15_at (a b : Vec Ideal S1x2048 .f32) (i : S1x2048.Idx) : k0_pay15 (F := Ideal) a b i = b i + a i := by
  pointwise [k0_pay15, shapeCast_self]

theorem pay16_at (a b : Vec Ideal S1x2048 .f32) (i : S1x2048.Idx) : k0_pay16 (F := Ideal) a b i = b i + a i := by
  pointwise [k0_pay16, shapeCast_self]

theorem zeros (i : S1x2048.Idx) : k0_pay13 (F := Ideal) i = 0 ∧ k0_pay14 (F := Ideal) i = 0 := by
  constructor <;> pointwise [k0_pay13, k0_pay14]

end payloads

/-- The blocks each window stages. -/
theorem idx : ∀ t : Fin cfg0.N, win0_0.index t = ![t.val, 0] ∧ win0_1.index t = ![t.val, 0] ∧ win0_2.index t = ![0, 0]
    ∧ win0_4.index t = ![t.val, 0] ∧ win0_5.index t = ![t.val, 0] ∧ win0_6.index t = ![t.val, 0] ∧ win0_7.index t = ![0, 0]
    ∧ win0_8.index t = ![0, 0] :=
  (by decide +kernel : ∀ t : Fin grid0.N, _)

/-- The rows of a point's block. -/
abbrev row (p : Fin 256) : Fin 4096 := ⟨t.val * 256 + p.val, by have := t.isLt; have : cfg0.N = 16 := N_0; omega⟩

theorem resid_at (p : Fin 256) (q : Fin 2048) : residAt m c t (ix2 p q) = resid m c (ix2 (row t p) q) := by
  blk_ext [iblk, idx t, row]

theorem branch_at (p : Fin 256) (q : Fin 2048) : branchAt m c t (ix2 p q) = branch m c (ix2 (row t p) q) := by
  blk_ext [iblk, idx t, row]

theorem cot_at (p : Fin 256) (q : Fin 2048) : cotAt m c t (ix2 p q) = cot m c (ix2 (row t p) q) := by
  blk_ext [iblk, idx t, row]

theorem gain_at (q : Fin 2048) : gainAt m c t (ix2 0 q) = gain m c (ix2 0 q) := by
  blk_ext [iblk, idx t]

section reference

open Cert.LnBwdRefIdeal.Read

variable (x y d : FVec Ideal S4096x2048 .f32) (g : FVec Ideal S1x2048 .f32) (p : Fin 4096) (q : Fin 2048)

theorem idx3 (k : Fin 2048) : idx_main_v3 (ix1 p) k = ix2 p k := by funext j; fin_cases j <;> rfl
theorem idx12 (k : Fin 2048) : idx_main_v12 (ix1 p) k = ix2 p k := by funext j; fin_cases j <;> rfl
theorem idx37 (k : Fin 2048) : idx_main_v37 (ix1 p) k = ix2 p k := by funext j; fin_cases j <;> rfl
theorem idx49 (k : Fin 2048) : idx_main_v49 (ix1 p) k = ix2 p k := by funext j; fin_cases j <;> rfl
theorem idx44 (k : Fin 1) : idx_main_v44 (ix1 p) k = ix2 p 0 := by funext j; fin_cases j; · rfl
                                                                   · exact Fin.ext (by have := k.isLt; show k.val = 0; omega)
theorem idx53 (k : Fin 1) : idx_main_v53 (ix1 p) k = ix2 p 0 := by funext j; fin_cases j; · rfl
                                                                   · exact Fin.ext (by have := k.isLt; show k.val = 0; omega)
theorem idx29 (k : Fin 4096) : idx_main_v29 (ix1 q) k = ix2 k q := by funext j; fin_cases j <;> rfl
theorem idx32 (k : Fin 4096) : idx_main_v32 (ix1 q) k = ix2 k q := by funext j; fin_cases j <;> rfl

theorem ref_dev : val_main_v8 (F := Ideal) x y (ix2 p q) = Cert.Norm.dev (fun k => x (ix2 p k)) (fun k => y (ix2 p k)) q := by
  pointwise [val_main_v8, val_main_v7, val_main_v6, val_main_v5, val_main_v4, val_main_v3_apply, val_main_v2, val_main_v1, val_main_v0,
    val_main_cst, val_main_cst_0, val_main_cst_1, idx3, Cert.Norm.dev, Cert.Norm.scale, Cert.Norm.count]

theorem ref_var : val_main_v17 (F := Ideal) x y (ix2 p 0) = Cert.Norm.var (fun k => x (ix2 p k)) (fun k => y (ix2 p k)) := by
  pointwise [val_main_v17, val_main_v16, val_main_v15, val_main_v14, val_main_v13, val_main_v12_apply, val_main_v9,
    val_main_cst_3, val_main_cst_4, val_main_cst_5, idx12, ref_dev, Cert.Norm.var, Cert.Norm.count, Cert.Norm.small]

theorem ref_inv : val_main_v18 (F := Ideal) x y (ix2 p 0) = Cert.Norm.inv (fun k => x (ix2 p k)) (fun k => y (ix2 p k)) := by
  pointwise [val_main_v18, ref_var, Cert.Norm.inv]

theorem ref_lift : val_main_v35 (F := Ideal) g d (ix2 p q) = Cert.Norm.lift (fun k => g (ix2 0 k)) (fun k => d (ix2 p k)) q := by
  pointwise [val_main_v35, val_main_v34, val_main_v28, shapeCast_self, Cert.Norm.lift]

theorem ref_slope : val_main_v43 (F := Ideal) x y g d (ix2 p 0)
    = Cert.Norm.slope (fun k => x (ix2 p k)) (fun k => y (ix2 p k)) (fun k => g (ix2 0 k)) (fun k => d (ix2 p k)) := by
  pointwise [val_main_v43, val_main_v42, val_main_v41, val_main_v38, val_main_v37_apply, val_main_v36, val_main_v21, val_main_v20, val_main_v19,
    val_main_cst_6, val_main_cst_9, val_main_cst_10, idx37, ref_lift, ref_inv, ref_var, ref_dev,
    Cert.Norm.slope, Cert.Norm.minusHalf, Cert.Norm.count]

theorem ref_ofDev : val_main_v47 (F := Ideal) x y g d (ix2 p q)
    = Cert.Norm.ofDev (fun k => x (ix2 p k)) (fun k => y (ix2 p k)) (fun k => g (ix2 0 k)) (fun k => d (ix2 p k)) q := by
  rw [Cert.Norm.ofDev, ← Cert.Norm.double]
  pointwise [val_main_v47, val_main_v46, val_main_v45, val_main_v44_apply, val_main_v40, val_main_v39, val_main_v11, val_main_v10,
    val_main_cst_2, val_main_cst_11, idx44, ref_lift, ref_inv, ref_dev, ref_slope]
  rw [Fin.sum_univ_one, Cert.Norm.two]

theorem ref_ofSum : val_main_v55 (F := Ideal) x y g d (ix2 p q)
    = Cert.Norm.ofSum (fun k => x (ix2 p k)) (fun k => y (ix2 p k)) (fun k => g (ix2 0 k)) (fun k => d (ix2 p k)) q := by
  pointwise [val_main_v55, val_main_v54, val_main_v53_apply, val_main_v52, val_main_v51, val_main_v50, val_main_v49_apply, val_main_v48,
    val_main_cst_12, val_main_cst_13, val_main_cst_14, idx53, idx49, ref_ofDev, Cert.Norm.ofSum, Cert.Norm.count]
  rw [Fin.sum_univ_one]

theorem ref_gain : val_main_v33 (F := Ideal) x y d (ix2 0 q) = ∑ k : Fin 4096, Cert.Norm.dev (fun l => x (ix2 k l)) (fun l => y (ix2 k l)) q
    * Cert.Norm.inv (fun l => x (ix2 k l)) (fun l => y (ix2 k l)) * d (ix2 k q) := by
  pointwise [val_main_v33, val_main_v32_apply, val_main_v31, val_main_v28, val_main_v23, val_main_v22, val_main_cst_8, idx32, ref_dev, ref_inv,
    shapeCast_self]

theorem ref_shift : val_main_v30 (F := Ideal) d (ix2 0 q) = ∑ k : Fin 4096, d (ix2 k q) := by
  pointwise [val_main_v30, val_main_v29_apply, val_main_cst_7, idx29]

end reference

/-- A point's rows of the two gradients. -/
theorem ofSum_at (p : Fin 256) (q : Fin 2048) :
    k0_pay10 (F := Ideal) (k0_pay1 (F := Ideal) (residAt m c t) (branchAt m c t)) (k0_pay8 (F := Ideal) (residAt m c t) (branchAt m c t) (gainAt m c t) (cotAt m c t)) (k0_pay9 (F := Ideal) (residAt m c t) (branchAt m c t) (gainAt m c t) (cotAt m c t)) n2048 (ix2 p q)
    = Cert.LnBwdRefIdeal.Read.val_main_v55 (F := Ideal) (resid m c) (branch m c) (gain m c) (cot m c) (ix2 (row t p) q) := by
  rw [pay10_at, ref_ofSum]
  simp only [resid_at, branch_at, gain_at, cot_at]

theorem final_5 : (dats m 0 c).arrAt 5 cfg0.N = Cert.LnBwdRefIdeal.Read.val_main_v57 (F := Ideal) (resid m c) (branch m c) (gain m c) (cot m c) := by
  refine (dats m 0 c).arrAt_eq_of_covers 5 _ (by decide +kernel) fun t _ y => ?_
  obtain ⟨p, q, rfl⟩ : ∃ (p : Fin 256) (q : Fin 2048), y = ix2 p q := ⟨y 0, y 1, by funext a; fin_cases a <;> rfl⟩
  have e : ((cfg0.win 5).blk t).view.emb (ix2 p q) = ix2 (row t p) q := by
    blk_ext [idx t, row]
  rw [e, Cert.LnBwdRefIdeal.Read.val_main_v57_apply, ← ofSum_at m c t]
  blk_simp
  rw [after0_5, (written_rows m c t).1]
  pointwise [k0_pay11, Cert.LnBwdRefIdeal.Read.val_main_v56, Cert.LnBwdRefIdeal.Read.val_main_cst_15]

theorem final_6 : (dats m 0 c).arrAt 6 cfg0.N = Cert.LnBwdRefIdeal.Read.val_main_v58 (F := Ideal) (resid m c) (branch m c) (gain m c) (cot m c) := by
  refine (dats m 0 c).arrAt_eq_of_covers 6 _ (by decide +kernel) fun t _ y => ?_
  obtain ⟨p, q, rfl⟩ : ∃ (p : Fin 256) (q : Fin 2048), y = ix2 p q := ⟨y 0, y 1, by funext a; fin_cases a <;> rfl⟩
  have e : ((cfg0.win 6).blk t).view.emb (ix2 p q) = ix2 (row t p) q := by
    blk_ext [idx t, row]
  rw [e, Cert.LnBwdRefIdeal.Read.val_main_v58_apply, ← ofSum_at m c t]
  blk_simp
  rw [after0_6, (written_rows m c t).2]
  pointwise [k0_pay12]

/-- A row of all the rows, from the point that holds it. -/
theorem row_of (s : Fin 16) (u : Fin cfg0.N) (hu : u.val = 16 * (t.val / 16) + s.val) (k : Fin 256) (hl : s.val * 256 + k.val < 4096) :
    row u k = ⟨s.val * 256 + k.val, hl⟩ :=
  Fin.ext (by have := t.isLt; have : cfg0.N = 16 := N_0; show u.val * 256 + k.val = s.val * 256 + k.val; omega)

theorem gain_last (h : t.val % 16 = 15) (q : Fin 2048) : accGain m c t.val t.isLt (ix2 0 q)
    = Cert.LnBwdRefIdeal.Read.val_main_v33 (F := Ideal) (resid m c) (branch m c) (cot m c) (ix2 0 q) := by
  rw [ref_gain]
  refine Cert.Norm.columns (J := 16) (n := 256) rfl (fun n hn q => accGain m c n hn (ix2 0 q))
    (fun u q k => Cert.Norm.dev (fun l => resid m c (ix2 (row u k) l)) (fun l => branch m c (ix2 (row u k) l)) q
      * Cert.Norm.inv (fun l => resid m c (ix2 (row u k) l)) (fun l => branch m c (ix2 (row u k) l)) * cot m c (ix2 (row u k) q))
    (fun u h0 q => ?_) (fun u h0 q => ?_) t h
    (fun q k => Cert.Norm.dev (fun l => resid m c (ix2 k l)) (fun l => branch m c (ix2 k l)) q
      * Cert.Norm.inv (fun l => resid m c (ix2 k l)) (fun l => branch m c (ix2 k l)) * cot m c (ix2 k q))
    (fun s u hu q k hl => ?_) q
  · rw [(acc_first m c u h0).1, pay15_at, (zeros _).1, pay6_at]
    simp only [resid_at, branch_at, cot_at]
  · rw [(acc_next m c u h0).1, pay15_at, pay6_at]
    simp only [resid_at, branch_at, cot_at]
  · rw [row_of t s u hu k hl]

theorem shift_last (h : t.val % 16 = 15) (q : Fin 2048) : accShift m c t.val t.isLt (ix2 0 q)
    = Cert.LnBwdRefIdeal.Read.val_main_v30 (F := Ideal) (cot m c) (ix2 0 q) := by
  rw [ref_shift]
  refine Cert.Norm.columns (J := 16) (n := 256) rfl (fun n hn q => accShift m c n hn (ix2 0 q)) (fun u q k => cot m c (ix2 (row u k) q))
    (fun u h0 q => ?_) (fun u h0 q => ?_) t h (fun q k => cot m c (ix2 k q)) (fun s u hu q k hl => ?_) q
  · rw [(acc_first m c u h0).2, pay16_at, (zeros _).2, pay5_at]
    simp only [cot_at]
  · rw [(acc_next m c u h0).2, pay16_at, pay5_at]
    simp only [cot_at]
  · rw [row_of t s u hu k hl]

theorem final_7 : (dats m 0 c).arrAt 7 cfg0.N = Cert.LnBwdRefIdeal.Read.val_main_v33 (F := Ideal) (resid m c) (branch m c) (cot m c) := by
  refine (dats m 0 c).arrAt_eq_of_covers 7 _ (by decide +kernel) fun t hf y => ?_
  have h1 := (flush0_7 t).mp hf
  obtain ⟨r, q, rfl⟩ : ∃ (r : Fin 1) (q : Fin 2048), y = ix2 r q := ⟨y 0, y 1, by funext a; fin_cases a <;> rfl⟩
  obtain rfl : r = 0 := Subsingleton.elim _ _
  have e : ((cfg0.win 7).blk t).view.emb (ix2 0 q) = ix2 0 q := by
    blk_ext [idx t]
  rw [e, ← gain_last m c t h1]
  blk_simp
  rw [after0_7, accGain]

theorem final_8 : (dats m 0 c).arrAt 8 cfg0.N = Cert.LnBwdRefIdeal.Read.val_main_v30 (F := Ideal) (cot m c) := by
  refine (dats m 0 c).arrAt_eq_of_covers 8 _ (by decide +kernel) fun t hf y => ?_
  have h1 := (flush0_8 t).mp hf
  obtain ⟨r, q, rfl⟩ : ∃ (r : Fin 1) (q : Fin 2048), y = ix2 r q := ⟨y 0, y 1, by funext a; fin_cases a <;> rfl⟩
  obtain rfl : r = 0 := Subsingleton.elim _ _
  have e : ((cfg0.win 8).blk t).view.emb (ix2 0 q) = ix2 0 q := by
    blk_ext [idx t]
  rw [e, ← shift_last m c t h1]
  blk_simp
  rw [after0_8, accShift]

theorem frame_ref : Cert.quiescent_LnBwdRefIdeal (hLnBwdRefIdeal := Cert.LnBwdRefIdeal.Gen.facts) := fun m ρ _ =>
  (θ_run Cert.LnBwdRefIdeal.defs _ _).mono (fun r h => ⟨fun c => (h c).2.2.2.2, sem_eq_zero_of_no_sems (by decide) r.2⟩)
    (Cert.LnBwdRefIdeal.Value.run (F := Ideal) m ρ)

theorem value : Cert.algebraic_LnBwdIdeal_LnBwdRefIdeal (hLnBwdIdeal := Cert.LnBwdIdeal.Gen.facts)
    (hLnBwdRefIdeal := Cert.LnBwdRefIdeal.Gen.facts) := by
  intro m g m' g' _ hagree
  refine ⟨fun c => (dats m 0 c).arrAt 5 cfg0.N, fun c => (dats m 0 c).arrAt 6 cfg0.N, fun c => (dats m 0 c).arrAt 7 cfg0.N,
    fun c => (dats m 0 c).arrAt 8 cfg0.N,
    (θ_run _ _ _).mono (fun r h c => ⟨(h.1 c).1 5, (h.1 c).1 6, (h.1 c).1 7, (h.1 c).1 8, h.2 c⟩)
      (θ_run_and (run_main m g) (unchanged m g)),
    (θ_run _ _ _).mono (fun r h c => ?_) (Cert.LnBwdRefIdeal.Value.run m' g')⟩
  obtain ⟨e0, e1, e2, e3, e4⟩ := hagree c
  obtain ⟨h5, h6, h7, h8, hargs⟩ := h c
  refine ⟨h5.trans ?_, h6.trans ?_, h7.trans ?_, h8.trans ?_, hargs⟩
  · rw [Cert.LnBwdRefIdeal.Read.val_main_v57_eq, e0, e1, e2, e4]; exact (final_5 m c).symm
  · rw [Cert.LnBwdRefIdeal.Read.val_main_v58_eq, e0, e1, e2, e4]; exact (final_6 m c).symm
  · rw [e0, e1, e4]; exact (final_7 m c).symm
  · rw [e4]; exact (final_8 m c).symm

end Cert.Rows.LnBwd

end

end
-- ==== Proof.MainDb.lean ====
/-
  The gradient of the projections' bias: each column of the cotangent summed over its 4096 rows.
-/
module

public import proofs.«01_k».proof.Defs
public import proofs.«01_k».proof.Proof.Gen.MainDb.Frame
public import proofs.«01_k».proof.Proof.Gen.MainDbIdeal.Frame
public import proofs.«01_k».proof.Proof.Gen.MainDbRefIdeal.Run
public import proofs.«01_k».proof.Proof.Gen.MainDbRefIdeal.Read
public import Idealize.ShloMosaic.Lib.Pipeline.ValueKit
public import Idealize.ShloMosaic.Lib.StableHlo.RunRead
public import Idealize.ShloMosaic.Lib.Claim
public import Idealize.ShloMosaic.Lib.Pointwise
public import Idealize.ShloMosaic.Adequacy
public import Idealize.ShloMosaic.Init

@[expose] public section

set_option maxRecDepth 16384

noncomputable section

namespace Cert.Rows.MainDb

open Idealize.ShloMosaic Idealize.ShloMosaic.TcCoe Idealize.SL.Sem
open Cert.MainDbIdeal Cert.MainDbIdeal.Gen

variable (m : (ℓ : Loc nD τ sig) → Buf (Elt Ideal) ℓ) (c : Dev nD) (t : Fin cfg0.N)

/-- The cotangent. -/
abbrev cot : FVec Ideal S4096x15360 .f32 := m ((c : Thread nD τ).loc main_arg0)

/-- A point's block of it. -/
abbrev cotAt : FVec Ideal S4096x512 .f32 := iblk m c 0 t

/-- What a point writes back. -/
theorem written : out0_1 (F := Ideal) (cotAt m c t) = k0_pay1 (F := Ideal) (cotAt m c t) := by
  unfold out0_1
  frame_out
  try rfl

theorem pay1_at (a : Vec Ideal S4096x512 .f32) (p : Fin 1) (q : Fin 512) : k0_pay1 (F := Ideal) a (ix2 p q) = ∑ k : Fin 4096, a (ix2 k q) := by
  pointwise [k0_pay1]

/-- The blocks each window stages. -/
theorem idx : ∀ t : Fin cfg0.N, win0_0.index t = ![0, t.val] ∧ win0_1.index t = ![0, t.val] :=
  (by decide +kernel : ∀ t : Fin grid0.N, _)

/-- The columns of a point's block. -/
abbrev col (q : Fin 512) : Fin 15360 := ⟨t.val * 512 + q.val, by have := t.isLt; have : cfg0.N = 30 := N_0; omega⟩

theorem cot_at (p : Fin 4096) (q : Fin 512) : cotAt m c t (ix2 p q) = cot m c (ix2 p (col t q)) := by
  blk_ext [iblk, idx t, col]

theorem start (i : Cert.MainDbRefIdeal.S_.Idx) : Cert.MainDbRefIdeal.Read.val_main_cst_0 (F := Ideal) i = 0 := by
  pointwise [Cert.MainDbRefIdeal.Read.val_main_cst_0]

/-- The result is the reference's. -/
theorem final : (dats m 0 c).arrAt 1 cfg0.N = Cert.MainDbRefIdeal.Read.val_main_v3 (F := Ideal) (cot m c) := by
  refine (dats m 0 c).arrAt_eq_of_covers 1 _ (by decide +kernel) fun t _ y => ?_
  obtain ⟨p, q, rfl⟩ : ∃ (p : Fin 1) (q : Fin 512), y = ix2 p q := ⟨y 0, y 1, by funext a; fin_cases a <;> rfl⟩
  have e : ((cfg0.win 1).blk t).view.emb (ix2 p q) = ix2 p (col t q) := by
    blk_ext [idx t, col]
  rw [e, Cert.MainDbRefIdeal.Read.val_main_v3_apply, Cert.MainDbRefIdeal.Read.val_main_v2_apply]
  blk_simp
  rw [after0_1, written m c t, pay1_at, start, zero_add]
  refine (Finset.sum_congr rfl fun k _ => ?_ : (_ : EReal) = _)
  rw [cot_at]
  congr 1
  funext a; fin_cases a <;> rfl

theorem frame_ref : Cert.quiescent_MainDbRefIdeal (hMainDbRefIdeal := Cert.MainDbRefIdeal.Gen.facts) := fun m ρ _ =>
  (θ_run Cert.MainDbRefIdeal.defs _ _).mono (fun r h => ⟨fun c => (h c).2, sem_eq_zero_of_no_sems (by decide) r.2⟩)
    (Cert.MainDbRefIdeal.Value.run (F := Ideal) m ρ)

theorem value : Cert.algebraic_MainDbIdeal_MainDbRefIdeal (hMainDbIdeal := Cert.MainDbIdeal.Gen.facts)
    (hMainDbRefIdeal := Cert.MainDbRefIdeal.Gen.facts) := by
  intro m g m' g' _ hagree
  refine ⟨fun c => (dats m 0 c).arrAt 1 cfg0.N,
    (θ_run _ _ _).mono (fun r h c => ⟨(h.1 c).1 1, h.2 c⟩) (θ_run_and (run_main m g) (unchanged m g)),
    (θ_run _ _ _).mono (fun r h c => ?_) (Cert.MainDbRefIdeal.Value.run m' g')⟩
  have e0 := hagree c
  obtain ⟨h0, hargs⟩ := h c
  refine ⟨h0.trans ?_, hargs⟩
  rw [e0]
  exact (final m c).symm

end Cert.Rows.MainDb

end

end
-- ==== Proof.MergeFwd.lean ====
/-
  The merge of the three branches: the sum of each branch times the logistic function of its gate, element by element.
-/
module

public import proofs.«01_k».proof.Defs
public import proofs.«01_k».proof.Proof.Gen.MergeFwd.Frame
public import proofs.«01_k».proof.Proof.Gen.MergeFwdIdeal.Frame
public import proofs.«01_k».proof.Proof.Gen.MergeFwdRefIdeal.Run
public import proofs.«01_k».proof.Proof.Gen.MergeFwdRefIdeal.Read
public import Idealize.ShloMosaic.Lib.Pipeline.ValueKit
public import Idealize.ShloMosaic.Lib.StableHlo.RunRead
public import Idealize.ShloMosaic.Lib.Claim
public import Idealize.ShloMosaic.Lib.Pointwise
public import Idealize.ShloMosaic.Adequacy
public import Idealize.ShloMosaic.Init

@[expose] public section

set_option maxRecDepth 16384

noncomputable section

namespace Cert.Rows.MergeFwd

open Idealize.ShloMosaic Idealize.ShloMosaic.TcCoe Idealize.SL.Sem
open Cert.MergeFwdIdeal Cert.MergeFwdIdeal.Gen

variable (m : (ℓ : Loc nD τ sig) → Buf (Elt Ideal) ℓ) (c : Dev nD) (t : Fin cfg0.N)

/-- The projections, whose last columns are the gates, and the branches. -/
abbrev proj : FVec Ideal S4096x15360 .f32 := m ((c : Thread nD τ).loc main_arg0)
abbrev branchA : FVec Ideal S4096x2048 .f32 := m ((c : Thread nD τ).loc main_arg1)
abbrev branchB : FVec Ideal S4096x2048 .f32 := m ((c : Thread nD τ).loc main_arg2)
abbrev branchC : FVec Ideal S4096x2048 .f32 := m ((c : Thread nD τ).loc main_arg3)

/-- A point's blocks. -/
abbrev gateAt0 : FVec Ideal S512x512 .f32 := iblk m c 0 t
abbrev gateAt1 : FVec Ideal S512x512 .f32 := iblk m c 1 t
abbrev gateAt2 : FVec Ideal S512x512 .f32 := iblk m c 2 t
abbrev atA : FVec Ideal S512x512 .f32 := iblk m c 3 t
abbrev atB : FVec Ideal S512x512 .f32 := iblk m c 4 t
abbrev atC : FVec Ideal S512x512 .f32 := iblk m c 5 t

/-- What a point writes back. -/
theorem written : out0_6 (F := Ideal) (gateAt0 m c t) (gateAt1 m c t) (gateAt2 m c t) (atA m c t) (atB m c t) (atC m c t)
    = k0_pay1 (F := Ideal) (gateAt0 m c t) (gateAt1 m c t) (gateAt2 m c t) (atA m c t) (atB m c t) (atC m c t) := by
  unfold out0_6
  frame_out
  try rfl

theorem pay1_at (g0 g1 g2 a b d : Vec Ideal S512x512 .f32) (i : S512x512.Idx) : k0_pay1 (F := Ideal) g0 g1 g2 a b d i
    = Ideal.logistic (g0 i) * a i + Ideal.logistic (g1 i) * b i + Ideal.logistic (g2 i) * d i := by
  pointwise [k0_pay1]

/-- The blocks each window stages. -/
theorem idx : ∀ t : Fin cfg0.N, win0_0.index t = ![t.val / 4, 18 + t.val % 4] ∧ win0_1.index t = ![t.val / 4, 22 + t.val % 4]
    ∧ win0_2.index t = ![t.val / 4, 26 + t.val % 4] ∧ win0_3.index t = ![t.val / 4, t.val % 4]
    ∧ win0_4.index t = ![t.val / 4, t.val % 4] ∧ win0_5.index t = ![t.val / 4, t.val % 4] ∧ win0_6.index t = ![t.val / 4, t.val % 4] :=
  (by decide +kernel : ∀ t : Fin grid0.N, _)

/-- The rows and the columns of a point's block. -/
abbrev row (p : Fin 512) : Fin 4096 := ⟨t.val / 4 * 512 + p.val, by have := t.isLt; have : cfg0.N = 32 := N_0; omega⟩
abbrev col (q : Fin 512) : Fin 2048 := ⟨t.val % 4 * 512 + q.val, by omega⟩

/-- The column of a gate. -/
abbrev gcol (k : Fin 3) (q : Fin 2048) : Fin 15360 := ⟨9216 + k.val * 2048 + q.val, by omega⟩

theorem gate0_at (p q : Fin 512) : gateAt0 m c t (ix2 p q) = proj m c (ix2 (row t p) (gcol 0 (col t q))) := by
  blk_ext [iblk, idx t, row, col, gcol]

theorem gate1_at (p q : Fin 512) : gateAt1 m c t (ix2 p q) = proj m c (ix2 (row t p) (gcol 1 (col t q))) := by
  blk_ext [iblk, idx t, row, col, gcol]

theorem gate2_at (p q : Fin 512) : gateAt2 m c t (ix2 p q) = proj m c (ix2 (row t p) (gcol 2 (col t q))) := by
  blk_ext [iblk, idx t, row, col, gcol]

theorem atA_at (p q : Fin 512) : atA m c t (ix2 p q) = branchA m c (ix2 (row t p) (col t q)) := by
  blk_ext [iblk, idx t, row, col]

theorem atB_at (p q : Fin 512) : atB m c t (ix2 p q) = branchB m c (ix2 (row t p) (col t q)) := by
  blk_ext [iblk, idx t, row, col]

theorem atC_at (p q : Fin 512) : atC m c t (ix2 p q) = branchC m c (ix2 (row t p) (col t q)) := by
  blk_ext [iblk, idx t, row, col]

open Cert.MergeFwdRefIdeal.Read in
/-- The reference, element by element. -/
theorem ref_at (x : FVec Ideal S4096x15360 .f32) (a b d : FVec Ideal S4096x2048 .f32) (p : Fin 4096) (q : Fin 2048) :
    val_main_v26 (F := Ideal) x a b d (ix2 p q) = Ideal.logistic (x (ix2 p (gcol 0 q))) * a (ix2 p q)
      + Ideal.logistic (x (ix2 p (gcol 1 q))) * b (ix2 p q) + Ideal.logistic (x (ix2 p (gcol 2 q))) * d (ix2 p q) := by
  have i0 : idx_main_v0 (ix2 p q) = ix2 p (gcol 0 q) := by funext j; fin_cases j <;> rfl
  have i1 : idx_main_v1 (ix2 p q) = ix2 p (gcol 1 q) := by funext j; fin_cases j <;> rfl
  have i2 : idx_main_v2 (ix2 p q) = ix2 p (gcol 2 q) := by funext j; fin_cases j <;> rfl
  rw [← i0, ← i1, ← i2]
  pointwise [val_main_v26, val_main_v25, val_main_v24, val_main_v23, val_main_v22, val_main_v21, val_main_v20, val_main_v19, val_main_v18,
    val_main_v17, val_main_v16, val_main_v15, val_main_v14, val_main_v13, val_main_v12, val_main_v11, val_main_v10, val_main_v9,
    val_main_v8, val_main_v7, val_main_v6, val_main_v5, val_main_v4, val_main_v3, val_main_v2_apply, val_main_v1_apply, val_main_v0_apply,
    val_main_cst, val_main_cst_0, val_main_cst_1, val_main_cst_2, val_main_cst_3, val_main_cst_4, Ideal.logistic]

/-- The result is the reference's. -/
theorem final : (dats m 0 c).arrAt 6 cfg0.N
    = Cert.MergeFwdRefIdeal.Read.val_main_v26 (F := Ideal) (proj m c) (branchA m c) (branchB m c) (branchC m c) := by
  refine (dats m 0 c).arrAt_eq_of_covers 6 _ (by decide +kernel) fun t _ y => ?_
  obtain ⟨p, q, rfl⟩ : ∃ (p : Fin 512) (q : Fin 512), y = ix2 p q := ⟨y 0, y 1, by funext a; fin_cases a <;> rfl⟩
  have e : ((cfg0.win 6).blk t).view.emb (ix2 p q) = ix2 (row t p) (col t q) := by
    blk_ext [idx t, row, col]
  rw [e, ref_at]
  blk_simp
  rw [after0_6, written m c t, pay1_at, gate0_at, gate1_at, gate2_at, atA_at, atB_at, atC_at]

theorem frame_ref : Cert.quiescent_MergeFwdRefIdeal (hMergeFwdRefIdeal := Cert.MergeFwdRefIdeal.Gen.facts) := fun m ρ _ =>
  (θ_run Cert.MergeFwdRefIdeal.defs _ _).mono (fun r h => ⟨fun c => (h c).2, sem_eq_zero_of_no_sems (by decide) r.2⟩)
    (Cert.MergeFwdRefIdeal.Value.run (F := Ideal) m ρ)

theorem value : Cert.algebraic_MergeFwdIdeal_MergeFwdRefIdeal (hMergeFwdIdeal := Cert.MergeFwdIdeal.Gen.facts)
    (hMergeFwdRefIdeal := Cert.MergeFwdRefIdeal.Gen.facts) := by
  intro m g m' g' _ hagree
  refine ⟨fun c => (dats m 0 c).arrAt 6 cfg0.N,
    (θ_run _ _ _).mono (fun r h c => ⟨(h.1 c).1 6, h.2 c⟩) (θ_run_and (run_main m g) (unchanged m g)),
    (θ_run _ _ _).mono (fun r h c => ?_) (Cert.MergeFwdRefIdeal.Value.run m' g')⟩
  obtain ⟨e0, e1, e2, e3⟩ := hagree c
  obtain ⟨h0, hargs⟩ := h c
  refine ⟨h0.trans ?_, hargs⟩
  rw [e0, e1, e2, e3]
  exact (final m c).symm

end Cert.Rows.MergeFwd

end

end
-- ==== Proof.MergeBwd.lean ====
/-
  The gradient of the merge of the three branches: of each gate and of each branch, element by element.
-/
module

public import proofs.«01_k».proof.Defs
public import proofs.«01_k».proof.Proof.Gen.MergeBwd.Frame
public import proofs.«01_k».proof.Proof.Gen.MergeBwdIdeal.Frame
public import proofs.«01_k».proof.Proof.Gen.MergeBwdRefIdeal.Run
public import proofs.«01_k».proof.Proof.Gen.MergeBwdRefIdeal.Read
public import Idealize.ShloMosaic.Lib.Pipeline.ValueKit
public import Idealize.ShloMosaic.Lib.StableHlo.RunRead
public import Idealize.ShloMosaic.Lib.Claim
public import Idealize.ShloMosaic.Lib.Pointwise
public import Idealize.ShloMosaic.Adequacy
public import Idealize.ShloMosaic.Init

@[expose] public section

set_option maxRecDepth 16384

noncomputable section

namespace Cert.Rows.MergeBwd

open Idealize.ShloMosaic Idealize.ShloMosaic.TcCoe Idealize.SL.Sem
open Cert.MergeBwdIdeal Cert.MergeBwdIdeal.Gen

variable (m : (ℓ : Loc nD τ sig) → Buf (Elt Ideal) ℓ) (c : Dev nD) (t : Fin cfg0.N)

/-- The projections, whose last columns are the gates, the branches and the cotangent. -/
abbrev proj : FVec Ideal S4096x15360 .f32 := m ((c : Thread nD τ).loc main_arg0)
abbrev branchA : FVec Ideal S4096x2048 .f32 := m ((c : Thread nD τ).loc main_arg1)
abbrev branchB : FVec Ideal S4096x2048 .f32 := m ((c : Thread nD τ).loc main_arg2)
abbrev branchC : FVec Ideal S4096x2048 .f32 := m ((c : Thread nD τ).loc main_arg3)
abbrev cot : FVec Ideal S4096x2048 .f32 := m ((c : Thread nD τ).loc main_arg4)

/-- A point's blocks. -/
abbrev gateAt0 : FVec Ideal S512x512 .f32 := iblk m c 0 t
abbrev gateAt1 : FVec Ideal S512x512 .f32 := iblk m c 1 t
abbrev gateAt2 : FVec Ideal S512x512 .f32 := iblk m c 2 t
abbrev atA : FVec Ideal S512x512 .f32 := iblk m c 3 t
abbrev atB : FVec Ideal S512x512 .f32 := iblk m c 4 t
abbrev atC : FVec Ideal S512x512 .f32 := iblk m c 5 t
abbrev cotAt : FVec Ideal S512x512 .f32 := iblk m c 6 t

/-- The gradients of a gate and of a branch, of one element. -/
def ofGate (g a d : EReal) : EReal := d * a * (Ideal.logistic g * (1 - Ideal.logistic g))
def ofBranch (g d : EReal) : EReal := Ideal.logistic g * d

/-- The blocks each window stages. -/
theorem idx : ∀ t : Fin cfg0.N, win0_0.index t = ![t.val / 4, 18 + t.val % 4] ∧ win0_1.index t = ![t.val / 4, 22 + t.val % 4]
    ∧ win0_2.index t = ![t.val / 4, 26 + t.val % 4] ∧ win0_3.index t = ![t.val / 4, t.val % 4]
    ∧ win0_4.index t = ![t.val / 4, t.val % 4] ∧ win0_5.index t = ![t.val / 4, t.val % 4] ∧ win0_6.index t = ![t.val / 4, t.val % 4]
    ∧ win0_7.index t = ![t.val / 4, t.val % 4] ∧ win0_8.index t = ![t.val / 4, t.val % 4] ∧ win0_9.index t = ![t.val / 4, t.val % 4]
    ∧ win0_10.index t = ![t.val / 4, t.val % 4] ∧ win0_11.index t = ![t.val / 4, t.val % 4] ∧ win0_12.index t = ![t.val / 4, t.val % 4] :=
  (by decide +kernel : ∀ t : Fin grid0.N, _)

/-- The rows and the columns of a point's block. -/
abbrev row (p : Fin 512) : Fin 4096 := ⟨t.val / 4 * 512 + p.val, by have := t.isLt; have : cfg0.N = 32 := N_0; omega⟩
abbrev col (q : Fin 512) : Fin 2048 := ⟨t.val % 4 * 512 + q.val, by omega⟩

/-- The column of a gate. -/
abbrev gcol (k : Fin 3) (q : Fin 2048) : Fin 15360 := ⟨9216 + k.val * 2048 + q.val, by omega⟩

theorem gate0_at (p q : Fin 512) : gateAt0 m c t (ix2 p q) = proj m c (ix2 (row t p) (gcol 0 (col t q))) := by
  blk_ext [iblk, idx t, row, col, gcol]

theorem gate1_at (p q : Fin 512) : gateAt1 m c t (ix2 p q) = proj m c (ix2 (row t p) (gcol 1 (col t q))) := by
  blk_ext [iblk, idx t, row, col, gcol]

theorem gate2_at (p q : Fin 512) : gateAt2 m c t (ix2 p q) = proj m c (ix2 (row t p) (gcol 2 (col t q))) := by
  blk_ext [iblk, idx t, row, col, gcol]

theorem atA_at (p q : Fin 512) : atA m c t (ix2 p q) = branchA m c (ix2 (row t p) (col t q)) := by
  blk_ext [iblk, idx t, row, col]

theorem atB_at (p q : Fin 512) : atB m c t (ix2 p q) = branchB m c (ix2 (row t p) (col t q)) := by
  blk_ext [iblk, idx t, row, col]

theorem atC_at (p q : Fin 512) : atC m c t (ix2 p q) = branchC m c (ix2 (row t p) (col t q)) := by
  blk_ext [iblk, idx t, row, col]

theorem cot_at (p q : Fin 512) : cotAt m c t (ix2 p q) = cot m c (ix2 (row t p) (col t q)) := by
  blk_ext [iblk, idx t, row, col]

/-- The gates' values at a point. -/
theorem gates_pay (g a d : Vec Ideal S512x512 .f32) (i : S512x512.Idx) : k0_pay14 (F := Ideal) g a d i = ofGate (g i) (a i) (d i)
    ∧ k0_pay12 (F := Ideal) g a d i = ofGate (g i) (a i) (d i) ∧ k0_pay10 (F := Ideal) g a d i = ofGate (g i) (a i) (d i) := by
  refine ⟨?_, ?_, ?_⟩ <;>
    pointwise [k0_pay14, k0_pay12, k0_pay10, k0_pay4, k0_pay5, k0_pay6, k0_pay7, k0_pay8, ofGate, shapeCast_self]

/-- The branches' values at a point. -/
theorem branches_pay (g d : Vec Ideal S512x512 .f32) (i : S512x512.Idx) : k0_pay1 (F := Ideal) (k0_pay13 (F := Ideal) g d) i = ofBranch (g i) (d i)
    ∧ k0_pay2 (F := Ideal) (k0_pay11 (F := Ideal) g d) i = ofBranch (g i) (d i) ∧ k0_pay3 (F := Ideal) (k0_pay9 (F := Ideal) g d) i = ofBranch (g i) (d i) := by
  refine ⟨?_, ?_, ?_⟩ <;>
    pointwise [k0_pay1, k0_pay2, k0_pay3, k0_pay13, k0_pay11, k0_pay9, k0_pay4, k0_pay5, k0_pay6, k0_pay7, k0_pay8, ofBranch, shapeCast_self]

/-- What a point writes back. -/
theorem written_7 : out0_7 (F := Ideal) (gateAt0 m c t) (gateAt1 m c t) (gateAt2 m c t) (atA m c t) (atB m c t) (atC m c t) (cotAt m c t)
    = k0_pay14 (F := Ideal) (gateAt0 m c t) (atA m c t) (cotAt m c t) := by
  unfold out0_7
  frame_out
  try rfl

theorem written_8 : out0_8 (F := Ideal) (gateAt0 m c t) (gateAt1 m c t) (gateAt2 m c t) (atA m c t) (atB m c t) (atC m c t) (cotAt m c t)
    = k0_pay12 (F := Ideal) (gateAt1 m c t) (atB m c t) (cotAt m c t) := by
  unfold out0_8
  frame_out
  try rfl

theorem written_9 : out0_9 (F := Ideal) (gateAt0 m c t) (gateAt1 m c t) (gateAt2 m c t) (atA m c t) (atB m c t) (atC m c t) (cotAt m c t)
    = k0_pay10 (F := Ideal) (gateAt2 m c t) (atC m c t) (cotAt m c t) := by
  unfold out0_9
  frame_out
  try rfl

theorem written_10 : out0_10 (F := Ideal) (gateAt0 m c t) (gateAt1 m c t) (gateAt2 m c t) (atA m c t) (atB m c t) (atC m c t) (cotAt m c t)
    = k0_pay1 (F := Ideal) (k0_pay13 (F := Ideal) (gateAt0 m c t) (cotAt m c t)) := by
  unfold out0_10
  frame_out
  try rfl

theorem written_11 : out0_11 (F := Ideal) (gateAt0 m c t) (gateAt1 m c t) (gateAt2 m c t) (atA m c t) (atB m c t) (atC m c t) (cotAt m c t)
    = k0_pay2 (F := Ideal) (k0_pay11 (F := Ideal) (gateAt1 m c t) (cotAt m c t)) := by
  unfold out0_11
  frame_out
  try rfl

theorem written_12 : out0_12 (F := Ideal) (gateAt0 m c t) (gateAt1 m c t) (gateAt2 m c t) (atA m c t) (atB m c t) (atC m c t) (cotAt m c t)
    = k0_pay3 (F := Ideal) (k0_pay9 (F := Ideal) (gateAt2 m c t) (cotAt m c t)) := by
  unfold out0_12
  frame_out
  try rfl

section reference

open Cert.MergeBwdRefIdeal.Read

variable (x : FVec Ideal S4096x15360 .f32) (a d : FVec Ideal S4096x2048 .f32) (i : S4096x2048.Idx)

/-- The reference's logistic functions of the gates. -/
theorem ref_gates : val_main_v8 (F := Ideal) x i = Ideal.logistic (x (idx_main_v0 i)) ∧ val_main_v18 (F := Ideal) x i = Ideal.logistic (x (idx_main_v1 i))
    ∧ val_main_v29 (F := Ideal) x i = Ideal.logistic (x (idx_main_v2 i)) := by
  refine ⟨?_, ?_, ?_⟩ <;>
    pointwise [val_main_v8, val_main_v7, val_main_v6, val_main_v5, val_main_v4, val_main_v3, val_main_v2_apply, val_main_v1_apply, val_main_v0_apply,
      val_main_v18, val_main_v17, val_main_v16, val_main_v15, val_main_v14, val_main_v13, val_main_v29, val_main_v28, val_main_v27, val_main_v26,
      val_main_v25, val_main_v24, val_main_cst, val_main_cst_0, val_main_cst_2, val_main_cst_3, val_main_cst_5, val_main_cst_6, Ideal.logistic]

/-- The reference's gradients of the gates. -/
theorem ref_ofGate : val_main_v45 (F := Ideal) x a d i = ofGate (x (idx_main_v0 i)) (a i) (d i)
    ∧ val_main_v42 (F := Ideal) x a d i = ofGate (x (idx_main_v1 i)) (a i) (d i)
    ∧ val_main_v39 (F := Ideal) x a d i = ofGate (x (idx_main_v2 i)) (a i) (d i) := by
  obtain ⟨h0, h1, h2⟩ := ref_gates x i
  refine ⟨?_, ?_, ?_⟩ <;>
    pointwise [val_main_v45, val_main_v44, val_main_v42, val_main_v41, val_main_v39, val_main_v38, val_main_v35, val_main_v36, val_main_v11, val_main_v10,
      val_main_v9, val_main_v21, val_main_v20, val_main_v19, val_main_v32, val_main_v31, val_main_v30, val_main_cst_1, val_main_cst_4, val_main_cst_7,
      h0, h1, h2, ofGate, shapeCast_self]

/-- The reference's gradients of the branches. -/
theorem ref_ofBranch : val_main_v46 (F := Ideal) x d i = ofBranch (x (idx_main_v0 i)) (d i)
    ∧ val_main_v47 (F := Ideal) x d i = ofBranch (x (idx_main_v1 i)) (d i)
    ∧ val_main_v48 (F := Ideal) x d i = ofBranch (x (idx_main_v2 i)) (d i) := by
  obtain ⟨h0, h1, h2⟩ := ref_gates x i
  refine ⟨?_, ?_, ?_⟩ <;>
    pointwise [val_main_v46, val_main_v43, val_main_v47, val_main_v40, val_main_v48, val_main_v37, val_main_v35, val_main_v36,
      h0, h1, h2, ofBranch, shapeCast_self]

theorem ref_idx (p : Fin 4096) (q : Fin 2048) : idx_main_v0 (ix2 p q) = ix2 p (gcol 0 q) ∧ idx_main_v1 (ix2 p q) = ix2 p (gcol 1 q)
    ∧ idx_main_v2 (ix2 p q) = ix2 p (gcol 2 q) := by
  refine ⟨?_, ?_, ?_⟩ <;> (funext j; fin_cases j <;> rfl)

end reference

/-- The results are the reference's. -/
theorem final_7 : (dats m 0 c).arrAt 7 cfg0.N = Cert.MergeBwdRefIdeal.Read.val_main_v45 (F := Ideal) (proj m c) (branchA m c) (cot m c) := by
  refine (dats m 0 c).arrAt_eq_of_covers 7 _ (by decide +kernel) fun t _ y => ?_
  obtain ⟨p, q, rfl⟩ : ∃ (p : Fin 512) (q : Fin 512), y = ix2 p q := ⟨y 0, y 1, by funext a; fin_cases a <;> rfl⟩
  have e : ((cfg0.win 7).blk t).view.emb (ix2 p q) = ix2 (row t p) (col t q) := by
    blk_ext [idx t, row, col]
  rw [e, (ref_ofGate _ _ _ _).1, (ref_idx _ _).1]
  blk_simp
  rw [after0_7, written_7 m c t, (gates_pay _ _ _ _).1, gate0_at, atA_at, cot_at]

theorem final_8 : (dats m 0 c).arrAt 8 cfg0.N = Cert.MergeBwdRefIdeal.Read.val_main_v42 (F := Ideal) (proj m c) (branchB m c) (cot m c) := by
  refine (dats m 0 c).arrAt_eq_of_covers 8 _ (by decide +kernel) fun t _ y => ?_
  obtain ⟨p, q, rfl⟩ : ∃ (p : Fin 512) (q : Fin 512), y = ix2 p q := ⟨y 0, y 1, by funext a; fin_cases a <;> rfl⟩
  have e : ((cfg0.win 8).blk t).view.emb (ix2 p q) = ix2 (row t p) (col t q) := by
    blk_ext [idx t, row, col]
  rw [e, (ref_ofGate _ _ _ _).2.1, (ref_idx _ _).2.1]
  blk_simp
  rw [after0_8, written_8 m c t, (gates_pay _ _ _ _).2.1, gate1_at, atB_at, cot_at]

theorem final_9 : (dats m 0 c).arrAt 9 cfg0.N = Cert.MergeBwdRefIdeal.Read.val_main_v39 (F := Ideal) (proj m c) (branchC m c) (cot m c) := by
  refine (dats m 0 c).arrAt_eq_of_covers 9 _ (by decide +kernel) fun t _ y => ?_
  obtain ⟨p, q, rfl⟩ : ∃ (p : Fin 512) (q : Fin 512), y = ix2 p q := ⟨y 0, y 1, by funext a; fin_cases a <;> rfl⟩
  have e : ((cfg0.win 9).blk t).view.emb (ix2 p q) = ix2 (row t p) (col t q) := by
    blk_ext [idx t, row, col]
  rw [e, (ref_ofGate _ _ _ _).2.2, (ref_idx _ _).2.2]
  blk_simp
  rw [after0_9, written_9 m c t, (gates_pay _ _ _ _).2.2, gate2_at, atC_at, cot_at]

theorem final_10 : (dats m 0 c).arrAt 10 cfg0.N = Cert.MergeBwdRefIdeal.Read.val_main_v46 (F := Ideal) (proj m c) (cot m c) := by
  refine (dats m 0 c).arrAt_eq_of_covers 10 _ (by decide +kernel) fun t _ y => ?_
  obtain ⟨p, q, rfl⟩ : ∃ (p : Fin 512) (q : Fin 512), y = ix2 p q := ⟨y 0, y 1, by funext a; fin_cases a <;> rfl⟩
  have e : ((cfg0.win 10).blk t).view.emb (ix2 p q) = ix2 (row t p) (col t q) := by
    blk_ext [idx t, row, col]
  rw [e, (ref_ofBranch _ _ _).1, (ref_idx _ _).1]
  blk_simp
  rw [after0_10, written_10 m c t, (branches_pay _ _ _).1, gate0_at, cot_at]

theorem final_11 : (dats m 0 c).arrAt 11 cfg0.N = Cert.MergeBwdRefIdeal.Read.val_main_v47 (F := Ideal) (proj m c) (cot m c) := by
  refine (dats m 0 c).arrAt_eq_of_covers 11 _ (by decide +kernel) fun t _ y => ?_
  obtain ⟨p, q, rfl⟩ : ∃ (p : Fin 512) (q : Fin 512), y = ix2 p q := ⟨y 0, y 1, by funext a; fin_cases a <;> rfl⟩
  have e : ((cfg0.win 11).blk t).view.emb (ix2 p q) = ix2 (row t p) (col t q) := by
    blk_ext [idx t, row, col]
  rw [e, (ref_ofBranch _ _ _).2.1, (ref_idx _ _).2.1]
  blk_simp
  rw [after0_11, written_11 m c t, (branches_pay _ _ _).2.1, gate1_at, cot_at]

theorem final_12 : (dats m 0 c).arrAt 12 cfg0.N = Cert.MergeBwdRefIdeal.Read.val_main_v48 (F := Ideal) (proj m c) (cot m c) := by
  refine (dats m 0 c).arrAt_eq_of_covers 12 _ (by decide +kernel) fun t _ y => ?_
  obtain ⟨p, q, rfl⟩ : ∃ (p : Fin 512) (q : Fin 512), y = ix2 p q := ⟨y 0, y 1, by funext a; fin_cases a <;> rfl⟩
  have e : ((cfg0.win 12).blk t).view.emb (ix2 p q) = ix2 (row t p) (col t q) := by
    blk_ext [idx t, row, col]
  rw [e, (ref_ofBranch _ _ _).2.2, (ref_idx _ _).2.2]
  blk_simp
  rw [after0_12, written_12 m c t, (branches_pay _ _ _).2.2, gate2_at, cot_at]

theorem frame_ref : Cert.quiescent_MergeBwdRefIdeal (hMergeBwdRefIdeal := Cert.MergeBwdRefIdeal.Gen.facts) := fun m ρ _ =>
  (θ_run Cert.MergeBwdRefIdeal.defs _ _).mono (fun r h => ⟨fun c => (h c).2.2.2.2.2.2, sem_eq_zero_of_no_sems (by decide) r.2⟩)
    (Cert.MergeBwdRefIdeal.Value.run (F := Ideal) m ρ)

theorem value : Cert.algebraic_MergeBwdIdeal_MergeBwdRefIdeal (hMergeBwdIdeal := Cert.MergeBwdIdeal.Gen.facts)
    (hMergeBwdRefIdeal := Cert.MergeBwdRefIdeal.Gen.facts) := by
  intro m g m' g' _ hagree
  refine ⟨fun c => (dats m 0 c).arrAt 7 cfg0.N, fun c => (dats m 0 c).arrAt 8 cfg0.N, fun c => (dats m 0 c).arrAt 9 cfg0.N,
    fun c => (dats m 0 c).arrAt 10 cfg0.N, fun c => (dats m 0 c).arrAt 11 cfg0.N, fun c => (dats m 0 c).arrAt 12 cfg0.N,
    (θ_run _ _ _).mono (fun r h c => ⟨(h.1 c).1 7, (h.1 c).1 8, (h.1 c).1 9, (h.1 c).1 10, (h.1 c).1 11, (h.1 c).1 12, h.2 c⟩)
      (θ_run_and (run_main m g) (unchanged m g)),
    (θ_run _ _ _).mono (fun r h c => ?_) (Cert.MergeBwdRefIdeal.Value.run m' g')⟩
  obtain ⟨e0, e1, e2, e3, e4⟩ := hagree c
  obtain ⟨h7, h8, h9, h10, h11, h12, hargs⟩ := h c
  refine ⟨h7.trans ?_, h8.trans ?_, h9.trans ?_, h10.trans ?_, h11.trans ?_, h12.trans ?_, hargs⟩
  · rw [e0, e1, e4]; exact (final_7 m c).symm
  · rw [e0, e2, e4]; exact (final_8 m c).symm
  · rw [e0, e3, e4]; exact (final_9 m c).symm
  · rw [e0, e4]; exact (final_10 m c).symm
  · rw [e0, e4]; exact (final_11 m c).symm
  · rw [e0, e4]; exact (final_12 m c).symm

end Cert.Rows.MergeBwd

end

end
-- ==== Proof.OutFwd.lean ====
/-
  The output projection, stretch by stretch of 1024: 2048 terms in each sum.
-/
module

public import proofs.«01_k».proof.Defs
public import proofs.«01_k».proof.Proof.Products
public import proofs.«01_k».proof.Proof.Gen.OutFwd.Frame
public import proofs.«01_k».proof.Proof.Gen.OutFwdIdeal.Frame
public import proofs.«01_k».proof.Proof.Gen.OutFwdRefIdeal.Run
public import proofs.«01_k».proof.Proof.Gen.OutFwdRefIdeal.Read
public import Idealize.ShloMosaic.Lib.StableHlo.RunRead
public import Idealize.ShloMosaic.Lib.Claim
public import Idealize.ShloMosaic.Lib.Pointwise
public import Idealize.ShloMosaic.Adequacy
public import Idealize.ShloMosaic.Init

@[expose] public section

set_option maxRecDepth 16384

noncomputable section

namespace Cert.Products.OutFwd

open Idealize.ShloMosaic Idealize.ShloMosaic.TcCoe Idealize.SL.Sem
open Cert.OutFwdIdeal Cert.OutFwdIdeal.Gen

variable (m : (ℓ : Loc nD τ sig) → Buf (Elt Ideal) ℓ) (c : Dev nD) (t : Fin cfg0.N)

/-- The operands. -/
abbrev left : FVec Ideal S4096x2048 .f32 := m ((c : Thread nD τ).loc main_arg0)
abbrev right : FVec Ideal S2048x2048 .f32 := m ((c : Thread nD τ).loc main_arg1)

/-- A point's blocks of the operands. -/
abbrev leftAt : FVec Ideal S1024x1024 .bf16 := iblk m c 0 t
abbrev rightAt : FVec Ideal S1024x2048 .bf16 := iblk m c 1 t

/-- The running product after a point. -/
def acc (n : ℕ) (hn : n < cfg0.N) : Vec Ideal S1024x2048 .f32 := (outsAt0 m c n hn).2

/-- Where a run of points begins, the product starts from zero. -/
theorem acc_first (h0 : t.val % 2 = 0) : acc m c t.val t.isLt = k0_pay2 (F := Ideal) (k0_pay1 (F := Ideal)) (leftAt m c t) (rightAt m c t) := by
  unfold acc
  rw [outsAt0_A m c t h0 (by omega)]
  dsimp only
  frame_out
  try rfl

/-- Elsewhere it goes on from the point before. -/
theorem acc_next (h0 : ¬t.val % 2 = 0) :
    acc m c t.val t.isLt = k0_pay2 (F := Ideal) (acc m c (t.val - 1) (by omega)) (leftAt m c t) (rightAt m c t) := by
  unfold acc
  rw [outsAt0_B m c t h0 (by omega)]
  dsimp only
  frame_out
  simp only [(Memref.isWhole_whole _).read_unread]
  try rfl

/-- Where a run ends, its product is written back. -/
theorem written (h1 : t.val % 2 = 1) : (outsAt0 m c t.val t.isLt).1 = acc m c t.val t.isLt := by
  rw [acc_next m c t (by omega)]
  unfold acc
  rw [outsAt0_B m c t (by omega) h1]
  dsimp only
  frame_out
  simp only [(Memref.isWhole_whole _).read_unread]
  try rfl

theorem pay1_at (i : S1024x2048.Idx) : k0_pay1 (F := Ideal) i = 0 := by
  pointwise [k0_pay1]

theorem pay2_at (y : Vec Ideal S1024x2048 .f32) (a : Vec Ideal S1024x1024 .bf16) (b : Vec Ideal S1024x2048 .bf16) (p : Fin 1024) (q : Fin 2048) :
    k0_pay2 (F := Ideal) y a b (ix2 p q) = y (ix2 p q) + ∑ k : Fin 1024, a (ix2 p k) * b (ix2 k q) := by
  pointwise [k0_pay2]

/-- The blocks each window stages. -/
theorem idx : ∀ t : Fin cfg0.N, win0_0.index t = ![t.val / 2, t.val % 2] ∧ win0_1.index t = ![t.val % 2, 0]
    ∧ win0_2.index t = ![t.val / 2, 0] :=
  (by decide +kernel : ∀ t : Fin grid0.N, _)

theorem V_left : V m c main_v0 = left m c := by
  unfold_abbrev_sides
  after_reads_simp
  rfl

theorem V_right : V m c main_v1 = right m c := by
  unfold_abbrev_sides
  after_reads_simp
  rfl

/-- The rows of a point's block. -/
abbrev row (p : Fin 1024) : Fin 4096 := ⟨t.val / 2 * 1024 + p.val, by have := t.isLt; have : cfg0.N = 8 := N_0; omega⟩

/-- At the end of a run the product is whole. -/
theorem acc_last (h1 : t.val % 2 = 1) (p : Fin 1024) (q : Fin 2048) :
    acc m c t.val t.isLt (ix2 p q) = ∑ k : Fin 2048, left m c (ix2 (row t p) k) * right m c (ix2 k q) := by
  rw [← V_left m c, ← V_right m c]
  refine whole (J := 2) (n := 1024) (K := 2048) rfl (fun n h p q => acc m c n h (ix2 p q)) (fun t p k => leftAt m c t (ix2 p k)) (fun t q k => rightAt m c t (ix2 k q))
    (fun t h0 p q => ?_) (fun t h0 p q => ?_) t h1 (fun p k => V m c main_v0 (ix2 (row t p) k)) (fun q k => V m c main_v1 (ix2 k q))
    (fun s u hu p k hl => ?_) (fun s u hu q k hl => ?_) p q
  · rw [acc_first m c t h0, pay2_at, pay1_at]
  · rw [acc_next m c t h0, pay2_at]
  · have := s.isLt
    blk_ext [iblk, idx u, hu, row]
  · have := s.isLt
    blk_ext [iblk, idx u, hu, row]

/-- The result is the reference's. -/
theorem final : (dats m 0 c).arrAt 2 cfg0.N = Cert.OutFwdRefIdeal.Read.val_main_v0 (F := Ideal) (left m c) (right m c) := by
  refine (dats m 0 c).arrAt_eq_of_covers 2 _ (by decide +kernel) fun t hf y => ?_
  have h1 := (flush0_2 t).mp hf
  obtain ⟨p, q, rfl⟩ : ∃ (p : Fin 1024) (q : Fin 2048), y = ix2 p q := ⟨y 0, y 1, by funext a; fin_cases a <;> rfl⟩
  have e : ((cfg0.win 2).blk t).view.emb (ix2 p q) = ix2 (row t p) q := by
    blk_ext [idx t, row]
  rw [e, Cert.OutFwdRefIdeal.Read.val_main_v0_apply]
  blk_simp
  rw [after0_2, written m c t h1, acc_last m c t h1]
  refine (Finset.sum_congr rfl fun k _ => ?_ : (_ : EReal) = _)
  congr 2 <;> (funext a; fin_cases a <;> rfl)

theorem frame_ref : Cert.quiescent_OutFwdRefIdeal (hOutFwdRefIdeal := Cert.OutFwdRefIdeal.Gen.facts) := fun m ρ _ =>
  (θ_run Cert.OutFwdRefIdeal.defs _ _).mono (fun r h => ⟨fun c => (h c).2, sem_eq_zero_of_no_sems (by decide) r.2⟩)
    (Cert.OutFwdRefIdeal.Value.run (F := Ideal) m ρ)

theorem value : Cert.algebraic_OutFwdIdeal_OutFwdRefIdeal (hOutFwdIdeal := Cert.OutFwdIdeal.Gen.facts)
    (hOutFwdRefIdeal := Cert.OutFwdRefIdeal.Gen.facts) := by
  intro m g m' g' _ hagree
  refine ⟨fun c => (dats m 0 c).arrAt 2 cfg0.N,
    (θ_run _ _ _).mono (fun r h c => ⟨(h.1 c).1 2, h.2 c⟩) (θ_run_and (run_main m g) (unchanged m g)),
    (θ_run _ _ _).mono (fun r h c => ?_) (Cert.OutFwdRefIdeal.Value.run m' g')⟩
  obtain ⟨e0, e1⟩ := hagree c
  obtain ⟨h0, hargs⟩ := h c
  refine ⟨h0.trans ?_, hargs⟩
  rw [e0, e1]
  exact (final m c).symm

end Cert.Products.OutFwd

end

end
-- ==== Proof.BranchFwd.lean ====
/-
  The three branches' projection, the contracted axis whole at each point: 1024 terms in each sum.
-/
module

public import proofs.«01_k».proof.Defs
public import proofs.«01_k».proof.Proof.Products
public import proofs.«01_k».proof.Proof.Gen.BranchFwd.Frame
public import proofs.«01_k».proof.Proof.Gen.BranchFwdIdeal.Frame
public import proofs.«01_k».proof.Proof.Gen.BranchFwdRefIdeal.Run
public import proofs.«01_k».proof.Proof.Gen.BranchFwdRefIdeal.Read
public import Idealize.ShloMosaic.Lib.StableHlo.RunRead
public import Idealize.ShloMosaic.Lib.Claim
public import Idealize.ShloMosaic.Lib.Pointwise
public import Idealize.ShloMosaic.Adequacy
public import Idealize.ShloMosaic.Init

@[expose] public section

set_option maxRecDepth 16384

noncomputable section

namespace Cert.Products.BranchFwd

open Idealize.ShloMosaic Idealize.ShloMosaic.TcCoe Idealize.SL.Sem
open Cert.BranchFwdIdeal Cert.BranchFwdIdeal.Gen

variable (m : (ℓ : Loc nD τ sig) → Buf (Elt Ideal) ℓ) (c : Dev nD) (t : Fin cfg0.N)

/-- The operands. -/
abbrev left : FVec Ideal S4096x1024 .f32 := m ((c : Thread nD τ).loc main_arg0)
abbrev right : FVec Ideal S1024x2048 .f32 := m ((c : Thread nD τ).loc main_arg1)

/-- A point's blocks of the operands. -/
abbrev leftAt : FVec Ideal S1024x1024 .bf16 := iblk m c 0 t
abbrev rightAt : FVec Ideal S1024x2048 .bf16 := iblk m c 1 t

/-- What a point writes back. -/
theorem written : outsAt0 m c t = k0_pay2 (F := Ideal) (k0_pay1 (F := Ideal)) (leftAt m c t) (rightAt m c t) := by
  unfold outsAt0
  frame_out
  try rfl

theorem pay1_at (i : S1024x2048.Idx) : k0_pay1 (F := Ideal) i = 0 := by
  pointwise [k0_pay1]

theorem pay2_at (y : Vec Ideal S1024x2048 .f32) (a : Vec Ideal S1024x1024 .bf16) (b : Vec Ideal S1024x2048 .bf16) (p : Fin 1024) (q : Fin 2048) :
    k0_pay2 (F := Ideal) y a b (ix2 p q) = y (ix2 p q) + ∑ k : Fin 1024, a (ix2 p k) * b (ix2 k q) := by
  pointwise [k0_pay2]

/-- The blocks each window stages. -/
theorem idx : ∀ t : Fin cfg0.N, win0_0.index t = ![t.val, 0] ∧ win0_1.index t = ![0, 0] ∧ win0_2.index t = ![t.val, 0] :=
  (by decide +kernel : ∀ t : Fin grid0.N, _)

theorem V_left : V m c main_v0 = left m c := by
  unfold_abbrev_sides
  after_reads_simp
  rfl

theorem V_right : V m c main_v1 = right m c := by
  unfold_abbrev_sides
  after_reads_simp
  rfl

/-- The rows of a point's block. -/
abbrev row (p : Fin 1024) : Fin 4096 := ⟨t.val * 1024 + p.val, by have := t.isLt; have : cfg0.N = 4 := N_0; omega⟩

theorem left_at (p k : Fin 1024) : leftAt m c t (ix2 p k) = left m c (ix2 (row t p) k) := by
  rw [← V_left m c]
  blk_ext [iblk, idx t, row]

theorem right_at (k : Fin 1024) (q : Fin 2048) : rightAt m c t (ix2 k q) = right m c (ix2 k q) := by
  rw [← V_right m c]
  blk_ext [iblk, idx t]

/-- The result is the reference's. -/
theorem final : (dats m 0 c).arrAt 2 cfg0.N = Cert.BranchFwdRefIdeal.Read.val_main_v0 (F := Ideal) (left m c) (right m c) := by
  refine (dats m 0 c).arrAt_eq_of_covers 2 _ (by decide +kernel) fun t _ y => ?_
  obtain ⟨p, q, rfl⟩ : ∃ (p : Fin 1024) (q : Fin 2048), y = ix2 p q := ⟨y 0, y 1, by funext a; fin_cases a <;> rfl⟩
  have e : ((cfg0.win 2).blk t).view.emb (ix2 p q) = ix2 (row t p) q := by
    blk_ext [idx t, row]
  rw [e, Cert.BranchFwdRefIdeal.Read.val_main_v0_apply]
  blk_simp
  rw [after0_2, written m c t, pay2_at, pay1_at, zero_add]
  refine (Finset.sum_congr rfl fun k _ => ?_ : (_ : EReal) = _)
  rw [left_at, right_at]
  congr 2 <;> (funext a; fin_cases a <;> rfl)

theorem frame_ref : Cert.quiescent_BranchFwdRefIdeal (hBranchFwdRefIdeal := Cert.BranchFwdRefIdeal.Gen.facts) := fun m ρ _ =>
  (θ_run Cert.BranchFwdRefIdeal.defs _ _).mono (fun r h => ⟨fun c => (h c).2, sem_eq_zero_of_no_sems (by decide) r.2⟩)
    (Cert.BranchFwdRefIdeal.Value.run (F := Ideal) m ρ)

theorem value : Cert.algebraic_BranchFwdIdeal_BranchFwdRefIdeal (hBranchFwdIdeal := Cert.BranchFwdIdeal.Gen.facts)
    (hBranchFwdRefIdeal := Cert.BranchFwdRefIdeal.Gen.facts) := by
  intro m g m' g' _ hagree
  refine ⟨fun c => (dats m 0 c).arrAt 2 cfg0.N,
    (θ_run _ _ _).mono (fun r h c => ⟨(h.1 c).1 2, h.2 c⟩) (θ_run_and (run_main m g) (unchanged m g)),
    (θ_run _ _ _).mono (fun r h c => ?_) (Cert.BranchFwdRefIdeal.Value.run m' g')⟩
  obtain ⟨e0, e1⟩ := hagree c
  obtain ⟨h0, hargs⟩ := h c
  refine ⟨h0.trans ?_, hargs⟩
  rw [e0, e1]
  exact (final m c).symm

end Cert.Products.BranchFwd

end

end
-- ==== Proof.DownFwd.lean ====
/-
  The feed-forward's second product, stretch by stretch of 512: 5632 terms in each sum.
-/
module

public import proofs.«01_k».proof.Defs
public import proofs.«01_k».proof.Proof.Products
public import proofs.«01_k».proof.Proof.Gen.DownFwd.Frame
public import proofs.«01_k».proof.Proof.Gen.DownFwdIdeal.Frame
public import proofs.«01_k».proof.Proof.Gen.DownFwdRefIdeal.Run
public import proofs.«01_k».proof.Proof.Gen.DownFwdRefIdeal.Read
public import Idealize.ShloMosaic.Lib.StableHlo.RunRead
public import Idealize.ShloMosaic.Lib.Claim
public import Idealize.ShloMosaic.Lib.Pointwise
public import Idealize.ShloMosaic.Adequacy
public import Idealize.ShloMosaic.Init

@[expose] public section

set_option maxRecDepth 16384

noncomputable section

namespace Cert.Products.DownFwd

open Idealize.ShloMosaic Idealize.ShloMosaic.TcCoe Idealize.SL.Sem
open Cert.DownFwdIdeal Cert.DownFwdIdeal.Gen

variable (m : (ℓ : Loc nD τ sig) → Buf (Elt Ideal) ℓ) (c : Dev nD) (t : Fin cfg0.N)

/-- The operands. -/
abbrev left : FVec Ideal S4096x5632 .f32 := m ((c : Thread nD τ).loc main_arg0)
abbrev right : FVec Ideal S5632x2048 .f32 := m ((c : Thread nD τ).loc main_arg1)

/-- A point's blocks of the operands. -/
abbrev leftAt : FVec Ideal S1024x512 .bf16 := iblk m c 0 t
abbrev rightAt : FVec Ideal S512x2048 .bf16 := iblk m c 1 t

/-- The running product after a point. -/
def acc (n : ℕ) (hn : n < cfg0.N) : Vec Ideal S1024x2048 .f32 := (outsAt0 m c n hn).2

/-- Where a run of points begins, the product starts from zero. -/
theorem acc_first (h0 : t.val % 11 = 0) : acc m c t.val t.isLt = k0_pay2 (F := Ideal) (k0_pay1 (F := Ideal)) (leftAt m c t) (rightAt m c t) := by
  unfold acc
  rw [outsAt0_A m c t h0 (by omega)]
  dsimp only
  frame_out
  try rfl

/-- Elsewhere it goes on from the point before. -/
theorem acc_next (h0 : ¬t.val % 11 = 0) :
    acc m c t.val t.isLt = k0_pay2 (F := Ideal) (acc m c (t.val - 1) (by omega)) (leftAt m c t) (rightAt m c t) := by
  unfold acc
  by_cases h1 : t.val % 11 = 10
  · rw [outsAt0_C m c t h0 h1]
    dsimp only
    frame_out
    simp only [(Memref.isWhole_whole _).read_unread]
    try rfl
  · rw [outsAt0_B m c t h0 h1]
    dsimp only
    frame_out
    simp only [(Memref.isWhole_whole _).read_unread]
    try rfl

/-- Where a run ends, its product is written back. -/
theorem written (h1 : t.val % 11 = 10) : (outsAt0 m c t.val t.isLt).1 = acc m c t.val t.isLt := by
  rw [acc_next m c t (by omega)]
  unfold acc
  rw [outsAt0_C m c t (by omega) h1]
  dsimp only
  frame_out
  simp only [(Memref.isWhole_whole _).read_unread]
  try rfl

theorem pay1_at (i : S1024x2048.Idx) : k0_pay1 (F := Ideal) i = 0 := by
  pointwise [k0_pay1]

theorem pay2_at (y : Vec Ideal S1024x2048 .f32) (a : Vec Ideal S1024x512 .bf16) (b : Vec Ideal S512x2048 .bf16) (p : Fin 1024) (q : Fin 2048) :
    k0_pay2 (F := Ideal) y a b (ix2 p q) = y (ix2 p q) + ∑ k : Fin 512, a (ix2 p k) * b (ix2 k q) := by
  pointwise [k0_pay2]

/-- The blocks each window stages. -/
theorem idx : ∀ t : Fin cfg0.N, win0_0.index t = ![t.val / 11, t.val % 11] ∧ win0_1.index t = ![t.val % 11, 0]
    ∧ win0_2.index t = ![t.val / 11, 0] :=
  (by decide +kernel : ∀ t : Fin grid0.N, _)

theorem V_left : V m c main_v0 = left m c := by
  unfold_abbrev_sides
  after_reads_simp
  rfl

theorem V_right : V m c main_v1 = right m c := by
  unfold_abbrev_sides
  after_reads_simp
  rfl

/-- The rows of a point's block. -/
abbrev row (p : Fin 1024) : Fin 4096 := ⟨t.val / 11 * 1024 + p.val, by have := t.isLt; have : cfg0.N = 44 := N_0; omega⟩

/-- At the end of a run the product is whole. -/
theorem acc_last (h1 : t.val % 11 = 10) (p : Fin 1024) (q : Fin 2048) :
    acc m c t.val t.isLt (ix2 p q) = ∑ k : Fin 5632, left m c (ix2 (row t p) k) * right m c (ix2 k q) := by
  rw [← V_left m c, ← V_right m c]
  refine whole (J := 11) (n := 512) (K := 5632) rfl (fun n h p q => acc m c n h (ix2 p q)) (fun t p k => leftAt m c t (ix2 p k)) (fun t q k => rightAt m c t (ix2 k q))
    (fun t h0 p q => ?_) (fun t h0 p q => ?_) t h1 (fun p k => V m c main_v0 (ix2 (row t p) k)) (fun q k => V m c main_v1 (ix2 k q))
    (fun s u hu p k hl => ?_) (fun s u hu q k hl => ?_) p q
  · rw [acc_first m c t h0, pay2_at, pay1_at]
  · rw [acc_next m c t h0, pay2_at]
  · have := s.isLt
    blk_ext [iblk, idx u, hu, row]
  · have := s.isLt
    blk_ext [iblk, idx u, hu, row]

/-- The result is the reference's. -/
theorem final : (dats m 0 c).arrAt 2 cfg0.N = Cert.DownFwdRefIdeal.Read.val_main_v0 (F := Ideal) (left m c) (right m c) := by
  refine (dats m 0 c).arrAt_eq_of_covers 2 _ (by decide +kernel) fun t hf y => ?_
  have h1 := (flush0_2 t).mp hf
  obtain ⟨p, q, rfl⟩ : ∃ (p : Fin 1024) (q : Fin 2048), y = ix2 p q := ⟨y 0, y 1, by funext a; fin_cases a <;> rfl⟩
  have e : ((cfg0.win 2).blk t).view.emb (ix2 p q) = ix2 (row t p) q := by
    blk_ext [idx t, row]
  rw [e, Cert.DownFwdRefIdeal.Read.val_main_v0_apply]
  blk_simp
  rw [after0_2, written m c t h1, acc_last m c t h1]
  refine (Finset.sum_congr rfl fun k _ => ?_ : (_ : EReal) = _)
  congr 2 <;> (funext a; fin_cases a <;> rfl)

theorem frame_ref : Cert.quiescent_DownFwdRefIdeal (hDownFwdRefIdeal := Cert.DownFwdRefIdeal.Gen.facts) := fun m ρ _ =>
  (θ_run Cert.DownFwdRefIdeal.defs _ _).mono (fun r h => ⟨fun c => (h c).2, sem_eq_zero_of_no_sems (by decide) r.2⟩)
    (Cert.DownFwdRefIdeal.Value.run (F := Ideal) m ρ)

theorem value : Cert.algebraic_DownFwdIdeal_DownFwdRefIdeal (hDownFwdIdeal := Cert.DownFwdIdeal.Gen.facts)
    (hDownFwdRefIdeal := Cert.DownFwdRefIdeal.Gen.facts) := by
  intro m g m' g' _ hagree
  refine ⟨fun c => (dats m 0 c).arrAt 2 cfg0.N,
    (θ_run _ _ _).mono (fun r h c => ⟨(h.1 c).1 2, h.2 c⟩) (θ_run_and (run_main m g) (unchanged m g)),
    (θ_run _ _ _).mono (fun r h c => ?_) (Cert.DownFwdRefIdeal.Value.run m' g')⟩
  obtain ⟨e0, e1⟩ := hagree c
  obtain ⟨h0, hargs⟩ := h c
  refine ⟨h0.trans ?_, hargs⟩
  rw [e0, e1]
  exact (final m c).symm

end Cert.Products.DownFwd

end

end
-- ==== Proof.UpFwd.lean ====
/-
  Half the feed-forward's first product, stretch by stretch of 1024: 2048 terms in each sum.
-/
module

public import proofs.«01_k».proof.Defs
public import proofs.«01_k».proof.Proof.Products
public import proofs.«01_k».proof.Proof.Gen.UpFwd.Frame
public import proofs.«01_k».proof.Proof.Gen.UpFwdIdeal.Frame
public import proofs.«01_k».proof.Proof.Gen.UpFwdRefIdeal.Run
public import proofs.«01_k».proof.Proof.Gen.UpFwdRefIdeal.Read
public import Idealize.ShloMosaic.Lib.StableHlo.RunRead
public import Idealize.ShloMosaic.Lib.Claim
public import Idealize.ShloMosaic.Lib.Pointwise
public import Idealize.ShloMosaic.Adequacy
public import Idealize.ShloMosaic.Init

@[expose] public section

set_option maxRecDepth 16384

noncomputable section

namespace Cert.Products.UpFwd

open Idealize.ShloMosaic Idealize.ShloMosaic.TcCoe Idealize.SL.Sem
open Cert.UpFwdIdeal Cert.UpFwdIdeal.Gen

variable (m : (ℓ : Loc nD τ sig) → Buf (Elt Ideal) ℓ) (c : Dev nD) (t : Fin cfg0.N)

/-- The operands. -/
abbrev left : FVec Ideal S4096x2048 .f32 := m ((c : Thread nD τ).loc main_arg0)
abbrev right : FVec Ideal S2048x5632 .f32 := m ((c : Thread nD τ).loc main_arg1)

/-- A point's blocks of the operands. -/
abbrev leftAt : FVec Ideal S1024x1024 .bf16 := iblk m c 0 t
abbrev rightAt : FVec Ideal S1024x2816 .bf16 := iblk m c 1 t

/-- The running product after a point. -/
def acc (n : ℕ) (hn : n < cfg0.N) : Vec Ideal S1024x2816 .f32 := (outsAt0 m c n hn).2

/-- Where a run of points begins, the product starts from zero. -/
theorem acc_first (h0 : t.val % 2 = 0) : acc m c t.val t.isLt = k0_pay2 (F := Ideal) (k0_pay1 (F := Ideal)) (leftAt m c t) (rightAt m c t) := by
  unfold acc
  rw [outsAt0_A m c t h0 (by omega)]
  dsimp only
  frame_out
  try rfl

/-- Elsewhere it goes on from the point before. -/
theorem acc_next (h0 : ¬t.val % 2 = 0) :
    acc m c t.val t.isLt = k0_pay2 (F := Ideal) (acc m c (t.val - 1) (by omega)) (leftAt m c t) (rightAt m c t) := by
  unfold acc
  rw [outsAt0_B m c t h0 (by omega)]
  dsimp only
  frame_out
  simp only [(Memref.isWhole_whole _).read_unread]
  try rfl

/-- Where a run ends, its product is written back. -/
theorem written (h1 : t.val % 2 = 1) : (outsAt0 m c t.val t.isLt).1 = acc m c t.val t.isLt := by
  rw [acc_next m c t (by omega)]
  unfold acc
  rw [outsAt0_B m c t (by omega) h1]
  dsimp only
  frame_out
  simp only [(Memref.isWhole_whole _).read_unread]
  try rfl

theorem pay1_at (i : S1024x2816.Idx) : k0_pay1 (F := Ideal) i = 0 := by
  pointwise [k0_pay1]

theorem pay2_at (y : Vec Ideal S1024x2816 .f32) (a : Vec Ideal S1024x1024 .bf16) (b : Vec Ideal S1024x2816 .bf16) (p : Fin 1024) (q : Fin 2816) :
    k0_pay2 (F := Ideal) y a b (ix2 p q) = y (ix2 p q) + ∑ k : Fin 1024, a (ix2 p k) * b (ix2 k q) := by
  pointwise [k0_pay2]

/-- The blocks each window stages. -/
theorem idx : ∀ t : Fin cfg0.N, win0_0.index t = ![t.val / 4, t.val % 2] ∧ win0_1.index t = ![t.val % 2, t.val / 2 % 2]
    ∧ win0_2.index t = ![t.val / 4, t.val / 2 % 2] :=
  (by decide +kernel : ∀ t : Fin grid0.N, _)

theorem V_left : V m c main_v0 = left m c := by
  unfold_abbrev_sides
  after_reads_simp
  rfl

theorem V_right : V m c main_v1 = right m c := by
  unfold_abbrev_sides
  after_reads_simp
  rfl

/-- The rows of a point's block. -/
abbrev row (p : Fin 1024) : Fin 4096 := ⟨t.val / 4 * 1024 + p.val, by have := t.isLt; have : cfg0.N = 16 := N_0; omega⟩
/-- The columns of a point's block. -/
abbrev col (q : Fin 2816) : Fin 5632 := ⟨t.val / 2 % 2 * 2816 + q.val, by omega⟩

/-- At the end of a run the product is whole. -/
theorem acc_last (h1 : t.val % 2 = 1) (p : Fin 1024) (q : Fin 2816) :
    acc m c t.val t.isLt (ix2 p q) = ∑ k : Fin 2048, left m c (ix2 (row t p) k) * right m c (ix2 k (col t q)) := by
  rw [← V_left m c, ← V_right m c]
  refine whole (J := 2) (n := 1024) (K := 2048) rfl (fun n h p q => acc m c n h (ix2 p q)) (fun t p k => leftAt m c t (ix2 p k)) (fun t q k => rightAt m c t (ix2 k q))
    (fun t h0 p q => ?_) (fun t h0 p q => ?_) t h1 (fun p k => V m c main_v0 (ix2 (row t p) k)) (fun q k => V m c main_v1 (ix2 k (col t q)))
    (fun s u hu p k hl => ?_) (fun s u hu q k hl => ?_) p q
  · rw [acc_first m c t h0, pay2_at, pay1_at]
  · rw [acc_next m c t h0, pay2_at]
  · have := s.isLt
    blk_ext [iblk, idx u, hu, row, col]
  · have := s.isLt
    blk_ext [iblk, idx u, hu, row, col]

/-- The result is the reference's. -/
theorem final : (dats m 0 c).arrAt 2 cfg0.N = Cert.UpFwdRefIdeal.Read.val_main_v0 (F := Ideal) (left m c) (right m c) := by
  refine (dats m 0 c).arrAt_eq_of_covers 2 _ (by decide +kernel) fun t hf y => ?_
  have h1 := (flush0_2 t).mp hf
  obtain ⟨p, q, rfl⟩ : ∃ (p : Fin 1024) (q : Fin 2816), y = ix2 p q := ⟨y 0, y 1, by funext a; fin_cases a <;> rfl⟩
  have e : ((cfg0.win 2).blk t).view.emb (ix2 p q) = ix2 (row t p) (col t q) := by
    blk_ext [idx t, row, col]
  rw [e, Cert.UpFwdRefIdeal.Read.val_main_v0_apply]
  blk_simp
  rw [after0_2, written m c t h1, acc_last m c t h1]
  refine (Finset.sum_congr rfl fun k _ => ?_ : (_ : EReal) = _)
  congr 2 <;> (funext a; fin_cases a <;> rfl)

theorem frame_ref : Cert.quiescent_UpFwdRefIdeal (hUpFwdRefIdeal := Cert.UpFwdRefIdeal.Gen.facts) := fun m ρ _ =>
  (θ_run Cert.UpFwdRefIdeal.defs _ _).mono (fun r h => ⟨fun c => (h c).2, sem_eq_zero_of_no_sems (by decide) r.2⟩)
    (Cert.UpFwdRefIdeal.Value.run (F := Ideal) m ρ)

theorem value : Cert.algebraic_UpFwdIdeal_UpFwdRefIdeal (hUpFwdIdeal := Cert.UpFwdIdeal.Gen.facts)
    (hUpFwdRefIdeal := Cert.UpFwdRefIdeal.Gen.facts) := by
  intro m g m' g' _ hagree
  refine ⟨fun c => (dats m 0 c).arrAt 2 cfg0.N,
    (θ_run _ _ _).mono (fun r h c => ⟨(h.1 c).1 2, h.2 c⟩) (θ_run_and (run_main m g) (unchanged m g)),
    (θ_run _ _ _).mono (fun r h c => ?_) (Cert.UpFwdRefIdeal.Value.run m' g')⟩
  obtain ⟨e0, e1⟩ := hagree c
  obtain ⟨h0, hargs⟩ := h c
  refine ⟨h0.trans ?_, hargs⟩
  rw [e0, e1]
  exact (final m c).symm

end Cert.Products.UpFwd

end

end
-- ==== Proof.MainFwd.lean ====
/-
  The main projection with its bias, stretch by stretch of 1024: 2048 terms in each sum.
-/
module

public import proofs.«01_k».proof.Defs
public import proofs.«01_k».proof.Proof.Products
public import proofs.«01_k».proof.Proof.Gen.MainFwd.Frame
public import proofs.«01_k».proof.Proof.Gen.MainFwdIdeal.Frame
public import proofs.«01_k».proof.Proof.Gen.MainFwdRefIdeal.Run
public import proofs.«01_k».proof.Proof.Gen.MainFwdRefIdeal.Read
public import Idealize.ShloMosaic.Lib.StableHlo.RunRead
public import Idealize.ShloMosaic.Lib.Claim
public import Idealize.ShloMosaic.Lib.Pointwise
public import Idealize.ShloMosaic.Adequacy
public import Idealize.ShloMosaic.Init

@[expose] public section

set_option maxRecDepth 16384

noncomputable section

namespace Cert.Products.MainFwd

open Idealize.ShloMosaic Idealize.ShloMosaic.TcCoe Idealize.SL.Sem
open Cert.MainFwdIdeal Cert.MainFwdIdeal.Gen

variable (m : (ℓ : Loc nD τ sig) → Buf (Elt Ideal) ℓ) (c : Dev nD) (t : Fin cfg0.N)

/-- The operands, and what is added to the product. -/
abbrev left : FVec Ideal S4096x2048 .f32 := m ((c : Thread nD τ).loc main_arg0)
abbrev right : FVec Ideal S2048x15360 .f32 := m ((c : Thread nD τ).loc main_arg1)
abbrev rest : FVec Ideal S15360 .f32 := m ((c : Thread nD τ).loc main_arg2)

/-- A point's blocks of the operands. -/
abbrev leftAt : FVec Ideal S1024x1024 .bf16 := iblk m c 0 t
abbrev rightAt : FVec Ideal S1024x2560 .bf16 := iblk m c 1 t

/-- The running product after a point. -/
def acc (n : ℕ) (hn : n < cfg0.N) : Vec Ideal S1024x2560 .f32 := (outsAt0 m c n hn).2

/-- Where a run of points begins, the product starts from zero. -/
theorem acc_first (h0 : t.val % 2 = 0) : acc m c t.val t.isLt = k0_pay2 (F := Ideal) (k0_pay1 (F := Ideal)) (leftAt m c t) (rightAt m c t) := by
  unfold acc
  rw [outsAt0_A m c t h0 (by omega)]
  dsimp only
  frame_out
  try rfl

/-- Elsewhere it goes on from the point before. -/
theorem acc_next (h0 : ¬t.val % 2 = 0) :
    acc m c t.val t.isLt = k0_pay2 (F := Ideal) (acc m c (t.val - 1) (by omega)) (leftAt m c t) (rightAt m c t) := by
  unfold acc
  rw [outsAt0_B m c t h0 (by omega)]
  dsimp only
  frame_out
  simp only [(Memref.isWhole_whole _).read_unread]
  try rfl

/-- Where a run ends, its product is written back, with what is added. -/
theorem written (h1 : t.val % 2 = 1) : (outsAt0 m c t.val t.isLt).1 = k0_pay3 (F := Ideal) (acc m c t.val t.isLt) (iblk m c 2 t) := by
  rw [acc_next m c t (by omega)]
  unfold acc
  rw [outsAt0_B m c t (by omega) h1]
  dsimp only
  frame_out
  simp only [(Memref.isWhole_whole _).read_unread]
  try rfl

theorem pay1_at (i : S1024x2560.Idx) : k0_pay1 (F := Ideal) i = 0 := by
  pointwise [k0_pay1]

theorem pay2_at (y : Vec Ideal S1024x2560 .f32) (a : Vec Ideal S1024x1024 .bf16) (b : Vec Ideal S1024x2560 .bf16) (p : Fin 1024) (q : Fin 2560) :
    k0_pay2 (F := Ideal) y a b (ix2 p q) = y (ix2 p q) + ∑ k : Fin 1024, a (ix2 p k) * b (ix2 k q) := by
  pointwise [k0_pay2]

theorem pay3_at (y : Vec Ideal S1024x2560 .f32) (r : Vec Ideal S1x2560 .f32) (p : Fin 1024) (q : Fin 2560) :
    k0_pay3 (F := Ideal) y r (ix2 p q) = y (ix2 p q) + r (ix2 0 q) := by
  pointwise [k0_pay3]

/-- The blocks each window stages. -/
theorem idx : ∀ t : Fin cfg0.N, win0_0.index t = ![t.val / 12, t.val % 2] ∧ win0_1.index t = ![t.val % 2, t.val / 2 % 6] ∧ win0_2.index t = ![0, t.val / 2 % 6]
    ∧ win0_3.index t = ![t.val / 12, t.val / 2 % 6] :=
  (by decide +kernel : ∀ t : Fin grid0.N, _)

theorem V_left : V m c main_v1 = left m c := by
  unfold_abbrev_sides
  after_reads_simp
  rfl

theorem V_right : V m c main_v2 = right m c := by
  unfold_abbrev_sides
  after_reads_simp
  rfl

/-- The rows of a point's block. -/
abbrev row (p : Fin 1024) : Fin 4096 := ⟨t.val / 12 * 1024 + p.val, by have := t.isLt; have : cfg0.N = 48 := N_0; omega⟩
/-- The columns of a point's block. -/
abbrev col (q : Fin 2560) : Fin 15360 := ⟨t.val / 2 % 6 * 2560 + q.val, by omega⟩

/-- At the end of a run the product is whole. -/
theorem acc_last (h1 : t.val % 2 = 1) (p : Fin 1024) (q : Fin 2560) :
    acc m c t.val t.isLt (ix2 p q) = ∑ k : Fin 2048, left m c (ix2 (row t p) k) * right m c (ix2 k (col t q)) := by
  rw [← V_left m c, ← V_right m c]
  refine whole (J := 2) (n := 1024) (K := 2048) rfl (fun n h p q => acc m c n h (ix2 p q)) (fun t p k => leftAt m c t (ix2 p k)) (fun t q k => rightAt m c t (ix2 k q))
    (fun t h0 p q => ?_) (fun t h0 p q => ?_) t h1 (fun p k => V m c main_v1 (ix2 (row t p) k)) (fun q k => V m c main_v2 (ix2 k (col t q)))
    (fun s u hu p k hl => ?_) (fun s u hu q k hl => ?_) p q
  · rw [acc_first m c t h0, pay2_at, pay1_at]
  · rw [acc_next m c t h0, pay2_at]
  · have := s.isLt
    blk_ext [iblk, idx u, hu, row, col]
  · have := s.isLt
    blk_ext [iblk, idx u, hu, row, col]

theorem V_rest (j : Fin 15360) : (V m c main_v0 : FVec Ideal S1x15360 .f32) (ix2 0 j) = rest m c (ix1 j) := by
  have e : V m c main_v0 = (broadcastInDim S1x15360 ![1] bcast_S15360_S1x15360_1 (rest m c) : FVec Ideal S1x15360 .f32) := by
    unfold_abbrev_sides
    after_reads_simp
  rw [e]
  pointwise []

theorem rest_at (q : Fin 2560) : (iblk m c 2 t : FVec Ideal S1x2560 .f32) (ix2 0 q) = rest m c (ix1 (col t q)) := by
  rw [← V_rest m c]
  blk_ext [iblk, idx t, row, col]

/-- The result is the reference's. -/
theorem final : (dats m 0 c).arrAt 3 cfg0.N = Cert.MainFwdRefIdeal.Read.val_main_v3 (F := Ideal) (left m c) (right m c) (rest m c) := by
  refine (dats m 0 c).arrAt_eq_of_covers 3 _ (by decide +kernel) fun t hf y => ?_
  have h1 := (flush0_3 t).mp hf
  obtain ⟨p, q, rfl⟩ : ∃ (p : Fin 1024) (q : Fin 2560), y = ix2 p q := ⟨y 0, y 1, by funext a; fin_cases a <;> rfl⟩
  have e : ((cfg0.win 3).blk t).view.emb (ix2 p q) = ix2 (row t p) (col t q) := by
    blk_ext [idx t, row, col]
  rw [e, Cert.MainFwdRefIdeal.Read.val_main_v3_apply, Cert.MainFwdRefIdeal.Read.val_main_v0_apply, Cert.MainFwdRefIdeal.Read.val_main_v2_apply, Cert.MainFwdRefIdeal.Read.val_main_v1_apply]
  blk_simp
  rw [after0_3, written m c t h1, pay3_at, acc_last m c t h1, rest_at]
  refine congrArg₂ (· + ·) (Finset.sum_congr rfl fun k _ => ?_) (congrArg (rest m c) (by funext a; fin_cases a; rfl))
  congr 2 <;> (funext a; fin_cases a <;> rfl)

theorem frame_ref : Cert.quiescent_MainFwdRefIdeal (hMainFwdRefIdeal := Cert.MainFwdRefIdeal.Gen.facts) := fun m ρ _ =>
  (θ_run Cert.MainFwdRefIdeal.defs _ _).mono (fun r h => ⟨fun c => (h c).2, sem_eq_zero_of_no_sems (by decide) r.2⟩)
    (Cert.MainFwdRefIdeal.Value.run (F := Ideal) m ρ)

theorem value : Cert.algebraic_MainFwdIdeal_MainFwdRefIdeal (hMainFwdIdeal := Cert.MainFwdIdeal.Gen.facts)
    (hMainFwdRefIdeal := Cert.MainFwdRefIdeal.Gen.facts) := by
  intro m g m' g' _ hagree
  refine ⟨fun c => (dats m 0 c).arrAt 3 cfg0.N,
    (θ_run _ _ _).mono (fun r h c => ⟨(h.1 c).1 3, h.2 c⟩) (θ_run_and (run_main m g) (unchanged m g)),
    (θ_run _ _ _).mono (fun r h c => ?_) (Cert.MainFwdRefIdeal.Value.run m' g')⟩
  obtain ⟨e0, e1, e2⟩ := hagree c
  obtain ⟨h0, hargs⟩ := h c
  refine ⟨h0.trans ?_, hargs⟩
  rw [e0, e1, e2]
  exact (final m c).symm

end Cert.Products.MainFwd

end

end
-- ==== Proof.OutDx.lean ====
/-
  The gradient of the output projection with respect to its input, stretch by stretch of 1024: 2048 terms in each sum.
-/
module

public import proofs.«01_k».proof.Defs
public import proofs.«01_k».proof.Proof.Products
public import proofs.«01_k».proof.Proof.Gen.OutDx.Frame
public import proofs.«01_k».proof.Proof.Gen.OutDxIdeal.Frame
public import proofs.«01_k».proof.Proof.Gen.OutDxRefIdeal.Run
public import proofs.«01_k».proof.Proof.Gen.OutDxRefIdeal.Read
public import Idealize.ShloMosaic.Lib.StableHlo.RunRead
public import Idealize.ShloMosaic.Lib.Claim
public import Idealize.ShloMosaic.Lib.Pointwise
public import Idealize.ShloMosaic.Adequacy
public import Idealize.ShloMosaic.Init

@[expose] public section

set_option maxRecDepth 16384

noncomputable section

namespace Cert.Products.OutDx

open Idealize.ShloMosaic Idealize.ShloMosaic.TcCoe Idealize.SL.Sem
open Cert.OutDxIdeal Cert.OutDxIdeal.Gen

variable (m : (ℓ : Loc nD τ sig) → Buf (Elt Ideal) ℓ) (c : Dev nD) (t : Fin cfg0.N)

/-- The operands. -/
abbrev left : FVec Ideal S4096x2048 .f32 := m ((c : Thread nD τ).loc main_arg0)
abbrev right : FVec Ideal S2048x2048 .f32 := m ((c : Thread nD τ).loc main_arg1)

/-- A point's blocks of the operands. -/
abbrev leftAt : FVec Ideal S1024x1024 .bf16 := iblk m c 0 t
abbrev rightAt : FVec Ideal S2048x1024 .bf16 := iblk m c 1 t

/-- The running product after a point. -/
def acc (n : ℕ) (hn : n < cfg0.N) : Vec Ideal S1024x2048 .f32 := (outsAt0 m c n hn).2

/-- Where a run of points begins, the product starts from zero. -/
theorem acc_first (h0 : t.val % 2 = 0) : acc m c t.val t.isLt = k0_pay2 (F := Ideal) (k0_pay1 (F := Ideal)) (leftAt m c t) (rightAt m c t) := by
  unfold acc
  rw [outsAt0_A m c t h0 (by omega)]
  dsimp only
  frame_out
  try rfl

/-- Elsewhere it goes on from the point before. -/
theorem acc_next (h0 : ¬t.val % 2 = 0) :
    acc m c t.val t.isLt = k0_pay2 (F := Ideal) (acc m c (t.val - 1) (by omega)) (leftAt m c t) (rightAt m c t) := by
  unfold acc
  rw [outsAt0_B m c t h0 (by omega)]
  dsimp only
  frame_out
  simp only [(Memref.isWhole_whole _).read_unread]
  try rfl

/-- Where a run ends, its product is written back. -/
theorem written (h1 : t.val % 2 = 1) : (outsAt0 m c t.val t.isLt).1 = acc m c t.val t.isLt := by
  rw [acc_next m c t (by omega)]
  unfold acc
  rw [outsAt0_B m c t (by omega) h1]
  dsimp only
  frame_out
  simp only [(Memref.isWhole_whole _).read_unread]
  try rfl

theorem pay1_at (i : S1024x2048.Idx) : k0_pay1 (F := Ideal) i = 0 := by
  pointwise [k0_pay1]

theorem pay2_at (y : Vec Ideal S1024x2048 .f32) (a : Vec Ideal S1024x1024 .bf16) (b : Vec Ideal S2048x1024 .bf16) (p : Fin 1024) (q : Fin 2048) :
    k0_pay2 (F := Ideal) y a b (ix2 p q) = y (ix2 p q) + ∑ k : Fin 1024, a (ix2 p k) * b (ix2 q k) := by
  pointwise [k0_pay2]

/-- The blocks each window stages. -/
theorem idx : ∀ t : Fin cfg0.N, win0_0.index t = ![t.val / 2, t.val % 2] ∧ win0_1.index t = ![0, t.val % 2]
    ∧ win0_2.index t = ![t.val / 2, 0] :=
  (by decide +kernel : ∀ t : Fin grid0.N, _)

theorem V_left : V m c main_v0 = left m c := by
  unfold_abbrev_sides
  after_reads_simp
  rfl

theorem V_right : V m c main_v1 = right m c := by
  unfold_abbrev_sides
  after_reads_simp
  rfl

/-- The rows of a point's block. -/
abbrev row (p : Fin 1024) : Fin 4096 := ⟨t.val / 2 * 1024 + p.val, by have := t.isLt; have : cfg0.N = 8 := N_0; omega⟩

/-- At the end of a run the product is whole. -/
theorem acc_last (h1 : t.val % 2 = 1) (p : Fin 1024) (q : Fin 2048) :
    acc m c t.val t.isLt (ix2 p q) = ∑ k : Fin 2048, left m c (ix2 (row t p) k) * right m c (ix2 q k) := by
  rw [← V_left m c, ← V_right m c]
  refine whole (J := 2) (n := 1024) (K := 2048) rfl (fun n h p q => acc m c n h (ix2 p q)) (fun t p k => leftAt m c t (ix2 p k)) (fun t q k => rightAt m c t (ix2 q k))
    (fun t h0 p q => ?_) (fun t h0 p q => ?_) t h1 (fun p k => V m c main_v0 (ix2 (row t p) k)) (fun q k => V m c main_v1 (ix2 q k))
    (fun s u hu p k hl => ?_) (fun s u hu q k hl => ?_) p q
  · rw [acc_first m c t h0, pay2_at, pay1_at]
  · rw [acc_next m c t h0, pay2_at]
  · have := s.isLt
    blk_ext [iblk, idx u, hu, row]
  · have := s.isLt
    blk_ext [iblk, idx u, hu, row]

/-- The result is the reference's. -/
theorem final : (dats m 0 c).arrAt 2 cfg0.N = Cert.OutDxRefIdeal.Read.val_main_v2 (F := Ideal) (left m c) (right m c) := by
  refine (dats m 0 c).arrAt_eq_of_covers 2 _ (by decide +kernel) fun t hf y => ?_
  have h1 := (flush0_2 t).mp hf
  obtain ⟨p, q, rfl⟩ : ∃ (p : Fin 1024) (q : Fin 2048), y = ix2 p q := ⟨y 0, y 1, by funext a; fin_cases a <;> rfl⟩
  have e : ((cfg0.win 2).blk t).view.emb (ix2 p q) = ix2 (row t p) q := by
    blk_ext [idx t, row]
  rw [e, Cert.OutDxRefIdeal.Read.val_main_v2_apply]
  blk_simp
  rw [after0_2, written m c t h1, acc_last m c t h1]
  refine (Finset.sum_congr rfl fun k _ => ?_ : (_ : EReal) = _)
  congr 2 <;> (funext a; fin_cases a <;> rfl)

theorem frame_ref : Cert.quiescent_OutDxRefIdeal (hOutDxRefIdeal := Cert.OutDxRefIdeal.Gen.facts) := fun m ρ _ =>
  (θ_run Cert.OutDxRefIdeal.defs _ _).mono (fun r h => ⟨fun c => (h c).2, sem_eq_zero_of_no_sems (by decide) r.2⟩)
    (Cert.OutDxRefIdeal.Value.run (F := Ideal) m ρ)

theorem value : Cert.algebraic_OutDxIdeal_OutDxRefIdeal (hOutDxIdeal := Cert.OutDxIdeal.Gen.facts)
    (hOutDxRefIdeal := Cert.OutDxRefIdeal.Gen.facts) := by
  intro m g m' g' _ hagree
  refine ⟨fun c => (dats m 0 c).arrAt 2 cfg0.N,
    (θ_run _ _ _).mono (fun r h c => ⟨(h.1 c).1 2, h.2 c⟩) (θ_run_and (run_main m g) (unchanged m g)),
    (θ_run _ _ _).mono (fun r h c => ?_) (Cert.OutDxRefIdeal.Value.run m' g')⟩
  obtain ⟨e0, e1⟩ := hagree c
  obtain ⟨h0, hargs⟩ := h c
  refine ⟨h0.trans ?_, hargs⟩
  rw [e0, e1]
  exact (final m c).symm

end Cert.Products.OutDx

end

end
-- ==== Proof.OutDw.lean ====
/-
  The gradient of the output projection with respect to its weight, stretch by stretch of 1024: 4096 terms in each sum.
-/
module

public import proofs.«01_k».proof.Defs
public import proofs.«01_k».proof.Proof.Products
public import proofs.«01_k».proof.Proof.Gen.OutDw.Frame
public import proofs.«01_k».proof.Proof.Gen.OutDwIdeal.Frame
public import proofs.«01_k».proof.Proof.Gen.OutDwRefIdeal.Run
public import proofs.«01_k».proof.Proof.Gen.OutDwRefIdeal.Read
public import Idealize.ShloMosaic.Lib.StableHlo.RunRead
public import Idealize.ShloMosaic.Lib.Claim
public import Idealize.ShloMosaic.Lib.Pointwise
public import Idealize.ShloMosaic.Adequacy
public import Idealize.ShloMosaic.Init

@[expose] public section

set_option maxRecDepth 16384

noncomputable section

namespace Cert.Products.OutDw

open Idealize.ShloMosaic Idealize.ShloMosaic.TcCoe Idealize.SL.Sem
open Cert.OutDwIdeal Cert.OutDwIdeal.Gen

variable (m : (ℓ : Loc nD τ sig) → Buf (Elt Ideal) ℓ) (c : Dev nD) (t : Fin cfg0.N)

/-- The operands. -/
abbrev left : FVec Ideal S4096x2048 .f32 := m ((c : Thread nD τ).loc main_arg0)
abbrev right : FVec Ideal S4096x2048 .f32 := m ((c : Thread nD τ).loc main_arg1)

/-- A point's blocks of the operands. -/
abbrev leftAt : FVec Ideal S1024x1024 .bf16 := iblk m c 0 t
abbrev rightAt : FVec Ideal S1024x2048 .bf16 := iblk m c 1 t

/-- The running product after a point. -/
def acc (n : ℕ) (hn : n < cfg0.N) : Vec Ideal S1024x2048 .f32 := (outsAt0 m c n hn).2

/-- Where a run of points begins, the product starts from zero. -/
theorem acc_first (h0 : t.val % 4 = 0) : acc m c t.val t.isLt = k0_pay2 (F := Ideal) (k0_pay1 (F := Ideal)) (leftAt m c t) (rightAt m c t) := by
  unfold acc
  rw [outsAt0_A m c t h0 (by omega)]
  dsimp only
  frame_out
  try rfl

/-- Elsewhere it goes on from the point before. -/
theorem acc_next (h0 : ¬t.val % 4 = 0) :
    acc m c t.val t.isLt = k0_pay2 (F := Ideal) (acc m c (t.val - 1) (by omega)) (leftAt m c t) (rightAt m c t) := by
  unfold acc
  by_cases h1 : t.val % 4 = 3
  · rw [outsAt0_C m c t h0 h1]
    dsimp only
    frame_out
    simp only [(Memref.isWhole_whole _).read_unread]
    try rfl
  · rw [outsAt0_B m c t h0 h1]
    dsimp only
    frame_out
    simp only [(Memref.isWhole_whole _).read_unread]
    try rfl

/-- Where a run ends, its product is written back. -/
theorem written (h1 : t.val % 4 = 3) : (outsAt0 m c t.val t.isLt).1 = acc m c t.val t.isLt := by
  rw [acc_next m c t (by omega)]
  unfold acc
  rw [outsAt0_C m c t (by omega) h1]
  dsimp only
  frame_out
  simp only [(Memref.isWhole_whole _).read_unread]
  try rfl

theorem pay1_at (i : S1024x2048.Idx) : k0_pay1 (F := Ideal) i = 0 := by
  pointwise [k0_pay1]

theorem pay2_at (y : Vec Ideal S1024x2048 .f32) (a : Vec Ideal S1024x1024 .bf16) (b : Vec Ideal S1024x2048 .bf16) (p : Fin 1024) (q : Fin 2048) :
    k0_pay2 (F := Ideal) y a b (ix2 p q) = y (ix2 p q) + ∑ k : Fin 1024, a (ix2 k p) * b (ix2 k q) := by
  pointwise [k0_pay2]

/-- The blocks each window stages. -/
theorem idx : ∀ t : Fin cfg0.N, win0_0.index t = ![t.val % 4, t.val / 4] ∧ win0_1.index t = ![t.val % 4, 0]
    ∧ win0_2.index t = ![t.val / 4, 0] :=
  (by decide +kernel : ∀ t : Fin grid0.N, _)

theorem V_left : V m c main_v0 = left m c := by
  unfold_abbrev_sides
  after_reads_simp
  rfl

theorem V_right : V m c main_v1 = right m c := by
  unfold_abbrev_sides
  after_reads_simp
  rfl

/-- The rows of a point's block. -/
abbrev row (p : Fin 1024) : Fin 2048 := ⟨t.val / 4 * 1024 + p.val, by have := t.isLt; have : cfg0.N = 8 := N_0; omega⟩

/-- At the end of a run the product is whole. -/
theorem acc_last (h1 : t.val % 4 = 3) (p : Fin 1024) (q : Fin 2048) :
    acc m c t.val t.isLt (ix2 p q) = ∑ k : Fin 4096, left m c (ix2 k (row t p)) * right m c (ix2 k q) := by
  rw [← V_left m c, ← V_right m c]
  refine whole (J := 4) (n := 1024) (K := 4096) rfl (fun n h p q => acc m c n h (ix2 p q)) (fun t p k => leftAt m c t (ix2 k p)) (fun t q k => rightAt m c t (ix2 k q))
    (fun t h0 p q => ?_) (fun t h0 p q => ?_) t h1 (fun p k => V m c main_v0 (ix2 k (row t p))) (fun q k => V m c main_v1 (ix2 k q))
    (fun s u hu p k hl => ?_) (fun s u hu q k hl => ?_) p q
  · rw [acc_first m c t h0, pay2_at, pay1_at]
  · rw [acc_next m c t h0, pay2_at]
  · have := s.isLt
    blk_ext [iblk, idx u, hu, row]
  · have := s.isLt
    blk_ext [iblk, idx u, hu, row]

/-- The result is the reference's. -/
theorem final : (dats m 0 c).arrAt 2 cfg0.N = Cert.OutDwRefIdeal.Read.val_main_v3 (F := Ideal) (left m c) (right m c) := by
  refine (dats m 0 c).arrAt_eq_of_covers 2 _ (by decide +kernel) fun t hf y => ?_
  have h1 := (flush0_2 t).mp hf
  obtain ⟨p, q, rfl⟩ : ∃ (p : Fin 1024) (q : Fin 2048), y = ix2 p q := ⟨y 0, y 1, by funext a; fin_cases a <;> rfl⟩
  have e : ((cfg0.win 2).blk t).view.emb (ix2 p q) = ix2 (row t p) q := by
    blk_ext [idx t, row]
  rw [e, Cert.OutDwRefIdeal.Read.val_main_v3_apply, Cert.OutDwRefIdeal.Read.val_main_v2_apply]
  blk_simp
  rw [after0_2, written m c t h1, acc_last m c t h1]
  refine (Finset.sum_congr rfl fun k _ => (mul_comm (_ : EReal) _).trans ?_ : (_ : EReal) = _)
  congr 2 <;> (funext a; fin_cases a <;> rfl)

theorem frame_ref : Cert.quiescent_OutDwRefIdeal (hOutDwRefIdeal := Cert.OutDwRefIdeal.Gen.facts) := fun m ρ _ =>
  (θ_run Cert.OutDwRefIdeal.defs _ _).mono (fun r h => ⟨fun c => (h c).2, sem_eq_zero_of_no_sems (by decide) r.2⟩)
    (Cert.OutDwRefIdeal.Value.run (F := Ideal) m ρ)

theorem value : Cert.algebraic_OutDwIdeal_OutDwRefIdeal (hOutDwIdeal := Cert.OutDwIdeal.Gen.facts)
    (hOutDwRefIdeal := Cert.OutDwRefIdeal.Gen.facts) := by
  intro m g m' g' _ hagree
  refine ⟨fun c => (dats m 0 c).arrAt 2 cfg0.N,
    (θ_run _ _ _).mono (fun r h c => ⟨(h.1 c).1 2, h.2 c⟩) (θ_run_and (run_main m g) (unchanged m g)),
    (θ_run _ _ _).mono (fun r h c => ?_) (Cert.OutDwRefIdeal.Value.run m' g')⟩
  obtain ⟨e0, e1⟩ := hagree c
  obtain ⟨h0, hargs⟩ := h c
  refine ⟨h0.trans ?_, hargs⟩
  rw [e0, e1]
  exact (final m c).symm

end Cert.Products.OutDw

end

end
-- ==== Proof.BranchDx.lean ====
/-
  The gradient of a branch's projection with respect to its input, stretch by stretch of 1024: 2048 terms in each sum.
-/
module

public import proofs.«01_k».proof.Defs
public import proofs.«01_k».proof.Proof.Products
public import proofs.«01_k».proof.Proof.Gen.BranchDx.Frame
public import proofs.«01_k».proof.Proof.Gen.BranchDxIdeal.Frame
public import proofs.«01_k».proof.Proof.Gen.BranchDxRefIdeal.Run
public import proofs.«01_k».proof.Proof.Gen.BranchDxRefIdeal.Read
public import Idealize.ShloMosaic.Lib.StableHlo.RunRead
public import Idealize.ShloMosaic.Lib.Claim
public import Idealize.ShloMosaic.Lib.Pointwise
public import Idealize.ShloMosaic.Adequacy
public import Idealize.ShloMosaic.Init

@[expose] public section

set_option maxRecDepth 16384

noncomputable section

namespace Cert.Products.BranchDx

open Idealize.ShloMosaic Idealize.ShloMosaic.TcCoe Idealize.SL.Sem
open Cert.BranchDxIdeal Cert.BranchDxIdeal.Gen

variable (m : (ℓ : Loc nD τ sig) → Buf (Elt Ideal) ℓ) (c : Dev nD) (t : Fin cfg0.N)

/-- The operands. -/
abbrev left : FVec Ideal S4096x2048 .f32 := m ((c : Thread nD τ).loc main_arg0)
abbrev right : FVec Ideal S1024x2048 .f32 := m ((c : Thread nD τ).loc main_arg1)

/-- A point's blocks of the operands. -/
abbrev leftAt : FVec Ideal S1024x1024 .bf16 := iblk m c 0 t
abbrev rightAt : FVec Ideal S1024x1024 .bf16 := iblk m c 1 t

/-- The running product after a point. -/
def acc (n : ℕ) (hn : n < cfg0.N) : Vec Ideal S1024x1024 .f32 := (outsAt0 m c n hn).2

/-- Where a run of points begins, the product starts from zero. -/
theorem acc_first (h0 : t.val % 2 = 0) : acc m c t.val t.isLt = k0_pay2 (F := Ideal) (k0_pay1 (F := Ideal)) (leftAt m c t) (rightAt m c t) := by
  unfold acc
  rw [outsAt0_A m c t h0 (by omega)]
  dsimp only
  frame_out
  try rfl

/-- Elsewhere it goes on from the point before. -/
theorem acc_next (h0 : ¬t.val % 2 = 0) :
    acc m c t.val t.isLt = k0_pay2 (F := Ideal) (acc m c (t.val - 1) (by omega)) (leftAt m c t) (rightAt m c t) := by
  unfold acc
  rw [outsAt0_B m c t h0 (by omega)]
  dsimp only
  frame_out
  simp only [(Memref.isWhole_whole _).read_unread]
  try rfl

/-- Where a run ends, its product is written back. -/
theorem written (h1 : t.val % 2 = 1) : (outsAt0 m c t.val t.isLt).1 = acc m c t.val t.isLt := by
  rw [acc_next m c t (by omega)]
  unfold acc
  rw [outsAt0_B m c t (by omega) h1]
  dsimp only
  frame_out
  simp only [(Memref.isWhole_whole _).read_unread]
  try rfl

theorem pay1_at (i : S1024x1024.Idx) : k0_pay1 (F := Ideal) i = 0 := by
  pointwise [k0_pay1]

theorem pay2_at (y : Vec Ideal S1024x1024 .f32) (a : Vec Ideal S1024x1024 .bf16) (b : Vec Ideal S1024x1024 .bf16) (p : Fin 1024) (q : Fin 1024) :
    k0_pay2 (F := Ideal) y a b (ix2 p q) = y (ix2 p q) + ∑ k : Fin 1024, a (ix2 p k) * b (ix2 q k) := by
  pointwise [k0_pay2]

/-- The blocks each window stages. -/
theorem idx : ∀ t : Fin cfg0.N, win0_0.index t = ![t.val / 2, t.val % 2] ∧ win0_1.index t = ![0, t.val % 2]
    ∧ win0_2.index t = ![t.val / 2, 0] :=
  (by decide +kernel : ∀ t : Fin grid0.N, _)

theorem V_left : V m c main_v0 = left m c := by
  unfold_abbrev_sides
  after_reads_simp
  rfl

theorem V_right : V m c main_v1 = right m c := by
  unfold_abbrev_sides
  after_reads_simp
  rfl

/-- The rows of a point's block. -/
abbrev row (p : Fin 1024) : Fin 4096 := ⟨t.val / 2 * 1024 + p.val, by have := t.isLt; have : cfg0.N = 8 := N_0; omega⟩

/-- At the end of a run the product is whole. -/
theorem acc_last (h1 : t.val % 2 = 1) (p : Fin 1024) (q : Fin 1024) :
    acc m c t.val t.isLt (ix2 p q) = ∑ k : Fin 2048, left m c (ix2 (row t p) k) * right m c (ix2 q k) := by
  rw [← V_left m c, ← V_right m c]
  refine whole (J := 2) (n := 1024) (K := 2048) rfl (fun n h p q => acc m c n h (ix2 p q)) (fun t p k => leftAt m c t (ix2 p k)) (fun t q k => rightAt m c t (ix2 q k))
    (fun t h0 p q => ?_) (fun t h0 p q => ?_) t h1 (fun p k => V m c main_v0 (ix2 (row t p) k)) (fun q k => V m c main_v1 (ix2 q k))
    (fun s u hu p k hl => ?_) (fun s u hu q k hl => ?_) p q
  · rw [acc_first m c t h0, pay2_at, pay1_at]
  · rw [acc_next m c t h0, pay2_at]
  · have := s.isLt
    blk_ext [iblk, idx u, hu, row]
  · have := s.isLt
    blk_ext [iblk, idx u, hu, row]

/-- The result is the reference's. -/
theorem final : (dats m 0 c).arrAt 2 cfg0.N = Cert.BranchDxRefIdeal.Read.val_main_v2 (F := Ideal) (left m c) (right m c) := by
  refine (dats m 0 c).arrAt_eq_of_covers 2 _ (by decide +kernel) fun t hf y => ?_
  have h1 := (flush0_2 t).mp hf
  obtain ⟨p, q, rfl⟩ : ∃ (p : Fin 1024) (q : Fin 1024), y = ix2 p q := ⟨y 0, y 1, by funext a; fin_cases a <;> rfl⟩
  have e : ((cfg0.win 2).blk t).view.emb (ix2 p q) = ix2 (row t p) q := by
    blk_ext [idx t, row]
  rw [e, Cert.BranchDxRefIdeal.Read.val_main_v2_apply]
  blk_simp
  rw [after0_2, written m c t h1, acc_last m c t h1]
  refine (Finset.sum_congr rfl fun k _ => ?_ : (_ : EReal) = _)
  congr 2 <;> (funext a; fin_cases a <;> rfl)

theorem frame_ref : Cert.quiescent_BranchDxRefIdeal (hBranchDxRefIdeal := Cert.BranchDxRefIdeal.Gen.facts) := fun m ρ _ =>
  (θ_run Cert.BranchDxRefIdeal.defs _ _).mono (fun r h => ⟨fun c => (h c).2, sem_eq_zero_of_no_sems (by decide) r.2⟩)
    (Cert.BranchDxRefIdeal.Value.run (F := Ideal) m ρ)

theorem value : Cert.algebraic_BranchDxIdeal_BranchDxRefIdeal (hBranchDxIdeal := Cert.BranchDxIdeal.Gen.facts)
    (hBranchDxRefIdeal := Cert.BranchDxRefIdeal.Gen.facts) := by
  intro m g m' g' _ hagree
  refine ⟨fun c => (dats m 0 c).arrAt 2 cfg0.N,
    (θ_run _ _ _).mono (fun r h c => ⟨(h.1 c).1 2, h.2 c⟩) (θ_run_and (run_main m g) (unchanged m g)),
    (θ_run _ _ _).mono (fun r h c => ?_) (Cert.BranchDxRefIdeal.Value.run m' g')⟩
  obtain ⟨e0, e1⟩ := hagree c
  obtain ⟨h0, hargs⟩ := h c
  refine ⟨h0.trans ?_, hargs⟩
  rw [e0, e1]
  exact (final m c).symm

end Cert.Products.BranchDx

end

end
-- ==== Proof.BranchDw.lean ====
/-
  The gradient of a branch's projection with respect to its weight, stretch by stretch of 1024: 4096 terms in each sum.
-/
module

public import proofs.«01_k».proof.Defs
public import proofs.«01_k».proof.Proof.Products
public import proofs.«01_k».proof.Proof.Gen.BranchDw.Frame
public import proofs.«01_k».proof.Proof.Gen.BranchDwIdeal.Frame
public import proofs.«01_k».proof.Proof.Gen.BranchDwRefIdeal.Run
public import proofs.«01_k».proof.Proof.Gen.BranchDwRefIdeal.Read
public import Idealize.ShloMosaic.Lib.StableHlo.RunRead
public import Idealize.ShloMosaic.Lib.Claim
public import Idealize.ShloMosaic.Lib.Pointwise
public import Idealize.ShloMosaic.Adequacy
public import Idealize.ShloMosaic.Init

@[expose] public section

set_option maxRecDepth 16384

noncomputable section

namespace Cert.Products.BranchDw

open Idealize.ShloMosaic Idealize.ShloMosaic.TcCoe Idealize.SL.Sem
open Cert.BranchDwIdeal Cert.BranchDwIdeal.Gen

variable (m : (ℓ : Loc nD τ sig) → Buf (Elt Ideal) ℓ) (c : Dev nD) (t : Fin cfg0.N)

/-- The operands. -/
abbrev left : FVec Ideal S4096x1024 .f32 := m ((c : Thread nD τ).loc main_arg0)
abbrev right : FVec Ideal S4096x2048 .f32 := m ((c : Thread nD τ).loc main_arg1)

/-- A point's blocks of the operands. -/
abbrev leftAt : FVec Ideal S1024x1024 .bf16 := iblk m c 0 t
abbrev rightAt : FVec Ideal S1024x2048 .bf16 := iblk m c 1 t

/-- The running product after a point. -/
def acc (n : ℕ) (hn : n < cfg0.N) : Vec Ideal S1024x2048 .f32 := (outsAt0 m c n hn).2

/-- Where a run of points begins, the product starts from zero. -/
theorem acc_first (h0 : t.val % 4 = 0) : acc m c t.val t.isLt = k0_pay2 (F := Ideal) (k0_pay1 (F := Ideal)) (leftAt m c t) (rightAt m c t) := by
  unfold acc
  rw [outsAt0_A m c t h0 (by omega)]
  dsimp only
  frame_out
  try rfl

/-- Elsewhere it goes on from the point before. -/
theorem acc_next (h0 : ¬t.val % 4 = 0) :
    acc m c t.val t.isLt = k0_pay2 (F := Ideal) (acc m c (t.val - 1) (by omega)) (leftAt m c t) (rightAt m c t) := by
  unfold acc
  by_cases h1 : t.val % 4 = 3
  · rw [outsAt0_C m c t h0 h1]
    dsimp only
    frame_out
    simp only [(Memref.isWhole_whole _).read_unread]
    try rfl
  · rw [outsAt0_B m c t h0 h1]
    dsimp only
    frame_out
    simp only [(Memref.isWhole_whole _).read_unread]
    try rfl

/-- Where a run ends, its product is written back. -/
theorem written (h1 : t.val % 4 = 3) : (outsAt0 m c t.val t.isLt).1 = acc m c t.val t.isLt := by
  rw [acc_next m c t (by omega)]
  unfold acc
  rw [outsAt0_C m c t (by omega) h1]
  dsimp only
  frame_out
  simp only [(Memref.isWhole_whole _).read_unread]
  try rfl

theorem pay1_at (i : S1024x2048.Idx) : k0_pay1 (F := Ideal) i = 0 := by
  pointwise [k0_pay1]

theorem pay2_at (y : Vec Ideal S1024x2048 .f32) (a : Vec Ideal S1024x1024 .bf16) (b : Vec Ideal S1024x2048 .bf16) (p : Fin 1024) (q : Fin 2048) :
    k0_pay2 (F := Ideal) y a b (ix2 p q) = y (ix2 p q) + ∑ k : Fin 1024, a (ix2 k p) * b (ix2 k q) := by
  pointwise [k0_pay2]

/-- The blocks each window stages. -/
theorem idx : ∀ t : Fin cfg0.N, win0_0.index t = ![t.val % 4, 0] ∧ win0_1.index t = ![t.val % 4, 0]
    ∧ win0_2.index t = ![0, 0] :=
  (by decide +kernel : ∀ t : Fin grid0.N, _)

theorem V_left : V m c main_v0 = left m c := by
  unfold_abbrev_sides
  after_reads_simp
  rfl

theorem V_right : V m c main_v1 = right m c := by
  unfold_abbrev_sides
  after_reads_simp
  rfl

/-- At the end of a run the product is whole. -/
theorem acc_last (h1 : t.val % 4 = 3) (p : Fin 1024) (q : Fin 2048) :
    acc m c t.val t.isLt (ix2 p q) = ∑ k : Fin 4096, left m c (ix2 k p) * right m c (ix2 k q) := by
  rw [← V_left m c, ← V_right m c]
  refine whole (J := 4) (n := 1024) (K := 4096) rfl (fun n h p q => acc m c n h (ix2 p q)) (fun t p k => leftAt m c t (ix2 k p)) (fun t q k => rightAt m c t (ix2 k q))
    (fun t h0 p q => ?_) (fun t h0 p q => ?_) t h1 (fun p k => V m c main_v0 (ix2 k p)) (fun q k => V m c main_v1 (ix2 k q))
    (fun s u hu p k hl => ?_) (fun s u hu q k hl => ?_) p q
  · rw [acc_first m c t h0, pay2_at, pay1_at]
  · rw [acc_next m c t h0, pay2_at]
  · have := s.isLt
    blk_ext [iblk, idx u, hu]
  · have := s.isLt
    blk_ext [iblk, idx u, hu]

/-- The result is the reference's. -/
theorem final : (dats m 0 c).arrAt 2 cfg0.N = Cert.BranchDwRefIdeal.Read.val_main_v3 (F := Ideal) (left m c) (right m c) := by
  refine (dats m 0 c).arrAt_eq_of_covers 2 _ (by decide +kernel) fun t hf y => ?_
  have h1 := (flush0_2 t).mp hf
  obtain ⟨p, q, rfl⟩ : ∃ (p : Fin 1024) (q : Fin 2048), y = ix2 p q := ⟨y 0, y 1, by funext a; fin_cases a <;> rfl⟩
  have e : ((cfg0.win 2).blk t).view.emb (ix2 p q) = ix2 p q := by
    blk_ext [idx t]
  rw [e, Cert.BranchDwRefIdeal.Read.val_main_v3_apply, Cert.BranchDwRefIdeal.Read.val_main_v2_apply]
  blk_simp
  rw [after0_2, written m c t h1, acc_last m c t h1]
  refine (Finset.sum_congr rfl fun k _ => (mul_comm (_ : EReal) _).trans ?_ : (_ : EReal) = _)
  congr 2 <;> (funext a; fin_cases a <;> rfl)

theorem frame_ref : Cert.quiescent_BranchDwRefIdeal (hBranchDwRefIdeal := Cert.BranchDwRefIdeal.Gen.facts) := fun m ρ _ =>
  (θ_run Cert.BranchDwRefIdeal.defs _ _).mono (fun r h => ⟨fun c => (h c).2, sem_eq_zero_of_no_sems (by decide) r.2⟩)
    (Cert.BranchDwRefIdeal.Value.run (F := Ideal) m ρ)

theorem value : Cert.algebraic_BranchDwIdeal_BranchDwRefIdeal (hBranchDwIdeal := Cert.BranchDwIdeal.Gen.facts)
    (hBranchDwRefIdeal := Cert.BranchDwRefIdeal.Gen.facts) := by
  intro m g m' g' _ hagree
  refine ⟨fun c => (dats m 0 c).arrAt 2 cfg0.N,
    (θ_run _ _ _).mono (fun r h c => ⟨(h.1 c).1 2, h.2 c⟩) (θ_run_and (run_main m g) (unchanged m g)),
    (θ_run _ _ _).mono (fun r h c => ?_) (Cert.BranchDwRefIdeal.Value.run m' g')⟩
  obtain ⟨e0, e1⟩ := hagree c
  obtain ⟨h0, hargs⟩ := h c
  refine ⟨h0.trans ?_, hargs⟩
  rw [e0, e1]
  exact (final m c).symm

end Cert.Products.BranchDw

end

end
-- ==== Proof.DownDx.lean ====
/-
  The gradient of the feed-forward's second product with respect to its input, stretch by stretch of 1024: 2048 terms in each sum.
-/
module

public import proofs.«01_k».proof.Defs
public import proofs.«01_k».proof.Proof.Products
public import proofs.«01_k».proof.Proof.Gen.DownDx.Frame
public import proofs.«01_k».proof.Proof.Gen.DownDxIdeal.Frame
public import proofs.«01_k».proof.Proof.Gen.DownDxRefIdeal.Run
public import proofs.«01_k».proof.Proof.Gen.DownDxRefIdeal.Read
public import Idealize.ShloMosaic.Lib.StableHlo.RunRead
public import Idealize.ShloMosaic.Lib.Claim
public import Idealize.ShloMosaic.Lib.Pointwise
public import Idealize.ShloMosaic.Adequacy
public import Idealize.ShloMosaic.Init

@[expose] public section

set_option maxRecDepth 16384

noncomputable section

namespace Cert.Products.DownDx

open Idealize.ShloMosaic Idealize.ShloMosaic.TcCoe Idealize.SL.Sem
open Cert.DownDxIdeal Cert.DownDxIdeal.Gen

variable (m : (ℓ : Loc nD τ sig) → Buf (Elt Ideal) ℓ) (c : Dev nD) (t : Fin cfg0.N)

/-- The operands. -/
abbrev left : FVec Ideal S4096x2048 .f32 := m ((c : Thread nD τ).loc main_arg0)
abbrev right : FVec Ideal S5632x2048 .f32 := m ((c : Thread nD τ).loc main_arg1)

/-- A point's blocks of the operands. -/
abbrev leftAt : FVec Ideal S1024x1024 .bf16 := iblk m c 0 t
abbrev rightAt : FVec Ideal S2816x1024 .bf16 := iblk m c 1 t

/-- The running product after a point. -/
def acc (n : ℕ) (hn : n < cfg0.N) : Vec Ideal S1024x2816 .f32 := (outsAt0 m c n hn).2

/-- Where a run of points begins, the product starts from zero. -/
theorem acc_first (h0 : t.val % 2 = 0) : acc m c t.val t.isLt = k0_pay2 (F := Ideal) (k0_pay1 (F := Ideal)) (leftAt m c t) (rightAt m c t) := by
  unfold acc
  rw [outsAt0_A m c t h0 (by omega)]
  dsimp only
  frame_out
  try rfl

/-- Elsewhere it goes on from the point before. -/
theorem acc_next (h0 : ¬t.val % 2 = 0) :
    acc m c t.val t.isLt = k0_pay2 (F := Ideal) (acc m c (t.val - 1) (by omega)) (leftAt m c t) (rightAt m c t) := by
  unfold acc
  rw [outsAt0_B m c t h0 (by omega)]
  dsimp only
  frame_out
  simp only [(Memref.isWhole_whole _).read_unread]
  try rfl

/-- Where a run ends, its product is written back. -/
theorem written (h1 : t.val % 2 = 1) : (outsAt0 m c t.val t.isLt).1 = acc m c t.val t.isLt := by
  rw [acc_next m c t (by omega)]
  unfold acc
  rw [outsAt0_B m c t (by omega) h1]
  dsimp only
  frame_out
  simp only [(Memref.isWhole_whole _).read_unread]
  try rfl

theorem pay1_at (i : S1024x2816.Idx) : k0_pay1 (F := Ideal) i = 0 := by
  pointwise [k0_pay1]

theorem pay2_at (y : Vec Ideal S1024x2816 .f32) (a : Vec Ideal S1024x1024 .bf16) (b : Vec Ideal S2816x1024 .bf16) (p : Fin 1024) (q : Fin 2816) :
    k0_pay2 (F := Ideal) y a b (ix2 p q) = y (ix2 p q) + ∑ k : Fin 1024, a (ix2 p k) * b (ix2 q k) := by
  pointwise [k0_pay2]

/-- The blocks each window stages. -/
theorem idx : ∀ t : Fin cfg0.N, win0_0.index t = ![t.val / 4, t.val % 2] ∧ win0_1.index t = ![t.val / 2 % 2, t.val % 2]
    ∧ win0_2.index t = ![t.val / 4, t.val / 2 % 2] :=
  (by decide +kernel : ∀ t : Fin grid0.N, _)

theorem V_left : V m c main_v0 = left m c := by
  unfold_abbrev_sides
  after_reads_simp
  rfl

theorem V_right : V m c main_v1 = right m c := by
  unfold_abbrev_sides
  after_reads_simp
  rfl

/-- The rows of a point's block. -/
abbrev row (p : Fin 1024) : Fin 4096 := ⟨t.val / 4 * 1024 + p.val, by have := t.isLt; have : cfg0.N = 16 := N_0; omega⟩
/-- The columns of a point's block. -/
abbrev col (q : Fin 2816) : Fin 5632 := ⟨t.val / 2 % 2 * 2816 + q.val, by omega⟩

/-- At the end of a run the product is whole. -/
theorem acc_last (h1 : t.val % 2 = 1) (p : Fin 1024) (q : Fin 2816) :
    acc m c t.val t.isLt (ix2 p q) = ∑ k : Fin 2048, left m c (ix2 (row t p) k) * right m c (ix2 (col t q) k) := by
  rw [← V_left m c, ← V_right m c]
  refine whole (J := 2) (n := 1024) (K := 2048) rfl (fun n h p q => acc m c n h (ix2 p q)) (fun t p k => leftAt m c t (ix2 p k)) (fun t q k => rightAt m c t (ix2 q k))
    (fun t h0 p q => ?_) (fun t h0 p q => ?_) t h1 (fun p k => V m c main_v0 (ix2 (row t p) k)) (fun q k => V m c main_v1 (ix2 (col t q) k))
    (fun s u hu p k hl => ?_) (fun s u hu q k hl => ?_) p q
  · rw [acc_first m c t h0, pay2_at, pay1_at]
  · rw [acc_next m c t h0, pay2_at]
  · have := s.isLt
    blk_ext [iblk, idx u, hu, row, col]
  · have := s.isLt
    blk_ext [iblk, idx u, hu, row, col]

/-- The result is the reference's. -/
theorem final : (dats m 0 c).arrAt 2 cfg0.N = Cert.DownDxRefIdeal.Read.val_main_v2 (F := Ideal) (left m c) (right m c) := by
  refine (dats m 0 c).arrAt_eq_of_covers 2 _ (by decide +kernel) fun t hf y => ?_
  have h1 := (flush0_2 t).mp hf
  obtain ⟨p, q, rfl⟩ : ∃ (p : Fin 1024) (q : Fin 2816), y = ix2 p q := ⟨y 0, y 1, by funext a; fin_cases a <;> rfl⟩
  have e : ((cfg0.win 2).blk t).view.emb (ix2 p q) = ix2 (row t p) (col t q) := by
    blk_ext [idx t, row, col]
  rw [e, Cert.DownDxRefIdeal.Read.val_main_v2_apply]
  blk_simp
  rw [after0_2, written m c t h1, acc_last m c t h1]
  refine (Finset.sum_congr rfl fun k _ => ?_ : (_ : EReal) = _)
  congr 2 <;> (funext a; fin_cases a <;> rfl)

theorem frame_ref : Cert.quiescent_DownDxRefIdeal (hDownDxRefIdeal := Cert.DownDxRefIdeal.Gen.facts) := fun m ρ _ =>
  (θ_run Cert.DownDxRefIdeal.defs _ _).mono (fun r h => ⟨fun c => (h c).2, sem_eq_zero_of_no_sems (by decide) r.2⟩)
    (Cert.DownDxRefIdeal.Value.run (F := Ideal) m ρ)

theorem value : Cert.algebraic_DownDxIdeal_DownDxRefIdeal (hDownDxIdeal := Cert.DownDxIdeal.Gen.facts)
    (hDownDxRefIdeal := Cert.DownDxRefIdeal.Gen.facts) := by
  intro m g m' g' _ hagree
  refine ⟨fun c => (dats m 0 c).arrAt 2 cfg0.N,
    (θ_run _ _ _).mono (fun r h c => ⟨(h.1 c).1 2, h.2 c⟩) (θ_run_and (run_main m g) (unchanged m g)),
    (θ_run _ _ _).mono (fun r h c => ?_) (Cert.DownDxRefIdeal.Value.run m' g')⟩
  obtain ⟨e0, e1⟩ := hagree c
  obtain ⟨h0, hargs⟩ := h c
  refine ⟨h0.trans ?_, hargs⟩
  rw [e0, e1]
  exact (final m c).symm

end Cert.Products.DownDx

end

end
-- ==== Proof.DownDw.lean ====
/-
  The gradient of the feed-forward's second product with respect to its weight, stretch by stretch of 1024: 4096 terms in each sum.
-/
module

public import proofs.«01_k».proof.Defs
public import proofs.«01_k».proof.Proof.Products
public import proofs.«01_k».proof.Proof.Gen.DownDw.Frame
public import proofs.«01_k».proof.Proof.Gen.DownDwIdeal.Frame
public import proofs.«01_k».proof.Proof.Gen.DownDwRefIdeal.Run
public import proofs.«01_k».proof.Proof.Gen.DownDwRefIdeal.Read
public import Idealize.ShloMosaic.Lib.StableHlo.RunRead
public import Idealize.ShloMosaic.Lib.Claim
public import Idealize.ShloMosaic.Lib.Pointwise
public import Idealize.ShloMosaic.Adequacy
public import Idealize.ShloMosaic.Init

@[expose] public section

set_option maxRecDepth 16384

noncomputable section

namespace Cert.Products.DownDw

open Idealize.ShloMosaic Idealize.ShloMosaic.TcCoe Idealize.SL.Sem
open Cert.DownDwIdeal Cert.DownDwIdeal.Gen

variable (m : (ℓ : Loc nD τ sig) → Buf (Elt Ideal) ℓ) (c : Dev nD) (t : Fin cfg0.N)

/-- The operands. -/
abbrev left : FVec Ideal S4096x5632 .f32 := m ((c : Thread nD τ).loc main_arg0)
abbrev right : FVec Ideal S4096x2048 .f32 := m ((c : Thread nD τ).loc main_arg1)

/-- A point's blocks of the operands. -/
abbrev leftAt : FVec Ideal S1024x512 .bf16 := iblk m c 0 t
abbrev rightAt : FVec Ideal S1024x2048 .bf16 := iblk m c 1 t

/-- The running product after a point. -/
def acc (n : ℕ) (hn : n < cfg0.N) : Vec Ideal S512x2048 .f32 := (outsAt0 m c n hn).2

/-- Where a run of points begins, the product starts from zero. -/
theorem acc_first (h0 : t.val % 4 = 0) : acc m c t.val t.isLt = k0_pay2 (F := Ideal) (k0_pay1 (F := Ideal)) (leftAt m c t) (rightAt m c t) := by
  unfold acc
  rw [outsAt0_A m c t h0 (by omega)]
  dsimp only
  frame_out
  try rfl

/-- Elsewhere it goes on from the point before. -/
theorem acc_next (h0 : ¬t.val % 4 = 0) :
    acc m c t.val t.isLt = k0_pay2 (F := Ideal) (acc m c (t.val - 1) (by omega)) (leftAt m c t) (rightAt m c t) := by
  unfold acc
  by_cases h1 : t.val % 4 = 3
  · rw [outsAt0_C m c t h0 h1]
    dsimp only
    frame_out
    simp only [(Memref.isWhole_whole _).read_unread]
    try rfl
  · rw [outsAt0_B m c t h0 h1]
    dsimp only
    frame_out
    simp only [(Memref.isWhole_whole _).read_unread]
    try rfl

/-- Where a run ends, its product is written back. -/
theorem written (h1 : t.val % 4 = 3) : (outsAt0 m c t.val t.isLt).1 = acc m c t.val t.isLt := by
  rw [acc_next m c t (by omega)]
  unfold acc
  rw [outsAt0_C m c t (by omega) h1]
  dsimp only
  frame_out
  simp only [(Memref.isWhole_whole _).read_unread]
  try rfl

theorem pay1_at (i : S512x2048.Idx) : k0_pay1 (F := Ideal) i = 0 := by
  pointwise [k0_pay1]

theorem pay2_at (y : Vec Ideal S512x2048 .f32) (a : Vec Ideal S1024x512 .bf16) (b : Vec Ideal S1024x2048 .bf16) (p : Fin 512) (q : Fin 2048) :
    k0_pay2 (F := Ideal) y a b (ix2 p q) = y (ix2 p q) + ∑ k : Fin 1024, a (ix2 k p) * b (ix2 k q) := by
  pointwise [k0_pay2]

/-- The blocks each window stages. -/
theorem idx : ∀ t : Fin cfg0.N, win0_0.index t = ![t.val % 4, t.val / 4] ∧ win0_1.index t = ![t.val % 4, 0]
    ∧ win0_2.index t = ![t.val / 4, 0] :=
  (by decide +kernel : ∀ t : Fin grid0.N, _)

theorem V_left : V m c main_v0 = left m c := by
  unfold_abbrev_sides
  after_reads_simp
  rfl

theorem V_right : V m c main_v1 = right m c := by
  unfold_abbrev_sides
  after_reads_simp
  rfl

/-- The rows of a point's block. -/
abbrev row (p : Fin 512) : Fin 5632 := ⟨t.val / 4 * 512 + p.val, by have := t.isLt; have : cfg0.N = 44 := N_0; omega⟩

/-- At the end of a run the product is whole. -/
theorem acc_last (h1 : t.val % 4 = 3) (p : Fin 512) (q : Fin 2048) :
    acc m c t.val t.isLt (ix2 p q) = ∑ k : Fin 4096, left m c (ix2 k (row t p)) * right m c (ix2 k q) := by
  rw [← V_left m c, ← V_right m c]
  refine whole (J := 4) (n := 1024) (K := 4096) rfl (fun n h p q => acc m c n h (ix2 p q)) (fun t p k => leftAt m c t (ix2 k p)) (fun t q k => rightAt m c t (ix2 k q))
    (fun t h0 p q => ?_) (fun t h0 p q => ?_) t h1 (fun p k => V m c main_v0 (ix2 k (row t p))) (fun q k => V m c main_v1 (ix2 k q))
    (fun s u hu p k hl => ?_) (fun s u hu q k hl => ?_) p q
  · rw [acc_first m c t h0, pay2_at, pay1_at]
  · rw [acc_next m c t h0, pay2_at]
  · have := s.isLt
    blk_ext [iblk, idx u, hu, row]
  · have := s.isLt
    blk_ext [iblk, idx u, hu, row]

/-- The result is the reference's. -/
theorem final : (dats m 0 c).arrAt 2 cfg0.N = Cert.DownDwRefIdeal.Read.val_main_v3 (F := Ideal) (left m c) (right m c) := by
  refine (dats m 0 c).arrAt_eq_of_covers 2 _ (by decide +kernel) fun t hf y => ?_
  have h1 := (flush0_2 t).mp hf
  obtain ⟨p, q, rfl⟩ : ∃ (p : Fin 512) (q : Fin 2048), y = ix2 p q := ⟨y 0, y 1, by funext a; fin_cases a <;> rfl⟩
  have e : ((cfg0.win 2).blk t).view.emb (ix2 p q) = ix2 (row t p) q := by
    blk_ext [idx t, row]
  rw [e, Cert.DownDwRefIdeal.Read.val_main_v3_apply, Cert.DownDwRefIdeal.Read.val_main_v2_apply]
  blk_simp
  rw [after0_2, written m c t h1, acc_last m c t h1]
  refine (Finset.sum_congr rfl fun k _ => (mul_comm (_ : EReal) _).trans ?_ : (_ : EReal) = _)
  congr 2 <;> (funext a; fin_cases a <;> rfl)

theorem frame_ref : Cert.quiescent_DownDwRefIdeal (hDownDwRefIdeal := Cert.DownDwRefIdeal.Gen.facts) := fun m ρ _ =>
  (θ_run Cert.DownDwRefIdeal.defs _ _).mono (fun r h => ⟨fun c => (h c).2, sem_eq_zero_of_no_sems (by decide) r.2⟩)
    (Cert.DownDwRefIdeal.Value.run (F := Ideal) m ρ)

theorem value : Cert.algebraic_DownDwIdeal_DownDwRefIdeal (hDownDwIdeal := Cert.DownDwIdeal.Gen.facts)
    (hDownDwRefIdeal := Cert.DownDwRefIdeal.Gen.facts) := by
  intro m g m' g' _ hagree
  refine ⟨fun c => (dats m 0 c).arrAt 2 cfg0.N,
    (θ_run _ _ _).mono (fun r h c => ⟨(h.1 c).1 2, h.2 c⟩) (θ_run_and (run_main m g) (unchanged m g)),
    (θ_run _ _ _).mono (fun r h c => ?_) (Cert.DownDwRefIdeal.Value.run m' g')⟩
  obtain ⟨e0, e1⟩ := hagree c
  obtain ⟨h0, hargs⟩ := h c
  refine ⟨h0.trans ?_, hargs⟩
  rw [e0, e1]
  exact (final m c).symm

end Cert.Products.DownDw

end

end
-- ==== Proof.UpDx.lean ====
/-
  The gradient of half the feed-forward's first product with respect to its input, plus the gradient that is carried along, stretch by stretch of 512: 5632 terms in each sum.
-/
module

public import proofs.«01_k».proof.Defs
public import proofs.«01_k».proof.Proof.Products
public import proofs.«01_k».proof.Proof.Gen.UpDx.Frame
public import proofs.«01_k».proof.Proof.Gen.UpDxIdeal.Frame
public import proofs.«01_k».proof.Proof.Gen.UpDxRefIdeal.Run
public import proofs.«01_k».proof.Proof.Gen.UpDxRefIdeal.Read
public import Idealize.ShloMosaic.Lib.StableHlo.RunRead
public import Idealize.ShloMosaic.Lib.Claim
public import Idealize.ShloMosaic.Lib.Pointwise
public import Idealize.ShloMosaic.Adequacy
public import Idealize.ShloMosaic.Init

@[expose] public section

set_option maxRecDepth 16384

noncomputable section

namespace Cert.Products.UpDx

open Idealize.ShloMosaic Idealize.ShloMosaic.TcCoe Idealize.SL.Sem
open Cert.UpDxIdeal Cert.UpDxIdeal.Gen

variable (m : (ℓ : Loc nD τ sig) → Buf (Elt Ideal) ℓ) (c : Dev nD) (t : Fin cfg0.N)

/-- The operands, and what is added to the product. -/
abbrev left : FVec Ideal S4096x5632 .f32 := m ((c : Thread nD τ).loc main_arg0)
abbrev right : FVec Ideal S2048x5632 .f32 := m ((c : Thread nD τ).loc main_arg1)
abbrev rest : FVec Ideal S4096x2048 .f32 := m ((c : Thread nD τ).loc main_arg2)

/-- A point's blocks of the operands. -/
abbrev leftAt : FVec Ideal S1024x512 .bf16 := iblk m c 0 t
abbrev rightAt : FVec Ideal S2048x512 .bf16 := iblk m c 1 t

/-- The running product after a point. -/
def acc (n : ℕ) (hn : n < cfg0.N) : Vec Ideal S1024x2048 .f32 := (outsAt0 m c n hn).2

/-- Where a run of points begins, the product starts from zero. -/
theorem acc_first (h0 : t.val % 11 = 0) : acc m c t.val t.isLt = k0_pay2 (F := Ideal) (k0_pay1 (F := Ideal)) (leftAt m c t) (rightAt m c t) := by
  unfold acc
  rw [outsAt0_A m c t h0 (by omega)]
  dsimp only
  frame_out
  try rfl

/-- Elsewhere it goes on from the point before. -/
theorem acc_next (h0 : ¬t.val % 11 = 0) :
    acc m c t.val t.isLt = k0_pay2 (F := Ideal) (acc m c (t.val - 1) (by omega)) (leftAt m c t) (rightAt m c t) := by
  unfold acc
  by_cases h1 : t.val % 11 = 10
  · rw [outsAt0_C m c t h0 h1]
    dsimp only
    frame_out
    simp only [(Memref.isWhole_whole _).read_unread]
    try rfl
  · rw [outsAt0_B m c t h0 h1]
    dsimp only
    frame_out
    simp only [(Memref.isWhole_whole _).read_unread]
    try rfl

/-- Where a run ends, its product is written back, with what is added. -/
theorem written (h1 : t.val % 11 = 10) : (outsAt0 m c t.val t.isLt).1 = k0_pay3 (F := Ideal) (acc m c t.val t.isLt) (iblk m c 2 t) := by
  rw [acc_next m c t (by omega)]
  unfold acc
  rw [outsAt0_C m c t (by omega) h1]
  dsimp only
  frame_out
  simp only [(Memref.isWhole_whole _).read_unread]
  try rfl

theorem pay1_at (i : S1024x2048.Idx) : k0_pay1 (F := Ideal) i = 0 := by
  pointwise [k0_pay1]

theorem pay2_at (y : Vec Ideal S1024x2048 .f32) (a : Vec Ideal S1024x512 .bf16) (b : Vec Ideal S2048x512 .bf16) (p : Fin 1024) (q : Fin 2048) :
    k0_pay2 (F := Ideal) y a b (ix2 p q) = y (ix2 p q) + ∑ k : Fin 512, a (ix2 p k) * b (ix2 q k) := by
  pointwise [k0_pay2]

theorem pay3_at (y r : Vec Ideal S1024x2048 .f32) (i : S1024x2048.Idx) : k0_pay3 (F := Ideal) y r i = y i + r i := by
  pointwise [k0_pay3]

/-- The blocks each window stages. -/
theorem idx : ∀ t : Fin cfg0.N, win0_0.index t = ![t.val / 11, t.val % 11] ∧ win0_1.index t = ![0, t.val % 11] ∧ win0_2.index t = ![t.val / 11, 0]
    ∧ win0_3.index t = ![t.val / 11, 0] :=
  (by decide +kernel : ∀ t : Fin grid0.N, _)

theorem V_left : V m c main_v0 = left m c := by
  unfold_abbrev_sides
  after_reads_simp
  rfl

theorem V_right : V m c main_v1 = right m c := by
  unfold_abbrev_sides
  after_reads_simp
  rfl

/-- The rows of a point's block. -/
abbrev row (p : Fin 1024) : Fin 4096 := ⟨t.val / 11 * 1024 + p.val, by have := t.isLt; have : cfg0.N = 44 := N_0; omega⟩

/-- At the end of a run the product is whole. -/
theorem acc_last (h1 : t.val % 11 = 10) (p : Fin 1024) (q : Fin 2048) :
    acc m c t.val t.isLt (ix2 p q) = ∑ k : Fin 5632, left m c (ix2 (row t p) k) * right m c (ix2 q k) := by
  rw [← V_left m c, ← V_right m c]
  refine whole (J := 11) (n := 512) (K := 5632) rfl (fun n h p q => acc m c n h (ix2 p q)) (fun t p k => leftAt m c t (ix2 p k)) (fun t q k => rightAt m c t (ix2 q k))
    (fun t h0 p q => ?_) (fun t h0 p q => ?_) t h1 (fun p k => V m c main_v0 (ix2 (row t p) k)) (fun q k => V m c main_v1 (ix2 q k))
    (fun s u hu p k hl => ?_) (fun s u hu q k hl => ?_) p q
  · rw [acc_first m c t h0, pay2_at, pay1_at]
  · rw [acc_next m c t h0, pay2_at]
  · have := s.isLt
    blk_ext [iblk, idx u, hu, row]
  · have := s.isLt
    blk_ext [iblk, idx u, hu, row]

theorem rest_at (p : Fin 1024) (q : Fin 2048) : (iblk m c 2 t : FVec Ideal S1024x2048 .f32) (ix2 p q) = rest m c (ix2 (row t p) q) := by
  unfold rest
  rw [← V_main_arg2 m c]
  blk_ext [iblk, idx t, row]

/-- The result is the reference's. -/
theorem final : (dats m 0 c).arrAt 3 cfg0.N = Cert.UpDxRefIdeal.Read.val_main_v3 (F := Ideal) (left m c) (right m c) (rest m c) := by
  refine (dats m 0 c).arrAt_eq_of_covers 3 _ (by decide +kernel) fun t hf y => ?_
  have h1 := (flush0_3 t).mp hf
  obtain ⟨p, q, rfl⟩ : ∃ (p : Fin 1024) (q : Fin 2048), y = ix2 p q := ⟨y 0, y 1, by funext a; fin_cases a <;> rfl⟩
  have e : ((cfg0.win 3).blk t).view.emb (ix2 p q) = ix2 (row t p) q := by
    blk_ext [idx t, row]
  rw [e, Cert.UpDxRefIdeal.Read.val_main_v3_apply, Cert.UpDxRefIdeal.Read.val_main_v2_apply]
  blk_simp
  rw [after0_3, written m c t h1, pay3_at, acc_last m c t h1, rest_at, add_comm]
  refine congrArg (_ + ·) (Finset.sum_congr rfl fun k _ => ?_)
  congr 2 <;> (funext a; fin_cases a <;> rfl)

theorem frame_ref : Cert.quiescent_UpDxRefIdeal (hUpDxRefIdeal := Cert.UpDxRefIdeal.Gen.facts) := fun m ρ _ =>
  (θ_run Cert.UpDxRefIdeal.defs _ _).mono (fun r h => ⟨fun c => (h c).2, sem_eq_zero_of_no_sems (by decide) r.2⟩)
    (Cert.UpDxRefIdeal.Value.run (F := Ideal) m ρ)

theorem value : Cert.algebraic_UpDxIdeal_UpDxRefIdeal (hUpDxIdeal := Cert.UpDxIdeal.Gen.facts)
    (hUpDxRefIdeal := Cert.UpDxRefIdeal.Gen.facts) := by
  intro m g m' g' _ hagree
  refine ⟨fun c => (dats m 0 c).arrAt 3 cfg0.N,
    (θ_run _ _ _).mono (fun r h c => ⟨(h.1 c).1 3, h.2 c⟩) (θ_run_and (run_main m g) (unchanged m g)),
    (θ_run _ _ _).mono (fun r h c => ?_) (Cert.UpDxRefIdeal.Value.run m' g')⟩
  obtain ⟨e0, e1, e2⟩ := hagree c
  obtain ⟨h0, hargs⟩ := h c
  refine ⟨h0.trans ?_, hargs⟩
  rw [e0, e1, e2]
  exact (final m c).symm

end Cert.Products.UpDx

end

end
-- ==== Proof.UpDw.lean ====
/-
  The gradient of half the feed-forward's first product with respect to its weight, stretch by stretch of 1024: 4096 terms in each sum.
-/
module

public import proofs.«01_k».proof.Defs
public import proofs.«01_k».proof.Proof.Products
public import proofs.«01_k».proof.Proof.Gen.UpDw.Frame
public import proofs.«01_k».proof.Proof.Gen.UpDwIdeal.Frame
public import proofs.«01_k».proof.Proof.Gen.UpDwRefIdeal.Run
public import proofs.«01_k».proof.Proof.Gen.UpDwRefIdeal.Read
public import Idealize.ShloMosaic.Lib.StableHlo.RunRead
public import Idealize.ShloMosaic.Lib.Claim
public import Idealize.ShloMosaic.Lib.Pointwise
public import Idealize.ShloMosaic.Adequacy
public import Idealize.ShloMosaic.Init

@[expose] public section

set_option maxRecDepth 16384

noncomputable section

namespace Cert.Products.UpDw

open Idealize.ShloMosaic Idealize.ShloMosaic.TcCoe Idealize.SL.Sem
open Cert.UpDwIdeal Cert.UpDwIdeal.Gen

variable (m : (ℓ : Loc nD τ sig) → Buf (Elt Ideal) ℓ) (c : Dev nD) (t : Fin cfg0.N)

/-- The operands. -/
abbrev left : FVec Ideal S4096x2048 .f32 := m ((c : Thread nD τ).loc main_arg0)
abbrev right : FVec Ideal S4096x5632 .f32 := m ((c : Thread nD τ).loc main_arg1)

/-- A point's blocks of the operands. -/
abbrev leftAt : FVec Ideal S1024x1024 .bf16 := iblk m c 0 t
abbrev rightAt : FVec Ideal S1024x2816 .bf16 := iblk m c 1 t

/-- The running product after a point. -/
def acc (n : ℕ) (hn : n < cfg0.N) : Vec Ideal S1024x2816 .f32 := (outsAt0 m c n hn).2

/-- Where a run of points begins, the product starts from zero. -/
theorem acc_first (h0 : t.val % 4 = 0) : acc m c t.val t.isLt = k0_pay2 (F := Ideal) (k0_pay1 (F := Ideal)) (leftAt m c t) (rightAt m c t) := by
  unfold acc
  rw [outsAt0_A m c t h0 (by omega)]
  dsimp only
  frame_out
  try rfl

/-- Elsewhere it goes on from the point before. -/
theorem acc_next (h0 : ¬t.val % 4 = 0) :
    acc m c t.val t.isLt = k0_pay2 (F := Ideal) (acc m c (t.val - 1) (by omega)) (leftAt m c t) (rightAt m c t) := by
  unfold acc
  by_cases h1 : t.val % 4 = 3
  · rw [outsAt0_C m c t h0 h1]
    dsimp only
    frame_out
    simp only [(Memref.isWhole_whole _).read_unread]
    try rfl
  · rw [outsAt0_B m c t h0 h1]
    dsimp only
    frame_out
    simp only [(Memref.isWhole_whole _).read_unread]
    try rfl

/-- Where a run ends, its product is written back. -/
theorem written (h1 : t.val % 4 = 3) : (outsAt0 m c t.val t.isLt).1 = acc m c t.val t.isLt := by
  rw [acc_next m c t (by omega)]
  unfold acc
  rw [outsAt0_C m c t (by omega) h1]
  dsimp only
  frame_out
  simp only [(Memref.isWhole_whole _).read_unread]
  try rfl

theorem pay1_at (i : S1024x2816.Idx) : k0_pay1 (F := Ideal) i = 0 := by
  pointwise [k0_pay1]

theorem pay2_at (y : Vec Ideal S1024x2816 .f32) (a : Vec Ideal S1024x1024 .bf16) (b : Vec Ideal S1024x2816 .bf16) (p : Fin 1024) (q : Fin 2816) :
    k0_pay2 (F := Ideal) y a b (ix2 p q) = y (ix2 p q) + ∑ k : Fin 1024, a (ix2 k p) * b (ix2 k q) := by
  pointwise [k0_pay2]

/-- The blocks each window stages. -/
theorem idx : ∀ t : Fin cfg0.N, win0_0.index t = ![t.val % 4, t.val / 8] ∧ win0_1.index t = ![t.val % 4, t.val / 4 % 2]
    ∧ win0_2.index t = ![t.val / 8, t.val / 4 % 2] :=
  (by decide +kernel : ∀ t : Fin grid0.N, _)

theorem V_left : V m c main_v0 = left m c := by
  unfold_abbrev_sides
  after_reads_simp
  rfl

theorem V_right : V m c main_v1 = right m c := by
  unfold_abbrev_sides
  after_reads_simp
  rfl

/-- The rows of a point's block. -/
abbrev row (p : Fin 1024) : Fin 2048 := ⟨t.val / 8 * 1024 + p.val, by have := t.isLt; have : cfg0.N = 16 := N_0; omega⟩
/-- The columns of a point's block. -/
abbrev col (q : Fin 2816) : Fin 5632 := ⟨t.val / 4 % 2 * 2816 + q.val, by omega⟩

/-- At the end of a run the product is whole. -/
theorem acc_last (h1 : t.val % 4 = 3) (p : Fin 1024) (q : Fin 2816) :
    acc m c t.val t.isLt (ix2 p q) = ∑ k : Fin 4096, left m c (ix2 k (row t p)) * right m c (ix2 k (col t q)) := by
  rw [← V_left m c, ← V_right m c]
  refine whole (J := 4) (n := 1024) (K := 4096) rfl (fun n h p q => acc m c n h (ix2 p q)) (fun t p k => leftAt m c t (ix2 k p)) (fun t q k => rightAt m c t (ix2 k q))
    (fun t h0 p q => ?_) (fun t h0 p q => ?_) t h1 (fun p k => V m c main_v0 (ix2 k (row t p))) (fun q k => V m c main_v1 (ix2 k (col t q)))
    (fun s u hu p k hl => ?_) (fun s u hu q k hl => ?_) p q
  · rw [acc_first m c t h0, pay2_at, pay1_at]
  · rw [acc_next m c t h0, pay2_at]
  · have := s.isLt
    blk_ext [iblk, idx u, hu, row, col]
  · have := s.isLt
    blk_ext [iblk, idx u, hu, row, col]

/-- The result is the reference's. -/
theorem final : (dats m 0 c).arrAt 2 cfg0.N = Cert.UpDwRefIdeal.Read.val_main_v3 (F := Ideal) (left m c) (right m c) := by
  refine (dats m 0 c).arrAt_eq_of_covers 2 _ (by decide +kernel) fun t hf y => ?_
  have h1 := (flush0_2 t).mp hf
  obtain ⟨p, q, rfl⟩ : ∃ (p : Fin 1024) (q : Fin 2816), y = ix2 p q := ⟨y 0, y 1, by funext a; fin_cases a <;> rfl⟩
  have e : ((cfg0.win 2).blk t).view.emb (ix2 p q) = ix2 (row t p) (col t q) := by
    blk_ext [idx t, row, col]
  rw [e, Cert.UpDwRefIdeal.Read.val_main_v3_apply, Cert.UpDwRefIdeal.Read.val_main_v2_apply]
  blk_simp
  rw [after0_2, written m c t h1, acc_last m c t h1]
  refine (Finset.sum_congr rfl fun k _ => (mul_comm (_ : EReal) _).trans ?_ : (_ : EReal) = _)
  congr 2 <;> (funext a; fin_cases a <;> rfl)

theorem frame_ref : Cert.quiescent_UpDwRefIdeal (hUpDwRefIdeal := Cert.UpDwRefIdeal.Gen.facts) := fun m ρ _ =>
  (θ_run Cert.UpDwRefIdeal.defs _ _).mono (fun r h => ⟨fun c => (h c).2, sem_eq_zero_of_no_sems (by decide) r.2⟩)
    (Cert.UpDwRefIdeal.Value.run (F := Ideal) m ρ)

theorem value : Cert.algebraic_UpDwIdeal_UpDwRefIdeal (hUpDwIdeal := Cert.UpDwIdeal.Gen.facts)
    (hUpDwRefIdeal := Cert.UpDwRefIdeal.Gen.facts) := by
  intro m g m' g' _ hagree
  refine ⟨fun c => (dats m 0 c).arrAt 2 cfg0.N,
    (θ_run _ _ _).mono (fun r h c => ⟨(h.1 c).1 2, h.2 c⟩) (θ_run_and (run_main m g) (unchanged m g)),
    (θ_run _ _ _).mono (fun r h c => ?_) (Cert.UpDwRefIdeal.Value.run m' g')⟩
  obtain ⟨e0, e1⟩ := hagree c
  obtain ⟨h0, hargs⟩ := h c
  refine ⟨h0.trans ?_, hargs⟩
  rw [e0, e1]
  exact (final m c).symm

end Cert.Products.UpDw

end

end
-- ==== Proof.MainDw.lean ====
/-
  The gradient of the main projection with respect to its weight, stretch by stretch of 1024: 4096 terms in each sum.
-/
module

public import proofs.«01_k».proof.Defs
public import proofs.«01_k».proof.Proof.Products
public import proofs.«01_k».proof.Proof.Gen.MainDw.Frame
public import proofs.«01_k».proof.Proof.Gen.MainDwIdeal.Frame
public import proofs.«01_k».proof.Proof.Gen.MainDwRefIdeal.Run
public import proofs.«01_k».proof.Proof.Gen.MainDwRefIdeal.Read
public import Idealize.ShloMosaic.Lib.StableHlo.RunRead
public import Idealize.ShloMosaic.Lib.Claim
public import Idealize.ShloMosaic.Lib.Pointwise
public import Idealize.ShloMosaic.Adequacy
public import Idealize.ShloMosaic.Init

@[expose] public section

set_option maxRecDepth 16384

noncomputable section

namespace Cert.Products.MainDw

open Idealize.ShloMosaic Idealize.ShloMosaic.TcCoe Idealize.SL.Sem
open Cert.MainDwIdeal Cert.MainDwIdeal.Gen

variable (m : (ℓ : Loc nD τ sig) → Buf (Elt Ideal) ℓ) (c : Dev nD) (t : Fin cfg0.N)

/-- The operands. -/
abbrev left : FVec Ideal S4096x2048 .f32 := m ((c : Thread nD τ).loc main_arg0)
abbrev right : FVec Ideal S4096x15360 .f32 := m ((c : Thread nD τ).loc main_arg1)

/-- A point's blocks of the operands. -/
abbrev leftAt : FVec Ideal S1024x1024 .bf16 := iblk m c 0 t
abbrev rightAt : FVec Ideal S1024x2560 .bf16 := iblk m c 1 t

/-- The running product after a point. -/
def acc (n : ℕ) (hn : n < cfg0.N) : Vec Ideal S1024x2560 .f32 := (outsAt0 m c n hn).2

/-- Where a run of points begins, the product starts from zero. -/
theorem acc_first (h0 : t.val % 4 = 0) : acc m c t.val t.isLt = k0_pay2 (F := Ideal) (k0_pay1 (F := Ideal)) (leftAt m c t) (rightAt m c t) := by
  unfold acc
  rw [outsAt0_A m c t h0 (by omega)]
  dsimp only
  frame_out
  try rfl

/-- Elsewhere it goes on from the point before. -/
theorem acc_next (h0 : ¬t.val % 4 = 0) :
    acc m c t.val t.isLt = k0_pay2 (F := Ideal) (acc m c (t.val - 1) (by omega)) (leftAt m c t) (rightAt m c t) := by
  unfold acc
  by_cases h1 : t.val % 4 = 3
  · rw [outsAt0_C m c t h0 h1]
    dsimp only
    frame_out
    simp only [(Memref.isWhole_whole _).read_unread]
    try rfl
  · rw [outsAt0_B m c t h0 h1]
    dsimp only
    frame_out
    simp only [(Memref.isWhole_whole _).read_unread]
    try rfl

/-- Where a run ends, its product is written back. -/
theorem written (h1 : t.val % 4 = 3) : (outsAt0 m c t.val t.isLt).1 = acc m c t.val t.isLt := by
  rw [acc_next m c t (by omega)]
  unfold acc
  rw [outsAt0_C m c t (by omega) h1]
  dsimp only
  frame_out
  simp only [(Memref.isWhole_whole _).read_unread]
  try rfl

theorem pay1_at (i : S1024x2560.Idx) : k0_pay1 (F := Ideal) i = 0 := by
  pointwise [k0_pay1]

theorem pay2_at (y : Vec Ideal S1024x2560 .f32) (a : Vec Ideal S1024x1024 .bf16) (b : Vec Ideal S1024x2560 .bf16) (p : Fin 1024) (q : Fin 2560) :
    k0_pay2 (F := Ideal) y a b (ix2 p q) = y (ix2 p q) + ∑ k : Fin 1024, a (ix2 k p) * b (ix2 k q) := by
  pointwise [k0_pay2]

/-- The blocks each window stages. -/
theorem idx : ∀ t : Fin cfg0.N, win0_0.index t = ![t.val % 4, t.val / 24] ∧ win0_1.index t = ![t.val % 4, t.val / 4 % 6]
    ∧ win0_2.index t = ![t.val / 24, t.val / 4 % 6] :=
  (by decide +kernel : ∀ t : Fin grid0.N, _)

theorem V_left : V m c main_v0 = left m c := by
  unfold_abbrev_sides
  after_reads_simp
  rfl

theorem V_right : V m c main_v1 = right m c := by
  unfold_abbrev_sides
  after_reads_simp
  rfl

/-- The rows of a point's block. -/
abbrev row (p : Fin 1024) : Fin 2048 := ⟨t.val / 24 * 1024 + p.val, by have := t.isLt; have : cfg0.N = 48 := N_0; omega⟩
/-- The columns of a point's block. -/
abbrev col (q : Fin 2560) : Fin 15360 := ⟨t.val / 4 % 6 * 2560 + q.val, by omega⟩

/-- At the end of a run the product is whole. -/
theorem acc_last (h1 : t.val % 4 = 3) (p : Fin 1024) (q : Fin 2560) :
    acc m c t.val t.isLt (ix2 p q) = ∑ k : Fin 4096, left m c (ix2 k (row t p)) * right m c (ix2 k (col t q)) := by
  rw [← V_left m c, ← V_right m c]
  refine whole (J := 4) (n := 1024) (K := 4096) rfl (fun n h p q => acc m c n h (ix2 p q)) (fun t p k => leftAt m c t (ix2 k p)) (fun t q k => rightAt m c t (ix2 k q))
    (fun t h0 p q => ?_) (fun t h0 p q => ?_) t h1 (fun p k => V m c main_v0 (ix2 k (row t p))) (fun q k => V m c main_v1 (ix2 k (col t q)))
    (fun s u hu p k hl => ?_) (fun s u hu q k hl => ?_) p q
  · rw [acc_first m c t h0, pay2_at, pay1_at]
  · rw [acc_next m c t h0, pay2_at]
  · have := s.isLt
    blk_ext [iblk, idx u, hu, row, col]
  · have := s.isLt
    blk_ext [iblk, idx u, hu, row, col]

/-- The result is the reference's. -/
theorem final : (dats m 0 c).arrAt 2 cfg0.N = Cert.MainDwRefIdeal.Read.val_main_v3 (F := Ideal) (left m c) (right m c) := by
  refine (dats m 0 c).arrAt_eq_of_covers 2 _ (by decide +kernel) fun t hf y => ?_
  have h1 := (flush0_2 t).mp hf
  obtain ⟨p, q, rfl⟩ : ∃ (p : Fin 1024) (q : Fin 2560), y = ix2 p q := ⟨y 0, y 1, by funext a; fin_cases a <;> rfl⟩
  have e : ((cfg0.win 2).blk t).view.emb (ix2 p q) = ix2 (row t p) (col t q) := by
    blk_ext [idx t, row, col]
  rw [e, Cert.MainDwRefIdeal.Read.val_main_v3_apply, Cert.MainDwRefIdeal.Read.val_main_v2_apply]
  blk_simp
  rw [after0_2, written m c t h1, acc_last m c t h1]
  refine (Finset.sum_congr rfl fun k _ => (mul_comm (_ : EReal) _).trans ?_ : (_ : EReal) = _)
  congr 2 <;> (funext a; fin_cases a <;> rfl)

theorem frame_ref : Cert.quiescent_MainDwRefIdeal (hMainDwRefIdeal := Cert.MainDwRefIdeal.Gen.facts) := fun m ρ _ =>
  (θ_run Cert.MainDwRefIdeal.defs _ _).mono (fun r h => ⟨fun c => (h c).2, sem_eq_zero_of_no_sems (by decide) r.2⟩)
    (Cert.MainDwRefIdeal.Value.run (F := Ideal) m ρ)

theorem value : Cert.algebraic_MainDwIdeal_MainDwRefIdeal (hMainDwIdeal := Cert.MainDwIdeal.Gen.facts)
    (hMainDwRefIdeal := Cert.MainDwRefIdeal.Gen.facts) := by
  intro m g m' g' _ hagree
  refine ⟨fun c => (dats m 0 c).arrAt 2 cfg0.N,
    (θ_run _ _ _).mono (fun r h c => ⟨(h.1 c).1 2, h.2 c⟩) (θ_run_and (run_main m g) (unchanged m g)),
    (θ_run _ _ _).mono (fun r h c => ?_) (Cert.MainDwRefIdeal.Value.run m' g')⟩
  obtain ⟨e0, e1⟩ := hagree c
  obtain ⟨h0, hargs⟩ := h c
  refine ⟨h0.trans ?_, hargs⟩
  rw [e0, e1]
  exact (final m c).symm

end Cert.Products.MainDw

end

end
-- ==== Proof.MainDx.lean ====
/-
  The gradient of the main projection with respect to its input, plus the gradient that is carried along, stretch by stretch of 512: 15360 terms in each sum.
-/
module

public import proofs.«01_k».proof.Defs
public import proofs.«01_k».proof.Proof.Products
public import proofs.«01_k».proof.Proof.Gen.MainDx.Frame
public import proofs.«01_k».proof.Proof.Gen.MainDxIdeal.Frame
public import proofs.«01_k».proof.Proof.Gen.MainDxRefIdeal.Run
public import proofs.«01_k».proof.Proof.Gen.MainDxRefIdeal.Read
public import Idealize.ShloMosaic.Lib.StableHlo.RunRead
public import Idealize.ShloMosaic.Lib.Claim
public import Idealize.ShloMosaic.Lib.Pointwise
public import Idealize.ShloMosaic.Adequacy
public import Idealize.ShloMosaic.Init

@[expose] public section

set_option maxRecDepth 16384

noncomputable section

namespace Cert.Products.MainDx

open Idealize.ShloMosaic Idealize.ShloMosaic.TcCoe Idealize.SL.Sem
open Cert.MainDxIdeal Cert.MainDxIdeal.Gen

variable (m : (ℓ : Loc nD τ sig) → Buf (Elt Ideal) ℓ) (c : Dev nD) (t : Fin cfg0.N)

/-- The operands, and what is added to the product. -/
abbrev left : FVec Ideal S4096x15360 .f32 := m ((c : Thread nD τ).loc main_arg0)
abbrev right : FVec Ideal S2048x15360 .f32 := m ((c : Thread nD τ).loc main_arg1)
abbrev rest : FVec Ideal S4096x2048 .f32 := m ((c : Thread nD τ).loc main_arg2)

/-- A point's blocks of the operands. -/
abbrev leftAt : FVec Ideal S1024x512 .bf16 := iblk m c 0 t
abbrev rightAt : FVec Ideal S2048x512 .bf16 := iblk m c 1 t

/-- The running product after a point. -/
def acc (n : ℕ) (hn : n < cfg0.N) : Vec Ideal S1024x2048 .f32 := (outsAt0 m c n hn).2

/-- Where a run of points begins, the product starts from zero. -/
theorem acc_first (h0 : t.val % 30 = 0) : acc m c t.val t.isLt = k0_pay2 (F := Ideal) (k0_pay1 (F := Ideal)) (leftAt m c t) (rightAt m c t) := by
  unfold acc
  rw [outsAt0_A m c t h0 (by omega)]
  dsimp only
  frame_out
  try rfl

/-- Elsewhere it goes on from the point before. -/
theorem acc_next (h0 : ¬t.val % 30 = 0) :
    acc m c t.val t.isLt = k0_pay2 (F := Ideal) (acc m c (t.val - 1) (by omega)) (leftAt m c t) (rightAt m c t) := by
  unfold acc
  by_cases h1 : t.val % 30 = 29
  · rw [outsAt0_C m c t h0 h1]
    dsimp only
    frame_out
    simp only [(Memref.isWhole_whole _).read_unread]
    try rfl
  · rw [outsAt0_B m c t h0 h1]
    dsimp only
    frame_out
    simp only [(Memref.isWhole_whole _).read_unread]
    try rfl

/-- Where a run ends, its product is written back, with what is added. -/
theorem written (h1 : t.val % 30 = 29) : (outsAt0 m c t.val t.isLt).1 = k0_pay3 (F := Ideal) (acc m c t.val t.isLt) (iblk m c 2 t) := by
  rw [acc_next m c t (by omega)]
  unfold acc
  rw [outsAt0_C m c t (by omega) h1]
  dsimp only
  frame_out
  simp only [(Memref.isWhole_whole _).read_unread]
  try rfl

theorem pay1_at (i : S1024x2048.Idx) : k0_pay1 (F := Ideal) i = 0 := by
  pointwise [k0_pay1]

theorem pay2_at (y : Vec Ideal S1024x2048 .f32) (a : Vec Ideal S1024x512 .bf16) (b : Vec Ideal S2048x512 .bf16) (p : Fin 1024) (q : Fin 2048) :
    k0_pay2 (F := Ideal) y a b (ix2 p q) = y (ix2 p q) + ∑ k : Fin 512, a (ix2 p k) * b (ix2 q k) := by
  pointwise [k0_pay2]

theorem pay3_at (y r : Vec Ideal S1024x2048 .f32) (i : S1024x2048.Idx) : k0_pay3 (F := Ideal) y r i = y i + r i := by
  pointwise [k0_pay3]

/-- The blocks each window stages. -/
theorem idx : ∀ t : Fin cfg0.N, win0_0.index t = ![t.val / 30, t.val % 30] ∧ win0_1.index t = ![0, t.val % 30] ∧ win0_2.index t = ![t.val / 30, 0]
    ∧ win0_3.index t = ![t.val / 30, 0] :=
  (by decide +kernel : ∀ t : Fin grid0.N, _)

theorem V_left : V m c main_v0 = left m c := by
  unfold_abbrev_sides
  after_reads_simp
  rfl

theorem V_right : V m c main_v1 = right m c := by
  unfold_abbrev_sides
  after_reads_simp
  rfl

/-- The rows of a point's block. -/
abbrev row (p : Fin 1024) : Fin 4096 := ⟨t.val / 30 * 1024 + p.val, by have := t.isLt; have : cfg0.N = 120 := N_0; omega⟩

/-- At the end of a run the product is whole. -/
theorem acc_last (h1 : t.val % 30 = 29) (p : Fin 1024) (q : Fin 2048) :
    acc m c t.val t.isLt (ix2 p q) = ∑ k : Fin 15360, left m c (ix2 (row t p) k) * right m c (ix2 q k) := by
  rw [← V_left m c, ← V_right m c]
  refine whole (J := 30) (n := 512) (K := 15360) rfl (fun n h p q => acc m c n h (ix2 p q)) (fun t p k => leftAt m c t (ix2 p k)) (fun t q k => rightAt m c t (ix2 q k))
    (fun t h0 p q => ?_) (fun t h0 p q => ?_) t h1 (fun p k => V m c main_v0 (ix2 (row t p) k)) (fun q k => V m c main_v1 (ix2 q k))
    (fun s u hu p k hl => ?_) (fun s u hu q k hl => ?_) p q
  · rw [acc_first m c t h0, pay2_at, pay1_at]
  · rw [acc_next m c t h0, pay2_at]
  · have := s.isLt
    blk_ext [iblk, idx u, hu, row]
  · have := s.isLt
    blk_ext [iblk, idx u, hu, row]

theorem rest_at (p : Fin 1024) (q : Fin 2048) : (iblk m c 2 t : FVec Ideal S1024x2048 .f32) (ix2 p q) = rest m c (ix2 (row t p) q) := by
  unfold rest
  rw [← V_main_arg2 m c]
  blk_ext [iblk, idx t, row]

/-- The result is the reference's. -/
theorem final : (dats m 0 c).arrAt 3 cfg0.N = Cert.MainDxRefIdeal.Read.val_main_v3 (F := Ideal) (left m c) (right m c) (rest m c) := by
  refine (dats m 0 c).arrAt_eq_of_covers 3 _ (by decide +kernel) fun t hf y => ?_
  have h1 := (flush0_3 t).mp hf
  obtain ⟨p, q, rfl⟩ : ∃ (p : Fin 1024) (q : Fin 2048), y = ix2 p q := ⟨y 0, y 1, by funext a; fin_cases a <;> rfl⟩
  have e : ((cfg0.win 3).blk t).view.emb (ix2 p q) = ix2 (row t p) q := by
    blk_ext [idx t, row]
  rw [e, Cert.MainDxRefIdeal.Read.val_main_v3_apply, Cert.MainDxRefIdeal.Read.val_main_v2_apply]
  blk_simp
  rw [after0_3, written m c t h1, pay3_at, acc_last m c t h1, rest_at, add_comm]
  refine congrArg (_ + ·) (Finset.sum_congr rfl fun k _ => ?_)
  congr 2 <;> (funext a; fin_cases a <;> rfl)

theorem frame_ref : Cert.quiescent_MainDxRefIdeal (hMainDxRefIdeal := Cert.MainDxRefIdeal.Gen.facts) := fun m ρ _ =>
  (θ_run Cert.MainDxRefIdeal.defs _ _).mono (fun r h => ⟨fun c => (h c).2, sem_eq_zero_of_no_sems (by decide) r.2⟩)
    (Cert.MainDxRefIdeal.Value.run (F := Ideal) m ρ)

theorem value : Cert.algebraic_MainDxIdeal_MainDxRefIdeal (hMainDxIdeal := Cert.MainDxIdeal.Gen.facts)
    (hMainDxRefIdeal := Cert.MainDxRefIdeal.Gen.facts) := by
  intro m g m' g' _ hagree
  refine ⟨fun c => (dats m 0 c).arrAt 3 cfg0.N,
    (θ_run _ _ _).mono (fun r h c => ⟨(h.1 c).1 3, h.2 c⟩) (θ_run_and (run_main m g) (unchanged m g)),
    (θ_run _ _ _).mono (fun r h c => ?_) (Cert.MainDxRefIdeal.Value.run m' g')⟩
  obtain ⟨e0, e1, e2⟩ := hagree c
  obtain ⟨h0, hargs⟩ := h c
  refine ⟨h0.trans ?_, hargs⟩
  rw [e0, e1, e2]
  exact (final m c).symm

end Cert.Products.MainDx

end

end
-- ==== Proof.lean ====
/-
  The claims: the attention's gradients over the key blocks, and the blocked products and the
  row-wise passes, each of them a module of its own.
-/
module

public import proofs.«01_k».proof.Defs
public import proofs.«01_k».proof.Proof.Gen.FoxKvRefIdeal.Run
public import proofs.«01_k».proof.Proof.Gen.FoxKv
public import proofs.«01_k».proof.Proof.Gen.FoxKv.Skeleton
public import proofs.«01_k».proof.Proof.Gen.FoxKv.Launch
public import proofs.«01_k».proof.Proof.Gen.FoxKv.Points
public import proofs.«01_k».proof.Proof.Gen.FoxKv.Frame
public import proofs.«01_k».proof.Proof.Gen.FoxKvIdeal
public import proofs.«01_k».proof.Proof.Gen.FoxKvIdeal.Skeleton
public import proofs.«01_k».proof.Proof.Gen.FoxKvIdeal.Launch
public import proofs.«01_k».proof.Proof.Gen.FoxKvIdeal.Points
public import proofs.«01_k».proof.Proof.Gen.FoxKvIdeal.Frame
public import proofs.«01_k».proof.Proof.Gen.FoxKvRefIdeal
public import proofs.«01_k».proof.Proof.Gen.Pre_finite
public import proofs.«01_k».proof.Proof.Gen.Pre_finite_values
public import proofs.«01_k».proof.Proof.Gen.Pre_finite_cotangent
public import Idealize.ShloMosaic.Adequacy
public import proofs.«01_k».proof.Proof.Final
public import proofs.«01_k».proof.Proof.Finite
public import proofs.«01_k».proof.Proof.SguBwd
public import proofs.«01_k».proof.Proof.SguFwd
public import proofs.«01_k».proof.Proof.ActBwd
public import proofs.«01_k».proof.Proof.ActFwd
public import proofs.«01_k».proof.Proof.PreBwd
public import proofs.«01_k».proof.Proof.PreFwd
public import proofs.«01_k».proof.Proof.TailDw
public import proofs.«01_k».proof.Proof.TailDx
public import proofs.«01_k».proof.Proof.TailFwd
public import proofs.«01_k».proof.Proof.TailDb
public import proofs.«01_k».proof.Proof.CumBwd
public import proofs.«01_k».proof.Proof.CumFwd
public import proofs.«01_k».proof.Proof.LossHead
public import proofs.«01_k».proof.Proof.Adam
public import proofs.«01_k».proof.Proof.ChipSum
public import proofs.«01_k».proof.Proof.PairSum
public import proofs.«01_k».proof.Proof.LnFwd
public import proofs.«01_k».proof.Proof.LnBwd
public import proofs.«01_k».proof.Proof.MainDb
public import proofs.«01_k».proof.Proof.MergeFwd
public import proofs.«01_k».proof.Proof.MergeBwd
public import proofs.«01_k».proof.Proof.OutFwd
public import proofs.«01_k».proof.Proof.BranchFwd
public import proofs.«01_k».proof.Proof.DownFwd
public import proofs.«01_k».proof.Proof.UpFwd
public import proofs.«01_k».proof.Proof.MainFwd
public import proofs.«01_k».proof.Proof.OutDx
public import proofs.«01_k».proof.Proof.OutDw
public import proofs.«01_k».proof.Proof.BranchDx
public import proofs.«01_k».proof.Proof.BranchDw
public import proofs.«01_k».proof.Proof.DownDx
public import proofs.«01_k».proof.Proof.DownDw
public import proofs.«01_k».proof.Proof.UpDx
public import proofs.«01_k».proof.Proof.UpDw
public import proofs.«01_k».proof.Proof.MainDw
public import proofs.«01_k».proof.Proof.MainDx
public import Idealize.ShloMosaic.Init

@[expose] public section

set_option maxRecDepth 16384

noncomputable section

namespace Cert.Proof

open Idealize.ShloMosaic Idealize.SL.Sem

/-- The reference declares no semaphore and leaves its arguments as they are. -/
theorem frame_ref : Cert.quiescent_FoxKvRefIdeal (hFoxKvRefIdeal := Cert.FoxKvRefIdeal.Gen.facts) := fun m ρ _ =>
  (θ_run Cert.FoxKvRefIdeal.defs _ _).mono (fun r h => ⟨fun c => (h c).2.2.2, sem_eq_zero_of_no_sems (by decide) r.2⟩)
    (Cert.FoxKvRefIdeal.Value.run (F := Ideal) m ρ)

/-- The kernel and the reference end with equal results: the gradients with respect to the keys, the values and the keys'
    gate sums. -/
theorem value : Cert.algebraic_FoxKvIdeal_FoxKvRefIdeal_pre_finite (hFoxKvIdeal := Cert.FoxKvIdeal.Gen.facts)
    (hFoxKvRefIdeal := Cert.FoxKvRefIdeal.Gen.facts) (hPre_finite := Cert.Pre_finite.Gen.facts) := by
  intro m g m' g' hpre hagree
  have hA := fun c => Cert.Fox.exists_data _ _ _ (Cert.Fox.finite_of_pre _ _ _ (hpre c))
  refine ⟨fun c => (Cert.FoxKvIdeal.Gen.dats m 0 c).arrAt 8 Cert.FoxKvIdeal.cfg0.N,
    fun c => (Cert.FoxKvIdeal.Gen.dats m 0 c).arrAt 9 Cert.FoxKvIdeal.cfg0.N,
    fun c => (Cert.FoxKvIdeal.Gen.dats m 0 c).arrAt 10 Cert.FoxKvIdeal.cfg0.N,
    (θ_run _ _ _).mono (fun r h c => ⟨(h.1 c).1 8, (h.1 c).1 9, (h.1 c).1 10, h.2 c⟩)
      (θ_run_and (Cert.FoxKvIdeal.Gen.run_main m g) (Cert.FoxKvIdeal.Gen.unchanged m g)),
    (θ_run _ _ _).mono (fun r h c => ?_) (Cert.FoxKvRefIdeal.Value.run m' g')⟩
  obtain ⟨A, H⟩ := hA c
  obtain ⟨e0, e1, e2⟩ := hagree c
  obtain ⟨h0, h1, h2, hargs⟩ := h c
  refine ⟨h0.trans ((Cert.Fox.dk_eq m' c).trans ?_), h1.trans ((Cert.Fox.dv_eq m' c).trans ?_), h2.trans ((Cert.Fox.dc_eq m' c).trans ?_), hargs⟩
  · rw [e0, e1, e2]; exact (Cert.Fox.final_k H).symm
  · rw [e0, e1, e2]; exact (Cert.Fox.final_v H).symm
  · rw [e0, e1, e2]; exact (Cert.Fox.final_c H).symm

theorem claim : Cert.Claim := ⟨Cert.FoxKv.Gen.facts, Cert.FoxKvIdeal.Gen.facts, Cert.FoxKvRefIdeal.Gen.facts,
  Cert.MainDw.Gen.facts, Cert.MainDwIdeal.Gen.facts, Cert.MainDwRefIdeal.Gen.facts,
  Cert.MainDx.Gen.facts, Cert.MainDxIdeal.Gen.facts, Cert.MainDxRefIdeal.Gen.facts,
  Cert.UpDw.Gen.facts, Cert.UpDwIdeal.Gen.facts, Cert.UpDwRefIdeal.Gen.facts,
  Cert.UpDx.Gen.facts, Cert.UpDxIdeal.Gen.facts, Cert.UpDxRefIdeal.Gen.facts,
  Cert.DownDw.Gen.facts, Cert.DownDwIdeal.Gen.facts, Cert.DownDwRefIdeal.Gen.facts,
  Cert.DownDx.Gen.facts, Cert.DownDxIdeal.Gen.facts, Cert.DownDxRefIdeal.Gen.facts,
  Cert.BranchDw.Gen.facts, Cert.BranchDwIdeal.Gen.facts, Cert.BranchDwRefIdeal.Gen.facts,
  Cert.BranchDx.Gen.facts, Cert.BranchDxIdeal.Gen.facts, Cert.BranchDxRefIdeal.Gen.facts,
  Cert.OutDw.Gen.facts, Cert.OutDwIdeal.Gen.facts, Cert.OutDwRefIdeal.Gen.facts,
  Cert.OutDx.Gen.facts, Cert.OutDxIdeal.Gen.facts, Cert.OutDxRefIdeal.Gen.facts,
  Cert.MainFwd.Gen.facts, Cert.MainFwdIdeal.Gen.facts, Cert.MainFwdRefIdeal.Gen.facts,
  Cert.UpFwd.Gen.facts, Cert.UpFwdIdeal.Gen.facts, Cert.UpFwdRefIdeal.Gen.facts,
  Cert.DownFwd.Gen.facts, Cert.DownFwdIdeal.Gen.facts, Cert.DownFwdRefIdeal.Gen.facts,
  Cert.BranchFwd.Gen.facts, Cert.BranchFwdIdeal.Gen.facts, Cert.BranchFwdRefIdeal.Gen.facts,
  Cert.OutFwd.Gen.facts, Cert.OutFwdIdeal.Gen.facts, Cert.OutFwdRefIdeal.Gen.facts,
  Cert.MergeBwd.Gen.facts, Cert.MergeBwdIdeal.Gen.facts, Cert.MergeBwdRefIdeal.Gen.facts,
  Cert.MergeFwd.Gen.facts, Cert.MergeFwdIdeal.Gen.facts, Cert.MergeFwdRefIdeal.Gen.facts,
  Cert.MainDb.Gen.facts, Cert.MainDbIdeal.Gen.facts, Cert.MainDbRefIdeal.Gen.facts,
  Cert.LnBwd.Gen.facts, Cert.LnBwdIdeal.Gen.facts, Cert.LnBwdRefIdeal.Gen.facts,
  Cert.LnFwd.Gen.facts, Cert.LnFwdIdeal.Gen.facts, Cert.LnFwdRefIdeal.Gen.facts,
  Cert.SguBwd.Gen.facts, Cert.SguBwdIdeal.Gen.facts, Cert.SguBwdRefIdeal.Gen.facts,
  Cert.SguFwd.Gen.facts, Cert.SguFwdIdeal.Gen.facts, Cert.SguFwdRefIdeal.Gen.facts,
  Cert.ActBwd.Gen.facts, Cert.ActBwdIdeal.Gen.facts, Cert.ActBwdRefIdeal.Gen.facts,
  Cert.ActFwd.Gen.facts, Cert.ActFwdIdeal.Gen.facts, Cert.ActFwdRefIdeal.Gen.facts,
  Cert.PreBwd.Gen.facts, Cert.PreBwdIdeal.Gen.facts, Cert.PreBwdRefIdeal.Gen.facts,
  Cert.PreFwd.Gen.facts, Cert.PreFwdIdeal.Gen.facts, Cert.PreFwdRefIdeal.Gen.facts,
  Cert.TailDw.Gen.facts, Cert.TailDwIdeal.Gen.facts, Cert.TailDwRefIdeal.Gen.facts,
  Cert.TailDx.Gen.facts, Cert.TailDxIdeal.Gen.facts, Cert.TailDxRefIdeal.Gen.facts,
  Cert.TailFwd.Gen.facts, Cert.TailFwdIdeal.Gen.facts, Cert.TailFwdRefIdeal.Gen.facts,
  Cert.TailDb.Gen.facts, Cert.TailDbIdeal.Gen.facts, Cert.TailDbRefIdeal.Gen.facts,
  Cert.CumBwd.Gen.facts, Cert.CumBwdIdeal.Gen.facts, Cert.CumBwdRefIdeal.Gen.facts,
  Cert.CumFwd.Gen.facts, Cert.CumFwdIdeal.Gen.facts, Cert.CumFwdRefIdeal.Gen.facts,
  Cert.LossHead.Gen.facts, Cert.LossHeadIdeal.Gen.facts, Cert.LossHeadRefIdeal.Gen.facts,
  Cert.Adam.Gen.facts, Cert.AdamIdeal.Gen.facts, Cert.AdamRefIdeal.Gen.facts,
  Cert.ChipSum.Gen.facts, Cert.ChipSumIdeal.Gen.facts, Cert.ChipSumRefIdeal.Gen.facts,
  Cert.PairSum.Gen.facts, Cert.PairSumIdeal.Gen.facts, Cert.PairSumRefIdeal.Gen.facts,
  Cert.Pre_finite.Gen.facts,
  Cert.Pre_finite_values.Gen.facts,
  Cert.Pre_finite_cotangent.Gen.facts,
  fun m ρ _ => Cert.FoxKv.Gen.frame m ρ, fun m ρ _ => Cert.FoxKvIdeal.Gen.frame m ρ, fun m ρ _ => Cert.FoxKvIdeal.Gen.frame m ρ,
  frame_ref, fun m ρ _ => frame_ref m ρ trivial,
  fun m ρ _ => Cert.MainDw.Gen.frame m ρ, fun m ρ _ => Cert.MainDwIdeal.Gen.frame m ρ, Cert.Products.MainDw.frame_ref,
  fun m ρ _ => Cert.MainDx.Gen.frame m ρ, fun m ρ _ => Cert.MainDxIdeal.Gen.frame m ρ, Cert.Products.MainDx.frame_ref,
  fun m ρ _ => Cert.UpDw.Gen.frame m ρ, fun m ρ _ => Cert.UpDwIdeal.Gen.frame m ρ, Cert.Products.UpDw.frame_ref,
  fun m ρ _ => Cert.UpDx.Gen.frame m ρ, fun m ρ _ => Cert.UpDxIdeal.Gen.frame m ρ, Cert.Products.UpDx.frame_ref,
  fun m ρ _ => Cert.DownDw.Gen.frame m ρ, fun m ρ _ => Cert.DownDwIdeal.Gen.frame m ρ, Cert.Products.DownDw.frame_ref,
  fun m ρ _ => Cert.DownDx.Gen.frame m ρ, fun m ρ _ => Cert.DownDxIdeal.Gen.frame m ρ, Cert.Products.DownDx.frame_ref,
  fun m ρ _ => Cert.BranchDw.Gen.frame m ρ, fun m ρ _ => Cert.BranchDwIdeal.Gen.frame m ρ, Cert.Products.BranchDw.frame_ref,
  fun m ρ _ => Cert.BranchDx.Gen.frame m ρ, fun m ρ _ => Cert.BranchDxIdeal.Gen.frame m ρ, Cert.Products.BranchDx.frame_ref,
  fun m ρ _ => Cert.OutDw.Gen.frame m ρ, fun m ρ _ => Cert.OutDwIdeal.Gen.frame m ρ, Cert.Products.OutDw.frame_ref,
  fun m ρ _ => Cert.OutDx.Gen.frame m ρ, fun m ρ _ => Cert.OutDxIdeal.Gen.frame m ρ, Cert.Products.OutDx.frame_ref,
  fun m ρ _ => Cert.MainFwd.Gen.frame m ρ, fun m ρ _ => Cert.MainFwdIdeal.Gen.frame m ρ, Cert.Products.MainFwd.frame_ref,
  fun m ρ _ => Cert.UpFwd.Gen.frame m ρ, fun m ρ _ => Cert.UpFwdIdeal.Gen.frame m ρ, Cert.Products.UpFwd.frame_ref,
  fun m ρ _ => Cert.DownFwd.Gen.frame m ρ, fun m ρ _ => Cert.DownFwdIdeal.Gen.frame m ρ, Cert.Products.DownFwd.frame_ref,
  fun m ρ _ => Cert.BranchFwd.Gen.frame m ρ, fun m ρ _ => Cert.BranchFwdIdeal.Gen.frame m ρ, Cert.Products.BranchFwd.frame_ref,
  fun m ρ _ => Cert.OutFwd.Gen.frame m ρ, fun m ρ _ => Cert.OutFwdIdeal.Gen.frame m ρ, Cert.Products.OutFwd.frame_ref,
  fun m ρ _ => Cert.MergeBwd.Gen.frame m ρ, fun m ρ _ => Cert.MergeBwdIdeal.Gen.frame m ρ, Cert.Rows.MergeBwd.frame_ref,
  fun m ρ _ => Cert.MergeFwd.Gen.frame m ρ, fun m ρ _ => Cert.MergeFwdIdeal.Gen.frame m ρ, Cert.Rows.MergeFwd.frame_ref,
  fun m ρ _ => Cert.MainDb.Gen.frame m ρ, fun m ρ _ => Cert.MainDbIdeal.Gen.frame m ρ, Cert.Rows.MainDb.frame_ref,
  fun m ρ _ => Cert.LnBwd.Gen.frame m ρ, fun m ρ _ => Cert.LnBwdIdeal.Gen.frame m ρ, Cert.Rows.LnBwd.frame_ref,
  fun m ρ _ => Cert.LnFwd.Gen.frame m ρ, fun m ρ _ => Cert.LnFwdIdeal.Gen.frame m ρ, Cert.Rows.LnFwd.frame_ref,
  fun m ρ _ => Cert.SguBwd.Gen.frame m ρ, fun m ρ _ => Cert.SguBwdIdeal.Gen.frame m ρ, Cert.Rows.SguBwd.frame_ref,
  fun m ρ _ => Cert.SguFwd.Gen.frame m ρ, fun m ρ _ => Cert.SguFwdIdeal.Gen.frame m ρ, Cert.Rows.SguFwd.frame_ref,
  fun m ρ _ => Cert.ActBwd.Gen.frame m ρ, fun m ρ _ => Cert.ActBwdIdeal.Gen.frame m ρ, fun m ρ _ => Cert.ActBwdIdeal.Gen.frame m ρ,
  Cert.Rows.ActBwd.frame_ref, fun m ρ _ => Cert.Rows.ActBwd.frame_ref m ρ trivial,
  fun m ρ _ => Cert.ActFwd.Gen.frame m ρ, fun m ρ _ => Cert.ActFwdIdeal.Gen.frame m ρ, Cert.Rows.ActFwd.frame_ref,
  fun m ρ _ => Cert.PreBwd.Gen.frame m ρ, fun m ρ _ => Cert.PreBwdIdeal.Gen.frame m ρ, fun m ρ _ => Cert.PreBwdIdeal.Gen.frame m ρ,
  Cert.Rows.PreBwd.frame_ref, fun m ρ _ => Cert.Rows.PreBwd.frame_ref m ρ trivial,
  fun m ρ _ => Cert.PreFwd.Gen.frame m ρ, fun m ρ _ => Cert.PreFwdIdeal.Gen.frame m ρ, Cert.Rows.PreFwd.frame_ref,
  fun m ρ _ => Cert.TailDw.Gen.frame m ρ, fun m ρ _ => Cert.TailDwIdeal.Gen.frame m ρ, Cert.Products.TailDw.frame_ref,
  fun m ρ _ => Cert.TailDx.Gen.frame m ρ, fun m ρ _ => Cert.TailDxIdeal.Gen.frame m ρ, Cert.Products.TailDx.frame_ref,
  fun m ρ _ => Cert.TailFwd.Gen.frame m ρ, fun m ρ _ => Cert.TailFwdIdeal.Gen.frame m ρ, Cert.Products.TailFwd.frame_ref,
  fun m ρ _ => Cert.TailDb.Gen.frame m ρ, fun m ρ _ => Cert.TailDbIdeal.Gen.frame m ρ, Cert.Rows.TailDb.frame_ref,
  fun m ρ _ => Cert.CumBwd.Gen.frame m ρ, fun m ρ _ => Cert.CumBwdIdeal.Gen.frame m ρ, Cert.Rows.CumBwd.frame_ref,
  fun m ρ _ => Cert.CumFwd.Gen.frame m ρ, fun m ρ _ => Cert.CumFwdIdeal.Gen.frame m ρ, Cert.Rows.CumFwd.frame_ref,
  fun m ρ _ => Cert.LossHead.Gen.frame m ρ, fun m ρ _ => Cert.LossHeadIdeal.Gen.frame m ρ, Cert.Rows.LossHead.frame_ref,
  fun m ρ _ => Cert.Adam.Gen.frame m ρ, fun m ρ _ => Cert.AdamIdeal.Gen.frame m ρ, Cert.Rows.Adam.frame_ref,
  fun m ρ _ => Cert.ChipSum.Gen.frame m ρ, fun m ρ _ => Cert.ChipSumIdeal.Gen.frame m ρ, Cert.Rows.ChipSum.frame_ref,
  fun m ρ _ => Cert.PairSum.Gen.frame m ρ, fun m ρ _ => Cert.PairSumIdeal.Gen.frame m ρ, Cert.Rows.PairSum.frame_ref,
  IdealRules.named_const.statement _ _ _ _ _ rfl, value,
  trivial, Cert.Products.MainDw.value,
  trivial, Cert.Products.MainDx.value,
  trivial, Cert.Products.UpDw.value,
  trivial, Cert.Products.UpDx.value,
  trivial, Cert.Products.DownDw.value,
  trivial, Cert.Products.DownDx.value,
  trivial, Cert.Products.BranchDw.value,
  trivial, Cert.Products.BranchDx.value,
  trivial, Cert.Products.OutDw.value,
  trivial, Cert.Products.OutDx.value,
  trivial, Cert.Products.MainFwd.value,
  trivial, Cert.Products.UpFwd.value,
  trivial, Cert.Products.DownFwd.value,
  trivial, Cert.Products.BranchFwd.value,
  trivial, Cert.Products.OutFwd.value,
  trivial, Cert.Rows.MergeBwd.value,
  trivial, Cert.Rows.MergeFwd.value,
  trivial, Cert.Rows.MainDb.value,
  trivial, Cert.Rows.LnBwd.value,
  trivial, Cert.Rows.LnFwd.value,
  trivial, Cert.Rows.SguBwd.value,
  trivial, Cert.Rows.SguFwd.value,
  trivial, Cert.Rows.ActBwd.value,
  trivial, Cert.Rows.ActFwd.value,
  trivial, Cert.Rows.PreBwd.value,
  trivial, Cert.Rows.PreFwd.value,
  trivial, Cert.Products.TailDw.value,
  trivial, Cert.Products.TailDx.value,
  trivial, Cert.Products.TailFwd.value,
  trivial, Cert.Rows.TailDb.value,
  trivial, Cert.Rows.CumBwd.value,
  trivial, Cert.Rows.CumFwd.value,
  trivial, Cert.Rows.LossHead.value,
  trivial, Cert.Rows.Adam.value,
  trivial, Cert.Rows.ChipSum.value,
  trivial, Cert.Rows.PairSum.value⟩

end Cert.Proof

end
